-- ==== Defs.lean ====
def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_dpool_finite [hPre_dpool_finite : Cert.Pre_dpool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_dpool_finite.fn (F := Ideal) (m ((c.tc : Thread Cert.PoolIdeal.nD Cert.PoolIdeal.τ).loc Cert.PoolIdeal.main_arg0))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_dpool_finite [hPre_dpool_finite : Cert.Pre_dpool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_dpool_finite.fn (F := Ideal) (m ((c.tc : Thread Cert.PoolRefIdeal.nD Cert.PoolRefIdeal.τ).loc Cert.PoolRefIdeal.main_arg0))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_att_finite [hPre_att_finite : Cert.Pre_att_finite.Facts] (m : (ℓ : Loc Cert.AttIdeal.nD Cert.AttIdeal.τ Cert.AttIdeal.sig) → Buf (Elt Ideal) ℓ) : Prop :=
  ∀ c : Dev Cert.AttIdeal.nD,
    (Cert.Pre_att_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_att_finite [hPre_att_finite : Cert.Pre_att_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_att_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))) = (fun _ => 1#1)

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_att_fwd_finite [hPre_att_fwd_finite : Cert.Pre_att_fwd_finite.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_att_fwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))) = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_att_fwd_finite [hPre_att_fwd_finite : Cert.Pre_att_fwd_finite.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_att_fwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_u_finite [hPre_u_finite : Cert.Pre_u_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_u_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_u_finite [hPre_u_finite : Cert.Pre_u_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_u_finite.fn (F := Ideal) (m ((c.tc : Thread Cert.PoolFwdRefIdeal.nD Cert.PoolFwdRefIdeal.τ).loc Cert.PoolFwdRefIdeal.main_arg0))) = (fun _ => 1#1)

def Pre_MlpBack (m : (ℓ : Loc Cert.MlpBack.nD Cert.MlpBack.τ Cert.MlpBack.sig) → Buf (Elt Bits) ℓ) : Prop :=
  True

def Pre_MlpBackIdeal (m : (ℓ : Loc Cert.MlpBackIdeal.nD Cert.MlpBackIdeal.τ Cert.MlpBackIdeal.sig) → Buf (Elt Ideal) ℓ) : Prop :=
  True

def Pre_MlpBackRefIdeal (m : (ℓ : Loc Cert.MlpBackRefIdeal.nD Cert.MlpBackRefIdeal.τ Cert.MlpBackRefIdeal.sig) → Buf (Elt Ideal) ℓ) : Prop :=
  True

def Pre_MlpDw (m : (ℓ : Loc Cert.MlpDw.nD Cert.MlpDw.τ Cert.MlpDw.sig) → Buf (Elt Bits) ℓ) : Prop :=
  True

def Pre_MlpDwIdeal (m : (ℓ : Loc Cert.MlpDwIdeal.nD Cert.MlpDwIdeal.τ Cert.MlpDwIdeal.sig) → Buf (Elt Ideal) ℓ) : Prop :=
  True

def Pre_MlpDwRefIdeal (m : (ℓ : Loc Cert.MlpDwRefIdeal.nD Cert.MlpDwRefIdeal.τ Cert.MlpDwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1)
      ∧ r.2.mem ((c.tc : Thread Cert.Scale.nD Cert.Scale.τ).loc Cert.Scale.main_arg2) = m ((c.tc : Thread Cert.Scale.nD Cert.Scale.τ).loc Cert.Scale.main_arg2))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
      ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0)
      ∧ r.2.mem ((c.tc : Thread Cert.ScaleRefIdeal.nD Cert.ScaleRefIdeal.τ).loc Cert.ScaleRefIdeal.main_arg1) = m ((c.tc : Thread Cert.ScaleRefIdeal.nD Cert.ScaleRefIdeal.τ).loc Cert.ScaleRefIdeal.main_arg1)
      ∧ r.2.mem ((c.tc : Thread Cert.ScaleRefIdeal.nD Cert.ScaleRefIdeal.τ).loc Cert.ScaleRefIdeal.main_arg2) = m ((c.tc : Thread Cert.ScaleRefIdeal.nD Cert.ScaleRefIdeal.τ).loc Cert.ScaleRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolIdeal_pre_dpool_finite [hPoolIdeal : Cert.PoolIdeal.Facts] [hPre_dpool_finite : Cert.Pre_dpool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_dpool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolRefIdeal_pre_dpool_finite [hPoolRefIdeal : Cert.PoolRefIdeal.Facts] [hPre_dpool_finite : Cert.Pre_dpool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_dpool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttIdeal_pre_att_finite [hAttIdeal : Cert.AttIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_att_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_AttRefIdeal_pre_att_finite [hAttRefIdeal : Cert.AttRefIdeal.Facts] [hPre_att_finite : Cert.Pre_att_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_att_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2)
      ∧ r.2.mem ((c.tc : Thread Cert.AttFwd.nD Cert.AttFwd.τ).loc Cert.AttFwd.main_arg3) = m ((c.tc : Thread Cert.AttFwd.nD Cert.AttFwd.τ).loc Cert.AttFwd.main_arg3))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdIdeal_pre_att_fwd_finite [hAttFwdIdeal : Cert.AttFwdIdeal.Facts] [hPre_att_fwd_finite : Cert.Pre_att_fwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_att_fwd_finite m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_AttFwdRefIdeal_pre_att_fwd_finite [hAttFwdRefIdeal : Cert.AttFwdRefIdeal.Facts] [hPre_att_fwd_finite : Cert.Pre_att_fwd_finite.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_att_fwd_finite m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2)
      ∧ r.2.mem ((c.tc : Thread Cert.PoolMix.nD Cert.PoolMix.τ).loc Cert.PoolMix.main_arg3) = m ((c.tc : Thread Cert.PoolMix.nD Cert.PoolMix.τ).loc Cert.PoolMix.main_arg3))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
      ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1)
      ∧ r.2.mem ((c.tc : Thread Cert.PoolMixRefIdeal.nD Cert.PoolMixRefIdeal.τ).loc Cert.PoolMixRefIdeal.main_arg2) = m ((c.tc : Thread Cert.PoolMixRefIdeal.nD Cert.PoolMixRefIdeal.τ).loc Cert.PoolMixRefIdeal.main_arg2)
      ∧ r.2.mem ((c.tc : Thread Cert.PoolMixRefIdeal.nD Cert.PoolMixRefIdeal.τ).loc Cert.PoolMixRefIdeal.main_arg3) = m ((c.tc : Thread Cert.PoolMixRefIdeal.nD Cert.PoolMixRefIdeal.τ).loc Cert.PoolMixRefIdeal.main_arg3))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_u_finite [hPoolFwdIdeal : Cert.PoolFwdIdeal.Facts] [hPre_u_finite : Cert.Pre_u_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_u_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_u_finite [hPoolFwdRefIdeal : Cert.PoolFwdRefIdeal.Facts] [hPre_u_finite : Cert.Pre_u_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_u_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_MlpBack [hMlpBack : Cert.MlpBack.Facts] : Prop :=
  ∀ (m : (ℓ : Loc Cert.MlpBack.nD Cert.MlpBack.τ Cert.MlpBack.sig) → Buf (Elt Bits) ℓ) (g : Dev Cert.MlpBack.nD → PrngReg), Pre_MlpBack m →
    θ_run (Cert.MlpBack.defs (F := Bits)) (onTc (τ := Cert.MlpBack.τ) (Cert.MlpBack.main (F := Bits))) ⟨m, fun _ => 0, g⟩ (fun r => (∀ c : Dev Cert.MlpBack.nD,
      r.2.mem ((c.tc : Thread Cert.MlpBack.nD Cert.MlpBack.τ).loc Cert.MlpBack.main_arg0) = m ((c.tc : Thread Cert.MlpBack.nD Cert.MlpBack.τ).loc Cert.MlpBack.main_arg0)
      ∧ r.2.mem ((c.tc : Thread Cert.MlpBack.nD Cert.MlpBack.τ).loc Cert.MlpBack.main_arg1) = m ((c.tc : Thread Cert.MlpBack.nD Cert.MlpBack.τ).loc Cert.MlpBack.main_arg1))
      ∧ r.2.sem = fun _ => 0)

def quiescent_MlpBackIdeal [hMlpBackIdeal : Cert.MlpBackIdeal.Facts] : Prop :=
  ∀ (m : (ℓ : Loc Cert.MlpBackIdeal.nD Cert.MlpBackIdeal.τ Cert.MlpBackIdeal.sig) → Buf (Elt Ideal) ℓ) (g : Dev Cert.MlpBackIdeal.nD → PrngReg), Pre_MlpBackIdeal m →
    θ_run (Cert.MlpBackIdeal.defs (F := Ideal)) (onTc (τ := Cert.MlpBackIdeal.τ) (Cert.MlpBackIdeal.main (F := Ideal))) ⟨m, fun _ => 0, g⟩ (fun r => (∀ c : Dev Cert.MlpBackIdeal.nD,
      r.2.mem ((c.tc : Thread Cert.MlpBackIdeal.nD Cert.MlpBackIdeal.τ).loc Cert.MlpBackIdeal.main_arg0) = m ((c.tc : Thread Cert.MlpBackIdeal.nD Cert.MlpBackIdeal.τ).loc Cert.MlpBackIdeal.main_arg0)
      ∧ r.2.mem ((c.tc : Thread Cert.MlpBackIdeal.nD Cert.MlpBackIdeal.τ).loc Cert.MlpBackIdeal.main_arg1) = m ((c.tc : Thread Cert.MlpBackIdeal.nD Cert.MlpBackIdeal.τ).loc Cert.MlpBackIdeal.main_arg1))
      ∧ r.2.sem = fun _ => 0)

def quiescent_MlpBackRefIdeal [hMlpBackRefIdeal : Cert.MlpBackRefIdeal.Facts] : Prop :=
  ∀ (m : (ℓ : Loc Cert.MlpBackRefIdeal.nD Cert.MlpBackRefIdeal.τ Cert.MlpBackRefIdeal.sig) → Buf (Elt Ideal) ℓ) (g : Dev Cert.MlpBackRefIdeal.nD → PrngReg), Pre_MlpBackRefIdeal m →
    θ_run (Cert.MlpBackRefIdeal.defs (F := Ideal)) (onTc (τ := Cert.MlpBackRefIdeal.τ) (Cert.MlpBackRefIdeal.main (F := Ideal))) ⟨m, fun _ => 0, g⟩ (fun r => (∀ c : Dev Cert.MlpBackRefIdeal.nD,
      r.2.mem ((c.tc : Thread Cert.MlpBackRefIdeal.nD Cert.MlpBackRefIdeal.τ).loc Cert.MlpBackRefIdeal.main_arg0) = m ((c.tc : Thread Cert.MlpBackRefIdeal.nD Cert.MlpBackRefIdeal.τ).loc Cert.MlpBackRefIdeal.main_arg0)
      ∧ r.2.mem ((c.tc : Thread Cert.MlpBackRefIdeal.nD Cert.MlpBackRefIdeal.τ).loc Cert.MlpBackRefIdeal.main_arg1) = m ((c.tc : Thread Cert.MlpBackRefIdeal.nD Cert.MlpBackRefIdeal.τ).loc Cert.MlpBackRefIdeal.main_arg1))
      ∧ r.2.sem = fun _ => 0)

def quiescent_MlpDw [hMlpDw : Cert.MlpDw.Facts] : Prop :=
  ∀ (m : (ℓ : Loc Cert.MlpDw.nD Cert.MlpDw.τ Cert.MlpDw.sig) → Buf (Elt Bits) ℓ) (g : Dev Cert.MlpDw.nD → PrngReg), Pre_MlpDw m →
    θ_run (Cert.MlpDw.defs (F := Bits)) (onTc (τ := Cert.MlpDw.τ) (Cert.MlpDw.main (F := Bits))) ⟨m, fun _ => 0, g⟩ (fun r => (∀ c : Dev Cert.MlpDw.nD,
      r.2.mem ((c.tc : Thread Cert.MlpDw.nD Cert.MlpDw.τ).loc Cert.MlpDw.main_arg0) = m ((c.tc : Thread Cert.MlpDw.nD Cert.MlpDw.τ).loc Cert.MlpDw.main_arg0)
      ∧ r.2.mem ((c.tc : Thread Cert.MlpDw.nD Cert.MlpDw.τ).loc Cert.MlpDw.main_arg1) = m ((c.tc : Thread Cert.MlpDw.nD Cert.MlpDw.τ).loc Cert.MlpDw.main_arg1))
      ∧ r.2.sem = fun _ => 0)

def quiescent_MlpDwIdeal [hMlpDwIdeal : Cert.MlpDwIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg), Pre_MlpDwIdeal m →
    θ_run (Cert.MlpDwIdeal.defs (F := Ideal)) (onTc (τ := Cert.MlpDwIdeal.τ) (Cert.MlpDwIdeal.main (F := Ideal))) ⟨m, fun _ => 0, g⟩ (fun r => (∀ c : Dev Cert.MlpDwIdeal.nD,
      r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
      ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1))
      ∧ r.2.sem = fun _ => 0)

def quiescent_MlpDwRefIdeal [hMlpDwRefIdeal : Cert.MlpDwRefIdeal.Facts] : Prop :=
  ∀ (m : (ℓ : Loc Cert.MlpDwRefIdeal.nD Cert.MlpDwRefIdeal.τ Cert.MlpDwRefIdeal.sig) → Buf (Elt Ideal) ℓ) (g : Dev Cert.MlpDwRefIdeal.nD → PrngReg), Pre_MlpDwRefIdeal m →
    θ_run (Cert.MlpDwRefIdeal.defs (F := Ideal)) (onTc (τ := Cert.MlpDwRefIdeal.τ) (Cert.MlpDwRefIdeal.main (F := Ideal))) ⟨m, fun _ => 0, g⟩ (fun r => (∀ c : Dev Cert.MlpDwRefIdeal.nD,
      r.2.mem ((c.tc : Thread Cert.MlpDwRefIdeal.nD Cert.MlpDwRefIdeal.τ).loc Cert.MlpDwRefIdeal.main_arg0) = m ((c.tc : Thread Cert.MlpDwRefIdeal.nD Cert.MlpDwRefIdeal.τ).loc Cert.MlpDwRefIdeal.main_arg0)
      ∧ r.2.mem ((c.tc : Thread Cert.MlpDwRefIdeal.nD Cert.MlpDwRefIdeal.τ).loc Cert.MlpDwRefIdeal.main_arg1) = m ((c.tc : Thread Cert.MlpDwRefIdeal.nD Cert.MlpDwRefIdeal.τ).loc Cert.MlpDwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)
      ∧ m' ((c.tc : Thread Cert.ScaleRefIdeal.nD Cert.ScaleRefIdeal.τ).loc Cert.ScaleRefIdeal.main_arg1) = m ((c.tc : Thread Cert.ScaleIdeal.nD Cert.ScaleIdeal.τ).loc Cert.ScaleIdeal.main_arg1)
      ∧ m' ((c.tc : Thread Cert.ScaleRefIdeal.nD Cert.ScaleRefIdeal.τ).loc Cert.ScaleRefIdeal.main_arg2) = m ((c.tc : Thread Cert.ScaleIdeal.nD Cert.ScaleIdeal.τ).loc Cert.ScaleIdeal.main_arg2)) →
    ∃ (v0 : (c : Dev Cert.ScaleIdeal.nD) → Buf (Elt Ideal) ((c.tc : Thread Cert.ScaleIdeal.nD Cert.ScaleIdeal.τ).loc Cert.ScaleIdeal.main_v0_0)) (v1 : (c : Dev Cert.ScaleIdeal.nD) → Buf (Elt Ideal) ((c.tc : Thread Cert.ScaleIdeal.nD Cert.ScaleIdeal.τ).loc Cert.ScaleIdeal.main_v0_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0_0) = v0 c
          ∧ r.2.mem ((c.tc : Thread Cert.ScaleIdeal.nD Cert.ScaleIdeal.τ).loc Cert.ScaleIdeal.main_v0_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
          ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v11) = v0 c
          ∧ r.2.mem ((c.tc : Thread Cert.ScaleRefIdeal.nD Cert.ScaleRefIdeal.τ).loc Cert.ScaleRefIdeal.main_v10) = v1 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0)
          ∧ r.2.mem ((c.tc : Thread Cert.ScaleRefIdeal.nD Cert.ScaleRefIdeal.τ).loc Cert.ScaleRefIdeal.main_arg1) = m' ((c.tc : Thread Cert.ScaleRefIdeal.nD Cert.ScaleRefIdeal.τ).loc Cert.ScaleRefIdeal.main_arg1)
          ∧ r.2.mem ((c.tc : Thread Cert.ScaleRefIdeal.nD Cert.ScaleRefIdeal.τ).loc Cert.ScaleRefIdeal.main_arg2) = m' ((c.tc : Thread Cert.ScaleRefIdeal.nD Cert.ScaleRefIdeal.τ).loc Cert.ScaleRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v18) = v0 c
          ∧ r.2.mem ((c.tc : Thread Cert.GluRefIdeal.nD Cert.GluRefIdeal.τ).loc Cert.GluRefIdeal.main_v19) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v0_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v0_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v37) = v0 c
          ∧ r.2.mem ((c.tc : Thread Cert.RmsRefIdeal.nD Cert.RmsRefIdeal.τ).loc Cert.RmsRefIdeal.main_v39) = v1 c
          ∧ r.2.mem ((c.tc : Thread Cert.RmsRefIdeal.nD Cert.RmsRefIdeal.τ).loc Cert.RmsRefIdeal.main_v38) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Pool_PoolIdeal : Prop :=
  True

def algebraic_PoolIdeal_PoolRefIdeal_pre_dpool_finite [hPoolIdeal : Cert.PoolIdeal.Facts] [hPoolRefIdeal : Cert.PoolRefIdeal.Facts] [hPre_dpool_finite : Cert.Pre_dpool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_dpool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v138) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)) (v2 : (c : Dev Cert.ConvIdeal.nD) → Buf (Elt Ideal) ((c.tc : Thread Cert.ConvIdeal.nD Cert.ConvIdeal.τ).loc Cert.ConvIdeal.main_v3_2)) (v3 : (c : Dev Cert.ConvIdeal.nD) → Buf (Elt Ideal) ((c.tc : Thread Cert.ConvIdeal.nD Cert.ConvIdeal.τ).loc Cert.ConvIdeal.main_v3_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_v3_2) = v2 c
          ∧ r.2.mem ((c.tc : Thread Cert.ConvIdeal.nD Cert.ConvIdeal.τ).loc Cert.ConvIdeal.main_v3_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v73) = v0 c
          ∧ r.2.mem ((c.tc : Thread Cert.ConvRefIdeal.nD Cert.ConvRefIdeal.τ).loc Cert.ConvRefIdeal.main_v74) = v1 c
          ∧ r.2.mem ((c.tc : Thread Cert.ConvRefIdeal.nD Cert.ConvRefIdeal.τ).loc Cert.ConvRefIdeal.main_v75) = v2 c
          ∧ r.2.mem ((c.tc : Thread Cert.ConvRefIdeal.nD Cert.ConvRefIdeal.τ).loc Cert.ConvRefIdeal.main_v72) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v14) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2))

def preserves_Att_AttIdeal : Prop :=
  IdealRules.named_const.Statement Cert.AttIdeal.κ "mask" .f32 0xF149F2CA#32 ⊥

def algebraic_AttIdeal_AttRefIdeal_pre_att_finite [hAttIdeal : Cert.AttIdeal.Facts] [hAttRefIdeal : Cert.AttRefIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_att_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)) →
    ∃ (v0 : (c : Dev Cert.AttIdeal.nD) → Buf (Elt Ideal) ((c.tc : Thread Cert.AttIdeal.nD Cert.AttIdeal.τ).loc Cert.AttIdeal.main_v31_0)) (v1 : (c : Dev Cert.AttIdeal.nD) → Buf (Elt Ideal) ((c.tc : Thread Cert.AttIdeal.nD Cert.AttIdeal.τ).loc Cert.AttIdeal.main_v31_1)) (v2 : (c : Dev Cert.AttIdeal.nD) → Buf (Elt Ideal) ((c.tc : Thread Cert.AttIdeal.nD Cert.AttIdeal.τ).loc Cert.AttIdeal.main_v31_2)) (v3 : (c : Dev Cert.AttIdeal.nD) → Buf (Elt Ideal) ((c.tc : Thread Cert.AttIdeal.nD Cert.AttIdeal.τ).loc Cert.AttIdeal.main_v64)) (v4 : (c : Dev Cert.AttIdeal.nD) → Buf (Elt Ideal) ((c.tc : Thread Cert.AttIdeal.nD Cert.AttIdeal.τ).loc Cert.AttIdeal.main_v31_4)) (v5 : (c : Dev Cert.AttIdeal.nD) → Buf (Elt Ideal) ((c.tc : Thread Cert.AttIdeal.nD Cert.AttIdeal.τ).loc Cert.AttIdeal.main_v31_5)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v31_0) = v0 c
          ∧ r.2.mem ((c.tc : Thread Cert.AttIdeal.nD Cert.AttIdeal.τ).loc Cert.AttIdeal.main_v31_1) = v1 c
          ∧ r.2.mem ((c.tc : Thread Cert.AttIdeal.nD Cert.AttIdeal.τ).loc Cert.AttIdeal.main_v31_2) = v2 c
          ∧ r.2.mem ((c.tc : Thread Cert.AttIdeal.nD Cert.AttIdeal.τ).loc Cert.AttIdeal.main_v64) = v3 c
          ∧ r.2.mem ((c.tc : Thread Cert.AttIdeal.nD Cert.AttIdeal.τ).loc Cert.AttIdeal.main_v31_4) = v4 c
          ∧ r.2.mem ((c.tc : Thread Cert.AttIdeal.nD Cert.AttIdeal.τ).loc Cert.AttIdeal.main_v31_5) = v5 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v242) = v0 c
          ∧ r.2.mem ((c.tc : Thread Cert.AttRefIdeal.nD Cert.AttRefIdeal.τ).loc Cert.AttRefIdeal.main_v243) = v1 c
          ∧ r.2.mem ((c.tc : Thread Cert.AttRefIdeal.nD Cert.AttRefIdeal.τ).loc Cert.AttRefIdeal.main_v244) = v2 c
          ∧ r.2.mem ((c.tc : Thread Cert.AttRefIdeal.nD Cert.AttRefIdeal.τ).loc Cert.AttRefIdeal.main_v183) = v3 c
          ∧ r.2.mem ((c.tc : Thread Cert.AttRefIdeal.nD Cert.AttRefIdeal.τ).loc Cert.AttRefIdeal.main_v234) = v4 c
          ∧ r.2.mem ((c.tc : Thread Cert.AttRefIdeal.nD Cert.AttRefIdeal.τ).loc Cert.AttRefIdeal.main_v210) = v5 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4))

def preserves_AttFwd_AttFwdIdeal : Prop :=
  IdealRules.named_const.Statement Cert.AttFwdIdeal.κ "mask" .f32 0xF149F2CA#32 ⊥

def algebraic_AttFwdIdeal_AttFwdRefIdeal_pre_att_fwd_finite [hAttFwdIdeal : Cert.AttFwdIdeal.Facts] [hAttFwdRefIdeal : Cert.AttFwdRefIdeal.Facts] [hPre_att_fwd_finite : Cert.Pre_att_fwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_att_fwd_finite m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)
      ∧ m' ((c.tc : Thread Cert.AttFwdRefIdeal.nD Cert.AttFwdRefIdeal.τ).loc Cert.AttFwdRefIdeal.main_arg3) = m ((c.tc : Thread Cert.AttFwdIdeal.nD Cert.AttFwdIdeal.τ).loc Cert.AttFwdIdeal.main_arg3)) →
    ∃ (v0 : (c : Dev Cert.AttFwdIdeal.nD) → Buf (Elt Ideal) ((c.tc : Thread Cert.AttFwdIdeal.nD Cert.AttFwdIdeal.τ).loc Cert.AttFwdIdeal.main_v30)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v30) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
          ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v122) = v0 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2)
          ∧ r.2.mem ((c.tc : Thread Cert.AttFwdRefIdeal.nD Cert.AttFwdRefIdeal.τ).loc Cert.AttFwdRefIdeal.main_arg3) = m' ((c.tc : Thread Cert.AttFwdRefIdeal.nD Cert.AttFwdRefIdeal.τ).loc Cert.AttFwdRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v9) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0_0)) (v1 : (c : Dev Cert.RmsFwdIdeal.nD) → Buf (Elt Ideal) ((c.tc : Thread Cert.RmsFwdIdeal.nD Cert.RmsFwdIdeal.τ).loc Cert.RmsFwdIdeal.main_v0_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0_0) = v0 c
          ∧ r.2.mem ((c.tc : Thread Cert.RmsFwdIdeal.nD Cert.RmsFwdIdeal.τ).loc Cert.RmsFwdIdeal.main_v0_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_v13) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v29) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v4) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)
      ∧ m' ((c.tc : Thread Cert.PoolMixRefIdeal.nD Cert.PoolMixRefIdeal.τ).loc Cert.PoolMixRefIdeal.main_arg2) = m ((c.tc : Thread Cert.PoolMixIdeal.nD Cert.PoolMixIdeal.τ).loc Cert.PoolMixIdeal.main_arg2)
      ∧ m' ((c.tc : Thread Cert.PoolMixRefIdeal.nD Cert.PoolMixRefIdeal.τ).loc Cert.PoolMixRefIdeal.main_arg3) = m ((c.tc : Thread Cert.PoolMixIdeal.nD Cert.PoolMixIdeal.τ).loc Cert.PoolMixIdeal.main_arg3)) →
    ∃ (v0 : (c : Dev Cert.PoolMixIdeal.nD) → Buf (Elt Ideal) ((c.tc : Thread Cert.PoolMixIdeal.nD Cert.PoolMixIdeal.τ).loc Cert.PoolMixIdeal.main_v2_0)) (v1 : (c : Dev Cert.PoolMixIdeal.nD) → Buf (Elt Ideal) ((c.tc : Thread Cert.PoolMixIdeal.nD Cert.PoolMixIdeal.τ).loc Cert.PoolMixIdeal.main_v2_1)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v2_0) = v0 c
          ∧ r.2.mem ((c.tc : Thread Cert.PoolMixIdeal.nD Cert.PoolMixIdeal.τ).loc Cert.PoolMixIdeal.main_v2_1) = v1 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
          ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v8) = v0 c
          ∧ r.2.mem ((c.tc : Thread Cert.PoolMixRefIdeal.nD Cert.PoolMixRefIdeal.τ).loc Cert.PoolMixRefIdeal.main_v3) = v1 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1)
          ∧ r.2.mem ((c.tc : Thread Cert.PoolMixRefIdeal.nD Cert.PoolMixRefIdeal.τ).loc Cert.PoolMixRefIdeal.main_arg2) = m' ((c.tc : Thread Cert.PoolMixRefIdeal.nD Cert.PoolMixRefIdeal.τ).loc Cert.PoolMixRefIdeal.main_arg2)
          ∧ r.2.mem ((c.tc : Thread Cert.PoolMixRefIdeal.nD Cert.PoolMixRefIdeal.τ).loc Cert.PoolMixRefIdeal.main_arg3) = m' ((c.tc : Thread Cert.PoolMixRefIdeal.nD Cert.PoolMixRefIdeal.τ).loc Cert.PoolMixRefIdeal.main_arg3))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v3)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v3) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v1) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v3)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v1) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_PoolFwd_PoolFwdIdeal : Prop :=
  True

def algebraic_PoolFwdIdeal_PoolFwdRefIdeal_pre_u_finite [hPoolFwdIdeal : Cert.PoolFwdIdeal.Facts] [hPoolFwdRefIdeal : Cert.PoolFwdRefIdeal.Facts] [hPre_u_finite : Cert.Pre_u_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_u_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v67) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_MlpBack_MlpBackIdeal : Prop :=
  True

def algebraic_MlpBackIdeal_MlpBackRefIdeal [hMlpBackIdeal : Cert.MlpBackIdeal.Facts] [hMlpBackRefIdeal : Cert.MlpBackRefIdeal.Facts] : Prop :=
  ∀ (m : (ℓ : Loc Cert.MlpBackIdeal.nD Cert.MlpBackIdeal.τ Cert.MlpBackIdeal.sig) → Buf (Elt Ideal) ℓ) (g : Dev Cert.MlpBackIdeal.nD → PrngReg)
    (m' : (ℓ : Loc Cert.MlpBackRefIdeal.nD Cert.MlpBackRefIdeal.τ Cert.MlpBackRefIdeal.sig) → Buf (Elt Ideal) ℓ) (g' : Dev Cert.MlpBackRefIdeal.nD → PrngReg), Pre_MlpBackIdeal m →
    (∀ c : Dev Cert.MlpBackIdeal.nD,
      m' ((c.tc : Thread Cert.MlpBackRefIdeal.nD Cert.MlpBackRefIdeal.τ).loc Cert.MlpBackRefIdeal.main_arg0) = m ((c.tc : Thread Cert.MlpBackIdeal.nD Cert.MlpBackIdeal.τ).loc Cert.MlpBackIdeal.main_arg0)
      ∧ m' ((c.tc : Thread Cert.MlpBackRefIdeal.nD Cert.MlpBackRefIdeal.τ).loc Cert.MlpBackRefIdeal.main_arg1) = m ((c.tc : Thread Cert.MlpBackIdeal.nD Cert.MlpBackIdeal.τ).loc Cert.MlpBackIdeal.main_arg1)) →
    ∃ (v0 : (c : Dev Cert.MlpBackIdeal.nD) → Buf (Elt Ideal) ((c.tc : Thread Cert.MlpBackIdeal.nD Cert.MlpBackIdeal.τ).loc Cert.MlpBackIdeal.main_v4)),
      θ_run (Cert.MlpBackIdeal.defs (F := Ideal)) (onTc (τ := Cert.MlpBackIdeal.τ) (Cert.MlpBackIdeal.main (F := Ideal))) ⟨m, fun _ => 0, g⟩ (fun r => ∀ c : Dev Cert.MlpBackIdeal.nD,
          r.2.mem ((c.tc : Thread Cert.MlpBackIdeal.nD Cert.MlpBackIdeal.τ).loc Cert.MlpBackIdeal.main_v4) = v0 c
          ∧ r.2.mem ((c.tc : Thread Cert.MlpBackIdeal.nD Cert.MlpBackIdeal.τ).loc Cert.MlpBackIdeal.main_arg0) = m ((c.tc : Thread Cert.MlpBackIdeal.nD Cert.MlpBackIdeal.τ).loc Cert.MlpBackIdeal.main_arg0)
          ∧ r.2.mem ((c.tc : Thread Cert.MlpBackIdeal.nD Cert.MlpBackIdeal.τ).loc Cert.MlpBackIdeal.main_arg1) = m ((c.tc : Thread Cert.MlpBackIdeal.nD Cert.MlpBackIdeal.τ).loc Cert.MlpBackIdeal.main_arg1))
      ∧ θ_run (Cert.MlpBackRefIdeal.defs (F := Ideal)) (onTc (τ := Cert.MlpBackRefIdeal.τ) (Cert.MlpBackRefIdeal.main (F := Ideal))) ⟨m', fun _ => 0, g'⟩ (fun r => ∀ c : Dev Cert.MlpBackRefIdeal.nD,
          r.2.mem ((c.tc : Thread Cert.MlpBackRefIdeal.nD Cert.MlpBackRefIdeal.τ).loc Cert.MlpBackRefIdeal.main_v1) = v0 c
          ∧ r.2.mem ((c.tc : Thread Cert.MlpBackRefIdeal.nD Cert.MlpBackRefIdeal.τ).loc Cert.MlpBackRefIdeal.main_arg0) = m' ((c.tc : Thread Cert.MlpBackRefIdeal.nD Cert.MlpBackRefIdeal.τ).loc Cert.MlpBackRefIdeal.main_arg0)
          ∧ r.2.mem ((c.tc : Thread Cert.MlpBackRefIdeal.nD Cert.MlpBackRefIdeal.τ).loc Cert.MlpBackRefIdeal.main_arg1) = m' ((c.tc : Thread Cert.MlpBackRefIdeal.nD Cert.MlpBackRefIdeal.τ).loc Cert.MlpBackRefIdeal.main_arg1))

def preserves_MlpDw_MlpDwIdeal : Prop :=
  True

def algebraic_MlpDwIdeal_MlpDwRefIdeal [hMlpDwIdeal : Cert.MlpDwIdeal.Facts] [hMlpDwRefIdeal : Cert.MlpDwRefIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg)
    (m' : (ℓ : Loc Cert.MlpDwRefIdeal.nD Cert.MlpDwRefIdeal.τ Cert.MlpDwRefIdeal.sig) → Buf (Elt Ideal) ℓ) (g' : Dev Cert.MlpDwRefIdeal.nD → PrngReg), Pre_MlpDwIdeal m →
    (∀ c : Dev Cert.MlpDwIdeal.nD,
      m' ((c.tc : Thread Cert.MlpDwRefIdeal.nD Cert.MlpDwRefIdeal.τ).loc Cert.MlpDwRefIdeal.main_arg0) = m ((c.tc : Thread Cert.MlpDwIdeal.nD Cert.MlpDwIdeal.τ).loc Cert.MlpDwIdeal.main_arg0)
      ∧ m' ((c.tc : Thread Cert.MlpDwRefIdeal.nD Cert.MlpDwRefIdeal.τ).loc Cert.MlpDwRefIdeal.main_arg1) = m ((c.tc : Thread Cert.MlpDwIdeal.nD Cert.MlpDwIdeal.τ).loc Cert.MlpDwIdeal.main_arg1)) →
    ∃ (v0 : (c : Dev Cert.MlpDwIdeal.nD) → Buf (Elt Ideal) ((c.tc : Thread Cert.MlpDwIdeal.nD Cert.MlpDwIdeal.τ).loc Cert.MlpDwIdeal.main_v2)),
      θ_run (Cert.MlpDwIdeal.defs (F := Ideal)) (onTc (τ := Cert.MlpDwIdeal.τ) (Cert.MlpDwIdeal.main (F := Ideal))) ⟨m, fun _ => 0, g⟩ (fun r => ∀ c : Dev Cert.MlpDwIdeal.nD,
          r.2.mem ((c.tc : Thread Cert.MlpDwIdeal.nD Cert.MlpDwIdeal.τ).loc Cert.MlpDwIdeal.main_v2) = v0 c
          ∧ r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
          ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1))
      ∧ θ_run (Cert.MlpDwRefIdeal.defs (F := Ideal)) (onTc (τ := Cert.MlpDwRefIdeal.τ) (Cert.MlpDwRefIdeal.main (F := Ideal))) ⟨m', fun _ => 0, g'⟩ (fun r => ∀ c : Dev Cert.MlpDwRefIdeal.nD,
          r.2.mem ((c.tc : Thread Cert.MlpDwRefIdeal.nD Cert.MlpDwRefIdeal.τ).loc Cert.MlpDwRefIdeal.main_v5) = v0 c
          ∧ r.2.mem ((c.tc : Thread Cert.MlpDwRefIdeal.nD Cert.MlpDwRefIdeal.τ).loc Cert.MlpDwRefIdeal.main_arg0) = m' ((c.tc : Thread Cert.MlpDwRefIdeal.nD Cert.MlpDwRefIdeal.τ).loc Cert.MlpDwRefIdeal.main_arg0)
          ∧ r.2.mem ((c.tc : Thread Cert.MlpDwRefIdeal.nD Cert.MlpDwRefIdeal.τ).loc Cert.MlpDwRefIdeal.main_arg1) = m' ((c.tc : Thread Cert.MlpDwRefIdeal.nD Cert.MlpDwRefIdeal.τ).loc Cert.MlpDwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v8_0)) (v1 : (c : Dev Cert.AdamIdeal.nD) → Buf (Elt Ideal) ((c.tc : Thread Cert.AdamIdeal.nD Cert.AdamIdeal.τ).loc Cert.AdamIdeal.main_v8_1)) (v2 : (c : Dev Cert.AdamIdeal.nD) → Buf (Elt Ideal) ((c.tc : Thread Cert.AdamIdeal.nD Cert.AdamIdeal.τ).loc Cert.AdamIdeal.main_v8_2)) (v3 : (c : Dev Cert.AdamIdeal.nD) → Buf (Elt Ideal) ((c.tc : Thread Cert.AdamIdeal.nD Cert.AdamIdeal.τ).loc Cert.AdamIdeal.main_v8_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v8_0) = v0 c
          ∧ r.2.mem ((c.tc : Thread Cert.AdamIdeal.nD Cert.AdamIdeal.τ).loc Cert.AdamIdeal.main_v8_1) = v1 c
          ∧ r.2.mem ((c.tc : Thread Cert.AdamIdeal.nD Cert.AdamIdeal.τ).loc Cert.AdamIdeal.main_v8_2) = v2 c
          ∧ r.2.mem ((c.tc : Thread Cert.AdamIdeal.nD Cert.AdamIdeal.τ).loc Cert.AdamIdeal.main_v8_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hScale : Cert.Scale.Facts) (hScaleIdeal : Cert.ScaleIdeal.Facts) (hScaleRefIdeal : Cert.ScaleRefIdeal.Facts) (hGlu : Cert.Glu.Facts) (hGluIdeal : Cert.GluIdeal.Facts) (hGluRefIdeal : Cert.GluRefIdeal.Facts) (hLoss : Cert.Loss.Facts) (hLossIdeal : Cert.LossIdeal.Facts) (hLossRefIdeal : Cert.LossRefIdeal.Facts) (hRms : Cert.Rms.Facts) (hRmsIdeal : Cert.RmsIdeal.Facts) (hRmsRefIdeal : Cert.RmsRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hMlp : Cert.Mlp.Facts) (hMlpIdeal : Cert.MlpIdeal.Facts) (hMlpRefIdeal : Cert.MlpRefIdeal.Facts) (hAtt : Cert.Att.Facts) (hAttIdeal : Cert.AttIdeal.Facts) (hAttRefIdeal : Cert.AttRefIdeal.Facts) (hAttFwd : Cert.AttFwd.Facts) (hAttFwdIdeal : Cert.AttFwdIdeal.Facts) (hAttFwdRefIdeal : Cert.AttFwdRefIdeal.Facts) (hGluFwd : Cert.GluFwd.Facts) (hGluFwdIdeal : Cert.GluFwdIdeal.Facts) (hGluFwdRefIdeal : Cert.GluFwdRefIdeal.Facts) (hRmsFwd : Cert.RmsFwd.Facts) (hRmsFwdIdeal : Cert.RmsFwdIdeal.Facts) (hRmsFwdRefIdeal : Cert.RmsFwdRefIdeal.Facts) (hConvFwd : Cert.ConvFwd.Facts) (hConvFwdIdeal : Cert.ConvFwdIdeal.Facts) (hConvFwdRefIdeal : Cert.ConvFwdRefIdeal.Facts) (hMlpUp : Cert.MlpUp.Facts) (hMlpUpIdeal : Cert.MlpUpIdeal.Facts) (hMlpUpRefIdeal : Cert.MlpUpRefIdeal.Facts) (hPoolMix : Cert.PoolMix.Facts) (hPoolMixIdeal : Cert.PoolMixIdeal.Facts) (hPoolMixRefIdeal : Cert.PoolMixRefIdeal.Facts) (hAttOut : Cert.AttOut.Facts) (hAttOutIdeal : Cert.AttOutIdeal.Facts) (hAttOutRefIdeal : Cert.AttOutRefIdeal.Facts) (hMlpDown : Cert.MlpDown.Facts) (hMlpDownIdeal : Cert.MlpDownIdeal.Facts) (hMlpDownRefIdeal : Cert.MlpDownRefIdeal.Facts) (hPoolFwd : Cert.PoolFwd.Facts) (hPoolFwdIdeal : Cert.PoolFwdIdeal.Facts) (hPoolFwdRefIdeal : Cert.PoolFwdRefIdeal.Facts) (hMlpBack : Cert.MlpBack.Facts) (hMlpBackIdeal : Cert.MlpBackIdeal.Facts) (hMlpBackRefIdeal : Cert.MlpBackRefIdeal.Facts) (hMlpDw : Cert.MlpDw.Facts) (hMlpDwIdeal : Cert.MlpDwIdeal.Facts) (hMlpDwRefIdeal : Cert.MlpDwRefIdeal.Facts) (hAdam : Cert.Adam.Facts) (hAdamIdeal : Cert.AdamIdeal.Facts) (hAdamRefIdeal : Cert.AdamRefIdeal.Facts) (hPre_dpool_finite : Cert.Pre_dpool_finite.Facts) (hPre_att_finite : Cert.Pre_att_finite.Facts) (hPre_att_fwd_finite : Cert.Pre_att_fwd_finite.Facts) (hPre_u_finite : Cert.Pre_u_finite.Facts),
    quiescent_Scale (hScale := hScale)
    ∧ quiescent_ScaleIdeal (hScaleIdeal := hScaleIdeal)
    ∧ quiescent_ScaleRefIdeal (hScaleRefIdeal := hScaleRefIdeal)
    ∧ quiescent_Glu (hGlu := hGlu)
    ∧ quiescent_GluIdeal (hGluIdeal := hGluIdeal)
    ∧ quiescent_GluRefIdeal (hGluRefIdeal := hGluRefIdeal)
    ∧ quiescent_Loss (hLoss := hLoss)
    ∧ quiescent_LossIdeal (hLossIdeal := hLossIdeal)
    ∧ quiescent_LossRefIdeal (hLossRefIdeal := hLossRefIdeal)
    ∧ quiescent_Rms (hRms := hRms)
    ∧ quiescent_RmsIdeal (hRmsIdeal := hRmsIdeal)
    ∧ quiescent_RmsRefIdeal (hRmsRefIdeal := hRmsRefIdeal)
    ∧ quiescent_Pool (hPool := hPool)
    ∧ quiescent_PoolIdeal (hPoolIdeal := hPoolIdeal)
    ∧ quiescent_PoolIdeal_pre_dpool_finite (hPoolIdeal := hPoolIdeal) (hPre_dpool_finite := hPre_dpool_finite)
    ∧ quiescent_PoolRefIdeal (hPoolRefIdeal := hPoolRefIdeal)
    ∧ quiescent_PoolRefIdeal_pre_dpool_finite (hPoolRefIdeal := hPoolRefIdeal) (hPre_dpool_finite := hPre_dpool_finite)
    ∧ quiescent_Conv (hConv := hConv)
    ∧ quiescent_ConvIdeal (hConvIdeal := hConvIdeal)
    ∧ quiescent_ConvRefIdeal (hConvRefIdeal := hConvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Att (hAtt := hAtt)
    ∧ quiescent_AttIdeal (hAttIdeal := hAttIdeal)
    ∧ quiescent_AttIdeal_pre_att_finite (hAttIdeal := hAttIdeal) (hPre_att_finite := hPre_att_finite)
    ∧ quiescent_AttRefIdeal (hAttRefIdeal := hAttRefIdeal)
    ∧ quiescent_AttRefIdeal_pre_att_finite (hAttRefIdeal := hAttRefIdeal) (hPre_att_finite := hPre_att_finite)
    ∧ quiescent_AttFwd (hAttFwd := hAttFwd)
    ∧ quiescent_AttFwdIdeal (hAttFwdIdeal := hAttFwdIdeal)
    ∧ quiescent_AttFwdIdeal_pre_att_fwd_finite (hAttFwdIdeal := hAttFwdIdeal) (hPre_att_fwd_finite := hPre_att_fwd_finite)
    ∧ quiescent_AttFwdRefIdeal (hAttFwdRefIdeal := hAttFwdRefIdeal)
    ∧ quiescent_AttFwdRefIdeal_pre_att_fwd_finite (hAttFwdRefIdeal := hAttFwdRefIdeal) (hPre_att_fwd_finite := hPre_att_fwd_finite)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_PoolFwd (hPoolFwd := hPoolFwd)
    ∧ quiescent_PoolFwdIdeal (hPoolFwdIdeal := hPoolFwdIdeal)
    ∧ quiescent_PoolFwdIdeal_pre_u_finite (hPoolFwdIdeal := hPoolFwdIdeal) (hPre_u_finite := hPre_u_finite)
    ∧ quiescent_PoolFwdRefIdeal (hPoolFwdRefIdeal := hPoolFwdRefIdeal)
    ∧ quiescent_PoolFwdRefIdeal_pre_u_finite (hPoolFwdRefIdeal := hPoolFwdRefIdeal) (hPre_u_finite := hPre_u_finite)
    ∧ quiescent_MlpBack (hMlpBack := hMlpBack)
    ∧ quiescent_MlpBackIdeal (hMlpBackIdeal := hMlpBackIdeal)
    ∧ quiescent_MlpBackRefIdeal (hMlpBackRefIdeal := hMlpBackRefIdeal)
    ∧ quiescent_MlpDw (hMlpDw := hMlpDw)
    ∧ quiescent_MlpDwIdeal (hMlpDwIdeal := hMlpDwIdeal)
    ∧ quiescent_MlpDwRefIdeal (hMlpDwRefIdeal := hMlpDwRefIdeal)
    ∧ quiescent_Adam (hAdam := hAdam)
    ∧ quiescent_AdamIdeal (hAdamIdeal := hAdamIdeal)
    ∧ quiescent_AdamRefIdeal (hAdamRefIdeal := hAdamRefIdeal)
    ∧ preserves_Scale_ScaleIdeal
    ∧ algebraic_ScaleIdeal_ScaleRefIdeal (hScaleIdeal := hScaleIdeal) (hScaleRefIdeal := hScaleRefIdeal)
    ∧ preserves_Glu_GluIdeal
    ∧ algebraic_GluIdeal_GluRefIdeal (hGluIdeal := hGluIdeal) (hGluRefIdeal := hGluRefIdeal)
    ∧ preserves_Loss_LossIdeal
    ∧ algebraic_LossIdeal_LossRefIdeal (hLossIdeal := hLossIdeal) (hLossRefIdeal := hLossRefIdeal)
    ∧ preserves_Rms_RmsIdeal
    ∧ algebraic_RmsIdeal_RmsRefIdeal (hRmsIdeal := hRmsIdeal) (hRmsRefIdeal := hRmsRefIdeal)
    ∧ preserves_Pool_PoolIdeal
    ∧ algebraic_PoolIdeal_PoolRefIdeal_pre_dpool_finite (hPoolIdeal := hPoolIdeal) (hPoolRefIdeal := hPoolRefIdeal) (hPre_dpool_finite := hPre_dpool_finite)
    ∧ preserves_Conv_ConvIdeal
    ∧ algebraic_ConvIdeal_ConvRefIdeal (hConvIdeal := hConvIdeal) (hConvRefIdeal := hConvRefIdeal)
    ∧ preserves_Mlp_MlpIdeal
    ∧ algebraic_MlpIdeal_MlpRefIdeal (hMlpIdeal := hMlpIdeal) (hMlpRefIdeal := hMlpRefIdeal)
    ∧ preserves_Att_AttIdeal
    ∧ algebraic_AttIdeal_AttRefIdeal_pre_att_finite (hAttIdeal := hAttIdeal) (hAttRefIdeal := hAttRefIdeal) (hPre_att_finite := hPre_att_finite)
    ∧ preserves_AttFwd_AttFwdIdeal
    ∧ algebraic_AttFwdIdeal_AttFwdRefIdeal_pre_att_fwd_finite (hAttFwdIdeal := hAttFwdIdeal) (hAttFwdRefIdeal := hAttFwdRefIdeal) (hPre_att_fwd_finite := hPre_att_fwd_finite)
    ∧ preserves_GluFwd_GluFwdIdeal
    ∧ algebraic_GluFwdIdeal_GluFwdRefIdeal (hGluFwdIdeal := hGluFwdIdeal) (hGluFwdRefIdeal := hGluFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_PoolMix_PoolMixIdeal
    ∧ algebraic_PoolMixIdeal_PoolMixRefIdeal (hPoolMixIdeal := hPoolMixIdeal) (hPoolMixRefIdeal := hPoolMixRefIdeal)
    ∧ preserves_AttOut_AttOutIdeal
    ∧ algebraic_AttOutIdeal_AttOutRefIdeal (hAttOutIdeal := hAttOutIdeal) (hAttOutRefIdeal := hAttOutRefIdeal)
    ∧ preserves_MlpDown_MlpDownIdeal
    ∧ algebraic_MlpDownIdeal_MlpDownRefIdeal (hMlpDownIdeal := hMlpDownIdeal) (hMlpDownRefIdeal := hMlpDownRefIdeal)
    ∧ preserves_PoolFwd_PoolFwdIdeal
    ∧ algebraic_PoolFwdIdeal_PoolFwdRefIdeal_pre_u_finite (hPoolFwdIdeal := hPoolFwdIdeal) (hPoolFwdRefIdeal := hPoolFwdRefIdeal) (hPre_u_finite := hPre_u_finite)
    ∧ preserves_MlpBack_MlpBackIdeal
    ∧ algebraic_MlpBackIdeal_MlpBackRefIdeal (hMlpBackIdeal := hMlpBackIdeal) (hMlpBackRefIdeal := hMlpBackRefIdeal)
    ∧ preserves_MlpDw_MlpDwIdeal
    ∧ algebraic_MlpDwIdeal_MlpDwRefIdeal (hMlpDwIdeal := hMlpDwIdeal) (hMlpDwRefIdeal := hMlpDwRefIdeal)
    ∧ preserves_Adam_AdamIdeal
    ∧ algebraic_AdamIdeal_AdamRefIdeal (hAdamIdeal := hAdamIdeal) (hAdamRefIdeal := hAdamRefIdeal)
-- ==== Pre_att_finite.lean ====
abbrev S8192x6144 : Shape := ⟨2, ![8192, 6144]⟩
abbrev S1x128 : Shape := ⟨2, ![1, 128]⟩
abbrev S1x16x513 : Shape := ⟨3, ![1, 16, 513]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x16x513 : S_.BroadcastsInDim S1x16x513 (![] : Fin 0 → Fin S1x16x513.rank)
  reducesTo_S1x16x513_S_d0_1_2 : S1x16x513.ReducesTo [0, 1, 2] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .f32) (main_v13 : IVec S_ 1) (main_v16 : IVec S1x16x513 1) : IVec S_ 1 :=
  let main_c_5 : IVec S_ 1 := constantI S_ 1 1#1
  let main_v17 : IVec S_ 1 := (fun x v => Host.reduce IntOp.andi x v reducesTo_S1x16x513_S_d0_1_2 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x6144 .f32) (main_arg1 : FVec F S1x128 .f32) (main_arg2 : FVec F S1x128 .f32) (main_arg3 : FVec F S1x16x513 .f32) (main_arg4 : FVec F S8192x2048 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x16x513 .f32 := Host.absf main_arg3
  let main_cst_4 : FVec F S_ .f32 := constant S_ .f32 0x7F800000#32
  let main_v15 : FVec F S1x16x513 .f32 := broadcastInDim S1x16x513 ![] bcast_S_S1x16x513 main_cst_4
  let main_v16 : IVec S1x16x513 1 := cmpf .olt main_v14 main_v15
  fn_part1 (F := F) main_arg4 main_v13 main_v16
-- ==== Pre_att_fwd_finite.lean ====
abbrev S8192x6144 : Shape := ⟨2, ![8192, 6144]⟩
abbrev S1x128 : Shape := ⟨2, ![1, 128]⟩
abbrev S1x16x513 : Shape := ⟨3, ![1, 16, 513]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x16x513 : S_.BroadcastsInDim S1x16x513 (![] : Fin 0 → Fin S1x16x513.rank)
  reducesTo_S1x16x513_S_d0_1_2 : S1x16x513.ReducesTo [0, 1, 2] S_

variable [Facts]

def fn_part1 {F : FTy → Type} [FloatOps F] (main_v13 : IVec S_ 1) (main_v16 : IVec S1x16x513 1) : IVec S_ 1 :=
  let main_c_5 : IVec S_ 1 := constantI S_ 1 1#1
  let main_v17 : IVec S_ 1 := (fun x v => Host.reduce IntOp.andi x v reducesTo_S1x16x513_S_d0_1_2 h_S_) main_v16 main_c_5
  let main_v18 : IVec S_ 1 := andi main_v13 main_v17
  main_v18

def fn {F : FTy → Type} [FloatOps F] (main_arg0 : FVec F S8192x6144 .f32) (main_arg1 : FVec F S1x128 .f32) (main_arg2 : FVec F S1x128 .f32) (main_arg3 : FVec F S1x16x513 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x16x513 .f32 := Host.absf main_arg3
  let main_cst_4 : FVec F S_ .f32 := constant S_ .f32 0x7F800000#32
  let main_v15 : FVec F S1x16x513 .f32 := broadcastInDim S1x16x513 ![] bcast_S_S1x16x513 main_cst_4
  let main_v16 : IVec S1x16x513 1 := cmpf .olt main_v14 main_v15
  fn_part1 (F := F) main_v13 main_v16
-- ==== Pre_dpool_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Pre_u_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Scale.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Glu.lean ====
abbrev S8192x4096 : Shape := ⟨2, ![8192, 4096]⟩
abbrev S8192x2048 : Shape := ⟨2, ![8192, 2048]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .bf16⟩
  | .hbm, ⟨3, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Loss.lean ====
abbrev S8192x2048 : Shape := ⟨2, ![8192, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x1, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossRefIdeal.lean ====
abbrev S8192x2048 : Shape := ⟨2, ![8192, 2048]⟩
abbrev S_ : Shape := ⟨0, ![]⟩
abbrev S8192 : Shape := ⟨1, ![8192]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S1x1, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Rms.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Pool.lean ====
abbrev S8192x2048 : Shape := ⟨2, ![8192, 2048]⟩
abbrev S512x512 : Shape := ⟨2, ![512, 512]⟩
abbrev S16x512 : Shape := ⟨2, ![16, 512]⟩
abbrev S528x1 : Shape := ⟨2, ![528, 1]⟩
abbrev S528x512 : Shape := ⟨2, ![528, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolRefIdeal.lean ====
abbrev S8192x2048 : Shape := ⟨2, ![8192, 2048]⟩
abbrev S_ : Shape := ⟨0, ![]⟩
abbrev S8192x4x512 : Shape := ⟨3, ![8192, 4, 512]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8190x512 : Shape := ⟨2, ![8190, 512]⟩
abbrev S8192x1 : Shape := ⟨2, ![8192, 1]⟩
abbrev S4x512 : Shape := ⟨2, ![4, 512]⟩
abbrev S8188x512 : Shape := ⟨2, ![8188, 512]⟩
abbrev S8x512 : Shape := ⟨2, ![8, 512]⟩
abbrev S8184x512 : Shape := ⟨2, ![8184, 512]⟩
abbrev S16x512 : Shape := ⟨2, ![16, 512]⟩
abbrev S8176x512 : Shape := ⟨2, ![8176, 512]⟩

abbrev nBuf : Space → Nat
  | .hbm => 170
  | .vmem => 0
  | .smem => 0
  | _ => 0

abbrev hbmTy0_0 (i : Nat) : BufTy := match i % 128 with
  | 0 => ⟨S8192x2048, .f32⟩
  | 1 => ⟨S_, .f32⟩
  | 2 => ⟨S8192x2048, .f32⟩
  | 3 => ⟨S8192x4x512, .f32⟩
  | 4 => ⟨S_, .f32⟩
  | 5 => ⟨S_, .f32⟩
  | 6 => ⟨S8192x4x512, .f32⟩
  | 7 => ⟨S8192, .f32⟩
  | 8 => ⟨S_, .f32⟩
  | 9 => ⟨S8192, .f32⟩
  | 10 => ⟨S8192, .f32⟩
  | 11 => ⟨S8192x1x512, .f32⟩
  | 12 => ⟨S8192x512, .f32⟩
  | 13 => ⟨S_, .f32⟩
  | 14 => ⟨S2x512, .f32⟩
  | 15 => ⟨S8190x512, .f32⟩
  | 16 => ⟨S8192x512, .f32⟩
  | 17 => ⟨S_, .f32⟩
  | 18 => ⟨S2x512, .f32⟩
  | 19 => ⟨S_, .f32⟩
  | 20 => ⟨S8192, .f32⟩
  | 21 => ⟨S8192, .f32⟩
  | 22 => ⟨S8192x1, .f32⟩
  | 23 => ⟨S8192x512, .f32⟩
  | 24 => ⟨S8192x512, .f32⟩
  | 25 => ⟨S8192x512, .f32⟩
  | 26 => ⟨S8192x1x512, .f32⟩
  | 27 => ⟨S8192x512, .f32⟩
  | 28 => ⟨S8192x512, .f32⟩
  | 29 => ⟨S8192x1x512, .f32⟩
  | 30 => ⟨S8192x512, .f32⟩
  | 31 => ⟨S_, .f32⟩
  | 32 => ⟨S4x512, .f32⟩
  | 33 => ⟨S8188x512, .f32⟩
  | 34 => ⟨S8192x512, .f32⟩
  | 35 => ⟨S_, .f32⟩
  | 36 => ⟨S4x512, .f32⟩
  | 37 => ⟨S_, .f32⟩
  | 38 => ⟨S8192, .f32⟩
  | 39 => ⟨S8192, .f32⟩
  | 40 => ⟨S8192x1, .f32⟩
  | 41 => ⟨S8192x512, .f32⟩
  | 42 => ⟨S8192x512, .f32⟩
  | 43 => ⟨S8192x512, .f32⟩
  | 44 => ⟨S8192x1x512, .f32⟩
  | 45 => ⟨S8192x512, .f32⟩
  | 46 => ⟨S8192x512, .f32⟩
  | 47 => ⟨S8192x1x512, .f32⟩
  | 48 => ⟨S8192x512, .f32⟩
  | 49 => ⟨S_, .f32⟩
  | 50 => ⟨S8x512, .f32⟩
  | 51 => ⟨S8184x512, .f32⟩
  | 52 => ⟨S8192x512, .f32⟩
  | 53 => ⟨S_, .f32⟩
  | 54 => ⟨S8x512, .f32⟩
  | 55 => ⟨S_, .f32⟩
  | 56 => ⟨S8192, .f32⟩
  | 57 => ⟨S8192, .f32⟩
  | 58 => ⟨S8192x1, .f32⟩
  | 59 => ⟨S8192x512, .f32⟩
  | 60 => ⟨S8192x512, .f32⟩
  | 61 => ⟨S8192x512, .f32⟩
  | 62 => ⟨S8192x1x512, .f32⟩
  | 63 => ⟨S8192x512, .f32⟩
  | 64 => ⟨S8192x512, .f32⟩
  | 65 => ⟨S8192x1x512, .f32⟩
  | 66 => ⟨S8192x512, .f32⟩
  | 67 => ⟨S_, .f32⟩
  | 68 => ⟨S16x512, .f32⟩
  | 69 => ⟨S8176x512, .f32⟩
  | 70 => ⟨S8192x512, .f32⟩
  | 71 => ⟨S_, .f32⟩
  | 72 => ⟨S16x512, .f32⟩
  | 73 => ⟨S_, .f32⟩
  | 74 => ⟨S8192, .f32⟩
  | 75 => ⟨S8192, .f32⟩
  | 76 => ⟨S8192x1, .f32⟩
  | 77 => ⟨S8192x512, .f32⟩
  | 78 => ⟨S8192x512, .f32⟩
  | 79 => ⟨S8192x512, .f32⟩
  | 80 => ⟨S8192x1x512, .f32⟩
  | 81 => ⟨S8192x512, .f32⟩
  | 82 => ⟨S8192x512, .f32⟩
  | 83 => ⟨S8192x1x512, .f32⟩
  | 84 => ⟨S8192x1x512, .f32⟩
  | 85 => ⟨S8192x1x512, .f32⟩
  | 86 => ⟨S8192x1x512, .f32⟩
  | 87 => ⟨S8192x4x512, .f32⟩
  | 88 => ⟨S8192x2048, .f32⟩
  | 89 => ⟨S8192x4x512, .f32⟩
  | 90 => ⟨S8192x1x512, .f32⟩
  | 91 => ⟨S8192x512, .f32⟩
  | 92 => ⟨S8192x1x512, .f32⟩
  | 93 => ⟨S8192x512, .f32⟩
  | 94 => ⟨S8192x1x512, .f32⟩
  | 95 => ⟨S8192x512, .f32⟩
  | 96 => ⟨S8192x1x512, .f32⟩
  | 97 => ⟨S8192x512, .f32⟩
  | 98 => ⟨S8192x512, .f32⟩
  | 99 => ⟨S8192x1x512, .f32⟩
  | 100 => ⟨S_, .f32⟩
  | 101 => ⟨S8192x4x512, .f32⟩
  | 102 => ⟨S8192x512, .f32⟩
  | 103 => ⟨S8192x512, .f32⟩
  | 104 => ⟨S8192x512, .f32⟩
  | 105 => ⟨S16x512, .f32⟩
  | 106 => ⟨S8176x512, .f32⟩
  | 107 => ⟨S_, .f32⟩
  | 108 => ⟨S8192x512, .f32⟩
  | 109 => ⟨S8192x512, .f32⟩
  | 110 => ⟨S8192x1x512, .f32⟩
  | 111 => ⟨S_, .f32⟩
  | 112 => ⟨S8192x4x512, .f32⟩
  | 113 => ⟨S8192x512, .f32⟩
  | 114 => ⟨S8192x1x512, .f32⟩
  | 115 => ⟨S_, .f32⟩
  | 116 => ⟨S8192x4x512, .f32⟩
  | 117 => ⟨S8192x4x512, .f32⟩
  | 118 => ⟨S8192x512, .f32⟩
  | 119 => ⟨S8192x512, .f32⟩
  | 120 => ⟨S8192x512, .f32⟩
  | 121 => ⟨S8x512, .f32⟩
  | 122 => ⟨S8184x512, .f32⟩
  | 123 => ⟨S_, .f32⟩
  | 124 => ⟨S8192x512, .f32⟩
  | 125 => ⟨S8192x512, .f32⟩
  | 126 => ⟨S8192x1x512, .f32⟩
  | 127 => ⟨S_, .f32⟩
  | _ => ⟨S8192x2048, .f32⟩

abbrev hbmTy0_1 (i : Nat) : BufTy := match i % 128 with
  | 0 => ⟨S8192x4x512, .f32⟩
  | 1 => ⟨S8192x4x512, .f32⟩
  | 2 => ⟨S8192x512, .f32⟩
  | 3 => ⟨S8192x1x512, .f32⟩
  | 4 => ⟨S_, .f32⟩
  | 5 => ⟨S8192x4x512, .f32⟩
  | 6 => ⟨S8192x4x512, .f32⟩
  | 7 => ⟨S8192x512, .f32⟩
  | 8 => ⟨S8192x512, .f32⟩
  | 9 => ⟨S8192x512, .f32⟩
  | 10 => ⟨S4x512, .f32⟩
  | 11 => ⟨S8188x512, .f32⟩
  | 12 => ⟨S_, .f32⟩
  | 13 => ⟨S8192x512, .f32⟩
  | 14 => ⟨S8192x512, .f32⟩
  | 15 => ⟨S8192x1x512, .f32⟩
  | 16 => ⟨S_, .f32⟩
  | 17 => ⟨S8192x4x512, .f32⟩
  | 18 => ⟨S8192x4x512, .f32⟩
  | 19 => ⟨S8192x512, .f32⟩
  | 20 => ⟨S8192x1x512, .f32⟩
  | 21 => ⟨S_, .f32⟩
  | 22 => ⟨S8192x4x512, .f32⟩
  | 23 => ⟨S8192x4x512, .f32⟩
  | 24 => ⟨S8192x512, .f32⟩
  | 25 => ⟨S8192x512, .f32⟩
  | 26 => ⟨S8192x512, .f32⟩
  | 27 => ⟨S2x512, .f32⟩
  | 28 => ⟨S8190x512, .f32⟩
  | 29 => ⟨S_, .f32⟩
  | 30 => ⟨S8192x512, .f32⟩
  | 31 => ⟨S8192x512, .f32⟩
  | 32 => ⟨S8192x1x512, .f32⟩
  | 33 => ⟨S_, .f32⟩
  | 34 => ⟨S8192x4x512, .f32⟩
  | 35 => ⟨S8192x4x512, .f32⟩
  | 36 => ⟨S_, .f32⟩
  | 37 => ⟨S_, .f32⟩
  | 38 => ⟨S8192x4x512, .f32⟩
  | 39 => ⟨S8192x4x512, .f32⟩
  | 40 => ⟨S8192x2048, .f32⟩
  | 41 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_13 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_14 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_15 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_16 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_17 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_18 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_19 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_20 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_21 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_22 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_23 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_24 : Ref sig .tc := ⟨.hbm, 161, rfl⟩
abbrev main_v133 : Ref sig .tc := ⟨.hbm, 162, rfl⟩
abbrev main_v134 : Ref sig .tc := ⟨.hbm, 163, rfl⟩
abbrev main_call1_call0_cst : Ref sig .tc := ⟨.hbm, 164, rfl⟩
abbrev main_call1_call0_v0 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩

abbrev nD : Nat := 1
abbrev τ : Topo := Topo.v7x

variable {F : FTy → Type} [FloatOps F]
-- ==== Conv.lean ====
abbrev S8192x6144 : Shape := ⟨2, ![8192, 6144]⟩
abbrev S1x3x2048 : Shape := ⟨3, ![1, 3, 2048]⟩
abbrev S8192x2048 : Shape := ⟨2, ![8192, 2048]⟩
abbrev S3x2048 : Shape := ⟨2, ![3, 2048]⟩
abbrev S_ : Shape := ⟨0, ![]⟩
abbrev S5x2048 : Shape := ⟨2, ![5, 2048]⟩
abbrev S8x2048 : Shape := ⟨2, ![8, 2048]⟩
abbrev S512x512 : Shape := ⟨2, ![512, 512]⟩
abbrev S8x512 : Shape := ⟨2, ![8, 512]⟩
abbrev S1x512 : Shape := ⟨2, ![1, 512]⟩
abbrev S520x512 : Shape := ⟨2, ![520, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S8192x2048, .f32⟩
  | .hbm, ⟨3, _⟩ => ⟨S3x2048, .f32⟩
  | .hbm, ⟨4, _⟩ => ⟨S_, .f32⟩
  | .hbm, ⟨5, _⟩ => ⟨S5x2048, .f32⟩
  | .hbm, ⟨6, _⟩ => ⟨S8x2048, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S8x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConvRefIdeal.lean ====
abbrev S8192x6144 : Shape := ⟨2, ![8192, 6144]⟩
abbrev S1x3x2048 : Shape := ⟨3, ![1, 3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x1x2048 : Shape := ⟨3, ![1, 1, 2048]⟩
abbrev S2048 : Shape := ⟨1, ![2048]⟩
abbrev S1x2048 : Shape := ⟨2, ![1, 2048]⟩
abbrev S3x2048 : Shape := ⟨2, ![3, 2048]⟩
abbrev S8x2048 : Shape := ⟨2, ![8, 2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2x2048, .f32⟩
  | .hbm, ⟨9, _⟩ => ⟨S8194x2048, .f32⟩
  | .hbm, ⟨10, _⟩ => ⟨S_, .f32⟩
  | .hbm, ⟨11, _⟩ => ⟨S2x2048, .f32⟩
  | .hbm, ⟨12, _⟩ => ⟨S1x1x2048, .f32⟩
  | .hbm, ⟨13, _⟩ => ⟨S2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S1x1x2048, .f32⟩
  | .hbm, ⟨22, _⟩ => ⟨S2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x1x2048, .f32⟩
  | .hbm, ⟨29, _⟩ => ⟨S2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S8194x2048, .f32⟩
  | .hbm, ⟨48, _⟩ => ⟨S1x1x2048, .f32⟩
  | .hbm, ⟨49, _⟩ => ⟨S_, .f32⟩
  | .hbm, ⟨50, _⟩ => ⟨S1x3x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S8194x2048, .f32⟩
  | .hbm, ⟨61, _⟩ => ⟨S8194x2048, .f32⟩
  | .hbm, ⟨62, _⟩ => ⟨S1x1x2048, .f32⟩
  | .hbm, ⟨63, _⟩ => ⟨S_, .f32⟩
  | .hbm, ⟨64, _⟩ => ⟨S1x3x2048, .f32⟩
  | .hbm, ⟨65, _⟩ => ⟨S1x3x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S_, .f32⟩
  | .hbm, ⟨75, _⟩ => ⟨S8194x2048, .f32⟩
  | .hbm, ⟨76, _⟩ => ⟨S8194x2048, .f32⟩
  | .hbm, ⟨77, _⟩ => ⟨S1x1x2048, .f32⟩
  | .hbm, ⟨78, _⟩ => ⟨S_, .f32⟩
  | .hbm, ⟨79, _⟩ => ⟨S1x3x2048, .f32⟩
  | .hbm, ⟨80, _⟩ => ⟨S1x3x2048, .f32⟩
  | .hbm, ⟨81, _⟩ => ⟨S2x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x6144, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S3x2048, .f32⟩
  | .hbm, ⟨90, _⟩ => ⟨S_, .i32⟩
  | .hbm, ⟨91, _⟩ => ⟨S_, .f32⟩
  | .hbm, ⟨92, _⟩ => ⟨S8x2048, .f32⟩
  | .hbm, ⟨93, _⟩ => ⟨S8192x2048, .bf16⟩
  | .hbm, ⟨94, _⟩ => ⟨S8192x2048, .bf16⟩
  | .hbm, ⟨95, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Mlp.lean ====
abbrev S8192x8192 : Shape := ⟨2, ![8192, 8192]⟩
abbrev S8192x2048 : Shape := ⟨2, ![8192, 2048]⟩
abbrev S_ : Shape := ⟨0, ![]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .bf16⟩
  | .hbm, ⟨9, _⟩ => ⟨S1x8192x2048, .bf16⟩
  | .hbm, ⟨10, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlpRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S2048x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Att.lean ====
abbrev S8192x6144 : Shape := ⟨2, ![8192, 6144]⟩
abbrev S1x128 : Shape := ⟨2, ![1, 128]⟩
abbrev S1x16x513 : Shape := ⟨3, ![1, 16, 513]⟩
abbrev S8192x2048 : Shape := ⟨2, ![8192, 2048]⟩
abbrev S16x513 : Shape := ⟨2, ![16, 513]⟩
abbrev S16x1 : Shape := ⟨2, ![16, 1]⟩
abbrev S16x512 : Shape := ⟨2, ![16, 512]⟩
abbrev S16x511 : Shape := ⟨2, ![16, 511]⟩
abbrev S16x1023 : Shape := ⟨2, ![16, 1023]⟩
abbrev S_ : Shape := ⟨0, ![]⟩
abbrev S16x1024 : Shape := ⟨2, ![16, 1024]⟩
abbrev S16x1x1024 : Shape := ⟨3, ![16, 1, 1024]⟩
abbrev S16x256x1024 : Shape := ⟨3, ![16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x768 : Shape := ⟨2, ![256, 768]⟩
abbrev S1x256x768 : Shape := ⟨3, ![1, 256, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S768 : Shape := ⟨1, ![768]⟩
abbrev S768x1 : Shape := ⟨2, ![768, 1]⟩
abbrev S128 : Shape := ⟨1, ![128]⟩
abbrev S512x128 : Shape := ⟨2, ![512, 128]⟩
abbrev S16 : Shape := ⟨1, ![16]⟩

abbrev nBuf : Space → Nat
  | .hbm => 92
  | .vmem => 32
  | .smem => 0
  | _ => 0

abbrev bufTy : (tb : Table) → Fin (tcTables nBuf tb) → BufTy
  | .hbm, ⟨0, _⟩ => ⟨S8192x6144, .f32⟩
  | .hbm, ⟨1, _⟩ => ⟨S1x128, .f32⟩
  | .hbm, ⟨2, _⟩ => ⟨S1x128, .f32⟩
  | .hbm, ⟨3, _⟩ => ⟨S1x16x513, .f32⟩
  | .hbm, ⟨4, _⟩ => ⟨S8192x2048, .f32⟩
  | .hbm, ⟨5, _⟩ => ⟨S16x513, .f32⟩
  | .hbm, ⟨6, _⟩ => ⟨S16x1, .f32⟩
  | .hbm, ⟨7, _⟩ => ⟨S16x512, .f32⟩
  | .hbm, ⟨8, _⟩ => ⟨S16x511, .f32⟩
  | .hbm, ⟨9, _⟩ => ⟨S16x511, .f32⟩
  | .hbm, ⟨10, _⟩ => ⟨S16x1023, .f32⟩
  | .hbm, ⟨11, _⟩ => ⟨S_, .f32⟩
  | .hbm, ⟨12, _⟩ => ⟨S16x1, .f32⟩
  | .hbm, ⟨13, _⟩ => ⟨S16x1024, .f32⟩
  | .hbm, ⟨14, _⟩ => ⟨S16x1x1024, .f32⟩
  | .hbm, ⟨15, _⟩ => ⟨S16x256x1024, .f32⟩
  | .hbm, ⟨16, _⟩ => ⟨S16x262144, .f32⟩
  | .hbm, ⟨17, _⟩ => ⟨S16x261888, .f32⟩
  | .hbm, ⟨18, _⟩ => ⟨S16x256x1023, .f32⟩
  | .hbm, ⟨19, _⟩ => ⟨S16x256x768, .f32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S256x768, .i32⟩
  | .hbm, ⟨27, _⟩ => ⟨S256x768, .i32⟩
  | .hbm, ⟨28, _⟩ => ⟨S256x768, .i1⟩
  | .hbm, ⟨29, _⟩ => ⟨S_, .i32⟩
  | .hbm, ⟨30, _⟩ => ⟨S256x768, .i32⟩
  | .hbm, ⟨31, _⟩ => ⟨S256x768, .i32⟩
  | .hbm, ⟨32, _⟩ => ⟨S256x768, .i1⟩
  | .hbm, ⟨33, _⟩ => ⟨S256x768, .i1⟩
  | .hbm, ⟨34, _⟩ => ⟨S_, .f32⟩
  | .hbm, ⟨35, _⟩ => ⟨S_, .f32⟩
  | .hbm, ⟨36, _⟩ => ⟨S256x768, .f32⟩
  | .hbm, ⟨37, _⟩ => ⟨S256x768, .f32⟩
  | .hbm, ⟨38, _⟩ => ⟨S256x768, .f32⟩
  | .hbm, ⟨39, _⟩ => ⟨S256x768, .f32⟩
  | .hbm, ⟨40, _⟩ => ⟨S1x256x768, .f32⟩
  | .hbm, ⟨41, _⟩ => ⟨S16x256x768, .f32⟩
  | .hbm, ⟨42, _⟩ => ⟨S16x256x768, .f32⟩
  | .hbm, ⟨43, _⟩ => ⟨S8192x2048, .bf16⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S16x256x768, .f32⟩
  | .hbm, ⟨48, _⟩ => ⟨S1x128, .f32⟩
  | .hbm, ⟨49, _⟩ => ⟨S1x128, .f32⟩
  | .hbm, ⟨50, _⟩ => ⟨S16x513, .f32⟩
  | .hbm, ⟨51, _⟩ => ⟨S16x1, .f32⟩
  | .hbm, ⟨52, _⟩ => ⟨S16x512, .f32⟩
  | .hbm, ⟨53, _⟩ => ⟨S16x511, .f32⟩
  | .hbm, ⟨54, _⟩ => ⟨S16x511, .f32⟩
  | .hbm, ⟨55, _⟩ => ⟨S16x1023, .f32⟩
  | .hbm, ⟨56, _⟩ => ⟨S_, .f32⟩
  | .hbm, ⟨57, _⟩ => ⟨S16x1, .f32⟩
  | .hbm, ⟨58, _⟩ => ⟨S16x1024, .f32⟩
  | .hbm, ⟨59, _⟩ => ⟨S_, .f32⟩
  | .hbm, ⟨60, _⟩ => ⟨S16x1, .f32⟩
  | .hbm, ⟨61, _⟩ => ⟨S16x1x1024, .f32⟩
  | .hbm, ⟨62, _⟩ => ⟨S16x256x1024, .f32⟩
  | .hbm, ⟨63, _⟩ => ⟨S16x262144, .f32⟩
  | .hbm, ⟨64, _⟩ => ⟨S16x261888, .f32⟩
  | .hbm, ⟨65, _⟩ => ⟨S16x256x1023, .f32⟩
  | .hbm, ⟨66, _⟩ => ⟨S16x256x768, .f32⟩
  | .hbm, ⟨67, _⟩ => ⟨S_, .f32⟩
  | .hbm, ⟨68, _⟩ => ⟨S16x256x1023, .f32⟩
  | .hbm, ⟨69, _⟩ => ⟨S16x261888, .f32⟩
  | .hbm, ⟨70, _⟩ => ⟨S_, .f32⟩
  | .hbm, ⟨71, _⟩ => ⟨S16x262144, .f32⟩
  | .hbm, ⟨72, _⟩ => ⟨S16x256x1024, .f32⟩
  | .hbm, ⟨73, _⟩ => ⟨S_, .f32⟩
  | .hbm, ⟨74, _⟩ => ⟨S16x1024, .f32⟩
  | .hbm, ⟨75, _⟩ => ⟨S16x1x1024, .f32⟩
  | .hbm, ⟨76, _⟩ => ⟨S_, .f32⟩
  | .hbm, ⟨77, _⟩ => ⟨S16x1024, .f32⟩
  | .hbm, ⟨78, _⟩ => ⟨S16x1023, .f32⟩
  | .hbm, ⟨79, _⟩ => ⟨S16x1, .f32⟩
  | .hbm, ⟨80, _⟩ => ⟨S16x512, .f32⟩
  | .hbm, ⟨81, _⟩ => ⟨S16x511, .f32⟩
  | .hbm, ⟨82, _⟩ => ⟨S16x511, .f32⟩
  | .hbm, ⟨83, _⟩ => ⟨S_, .f32⟩
  | .hbm, ⟨84, _⟩ => ⟨S16x513, .f32⟩
  | .hbm, ⟨85, _⟩ => ⟨S_, .f32⟩
  | .hbm, ⟨86, _⟩ => ⟨S16, .f32⟩
  | .hbm, ⟨87, _⟩ => ⟨S16x1, .f32⟩
  | .hbm, ⟨88, _⟩ => ⟨S_, .f32⟩
  | .hbm, ⟨89, _⟩ => ⟨S16x513, .f32⟩
  | .hbm, ⟨90, _⟩ => ⟨S16x513, .f32⟩
  | .hbm, ⟨91, _⟩ => ⟨S1x16x513, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x256x768, .f32⟩
  | .local _ .vmem, ⟨17, _⟩ => ⟨S1x256x768, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S1x256x768, .f32⟩
  | .local _ .vmem, ⟨27, _⟩ => ⟨S1x256x768, .f32⟩
  | .local _ .vmem, ⟨28, _⟩ => ⟨S1x128, .f32⟩
  | .local _ .vmem, ⟨29, _⟩ => ⟨S1x128, .f32⟩
  | .local _ .vmem, ⟨30, _⟩ => ⟨S768x128, .f32⟩
  | .local _ .vmem, ⟨31, _⟩ => ⟨S768x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![16, 34], ![false, false]⟩

def k0_cond3 (i : grid0.Coords) : BitVec 1 :=
  let arg1 : BitVec 32 := BitVec.ofNat 32 (i 1).val
  let c32_i32 : BitVec 32 := 32#32
  let v8 : BitVec 1 := Scalar.cmpi .slt arg1 c32_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c2_i32 : BitVec 32 := 2#32
  let v11 : BitVec 1 := Scalar.cmpi .sge arg1 c2_i32
  let v12 : BitVec 32 := Scalar.extui v11
  let c0_i32_5 : BitVec 32 := 0#32
  let v13 : BitVec 1 := Scalar.cmpi .ne v12 c0_i32_5
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c16_i32 : BitVec 32 := 16#32
  let v4 : BitVec 32 := Scalar.addi c16_i32 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 32 := Scalar.addi c16_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 32 := Scalar.addi c16_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c32_i32 : BitVec 32 := 32#32
  let v4 : BitVec 32 := Scalar.addi c32_i32 arg0
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c32_i32 : BitVec 32 := 32#32
  let v4 : BitVec 32 := Scalar.addi c32_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let c31_i32 : BitVec 32 := 31#32
  let v2 : BitVec 32 := Scalar.maxsi c0_i32 v1
  let v3 : BitVec 32 := Scalar.minsi c31_i32 v2
  let c32_i32 : BitVec 32 := 32#32
  let v4 : BitVec 32 := Scalar.addi c32_i32 arg0
  let c0_i32_1 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== AttIdeal.lean ====
variable {F : FTy → Type} [FloatOps F] [Named F]
def κ : String → Option EReal := fun
  | "mask" => some ⊥
  | _ => none
-- ==== AttRefIdeal.lean ====
abbrev S8192x6144 : Shape := ⟨2, ![8192, 6144]⟩
abbrev S1x128 : Shape := ⟨2, ![1, 128]⟩
abbrev S1x16x513 : Shape := ⟨3, ![1, 16, 513]⟩
abbrev S8192x2048 : Shape := ⟨2, ![8192, 2048]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S512x16x128 : Shape := ⟨3, ![512, 16, 128]⟩
abbrev S8704x16x128 : Shape := ⟨3, ![8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S16x513 : Shape := ⟨2, ![16, 513]⟩
abbrev S64x576x1 : Shape := ⟨3, ![64, 576, 1]⟩
abbrev S16x64x576 : Shape := ⟨3, ![16, 64, 576]⟩
abbrev S128x64x16x128 : Shape := ⟨4, ![128, 64, 16, 128]⟩
abbrev S128x1 : Shape := ⟨2, ![128, 1]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩
abbrev S128x16x128x576 : Shape := ⟨4, ![128, 16, 128, 576]⟩
abbrev S128x16x576x128 : Shape := ⟨4, ![128, 16, 576, 128]⟩
abbrev S128x16x64x128 : Shape := ⟨4, ![128, 16, 64, 128]⟩

abbrev nBuf : Space → Nat
  | .hbm => 314
  | .vmem => 0
  | .smem => 0
  | _ => 0

abbrev hbmTy0_0 (i : Nat) : BufTy := match i % 128 with
  | 0 => ⟨S8192x6144, .f32⟩
  | 1 => ⟨S1x128, .f32⟩
  | 2 => ⟨S1x128, .f32⟩
  | 3 => ⟨S1x16x513, .f32⟩
  | 4 => ⟨S8192x2048, .f32⟩
  | 5 => ⟨S8192x3x16x128, .f32⟩
  | 6 => ⟨S8192x1x16x128, .f32⟩
  | 7 => ⟨S8192x16x128, .f32⟩
  | 8 => ⟨S128, .f32⟩
  | 9 => ⟨S8192x16x128, .f32⟩
  | 10 => ⟨S_, .f32⟩
  | 11 => ⟨S8192x16, .f32⟩
  | 12 => ⟨S8192x16x1, .f32⟩
  | 13 => ⟨S_, .f32⟩
  | 14 => ⟨S8192x16x1, .f32⟩
  | 15 => ⟨S8192x16x1, .f32⟩
  | 16 => ⟨S_, .f32⟩
  | 17 => ⟨S8192x16x1, .f32⟩
  | 18 => ⟨S8192x16x1, .f32⟩
  | 19 => ⟨S8192x16x1, .f32⟩
  | 20 => ⟨S8192x16x1, .f32⟩
  | 21 => ⟨S_, .f32⟩
  | 22 => ⟨S8192x16x1, .f32⟩
  | 23 => ⟨S8192x16x1, .f32⟩
  | 24 => ⟨S8192x16x128, .f32⟩
  | 25 => ⟨S8192x16x128, .f32⟩
  | 26 => ⟨S1x1x128, .f32⟩
  | 27 => ⟨S8192x16x128, .f32⟩
  | 28 => ⟨S8192x16x128, .f32⟩
  | 29 => ⟨S8192x1x16x128, .f32⟩
  | 30 => ⟨S8192x16x128, .f32⟩
  | 31 => ⟨S128, .f32⟩
  | 32 => ⟨S8192x16x128, .f32⟩
  | 33 => ⟨S_, .f32⟩
  | 34 => ⟨S8192x16, .f32⟩
  | 35 => ⟨S8192x16x1, .f32⟩
  | 36 => ⟨S_, .f32⟩
  | 37 => ⟨S8192x16x1, .f32⟩
  | 38 => ⟨S8192x16x1, .f32⟩
  | 39 => ⟨S_, .f32⟩
  | 40 => ⟨S8192x16x1, .f32⟩
  | 41 => ⟨S8192x16x1, .f32⟩
  | 42 => ⟨S8192x16x1, .f32⟩
  | 43 => ⟨S8192x16x1, .f32⟩
  | 44 => ⟨S_, .f32⟩
  | 45 => ⟨S8192x16x1, .f32⟩
  | 46 => ⟨S8192x16x1, .f32⟩
  | 47 => ⟨S8192x16x128, .f32⟩
  | 48 => ⟨S8192x16x128, .f32⟩
  | 49 => ⟨S1x1x128, .f32⟩
  | 50 => ⟨S8192x16x128, .f32⟩
  | 51 => ⟨S8192x16x128, .f32⟩
  | 52 => ⟨S8192x1x16x128, .f32⟩
  | 53 => ⟨S8192x16x128, .f32⟩
  | 54 => ⟨S_, .f32⟩
  | 55 => ⟨S512x16x128, .f32⟩
  | 56 => ⟨S8704x16x128, .f32⟩
  | 57 => ⟨S_, .f32⟩
  | 58 => ⟨S512x16x128, .f32⟩
  | 59 => ⟨S8704x16x128, .f32⟩
  | 60 => ⟨S_, .f32⟩
  | 61 => ⟨S512x16x128, .f32⟩
  | 62 => ⟨S64, .i32⟩
  | 63 => ⟨S64x1, .i32⟩
  | 64 => ⟨S_, .i32⟩
  | 65 => ⟨S64x1, .i32⟩
  | 66 => ⟨S64x1, .i32⟩
  | 67 => ⟨S576, .i32⟩
  | 68 => ⟨S1x576, .i32⟩
  | 69 => ⟨S64x576, .i32⟩
  | 70 => ⟨S64x576, .i32⟩
  | 71 => ⟨S64x576, .i32⟩
  | 72 => ⟨S_, .i32⟩
  | 73 => ⟨S_, .i32⟩
  | 74 => ⟨S_, .i32⟩
  | 75 => ⟨S64x576, .i32⟩
  | 76 => ⟨S64x576, .i32⟩
  | 77 => ⟨S_, .i32⟩
  | 78 => ⟨S64x576, .i32⟩
  | 79 => ⟨S64x576, .i32⟩
  | 80 => ⟨S_, .i32⟩
  | 81 => ⟨S64x576, .i32⟩
  | 82 => ⟨S64x576, .i32⟩
  | 83 => ⟨S16x513, .f32⟩
  | 84 => ⟨S_, .i32⟩
  | 85 => ⟨S64x576, .i32⟩
  | 86 => ⟨S64x576, .i1⟩
  | 87 => ⟨S_, .i32⟩
  | 88 => ⟨S64x576, .i32⟩
  | 89 => ⟨S64x576, .i32⟩
  | 90 => ⟨S64x576, .i32⟩
  | 91 => ⟨S64x576x1, .i32⟩
  | 92 => ⟨S16x64x576, .f32⟩
  | 93 => ⟨S128x64x16x128, .f32⟩
  | 94 => ⟨S128, .i32⟩
  | 95 => ⟨S_, .i32⟩
  | 96 => ⟨S128, .i32⟩
  | 97 => ⟨S128, .i32⟩
  | 98 => ⟨S576, .i32⟩
  | 99 => ⟨S1x576, .i32⟩
  | 100 => ⟨S128x1, .i32⟩
  | 101 => ⟨S128x576, .i32⟩
  | 102 => ⟨S128x576, .i32⟩
  | 103 => ⟨S128x576, .i32⟩
  | 104 => ⟨S_, .i32⟩
  | 105 => ⟨S128x576, .i32⟩
  | 106 => ⟨S128x576, .i1⟩
  | 107 => ⟨S_, .i32⟩
  | 108 => ⟨S128x576, .i32⟩
  | 109 => ⟨S128x576, .i32⟩
  | 110 => ⟨S128x576, .i32⟩
  | 111 => ⟨S128x576x1, .i32⟩
  | 112 => ⟨S128x576x16x128, .f32⟩
  | 113 => ⟨S576, .i32⟩
  | 114 => ⟨S1x576, .i32⟩
  | 115 => ⟨S128x1, .i32⟩
  | 116 => ⟨S128x576, .i32⟩
  | 117 => ⟨S128x576, .i32⟩
  | 118 => ⟨S128x576, .i32⟩
  | 119 => ⟨S_, .i32⟩
  | 120 => ⟨S128x576, .i32⟩
  | 121 => ⟨S128x576, .i1⟩
  | 122 => ⟨S_, .i32⟩
  | 123 => ⟨S128x576, .i32⟩
  | 124 => ⟨S128x576, .i32⟩
  | 125 => ⟨S128x576, .i32⟩
  | 126 => ⟨S128x576x1, .i32⟩
  | 127 => ⟨S128x576x16x128, .f32⟩
  | _ => ⟨S8192x6144, .f32⟩

abbrev hbmTy0_1 (i : Nat) : BufTy := match i % 128 with
  | 0 => ⟨S128x16x64x576, .f32⟩
  | 1 => ⟨S_, .f32⟩
  | 2 => ⟨S128x16x64x576, .f32⟩
  | 3 => ⟨S128x16x64x576, .f32⟩
  | 4 => ⟨S1x16x64x576, .f32⟩
  | 5 => ⟨S128x16x64x576, .f32⟩
  | 6 => ⟨S128x16x64x576, .f32⟩
  | 7 => ⟨S_, .i32⟩
  | 8 => ⟨S128, .i32⟩
  | 9 => ⟨S128, .i32⟩
  | 10 => ⟨S576, .i32⟩
  | 11 => ⟨S1x576, .i32⟩
  | 12 => ⟨S128x1, .i32⟩
  | 13 => ⟨S128x576, .i32⟩
  | 14 => ⟨S128x576, .i32⟩
  | 15 => ⟨S128x576, .i32⟩
  | 16 => ⟨S_, .i32⟩
  | 17 => ⟨S128x576, .i32⟩
  | 18 => ⟨S128x576, .i1⟩
  | 19 => ⟨S128x16x64x576, .i1⟩
  | 20 => ⟨S_, .f32⟩
  | 21 => ⟨S16x64x576, .f32⟩
  | 22 => ⟨S128x16x64x576, .f32⟩
  | 23 => ⟨S128x16x64x576, .f32⟩
  | 24 => ⟨S_, .f32⟩
  | 25 => ⟨S128x16x64x576, .f32⟩
  | 26 => ⟨S_, .f32⟩
  | 27 => ⟨S128x16x64, .f32⟩
  | 28 => ⟨S128x16x64x1, .f32⟩
  | 29 => ⟨S128x16x64x576, .f32⟩
  | 30 => ⟨S128x16x64x576, .i1⟩
  | 31 => ⟨S128x16x64x576, .f32⟩
  | 32 => ⟨S_, .f32⟩
  | 33 => ⟨S128x16x64, .f32⟩
  | 34 => ⟨S_, .f32⟩
  | 35 => ⟨S128x16x64, .f32⟩
  | 36 => ⟨S128x16x64, .f32⟩
  | 37 => ⟨S_, .f32⟩
  | 38 => ⟨S128x16x64, .f32⟩
  | 39 => ⟨S128x16x64, .i1⟩
  | 40 => ⟨S_, .f32⟩
  | 41 => ⟨S128x16x64, .f32⟩
  | 42 => ⟨S128x16x64, .i1⟩
  | 43 => ⟨S_, .f32⟩
  | 44 => ⟨S128x16x64, .f32⟩
  | 45 => ⟨S_, .f32⟩
  | 46 => ⟨S128x16x64, .f32⟩
  | 47 => ⟨S_, .f32⟩
  | 48 => ⟨S128x16x64, .f32⟩
  | 49 => ⟨S128x16x64, .f32⟩
  | 50 => ⟨S128x16x64, .f32⟩
  | 51 => ⟨S128x16x64x1, .f32⟩
  | 52 => ⟨S128x16x64x576, .f32⟩
  | 53 => ⟨S128x16x64x576, .f32⟩
  | 54 => ⟨S128x16x64x576, .f32⟩
  | 55 => ⟨S_, .f32⟩
  | 56 => ⟨S128x16x64, .f32⟩
  | 57 => ⟨S128x16x64x1, .f32⟩
  | 58 => ⟨S128x16x64x576, .f32⟩
  | 59 => ⟨S128x16x64x576, .f32⟩
  | 60 => ⟨S128x16x64x1, .f32⟩
  | 61 => ⟨S_, .f32⟩
  | 62 => ⟨S128x16x64x1, .f32⟩
  | 63 => ⟨S128x16x64x1, .f32⟩
  | 64 => ⟨S128x16x128x64, .f32⟩
  | 65 => ⟨S128x64x16x128, .f32⟩
  | 66 => ⟨S8192x2048, .f32⟩
  | 67 => ⟨S128x64x16x128, .f32⟩
  | 68 => ⟨S128x16x128x64, .f32⟩
  | 69 => ⟨S128x16x64x576, .f32⟩
  | 70 => ⟨S128x16x128x576, .f32⟩
  | 71 => ⟨S128x576x16x128, .f32⟩
  | 72 => ⟨S128x16x64x576, .f32⟩
  | 73 => ⟨S128x16x64x576, .f32⟩
  | 74 => ⟨S128x16x64x576, .f32⟩
  | 75 => ⟨S_, .f32⟩
  | 76 => ⟨S128x16x64, .f32⟩
  | 77 => ⟨S128x16x64x1, .f32⟩
  | 78 => ⟨S128x16x64x1, .f32⟩
  | 79 => ⟨S128x16x64x576, .f32⟩
  | 80 => ⟨S128x16x64x576, .f32⟩
  | 81 => ⟨S_, .f32⟩
  | 82 => ⟨S128x16x64, .f32⟩
  | 83 => ⟨S128x16x64x576, .f32⟩
  | 84 => ⟨S128x16x64x576, .f32⟩
  | 85 => ⟨S128x16x64x576, .f32⟩
  | 86 => ⟨S_, .f32⟩
  | 87 => ⟨S128x16x64x576, .f32⟩
  | 88 => ⟨S128x16x64x576, .f32⟩
  | 89 => ⟨S_, .f32⟩
  | 90 => ⟨S16x64x576, .f32⟩
  | 91 => ⟨S1x16x64x576, .f32⟩
  | 92 => ⟨S_, .f32⟩
  | 93 => ⟨S16x64x576, .f32⟩
  | 94 => ⟨S_, .f32⟩
  | 95 => ⟨S128x16x64x576, .f32⟩
  | 96 => ⟨S128x16x64x576, .f32⟩
  | 97 => ⟨S128x16x576x128, .f32⟩
  | 98 => ⟨S128x576x16x128, .f32⟩
  | 99 => ⟨S128x16x64x128, .f32⟩
  | 100 => ⟨S128x64x16x128, .f32⟩
  | 101 => ⟨S_, .f32⟩
  | 102 => ⟨S8704x16x128, .f32⟩
  | 103 => ⟨S8704x16x128, .f32⟩
  | 104 => ⟨S_, .f32⟩
  | 105 => ⟨S8704x16x128, .f32⟩
  | 106 => ⟨S8704x16x128, .f32⟩
  | 107 => ⟨S8192x16x128, .f32⟩
  | 108 => ⟨S_, .f32⟩
  | 109 => ⟨S16x513, .f32⟩
  | 110 => ⟨S16x513, .f32⟩
  | 111 => ⟨S1x16x513, .f32⟩
  | 112 => ⟨S512x16x128, .f32⟩
  | 113 => ⟨S8192x16x128, .f32⟩
  | 114 => ⟨S512x16x128, .f32⟩
  | 115 => ⟨S8192x16x128, .f32⟩
  | 116 => ⟨S8192x1x16x128, .f32⟩
  | 117 => ⟨S_, .f32⟩
  | 118 => ⟨S8192x3x16x128, .f32⟩
  | 119 => ⟨S8192x16x128, .f32⟩
  | 120 => ⟨S_, .f32⟩
  | 121 => ⟨S128, .f32⟩
  | 122 => ⟨S1x1x128, .f32⟩
  | 123 => ⟨S8192x16x128, .f32⟩
  | 124 => ⟨S8192x16x128, .f32⟩
  | 125 => ⟨S_, .f32⟩
  | 126 => ⟨S128, .f32⟩
  | 127 => ⟨S8192x16x128, .f32⟩
  | _ => ⟨S8192x6144, .f32⟩

abbrev hbmTy0_2 (i : Nat) : BufTy := match i % 128 with
  | 0 => ⟨S_, .f32⟩
  | 1 => ⟨S8192x16, .f32⟩
  | 2 => ⟨S8192x16x1, .f32⟩
  | 3 => ⟨S8192x16x128, .f32⟩
  | 4 => ⟨S8192x16x128, .f32⟩
  | 5 => ⟨S8192x16x1, .f32⟩
  | 6 => ⟨S_, .f32⟩
  | 7 => ⟨S8192x16x1, .f32⟩
  | 8 => ⟨S8192x16x1, .f32⟩
  | 9 => ⟨S_, .f32⟩
  | 10 => ⟨S8192x16, .f32⟩
  | 11 => ⟨S8192x16x128, .f32⟩
  | 12 => ⟨S8192x16x128, .f32⟩
  | 13 => ⟨S8192x16x128, .f32⟩
  | 14 => ⟨S8192x16x128, .f32⟩
  | 15 => ⟨S8192x16x128, .f32⟩
  | 16 => ⟨S1x128, .f32⟩
  | 17 => ⟨S8192x1x16x128, .f32⟩
  | 18 => ⟨S_, .f32⟩
  | 19 => ⟨S8192x3x16x128, .f32⟩
  | 20 => ⟨S8192x3x16x128, .f32⟩
  | 21 => ⟨S8192x16x128, .f32⟩
  | 22 => ⟨S_, .f32⟩
  | 23 => ⟨S128, .f32⟩
  | 24 => ⟨S1x1x128, .f32⟩
  | 25 => ⟨S8192x16x128, .f32⟩
  | 26 => ⟨S8192x16x128, .f32⟩
  | 27 => ⟨S_, .f32⟩
  | 28 => ⟨S128, .f32⟩
  | 29 => ⟨S8192x16x128, .f32⟩
  | 30 => ⟨S_, .f32⟩
  | 31 => ⟨S8192x16, .f32⟩
  | 32 => ⟨S8192x16x1, .f32⟩
  | 33 => ⟨S8192x16x128, .f32⟩
  | 34 => ⟨S8192x16x128, .f32⟩
  | 35 => ⟨S8192x16x1, .f32⟩
  | 36 => ⟨S_, .f32⟩
  | 37 => ⟨S8192x16x1, .f32⟩
  | 38 => ⟨S8192x16x1, .f32⟩
  | 39 => ⟨S_, .f32⟩
  | 40 => ⟨S8192x16, .f32⟩
  | 41 => ⟨S8192x16x128, .f32⟩
  | 42 => ⟨S8192x16x128, .f32⟩
  | 43 => ⟨S8192x16x128, .f32⟩
  | 44 => ⟨S8192x16x128, .f32⟩
  | 45 => ⟨S8192x16x128, .f32⟩
  | 46 => ⟨S1x128, .f32⟩
  | 47 => ⟨S8192x1x16x128, .f32⟩
  | 48 => ⟨S_, .f32⟩
  | 49 => ⟨S8192x3x16x128, .f32⟩
  | 50 => ⟨S8192x3x16x128, .f32⟩
  | 51 => ⟨S8192x6144, .f32⟩
  | 52 => ⟨S8192x2048, .f32⟩
  | 53 => ⟨S8192x2048, .f32⟩
  | 54 => ⟨S8192x2048, .f32⟩
  | 55 => ⟨S8192x2048, .bf16⟩
  | 56 => ⟨S8192x2048, .bf16⟩
  | 57 => ⟨S8192x2048, .bf16⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_c_11 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_18 : Ref sig .tc := ⟨.hbm, 119, rfl⟩
abbrev main_v89 : Ref sig .tc := ⟨.hbm, 120, rfl⟩
abbrev main_v90 : Ref sig .tc := ⟨.hbm, 121, rfl⟩
abbrev main_c_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_23 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_26 : Ref sig .tc := ⟨.hbm, 160, rfl⟩
abbrev main_v122 : Ref sig .tc := ⟨.hbm, 161, rfl⟩
abbrev main_cst_27 : Ref sig .tc := ⟨.hbm, 162, rfl⟩
abbrev main_v123 : Ref sig .tc := ⟨.hbm, 163, rfl⟩
abbrev main_v124 : Ref sig .tc := ⟨.hbm, 164, rfl⟩
abbrev main_cst_28 : Ref sig .tc := ⟨.hbm, 165, rfl⟩
abbrev main_v125 : Ref sig .tc := ⟨.hbm, 166, rfl⟩
abbrev main_v126 : Ref sig .tc := ⟨.hbm, 167, rfl⟩
abbrev main_cst_29 : Ref sig .tc := ⟨.hbm, 168, rfl⟩
abbrev main_v127 : Ref sig .tc := ⟨.hbm, 169, rfl⟩
abbrev main_v128 : Ref sig .tc := ⟨.hbm, 170, rfl⟩
abbrev main_cst_30 : Ref sig .tc := ⟨.hbm, 171, rfl⟩
abbrev main_v129 : Ref sig .tc := ⟨.hbm, 172, rfl⟩
abbrev main_cst_31 : Ref sig .tc := ⟨.hbm, 173, rfl⟩
abbrev main_v130 : Ref sig .tc := ⟨.hbm, 174, rfl⟩
abbrev main_cst_32 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_33 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_34 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_35 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_36 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_37 : Ref sig .tc := ⟨.hbm, 214, rfl⟩
abbrev main_v165 : Ref sig .tc := ⟨.hbm, 215, rfl⟩
abbrev main_v166 : Ref sig .tc := ⟨.hbm, 216, rfl⟩
abbrev main_cst_38 : Ref sig .tc := ⟨.hbm, 217, rfl⟩
abbrev main_v167 : Ref sig .tc := ⟨.hbm, 218, rfl⟩
abbrev main_v168 : Ref sig .tc := ⟨.hbm, 219, rfl⟩
abbrev main_cst_39 : Ref sig .tc := ⟨.hbm, 220, rfl⟩
abbrev main_v169 : Ref sig .tc := ⟨.hbm, 221, rfl⟩
abbrev main_cst_40 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_41 : Ref sig .tc := ⟨.hbm, 229, rfl⟩
abbrev main_v176 : Ref sig .tc := ⟨.hbm, 230, rfl⟩
abbrev main_v177 : Ref sig .tc := ⟨.hbm, 231, rfl⟩
abbrev main_cst_42 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_43 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_44 : Ref sig .tc := ⟨.hbm, 245, rfl⟩
abbrev main_v189 : Ref sig .tc := ⟨.hbm, 246, rfl⟩
abbrev main_v190 : Ref sig .tc := ⟨.hbm, 247, rfl⟩
abbrev main_cst_45 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_cst_46 : Ref sig .tc := ⟨.hbm, 253, rfl⟩
abbrev main_v195 : Ref sig .tc := ⟨.hbm, 254, rfl⟩
abbrev main_v196 : Ref sig .tc := ⟨.hbm, 255, rfl⟩
abbrev main_cst_47 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_48 : Ref sig .tc := ⟨.hbm, 262, rfl⟩
abbrev main_v202 : Ref sig .tc := ⟨.hbm, 263, rfl⟩
abbrev main_v203 : Ref sig .tc := ⟨.hbm, 264, rfl⟩
abbrev main_cst_49 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_cst_50 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_cst_51 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_cst_52 : Ref sig .tc := ⟨.hbm, 283, rfl⟩
abbrev main_v219 : Ref sig .tc := ⟨.hbm, 284, rfl⟩
abbrev main_v220 : Ref sig .tc := ⟨.hbm, 285, rfl⟩
abbrev main_cst_53 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_54 : Ref sig .tc := ⟨.hbm, 292, rfl⟩
abbrev main_v226 : Ref sig .tc := ⟨.hbm, 293, rfl⟩
abbrev main_v227 : Ref sig .tc := ⟨.hbm, 294, rfl⟩
abbrev main_cst_55 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_cst_56 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩

abbrev nD : Nat := 1
abbrev τ : Topo := Topo.v7x

variable {F : FTy → Type} [FloatOps F]
-- ==== AttFwd.lean ====
abbrev S8192x6144 : Shape := ⟨2, ![8192, 6144]⟩
abbrev S1x128 : Shape := ⟨2, ![1, 128]⟩
abbrev S1x16x513 : Shape := ⟨3, ![1, 16, 513]⟩
abbrev S16x513 : Shape := ⟨2, ![16, 513]⟩
abbrev S16x1 : Shape := ⟨2, ![16, 1]⟩
abbrev S16x512 : Shape := ⟨2, ![16, 512]⟩
abbrev S16x511 : Shape := ⟨2, ![16, 511]⟩
abbrev S16x1023 : Shape := ⟨2, ![16, 1023]⟩
abbrev S_ : Shape := ⟨0, ![]⟩
abbrev S16x1024 : Shape := ⟨2, ![16, 1024]⟩
abbrev S16x1x1024 : Shape := ⟨3, ![16, 1, 1024]⟩
abbrev S16x256x1024 : Shape := ⟨3, ![16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x768 : Shape := ⟨2, ![256, 768]⟩
abbrev S1x256x768 : Shape := ⟨3, ![1, 256, 768]⟩
abbrev S8192x2048 : Shape := ⟨2, ![8192, 2048]⟩
abbrev S256x128 : Shape := ⟨2, ![256, 128]⟩
abbrev S256 : Shape := ⟨1, ![256]⟩
abbrev S256x1 : Shape := ⟨2, ![256, 1]⟩
abbrev S768x128 : Shape := ⟨2, ![768, 128]⟩
abbrev S768 : Shape := ⟨1, ![768]⟩
abbrev S768x1 : Shape := ⟨2, ![768, 1]⟩

abbrev nBuf : Space → Nat
  | .hbm => 43
  | .vmem => 20
  | .smem => 0
  | _ => 0

abbrev bufTy : (tb : Table) → Fin (tcTables nBuf tb) → BufTy
  | .hbm, ⟨0, _⟩ => ⟨S8192x6144, .f32⟩
  | .hbm, ⟨1, _⟩ => ⟨S1x128, .f32⟩
  | .hbm, ⟨2, _⟩ => ⟨S1x128, .f32⟩
  | .hbm, ⟨3, _⟩ => ⟨S1x16x513, .f32⟩
  | .hbm, ⟨4, _⟩ => ⟨S16x513, .f32⟩
  | .hbm, ⟨5, _⟩ => ⟨S16x1, .f32⟩
  | .hbm, ⟨6, _⟩ => ⟨S16x512, .f32⟩
  | .hbm, ⟨7, _⟩ => ⟨S16x511, .f32⟩
  | .hbm, ⟨8, _⟩ => ⟨S16x511, .f32⟩
  | .hbm, ⟨9, _⟩ => ⟨S16x1023, .f32⟩
  | .hbm, ⟨10, _⟩ => ⟨S_, .f32⟩
  | .hbm, ⟨11, _⟩ => ⟨S16x1, .f32⟩
  | .hbm, ⟨12, _⟩ => ⟨S16x1024, .f32⟩
  | .hbm, ⟨13, _⟩ => ⟨S16x1x1024, .f32⟩
  | .hbm, ⟨14, _⟩ => ⟨S16x256x1024, .f32⟩
  | .hbm, ⟨15, _⟩ => ⟨S16x262144, .f32⟩
  | .hbm, ⟨16, _⟩ => ⟨S16x261888, .f32⟩
  | .hbm, ⟨17, _⟩ => ⟨S16x256x1023, .f32⟩
  | .hbm, ⟨18, _⟩ => ⟨S16x256x768, .f32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S256x768, .i32⟩
  | .hbm, ⟨24, _⟩ => ⟨S_, .i32⟩
  | .hbm, ⟨25, _⟩ => ⟨S256x768, .i32⟩
  | .hbm, ⟨26, _⟩ => ⟨S256x768, .i32⟩
  | .hbm, ⟨27, _⟩ => ⟨S256x768, .i1⟩
  | .hbm, ⟨28, _⟩ => ⟨S_, .i32⟩
  | .hbm, ⟨29, _⟩ => ⟨S256x768, .i32⟩
  | .hbm, ⟨30, _⟩ => ⟨S256x768, .i32⟩
  | .hbm, ⟨31, _⟩ => ⟨S256x768, .i1⟩
  | .hbm, ⟨32, _⟩ => ⟨S256x768, .i1⟩
  | .hbm, ⟨33, _⟩ => ⟨S_, .f32⟩
  | .hbm, ⟨34, _⟩ => ⟨S_, .f32⟩
  | .hbm, ⟨35, _⟩ => ⟨S256x768, .f32⟩
  | .hbm, ⟨36, _⟩ => ⟨S256x768, .f32⟩
  | .hbm, ⟨37, _⟩ => ⟨S256x768, .f32⟩
  | .hbm, ⟨38, _⟩ => ⟨S256x768, .f32⟩
  | .hbm, ⟨39, _⟩ => ⟨S1x256x768, .f32⟩
  | .hbm, ⟨40, _⟩ => ⟨S16x256x768, .f32⟩
  | .hbm, ⟨41, _⟩ => ⟨S16x256x768, .f32⟩
  | .hbm, ⟨42, _⟩ => ⟨S8192x2048, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x256x768, .f32⟩
  | .local _ .vmem, ⟨17, _⟩ => ⟨S1x256x768, .f32⟩
  | .local _ .vmem, ⟨18, _⟩ => ⟨S256x128, .bf16⟩
  | .local _ .vmem, ⟨19, _⟩ => ⟨S256x128, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c16_i32 : BitVec 32 := 16#32
  let v3 : BitVec 32 := Scalar.addi c16_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c16_i32 : BitVec 32 := 16#32
  let v3 : BitVec 32 := Scalar.addi c16_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c32_i32 : BitVec 32 := 32#32
  let v3 : BitVec 32 := Scalar.addi c32_i32 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c32_i32 : BitVec 32 := 32#32
  let v3 : BitVec 32 := Scalar.addi c32_i32 arg0
  let c0_i32_1 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttFwdIdeal.lean ====
variable {F : FTy → Type} [FloatOps F] [Named F]
def κ : String → Option EReal := fun
  | "mask" => some ⊥
  | _ => none
-- ==== AttFwdRefIdeal.lean ====
abbrev S8192x6144 : Shape := ⟨2, ![8192, 6144]⟩
abbrev S1x128 : Shape := ⟨2, ![1, 128]⟩
abbrev S1x16x513 : Shape := ⟨3, ![1, 16, 513]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S512x16x128 : Shape := ⟨3, ![512, 16, 128]⟩
abbrev S8704x16x128 : Shape := ⟨3, ![8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S16x513 : Shape := ⟨2, ![16, 513]⟩
abbrev S64x576x1 : Shape := ⟨3, ![64, 576, 1]⟩
abbrev S16x64x576 : Shape := ⟨3, ![16, 64, 576]⟩
abbrev S128x64x16x128 : Shape := ⟨4, ![128, 64, 16, 128]⟩
abbrev S128x1 : Shape := ⟨2, ![128, 1]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩
abbrev S8192x2048 : Shape := ⟨2, ![8192, 2048]⟩

abbrev nBuf : Space → Nat
  | .hbm => 157
  | .vmem => 0
  | .smem => 0
  | _ => 0

abbrev hbmTy0_0 (i : Nat) : BufTy := match i % 128 with
  | 0 => ⟨S8192x6144, .f32⟩
  | 1 => ⟨S1x128, .f32⟩
  | 2 => ⟨S1x128, .f32⟩
  | 3 => ⟨S1x16x513, .f32⟩
  | 4 => ⟨S8192x3x16x128, .f32⟩
  | 5 => ⟨S8192x1x16x128, .f32⟩
  | 6 => ⟨S8192x16x128, .f32⟩
  | 7 => ⟨S128, .f32⟩
  | 8 => ⟨S8192x16x128, .f32⟩
  | 9 => ⟨S_, .f32⟩
  | 10 => ⟨S8192x16, .f32⟩
  | 11 => ⟨S8192x16x1, .f32⟩
  | 12 => ⟨S_, .f32⟩
  | 13 => ⟨S8192x16x1, .f32⟩
  | 14 => ⟨S8192x16x1, .f32⟩
  | 15 => ⟨S_, .f32⟩
  | 16 => ⟨S8192x16x1, .f32⟩
  | 17 => ⟨S8192x16x1, .f32⟩
  | 18 => ⟨S8192x16x1, .f32⟩
  | 19 => ⟨S8192x16x128, .f32⟩
  | 20 => ⟨S8192x16x128, .f32⟩
  | 21 => ⟨S1x1x128, .f32⟩
  | 22 => ⟨S8192x16x128, .f32⟩
  | 23 => ⟨S8192x16x128, .f32⟩
  | 24 => ⟨S8192x1x16x128, .f32⟩
  | 25 => ⟨S8192x16x128, .f32⟩
  | 26 => ⟨S128, .f32⟩
  | 27 => ⟨S8192x16x128, .f32⟩
  | 28 => ⟨S_, .f32⟩
  | 29 => ⟨S8192x16, .f32⟩
  | 30 => ⟨S8192x16x1, .f32⟩
  | 31 => ⟨S_, .f32⟩
  | 32 => ⟨S8192x16x1, .f32⟩
  | 33 => ⟨S8192x16x1, .f32⟩
  | 34 => ⟨S_, .f32⟩
  | 35 => ⟨S8192x16x1, .f32⟩
  | 36 => ⟨S8192x16x1, .f32⟩
  | 37 => ⟨S8192x16x1, .f32⟩
  | 38 => ⟨S8192x16x128, .f32⟩
  | 39 => ⟨S8192x16x128, .f32⟩
  | 40 => ⟨S1x1x128, .f32⟩
  | 41 => ⟨S8192x16x128, .f32⟩
  | 42 => ⟨S8192x16x128, .f32⟩
  | 43 => ⟨S8192x1x16x128, .f32⟩
  | 44 => ⟨S8192x16x128, .f32⟩
  | 45 => ⟨S_, .f32⟩
  | 46 => ⟨S512x16x128, .f32⟩
  | 47 => ⟨S8704x16x128, .f32⟩
  | 48 => ⟨S8704x16x128, .f32⟩
  | 49 => ⟨S64, .i32⟩
  | 50 => ⟨S64x1, .i32⟩
  | 51 => ⟨S_, .i32⟩
  | 52 => ⟨S64x1, .i32⟩
  | 53 => ⟨S64x1, .i32⟩
  | 54 => ⟨S576, .i32⟩
  | 55 => ⟨S1x576, .i32⟩
  | 56 => ⟨S64x576, .i32⟩
  | 57 => ⟨S64x576, .i32⟩
  | 58 => ⟨S64x576, .i32⟩
  | 59 => ⟨S_, .i32⟩
  | 60 => ⟨S_, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i32⟩
  | 70 => ⟨S16x513, .f32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S16x64x576, .f32⟩
  | 80 => ⟨S128x64x16x128, .f32⟩
  | 81 => ⟨S128, .i32⟩
  | 82 => ⟨S_, .i32⟩
  | 83 => ⟨S128, .i32⟩
  | 84 => ⟨S128, .i32⟩
  | 85 => ⟨S576, .i32⟩
  | 86 => ⟨S1x576, .i32⟩
  | 87 => ⟨S128x1, .i32⟩
  | 88 => ⟨S128x576, .i32⟩
  | 89 => ⟨S128x576, .i32⟩
  | 90 => ⟨S128x576, .i32⟩
  | 91 => ⟨S_, .i32⟩
  | 92 => ⟨S128x576, .i32⟩
  | 93 => ⟨S128x576, .i1⟩
  | 94 => ⟨S_, .i32⟩
  | 95 => ⟨S128x576, .i32⟩
  | 96 => ⟨S128x576, .i32⟩
  | 97 => ⟨S128x576, .i32⟩
  | 98 => ⟨S128x576x1, .i32⟩
  | 99 => ⟨S128x576x16x128, .f32⟩
  | 100 => ⟨S576, .i32⟩
  | 101 => ⟨S1x576, .i32⟩
  | 102 => ⟨S128x1, .i32⟩
  | 103 => ⟨S128x576, .i32⟩
  | 104 => ⟨S128x576, .i32⟩
  | 105 => ⟨S128x576, .i32⟩
  | 106 => ⟨S_, .i32⟩
  | 107 => ⟨S128x576, .i32⟩
  | 108 => ⟨S128x576, .i1⟩
  | 109 => ⟨S_, .i32⟩
  | 110 => ⟨S128x576, .i32⟩
  | 111 => ⟨S128x576, .i32⟩
  | 112 => ⟨S128x576, .i32⟩
  | 113 => ⟨S128x576x1, .i32⟩
  | 114 => ⟨S128x576x16x128, .f32⟩
  | 115 => ⟨S128x16x64x576, .f32⟩
  | 116 => ⟨S_, .f32⟩
  | 117 => ⟨S128x16x64x576, .f32⟩
  | 118 => ⟨S128x16x64x576, .f32⟩
  | 119 => ⟨S1x16x64x576, .f32⟩
  | 120 => ⟨S128x16x64x576, .f32⟩
  | 121 => ⟨S128x16x64x576, .f32⟩
  | 122 => ⟨S_, .i32⟩
  | 123 => ⟨S128, .i32⟩
  | 124 => ⟨S128, .i32⟩
  | 125 => ⟨S576, .i32⟩
  | 126 => ⟨S1x576, .i32⟩
  | 127 => ⟨S128x1, .i32⟩
  | _ => ⟨S8192x6144, .f32⟩

abbrev hbmTy0_1 (i : Nat) : BufTy := match i % 128 with
  | 0 => ⟨S128x576, .i32⟩
  | 1 => ⟨S128x576, .i32⟩
  | 2 => ⟨S128x576, .i32⟩
  | 3 => ⟨S_, .i32⟩
  | 4 => ⟨S128x576, .i32⟩
  | 5 => ⟨S128x576, .i1⟩
  | 6 => ⟨S128x16x64x576, .i1⟩
  | 7 => ⟨S_, .f32⟩
  | 8 => ⟨S16x64x576, .f32⟩
  | 9 => ⟨S128x16x64x576, .f32⟩
  | 10 => ⟨S128x16x64x576, .f32⟩
  | 11 => ⟨S_, .f32⟩
  | 12 => ⟨S128x16x64, .f32⟩
  | 13 => ⟨S_, .f32⟩
  | 14 => ⟨S128x16x64, .f32⟩
  | 15 => ⟨S128x16x64, .f32⟩
  | 16 => ⟨S128x16x64x1, .f32⟩
  | 17 => ⟨S128x16x64x576, .f32⟩
  | 18 => ⟨S128x16x64x576, .f32⟩
  | 19 => ⟨S128x16x64x576, .f32⟩
  | 20 => ⟨S_, .f32⟩
  | 21 => ⟨S128x16x64, .f32⟩
  | 22 => ⟨S128x16x64x1, .f32⟩
  | 23 => ⟨S128x16x64x576, .f32⟩
  | 24 => ⟨S128x16x64x576, .f32⟩
  | 25 => ⟨S128x16x128x64, .f32⟩
  | 26 => ⟨S128x64x16x128, .f32⟩
  | 27 => ⟨S8192x2048, .f32⟩
  | 28 => ⟨S8192x2048, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_c_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_14 : Ref sig .tc := ⟨.hbm, 106, rfl⟩
abbrev main_v81 : Ref sig .tc := ⟨.hbm, 107, rfl⟩
abbrev main_v82 : Ref sig .tc := ⟨.hbm, 108, rfl⟩
abbrev main_c_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_17 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_20 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_22 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]
-- ==== GluFwd.lean ====
abbrev S8192x4096 : Shape := ⟨2, ![8192, 4096]⟩
abbrev S8192x2048 : Shape := ⟨2, ![8192, 2048]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluFwdRefIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ConvFwd.lean ====
abbrev S8192x6144 : Shape := ⟨2, ![8192, 6144]⟩
abbrev S1x3x2048 : Shape := ⟨3, ![1, 3, 2048]⟩
abbrev S3x2048 : Shape := ⟨2, ![3, 2048]⟩
abbrev S_ : Shape := ⟨0, ![]⟩
abbrev S5x2048 : Shape := ⟨2, ![5, 2048]⟩
abbrev S8x2048 : Shape := ⟨2, ![8, 2048]⟩
abbrev S8192x2048 : Shape := ⟨2, ![8192, 2048]⟩
abbrev S512x512 : Shape := ⟨2, ![512, 512]⟩
abbrev S8x512 : Shape := ⟨2, ![8, 512]⟩
abbrev S1x512 : Shape := ⟨2, ![1, 512]⟩
abbrev S520x512 : Shape := ⟨2, ![520, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S3x2048, .f32⟩
  | .hbm, ⟨3, _⟩ => ⟨S_, .f32⟩
  | .hbm, ⟨4, _⟩ => ⟨S5x2048, .f32⟩
  | .hbm, ⟨5, _⟩ => ⟨S8x2048, .f32⟩
  | .hbm, ⟨6, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S8192x6144 : Shape := ⟨2, ![8192, 6144]⟩
abbrev S1x3x2048 : Shape := ⟨3, ![1, 3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S2x2048, .f32⟩
  | .hbm, ⟨8, _⟩ => ⟨S8194x2048, .f32⟩
  | .hbm, ⟨9, _⟩ => ⟨S1x1x2048, .f32⟩
  | .hbm, ⟨10, _⟩ => ⟨S2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S1x1x2048, .f32⟩
  | .hbm, ⟨19, _⟩ => ⟨S2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S1x1x2048, .f32⟩
  | .hbm, ⟨26, _⟩ => ⟨S2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== MlpUp.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S8192x2048, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlpUpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .f32⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PoolMix.lean ====
abbrev S8192x2048 : Shape := ⟨2, ![8192, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S4x512x512, .bf16⟩
  | .hbm, ⟨6, _⟩ => ⟨S8192x2048, .f32⟩
  | .hbm, ⟨7, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== PoolMixRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S4x512x8192 : Shape := ⟨3, ![4, 512, 8192]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S8192x4x512, .f32⟩
  | .hbm, ⟨5, _⟩ => ⟨S4x512x8192, .f32⟩
  | .hbm, ⟨6, _⟩ => ⟨S8192x4x512, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttOut.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S1x2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== AttOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlpDown.lean ====
abbrev S8192x8192 : Shape := ⟨2, ![8192, 8192]⟩
abbrev S8192x2048 : Shape := ⟨2, ![8192, 2048]⟩
abbrev S1x8192x2048 : Shape := ⟨3, ![1, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S1x8192x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 2, 4], ![false, false, false, false]⟩

def k0_cond3 (i : grid0.Coords) : BitVec 1 :=
  let arg3 : BitVec 32 := BitVec.ofNat 32 (i 3).val
  let c3_i32_7 : BitVec 32 := 3#32
  let v13 : BitVec 1 := Scalar.cmpi .eq arg3 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlpDownRefIdeal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PoolFwd.lean ====
abbrev S8192x2048 : Shape := ⟨2, ![8192, 2048]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolFwdRefIdeal.lean ====
abbrev S8192x2048 : Shape := ⟨2, ![8192, 2048]⟩
abbrev S8192x4x512 : Shape := ⟨3, ![8192, 4, 512]⟩
abbrev S_ : Shape := ⟨0, ![]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8190x512 : Shape := ⟨2, ![8190, 512]⟩
abbrev S8192x1 : Shape := ⟨2, ![8192, 1]⟩
abbrev S4x512 : Shape := ⟨2, ![4, 512]⟩
abbrev S8188x512 : Shape := ⟨2, ![8188, 512]⟩
abbrev S8x512 : Shape := ⟨2, ![8, 512]⟩
abbrev S8184x512 : Shape := ⟨2, ![8184, 512]⟩
abbrev S16x512 : Shape := ⟨2, ![16, 512]⟩
abbrev S8176x512 : Shape := ⟨2, ![8176, 512]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4x512, .f32⟩
  | .hbm, ⟨2, _⟩ => ⟨S_, .f32⟩
  | .hbm, ⟨3, _⟩ => ⟨S_, .f32⟩
  | .hbm, ⟨4, _⟩ => ⟨S8192x4x512, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1x512, .f32⟩
  | .hbm, ⟨10, _⟩ => ⟨S8192x512, .f32⟩
  | .hbm, ⟨11, _⟩ => ⟨S_, .f32⟩
  | .hbm, ⟨12, _⟩ => ⟨S2x512, .f32⟩
  | .hbm, ⟨13, _⟩ => ⟨S8190x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x1x512, .f32⟩
  | .hbm, ⟨23, _⟩ => ⟨S8192x512, .f32⟩
  | .hbm, ⟨24, _⟩ => ⟨S8192x512, .f32⟩
  | .hbm, ⟨25, _⟩ => ⟨S8192x1x512, .f32⟩
  | .hbm, ⟨26, _⟩ => ⟨S8192x512, .f32⟩
  | .hbm, ⟨27, _⟩ => ⟨S_, .f32⟩
  | .hbm, ⟨28, _⟩ => ⟨S4x512, .f32⟩
  | .hbm, ⟨29, _⟩ => ⟨S8188x512, .f32⟩
  | .hbm, ⟨30, _⟩ => ⟨S8192x512, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1x512, .f32⟩
  | .hbm, ⟨39, _⟩ => ⟨S8192x512, .f32⟩
  | .hbm, ⟨40, _⟩ => ⟨S8192x512, .f32⟩
  | .hbm, ⟨41, _⟩ => ⟨S8192x1x512, .f32⟩
  | .hbm, ⟨42, _⟩ => ⟨S8192x512, .f32⟩
  | .hbm, ⟨43, _⟩ => ⟨S_, .f32⟩
  | .hbm, ⟨44, _⟩ => ⟨S8x512, .f32⟩
  | .hbm, ⟨45, _⟩ => ⟨S8184x512, .f32⟩
  | .hbm, ⟨46, _⟩ => ⟨S8192x512, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x1x512, .f32⟩
  | .hbm, ⟨55, _⟩ => ⟨S8192x512, .f32⟩
  | .hbm, ⟨56, _⟩ => ⟨S8192x512, .f32⟩
  | .hbm, ⟨57, _⟩ => ⟨S8192x1x512, .f32⟩
  | .hbm, ⟨58, _⟩ => ⟨S8192x512, .f32⟩
  | .hbm, ⟨59, _⟩ => ⟨S_, .f32⟩
  | .hbm, ⟨60, _⟩ => ⟨S16x512, .f32⟩
  | .hbm, ⟨61, _⟩ => ⟨S8176x512, .f32⟩
  | .hbm, ⟨62, _⟩ => ⟨S8192x512, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x1x512, .f32⟩
  | .hbm, ⟨71, _⟩ => ⟨S8192x512, .f32⟩
  | .hbm, ⟨72, _⟩ => ⟨S8192x512, .f32⟩
  | .hbm, ⟨73, _⟩ => ⟨S8192x1x512, .f32⟩
  | .hbm, ⟨74, _⟩ => ⟨S8192x1x512, .f32⟩
  | .hbm, ⟨75, _⟩ => ⟨S8192x1x512, .f32⟩
  | .hbm, ⟨76, _⟩ => ⟨S8192x1x512, .f32⟩
  | .hbm, ⟨77, _⟩ => ⟨S8192x4x512, .f32⟩
  | .hbm, ⟨78, _⟩ => ⟨S8192x2048, .f32⟩
  | .hbm, ⟨79, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== MlpBack.lean ====
abbrev S8192x8192 : Shape := ⟨2, ![8192, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x2048 : Shape := ⟨2, ![8192, 2048]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S8192x8192, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 2, 4], ![false, false, false, false]⟩

def k0_cond3 (i : grid0.Coords) : BitVec 1 :=
  let arg3 : BitVec 32 := BitVec.ofNat 32 (i 3).val
  let c3_i32_13 : BitVec 32 := 3#32
  let v21 : BitVec 1 := Scalar.cmpi .eq arg3 c3_i32_13
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg3 c2_i32
  let c0_i32 : BitVec 32 := 0#32
  let v1 : BitVec 32 := Scalar.addi v0 c0_i32
  let c0_i32_0 : BitVec 32 := 0#32
  let c0_i32_1 : BitVec 32 := 0#32
  ![v1.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg3 c2_i32
  let c1_i32 : BitVec 32 := 1#32
  let v1 : BitVec 32 := Scalar.addi v0 c1_i32
  let c0_i32 : BitVec 32 := 0#32
  let c0_i32_0 : BitVec 32 := 0#32
  ![v1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlpBackRefIdeal.lean ====
abbrev S8192x8192 : Shape := ⟨2, ![8192, 8192]⟩
abbrev S2048x8192 : Shape := ⟨2, ![2048, 8192]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpDw.lean ====
abbrev S8192x8192 : Shape := ⟨2, ![8192, 8192]⟩
abbrev S8192x2048 : Shape := ⟨2, ![8192, 2048]⟩
abbrev S8x1024x2048 : Shape := ⟨3, ![8, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8x1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 2], ![false, false, false, false]⟩

def k0_cond3 (i : grid0.Coords) : BitVec 1 :=
  let arg3 : BitVec 32 := BitVec.ofNat 32 (i 3).val
  let c1_i32_6 : BitVec 32 := 1#32
  let v13 : BitVec 1 := Scalar.cmpi .eq arg3 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, v55.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== MlpDwRefIdeal.lean ====
abbrev S8192x8192 : Shape := ⟨2, ![8192, 8192]⟩
abbrev S8192x2048 : Shape := ⟨2, ![8192, 2048]⟩
abbrev S4x2x1024x2048 : Shape := ⟨4, ![4, 2, 1024, 2048]⟩
abbrev S2x4x1024x2048 : Shape := ⟨4, ![2, 4, 1024, 2048]⟩
abbrev S8x1024x2048 : Shape := ⟨3, ![8, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .f32⟩
  | .hbm, ⟨3, _⟩ => ⟨S8192x2048, .f32⟩
  | .hbm, ⟨4, _⟩ => ⟨S8192x2048, .bf16⟩
  | .hbm, ⟨5, _⟩ => ⟨S4x2x1024x2048, .bf16⟩
  | .hbm, ⟨6, _⟩ => ⟨S2x4x1024x2048, .bf16⟩
  | .hbm, ⟨7, _⟩ => ⟨S8x1024x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Adam.lean ====
abbrev S4x4x2048x1024 : Shape := ⟨4, ![4, 4, 2048, 1024]⟩
abbrev S8192x1024 : Shape := ⟨2, ![8192, 1024]⟩
abbrev S1x4x2048x1024 : Shape := ⟨4, ![1, 4, 2048, 1024]⟩
abbrev S4x2048x1024 : Shape := ⟨3, ![4, 2048, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4x4x2048x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x4x2048x1024, .bf16⟩
  | .hbm, ⟨5, _⟩ => ⟨S4x2048x1024, .bf16⟩
  | .hbm, ⟨6, _⟩ => ⟨S1x4x2048x1024, .bf16⟩
  | .hbm, ⟨7, _⟩ => ⟨S4x2048x1024, .bf16⟩
  | .hbm, ⟨8, _⟩ => ⟨S1x4x2048x1024, .bf16⟩
  | .hbm, ⟨9, _⟩ => ⟨S4x2048x1024, .bf16⟩
  | .hbm, ⟨10, _⟩ => ⟨S1x4x2048x1024, .bf16⟩
  | .hbm, ⟨11, _⟩ => ⟨S4x2048x1024, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S4x4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg0 c2_i32
  let c0_i32 : BitVec 32 := 0#32
  let v1 : BitVec 32 := Scalar.select v0 arg1 c0_i32
  let c2_i32_0 : BitVec 32 := 2#32
  let v2 : BitVec 1 := Scalar.cmpi .eq arg0 c2_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamRefIdeal.lean ====
abbrev S4x4x2048x1024 : Shape := ⟨4, ![4, 4, 2048, 1024]⟩
abbrev S8192x1024 : Shape := ⟨2, ![8192, 1024]⟩
abbrev S_ : Shape := ⟨0, ![]⟩
abbrev S4x2048x1024 : Shape := ⟨3, ![4, 2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x4x2048x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x4x2048x1024, .f32⟩
  | .hbm, ⟨5, _⟩ => ⟨S_, .f32⟩
  | .hbm, ⟨6, _⟩ => ⟨S4x2048x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | _, _ => ⟨S4x4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Rows.lean ====
/-
  Facts the row-blocked kernels share: 8192 rows visited in 16 blocks of 512, and a sum over the rows built up one block
  at a time.
-/
module

public import Idealize.ShloMosaic.Lib.Pipeline.Value
public import Idealize.ShloMosaic.Lib.Pointwise

@[expose] public section

noncomputable section

namespace Cert.Proof.Rows

open Idealize.ShloMosaic

/-- The zero offsets of a whole block of two axes. -/
theorem hz : (![0, 0] : Fin 2 → Nat) = fun _ => 0 := funext fun a => by fin_cases a <;> rfl

/-- A function of the rows below `n`, zero beyond. -/
def ext {n : ℕ} (f : Fin n → EReal) (k : ℕ) : EReal := if h : k < n then f ⟨k, h⟩ else 0

theorem ext_of_lt {n : ℕ} (f : Fin n → EReal) {k : ℕ} (h : k < n) : ext f k = f ⟨k, h⟩ := dif_pos h

/-- The sum over all rows. -/
theorem sum_ext {n : ℕ} (f : Fin n → EReal) : ∑ k ∈ Finset.range n, ext f k = ∑ k : Fin n, f k := by
  rw [Finset.sum_range]
  exact Finset.sum_congr rfl fun k _ => ext_of_lt f k.isLt

/-- The sum over the rows of the first `t + 1` blocks is the sum over the first `t` blocks and block `t`'s own. -/
theorem sum_block {n B : ℕ} (f : Fin n → EReal) (t : ℕ) (g : Fin B → EReal)
    (hg : ∀ r : Fin B, ∃ h : B * t + r.val < n, g r = f ⟨B * t + r.val, h⟩) :
    ∑ k ∈ Finset.range (B * (t + 1)), ext f k = ∑ k ∈ Finset.range (B * t), ext f k + ∑ r : Fin B, g r := by
  rw [Nat.mul_succ, Finset.sum_range_add]
  congr 1
  rw [Finset.sum_range]
  refine Finset.sum_congr rfl fun r _ => ?_
  obtain ⟨h, e⟩ := hg r
  rw [e, ext_of_lt]

/-- A block coordinate's place in an array of row blocks. -/
theorem at_block {a : Fin 2 → ℕ} {n : ℕ} (h : a = ![n, 0]) (r : Fin 512) (l : Fin 2048) :
    a 0 * 512 + 1 * r.val = 512 * n + r.val ∧ a 1 * 2048 + 1 * l.val = l.val := by
  subst h
  constructor
  · show n * 512 + 1 * r.val = _; omega
  · show 0 * 2048 + 1 * l.val = _; omega

/-- A coordinate's place in an array of one row. -/
theorem at_row {a : Fin 2 → ℕ} (h : a = ![0, 0]) (l : Fin 2048) : a 0 * 1 + 1 * 0 = 0 ∧ a 1 * 2048 + 1 * l.val = l.val := by
  subst h
  constructor
  · rfl
  · show 0 * 2048 + 1 * l.val = _; omega

/-- Every index lies in the block of its row. -/
theorem in_block (i : (⟨2, ![8192, 2048]⟩ : Shape).Idx) {a : Fin 2 → ℕ} (h : a = ![(i 0).val / 512, 0]) (b : Fin 2) :
    a b * ![512, 2048] b ≤ (i b).val ∧ (i b).val < a b * ![512, 2048] b + ![512, 2048] b := by
  have h0 : (i 0).val < 8192 := (i 0).isLt
  have h1 : (i 1).val < 2048 := (i 1).isLt
  subst h
  match b with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- A factor that is neither negative nor infinite goes through a sum. -/
theorem mul_sum_of_nonneg {ι : Type} {x : EReal} (h0 : 0 ≤ x) (ht : x ≠ ⊤) (s : Finset ι) (f : ι → EReal) :
    x * ∑ k ∈ s, f k = ∑ k ∈ s, x * f k := by
  induction s using Finset.cons_induction with
  | empty => simp
  | cons a s ha ih => rw [Finset.sum_cons, Finset.sum_cons, EReal.left_distrib_of_nonneg_of_ne_top h0 ht, ih]

/-- A square is not negative. -/
theorem sq_nonneg (z : EReal) : 0 ≤ z * z := by
  rcases le_total 0 z with h | h
  · exact mul_nonneg h h
  · rw [← neg_mul_neg]
    have h' : 0 ≤ -z := EReal.neg_nonneg.mpr h
    exact mul_nonneg h' h'

/-- The float32 words of the constants the kernels use. -/
theorem ofBits_half : Ideal.ofBits .f32 0x3F000000#32 = ((1 / 2 : ℝ) : EReal) := by
  norm_num [Ideal.ofBits, Ideal.ieee, BitVec.extractLsb', BitVec.ofNat, Nat.shiftRight_eq_div_pow]

theorem ofBits_neg_half : Ideal.ofBits .f32 0xBF000000#32 = ((-1 / 2 : ℝ) : EReal) := by
  norm_num [Ideal.ofBits, Ideal.ieee, BitVec.extractLsb', BitVec.ofNat, Nat.shiftRight_eq_div_pow]

theorem ofBits_two : Ideal.ofBits .f32 0x40000000#32 = ((2 : ℝ) : EReal) := by
  norm_num [Ideal.ofBits, Ideal.ieee, BitVec.extractLsb', BitVec.ofNat, Nat.shiftRight_eq_div_pow]

theorem ofBits_2048 : Ideal.ofBits .f32 0x45000000#32 = ((2048 : ℝ) : EReal) := by
  norm_num [Ideal.ofBits, Ideal.ieee, BitVec.extractLsb', BitVec.ofNat, Nat.shiftRight_eq_div_pow]

theorem ofBits_inv_2048 : Ideal.ofBits .f32 0x3A000000#32 = ((1 / 2048 : ℝ) : EReal) := by
  norm_num [Ideal.ofBits, Ideal.ieee, BitVec.extractLsb', BitVec.ofNat, Nat.shiftRight_eq_div_pow]

end Cert.Proof.Rows

end
-- ==== Proof.Scale.lean ====
/-
  The gradient of a scaling by a row vector. The kernel visits the 8192 rows in 16 blocks of 512: it scales each block's
  cotangent, and adds the block's column sums of `dy * yu` into one row of running sums. The reference is the derivative of
  `y * scale`: the scaled cotangent, and the whole column sum.
-/
module

public import proofs.«01_k».proof.Defs
public import proofs.«01_k».proof.Proof.Gen.ScaleIdeal.Value
public import proofs.«01_k».proof.Proof.Gen.ScaleRefIdeal.Read
public import proofs.«01_k».proof.Proof.Rows

@[expose] public section

set_option maxRecDepth 16384

noncomputable section

namespace Cert.Proof.Scale

open Idealize.ShloMosaic Idealize.ShloMosaic.TcCoe Idealize.SL.Sem
open Cert.Proof.Rows

section Reference

open Cert.ScaleRefIdeal Cert.ScaleRefIdeal.Gen Cert.ScaleRefIdeal.Read

/-- The reference's scaled rows. -/
theorem ref_rows (x0 : S8192x2048.Idx → EReal) (x2 : S1x2048.Idx → EReal) (i : S8192x2048.Idx) :
    val_main_v11 (F := Ideal) x0 x2 i = x0 i * x2 (ix2 0 (i 1)) := by
  simp only [val_main_v11_apply, val_main_v8_apply, val_main_v7_apply, val_main_v1_apply, val_main_v0_apply]
  show x0 i * x2 _ = _
  congr 2
  exact Shape.idx_ext₂ rfl (Nat.mod_eq_of_lt (i 1).isLt)

/-- The reference's column sums. -/
theorem ref_sums (x0 x1 : S8192x2048.Idx → EReal) (j : S1x2048.Idx) :
    val_main_v10 (F := Ideal) x0 x1 j = ∑ k : Fin 8192, x0 (ix2 k (j 1)) * x1 (ix2 k (j 1)) := by
  simp only [val_main_v10_apply, val_main_v9_apply, val_main_v6_apply, val_main_v5_apply, val_main_v4_apply,
    val_main_cst_apply, val_main_cst_0_apply]
  simp only [Ideal.ofBits_def, Ideal.ofBits_zero_f32, zero_add, Finset.univ_unique, Finset.sum_singleton]
  refine Finset.sum_congr rfl fun k _ => ?_
  show x1 _ * x0 _ = _
  rw [mul_comm]
  congr 2 <;> exact Shape.idx_ext₂ rfl (by show 0 * 2048 + (j 1).val = (j 1).val; omega)

end Reference

open Cert.ScaleIdeal Cert.ScaleIdeal.Gen

section Cases

variable {F : FTy → Type} [FloatOps F]

/-- At the first block: the scaled rows. -/
theorem rows_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (a5 : Memref sig .tc .vmem S1x2048 .f32) (h5 : a5.IsWhole)
    (hc : cond0_0 i) (x0 x1 : Vec F S512x2048 .f32) (x2 : Vec F S1x2048 .f32) :
    out0_A_3 c i a1 h1 a2 h2 a3 h3 a4 h4 a5 h5 hc x0 x1 x2 = k0_pay2 x0 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h3.read_unread, View.ld_unit_zero (S := S512x2048) hz,
    View.ld_unit_zero (S := S1x2048) hz]

/-- At a later block: the scaled rows. -/
theorem rows_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (a5 : Memref sig .tc .vmem S1x2048 .f32) (h5 : a5.IsWhole)
    (hc : ¬cond0_0 i) (x0 x1 : Vec F S512x2048 .f32) (x2 xo : Vec F S1x2048 .f32) :
    out0_B_3 c i a1 h1 a2 h2 a3 h3 a4 h4 a5 h5 hc x0 x1 x2 xo = k0_pay2 x0 x2 := by
  unfold out0_B_3
  rw [View.read_writes_eq_canon _ _ _ (cover0_B_3 c i a1 h1 a2 h2 a3 h3 a4 h4 a5 h5 hc x0 x1 x2 xo)]
  unfold kernelRun0_B
  dsimp only
  rw [View.canon_unit_zero hz]
  simp only [View.readAt_eq_ld, h1.read_unread, h3.read_unread, View.ld_unit_zero (S := S512x2048) hz,
    View.ld_unit_zero (S := S1x2048) hz]

/-- At the first block: the running sums start at zero. -/
theorem sums_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (a5 : Memref sig .tc .vmem S1x2048 .f32) (h5 : a5.IsWhole)
    (hc : cond0_0 i) (x0 x1 : Vec F S512x2048 .f32) (x2 : Vec F S1x2048 .f32) :
    out0_A_4 c i a1 h1 a2 h2 a3 h3 a4 h4 a5 h5 hc x0 x1 x2 = k0_pay3 x0 k0_pay1 x1 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, View.ld_unit_zero (S := S512x2048) hz]

/-- At a later block: the block's sums added to what the block before left. -/
theorem sums_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (a5 : Memref sig .tc .vmem S1x2048 .f32) (h5 : a5.IsWhole)
    (hc : ¬cond0_0 i) (x0 x1 : Vec F S512x2048 .f32) (x2 xo : Vec F S1x2048 .f32) :
    out0_B_4 c i a1 h1 a2 h2 a3 h3 a4 h4 a5 h5 hc x0 x1 x2 xo = k0_pay3 x0 xo x1 := by
  unfold out0_B_4
  rw [View.read_writes_eq_canon _ _ _ (cover0_B_4 c i a1 h1 a2 h2 a3 h3 a4 h4 a5 h5 hc x0 x1 x2 xo)]
  unfold kernelRun0_B
  dsimp only
  rw [View.canon_unit_zero hz]
  simp only [View.readAt_eq_ld, h1.read_unread, h2.read_unread, h5.read_unread, View.ld_unit_zero (S := S512x2048) hz,
    View.ld_unit_zero (S := S1x2048) hz]

end Cases

variable (m : (ℓ : Loc nD τ sig) → Buf (Elt Ideal) ℓ) (ρ : Dev nD → PrngReg)

/-- The three arguments on core `c`. -/
abbrev dy (c : Dev nD) : S8192x2048.Idx → EReal := m ((c : Thread nD τ).loc main_arg0)
abbrev yu (c : Dev nD) : S8192x2048.Idx → EReal := m ((c : Thread nD τ).loc main_arg1)
abbrev scale (c : Dev nD) : S1x2048.Idx → EReal := m ((c : Thread nD τ).loc main_arg2)

/-- Where the windows stand at a point: the row blocks at the point's own, the row vectors at the one there is. -/
theorem index_facts : ∀ t : Fin grid0.N, win0_0.index t = ![t.val, 0] ∧ win0_1.index t = ![t.val, 0] ∧ win0_2.index t = ![0, 0]
    ∧ win0_3.index t = ![t.val, 0] ∧ win0_4.index t = ![0, 0] := by
  decide +kernel

/-- Row `r` of block `t`. -/
abbrev row (t : Fin cfg0.N) (r : Fin 512) : Fin 8192 :=
  ⟨512 * t.val + r.val, by have := t.isLt; have h : cfg0.N = 16 := N_0; omega⟩

theorem dy_block (c : Dev nD) (t : Fin cfg0.N) (r : Fin 512) (l : Fin 2048) :
    (iblk m c 0 t : Vec Ideal S512x2048 .f32) (ix2 r l) = dy m c (ix2 (row t r) l) := by
  unfold iblk
  rw [View.read_apply]
  show dy m c _ = _
  exact congrArg _ (Shape.idx_ext₂ (at_block (index_facts t).1 r l).1 (at_block (index_facts t).1 r l).2)

theorem yu_block (c : Dev nD) (t : Fin cfg0.N) (r : Fin 512) (l : Fin 2048) :
    (iblk m c 1 t : Vec Ideal S512x2048 .f32) (ix2 r l) = yu m c (ix2 (row t r) l) := by
  unfold iblk
  rw [View.read_apply]
  show yu m c _ = _
  exact congrArg _ (Shape.idx_ext₂ (at_block (index_facts t).2.1 r l).1 (at_block (index_facts t).2.1 r l).2)

theorem scale_block (c : Dev nD) (t : Fin cfg0.N) (l : Fin 2048) :
    (iblk m c 2 t : Vec Ideal S1x2048 .f32) (ix2 0 l) = scale m c (ix2 0 l) := by
  unfold iblk
  rw [View.read_apply]
  show scale m c _ = _
  exact congrArg _ (Shape.idx_ext₂ (at_row (index_facts t).2.2.1 l).1 (at_row (index_facts t).2.2.1 l).2)

/-- The rows the kernel writes: the cotangent times the scale. -/
def G3 (c : Dev nD) : S8192x2048.Idx → Elt Ideal .bf16 := fun i => dy m c i * scale m c (ix2 0 (i 1))

/-- The row of sums the kernel writes. -/
def G4 (c : Dev nD) : S1x2048.Idx → Elt Ideal .f32 := fun j => ∑ k : Fin 8192, dy m c (ix2 k (j 1)) * yu m c (ix2 k (j 1))

/-- After every point the first output's block holds that block's scaled rows. -/
theorem rows_eq (c : Dev nD) (t : Fin cfg0.N) :
    (outsAt0 m c t.val t.isLt).1 = k0_pay2 (iblk m c 0 t) (iblk m c 2 t) := by
  by_cases h : t.val % 16 = 0
  · rw [outsAt0_A m c t h]; dsimp only; rw [rows_A]
  · rw [outsAt0_B m c t h]; dsimp only; rw [rows_B]

/-- One step of the running sums, at a column. -/
theorem step_apply (c : Dev nD) (t : Fin cfg0.N) (a : Vec Ideal S1x2048 .f32) (l : Fin 2048) :
    k0_pay3 (iblk m c 0 t) a (iblk m c 1 t) (ix2 0 l)
      = a (ix2 0 l) + ∑ r : Fin 512, dy m c (ix2 (row t r) l) * yu m c (ix2 (row t r) l) := by
  pointwise [k0_pay3]
  simp only [dy_block, yu_block]

/-- After point `n` the second output's block holds the column sums over the blocks up to `n`. -/
theorem sums_eq (c : Dev nD) (l : Fin 2048) : ∀ (n : ℕ) (h : n < cfg0.N), (outsAt0 m c n h).2 (ix2 0 l)
    = ∑ k ∈ Finset.range (512 * (n + 1)), ext (fun k : Fin 8192 => dy m c (ix2 k l) * yu m c (ix2 k l)) k
  | 0, h => by
    rw [outsAt0_A m c ⟨0, h⟩ rfl]
    dsimp only
    rw [sums_A, step_apply, sum_block _ 0 _ fun r => ⟨(row ⟨0, h⟩ r).isLt, rfl⟩]
    congr 1
    pointwise [k0_pay1]
    exact Finset.sum_range_zero _ |>.symm
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [sums_B, step_apply, sum_block _ (n + 1) _ fun r => ⟨(row ⟨n + 1, h⟩ r).isLt, rfl⟩]
    congr 1
    exact sums_eq c l n (Nat.lt_of_succ_lt h)

/-- The point of an index's row. -/
abbrev point (i : S8192x2048.Idx) : Fin cfg0.N :=
  ⟨(i 0).val / 512, by have h : (i 0).val < 8192 := (i 0).isLt; rw [show cfg0.N = 16 from N_0]; omega⟩

/-- The first output array holds the scaled rows. -/
theorem final_rows (c : Dev nD) : (dats m 0 c).arrAt 3 cfg0.N = G3 m c :=
  (dats m 0 c).arrAt_eq_of_cover 3 (G3 m c) (fun t _ => by
    rw [Value.flushed3, rows_eq]
    funext j
    rw [View.read_apply]
    obtain ⟨r, l, rfl⟩ : ∃ (r : Fin 512) (l : Fin 2048), j = ix2 r l := ⟨j 0, j 1, eq_ix2 j⟩
    show k0_pay2 (iblk m c 0 t) (iblk m c 2 t) (ix2 r l) = G3 m c _
    pointwise [k0_pay2]
    rw [dy_block, scale_block]
    have e := at_block (index_facts t).2.2.2.1 r l
    exact (congrArg (G3 m c) (Shape.idx_ext₂ e.1 e.2)).symm) fun i => by
    refine ⟨point i, flush0_3 _, ?_⟩
    show i ∈ ((View.whole main_v0_0).slice (win0_3.rect (point i))).set
    rw [View.set_slice_whole, Rect.mem_set_unit]
    have h := in_block i (index_facts (point i)).2.2.2.1
    exact fun a => match a with
      | ⟨0, _⟩ => h 0
      | ⟨1, _⟩ => h 1

/-- The last point. -/
abbrev last : Fin cfg0.N := ⟨15, by rw [show cfg0.N = 16 from N_0]; decide⟩

/-- The second output array holds the column sums. -/
theorem final_sums (c : Dev nD) : (dats m 0 c).arrAt 4 cfg0.N = G4 m c :=
  have hz' : (fun a => win0_4.index last a * main_v0_1.ty.shape.size a) = fun _ => 0 := funext fun a => by
    rw [(index_facts last).2.2.2.2]; fin_cases a <;> rfl
  (dats m 0 c).arrAt_eq_of_cover 4 (G4 m c) (fun t hf => by
    have hN : cfg0.N = 16 := N_0
    obtain rfl : t = last := Fin.ext (by have := (flush0_4 t).mp hf; have := t.isLt; show t.val = 15; omega)
    rw [Value.flushed4]
    refine Eq.trans ?_ (Memref.read_access_unit_zero (Elt Ideal) main_v0_1 hz' (fun a => by rw [congrFun hz' a]; simp) (G4 m c)).symm
    funext y
    obtain ⟨l, rfl⟩ : ∃ l : Fin 2048, y = ix2 0 l := ⟨y 1, (eq_ix2 y).trans (by congr 1; exact Subsingleton.elim (α := Fin 1) _ _)⟩
    exact (sums_eq m c l 15 _).trans (sum_ext _)) fun i => ⟨last, (flush0_4 last).mpr rfl, by
      show i ∈ ((View.whole main_v0_1).slice (win0_4.rect last)).set
      rw [View.set_slice_whole]
      exact View.mem_set_unit_zero hz' _ i⟩

/-- The kernel's run, its two results read as whole arrays. -/
theorem run : θ_run defs (onTc (τ := τ) (main (F := Ideal))) ⟨m, fun _ => 0, ρ⟩ fun r => ∀ c : Dev nD,
      r.2.mem ((c : Thread nD τ).loc main_v0_0) = G3 m c
      ∧ r.2.mem ((c : Thread nD τ).loc main_v0_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_rows m c), (h c).2.1.trans (final_sums m c), (h c).2.2⟩)
    (Value.run_blocks m ρ)

theorem algebraic : Cert.algebraic_ScaleIdeal_ScaleRefIdeal := by
  intro m ρ m' ρ' _ hag
  refine ⟨fun c => G3 m c, fun c => G4 m c, run m ρ,
    (θ_run _ _ _).mono (fun _ h c => ⟨(h c).1.trans ?_, (h c).2.1.trans ?_, (h c).2.2⟩) (Cert.ScaleRefIdeal.Value.run m' ρ')⟩
  · rw [Cert.ScaleRefIdeal.Read.val_main_v11_eq, (hag c).1, (hag c).2.2]; exact funext fun i => ref_rows _ _ i
  · rw [Cert.ScaleRefIdeal.Read.val_main_v10_eq, (hag c).1, (hag c).2.1]; exact funext fun j => ref_sums _ _ j

end Cert.Proof.Scale

end
-- ==== Proof.Glu.lean ====
/-
  The gated linear unit's gradient. The reference is the derivative of `value * sigmoid(gate)`, written as
  `1 / (1 + exp (-gate))`; the kernel multiplies `dy * value * s * (1 - s)` with the core's own sigmoid `s`. At the ideal
  instance the two sigmoids are one function and the two products differ in order only, so no assumption on the
  arguments is needed.
-/
module

public import proofs.«01_k».proof.Defs
public import proofs.«01_k».proof.Proof.Gen.GluIdeal.Value
public import proofs.«01_k».proof.Proof.Gen.GluRefIdeal.Read
public import Idealize.ShloMosaic.Lib.IdealHost
public import Idealize.ShloMosaic.Lib.ValueIdxCore

@[expose] public section

noncomputable section

namespace Cert.Proof.Glu

open Idealize.ShloMosaic Idealize.ShloMosaic.TcCoe Idealize.SL.Sem Idealize.ShloMosaic.ValueIdx
open Cert.GluRefIdeal Cert.GluRefIdeal.Gen Cert.GluRefIdeal.Read

/-- The reference's sigmoid of the gate columns is the ideal sigmoid. -/
theorem sigmoid_eq (z : S8192x4096.Idx → Elt Ideal .f32) (i : S8192x2048.Idx) :
    val_main_v7 (F := Ideal) z i = Ideal.logistic (z (idx_main_v1 i)) := by
  rw [val_main_v7_apply, val_main_v6_apply, val_main_v5_apply, val_main_v4_apply, val_main_v3_apply, val_main_v2_apply,
    val_main_v1_apply, val_main_cst_apply, val_main_cst_0_apply]
  simp only [Ideal.hostDivf_def, Ideal.addf_def, Ideal.hostUnary_exp_def, Ideal.hostNegf_def, Ideal.negf_def,
    Ideal.ofBits_def, Ideal.ofBits_one_f32, Ideal.logistic]

/-- The gradient's value columns: `dy * s`. -/
theorem left_eq (z : S8192x4096.Idx → Elt Ideal .f32) (dy : S8192x2048.Idx → Elt Ideal .f32) :
    val_main_v18 (F := Ideal) z dy = Cert.GluIdeal.Value.G3 z dy := by
  funext i
  rw [val_main_v18_apply, val_main_v16_apply]
  unfold val_main_v15
  rw [concatenate_pair_apply_left (t := S8192x4096) (s₁ := S8192x2048) (s₂ := S8192x2048) 1 _ _ _ (idx_main_v16 i) rfl i
    (fun b => by match b with | ⟨0, _⟩ => rfl | ⟨1, _⟩ => rfl), val_main_v13_apply, sigmoid_eq]
  simp only [Cert.GluIdeal.Value.G3, Ideal.truncf_def, Ideal.mulf_def, Ideal.logistic_def]
  congr 3
  funext a
  match a with
  | ⟨0, _⟩ => rfl
  | ⟨1, _⟩ => exact Fin.ext (Nat.add_comm _ _)

/-- The gradient's gate columns: `dy * value * s * (1 - s)`. -/
theorem right_eq (z : S8192x4096.Idx → Elt Ideal .f32) (dy : S8192x2048.Idx → Elt Ideal .f32) :
    val_main_v19 (F := Ideal) z dy = Cert.GluIdeal.Value.G4 z dy z := by
  funext i
  rw [val_main_v19_apply, val_main_v17_apply]
  unfold val_main_v15
  rw [concatenate_pair_apply_right (t := S8192x4096) (s₁ := S8192x2048) (s₂ := S8192x2048) 1 _ _ _ (idx_main_v17 i) rfl rfl i
    (fun b hb => by match b with | ⟨0, _⟩ => rfl | ⟨1, _⟩ => exact absurd rfl hb) (Nat.add_comm _ _),
    val_main_v14_apply, val_main_v12_apply, val_main_v10_apply, val_main_v9_apply, val_main_v8_apply,
    val_main_cst_1_apply, val_main_v0_apply, sigmoid_eq]
  have h1 : idx_main_v1 i = Cert.GluIdeal.Value.inIdx4_0 i := by
    funext a
    match a with
    | ⟨0, _⟩ => rfl
    | ⟨1, _⟩ => exact Fin.ext (Nat.add_comm _ _)
  have h0 : idx_main_v0 i = Cert.GluIdeal.Value.inIdx4_2 i := by
    funext a
    match a with
    | ⟨0, _⟩ => rfl
    | ⟨1, _⟩ => rfl
  rw [h0, h1]
  simp only [Cert.GluIdeal.Value.G4, Ideal.truncf_def, Ideal.mulf_def, Ideal.subf_def, Ideal.logistic_def, Ideal.ofBits_def,
    Scalar.ofBits, Ideal.ofBits_one_f32]
  rw [mul_comm (z _) (dy _), mul_assoc, mul_assoc, mul_assoc]

/-- Both programs end with the same two arrays. -/
theorem algebraic : Cert.algebraic_GluIdeal_GluRefIdeal := by
  intro m ρ m' ρ' _ hag
  refine ⟨fun c => Cert.GluIdeal.Value.G3 _ _, fun c => Cert.GluIdeal.Value.G4 _ _ _, Cert.GluIdeal.Value.run m ρ,
    (θ_run _ _ _).mono (fun _ h c => ⟨(h c).1.trans ?_, (h c).2.1.trans ?_, (h c).2.2⟩) (Cert.GluRefIdeal.Value.run m' ρ')⟩
  · rw [val_main_v18_eq, (hag c).1, (hag c).2]; exact left_eq _ _
  · rw [val_main_v19_eq, (hag c).1, (hag c).2]; exact right_eq _ _

end Cert.Proof.Glu

end
-- ==== Proof.Loss.lean ====
/-
  The loss and its gradient. The kernel visits the 8192 rows in 16 blocks of 512: it writes each block's `(y - target)/2048`,
  once as it is and once narrowed, and adds half the block's mean squares into one running number. The reference is the loss
  `0.5 * sum over rows of the mean of (y - target)²` and its derivative.
-/
module

public import proofs.«01_k».proof.Defs
public import proofs.«01_k».proof.Proof.Gen.LossIdeal.Value
public import proofs.«01_k».proof.Proof.Gen.LossRefIdeal.Read
public import proofs.«01_k».proof.Proof.Rows

@[expose] public section

set_option maxRecDepth 16384

noncomputable section

namespace Cert.Proof.Loss

open Idealize.ShloMosaic Idealize.ShloMosaic.TcCoe Idealize.SL.Sem
open Cert.Proof.Rows

/-- The mean over a row of the squared difference. -/
def meanSq (x0 x1 : (Shape.mk 2 ![8192, 2048]).Idx → EReal) (k : Fin 8192) : EReal :=
  Ideal.div (∑ l : Fin 2048, (x0 (ix2 k l) - x1 (ix2 k l)) * (x0 (ix2 k l) - x1 (ix2 k l))) ((2048 : ℝ) : EReal)

section Reference

open Cert.LossRefIdeal Cert.LossRefIdeal.Gen Cert.LossRefIdeal.Read

/-- The reference's gradient. -/
theorem ref_grad (x0 x1 : S8192x2048.Idx → EReal) (i : S8192x2048.Idx) :
    val_main_v14 (F := Ideal) x0 x1 i = (x0 i - x1 i) * ((1 / 2048 : ℝ) : EReal) := by
  simp only [val_main_v14_apply, val_main_v13_apply, val_main_v12_apply, val_main_v11_apply, val_main_cst_6_apply,
    val_main_v10_apply, val_main_v9_apply, val_main_cst_4_apply, val_main_cst_5_apply, val_main_v3_apply, val_main_v2_apply,
    val_main_cst_apply, val_main_v0_apply]
  show Ideal.div (Ideal.ofBits .f32 0x3F000000#32 * Ideal.ofBits .f32 0x3F800000#32) (Ideal.ofBits .f32 0x45000000#32)
    * (Ideal.ofBits .f32 0x40000000#32 * (x0 i - x1 i)) = _
  rw [ofBits_half, ofBits_2048, ofBits_two, Ideal.ofBits_one_f32, mul_one, Ideal.div_coe (by norm_num), ← mul_assoc,
    ← EReal.coe_mul, ← EReal.coe_mul, mul_comm]
  norm_num

/-- The reference's loss. -/
theorem ref_loss (x0 x1 : S8192x2048.Idx → EReal) (j : S1x1.Idx) :
    val_main_v15 (F := Ideal) x0 x1 j = ((1 / 2 : ℝ) : EReal) * ∑ k : Fin 8192, meanSq x0 x1 k := by
  unfold val_main_v15
  rw [shapeCast_apply _ shapeCasts_S_S1x1 j ix0 (by
    have h : (S_.rowMajor ix0).val < 1 := (S_.rowMajor ix0).isLt
    have h' : (S1x1.rowMajor j).val < 1 := (S1x1.rowMajor j).isLt
    omega)]
  simp only [val_main_v8_apply, val_main_cst_3_apply, val_main_v7_apply, val_main_v6_apply, val_main_v5_apply,
    val_main_v4_apply, val_main_v1_apply, val_main_v0_apply, val_main_cst_0_apply, val_main_cst_1_apply, val_main_cst_2_apply]
  simp only [Ideal.ofBits_def, Ideal.ofBits_zero_f32, zero_add]
  rw [ofBits_half, ofBits_2048]
  refine congrArg (HMul.hMul ((1 / 2 : ℝ) : EReal)) ((sum_idx1 _).trans (Finset.sum_congr rfl fun k _ => ?_))
  unfold meanSq
  refine congrArg (Ideal.div · ((2048 : ℝ) : EReal)) (Finset.sum_congr rfl fun l _ => ?_)
  have e : idx_main_v4 (ix1 k) l = ix2 k l := Shape.idx_ext₂ rfl rfl
  rw [e]
  rfl

end Reference

open Cert.LossIdeal Cert.LossIdeal.Gen

section Cases

variable {F : FTy → Type} [FloatOps F]

/-- At the first block: the running number starts at zero. -/
theorem loss_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : cond0_0 i) (x0 x1 : Vec F S512x2048 .f32) :
    out0_A_2 c i a1 h1 a2 h2 a3 h3 a4 h4 a5 h5 hc x0 x1 = k0_pay3 x0 x1 k0_pay1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x2048) hz]

/-- At a later block: the block's own added to what the block before left. -/
theorem loss_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : ¬cond0_0 i) (x0 x1 : Vec F S512x2048 .f32) (xo : Vec F S1x1 .f32) :
    out0_B_2 c i a1 h1 a2 h2 a3 h3 a4 h4 a5 h5 hc x0 x1 xo = k0_pay3 x0 x1 xo := by
  unfold out0_B_2
  rw [View.read_writes_eq_canon _ _ _ (cover0_B_2 c i a1 h1 a2 h2 a3 h3 a4 h4 a5 h5 hc x0 x1 xo)]
  unfold kernelRun0_B
  dsimp only
  rw [View.canon_unit_zero hz]
  simp only [View.readAt_eq_ld, h1.read_unread, h2.read_unread, h3.read_unread, View.ld_unit_zero (S := S512x2048) hz,
    View.ld_unit_zero (S := S1x1) hz]

/-- At the first block: the gradient. -/
theorem grad_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : cond0_0 i) (x0 x1 : Vec F S512x2048 .f32) :
    out0_A_3 c i a1 h1 a2 h2 a3 h3 a4 h4 a5 h5 hc x0 x1 = k0_pay4 x0 x1 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_unit_zero hz]
  simp only [View.readAt_eq_ld, h1.read_unread, h2.read_unread, View.ld_unit_zero (S := S512x2048) hz]

/-- At a later block: the gradient. -/
theorem grad_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : ¬cond0_0 i) (x0 x1 : Vec F S512x2048 .f32) (xo : Vec F S1x1 .f32) :
    out0_B_3 c i a1 h1 a2 h2 a3 h3 a4 h4 a5 h5 hc x0 x1 xo = k0_pay4 x0 x1 := by
  unfold out0_B_3
  rw [View.read_writes_eq_canon _ _ _ (cover0_B_3 c i a1 h1 a2 h2 a3 h3 a4 h4 a5 h5 hc x0 x1 xo)]
  unfold kernelRun0_B
  dsimp only
  rw [View.canon_unit_zero hz]
  simp only [View.readAt_eq_ld, h1.read_unread, h2.read_unread, View.ld_unit_zero (S := S512x2048) hz]

/-- At the first block: the gradient, narrowed. -/
theorem narrow_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : cond0_0 i) (x0 x1 : Vec F S512x2048 .f32) :
    out0_A_4 c i a1 h1 a2 h2 a3 h3 a4 h4 a5 h5 hc x0 x1 = k0_pay5 x0 x1 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_unit_zero hz]
  simp only [View.readAt_eq_ld, h1.read_unread, h2.read_unread, View.ld_unit_zero (S := S512x2048) hz]

/-- At a later block: the gradient, narrowed. -/
theorem narrow_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S512x2048 .f32) (h4 : a4.IsWhole) (a5 : Memref sig .tc .vmem S512x2048 .bf16) (h5 : a5.IsWhole)
    (hc : ¬cond0_0 i) (x0 x1 : Vec F S512x2048 .f32) (xo : Vec F S1x1 .f32) :
    out0_B_4 c i a1 h1 a2 h2 a3 h3 a4 h4 a5 h5 hc x0 x1 xo = k0_pay5 x0 x1 := by
  unfold out0_B_4
  rw [View.read_writes_eq_canon _ _ _ (cover0_B_4 c i a1 h1 a2 h2 a3 h3 a4 h4 a5 h5 hc x0 x1 xo)]
  unfold kernelRun0_B
  dsimp only
  rw [View.canon_unit_zero hz]
  simp only [View.readAt_eq_ld, h1.read_unread, h2.read_unread, View.ld_unit_zero (S := S512x2048) hz]

end Cases

variable (m : (ℓ : Loc nD τ sig) → Buf (Elt Ideal) ℓ) (ρ : Dev nD → PrngReg)

/-- The two arguments on core `c`. -/
abbrev y (c : Dev nD) : S8192x2048.Idx → EReal := m ((c : Thread nD τ).loc main_arg0)
abbrev target (c : Dev nD) : S8192x2048.Idx → EReal := m ((c : Thread nD τ).loc main_arg1)

/-- Where the windows stand at a point: the row blocks at the point's own, the loss at the one there is. -/
theorem index_facts : ∀ t : Fin grid0.N, win0_0.index t = ![t.val, 0] ∧ win0_1.index t = ![t.val, 0] ∧ win0_2.index t = ![0, 0]
    ∧ win0_3.index t = ![t.val, 0] ∧ win0_4.index t = ![t.val, 0] := by
  decide +kernel

/-- Row `r` of block `t`. -/
abbrev row (t : Fin cfg0.N) (r : Fin 512) : Fin 8192 :=
  ⟨512 * t.val + r.val, by have := t.isLt; have h : cfg0.N = 16 := N_0; omega⟩

theorem y_block (c : Dev nD) (t : Fin cfg0.N) (r : Fin 512) (l : Fin 2048) :
    (iblk m c 0 t : Vec Ideal S512x2048 .f32) (ix2 r l) = y m c (ix2 (row t r) l) := by
  unfold iblk
  rw [View.read_apply]
  show y m c _ = _
  exact congrArg _ (Shape.idx_ext₂ (at_block (index_facts t).1 r l).1 (at_block (index_facts t).1 r l).2)

theorem target_block (c : Dev nD) (t : Fin cfg0.N) (r : Fin 512) (l : Fin 2048) :
    (iblk m c 1 t : Vec Ideal S512x2048 .f32) (ix2 r l) = target m c (ix2 (row t r) l) := by
  unfold iblk
  rw [View.read_apply]
  show target m c _ = _
  exact congrArg _ (Shape.idx_ext₂ (at_block (index_facts t).2.1 r l).1 (at_block (index_facts t).2.1 r l).2)

/-- The gradient the kernel writes, and the loss. -/
def grad (c : Dev nD) : S8192x2048.Idx → EReal := fun i => (y m c i - target m c i) * ((1 / 2048 : ℝ) : EReal)
def loss (c : Dev nD) : S1x1.Idx → Elt Ideal .f32 := fun _ => ((1 / 2 : ℝ) : EReal) * ∑ k : Fin 8192, meanSq (y m c) (target m c) k

/-- After every point the second output's block holds that block's gradient. -/
theorem grad_eq (c : Dev nD) (t : Fin cfg0.N) :
    (outsAt0 m c t.val t.isLt).2.1 = k0_pay4 (iblk m c 0 t) (iblk m c 1 t) := by
  by_cases h : t.val % 16 = 0
  · rw [outsAt0_A m c t h]; dsimp only; rw [grad_A]
  · rw [outsAt0_B m c t h]; dsimp only; rw [grad_B]

/-- After every point the third output's block holds that block's gradient, narrowed. -/
theorem narrow_eq (c : Dev nD) (t : Fin cfg0.N) :
    (outsAt0 m c t.val t.isLt).2.2 = k0_pay5 (iblk m c 0 t) (iblk m c 1 t) := by
  by_cases h : t.val % 16 = 0
  · rw [outsAt0_A m c t h]; dsimp only; rw [narrow_A]
  · rw [outsAt0_B m c t h]; dsimp only; rw [narrow_B]

/-- A block's gradient at an index. -/
theorem grad_apply (c : Dev nD) (t : Fin cfg0.N) (r : Fin 512) (l : Fin 2048) :
    k0_pay4 (iblk m c 0 t) (iblk m c 1 t) (ix2 r l) = grad m c (ix2 (row t r) l) := by
  pointwise [k0_pay4, k0_pay2]
  rw [y_block, target_block, ofBits_inv_2048]
  rfl

/-- One step of the running number. -/
theorem step_apply (c : Dev nD) (t : Fin cfg0.N) (a : Vec Ideal S1x1 .f32) :
    k0_pay3 (iblk m c 0 t) (iblk m c 1 t) a (ix2 0 0)
      = a (ix2 0 0) + ∑ r : Fin 512, ((1 / 2 : ℝ) : EReal) * meanSq (y m c) (target m c) (row t r) := by
  rw [← mul_sum_of_nonneg (by norm_num) (EReal.coe_ne_top _)]
  pointwise [k0_pay3, k0_pay2]
  simp only [y_block, target_block, ofBits_half, ofBits_2048]
  rfl

/-- After point `n` the first output's block holds the loss over the blocks up to `n`. -/
theorem loss_eq (c : Dev nD) : ∀ (n : ℕ) (h : n < cfg0.N), (outsAt0 m c n h).1 (ix2 0 0)
    = ∑ k ∈ Finset.range (512 * (n + 1)), ext (fun k : Fin 8192 => ((1 / 2 : ℝ) : EReal) * meanSq (y m c) (target m c) k) k
  | 0, h => by
    rw [outsAt0_A m c ⟨0, h⟩ rfl]
    dsimp only
    rw [loss_A, step_apply, sum_block _ 0 _ fun r => ⟨(row ⟨0, h⟩ r).isLt, rfl⟩]
    congr 1
    pointwise [k0_pay1]
    exact Finset.sum_range_zero _ |>.symm
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [loss_B, step_apply, sum_block _ (n + 1) _ fun r => ⟨(row ⟨n + 1, h⟩ r).isLt, rfl⟩]
    congr 1
    exact loss_eq c n (Nat.lt_of_succ_lt h)

/-- The point of an index's row. -/
abbrev point (i : S8192x2048.Idx) : Fin cfg0.N :=
  ⟨(i 0).val / 512, by have h : (i 0).val < 8192 := (i 0).isLt; rw [show cfg0.N = 16 from N_0]; omega⟩

/-- The second output array holds the gradient. -/
theorem final_grad (c : Dev nD) : (dats m 0 c).arrAt 3 cfg0.N = grad m c :=
  (dats m 0 c).arrAt_eq_of_cover 3 (grad m c) (fun t _ => by
    rw [Value.flushed3, grad_eq]
    funext j
    rw [View.read_apply]
    obtain ⟨r, l, rfl⟩ : ∃ (r : Fin 512) (l : Fin 2048), j = ix2 r l := ⟨j 0, j 1, eq_ix2 j⟩
    show k0_pay4 (iblk m c 0 t) (iblk m c 1 t) (ix2 r l) = grad m c _
    rw [grad_apply]
    exact (congrArg _ (Shape.idx_ext₂ (at_block (index_facts t).2.2.2.1 r l).1
      (at_block (index_facts t).2.2.2.1 r l).2)).symm) fun i => by
    refine ⟨point i, flush0_3 _, ?_⟩
    show i ∈ ((View.whole main_v0_1).slice (win0_3.rect (point i))).set
    rw [View.set_slice_whole, Rect.mem_set_unit]
    have h := in_block i (index_facts (point i)).2.2.2.1
    exact fun a => match a with
      | ⟨0, _⟩ => h 0
      | ⟨1, _⟩ => h 1

/-- The third output array holds the gradient, narrowed. -/
theorem final_narrow (c : Dev nD) : (dats m 0 c).arrAt 4 cfg0.N = grad m c :=
  (dats m 0 c).arrAt_eq_of_cover 4 (grad m c) (fun t _ => by
    rw [Value.flushed4, narrow_eq]
    funext j
    rw [View.read_apply]
    obtain ⟨r, l, rfl⟩ : ∃ (r : Fin 512) (l : Fin 2048), j = ix2 r l := ⟨j 0, j 1, eq_ix2 j⟩
    show k0_pay4 (iblk m c 0 t) (iblk m c 1 t) (ix2 r l) = grad m c _
    rw [grad_apply]
    exact (congrArg _ (Shape.idx_ext₂ (at_block (index_facts t).2.2.2.2 r l).1
      (at_block (index_facts t).2.2.2.2 r l).2)).symm) fun i => by
    refine ⟨point i, flush0_4 _, ?_⟩
    show i ∈ ((View.whole main_v0_2).slice (win0_4.rect (point i))).set
    rw [View.set_slice_whole, Rect.mem_set_unit]
    have h := in_block i (index_facts (point i)).2.2.2.2
    exact fun a => match a with
      | ⟨0, _⟩ => h 0
      | ⟨1, _⟩ => h 1

/-- The last point. -/
abbrev last : Fin cfg0.N := ⟨15, by rw [show cfg0.N = 16 from N_0]; decide⟩

/-- The first output array holds the loss. -/
theorem final_loss (c : Dev nD) : (dats m 0 c).arrAt 2 cfg0.N = loss m c :=
  have hz' : (fun a => win0_2.index last a * main_v0_0.ty.shape.size a) = fun _ => 0 := funext fun a => by
    rw [(index_facts last).2.2.1]; fin_cases a <;> rfl
  (dats m 0 c).arrAt_eq_of_cover 2 (loss m c) (fun t hf => by
    have hN : cfg0.N = 16 := N_0
    obtain rfl : t = last := Fin.ext (by have := (flush0_2 t).mp hf; have := t.isLt; show t.val = 15; omega)
    rw [Value.flushed2]
    refine Eq.trans ?_ (Memref.read_access_unit_zero (Elt Ideal) main_v0_0 hz' (fun a => by rw [congrFun hz' a]; simp) (loss m c)).symm
    funext j
    obtain rfl : j = ix2 0 0 := Shape.idx_ext₂ (Nat.lt_one_iff.mp (j 0).isLt) (Nat.lt_one_iff.mp (j 1).isLt)
    refine (loss_eq m c 15 _).trans ((sum_ext _).trans ?_)
    exact (mul_sum_of_nonneg (by norm_num) (EReal.coe_ne_top _) _ _).symm) fun i => ⟨last, (flush0_2 last).mpr rfl, by
      show i ∈ ((View.whole main_v0_0).slice (win0_2.rect last)).set
      rw [View.set_slice_whole]
      exact View.mem_set_unit_zero hz' _ i⟩

theorem algebraic : Cert.algebraic_LossIdeal_LossRefIdeal := by
  intro m ρ m' ρ' _ hag
  refine ⟨fun c => loss m c, fun c => grad m c, fun c => grad m c,
    (θ_run _ _ _).mono (fun _ h c => ⟨(h c).1.trans (final_loss m c), (h c).2.1.trans (final_grad m c),
      (h c).2.2.1.trans (final_narrow m c), (h c).2.2.2⟩) (Value.run_blocks m ρ),
    (θ_run _ _ _).mono (fun _ h c => ⟨(h c).1.trans ?_, (h c).2.1.trans ?_, (h c).2.2.1.trans ?_, (h c).2.2.2⟩)
      (Cert.LossRefIdeal.Value.run m' ρ')⟩
  · rw [Cert.LossRefIdeal.Read.val_main_v15_eq, (hag c).1, (hag c).2]; exact funext fun j => ref_loss _ _ j
  · rw [Cert.LossRefIdeal.Read.val_main_v14_eq, (hag c).1, (hag c).2]; exact funext fun i => ref_grad _ _ i
  · rw [Cert.LossRefIdeal.Read.val_main_v16_eq, (hag c).1, (hag c).2]; exact funext fun i => ref_grad _ _ i

end Cert.Proof.Loss

end
-- ==== Proof.Rms.lean ====
/-
  The gradient of the root-mean-square norm, with the residual's gradient added. The kernel visits the 8192 rows in 16 blocks
  of 512: it writes each block's gradient, once as it is and once narrowed, and adds the block's column sums for the gain's
  gradient into one row of running sums. The reference is the derivative of `x * rsqrt(mean x² + eps) * gain`.

  The two agree on all extended reals. A row's `mean x² + eps` is positive: where it is infinite its inverse root is zero and
  both gradients are the residual's alone; where it is a real number its inverse root is a positive real, which goes through
  every sum and difference.
-/
module

public import proofs.«01_k».proof.Defs
public import proofs.«01_k».proof.Proof.Gen.RmsIdeal.Value
public import proofs.«01_k».proof.Proof.Gen.RmsRefIdeal.Read
public import proofs.«01_k».proof.Proof.Rows

@[expose] public section

set_option maxRecDepth 16384

noncomputable section

namespace Cert.Proof.Rms

open Idealize.ShloMosaic Idealize.ShloMosaic.TcCoe Idealize.SL.Sem
open Cert.Proof.Rows

/-! ## The equation of one element -/

/-- The small constant under the root. -/
def eps : EReal := Ideal.ofBits .f32 0x358637BD#32

theorem eps_pos : 0 < eps := by
  unfold eps
  norm_num [Ideal.ofBits, Ideal.ieee, BitVec.extractLsb', BitVec.ofNat, Nat.shiftRight_eq_div_pow]

/-- A number times `-d`, twice, for a real `d` that is not negative. -/
theorem add_self_neg (z : EReal) {d : ℝ} (hd : 0 ≤ d) : z * ((-d : ℝ) : EReal) + z * ((-d : ℝ) : EReal) = -(z * ((d + d : ℝ) : EReal)) := by
  have h : (0 : EReal) ≤ (d : EReal) := by exact_mod_cast hd
  rw [EReal.coe_neg, mul_neg, ← neg_mul, EReal.coe_add, ← neg_mul, EReal.left_distrib_of_nonneg h h]

/-- One element of the gradient: as the kernel computes it from `x`, its row's `s = mean x² + eps` and the scaled cotangent,
    and as the derivative of the norm has it, where `A` is the row's sum of `x` times the scaled cotangent. -/
theorem element (s : EReal) (hs : 0 < s) (dres g x A : EReal) :
    dres + Ideal.rsqrt s * (g - x * Ideal.rsqrt s * Ideal.div (Ideal.rsqrt s * A) ((2048 : ℝ) : EReal))
      = dres + g * Ideal.rsqrt s + x * Ideal.div (A * (((-1 / 2 : ℝ) : EReal) * Ideal.div (Ideal.rsqrt s) s)) ((2048 : ℝ) : EReal)
        + Ideal.div (A * (((-1 / 2 : ℝ) : EReal) * Ideal.div (Ideal.rsqrt s) s)) ((2048 : ℝ) : EReal) * x := by
  induction s using EReal.rec with
  | bot => exact absurd hs (by simp)
  | top => simp [Ideal.div]
  | coe σ =>
    have hσ : 0 < σ := by exact_mod_cast hs
    obtain ⟨ρ, hρ, e⟩ : ∃ ρ : ℝ, 0 < ρ ∧ ρ * ρ * σ = 1 ∧ Ideal.rsqrt (σ : EReal) = (ρ : EReal) := by
      refine ⟨(Real.sqrt σ)⁻¹, by positivity, ?_, ?_⟩
      · have := Real.mul_self_sqrt hσ.le
        have h0 : Real.sqrt σ ≠ 0 := (Real.sqrt_pos.mpr hσ).ne'
        field_simp
        nlinarith
      · rw [Ideal.rsqrt_coe, if_neg (by linarith), if_neg hσ.ne']
    obtain ⟨e1, e2⟩ := e
    rw [e2, Ideal.div_coe hσ.ne', Ideal.div_coe (by norm_num), Ideal.div_coe (by norm_num)]
    have hc : ((ρ : EReal) * ((1 / σ : ℝ) : EReal)) = ((ρ * ρ * ρ : ℝ) : EReal) := by
      rw [← EReal.coe_mul]; congr 1; field_simp; nlinarith
    rw [hc]
    have h0 : (0 : EReal) ≤ (ρ : EReal) := by exact_mod_cast hρ.le
    have hl : (ρ : EReal) * (g - x * ρ * (ρ * A * ((1 / 2048 : ℝ) : EReal)))
        = g * ρ + -(x * A * ((ρ * ρ * ρ / 4096 + ρ * ρ * ρ / 4096 : ℝ) : EReal)) := by
      rw [sub_eq_add_neg, EReal.left_distrib_of_nonneg_of_ne_top h0 (EReal.coe_ne_top _), mul_neg, mul_comm (ρ : EReal) g,
        show ρ * ρ * ρ / 4096 + ρ * ρ * ρ / 4096 = ρ * ρ * ρ * (1 / 2048) by ring, EReal.coe_mul, EReal.coe_mul, EReal.coe_mul]
      congr 2
      ac_rfl
    have hr : A * (((-1 / 2 : ℝ) : EReal) * ((ρ * ρ * ρ : ℝ) : EReal)) * ((1 / 2048 : ℝ) : EReal)
        = A * ((-(ρ * ρ * ρ / 4096) : ℝ) : EReal) := by
      rw [← EReal.coe_mul, mul_assoc, ← EReal.coe_mul]
      congr 2
      ring
    rw [hl, hr, ← add_self_neg (x * A) (by positivity), mul_comm _ x, ← mul_assoc, add_assoc, add_assoc]

section Reference

open Cert.RmsRefIdeal Cert.RmsRefIdeal.Gen Cert.RmsRefIdeal.Read

variable (dh x dres : (⟨2, ![8192, 2048]⟩ : Shape).Idx → EReal) (gain : (⟨2, ![1, 2048]⟩ : Shape).Idx → EReal)

/-- A row's mean square, and the constant. -/
def sq (k : Fin 8192) : EReal := Ideal.div (∑ l : Fin 2048, x (ix2 k l) * x (ix2 k l)) ((2048 : ℝ) : EReal) + eps

/-- The gradient's element, as the kernel computes it. -/
def dxAt (k : Fin 8192) (l : Fin 2048) : EReal :=
  dres (ix2 k l) + Ideal.rsqrt (sq x k) * (dh (ix2 k l) * gain (ix2 0 l) - x (ix2 k l) * Ideal.rsqrt (sq x k)
    * Ideal.div (∑ c : Fin 2048, dh (ix2 k c) * gain (ix2 0 c) * (x (ix2 k c) * Ideal.rsqrt (sq x k))) ((2048 : ℝ) : EReal))

/-- The gain's gradient at a column. -/
def dgainAt (l : Fin 2048) : EReal := ∑ k : Fin 8192, dh (ix2 k l) * (x (ix2 k l) * Ideal.rsqrt (sq x k))

theorem sq_pos (k : Fin 8192) : 0 < sq x k := by
  have h : 0 ≤ Ideal.div (∑ l : Fin 2048, x (ix2 k l) * x (ix2 k l)) ((2048 : ℝ) : EReal) := by
    rw [Ideal.div_coe (by norm_num)]
    exact mul_nonneg (Finset.sum_nonneg fun l _ => sq_nonneg _) (by norm_num)
  exact lt_of_lt_of_le eps_pos (le_add_of_nonneg_left h)

theorem rsqrt_bounds {s : EReal} (hs : 0 < s) : 0 ≤ Ideal.rsqrt s ∧ Ideal.rsqrt s ≠ ⊤ := by
  induction s using EReal.rec with
  | bot => exact absurd hs (by simp)
  | top => simp
  | coe σ =>
    have hσ : 0 < σ := by exact_mod_cast hs
    rw [Ideal.rsqrt_coe, if_neg (by linarith), if_neg hσ.ne']
    exact ⟨by exact_mod_cast inv_nonneg.mpr (Real.sqrt_nonneg σ), EReal.coe_ne_top _⟩

theorem ref_dx (k : Fin 8192) (l : Fin 2048) : val_main_v37 (F := Ideal) dh x gain dres (ix2 k l) = dxAt dh x dres gain k l := by
  have hA : ∑ c : Fin 2048, dh (ix2 k c) * gain (ix2 0 c) * (x (ix2 k c) * Ideal.rsqrt (sq x k))
      = Ideal.rsqrt (sq x k) * ∑ c : Fin 2048, x (ix2 k c) * (dh (ix2 k c) * gain (ix2 0 c)) := by
    rw [mul_sum_of_nonneg (rsqrt_bounds (sq_pos x k)).1 (rsqrt_bounds (sq_pos x k)).2]
    exact Finset.sum_congr rfl fun c _ => by ac_rfl
  unfold dxAt
  rw [hA, element (sq x k) (sq_pos x k)]
  pointwise [val_main_v37, val_main_v36, val_main_v35, val_main_v34, val_main_v33, val_main_v32, val_main_v31, val_main_v30,
    val_main_v29, val_main_v28, val_main_v27, val_main_v26, val_main_v25, val_main_v24, val_main_v23, val_main_v21,
    val_main_v20, val_main_v14, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_5, val_main_cst_6, val_main_cst_7]
  simp only [Finset.univ_unique, Finset.sum_singleton, ofBits_2048, ofBits_neg_half]
  rfl

theorem ref_dgain (l : Fin 2048) : val_main_v38 (F := Ideal) dh x (ix2 0 l) = dgainAt dh x l := by
  unfold dgainAt
  pointwise [val_main_v38, val_main_v22, val_main_v19, val_main_v18, val_main_v17, val_main_v13, val_main_v12, val_main_v8,
    val_main_v7, val_main_v6, val_main_v5, val_main_v4, val_main_v3, val_main_v2, val_main_v1, val_main_cst, val_main_cst_0,
    val_main_cst_1, val_main_cst_3, val_main_cst_4]
  simp only [Finset.univ_unique, Finset.sum_singleton, ofBits_2048]
  exact Finset.sum_congr rfl fun k _ => mul_comm _ _

end Reference

open Cert.RmsIdeal Cert.RmsIdeal.Gen

section Cases

variable {F : FTy → Type} [FloatOps F]

/-- At the first block: the running sums start at zero. -/
theorem sums_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : cond0_0 i) (x0 x1 x3 : Vec F S512x2048 .f32) (x2 : Vec F S1x2048 .f32) :
    out0_A_6 c i a1 h1 a2 h2 a3 h3 a4 h4 a5 h5 a6 h6 a7 h7 hc x0 x1 x2 x3 = k0_pay5 x1 x0 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, View.ld_unit_zero (S := S512x2048) hz]

/-- At a later block: the block's sums added to what the block before left. -/
theorem sums_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : ¬cond0_0 i) (x0 x1 x3 : Vec F S512x2048 .f32) (x2 xo : Vec F S1x2048 .f32) :
    out0_B_6 c i a1 h1 a2 h2 a3 h3 a4 h4 a5 h5 a6 h6 a7 h7 hc x0 x1 x2 x3 xo = k0_pay5 x1 x0 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h7.read_unread, View.ld_unit_zero (S := S512x2048) hz,
    View.ld_unit_zero (S := S1x2048) hz]

/-- At the first block: the gradient. -/
theorem dx_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : cond0_0 i) (x0 x1 x3 : Vec F S512x2048 .f32) (x2 : Vec F S1x2048 .f32) :
    out0_A_4 c i a1 h1 a2 h2 a3 h3 a4 h4 a5 h5 a6 h6 a7 h7 hc x0 x1 x2 x3 = k0_pay6 x1 x0 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x2048) hz,
    View.ld_unit_zero (S := S1x2048) hz]

/-- At a later block: the gradient. -/
theorem dx_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : ¬cond0_0 i) (x0 x1 x3 : Vec F S512x2048 .f32) (x2 xo : Vec F S1x2048 .f32) :
    out0_B_4 c i a1 h1 a2 h2 a3 h3 a4 h4 a5 h5 a6 h6 a7 h7 hc x0 x1 x2 x3 xo = k0_pay6 x1 x0 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, View.ld_unit_zero (S := S512x2048) hz,
    View.ld_unit_zero (S := S1x2048) hz]

/-- At the first block: the gradient, narrowed. -/
theorem narrow_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : cond0_0 i) (x0 x1 x3 : Vec F S512x2048 .f32) (x2 : Vec F S1x2048 .f32) :
    out0_A_5 c i a1 h1 a2 h2 a3 h3 a4 h4 a5 h5 a6 h6 a7 h7 hc x0 x1 x2 x3 = k0_pay1 (k0_pay6 x1 x0 x2 x3) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x2048) hz,
    View.ld_unit_zero (S := S1x2048) hz]

/-- At a later block: the gradient, narrowed. -/
theorem narrow_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc : ¬cond0_0 i) (x0 x1 x3 : Vec F S512x2048 .f32) (x2 xo : Vec F S1x2048 .f32) :
    out0_B_5 c i a1 h1 a2 h2 a3 h3 a4 h4 a5 h5 a6 h6 a7 h7 hc x0 x1 x2 x3 xo = k0_pay1 (k0_pay6 x1 x0 x2 x3) := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, View.ld_unit_zero (S := S512x2048) hz,
    View.ld_unit_zero (S := S1x2048) hz]

end Cases

variable (m : (ℓ : Loc nD τ sig) → Buf (Elt Ideal) ℓ) (ρ : Dev nD → PrngReg)

/-- The four arguments on core `c`. -/
abbrev dh (c : Dev nD) : S8192x2048.Idx → EReal := m ((c : Thread nD τ).loc main_arg0)
abbrev x (c : Dev nD) : S8192x2048.Idx → EReal := m ((c : Thread nD τ).loc main_arg1)
abbrev gain (c : Dev nD) : S1x2048.Idx → EReal := m ((c : Thread nD τ).loc main_arg2)
abbrev dres (c : Dev nD) : S8192x2048.Idx → EReal := m ((c : Thread nD τ).loc main_arg3)

/-- Where the windows stand at a point: the row blocks at the point's own, the row vectors at the one there is. -/
theorem index_facts : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] := by
  decide +kernel

/-- Row `r` of block `t`. -/
abbrev row (t : Fin cfg0.N) (r : Fin 512) : Fin 8192 :=
  ⟨512 * t.val + r.val, by have := t.isLt; have h : cfg0.N = 16 := N_0; omega⟩

theorem dh_block (c : Dev nD) (t : Fin cfg0.N) (r : Fin 512) (l : Fin 2048) :
    (iblk m c 0 t : Vec Ideal S512x2048 .f32) (ix2 r l) = dh m c (ix2 (row t r) l) := by
  unfold iblk
  rw [View.read_apply]
  show dh m c _ = _
  exact congrArg _ (Shape.idx_ext₂ (at_block (index_facts t).1 r l).1 (at_block (index_facts t).1 r l).2)

theorem x_block (c : Dev nD) (t : Fin cfg0.N) (r : Fin 512) (l : Fin 2048) :
    (iblk m c 1 t : Vec Ideal S512x2048 .f32) (ix2 r l) = x m c (ix2 (row t r) l) := by
  unfold iblk
  rw [View.read_apply]
  show x m c _ = _
  exact congrArg _ (Shape.idx_ext₂ (at_block (index_facts t).2.1 r l).1 (at_block (index_facts t).2.1 r l).2)

theorem dres_block (c : Dev nD) (t : Fin cfg0.N) (r : Fin 512) (l : Fin 2048) :
    (iblk m c 3 t : Vec Ideal S512x2048 .f32) (ix2 r l) = dres m c (ix2 (row t r) l) := by
  unfold iblk
  rw [View.read_apply]
  show dres m c _ = _
  exact congrArg _ (Shape.idx_ext₂ (at_block (index_facts t).2.2.2.1 r l).1 (at_block (index_facts t).2.2.2.1 r l).2)

theorem gain_block (c : Dev nD) (t : Fin cfg0.N) (l : Fin 2048) :
    (iblk m c 2 t : Vec Ideal S1x2048 .f32) (ix2 0 l) = gain m c (ix2 0 l) := by
  unfold iblk
  rw [View.read_apply]
  show gain m c _ = _
  exact congrArg _ (Shape.idx_ext₂ (at_row (index_facts t).2.2.1 l).1 (at_row (index_facts t).2.2.1 l).2)

/-- The gradient the kernel writes, and the gain's. -/
def dx (c : Dev nD) : S8192x2048.Idx → EReal := fun i => dxAt (dh m c) (x m c) (dres m c) (gain m c) (i 0) (i 1)
def dgain (c : Dev nD) : S1x2048.Idx → Elt Ideal .f32 := fun j => dgainAt (dh m c) (x m c) (j 1)

/-- After every point the first output's block holds that block's gradient. -/
theorem dx_eq (c : Dev nD) (t : Fin cfg0.N) :
    (outsAt0 m c t.val t.isLt).1 = k0_pay6 (iblk m c 1 t) (iblk m c 0 t) (iblk m c 2 t) (iblk m c 3 t) := by
  by_cases h : t.val % 16 = 0
  · rw [outsAt0_A m c t h]; dsimp only; rw [dx_A]
  · rw [outsAt0_B m c t h]; dsimp only; rw [dx_B]

/-- After every point the second output's block holds that block's gradient, narrowed. -/
theorem narrow_eq (c : Dev nD) (t : Fin cfg0.N) :
    (outsAt0 m c t.val t.isLt).2.1 = k0_pay1 (k0_pay6 (iblk m c 1 t) (iblk m c 0 t) (iblk m c 2 t) (iblk m c 3 t)) := by
  by_cases h : t.val % 16 = 0
  · rw [outsAt0_A m c t h]; dsimp only; rw [narrow_A]
  · rw [outsAt0_B m c t h]; dsimp only; rw [narrow_B]

/-- A block's gradient at an index. -/
theorem dx_apply (c : Dev nD) (t : Fin cfg0.N) (r : Fin 512) (l : Fin 2048) :
    k0_pay6 (iblk m c 1 t) (iblk m c 0 t) (iblk m c 2 t) (iblk m c 3 t) (ix2 r l)
      = dxAt (dh m c) (x m c) (dres m c) (gain m c) (row t r) l := by
  pointwise [k0_pay6, k0_pay4, k0_pay3]
  simp only [dh_block, x_block, gain_block, dres_block, ofBits_2048]
  rfl

/-- One step of the running sums, at a column. -/
theorem step_apply (c : Dev nD) (t : Fin cfg0.N) (a : Vec Ideal S1x2048 .f32) (l : Fin 2048) :
    k0_pay5 (iblk m c 1 t) (iblk m c 0 t) a (ix2 0 l) = a (ix2 0 l)
      + ∑ r : Fin 512, dh m c (ix2 (row t r) l) * (x m c (ix2 (row t r) l) * Ideal.rsqrt (sq (x m c) (row t r))) := by
  pointwise [k0_pay5, k0_pay4, k0_pay3]
  simp only [dh_block, x_block, ofBits_2048]
  rfl

/-- After point `n` the third output's block holds the column sums over the blocks up to `n`. -/
theorem sums_eq (c : Dev nD) (l : Fin 2048) : ∀ (n : ℕ) (h : n < cfg0.N), (outsAt0 m c n h).2.2 (ix2 0 l)
    = ∑ k ∈ Finset.range (512 * (n + 1)),
        ext (fun k : Fin 8192 => dh m c (ix2 k l) * (x m c (ix2 k l) * Ideal.rsqrt (sq (x m c) k))) k
  | 0, h => by
    rw [outsAt0_A m c ⟨0, h⟩ rfl]
    dsimp only
    rw [sums_A, step_apply, sum_block _ 0 _ fun r => ⟨(row ⟨0, h⟩ r).isLt, rfl⟩]
    congr 1
    pointwise [k0_pay2]
    exact Finset.sum_range_zero _ |>.symm
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [sums_B, step_apply, sum_block _ (n + 1) _ fun r => ⟨(row ⟨n + 1, h⟩ r).isLt, rfl⟩]
    congr 1
    exact sums_eq c l n (Nat.lt_of_succ_lt h)

/-- The point of an index's row. -/
abbrev point (i : S8192x2048.Idx) : Fin cfg0.N :=
  ⟨(i 0).val / 512, by have h : (i 0).val < 8192 := (i 0).isLt; rw [show cfg0.N = 16 from N_0]; omega⟩

/-- The first output array holds the gradient. -/
theorem final_dx (c : Dev nD) : (dats m 0 c).arrAt 4 cfg0.N = dx m c :=
  (dats m 0 c).arrAt_eq_of_cover 4 (dx m c) (fun t _ => by
    rw [Value.flushed4, dx_eq]
    funext j
    rw [View.read_apply]
    obtain ⟨r, l, rfl⟩ : ∃ (r : Fin 512) (l : Fin 2048), j = ix2 r l := ⟨j 0, j 1, eq_ix2 j⟩
    have e := at_block (index_facts t).2.2.2.2.1 r l
    exact (dx_apply m c t r l).trans (congrArg (dx m c) (Shape.idx_ext₂ e.1 e.2 : _ = ix2 (row t r) l)).symm) fun i => by
    refine ⟨point i, flush0_4 _, ?_⟩
    show i ∈ ((View.whole main_v0_0).slice (win0_4.rect (point i))).set
    rw [View.set_slice_whole, Rect.mem_set_unit]
    have h := in_block i (index_facts (point i)).2.2.2.2.1
    exact fun a => match a with
      | ⟨0, _⟩ => h 0
      | ⟨1, _⟩ => h 1

/-- The second output array holds the gradient, narrowed. -/
theorem final_narrow (c : Dev nD) : (dats m 0 c).arrAt 5 cfg0.N = dx m c :=
  (dats m 0 c).arrAt_eq_of_cover 5 (dx m c) (fun t _ => by
    rw [Value.flushed5, narrow_eq]
    funext j
    rw [View.read_apply]
    obtain ⟨r, l, rfl⟩ : ∃ (r : Fin 512) (l : Fin 2048), j = ix2 r l := ⟨j 0, j 1, eq_ix2 j⟩
    have e := at_block (index_facts t).2.2.2.2.2.1 r l
    exact (dx_apply m c t r l).trans (congrArg (dx m c) (Shape.idx_ext₂ e.1 e.2 : _ = ix2 (row t r) l)).symm) fun i => by
    refine ⟨point i, flush0_5 _, ?_⟩
    show i ∈ ((View.whole main_v0_1).slice (win0_5.rect (point i))).set
    rw [View.set_slice_whole, Rect.mem_set_unit]
    have h := in_block i (index_facts (point i)).2.2.2.2.2.1
    exact fun a => match a with
      | ⟨0, _⟩ => h 0
      | ⟨1, _⟩ => h 1

/-- The last point. -/
abbrev last : Fin cfg0.N := ⟨15, by rw [show cfg0.N = 16 from N_0]; decide⟩

/-- The third output array holds the gain's gradient. -/
theorem final_dgain (c : Dev nD) : (dats m 0 c).arrAt 6 cfg0.N = dgain m c :=
  have hz' : (fun a => win0_6.index last a * main_v0_2.ty.shape.size a) = fun _ => 0 := funext fun a => by
    rw [(index_facts last).2.2.2.2.2.2]; fin_cases a <;> rfl
  (dats m 0 c).arrAt_eq_of_cover 6 (dgain m c) (fun t hf => by
    have hN : cfg0.N = 16 := N_0
    obtain rfl : t = last := Fin.ext (by have := (flush0_6 t).mp hf; have := t.isLt; show t.val = 15; omega)
    rw [Value.flushed6]
    refine Eq.trans ?_ (Memref.read_access_unit_zero (Elt Ideal) main_v0_2 hz' (fun a => by rw [congrFun hz' a]; simp) (dgain m c)).symm
    funext y
    obtain ⟨l, rfl⟩ : ∃ l : Fin 2048, y = ix2 0 l := ⟨y 1, (eq_ix2 y).trans (by congr 1; exact Subsingleton.elim (α := Fin 1) _ _)⟩
    exact (sums_eq m c l 15 _).trans (sum_ext _)) fun i => ⟨last, (flush0_6 last).mpr rfl, by
      show i ∈ ((View.whole main_v0_2).slice (win0_6.rect last)).set
      rw [View.set_slice_whole]
      exact View.mem_set_unit_zero hz' _ i⟩

theorem algebraic : Cert.algebraic_RmsIdeal_RmsRefIdeal := by
  intro m ρ m' ρ' _ hag
  have hdx (c : Dev nD) : Cert.RmsRefIdeal.Read.val_main_v37 (F := Ideal) (dh m c) (x m c) (gain m c) (dres m c) = dx m c :=
    funext fun i => by rw [eq_ix2 i]; exact ref_dx _ _ _ _ _ _
  have hdg (c : Dev nD) : Cert.RmsRefIdeal.Read.val_main_v38 (F := Ideal) (dh m c) (x m c) = dgain m c := funext fun j => by
    obtain ⟨l, rfl⟩ : ∃ l : Fin 2048, j = ix2 0 l := ⟨j 1, (eq_ix2 j).trans (by congr 1; exact Subsingleton.elim (α := Fin 1) _ _)⟩
    exact ref_dgain _ _ _
  refine ⟨fun c => dx m c, fun c => dx m c, fun c => dgain m c,
    (θ_run _ _ _).mono (fun _ h c => ⟨(h c).1.trans (final_dx m c), (h c).2.1.trans (final_narrow m c),
      (h c).2.2.1.trans (final_dgain m c), (h c).2.2.2⟩) (Value.run_blocks m ρ),
    (θ_run _ _ _).mono (fun _ h c => ⟨(h c).1.trans ?_, (h c).2.1.trans ?_, (h c).2.2.1.trans ?_, (h c).2.2.2⟩)
      (Cert.RmsRefIdeal.Value.run m' ρ')⟩
  · rw [Cert.RmsRefIdeal.Read.val_main_v37_eq, (hag c).1, (hag c).2.1, (hag c).2.2.1, (hag c).2.2.2]; exact hdx c
  · rw [Cert.RmsRefIdeal.Read.val_main_v39_eq, (hag c).1, (hag c).2.1, (hag c).2.2.1, (hag c).2.2.2]; exact hdx c
  · rw [Cert.RmsRefIdeal.Read.val_main_v38_eq, (hag c).1, (hag c).2.1]; exact hdg c

end Cert.Proof.Rms

end
-- ==== Proof.Pool.lean ====
/-
  The gradient of the pooling layer: each of the four groups of channels averages the last 2, 4, 8 or 16 rows and takes
  the row itself away. The kernel sums, for a row, the cotangents of the rows whose averages it entered, each over its own
  count. The reference differentiates the difference of two prefix sums: its gradient is the suffix sum of the averaged
  cotangents less themselves a window later, which telescopes to the kernel's sum where the cotangent is finite.
-/
module

public import proofs.«01_k».proof.Defs
public import proofs.«01_k».proof.Proof.Gen.PoolIdeal.Value
public import proofs.«01_k».proof.Proof.Gen.PoolRefIdeal.Read
public import proofs.«01_k».proof.Proof.Rows

@[expose] public section

set_option maxRecDepth 16384

noncomputable section

namespace Cert.Proof.Pool

open Idealize.ShloMosaic Idealize.ShloMosaic.TcCoe Idealize.SL.Sem
open Cert.Proof.Rows

abbrev SP : Shape := ⟨2, ![8192, 2048]⟩

/-- The window of a group of channels. -/
def wn : Fin 4 → ℕ := ![2, 4, 8, 16]

/-- The cotangent of a row over its count of averaged rows, zero past the last row. -/
def Q (p : SP.Idx → EReal) (w s : ℕ) (l : Fin 2048) : EReal :=
  if h : s < 8192 then Ideal.div (p (ix2 ⟨s, h⟩ l)) (min (((s : ℝ) : EReal) + 1) ((w : ℝ) : EReal)) else 0

theorem Q_of_lt (p : SP.Idx → EReal) (w : ℕ) {s : ℕ} (h : s < 8192) (l : Fin 2048) :
    Q p w s l = Ideal.div (p (ix2 ⟨s, h⟩ l)) (min (((s : ℝ) : EReal) + 1) ((w : ℝ) : EReal)) := dif_pos h

theorem Q_of_le (p : SP.Idx → EReal) (w : ℕ) {s : ℕ} (h : 8192 ≤ s) (l : Fin 2048) : Q p w s l = 0 := dif_neg (by omega)

/-- The column of a group's channel. -/
abbrev gcol (g : Fin 4) (l : Fin 512) : Fin 2048 := ⟨512 * g.val + l.val, by omega⟩

theorem gcol0 (l : Fin 512) : gcol 0 l = ⟨l.val, by omega⟩ := Fin.ext (show 512 * 0 + l.val = l.val by omega)
theorem gcol1 (l : Fin 512) : gcol 1 l = ⟨512 + l.val, by omega⟩ := Fin.ext (show 512 * 1 + l.val = 512 + l.val by omega)
theorem gcol2 (l : Fin 512) : gcol 2 l = ⟨1024 + l.val, by omega⟩ := Fin.ext (show 512 * 2 + l.val = 1024 + l.val by omega)
theorem gcol3 (l : Fin 512) : gcol 3 l = ⟨1536 + l.val, by omega⟩ := Fin.ext (show 512 * 3 + l.val = 1536 + l.val by omega)

/-- The gradient: the averaged cotangents of the rows from this one on, as many as the window has, less its own. -/
def grad (p : SP.Idx → EReal) (r : Fin 8192) (g : Fin 4) (l : Fin 512) : EReal :=
  (∑ k ∈ Finset.range (wn g), Q p (wn g) (r.val + k) (gcol g l)) - p (ix2 r (gcol g l))

theorem coe_sum {ι : Type} (s : Finset ι) (f : ι → ℝ) : ((∑ k ∈ s, f k : ℝ) : EReal) = ∑ k ∈ s, (f k : EReal) := by
  classical
  refine Finset.induction_on s (by simp) fun a t ha ih => ?_
  rw [Finset.sum_insert ha, Finset.sum_insert ha, EReal.coe_add, ih]

theorem count_eq (s w : ℕ) : min (((s : ℝ) : EReal) + 1) ((w : ℝ) : EReal) = ((min ((s : ℝ) + 1) (w : ℝ) : ℝ) : EReal) := by
  rw [← EReal.coe_one, ← EReal.coe_add]; exact (EReal.coe_strictMono.monotone.map_min).symm

theorem count_pos (s : ℕ) {w : ℕ} (hw : 0 < w) : (0 : ℝ) < min ((s : ℝ) + 1) (w : ℝ) :=
  lt_min (by positivity) (by exact_mod_cast hw)

theorem count_ne_zero (s : ℕ) {w : ℕ} (hw : 0 < w) : min (((s : ℝ) : EReal) + 1) ((w : ℝ) : EReal) ≠ 0 := by
  rw [count_eq]; exact_mod_cast (count_pos s hw).ne'

/-- A finite cotangent has finite averages. -/
theorem Q_real (p : SP.Idx → EReal) (hp : ∀ i, ∃ x : ℝ, p i = x) (w : ℕ) (hw : 0 < w) (l : Fin 2048) :
    ∃ q : ℕ → ℝ, ∀ s, Q p w s l = q s := by
  have h (s : ℕ) : ∃ x : ℝ, Q p w s l = x := by
    by_cases hs : s < 8192
    · obtain ⟨x, hx⟩ := hp (ix2 ⟨s, hs⟩ l)
      rw [Q_of_lt p w hs, hx, count_eq, Ideal.div_coe (count_pos s hw).ne', ← EReal.coe_mul]
      exact ⟨_, rfl⟩
    · exact ⟨0, by rw [Q_of_le p w (by omega)]; rfl⟩
  exact ⟨fun s => (h s).choose, fun s => (h s).choose_spec⟩

/-- A suffix sum of a sequence less itself `w` places later, where the sequence ends, is the sum of its first `w` places. -/
theorem telescope (q : ℕ → ℝ) (N w r : ℕ) (hq : ∀ s, N ≤ s → q s = 0) :
    ∑ k ∈ Finset.range N, (q (r + k) - q (r + k + w)) = ∑ k ∈ Finset.range w, q (r + k) := by
  have e1 := Finset.sum_range_add (fun k => q (r + k)) N w
  have e2 := Finset.sum_range_add (fun k => q (r + k)) w N
  have e3 : ∑ k ∈ Finset.range w, q (r + (N + k)) = 0 := Finset.sum_eq_zero fun k _ => hq _ (by omega)
  have e4 : ∑ k ∈ Finset.range N, q (r + k + w) = ∑ k ∈ Finset.range N, q (r + (w + k)) :=
    Finset.sum_congr rfl fun k _ => congrArg q (by omega)
  rw [Finset.sum_sub_distrib, e4]
  rw [e3, add_comm N w, e2] at e1
  linarith

/-- A left fold of additions is the sum. -/
theorem fold_sum {n : ℕ} (f : Fin n → EReal) : (List.finRange n).foldl (fun r k => r + f k) 0 = ∑ k, f k := by
  rw [Fin.sum_univ_def, List.sum_eq_foldl, List.foldl_map]

/-- A windowed sum from zero is the sum over the window's indices of the operand, zero outside of it. -/
theorem windowed_sum {s t : Shape} (window strides lo hi : Fin s.rank → Nat) (h : s.ReduceWindows window strides lo hi t)
    (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0 := by
  unfold Ideal.hostReduceWindowAdd Host.reduceWindow
  refine (fold_sum _).trans ?_
  rw [← Equiv.sum_comp (Shape.rowMajor (⟨s.rank, window⟩ : Shape)).symm]
  refine Finset.sum_congr rfl fun k _ => ?_
  dsimp only
  split_ifs <;> rfl

/-- The indices of a window of the rows alone. -/
def windowEquiv : Fin 8192 ≃ (⟨3, ![8192, 1, 1]⟩ : Shape).Idx where
  toFun k := ix3 k 0 0
  invFun w := w 0
  left_inv _ := rfl
  right_inv w := by
    conv_rhs => rw [eq_ix3 w]
    rw [show w 1 = (0 : Fin 1) from Subsingleton.elim (α := Fin 1) _ _, show w 2 = (0 : Fin 1) from Subsingleton.elim (α := Fin 1) _ _]

section Reference

open Cert.PoolRefIdeal Cert.PoolRefIdeal.Gen Cert.PoolRefIdeal.Read

/-- The reference's windowed sum reads as the suffix sum over the rows. -/
theorem suffix_sum (x : S8192x4x512.Idx → EReal) (z : S_.Idx → EReal) (hz : z (Shape.Idx.first h_S_) = 0) (r : Fin 8192) (g : Fin 4) (l : Fin 512) :
    Host.reduceWindowAdd (F := Ideal) (φ := .f32) ![8192, 1, 1] ![1, 1, 1] ![0, 0, 0] ![8191, 0, 0] x z
      reduceWindows_S8192x4x512_S8192x4x512_w8192s1p0_8191_w1s1p0_0_w1s1p0_0 h_S_ (ix3 r g l)
      = ∑ k : Fin 8192, if h : r.val + k.val < 8192 then x (ix3 ⟨r.val + k.val, h⟩ g l) else 0 := by
  unfold Host.reduceWindowAdd
  rw [Ideal.hostReduceWindowAdd_def, hz, windowed_sum]
  refine (Equiv.sum_comp windowEquiv _).symm.trans (Finset.sum_congr rfl fun k _ => ?_)
  by_cases h : r.val + k.val < 8192
  · rw [dif_pos h]
    refine (dif_pos ?_).trans (congrArg x (funext fun a => Fin.ext ?_))
    · intro a
      match a with
      | ⟨0, _⟩ => exact ⟨Nat.zero_le _, by show r.val * 1 + k.val - 0 < 8192; omega⟩
      | ⟨1, _⟩ => exact ⟨Nat.zero_le _, by show g.val * 1 + 0 - 0 < 4; omega⟩
      | ⟨2, _⟩ => exact ⟨Nat.zero_le _, by show l.val * 1 + 0 - 0 < 512; omega⟩
    · match a with
      | ⟨0, _⟩ => show r.val * 1 + k.val - 0 = r.val + k.val; omega
      | ⟨1, _⟩ => show g.val * 1 + 0 - 0 = g.val; omega
      | ⟨2, _⟩ => show l.val * 1 + 0 - 0 = l.val; omega
  · rw [dif_neg h]
    refine dif_neg fun hh => h ?_
    have := (hh ⟨0, by decide⟩).2
    have : r.val * 1 + k.val - 0 < 8192 := this
    omega

theorem toInt_lt {n : ℕ} (h : n < 8192) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem float_lt {n : ℕ} (h : n < 8192) : FloatOps.sitofp (F := Ideal) FTy.f32 (BitVec.ofNat 32 n) = ((n : ℝ) : EReal) := by
  show (((BitVec.ofNat 32 n).toInt : ℝ) : EReal) = _
  rw [toInt_lt h]; norm_num

theorem f2 : Ideal.ofBits FTy.f32 1073741824#32 = (((2 : ℕ) : ℝ) : EReal) := by
  norm_num [Ideal.ofBits, Ideal.ieee, BitVec.extractLsb', BitVec.ofNat, Nat.shiftRight_eq_div_pow]
theorem f4 : Ideal.ofBits FTy.f32 1082130432#32 = (((4 : ℕ) : ℝ) : EReal) := by
  norm_num [Ideal.ofBits, Ideal.ieee, BitVec.extractLsb', BitVec.ofNat, Nat.shiftRight_eq_div_pow]
theorem f8 : Ideal.ofBits FTy.f32 1090519040#32 = (((8 : ℕ) : ℝ) : EReal) := by
  norm_num [Ideal.ofBits, Ideal.ieee, BitVec.extractLsb', BitVec.ofNat, Nat.shiftRight_eq_div_pow]
theorem f16 : Ideal.ofBits FTy.f32 1098907648#32 = (((16 : ℕ) : ℝ) : EReal) := by
  norm_num [Ideal.ofBits, Ideal.ieee, BitVec.extractLsb', BitVec.ofNat, Nat.shiftRight_eq_div_pow]

/-- What enters the suffix sum: a row's average less the one a window later. -/
def step (p : SP.Idx → EReal) (w s : ℕ) (l : Fin 2048) : EReal := Q p w s l + -Q p w (s + w) l

theorem step_eq (p : SP.Idx → EReal) {w : ℕ} {W : EReal} (hW : W = ((w : ℝ) : EReal)) (r : Fin 8192) (l : Fin 2048) (n : ℕ) (hn : n + w = 8192) (z : EReal) (hz : z = 0) :
    Ideal.div (p (ix2 r l)) (min (1 + FloatOps.sitofp (F := Ideal) FTy.f32 (BitVec.ofNat 32 r.val)) W)
      + (if h : r.val < n then -Ideal.div (p (ix2 ⟨w + r.val, by omega⟩ l)) (min (1 + FloatOps.sitofp (F := Ideal) FTy.f32 (BitVec.ofNat 32 (w + r.val))) W) else z)
      = step p w r.val l := by
  unfold step
  rw [hz, hW, float_lt r.isLt, Q_of_lt p w r.isLt, add_comm (1 : EReal)]
  congr 1
  split_ifs with h
  · rw [float_lt (by omega), Q_of_lt p w (by omega), add_comm (1 : EReal)]
    simp only [add_comm w]
  · rw [Q_of_le p w (by omega), neg_zero]

theorem ref2 (p : SP.Idx → EReal) (r : Fin 8192) (l : Fin 512) : val_main_v131 (F := Ideal) p (ix2 r l) = step p 2 r.val (gcol 0 l) := by
  rw [gcol0]
  refine Eq.trans ?_ (step_eq p f2 r ⟨l.val, by omega⟩ 8190 (by norm_num) 0 rfl)
  pointwise [val_main_v131, val_main_v130, val_main_v129, val_main_v127, val_main_v126, val_main_v125, val_main_v74, val_main_v73, val_main_v72, val_main_v14, val_main_v13, val_main_v12, val_main_v5, val_main_v4, val_main_v3, val_main_cst_3, val_main_cst_0, val_main_cst_23]
theorem ref4 (p : SP.Idx → EReal) (r : Fin 8192) (l : Fin 512) : val_main_v117 (F := Ideal) p (ix2 r l) = step p 4 r.val (gcol 1 l) := by
  rw [gcol1]
  refine Eq.trans ?_ (step_eq p f4 r ⟨512 + l.val, by omega⟩ 8188 (by norm_num) 0 rfl)
  pointwise [val_main_v117, val_main_v116, val_main_v115, val_main_v113, val_main_v112, val_main_v111, val_main_v76, val_main_v75, val_main_v29, val_main_v28, val_main_v27, val_main_cst_6, val_main_cst_20, val_main_v72, val_main_v5, val_main_v4, val_main_v3, val_main_cst_0]
theorem ref8 (p : SP.Idx → EReal) (r : Fin 8192) (l : Fin 512) : val_main_v103 (F := Ideal) p (ix2 r l) = step p 8 r.val (gcol 2 l) := by
  rw [gcol2]
  refine Eq.trans ?_ (step_eq p f8 r ⟨1024 + l.val, by omega⟩ 8184 (by norm_num) 0 rfl)
  pointwise [val_main_v103, val_main_v102, val_main_v101, val_main_v99, val_main_v98, val_main_v97, val_main_v78, val_main_v77, val_main_v44, val_main_v43, val_main_v42, val_main_cst_9, val_main_cst_17, val_main_v72, val_main_v5, val_main_v4, val_main_v3, val_main_cst_0]
theorem ref16 (p : SP.Idx → EReal) (r : Fin 8192) (l : Fin 512) : val_main_v90 (F := Ideal) p (ix2 r l) = step p 16 r.val (gcol 3 l) := by
  rw [gcol3]
  refine Eq.trans ?_ (step_eq p f16 r ⟨1536 + l.val, by omega⟩ 8176 (by norm_num) 0 rfl)
  pointwise [val_main_v90, val_main_v89, val_main_v88, val_main_v86, val_main_v85, val_main_v84, val_main_v80, val_main_v79, val_main_v59, val_main_v58, val_main_v57, val_main_cst_12, val_main_cst_14, val_main_v72, val_main_v5, val_main_v4, val_main_v3, val_main_cst_0]

theorem zero_start : val_main_call1_call0_v0 (F := Ideal) (Shape.Idx.first h_S_) = 0 := by
  pointwise [val_main_call1_call0_v0, val_main_call1_call0_cst]

/-- The summed averages of a group, where the reference keeps them. -/
theorem ref_step (p : SP.Idx → EReal) (r : Fin 8192) (g : Fin 4) (l : Fin 512) : val_main_v134 (F := Ideal) p (ix3 r g l) = step p (wn g) r.val (gcol g l) := by
  fin_cases g
  · refine Eq.trans ?_ (ref2 p r l)
    pointwise [val_main_v134, val_main_v133, val_main_v132, val_main_v120, val_main_v119, val_main_v118, val_main_v106, val_main_v105, val_main_v104, val_main_v92, val_main_v91, val_main_cst_15, val_main_cst_18, val_main_cst_21, val_main_cst_24]
  · refine Eq.trans ?_ (ref4 p r l)
    pointwise [val_main_v134, val_main_v133, val_main_v132, val_main_v120, val_main_v119, val_main_v118, val_main_v106, val_main_v105, val_main_v104, val_main_v92, val_main_v91, val_main_cst_15, val_main_cst_18, val_main_cst_21, val_main_cst_24]
  · refine Eq.trans ?_ (ref8 p r l)
    pointwise [val_main_v134, val_main_v133, val_main_v132, val_main_v120, val_main_v119, val_main_v118, val_main_v106, val_main_v105, val_main_v104, val_main_v92, val_main_v91, val_main_cst_15, val_main_cst_18, val_main_cst_21, val_main_cst_24]
  · refine Eq.trans ?_ (ref16 p r l)
    pointwise [val_main_v134, val_main_v133, val_main_v132, val_main_v120, val_main_v119, val_main_v118, val_main_v106, val_main_v105, val_main_v104, val_main_v92, val_main_v91, val_main_cst_15, val_main_cst_18, val_main_cst_21, val_main_cst_24]

/-- The part of the gradient that is the row itself. -/
theorem ref_own (p : SP.Idx → EReal) (r : Fin 8192) (g : Fin 4) (l : Fin 512) : val_main_v124 (F := Ideal) p (ix3 r g l) = -p (ix2 r (gcol g l)) := by
  fin_cases g <;>
  pointwise [val_main_v124, val_main_v123, val_main_v122, val_main_v121, val_main_v110, val_main_v109, val_main_v108, val_main_v107, val_main_v96, val_main_v95, val_main_v94, val_main_v93, val_main_v83, val_main_v82, val_main_v81, val_main_v80, val_main_v79, val_main_v78, val_main_v77, val_main_v76, val_main_v75, val_main_v74, val_main_v73, val_main_v72, val_main_cst_13, val_main_cst_16, val_main_cst_19, val_main_cst_22]
  · rw [gcol0]
  · rw [gcol1]
  · rw [gcol2]
  · rw [gcol3]

/-- The reference's gradient at an entry, where the cotangent is finite. -/
theorem ref_eq (p : SP.Idx → EReal) (hp : ∀ i, ∃ x : ℝ, p i = x) (r : Fin 8192) (L : Fin 2048) :
    val_main_v138 (F := Ideal) p (ix2 r L) = grad p r ⟨L.val / 512, by omega⟩ ⟨L.val % 512, by omega⟩ := by
  have e : val_main_v138 (F := Ideal) p (ix2 r L) = val_main_v124 (F := Ideal) p (ix3 r ⟨L.val / 512, by omega⟩ ⟨L.val % 512, by omega⟩)
      + val_main_v135 (F := Ideal) p (ix3 r ⟨L.val / 512, by omega⟩ ⟨L.val % 512, by omega⟩) := by
    pointwise [val_main_v138, val_main_v137, val_main_v136]
  rw [e, ref_own]
  generalize (⟨L.val / 512, by omega⟩ : Fin 4) = g
  generalize (⟨L.val % 512, by omega⟩ : Fin 512) = l
  unfold val_main_v135 grad
  rw [suffix_sum _ _ zero_start, add_comm, ← sub_eq_add_neg]
  congr 1
  obtain ⟨q, hq⟩ := Q_real p hp (wn g) (by fin_cases g <;> decide) (gcol g l)
  have hq0 (s : ℕ) (h : 8192 ≤ s) : q s = 0 := by
    have := (hq s).symm.trans (Q_of_le p (wn g) h (gcol g l)); exact_mod_cast this
  simp only [hq]
  rw [← coe_sum, ← telescope q 8192 (wn g) r.val hq0, coe_sum, ← Fin.sum_univ_eq_sum_range (fun k => ((q (r.val + k) - q (r.val + k + wn g) : ℝ) : EReal))]
  refine Finset.sum_congr rfl fun k _ => ?_
  split_ifs with h
  · rw [ref_step]; unfold step; rw [hq, hq, ← EReal.coe_neg, ← EReal.coe_add, ← sub_eq_add_neg]
  · rw [hq0 _ (by omega), hq0 _ (by omega), sub_zero, EReal.coe_zero]

end Reference

open Cert.PoolIdeal Cert.PoolIdeal.Gen

theorem le_fact : ∀ a : Fin 16, Scalar.cmpi .slt (BitVec.ofNat 32 a.val) 15#32 = if a.val < 15 then 1#1 else 0#1 := by decide
theorem group_fact : ∀ g : Fin 4, (Scalar.cmpi .eq (BitVec.ofNat 32 g.val) 0#32 = if g.val = 0 then 1#1 else 0#1)
    ∧ (Scalar.cmpi .eq (BitVec.ofNat 32 g.val) 1#32 = if g.val = 1 then 1#1 else 0#1)
    ∧ (Scalar.cmpi .eq (BitVec.ofNat 32 g.val) 2#32 = if g.val = 2 then 1#1 else 0#1) := by decide

theorem select_one {α : Type} (a b : α) : Scalar.select 1#1 a b = a := rfl
theorem select_zero {α : Type} (a b : α) : Scalar.select 0#1 a b = b := rfl

/-- The group's window, as the kernel picks it. -/
theorem window_pick (g : Fin 4) : Scalar.select (Scalar.cmpi CmpIPredicate.eq (BitVec.ofNat 32 g.val) 0#32)
            (Ideal.ofBits FTy.f32 1073741824#32)
            (Scalar.select (Scalar.cmpi CmpIPredicate.eq (BitVec.ofNat 32 g.val) 1#32)
              (Ideal.ofBits FTy.f32 1082130432#32)
              (Scalar.select (Scalar.cmpi CmpIPredicate.eq (BitVec.ofNat 32 g.val) 2#32)
                (Ideal.ofBits FTy.f32 1090519040#32) (Ideal.ofBits FTy.f32 1098907648#32))) = ((wn g : ℝ) : EReal) := by
  rw [(group_fact g).1, (group_fact g).2.1, (group_fact g).2.2, f2, f4, f8, f16]
  fin_cases g <;> rfl

/-- A row of a block with its halo, averaged, is the row of the array averaged. -/
theorem average (p : SP.Idx → EReal) (a : Fin 16) (g : Fin 4) (l : Fin 512) (n : ℕ) (hn : n < 528) (x y : EReal)
    (hx : ∀ h : n < 512, x = p (ix2 ⟨512 * a.val + n, by omega⟩ (gcol g l)))
    (hy : ∀ h : 512 * a.val + n < 8192, 512 ≤ n → y = p (ix2 ⟨512 * a.val + n, h⟩ (gcol g l))) :
    Ideal.div (if n < 512 then x else Scalar.select (Scalar.cmpi CmpIPredicate.slt (BitVec.ofNat 32 a.val) 15#32) y 0)
        (min (FloatOps.sitofp (F := Ideal) FTy.f32 (IntOp.addi (Scalar.muli (BitVec.ofNat 32 a.val) 512#32) (BitVec.ofNat 32 n)) + 1) ((wn g : ℝ) : EReal))
      = Q p (wn g) (512 * a.val + n) (gcol g l) := by
  have hf : FloatOps.sitofp (F := Ideal) FTy.f32 (IntOp.addi (Scalar.muli (BitVec.ofNat 32 a.val) 512#32) (BitVec.ofNat 32 n)) = ((((512 * a.val + n : ℕ)) : ℝ) : EReal) := by
    show ((((BitVec.ofNat 32 a.val * 512#32 + BitVec.ofNat 32 n).toInt : ℤ) : ℝ) : EReal) = _
    have e : (BitVec.ofNat 32 a.val * 512#32 + BitVec.ofNat 32 n).toNat = 512 * a.val + n := by
      rw [BitVec.toNat_add, BitVec.toNat_mul, BitVec.toNat_ofNat, BitVec.toNat_ofNat, BitVec.toNat_ofNat]; omega
    rw [BitVec.toInt_eq_toNat_of_lt (by rw [e]; omega), e]; norm_num
  rw [hf, le_fact]
  by_cases h : 512 * a.val + n < 8192
  · rw [Q_of_lt p _ h]
    congr 1
    split_ifs with h1 h2
    · exact hx h1
    · exact hy h (by omega)
    · omega
  · rw [Q_of_le p _ (by omega), if_neg (by omega), if_neg (by omega), select_zero, Ideal.zero_div (count_ne_zero _ (by fin_cases g <;> decide))]

/-- Two rows added make the first sum: the kernel's sums over two rows of a block with its halo. -/
theorem pair_sum (i : grid0.Coords) (x0 : Vec Ideal S512x512 .f32) (x1 : Vec Ideal S16x512 .f32) (p : SP.Idx → EReal) (a : Fin 16) (g : Fin 4)
    (ha : (i 0).val = a.val) (hg : (i 1).val = g.val)
    (h0 : ∀ (r l : Fin 512), x0 (ix2 r l) = p (ix2 ⟨512 * a.val + r.val, by omega⟩ (gcol g l)))
    (h1 : ∀ (r : Fin 16) (l : Fin 512) (h : 512 * a.val + (512 + r.val) < 8192), x1 (ix2 r l) = p (ix2 ⟨512 * a.val + (512 + r.val), h⟩ (gcol g l)))
    (r : Fin 528) (l : Fin 512) (hr : r.val + 2 ≤ 528) :
    k0_pay2 i x0 x1 (ix2 r l) = ∑ k ∈ Finset.range 2, Q p (wn g) (512 * a.val + r.val + k) (gcol g l) := by
  have key (n : ℕ) (hn : n < 528) : Ideal.div (if h : n < 512 then x0 (ix2 ⟨n, h⟩ l) else Scalar.select (Scalar.cmpi CmpIPredicate.slt (BitVec.ofNat 32 a.val) 15#32) (x1 (ix2 ⟨n - 512, by omega⟩ l)) 0)
        (min (FloatOps.sitofp (F := Ideal) FTy.f32 (IntOp.addi (Scalar.muli (BitVec.ofNat 32 a.val) 512#32) (BitVec.ofNat 32 n)) + 1) ((wn g : ℝ) : EReal))
      = Q p (wn g) (512 * a.val + n) (gcol g l) := by
    rw [← average p a g l n hn (if h : n < 512 then x0 (ix2 ⟨n, h⟩ l) else 0) (x1 (ix2 ⟨n - 512, by omega⟩ l)) (fun h => by rw [dif_pos h, h0])
      (fun h h' => by rw [h1 ⟨n - 512, by omega⟩ l (by show 512 * a.val + (512 + (n - 512)) < 8192; omega)]; exact congrArg (fun t => p (ix2 t (gcol g l))) (Fin.ext (by show 512 * a.val + (512 + (n - 512)) = 512 * a.val + n; omega)))]
    congr 1
    split_ifs <;> rfl
  have e : (r.val + 528 - 527) % 528 = r.val + 1 := by omega
  rw [Finset.sum_range_succ, Finset.sum_range_one, add_zero, add_assoc, ← key r.val r.isLt, ← key (r.val + 1) (by omega)]
  pointwise [k0_pay2]
  simp only [ha, hg, window_pick, e]

/-- The shifted sums: a sum of `w` rows and the one `w` rows on are the sum of `2 w` rows. -/
theorem shift2 (S : FVec Ideal S528x512 .f32) (r : Fin 528) (l : Fin 512) :
    addf S (dynamicRotate 0 (526#32) none S rotates_S528x512_d0) (ix2 r l) = S (ix2 r l) + S (ix2 ⟨(r.val + 528 - 526) % 528, by omega⟩ l) := by
  pointwise
theorem shift4 (S : FVec Ideal S528x512 .f32) (r : Fin 528) (l : Fin 512) :
    addf S (dynamicRotate 0 (524#32) none S rotates_S528x512_d0) (ix2 r l) = S (ix2 r l) + S (ix2 ⟨(r.val + 528 - 524) % 528, by omega⟩ l) := by
  pointwise
theorem shift8 (S : FVec Ideal S528x512 .f32) (r : Fin 528) (l : Fin 512) :
    addf S (dynamicRotate 0 (520#32) none S rotates_S528x512_d0) (ix2 r l) = S (ix2 r l) + S (ix2 ⟨(r.val + 528 - 520) % 528, by omega⟩ l) := by
  pointwise

theorem double (S T : FVec Ideal S528x512 .f32) (w b : ℕ) (l : Fin 512) (q : ℕ → EReal)
    (hT : ∀ r : Fin 528, ∀ h : r.val + w < 528, T (ix2 r l) = S (ix2 r l) + S (ix2 ⟨r.val + w, h⟩ l)) (hw : 0 < w)
    (hS : ∀ r : Fin 528, r.val + w ≤ 528 → S (ix2 r l) = ∑ k ∈ Finset.range w, q (b + r.val + k)) (r : Fin 528) (h : r.val + (w + w) ≤ 528) :
    T (ix2 r l) = ∑ k ∈ Finset.range (w + w), q (b + r.val + k) := by
  rw [hT r (by omega), hS r (by omega), hS ⟨r.val + w, by omega⟩ (by show r.val + w + w ≤ 528; omega), Finset.sum_range_add]
  exact congrArg _ (Finset.sum_congr rfl fun k _ => congrArg q (by show b + (r.val + w) + k = b + r.val + (w + k); omega))

/-- One block of the result: the gradient. -/
theorem tile_apply (i : grid0.Coords) (x0 : Vec Ideal S512x512 .f32) (x1 : Vec Ideal S16x512 .f32) (p : SP.Idx → EReal) (a : Fin 16) (g : Fin 4)
    (ha : (i 0).val = a.val) (hg : (i 1).val = g.val)
    (h0 : ∀ (r l : Fin 512), x0 (ix2 r l) = p (ix2 ⟨512 * a.val + r.val, by omega⟩ (gcol g l)))
    (h1 : ∀ (r : Fin 16) (l : Fin 512) (h : 512 * a.val + (512 + r.val) < 8192), x1 (ix2 r l) = p (ix2 ⟨512 * a.val + (512 + r.val), h⟩ (gcol g l)))
    (r l : Fin 512) :
    k0_pay1 x0 (k0_pay2 i x0 x1) (Scalar.cmpi .eq (BitVec.ofNat 32 (i 1).val) 0#32) (k0_pay3 i x0 x1) (ix2 r l) = grad p ⟨512 * a.val + r.val, by omega⟩ g l := by
  have e1 : ∀ r : Fin 528, r.val + 2 ≤ 528 → k0_pay2 i x0 x1 (ix2 r l) = ∑ k ∈ Finset.range 2, (fun s => Q p (wn g) s (gcol g l)) (512 * a.val + r.val + k) :=
    fun r h => pair_sum i x0 x1 p a g ha hg h0 h1 r l h
  have e2 := double (k0_pay2 i x0 x1) (addf (k0_pay2 i x0 x1) (dynamicRotate 0 (526#32) none (k0_pay2 i x0 x1) rotates_S528x512_d0)) 2 (512 * a.val) l (fun s => Q p (wn g) s (gcol g l))
    (fun r h => by rw [shift2]; simp only [show (r.val + 528 - 526) % 528 = r.val + 2 by omega]) (by decide) e1
  have e3 := double _ (addf (addf (k0_pay2 i x0 x1) (dynamicRotate 0 (526#32) none (k0_pay2 i x0 x1) rotates_S528x512_d0))
      (dynamicRotate 0 (524#32) none (addf (k0_pay2 i x0 x1) (dynamicRotate 0 (526#32) none (k0_pay2 i x0 x1) rotates_S528x512_d0)) rotates_S528x512_d0)) 4 (512 * a.val) l (fun s => Q p (wn g) s (gcol g l))
    (fun r h => by rw [shift4]; simp only [show (r.val + 528 - 524) % 528 = r.val + 4 by omega]) (by decide) e2
  have e4 := double _ (addf (addf (addf (k0_pay2 i x0 x1) (dynamicRotate 0 (526#32) none (k0_pay2 i x0 x1) rotates_S528x512_d0))
      (dynamicRotate 0 (524#32) none (addf (k0_pay2 i x0 x1) (dynamicRotate 0 (526#32) none (k0_pay2 i x0 x1) rotates_S528x512_d0)) rotates_S528x512_d0))
      (dynamicRotate 0 (520#32) none (addf (addf (k0_pay2 i x0 x1) (dynamicRotate 0 (526#32) none (k0_pay2 i x0 x1) rotates_S528x512_d0))
      (dynamicRotate 0 (524#32) none (addf (k0_pay2 i x0 x1) (dynamicRotate 0 (526#32) none (k0_pay2 i x0 x1) rotates_S528x512_d0)) rotates_S528x512_d0)) rotates_S528x512_d0)) 8 (512 * a.val) l (fun s => Q p (wn g) s (gcol g l))
    (fun r h => by rw [shift8]; simp only [show (r.val + 528 - 520) % 528 = r.val + 8 by omega]) (by decide) e3
  have ep : k0_pay1 x0 (k0_pay2 i x0 x1) (Scalar.cmpi .eq (BitVec.ofNat 32 (i 1).val) 0#32) (k0_pay3 i x0 x1) (ix2 r l)
      = Scalar.select (Scalar.cmpi .eq (BitVec.ofNat 32 (i 1).val) 0#32) (k0_pay2 i x0 x1 (ix2 ⟨r.val, by omega⟩ l)) (k0_pay3 i x0 x1 (ix2 ⟨r.val, by omega⟩ l)) - x0 (ix2 r l) := by
    pointwise [k0_pay1]
  rw [ep, h0]
  unfold grad
  congr 1
  unfold k0_pay3
  dsimp only
  rw [hg, (group_fact g).1, (group_fact g).2.1, (group_fact g).2.2]
  have e2' := e2 ⟨r.val, by omega⟩ (by show r.val + (2 + 2) ≤ 528; omega)
  have e3' := e3 ⟨r.val, by omega⟩ (by show r.val + (4 + 4) ≤ 528; omega)
  have e4' := e4 ⟨r.val, by omega⟩ (by show r.val + (8 + 8) ≤ 528; omega)
  have e1' := e1 ⟨r.val, by omega⟩ (by show r.val + 2 ≤ 528; omega)
  fin_cases g
  · exact e1'
  · exact e2'
  · exact e3'
  · exact e4'

variable (m : (ℓ : Loc nD τ sig) → Buf (Elt Ideal) ℓ) (ρ : Dev nD → PrngReg)

abbrev dpool (c : Dev nD) : S8192x2048.Idx → EReal := m ((c : Thread nD τ).loc main_arg0)

/-- Where the windows stand at a point: the grid runs over the 16 blocks of rows, and within each over the 4 groups. -/
theorem index_facts : ∀ t : Fin grid0.N, win0_0.index t = ![t.val / 4, t.val % 4] ∧ win0_1.index t = ![min (32 * (t.val / 4 + 1)) 511, t.val % 4]
    ∧ win0_2.index t = ![t.val / 4, t.val % 4] ∧ (grid0.coords t 0).val = t.val / 4 ∧ (grid0.coords t 1).val = t.val % 4 := by
  decide +kernel

abbrev band (t : Fin cfg0.N) : Fin 16 := ⟨t.val / 4, by have := t.isLt; have h : cfg0.N = 64 := N_0; omega⟩
abbrev grp (t : Fin cfg0.N) : Fin 4 := ⟨t.val % 4, by omega⟩

theorem at_block {a : Fin 2 → ℕ} {n k : ℕ} (h : a = ![n, k]) (N K r l : ℕ) : a 0 * N + 1 * r = N * n + r ∧ a 1 * K + 1 * l = K * k + l := by
  subst h
  constructor
  · show n * N + 1 * r = _; rw [one_mul, mul_comm]
  · show k * K + 1 * l = _; rw [one_mul, mul_comm]

theorem own_block (c : Dev nD) (t : Fin cfg0.N) (r l : Fin 512) :
    (iblk m c 0 t : Vec Ideal S512x512 .f32) (ix2 r l) = dpool m c (ix2 ⟨512 * (band t).val + r.val, by omega⟩ (gcol (grp t) l)) := by
  unfold iblk
  rw [View.read_apply]
  show dpool m c _ = _
  have e := at_block (index_facts t).1 512 512 r.val l.val
  exact congrArg _ (Shape.idx_ext₂ e.1 e.2)

theorem halo_block (c : Dev nD) (t : Fin cfg0.N) (r : Fin 16) (l : Fin 512) (h : 512 * (band t).val + (512 + r.val) < 8192) :
    (iblk m c 1 t : Vec Ideal S16x512 .f32) (ix2 r l) = dpool m c (ix2 ⟨512 * (band t).val + (512 + r.val), h⟩ (gcol (grp t) l)) := by
  unfold iblk
  rw [View.read_apply]
  show dpool m c _ = _
  have e := at_block (index_facts t).2.1 16 512 r.val l.val
  have h' : 512 * (t.val / 4) + (512 + r.val) < 8192 := h
  exact congrArg _ (Shape.idx_ext₂ (e.1.trans (by show 16 * min (32 * (t.val / 4 + 1)) 511 + r.val = 512 * (t.val / 4) + (512 + r.val); omega)) e.2)

/-- The array the kernel writes. -/
def G (c : Dev nD) : S8192x2048.Idx → Elt Ideal .bf16 := fun i =>
  grad (dpool m c) (i 0) ⟨(i 1).val / 512, by have h : (i 1).val < 2048 := (i 1).isLt; omega⟩ ⟨(i 1).val % 512, by omega⟩

theorem G_at (c : Dev nD) (r : Fin 8192) (g : Fin 4) (l : Fin 512) : G m c (ix2 r (gcol g l)) = grad (dpool m c) r g l := by
  unfold G
  have e1 : (512 * g.val + l.val) / 512 = g.val := by omega
  have e2 : (512 * g.val + l.val) % 512 = l.val := by omega
  exact congrArg₂ (grad (dpool m c) r) (Fin.ext e1) (Fin.ext e2)

abbrev point (i : S8192x2048.Idx) : Fin cfg0.N :=
  ⟨(i 0).val / 512 * 4 + (i 1).val / 512, by
    have h : (i 0).val < 8192 := (i 0).isLt
    have h' : (i 1).val < 2048 := (i 1).isLt
    rw [show cfg0.N = 64 from N_0]; omega⟩

/-- The output array holds the gradient. -/
theorem final (c : Dev nD) : (dats m 0 c).arrAt 2 cfg0.N = G m c :=
  (dats m 0 c).arrAt_eq_of_cover 2 (G m c) (fun t _ => by
    rw [Value.flushed2]
    unfold out0_2
    rw [View.canon_unit_zero hz]
    simp only [View.ld_unit_zero (S := S512x512) hz, View.ld_unit_zero (S := S16x512) hz]
    funext j
    rw [View.read_apply]
    obtain ⟨r, l, rfl⟩ : ∃ r l : Fin 512, j = ix2 r l := ⟨j 0, j 1, eq_ix2 j⟩
    refine (tile_apply (grid0.coords t) _ _ (dpool m c) (band t) (grp t) (index_facts t).2.2.2.1 (index_facts t).2.2.2.2
      (own_block m c t) (halo_block m c t) r l).trans ?_
    rw [← G_at]
    have e := at_block (index_facts t).2.2.1 512 512 r.val l.val
    exact (congrArg (G m c) (Shape.idx_ext₂ (y := ix2 ⟨512 * (band t).val + r.val, by omega⟩ (gcol (grp t) l)) e.1 e.2)).symm) fun i => by
    refine ⟨point i, flush0_2 _, ?_⟩
    show i ∈ ((View.whole main_v0).slice (win0_2.rect (point i))).set
    rw [View.set_slice_whole, Rect.mem_set_unit]
    have h0 : (i 0).val < 8192 := (i 0).isLt
    have h1 : (i 1).val < 2048 := (i 1).isLt
    have e := (index_facts (point i)).2.2.1
    intro a
    show win0_2.index (point i) a * ![512, 512] a ≤ (i a).val ∧ (i a).val < win0_2.index (point i) a * ![512, 512] a + ![512, 512] a
    rw [e]
    match a with
    | ⟨0, _⟩ => show ((i 0).val / 512 * 4 + (i 1).val / 512) / 4 * 512 ≤ (i 0).val ∧ (i 0).val < ((i 0).val / 512 * 4 + (i 1).val / 512) / 4 * 512 + 512; omega
    | ⟨1, _⟩ => show ((i 0).val / 512 * 4 + (i 1).val / 512) % 4 * 512 ≤ (i 1).val ∧ (i 1).val < ((i 0).val / 512 * 4 + (i 1).val / 512) % 4 * 512 + 512; omega

/-- What the precondition says of an entry. -/
theorem finite_of_pre [h : Cert.Pre_dpool_finite.Facts] (x : S8192x2048.Idx → EReal) (hx : Cert.Pre_dpool_finite.fn (F := Ideal) x = fun _ => 1#1) (i : S8192x2048.Idx) : ∃ y : ℝ, x i = y := by
  have e := congrFun hx i
  obtain ⟨r, l, rfl⟩ : ∃ r l, i = ix2 r l := ⟨i 0, i 1, eq_ix2 i⟩
  have e' : BitVec.ofBool (decide (max (x (ix2 r l)) (-x (ix2 r l)) < Ideal.ofBits FTy.f32 2139095040#32)) = 1#1 := by
    rw [← e]
    pointwise [Cert.Pre_dpool_finite.fn]
    rfl
  have h1 : max (x (ix2 r l)) (-x (ix2 r l)) < Ideal.ofBits FTy.f32 2139095040#32 := by
    by_contra hn
    rw [decide_eq_false hn] at e'
    exact absurd e' (by decide)
  obtain ⟨ha, hb⟩ := max_lt_iff.mp (lt_of_lt_of_le h1 le_top)
  refine ⟨(x (ix2 r l)).toReal, (EReal.coe_toReal ha.ne fun hbot => ?_).symm⟩
  rw [hbot, EReal.neg_bot] at hb
  exact absurd hb (lt_irrefl _)

theorem algebraic [Cert.Pre_dpool_finite.Facts] : Cert.algebraic_PoolIdeal_PoolRefIdeal_pre_dpool_finite := by
  intro m ρ m' ρ' hpre hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.PoolRefIdeal.Value.run m' ρ')⟩
  rw [Cert.PoolRefIdeal.Read.val_main_v138_eq, hag c]
  funext i
  obtain ⟨r, l, rfl⟩ : ∃ (r : Fin 8192) (l : Fin 2048), i = ix2 r l := ⟨i 0, i 1, eq_ix2 i⟩
  exact ref_eq _ (finite_of_pre _ (hpre c)) r l

end Cert.Proof.Pool

end
-- ==== Proof.Conv.lean ====
/-
  The gradient of a gated causal convolution of three taps, `g = b * (w2 u + w1 (u one row down) + w0 (u two rows down))`
  with `u = c * v`. The kernel visits 4 blocks of 512 columns, each in 16 blocks of 512 rows, and reads with each block the
  8 rows before it (of `c` and `v`) and the 8 rows after it (of `b` and the cotangent). It writes the gradients of `b`, `c`
  and `v`, and adds up the taps' gradients in the first three of eight rows. The reference is the derivative of the
  convolution written with a window of rows over the whole array.
-/
module

public import proofs.«01_k».proof.Defs
public import proofs.«01_k».proof.Proof.Gen.ConvIdeal.Value
public import proofs.«01_k».proof.Proof.Gen.ConvRefIdeal.Read
public import proofs.«01_k».proof.Proof.Rows
public import Idealize.ShloMosaic.Lib.WritesUnit
public import Idealize.ShloMosaic.Lib.Pipeline.ReadBack

@[expose] public section

set_option maxRecDepth 16384

noncomputable section

namespace Cert.Proof.Conv

open Idealize.ShloMosaic Idealize.ShloMosaic.TcCoe Idealize.SL.Sem
open Cert.Proof.Rows

section Gradient

variable (p : (⟨2, ![8192, 6144]⟩ : Shape).Idx → EReal) (w : (⟨3, ![1, 3, 2048]⟩ : Shape).Idx → EReal)
  (dg : (⟨2, ![8192, 2048]⟩ : Shape).Idx → EReal)

/-- The convolution's argument `c * v` at a column, by row. -/
def U (j : Fin 2048) (r : ℕ) : EReal :=
  ext (fun k : Fin 8192 => p (ix2 k ⟨2048 + j.val, by omega⟩) * p (ix2 k ⟨4096 + j.val, by omega⟩)) r

/-- The same `s` rows down, zero above the first row. -/
def Ud (s : ℕ) (j : Fin 2048) (r : ℕ) : EReal := if s ≤ r then U p j (r - s) else 0

/-- The convolution's cotangent `b * dg` at a column, by row; zero beyond the last. -/
def D (j : Fin 2048) (r : ℕ) : EReal := ext (fun k : Fin 8192 => p (ix2 k ⟨j.val, by omega⟩) * dg (ix2 k j)) r

/-- The gradient of `b`. -/
def dB : (⟨2, ![8192, 2048]⟩ : Shape).Idx → EReal := fun i =>
  dg i * (w (ix3 0 2 (i 1)) * U p (i 1) (i 0).val + w (ix3 0 1 (i 1)) * Ud p 1 (i 1) (i 0).val + w (ix3 0 0 (i 1)) * Ud p 2 (i 1) (i 0).val)

/-- The gradient of `c * v`. -/
def dU (j : Fin 2048) (r : ℕ) : EReal :=
  w (ix3 0 2 j) * D p dg j r + w (ix3 0 1 j) * D p dg j (r + 1) + w (ix3 0 0 j) * D p dg j (r + 2)

/-- The gradient of `c`. -/
def dC : (⟨2, ![8192, 2048]⟩ : Shape).Idx → EReal := fun i =>
  dU p w dg (i 1) (i 0).val * p (ix2 (i 0) ⟨4096 + (i 1).val, by have h : (i 1).val < 2048 := (i 1).isLt; omega⟩)

/-- The gradient of `v`. -/
def dV : (⟨2, ![8192, 2048]⟩ : Shape).Idx → EReal := fun i =>
  dU p w dg (i 1) (i 0).val * p (ix2 (i 0) ⟨2048 + (i 1).val, by have h : (i 1).val < 2048 := (i 1).isLt; omega⟩)

/-- The taps' gradients in the first three rows, zero in the other five. -/
def dW : (⟨2, ![8, 2048]⟩ : Shape).Idx → EReal := fun i =>
  if (i 0).val < 3 then ∑ k : Fin 8192, D p dg (i 1) k.val * Ud p (2 - (i 0).val) (i 1) k.val else 0

theorem U_of_lt (j : Fin 2048) {r : ℕ} (h : r < 8192) :
    U p j r = p (ix2 ⟨r, h⟩ ⟨2048 + j.val, by omega⟩) * p (ix2 ⟨r, h⟩ ⟨4096 + j.val, by omega⟩) := ext_of_lt _ h

theorem D_of_lt (j : Fin 2048) {r : ℕ} (h : r < 8192) : D p dg j r = p (ix2 ⟨r, h⟩ ⟨j.val, by omega⟩) * dg (ix2 ⟨r, h⟩ j) :=
  ext_of_lt _ h

theorem D_of_ge (j : Fin 2048) {r : ℕ} (h : ¬r < 8192) : D p dg j r = 0 := dif_neg h

end Gradient

section Reference

open Cert.ConvRefIdeal Cert.ConvRefIdeal.Gen Cert.ConvRefIdeal.Read

variable (p : S8192x6144.Idx → EReal) (w : S1x3x2048.Idx → EReal) (dg : S8192x2048.Idx → EReal)

theorem ref_u (r : Fin 8192) (l : Fin 2048) : val_main_v24 (F := Ideal) p (ix2 r l) = U p l r.val := by
  pointwise [val_main_v24, val_main_v7, val_main_v5, val_main_v4, val_main_v3, val_main_v2, val_main_v1, val_main_cst]
  exact (U_of_lt p l r.isLt).symm

theorem ref_u1 (r : Fin 8192) (l : Fin 2048) : val_main_v17 (F := Ideal) p (ix2 r l) = Ud p 1 l r.val := by
  pointwise [val_main_v17, val_main_v7, val_main_v5, val_main_v4, val_main_v3, val_main_v2, val_main_v1, val_main_cst]
  unfold Ud
  by_cases h : 1 ≤ r.val
  · rw [dif_neg (by omega), if_pos h, U_of_lt p l (by omega)]
    congr 3 <;> exact Fin.ext (by show 1 + r.val - 2 = r.val - 1; omega)
  · rw [dif_pos (by omega), if_neg h]

theorem ref_u2 (r : Fin 8192) (l : Fin 2048) : val_main_v9 (F := Ideal) p (ix2 r l) = Ud p 2 l r.val := by
  pointwise [val_main_v9, val_main_v7, val_main_v5, val_main_v4, val_main_v3, val_main_v2, val_main_v1, val_main_cst]
  unfold Ud
  by_cases h : 2 ≤ r.val
  · rw [dif_neg (by omega), if_pos h, U_of_lt p l (by omega)]
  · rw [dif_pos (by omega), if_neg h]

theorem ref_d (r : Fin 8192) (l : Fin 2048) : val_main_v30 (F := Ideal) p dg (ix2 r l) = D p dg l r.val := by
  pointwise [val_main_v30, val_main_v0]
  exact (D_of_lt p dg l r.isLt).symm

/-- The reference's gradient of `b`. -/
theorem ref_db (i : S8192x2048.Idx) : val_main_v73 (F := Ideal) p w dg i = dB p w dg i := by
  obtain ⟨r, l, rfl⟩ : ∃ (r : Fin 8192) (l : Fin 2048), i = ix2 r l := ⟨i 0, i 1, eq_ix2 i⟩
  pointwise [val_main_v73, val_main_v68, val_main_v67, val_main_v31, val_main_v28, val_main_v27, val_main_v26, val_main_v25,
    val_main_v23, val_main_v22, val_main_v21, val_main_v20, val_main_v19, val_main_v18, val_main_v16, val_main_v15,
    val_main_v14, val_main_v13, val_main_v12, val_main_v11, val_main_v10, val_main_v8, val_main_v7, val_main_cst_1]
  rw [ref_u, ref_u1, ref_u2]
  unfold dB
  congr 1
  exact (add_comm _ _).trans ((congrArg _ (add_comm _ _)).trans (add_assoc _ _ _).symm)

theorem ref_du (r : Fin 8192) (l : Fin 2048) : val_main_v64 (F := Ideal) p w dg (ix2 r l) = dU p w dg l r.val := by
  pointwise [val_main_v64, val_main_v59, val_main_v58, val_main_v53, val_main_v52, val_main_v48, val_main_v47, val_main_v42,
    val_main_v41, val_main_v38, val_main_v33, val_main_v32, val_main_v25, val_main_v23, val_main_v22, val_main_v18,
    val_main_v16, val_main_v15, val_main_v10, val_main_v8, val_main_v7, val_main_cst_12, val_main_cst_8, val_main_cst_4]
  simp only [ref_d]
  unfold dU
  congr 1
  · congr 1
    by_cases h : r.val + 1 < 8192
    · rw [dif_pos (by omega)]
      congr 2; show 2 + r.val - 1 = _; omega
    · rw [dif_neg (by omega), D_of_ge _ _ _ h, mul_zero]
  · by_cases h : r.val + 2 < 8192
    · rw [dif_pos (by omega)]
      congr 2; show 2 + r.val = _; omega
    · rw [dif_neg (by omega), D_of_ge _ _ _ h, mul_zero]

/-- The reference's gradient of `c`. -/
theorem ref_dc (i : S8192x2048.Idx) : val_main_v74 (F := Ideal) p w dg i = dC p w dg i := by
  obtain ⟨r, l, rfl⟩ : ∃ (r : Fin 8192) (l : Fin 2048), i = ix2 r l := ⟨i 0, i 1, eq_ix2 i⟩
  pointwise [val_main_v74, val_main_v69, val_main_v67, val_main_v66, val_main_v2]
  rw [ref_du]
  rfl

/-- The reference's gradient of `v`. -/
theorem ref_dv (i : S8192x2048.Idx) : val_main_v75 (F := Ideal) p w dg i = dV p w dg i := by
  obtain ⟨r, l, rfl⟩ : ∃ (r : Fin 8192) (l : Fin 2048), i = ix2 r l := ⟨i 0, i 1, eq_ix2 i⟩
  pointwise [val_main_v75, val_main_v70, val_main_v67, val_main_v65, val_main_v1]
  rw [dif_neg (by omega), dif_neg (by omega), ref_du, mul_comm]
  simp only [show 4096 + l.val - 2048 - 2048 = l.val by omega]
  rfl

/-- The reference's gradients of the taps. -/
theorem ref_dw (i : S8x2048.Idx) : val_main_v72 (F := Ideal) p dg i = dW p dg i := by
  obtain ⟨r, l, rfl⟩ : ∃ (r : Fin 8) (l : Fin 2048), i = ix2 r l := ⟨i 0, i 1, eq_ix2 i⟩
  pointwise [val_main_v72, val_main_v71, val_main_v62, val_main_v61, val_main_v60, val_main_v51, val_main_v50, val_main_v49,
    val_main_v40, val_main_v39, val_main_v37, val_main_v36, val_main_v35, val_main_v34, val_main_v46, val_main_v45,
    val_main_v44, val_main_v43, val_main_v57, val_main_v56, val_main_v55, val_main_v54, val_main_c, val_main_call0_v0,
    val_main_cst_13, val_main_cst_11, val_main_cst_10, val_main_cst_9, val_main_cst_7, val_main_cst_6, val_main_cst_5,
    val_main_cst_3, val_main_cst_2]
  simp only [ref_d, ref_u, ref_u1, ref_u2, Finset.univ_unique, Finset.sum_singleton]
  unfold dW
  have e0 : FloatOps.sitofp (F := Ideal) FTy.f32 (0#32) = (0 : EReal) := by
    show ((((0#32 : BitVec 32).toInt : ℤ) : ℝ) : EReal) = 0
    simp
  have hu : ∀ k, Ud p 0 l k = U p l k := fun k => by simp [Ud]
  fin_cases r <;> simp [e0, hu]

end Reference

open Cert.ConvIdeal Cert.ConvIdeal.Gen

section Cases

variable {F : FTy → Type} [FloatOps F]
variable (c : Dev nD) (i : grid0.Coords)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S8x512 .f32) (h5 : a5.IsWhole)
  (a6 : Memref sig .tc .vmem S8x512 .f32) (h6 : a6.IsWhole)
  (a7 : Memref sig .tc .vmem S8x512 .f32) (h7 : a7.IsWhole)
  (a8 : Memref sig .tc .vmem S512x512 .f32) (h8 : a8.IsWhole)
  (a9 : Memref sig .tc .vmem S8x512 .f32) (h9 : a9.IsWhole)
  (a10 : Memref sig .tc .vmem S8x512 .f32) (h10 : a10.IsWhole)
  (a11 : Memref sig .tc .vmem S512x512 .bf16) (h11 : a11.IsWhole)
  (a12 : Memref sig .tc .vmem S512x512 .bf16) (h12 : a12.IsWhole)
  (a13 : Memref sig .tc .vmem S512x512 .bf16) (h13 : a13.IsWhole)
  (a14 : Memref sig .tc .vmem S8x512 .f32) (h14 : a14.IsWhole)
  (x0 x1 x2 : Vec F S512x512 .f32) (x3 x4 x5 : Vec F S8x512 .f32) (x6 : Vec F S512x512 .f32) (x7 x8 xo : Vec F S8x512 .f32)

/-- One of the eight rows. -/
def tap (x : Vec F S8x512 .f32) (k : Fin 8) : Vec F S1x512 .f32 := fun y => x (ix2 k (y 1))

theorem ld_tap0 (x : Vec F S8x512 .f32) :
    View.ld x (Rect.unit (s := S8x512) ![0, 0] ![1, 512] inb_S8x512_S1x512_0_0) = tap x 0 := by
  funext y
  obtain ⟨k, l, rfl⟩ : ∃ (k : Fin 1) (l : Fin 512), y = ix2 k l := ⟨y 0, y 1, eq_ix2 y⟩
  exact congrArg x (Shape.idx_ext₂ (by show 0 + 1 * k.val = 0; omega) (by show 0 + 1 * l.val = l.val; omega))

theorem ld_tap1 (x : Vec F S8x512 .f32) :
    View.ld x (Rect.unit (s := S8x512) ![1, 0] ![1, 512] inb_S8x512_S1x512_1_0) = tap x 1 := by
  funext y
  obtain ⟨k, l, rfl⟩ : ∃ (k : Fin 1) (l : Fin 512), y = ix2 k l := ⟨y 0, y 1, eq_ix2 y⟩
  exact congrArg x (Shape.idx_ext₂ (by show 1 + 1 * k.val = 1; omega) (by show 0 + 1 * l.val = l.val; omega))

theorem ld_tap2 (x : Vec F S8x512 .f32) :
    View.ld x (Rect.unit (s := S8x512) ![2, 0] ![1, 512] inb_S8x512_S1x512_2_0) = tap x 2 := by
  funext y
  obtain ⟨k, l, rfl⟩ : ∃ (k : Fin 1) (l : Fin 512), y = ix2 k l := ⟨y 0, y 1, eq_ix2 y⟩
  exact congrArg x (Shape.idx_ext₂ (by show 2 + 1 * k.val = 2; omega) (by show 0 + 1 * l.val = l.val; omega))

/-- Three rows over a whole block. -/
def over (y0 y1 y2 : Vec F S1x512 .f32) (z : Vec F S8x512 .f32) : Vec F S8x512 .f32 := fun j =>
  if (j 0).val = 2 then y2 (ix2 0 (j 1)) else if (j 0).val = 1 then y1 (ix2 0 (j 1)) else if (j 0).val = 0 then y0 (ix2 0 (j 1)) else z j

/-- Three rows stored over a block read as the three rows and the block elsewhere. -/
theorem read_over (v : View sig .tc .vmem S8x512 .f32) (f : v.ty.Contents (Elt F)) (y0 y1 y2 : Vec F S1x512 .f32)
    (L : List (View.Piece (Elt F) S8x512 .f32)) :
    v.read (Elt F) (v.writes (Elt F) f
        (⟨Rect.unit (s := S8x512) ![2, 0] S1x512.size inb_S8x512_S1x512_2_0, y2⟩
          :: ⟨Rect.unit (s := S8x512) ![1, 0] S1x512.size inb_S8x512_S1x512_1_0, y1⟩
          :: ⟨Rect.unit (s := S8x512) ![0, 0] S1x512.size inb_S8x512_S1x512_0_0, y0⟩ :: L))
      = over y0 y1 y2 (v.read (Elt F) (v.writes (Elt F) f L)) := by
  funext j
  obtain ⟨k, l, rfl⟩ : ∃ (k : Fin 8) (l : Fin 512), j = ix2 k l := ⟨j 0, j 1, eq_ix2 j⟩
  show _ = if k.val = 2 then y2 (ix2 0 l) else if k.val = 1 then y1 (ix2 0 l) else if k.val = 0 then y0 (ix2 0 l)
    else v.read (Elt F) (v.writes (Elt F) f L) (ix2 k l)
  by_cases h2 : k.val = 2
  · rw [if_pos h2]
    exact View.read_writes_cons_rows_of_mem (d := ![8, 512]) (o := 2) v f inb_S8x512_S1x512_2_0 y2 _ (ix2 k l) (ix2 0 l) rfl
      (by show k.val = 2 + 0; omega) rfl
  rw [if_neg h2, View.read_writes_cons_rows_of_not_mem (d := ![8, 512]) (o := 2) (W := 1) v f _ _ _ (ix2 k l) rfl rfl
    (by show k.val < 2 ∨ 2 + 1 ≤ k.val; omega)]
  by_cases h1 : k.val = 1
  · rw [if_pos h1]
    exact View.read_writes_cons_rows_of_mem (d := ![8, 512]) (o := 1) v f inb_S8x512_S1x512_1_0 y1 _ (ix2 k l) (ix2 0 l) rfl
      (by show k.val = 1 + 0; omega) rfl
  rw [if_neg h1, View.read_writes_cons_rows_of_not_mem (d := ![8, 512]) (o := 1) (W := 1) v f _ _ _ (ix2 k l) rfl rfl
    (by show k.val < 1 ∨ 1 + 1 ≤ k.val; omega)]
  by_cases h0 : k.val = 0
  · rw [if_pos h0]
    exact View.read_writes_cons_rows_of_mem (d := ![8, 512]) (o := 0) v f inb_S8x512_S1x512_0_0 y0 _ (ix2 k l) (ix2 0 l) rfl
      (by show k.val = 0 + 0; omega) rfl
  rw [if_neg h0, View.read_writes_cons_rows_of_not_mem (d := ![8, 512]) (o := 0) (W := 1) v f _ _ _ (ix2 k l) rfl rfl
    (by show k.val < 0 ∨ 0 + 1 ≤ k.val; omega)]

/-- What a point writes for the gradient of `b`. -/
def bBlock : Vec F S512x512 .bf16 :=
  k0_pay13 x6 (k0_pay11 i x1 x2 x3 x4 (tap x8 1) (tap x8 2)) (k0_pay12 i x1 x2 x3 x4 (tap x8 0))

/-- What a point writes for the gradient of `c`. -/
def cBlock : Vec F S512x512 .bf16 :=
  k0_pay16 (BitVec.ofNat 32 (i 1).val) x2 x0 x6 (k0_pay6 (tap x8 0)) (k0_pay7 (tap x8 1)) (k0_pay8 (tap x8 2)) x7 x5

/-- What a point writes for the gradient of `v`. -/
def vBlock : Vec F S512x512 .bf16 :=
  k0_pay17 (BitVec.ofNat 32 (i 1).val) x1 x0 x6 (k0_pay6 (tap x8 0)) (k0_pay7 (tap x8 1)) (k0_pay8 (tap x8 2)) x7 x5

/-- What a point leaves of the taps' sums over what the block held. -/
def wBlock : Vec F S8x512 .f32 :=
  over (k0_pay18 x0 x6 (k0_pay10 i x1 x2 x3 x4) (tap xo 0)) (k0_pay1 (k0_pay9 i x1 x2 x3 x4) (k0_pay14 x0 x6) (tap xo 1))
    (k0_pay2 (k0_pay4 x1 x2) (k0_pay14 x0 x6) (tap xo 2)) xo

theorem b_A (hc : cond0_0 i) :
    out0_A_9 c i a2 h2 a3 h3 a4 h4 a5 h5 a6 h6 a7 h7 a8 h8 a9 h9 a10 h10 a11 h11 a12 h12 a13 h13 a14 h14 hc x0 x1 x2 x3 x4 x5 x6 x7 x8 = bBlock i x1 x2 x3 x4 x6 x8 := by
  unfold out0_A_9 bBlock
  rw [View.read_writes_eq_canon _ _ _ (fun _ => cover0_A_9 ..)]
  unfold kernelRun0_A
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem c_A (hc : cond0_0 i) :
    out0_A_10 c i a2 h2 a3 h3 a4 h4 a5 h5 a6 h6 a7 h7 a8 h8 a9 h9 a10 h10 a11 h11 a12 h12 a13 h13 a14 h14 hc x0 x1 x2 x3 x4 x5 x6 x7 x8 = cBlock i x0 x2 x5 x6 x7 x8 := by
  unfold out0_A_10 cBlock
  rw [View.read_writes_eq_canon _ _ _ (fun _ => cover0_A_10 ..)]
  unfold kernelRun0_A
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem v_A (hc : cond0_0 i) :
    out0_A_11 c i a2 h2 a3 h3 a4 h4 a5 h5 a6 h6 a7 h7 a8 h8 a9 h9 a10 h10 a11 h11 a12 h12 a13 h13 a14 h14 hc x0 x1 x2 x3 x4 x5 x6 x7 x8 = vBlock i x0 x1 x5 x6 x7 x8 := by
  unfold out0_A_11 vBlock
  rw [View.read_writes_eq_canon _ _ _ (fun _ => cover0_A_11 ..)]
  unfold kernelRun0_A
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem w_A (hc : cond0_0 i) :
    out0_A_12 c i a2 h2 a3 h3 a4 h4 a5 h5 a6 h6 a7 h7 a8 h8 a9 h9 a10 h10 a11 h11 a12 h12 a13 h13 a14 h14 hc x0 x1 x2 x3 x4 x5 x6 x7 x8 = wBlock i x0 x1 x2 x3 x4 x6 k0_pay3 := by
  unfold out0_A_12 wBlock
  unfold kernelRun0_A
  dsimp only
  sl_unfold_words
  simp (discharger := decide) only [↓View.readCov_skip, View.readCov_fill]
  rw [read_over]
  simp only [View.readAt_eq_ld, Memref.IsWhole.read_unread, View.ld_unit_zero (S := S512x512) hz,
    View.ld_unit_zero (S := S8x512) hz]
  simp only [ld_tap0, ld_tap1, ld_tap2]
  rw [View.read_writes_junk_eq_canon, View.canon_unit_zero hz]

theorem b_B (hc : ¬cond0_0 i) :
    out0_B_9 c i a2 h2 a3 h3 a4 h4 a5 h5 a6 h6 a7 h7 a8 h8 a9 h9 a10 h10 a11 h11 a12 h12 a13 h13 a14 h14 hc x0 x1 x2 x3 x4 x5 x6 x7 x8 xo = bBlock i x1 x2 x3 x4 x6 x8 := by
  unfold out0_B_9 bBlock
  rw [View.read_writes_eq_canon _ _ _ (fun _ => cover0_B_9 ..)]
  unfold kernelRun0_B
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem c_B (hc : ¬cond0_0 i) :
    out0_B_10 c i a2 h2 a3 h3 a4 h4 a5 h5 a6 h6 a7 h7 a8 h8 a9 h9 a10 h10 a11 h11 a12 h12 a13 h13 a14 h14 hc x0 x1 x2 x3 x4 x5 x6 x7 x8 xo = cBlock i x0 x2 x5 x6 x7 x8 := by
  unfold out0_B_10 cBlock
  rw [View.read_writes_eq_canon _ _ _ (fun _ => cover0_B_10 ..)]
  unfold kernelRun0_B
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem v_B (hc : ¬cond0_0 i) :
    out0_B_11 c i a2 h2 a3 h3 a4 h4 a5 h5 a6 h6 a7 h7 a8 h8 a9 h9 a10 h10 a11 h11 a12 h12 a13 h13 a14 h14 hc x0 x1 x2 x3 x4 x5 x6 x7 x8 xo = vBlock i x0 x1 x5 x6 x7 x8 := by
  unfold out0_B_11 vBlock
  rw [View.read_writes_eq_canon _ _ _ (fun _ => cover0_B_11 ..)]
  unfold kernelRun0_B
  dsimp only
  sl_unfold_words
  rw [View.canon_unit_zero hz]
  simp only [View.readAt_eq_ld, Memref.IsWhole.read_unread, View.ld_unit_zero (S := S512x512) hz,
    View.ld_unit_zero (S := S8x512) hz, ld_tap0, ld_tap1, ld_tap2]

theorem w_B (hc : ¬cond0_0 i) :
    out0_B_12 c i a2 h2 a3 h3 a4 h4 a5 h5 a6 h6 a7 h7 a8 h8 a9 h9 a10 h10 a11 h11 a12 h12 a13 h13 a14 h14 hc x0 x1 x2 x3 x4 x5 x6 x7 x8 xo = wBlock i x0 x1 x2 x3 x4 x6 xo := by
  unfold out0_B_12 wBlock
  unfold kernelRun0_B
  dsimp only
  sl_unfold_words
  rw [read_over]
  simp only [View.readAt_eq_ld, Memref.IsWhole.read_unread, View.ld_unit_zero (S := S512x512) hz,
    View.ld_unit_zero (S := S8x512) hz, ld_tap0, ld_tap1, ld_tap2]
  rw [View.writes_nil, h14.read_unread]

end Cases

variable (m : (ℓ : Loc nD τ sig) → Buf (Elt Ideal) ℓ) (ρ : Dev nD → PrngReg)

/-- The three arguments on core `c`. -/
abbrev pj (c : Dev nD) : S8192x6144.Idx → EReal := m ((c : Thread nD τ).loc main_arg0)
abbrev cw (c : Dev nD) : S1x3x2048.Idx → EReal := m ((c : Thread nD τ).loc main_arg1)
abbrev dg (c : Dev nD) : S8192x2048.Idx → EReal := m ((c : Thread nD τ).loc main_arg2)

/-- Where the windows stand at a point: the column block is the point's quotient by 16, the row block its remainder; the
    rows before a block are block `64 r - 1` of 8 (the first block reads its own), those after it block `64 r + 64` (the last
    block reads its own). -/
theorem index_facts : ∀ t : Fin grid0.N, (grid0.coords t 1).val = t.val % 16
    ∧ win0_0.index t = ![t.val % 16, t.val / 16] ∧ win0_1.index t = ![t.val % 16, 4 + t.val / 16]
    ∧ win0_2.index t = ![t.val % 16, 8 + t.val / 16] ∧ win0_3.index t = ![64 * (t.val % 16) - 1, 4 + t.val / 16]
    ∧ win0_4.index t = ![64 * (t.val % 16) - 1, 8 + t.val / 16] ∧ win0_5.index t = ![min (64 * (t.val % 16) + 64) 1023, t.val / 16]
    ∧ win0_6.index t = ![t.val % 16, t.val / 16] ∧ win0_7.index t = ![min (64 * (t.val % 16) + 64) 1023, t.val / 16]
    ∧ win0_8.index t = ![0, t.val / 16] ∧ win0_9.index t = ![t.val % 16, t.val / 16] ∧ win0_10.index t = ![t.val % 16, t.val / 16]
    ∧ win0_11.index t = ![t.val % 16, t.val / 16] ∧ win0_12.index t = ![0, t.val / 16] := by
  decide +kernel

/-- Row `r` and column `l` of the point's block. -/
abbrev row (t : Fin cfg0.N) (r : Fin 512) : Fin 8192 := ⟨512 * (t.val % 16) + r.val, by omega⟩
abbrev col (t : Fin cfg0.N) (l : Fin 512) : Fin 2048 :=
  ⟨512 * (t.val / 16) + l.val, by have := t.isLt; have h : cfg0.N = 64 := N_0; omega⟩

/-- A place in a block of `B` rows at block row `n` and block column `q`. -/
theorem at_tile {a : Fin 2 → ℕ} {n q : ℕ} (h : a = ![n, q]) (B : ℕ) {x : ℕ} (l : Fin 512) {R C : ℕ} (hR : B * n + x = R)
    (hC : 512 * q + l.val = C) : a 0 * B + 1 * x = R ∧ a 1 * 512 + 1 * l.val = C := by
  subst h hR hC
  constructor
  · show n * B + 1 * x = _; rw [Nat.mul_comm]; omega
  · show q * 512 + 1 * l.val = _; omega

theorem b_block (c : Dev nD) (t : Fin cfg0.N) (r l : Fin 512) :
    (iblk m c 0 t : Vec Ideal S512x512 .f32) (ix2 r l) = pj m c (ix2 (row t r) ⟨(col t l).val, by omega⟩) := by
  unfold iblk
  rw [View.read_apply]
  show pj m c _ = _
  have e := at_tile (index_facts t).2.1 512 (x := r.val) l rfl rfl
  exact congrArg _ (Shape.idx_ext₂ e.1 e.2)

theorem c_block (c : Dev nD) (t : Fin cfg0.N) (r l : Fin 512) :
    (iblk m c 1 t : Vec Ideal S512x512 .f32) (ix2 r l) = pj m c (ix2 (row t r) ⟨2048 + (col t l).val, by omega⟩) := by
  unfold iblk
  rw [View.read_apply]
  show pj m c _ = _
  have e := at_tile (index_facts t).2.2.1 512 (x := r.val) l rfl (by show _ = 2048 + (512 * (t.val / 16) + l.val); omega)
  exact congrArg _ (Shape.idx_ext₂ e.1 e.2)

theorem v_block (c : Dev nD) (t : Fin cfg0.N) (r l : Fin 512) :
    (iblk m c 2 t : Vec Ideal S512x512 .f32) (ix2 r l) = pj m c (ix2 (row t r) ⟨4096 + (col t l).val, by omega⟩) := by
  unfold iblk
  rw [View.read_apply]
  show pj m c _ = _
  have e := at_tile (index_facts t).2.2.2.1 512 (x := r.val) l rfl (by show _ = 4096 + (512 * (t.val / 16) + l.val); omega)
  exact congrArg _ (Shape.idx_ext₂ e.1 e.2)

theorem dg_block (c : Dev nD) (t : Fin cfg0.N) (r l : Fin 512) :
    (iblk m c 6 t : Vec Ideal S512x512 .f32) (ix2 r l) = dg m c (ix2 (row t r) (col t l)) := by
  unfold iblk
  rw [View.read_apply]
  show dg m c _ = _
  have e := at_tile (index_facts t).2.2.2.2.2.2.2.1 512 (x := r.val) l rfl rfl
  exact congrArg _ (Shape.idx_ext₂ e.1 e.2)

/-- The 8 rows before a block that is not the first. -/
theorem before (c : Dev nD) (t : Fin cfg0.N) (q : Fin 8) (l : Fin 512) (h : 0 < t.val % 16) :
    @HMul.hMul EReal EReal EReal _ ((iblk m c 3 t : Vec Ideal S8x512 .f32) (ix2 q l)) ((iblk m c 4 t : Vec Ideal S8x512 .f32) (ix2 q l))
      = U (pj m c) (col t l) (512 * (t.val % 16) + q.val - 8) := by
  rw [U_of_lt _ _ (by omega)]
  unfold iblk
  rw [View.read_apply, View.read_apply]
  show pj m c _ * pj m c _ = _
  have e := at_tile (index_facts t).2.2.2.2.1 8 (x := q.val) l (R := 512 * (t.val % 16) + q.val - 8) (by omega)
    (show _ = 2048 + (512 * (t.val / 16) + l.val) by omega)
  have e' := at_tile (index_facts t).2.2.2.2.2.1 8 (x := q.val) l (R := 512 * (t.val % 16) + q.val - 8) (by omega)
    (show _ = 4096 + (512 * (t.val / 16) + l.val) by omega)
  exact congrArg₂ _ (congrArg _ (Shape.idx_ext₂ e.1 e.2)) (congrArg _ (Shape.idx_ext₂ e'.1 e'.2))

/-- The 8 rows after a block that is not the last. -/
theorem after (c : Dev nD) (t : Fin cfg0.N) (q : Fin 8) (l : Fin 512) (h : t.val % 16 < 15) :
    @HMul.hMul EReal EReal EReal _ ((iblk m c 7 t : Vec Ideal S8x512 .f32) (ix2 q l)) ((iblk m c 5 t : Vec Ideal S8x512 .f32) (ix2 q l))
      = D (pj m c) (dg m c) (col t l) (512 * (t.val % 16) + 512 + q.val) := by
  rw [D_of_lt _ _ _ (by omega), mul_comm]
  unfold iblk
  rw [View.read_apply, View.read_apply]
  show pj m c _ * dg m c _ = _
  have e := at_tile (index_facts t).2.2.2.2.2.2.1 8 (x := q.val) l (R := 512 * (t.val % 16) + 512 + q.val) (by omega) rfl
  have e' := at_tile (index_facts t).2.2.2.2.2.2.2.2.1 8 (x := q.val) l (R := 512 * (t.val % 16) + 512 + q.val) (by omega) rfl
  exact congrArg₂ _ (congrArg _ (Shape.idx_ext₂ e.1 e.2)) (congrArg _ (Shape.idx_ext₂ e'.1 e'.2))

/-- The three taps, which the host put in the first three of eight rows. -/
theorem taps (c : Dev nD) (t : Fin cfg0.N) (k : Fin 8) (l : Fin 512) (k' : Fin 3) (h : k.val = k'.val) :
    (iblk m c 8 t : Vec Ideal S8x512 .f32) (ix2 k l) = cw m c (ix3 0 k' (col t l)) := by
  unfold iblk
  rw [View.read_apply]
  have e := at_tile (index_facts t).2.2.2.2.2.2.2.2.2.1 8 (x := k.val) l (R := k.val) (by omega) rfl
  refine (congrArg (V m c main_v2) (Shape.idx_ext₂ (y := ix2 k (col t l)) e.1 e.2)).trans ?_
  show StableHlo.after hostOps0 (fun b => m (c, b)) (Proc.devRef .tc main_v2) (ix2 k (col t l)) = _
  unfold hostOps0
  after_results_simp
  pointwise
  rw [dif_pos (by omega)]
  exact congrArg (fun q : Fin 3 => cw m c (ix3 0 q (col t l))) (Fin.ext h)

theorem sgt_fact : ∀ a : Fin 16, Scalar.cmpi .sgt (BitVec.ofNat 32 a.val) 0#32 = if 0 < a.val then 1#1 else 0#1 := by decide
theorem slt_fact : ∀ a : Fin 16, Scalar.cmpi .slt (BitVec.ofNat 32 a.val) 15#32 = if a.val < 15 then 1#1 else 0#1 := by decide

/-- The product of the block's own rows. -/
theorem u_block (c : Dev nD) (t : Fin cfg0.N) (r l : Fin 512) :
    k0_pay4 (iblk m c 1 t) (iblk m c 2 t) (ix2 r l) = U (pj m c) (col t l) (row t r).val := by
  pointwise [k0_pay4]
  rw [c_block, v_block, U_of_lt _ _ (row t r).isLt]

/-- The block's cotangent. -/
theorem d_block (c : Dev nD) (t : Fin cfg0.N) (r l : Fin 512) :
    k0_pay14 (iblk m c 0 t) (iblk m c 6 t) (ix2 r l) = D (pj m c) (dg m c) (col t l) (row t r).val := by
  pointwise [k0_pay14]
  rw [b_block, dg_block, D_of_lt _ _ _ (row t r).isLt, mul_comm]

/-- The rows before the block, zero before the first block. -/
theorem halo_before (c : Dev nD) (t : Fin cfg0.N) (q : Fin 8) (l : Fin 512) :
    k0_pay5 (grid0.coords t) (iblk m c 3 t) (iblk m c 4 t) (ix2 q l)
      = if 0 < t.val % 16 then U (pj m c) (col t l) (512 * (t.val % 16) + q.val - 8) else 0 := by
  pointwise [k0_pay5]
  rw [(index_facts t).1, sgt_fact ⟨t.val % 16, by omega⟩]
  unfold Scalar.select
  by_cases h : 0 < t.val % 16
  · rw [if_pos h, if_pos h, if_pos (by decide)]
    exact before m c t q l h
  · rw [if_neg h, if_neg h, if_neg (by decide)]

/-- A row of the block or of the 8 before it, `s` rows up. -/
theorem shifted (p : S8192x6144.Idx → EReal) (j : Fin 2048) {a r s q : ℕ} (ha : a < 16) (hr : r < 512) (hs : 1 ≤ s ∧ s ≤ 8)
    (hq : q = 8 + r - s) :
    (if _ : q < 8 then (if 0 < a then U p j (512 * a + q - 8) else 0) else U p j (512 * a + (q - 8))) = Ud p s j (512 * a + r) := by
  unfold Ud
  by_cases h : q < 8
  · rw [dif_pos h]
    by_cases h0 : 0 < a
    · rw [if_pos h0, if_pos (by omega)]
      congr 1; omega
    · rw [if_neg h0, if_neg (by omega)]
  · rw [dif_neg h, if_pos (by omega)]
    congr 1; omega

theorem down1 (c : Dev nD) (t : Fin cfg0.N) (r l : Fin 512) :
    k0_pay9 (grid0.coords t) (iblk m c 1 t) (iblk m c 2 t) (iblk m c 3 t) (iblk m c 4 t) (ix2 r l)
      = Ud (pj m c) 1 (col t l) (row t r).val := by
  pointwise [k0_pay9]
  simp only [u_block, halo_before]
  exact shifted _ _ (by omega) (by omega) (by omega) (by omega)

theorem down2 (c : Dev nD) (t : Fin cfg0.N) (r l : Fin 512) :
    k0_pay10 (grid0.coords t) (iblk m c 1 t) (iblk m c 2 t) (iblk m c 3 t) (iblk m c 4 t) (ix2 r l)
      = Ud (pj m c) 2 (col t l) (row t r).val := by
  pointwise [k0_pay10]
  simp only [u_block, halo_before]
  exact shifted _ _ (by omega) (by omega) (by omega) (by omega)

theorem tap_block (c : Dev nD) (t : Fin cfg0.N) (k : Fin 8) (l : Fin 512) (k' : Fin 3) (h : k.val = k'.val) :
    tap (iblk m c 8 t) k (ix2 0 l) = cw m c (ix3 0 k' (col t l)) := taps m c t k l k' h

/-- A row of the block or of the 8 after it. -/
theorem shifted_up (c : Dev nD) (t : Fin cfg0.N) (l : Fin 512) {q R : ℕ} (hR : q < 520 ∧ R = 512 * (t.val % 16) + q) (hq : q - 512 < 8) :
    (if _ : q < 512 then D (pj m c) (dg m c) (col t l) (512 * (t.val % 16) + q)
      else Scalar.select (Scalar.cmpi CmpIPredicate.slt (BitVec.ofNat 32 (grid0.coords t 1).val) 15#32)
        (@HMul.hMul EReal EReal EReal _ ((iblk m c 7 t : Vec Ideal S8x512 .f32) (ix2 ⟨q - 512, hq⟩ l))
          ((iblk m c 5 t : Vec Ideal S8x512 .f32) (ix2 ⟨q - 512, hq⟩ l))) 0)
      = D (pj m c) (dg m c) (col t l) R := by
  obtain ⟨hq', rfl⟩ := hR
  by_cases h : q < 512
  · rw [dif_pos h]
  · rw [dif_neg h, (index_facts t).1, slt_fact ⟨t.val % 16, by omega⟩]
    unfold Scalar.select
    by_cases h1 : t.val % 16 < 15
    · rw [if_pos h1, if_pos (by decide), after m c t _ l h1]
      congr 1
      show _ + (q - 512) = _
      omega
    · rw [if_neg h1, if_neg (by decide), D_of_ge _ _ _ (by omega)]

/-- The gradient of the product, in the point's block. -/
theorem du_block (c : Dev nD) (t : Fin cfg0.N) (r l : Fin 512) :
    k0_pay15 (BitVec.ofNat 32 (grid0.coords t 1).val) (iblk m c 0 t) (iblk m c 6 t) (k0_pay6 (tap (iblk m c 8 t) 0))
        (k0_pay7 (tap (iblk m c 8 t) 1)) (k0_pay8 (tap (iblk m c 8 t) 2)) (iblk m c 7 t) (iblk m c 5 t) (ix2 r l)
      = dU (pj m c) (cw m c) (dg m c) (col t l) (row t r).val := by
  pointwise [k0_pay15, k0_pay6, k0_pay7, k0_pay8]
  rw [tap_block m c t 2 l 2 rfl, tap_block m c t 1 l 1 rfl, tap_block m c t 0 l 0 rfl]
  simp only [d_block]
  rw [shifted_up m c t l (q := (r.val + 520 - 519) % 520) (R := (row t r).val + 1) ⟨by omega, by dsimp only; omega⟩ (by omega),
    shifted_up m c t l (q := (r.val + 520 - 518) % 520) (R := (row t r).val + 2) ⟨by omega, by dsimp only; omega⟩ (by omega)]
  rfl

theorem bBlock_apply (c : Dev nD) (t : Fin cfg0.N) (r l : Fin 512) :
    bBlock (grid0.coords t) (iblk m c 1 t) (iblk m c 2 t) (iblk m c 3 t) (iblk m c 4 t) (iblk m c 6 t) (iblk m c 8 t) (ix2 r l)
      = dB (pj m c) (cw m c) (dg m c) (ix2 (row t r) (col t l)) := by
  unfold bBlock
  pointwise [k0_pay13, k0_pay12, k0_pay11, k0_pay8, k0_pay7, k0_pay6]
  rw [tap_block m c t 2 l 2 rfl, tap_block m c t 1 l 1 rfl, tap_block m c t 0 l 0 rfl, u_block, down1, down2, dg_block]
  rfl

theorem cBlock_apply (c : Dev nD) (t : Fin cfg0.N) (r l : Fin 512) :
    cBlock (grid0.coords t) (iblk m c 0 t) (iblk m c 2 t) (iblk m c 5 t) (iblk m c 6 t) (iblk m c 7 t) (iblk m c 8 t) (ix2 r l)
      = dC (pj m c) (cw m c) (dg m c) (ix2 (row t r) (col t l)) := by
  unfold cBlock
  pointwise [k0_pay16]
  rw [du_block, v_block]
  rfl

theorem vBlock_apply (c : Dev nD) (t : Fin cfg0.N) (r l : Fin 512) :
    vBlock (grid0.coords t) (iblk m c 0 t) (iblk m c 1 t) (iblk m c 5 t) (iblk m c 6 t) (iblk m c 7 t) (iblk m c 8 t) (ix2 r l)
      = dV (pj m c) (cw m c) (dg m c) (ix2 (row t r) (col t l)) := by
  unfold vBlock
  pointwise [k0_pay17]
  rw [du_block, c_block]
  rfl

/-- One step of the taps' sums. -/
theorem wBlock_apply (c : Dev nD) (t : Fin cfg0.N) (xo : Vec Ideal S8x512 .f32) (k : Fin 8) (l : Fin 512) :
    wBlock (grid0.coords t) (iblk m c 0 t) (iblk m c 1 t) (iblk m c 2 t) (iblk m c 3 t) (iblk m c 4 t) (iblk m c 6 t) xo (ix2 k l)
      = xo (ix2 k l) + if k.val < 3 then ∑ r : Fin 512, D (pj m c) (dg m c) (col t l) (row t r).val
          * Ud (pj m c) (2 - k.val) (col t l) (row t r).val else 0 := by
  unfold wBlock
  show (if k.val = 2 then k0_pay2 (k0_pay4 (iblk m c 1 t) (iblk m c 2 t)) (k0_pay14 (iblk m c 0 t) (iblk m c 6 t)) (tap xo 2) (ix2 0 l)
    else if k.val = 1 then k0_pay1 (k0_pay9 (grid0.coords t) (iblk m c 1 t) (iblk m c 2 t) (iblk m c 3 t) (iblk m c 4 t))
      (k0_pay14 (iblk m c 0 t) (iblk m c 6 t)) (tap xo 1) (ix2 0 l)
    else if k.val = 0 then k0_pay18 (iblk m c 0 t) (iblk m c 6 t)
      (k0_pay10 (grid0.coords t) (iblk m c 1 t) (iblk m c 2 t) (iblk m c 3 t) (iblk m c 4 t)) (tap xo 0) (ix2 0 l)
    else xo (ix2 k l)) = _
  by_cases h2 : k.val = 2
  · obtain rfl : k = 2 := Fin.ext h2
    rw [if_pos h2, if_pos (by decide)]
    pointwise [k0_pay2]
    simp only [d_block, u_block]
    have hu : ∀ q, Ud (pj m c) 0 (col t l) q = U (pj m c) (col t l) q := fun q => by simp [Ud]
    simp only [show 2 - (2 : Fin 8).val = 0 from rfl, hu]
    rfl
  rw [if_neg h2]
  by_cases h1 : k.val = 1
  · obtain rfl : k = 1 := Fin.ext h1
    rw [if_pos h1, if_pos (by decide)]
    pointwise [k0_pay1]
    simp only [d_block, down1]
    rfl
  rw [if_neg h1]
  by_cases h0 : k.val = 0
  · obtain rfl : k = 0 := Fin.ext h0
    rw [if_pos h0, if_pos (by decide)]
    pointwise [k0_pay18]
    simp only [d_block, down2]
    rfl
  rw [if_neg h0, if_neg (by omega), add_zero]

/-- After every point the three gradients' blocks hold what the point computed. -/
theorem b_eq (c : Dev nD) (t : Fin cfg0.N) : (outsAt0 m c t.val t.isLt).1
    = bBlock (grid0.coords t) (iblk m c 1 t) (iblk m c 2 t) (iblk m c 3 t) (iblk m c 4 t) (iblk m c 6 t) (iblk m c 8 t) := by
  by_cases h : t.val % 16 = 0
  · rw [outsAt0_A m c t h]; dsimp only; rw [b_A]
  · rw [outsAt0_B m c t h]; dsimp only; rw [b_B]

theorem c_eq (c : Dev nD) (t : Fin cfg0.N) : (outsAt0 m c t.val t.isLt).2.1
    = cBlock (grid0.coords t) (iblk m c 0 t) (iblk m c 2 t) (iblk m c 5 t) (iblk m c 6 t) (iblk m c 7 t) (iblk m c 8 t) := by
  by_cases h : t.val % 16 = 0
  · rw [outsAt0_A m c t h]; dsimp only; rw [c_A]
  · rw [outsAt0_B m c t h]; dsimp only; rw [c_B]

theorem v_eq (c : Dev nD) (t : Fin cfg0.N) : (outsAt0 m c t.val t.isLt).2.2.1
    = vBlock (grid0.coords t) (iblk m c 0 t) (iblk m c 1 t) (iblk m c 5 t) (iblk m c 6 t) (iblk m c 7 t) (iblk m c 8 t) := by
  by_cases h : t.val % 16 = 0
  · rw [outsAt0_A m c t h]; dsimp only; rw [v_A]
  · rw [outsAt0_B m c t h]; dsimp only; rw [v_B]

/-- The taps' gradients over the first `n` rows. -/
def part (c : Dev nD) (k : Fin 8) (j : Fin 2048) (n : ℕ) : EReal :=
  if k.val < 3 then ∑ r ∈ Finset.range n, ext (fun r : Fin 8192 => D (pj m c) (dg m c) j r.val * Ud (pj m c) (2 - k.val) j r.val) r
  else 0

theorem part_step (c : Dev nD) (k : Fin 8) (t : Fin cfg0.N) (l : Fin 512) :
    part m c k (col t l) (512 * (t.val % 16)) + (if k.val < 3 then ∑ r : Fin 512, D (pj m c) (dg m c) (col t l) (row t r).val
          * Ud (pj m c) (2 - k.val) (col t l) (row t r).val else 0) = part m c k (col t l) (512 * (t.val % 16 + 1)) := by
  unfold part
  by_cases h : k.val < 3
  · simp only [if_pos h]
    exact (sum_block _ _ _ fun r => ⟨(row t r).isLt, rfl⟩).symm
  · simp only [if_neg h, add_zero]

/-- After point `n` the taps' block holds the sums over the column block's rows up to the point's last. -/
theorem sums_eq (c : Dev nD) (k : Fin 8) (l : Fin 512) : ∀ (n : ℕ) (h : n < cfg0.N), (outsAt0 m c n h).2.2.2 (ix2 k l)
    = part m c k (col ⟨n, h⟩ l) (512 * (n % 16 + 1))
  | 0, h => by
    rw [outsAt0_A m c ⟨0, h⟩ rfl]
    dsimp only
    rw [w_A, wBlock_apply, ← part_step m c k ⟨0, h⟩ l]
    congr 1
    pointwise [k0_pay3]
    unfold part
    simp
  | n + 1, h => by
    by_cases h0 : (n + 1) % 16 = 0
    · rw [outsAt0_A m c ⟨n + 1, h⟩ h0]
      dsimp only
      rw [w_A, wBlock_apply, ← part_step m c k ⟨n + 1, h⟩ l]
      congr 1
      pointwise [k0_pay3]
      unfold part
      simp [h0]
    · rw [outsAt0_B m c ⟨n + 1, h⟩ h0]
      dsimp only
      rw [w_B, wBlock_apply, ← part_step m c k ⟨n + 1, h⟩ l]
      congr 1
      refine (sums_eq c k l n (Nat.lt_of_succ_lt h)).trans ?_
      have e1 : n % 16 + 1 = (n + 1) % 16 := by omega
      have e2 : col ⟨n, Nat.lt_of_succ_lt h⟩ l = col ⟨n + 1, h⟩ l := Fin.ext (by show 512 * (n / 16) + _ = 512 * ((n + 1) / 16) + _; omega)
      rw [e1, e2]

/-- The point of a row and a column. -/
abbrev point (i : S8192x2048.Idx) : Fin cfg0.N :=
  ⟨16 * ((i 1).val / 512) + (i 0).val / 512, by
    have h : (i 0).val < 8192 := (i 0).isLt
    have h' : (i 1).val < 2048 := (i 1).isLt
    rw [show cfg0.N = 64 from N_0]; omega⟩

/-- Every index lies in its point's block. -/
theorem in_tile (i : S8192x2048.Idx) {a : Fin 2 → ℕ} (h : a = ![(point i).val % 16, (point i).val / 16]) (b : Fin 2) :
    a b * ![512, 512] b ≤ (i b).val ∧ (i b).val < a b * ![512, 512] b + ![512, 512] b := by
  have h0 : (i 0).val < 8192 := (i 0).isLt
  have h1 : (i 1).val < 2048 := (i 1).isLt
  subst h
  match b with
  | ⟨0, _⟩ =>
    show (16 * ((i 1).val / 512) + (i 0).val / 512) % 16 * 512 ≤ (i 0).val ∧ (i 0).val < (16 * ((i 1).val / 512) + (i 0).val / 512) % 16 * 512 + 512
    omega
  | ⟨1, _⟩ =>
    show (16 * ((i 1).val / 512) + (i 0).val / 512) / 16 * 512 ≤ (i 1).val ∧ (i 1).val < (16 * ((i 1).val / 512) + (i 0).val / 512) / 16 * 512 + 512
    omega

/-- The array of the gradient of `b`. -/
theorem final_b (c : Dev nD) : (dats m 0 c).arrAt 9 cfg0.N = dB (pj m c) (cw m c) (dg m c) :=
  (dats m 0 c).arrAt_eq_of_cover 9 (dB (pj m c) (cw m c) (dg m c)) (fun t _ => by
    rw [Value.flushed9, b_eq]
    funext j
    rw [View.read_apply]
    obtain ⟨r, l, rfl⟩ : ∃ (r : Fin 512) (l : Fin 512), j = ix2 r l := ⟨j 0, j 1, eq_ix2 j⟩
    have e := at_tile (index_facts t).2.2.2.2.2.2.2.2.2.2.1 512 (x := r.val) l rfl rfl
    exact (bBlock_apply m c t r l).trans (congrArg (dB (pj m c) (cw m c) (dg m c))
      (Shape.idx_ext₂ (x := ix2 (row t r) (col t l)) e.1.symm e.2.symm))) fun i => by
    refine ⟨point i, flush0_9 _, ?_⟩
    show i ∈ ((View.whole main_v3_0).slice (win0_9.rect (point i))).set
    rw [View.set_slice_whole, Rect.mem_set_unit]
    have h := in_tile i (index_facts (point i)).2.2.2.2.2.2.2.2.2.2.1
    exact fun a => match a with
      | ⟨0, _⟩ => h 0
      | ⟨1, _⟩ => h 1

/-- The array of the gradient of `c`. -/
theorem final_c (c : Dev nD) : (dats m 0 c).arrAt 10 cfg0.N = dC (pj m c) (cw m c) (dg m c) :=
  (dats m 0 c).arrAt_eq_of_cover 10 (dC (pj m c) (cw m c) (dg m c)) (fun t _ => by
    rw [Value.flushed10, c_eq]
    funext j
    rw [View.read_apply]
    obtain ⟨r, l, rfl⟩ : ∃ (r : Fin 512) (l : Fin 512), j = ix2 r l := ⟨j 0, j 1, eq_ix2 j⟩
    have e := at_tile (index_facts t).2.2.2.2.2.2.2.2.2.2.2.1 512 (x := r.val) l rfl rfl
    exact (cBlock_apply m c t r l).trans (congrArg (dC (pj m c) (cw m c) (dg m c))
      (Shape.idx_ext₂ (x := ix2 (row t r) (col t l)) e.1.symm e.2.symm))) fun i => by
    refine ⟨point i, flush0_10 _, ?_⟩
    show i ∈ ((View.whole main_v3_1).slice (win0_10.rect (point i))).set
    rw [View.set_slice_whole, Rect.mem_set_unit]
    have h := in_tile i (index_facts (point i)).2.2.2.2.2.2.2.2.2.2.2.1
    exact fun a => match a with
      | ⟨0, _⟩ => h 0
      | ⟨1, _⟩ => h 1

/-- The array of the gradient of `v`. -/
theorem final_v (c : Dev nD) : (dats m 0 c).arrAt 11 cfg0.N = dV (pj m c) (cw m c) (dg m c) :=
  (dats m 0 c).arrAt_eq_of_cover 11 (dV (pj m c) (cw m c) (dg m c)) (fun t _ => by
    rw [Value.flushed11, v_eq]
    funext j
    rw [View.read_apply]
    obtain ⟨r, l, rfl⟩ : ∃ (r : Fin 512) (l : Fin 512), j = ix2 r l := ⟨j 0, j 1, eq_ix2 j⟩
    have e := at_tile (index_facts t).2.2.2.2.2.2.2.2.2.2.2.2.1 512 (x := r.val) l rfl rfl
    exact (vBlock_apply m c t r l).trans (congrArg (dV (pj m c) (cw m c) (dg m c))
      (Shape.idx_ext₂ (x := ix2 (row t r) (col t l)) e.1.symm e.2.symm))) fun i => by
    refine ⟨point i, flush0_11 _, ?_⟩
    show i ∈ ((View.whole main_v3_2).slice (win0_11.rect (point i))).set
    rw [View.set_slice_whole, Rect.mem_set_unit]
    have h := in_tile i (index_facts (point i)).2.2.2.2.2.2.2.2.2.2.2.2.1
    exact fun a => match a with
      | ⟨0, _⟩ => h 0
      | ⟨1, _⟩ => h 1

/-- The last point of a column's block. -/
abbrev lastOf (j : Fin 2048) : Fin cfg0.N := ⟨16 * (j.val / 512) + 15, by rw [show cfg0.N = 64 from N_0]; omega⟩

/-- The array of the taps' gradients. -/
theorem final_w (c : Dev nD) : (dats m 0 c).arrAt 12 cfg0.N = dW (pj m c) (dg m c) :=
  (dats m 0 c).arrAt_eq_of_cover 12 (dW (pj m c) (dg m c)) (fun t hf => by
    have ht : t.val % 16 = 15 := (flush0_12 t).mp hf
    rw [Value.flushed12]
    funext j
    rw [View.read_apply]
    obtain ⟨k, l, rfl⟩ : ∃ (k : Fin 8) (l : Fin 512), j = ix2 k l := ⟨j 0, j 1, eq_ix2 j⟩
    have e := at_tile (index_facts t).2.2.2.2.2.2.2.2.2.2.2.2.2 8 (x := k.val) l (R := k.val) (by omega) rfl
    refine ((sums_eq m c k l t.val t.isLt).trans ?_).trans (congrArg (dW (pj m c) (dg m c))
      (Shape.idx_ext₂ (x := ix2 k (col t l)) e.1.symm e.2.symm))
    rw [ht]
    show (if k.val < 3 then _ else 0) = if k.val < 3 then _ else 0
    by_cases h : k.val < 3
    · rw [if_pos h, if_pos h]
      exact sum_ext _
    · rw [if_neg h, if_neg h]) fun i => by
    have h0 : (i 0).val < 8 := (i 0).isLt
    refine ⟨lastOf (i 1), (flush0_12 _).mpr (by show (16 * ((i 1).val / 512) + 15) % 16 = 15; omega), ?_⟩
    show i ∈ ((View.whole main_v3_3).slice (win0_12.rect (lastOf (i 1)))).set
    rw [View.set_slice_whole, Rect.mem_set_unit]
    have f := (index_facts (lastOf (i 1))).2.2.2.2.2.2.2.2.2.2.2.2.2
    exact fun a => match a with
      | ⟨0, _⟩ => by
        show win0_12.index (lastOf (i 1)) 0 * 8 ≤ (i 0).val ∧ (i 0).val < win0_12.index (lastOf (i 1)) 0 * 8 + 8
        rw [f]
        show 0 * 8 ≤ (i 0).val ∧ (i 0).val < 0 * 8 + 8
        omega
      | ⟨1, _⟩ => by
        show win0_12.index (lastOf (i 1)) 1 * 512 ≤ (i 1).val ∧ (i 1).val < win0_12.index (lastOf (i 1)) 1 * 512 + 512
        rw [f]
        show (16 * ((i 1).val / 512) + 15) / 16 * 512 ≤ (i 1).val ∧ (i 1).val < (16 * ((i 1).val / 512) + 15) / 16 * 512 + 512
        omega

/-- The kernel's run, its four results read as whole arrays. -/
theorem run : θ_run defs (onTc (τ := τ) (main (F := Ideal))) ⟨m, fun _ => 0, ρ⟩ fun r => ∀ c : Dev nD,
      r.2.mem ((c : Thread nD τ).loc main_v3_0) = dB (pj m c) (cw m c) (dg m c)
      ∧ r.2.mem ((c : Thread nD τ).loc main_v3_1) = dC (pj m c) (cw m c) (dg m c)
      ∧ r.2.mem ((c : Thread nD τ).loc main_v3_2) = dV (pj m c) (cw m c) (dg m c)
      ∧ r.2.mem ((c : Thread nD τ).loc main_v3_3) = dW (pj m c) (dg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_b m c), (h c).2.1.trans (final_c m c),
    (h c).2.2.1.trans (final_v m c), (h c).2.2.2.1.trans (final_w m c), (h c).2.2.2.2⟩) (Value.run_blocks m ρ)

theorem algebraic : Cert.algebraic_ConvIdeal_ConvRefIdeal := by
  intro m ρ m' ρ' _ hag
  refine ⟨fun c => dB (pj m c) (cw m c) (dg m c), fun c => dC (pj m c) (cw m c) (dg m c), fun c => dV (pj m c) (cw m c) (dg m c),
    fun c => dW (pj m c) (dg m c), run m ρ, (θ_run _ _ _).mono (fun _ h c => ⟨(h c).1.trans ?_, (h c).2.1.trans ?_,
      (h c).2.2.1.trans ?_, (h c).2.2.2.1.trans ?_, (h c).2.2.2.2⟩) (Cert.ConvRefIdeal.Value.run m' ρ')⟩
  · rw [Cert.ConvRefIdeal.Read.val_main_v73_eq, (hag c).1, (hag c).2.1, (hag c).2.2]; exact funext fun i => ref_db _ _ _ i
  · rw [Cert.ConvRefIdeal.Read.val_main_v74_eq, (hag c).1, (hag c).2.1, (hag c).2.2]; exact funext fun i => ref_dc _ _ _ i
  · rw [Cert.ConvRefIdeal.Read.val_main_v75_eq, (hag c).1, (hag c).2.1, (hag c).2.2]; exact funext fun i => ref_dv _ _ _ i
  · rw [Cert.ConvRefIdeal.Read.val_main_v72_eq, (hag c).1, (hag c).2.2]; exact funext fun i => ref_dw _ _ i

end Cert.Proof.Conv

end
-- ==== Proof.Mlp.lean ====
/-
  The gradient through a squared rectifier, fused with the product that brings the cotangent back: the kernel multiplies
  `dy` by the rows of `w2` tile by tile and scales each tile by `2 * relu z`. The reference is the derivative of
  `(relu z * relu z) @ w2` with respect to `z`: `r * d + d * r` where `z` is positive, zero elsewhere. Doubling a number that
  is not negative is adding it to itself whatever it is multiplied by, so no assumption on the arguments is needed.
-/
module

public import proofs.«01_k».proof.Defs
public import proofs.«01_k».proof.Proof.Gen.MlpIdeal.Value
public import proofs.«01_k».proof.Proof.Gen.MlpRefIdeal.Read
public import proofs.«01_k».proof.Proof.Rows

@[expose] public section

set_option maxRecDepth 16384

noncomputable section

namespace Cert.Proof.Mlp

open Idealize.ShloMosaic Idealize.ShloMosaic.TcCoe Idealize.SL.Sem
open Cert.Proof.Rows

/-- The squared rectifier's derivative at `z`, times `d`: the form of the kernel. -/
def relu2Grad (z d : EReal) : EReal := ((2 : ℝ) : EReal) * max z 0 * d

/-- The same as the sum the product rule gives, cut off where `z` is not positive. -/
theorem relu2Grad_eq (z d : EReal) : relu2Grad z d = if 0 < z then max z 0 * d + d * max z 0 else 0 := by
  unfold relu2Grad
  split_ifs with h
  · have h0 : 0 ≤ max z 0 := le_max_right _ _
    rw [mul_comm d, ← EReal.right_distrib_of_nonneg h0 h0]
    congr 1
    rw [show ((2 : ℝ) : EReal) = 1 + 1 by rw [← EReal.coe_one, ← EReal.coe_add]; norm_num, EReal.right_distrib_of_nonneg (by norm_num) (by norm_num), one_mul]
  · rw [max_eq_right (not_lt.mp h), mul_zero, zero_mul]

section Reference

open Cert.MlpRefIdeal Cert.MlpRefIdeal.Gen Cert.MlpRefIdeal.Read

/-- The reference's gradient at an entry. -/
theorem ref_eq (z : S8192x8192.Idx → EReal) (w dy : S8192x2048.Idx → EReal) (r l : Fin 8192) :
    val_main_v14 (F := Ideal) z w dy (ix2 r l) = relu2Grad (z (ix2 r l)) (∑ k : Fin 2048, dy (ix2 r k) * w (ix2 l k)) := by
  rw [relu2Grad_eq]
  pointwise [val_main_v14, val_main_v13, val_main_v12, val_main_v11, val_main_v10, val_main_v9, val_main_v8, val_main_v2,
    val_main_v1, val_main_v0, val_main_cst, val_main_cst_0, val_main_cst_1, val_main_call0_cst, val_main_call0_v0]

end Reference

open Cert.MlpIdeal Cert.MlpIdeal.Gen

variable (m : (ℓ : Loc nD τ sig) → Buf (Elt Ideal) ℓ) (ρ : Dev nD → PrngReg)

abbrev z (c : Dev nD) : S8192x8192.Idx → EReal := m ((c : Thread nD τ).loc main_arg0)
abbrev w2 (c : Dev nD) : S8192x2048.Idx → EReal := m ((c : Thread nD τ).loc main_arg1)
abbrev dy (c : Dev nD) : S8192x2048.Idx → EReal := m ((c : Thread nD τ).loc main_arg2)

/-- The arrays the host prepares for the kernel: the rectified `z`, and the two operands cast. -/
theorem V_a (c : Dev nD) (r l : Fin 8192) : V m c main_v1 (ix2 r l) = max (z m c (ix2 r l)) 0 := by
  entry_read
  show maximumf (F := Ideal) (φ := .f32) (z m c) (broadcastInDim S8192x8192 ![] bcast_S_S8192x8192 (constant (F := Ideal) S_ .f32 0x00000000#32)) (ix2 r l) = _
  pointwise

theorem V_dy (c : Dev nD) (r : Fin 8192) (l : Fin 2048) : V m c main_v2 (ix2 r l) = dy m c (ix2 r l) := by
  show StableHlo.after (List.flatten [hostOps0, hostOps0_1]) (fun b => m (c, b)) (Proc.devRef .tc main_v2) (ix2 r l) = _
  unfold hostOps0 hostOps0_1
  simp only [List.flatten_cons, List.flatten_nil, List.append_nil, List.cons_append, List.nil_append]
  after_results_simp
  pointwise

theorem V_w2 (c : Dev nD) (r : Fin 8192) (l : Fin 2048) : V m c main_v4 (ix3 0 r l) = w2 m c (ix2 r l) := by
  show StableHlo.after (List.flatten [hostOps0, hostOps0_1]) (fun b => m (c, b)) (Proc.devRef .tc main_v4) (ix3 0 r l) = _
  unfold hostOps0 hostOps0_1
  simp only [List.flatten_cons, List.flatten_nil, List.append_nil, List.cons_append, List.nil_append]
  after_results_simp
  pointwise

/-- Where the windows stand at a point: the grid runs over the 8 blocks of rows, and within each over the 8 blocks of
    columns. -/
theorem index_facts : ∀ t : Fin grid0.N, win0_0.index t = ![t.val / 8, 0] ∧ win0_1.index t = ![0, t.val % 8, 0]
    ∧ win0_2.index t = ![t.val / 8, t.val % 8] ∧ win0_3.index t = ![t.val / 8, t.val % 8] := by
  decide +kernel

/-- One tile: the scaled product. -/
theorem tile_apply (x0 : Vec Ideal S1024x2048 .bf16) (x1 : Vec Ideal S1x1024x2048 .bf16) (x2 : Vec Ideal S1024x1024 .bf16) (r l : Fin 1024) :
    k0_pay1 x0 x1 x2 (ix2 r l) = ((2 : ℝ) : EReal) * x2 (ix2 r l) * ∑ k : Fin 2048, x0 (ix2 r k) * x1 (ix3 0 l k) := by
  pointwise [k0_pay1]
  rw [ofBits_two]

/-- The row and column an entry of a tile stands at. -/
abbrev row (t : Fin cfg0.N) (r : Fin 1024) : Fin 8192 :=
  ⟨1024 * (t.val / 8) + r.val, by have := t.isLt; have h : cfg0.N = 64 := N_0; omega⟩
abbrev col (t : Fin cfg0.N) (l : Fin 1024) : Fin 8192 := ⟨1024 * (t.val % 8) + l.val, by omega⟩

theorem at_tile {a : Fin 2 → ℕ} {n k N K : ℕ} (h : a = ![n, k]) (r : Fin N) (l : Fin K) :
    a 0 * N + 1 * r.val = N * n + r.val ∧ a 1 * K + 1 * l.val = K * k + l.val := by
  subst h
  constructor
  · show n * N + 1 * r.val = _; rw [one_mul, mul_comm]
  · show k * K + 1 * l.val = _; rw [one_mul, mul_comm]

theorem dy_block (c : Dev nD) (t : Fin cfg0.N) (r : Fin 1024) (l : Fin 2048) :
    (iblk m c 0 t : Vec Ideal S1024x2048 .bf16) (ix2 r l) = dy m c (ix2 (row t r) l) := by
  unfold iblk
  rw [View.read_apply, ← V_dy]
  show V m c main_v2 _ = _
  have e := at_tile (index_facts t).1 r l
  exact congrArg _ (Shape.idx_ext₂ e.1 (e.2.trans (by simp)))

theorem w2_block (c : Dev nD) (t : Fin cfg0.N) (r : Fin 1024) (l : Fin 2048) :
    (iblk m c 1 t : Vec Ideal S1x1024x2048 .bf16) (ix3 0 r l) = w2 m c (ix2 (col t r) l) := by
  unfold iblk
  rw [View.read_apply, ← V_w2]
  show V m c main_v4 _ = _
  refine congrArg _ (funext fun a => Fin.ext ?_)
  have e := (index_facts t).2.1
  match a with
  | ⟨0, _⟩ => show win0_1.index t 0 * 1 + 1 * 0 = 0; rw [e]; rfl
  | ⟨1, _⟩ => show win0_1.index t 1 * 1024 + 1 * r.val = 1024 * (t.val % 8) + r.val; rw [e]; show t.val % 8 * 1024 + 1 * r.val = _; omega
  | ⟨2, _⟩ => show win0_1.index t 2 * 2048 + 1 * l.val = l.val; rw [e]; show 0 * 2048 + 1 * l.val = _; omega

theorem a_block (c : Dev nD) (t : Fin cfg0.N) (r l : Fin 1024) :
    (iblk m c 2 t : Vec Ideal S1024x1024 .bf16) (ix2 r l) = max (z m c (ix2 (row t r) (col t l))) 0 := by
  unfold iblk
  rw [View.read_apply, ← V_a]
  show V m c main_v1 _ = _
  have e := at_tile (index_facts t).2.2.1 r l
  exact congrArg _ (Shape.idx_ext₂ e.1 e.2)

/-- The array the kernel writes. -/
def G (c : Dev nD) : S8192x8192.Idx → Elt Ideal .bf16 := fun i =>
  relu2Grad (z m c i) (∑ k : Fin 2048, dy m c (ix2 (i 0) k) * w2 m c (ix2 (i 1) k))

/-- The point of an entry's tile. -/
abbrev point (i : S8192x8192.Idx) : Fin cfg0.N :=
  ⟨(i 0).val / 1024 * 8 + (i 1).val / 1024, by
    have h : (i 0).val < 8192 := (i 0).isLt
    have h' : (i 1).val < 8192 := (i 1).isLt
    rw [show cfg0.N = 64 from N_0]; omega⟩

theorem hz3 : (![0, 0, 0] : Fin 3 → Nat) = fun _ => 0 := funext fun a => by fin_cases a <;> rfl

/-- The output array holds the gradient. -/
theorem final (c : Dev nD) : (dats m 0 c).arrAt 3 cfg0.N = G m c :=
  (dats m 0 c).arrAt_eq_of_cover 3 (G m c) (fun t _ => by
    rw [Value.flushed3]
    unfold out0_3
    rw [View.canon_unit_zero hz]
    simp only [View.ld_unit_zero (S := S1024x2048) hz, View.ld_unit_zero (S := S1x1024x2048) hz3, View.ld_unit_zero (S := S1024x1024) hz]
    funext j
    rw [View.read_apply]
    obtain ⟨r, l, rfl⟩ : ∃ r l : Fin 1024, j = ix2 r l := ⟨j 0, j 1, eq_ix2 j⟩
    show k0_pay1 (iblk m c 0 t) (iblk m c 1 t) (iblk m c 2 t) (ix2 r l) = G m c _
    rw [tile_apply, a_block]
    simp only [dy_block, w2_block]
    have e := at_tile (index_facts t).2.2.2 r l
    exact (congrArg (G m c) (Shape.idx_ext₂ (y := ix2 (row t r) (col t l)) e.1 e.2)).symm) fun i => by
    refine ⟨point i, flush0_3 _, ?_⟩
    show i ∈ ((View.whole main_v5).slice (win0_3.rect (point i))).set
    rw [View.set_slice_whole, Rect.mem_set_unit]
    have h0 : (i 0).val < 8192 := (i 0).isLt
    have h1 : (i 1).val < 8192 := (i 1).isLt
    have e := (index_facts (point i)).2.2.2
    intro a
    show win0_3.index (point i) a * ![1024, 1024] a ≤ (i a).val ∧ (i a).val < win0_3.index (point i) a * ![1024, 1024] a + ![1024, 1024] a
    rw [e]
    match a with
    | ⟨0, _⟩ => show ((i 0).val / 1024 * 8 + (i 1).val / 1024) / 8 * 1024 ≤ (i 0).val ∧ (i 0).val < ((i 0).val / 1024 * 8 + (i 1).val / 1024) / 8 * 1024 + 1024; omega
    | ⟨1, _⟩ => show ((i 0).val / 1024 * 8 + (i 1).val / 1024) % 8 * 1024 ≤ (i 1).val ∧ (i 1).val < ((i 0).val / 1024 * 8 + (i 1).val / 1024) % 8 * 1024 + 1024; omega

theorem algebraic : Cert.algebraic_MlpIdeal_MlpRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.MlpRefIdeal.Value.run m' ρ')⟩
  rw [Cert.MlpRefIdeal.Read.val_main_v14_eq, (hag c).1, (hag c).2.1, (hag c).2.2]
  funext i
  obtain ⟨r, l, rfl⟩ : ∃ r l : Fin 8192, i = ix2 r l := ⟨i 0, i 1, eq_ix2 i⟩
  exact ref_eq _ _ _ r l

end Cert.Proof.Mlp

end
-- ==== Proof.AttIdeal.Step.lean ====
/-
  The attention backward call, point by point: what each of the five kinds of points of its grid leaves in the outputs'
  blocks and in the two accumulators.
-/
module

public import proofs.«01_k».proof.Proof.Gen.AttIdeal.Frame
public import proofs.«01_k».proof.Proof.Gen.AttIdeal.Skeleton
public import Idealize.ShloMosaic.Lib.Pipeline.TableIdle
public import Idealize.ShloMosaic.Lib.WritesUnit
public import Idealize.ShloMosaic.Lib.Pipeline.Value
public import Idealize.ShloMosaic.Lib.Pointwise.Index

@[expose] public section

set_option maxRecDepth 16384

noncomputable section

namespace Cert.AttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttIdeal Cert.AttIdeal.Gen

variable {F : FTy → Type} [FloatOps F] [Named F]

local notation "𝕄" => MT nD τ sig Unit (Elt F) ℕ (UR sig nD τ) ℕ

/-- The blocks a point of the grid reads: the query rows, three blocks of keys and of values, the two gains, the bias
    with its mask, the cotangent rows. -/
structure Blocks (F : FTy → Type) where
  (q k0 k1 k2 v0 v1 v2 : Vec F S256x128 .f32)
  (qg kg : Vec F S1x128 .f32)
  bm : Vec F S1x256x768 .f32
  ct : Vec F S256x128 .bf16

/-- What a point leaves: the six outputs' blocks, and the two accumulators of the keys' and the values' gradients. -/
structure State (F : FTy → Type) where
  (dq dk dv : Vec F S256x128 .bf16)
  db : Vec F S1x256x768 .f32
  (dqg dkg : Vec F S1x128 .f32)
  (ak av : Vec F S768x128 .f32)

/-- The body's buffers: eleven for the blocks, six for the outputs, two for the accumulators. -/
structure Buffers where
  (arg2 arg3 arg4 arg5 arg6 arg7 arg8 : Memref sig .tc .vmem S256x128 .f32)
  (arg9 arg10 : Memref sig .tc .vmem S1x128 .f32)
  arg11 : Memref sig .tc .vmem S1x256x768 .f32
  (arg12 arg13 arg14 arg15 : Memref sig .tc .vmem S256x128 .bf16)
  arg16 : Memref sig .tc .vmem S1x256x768 .f32
  (arg17 arg18 : Memref sig .tc .vmem S1x128 .f32)
  (arg19 arg20 : Memref sig .tc .vmem S768x128 .f32)
  harg2 : arg2.IsWhole
  harg3 : arg3.IsWhole
  harg4 : arg4.IsWhole
  harg5 : arg5.IsWhole
  harg6 : arg6.IsWhole
  harg7 : arg7.IsWhole
  harg8 : arg8.IsWhole
  harg9 : arg9.IsWhole
  harg10 : arg10.IsWhole
  harg11 : arg11.IsWhole
  harg12 : arg12.IsWhole
  harg13 : arg13.IsWhole
  harg14 : arg14.IsWhole
  harg15 : arg15.IsWhole
  harg16 : arg16.IsWhole
  harg17 : arg17.IsWhole
  harg18 : arg18.IsWhole
  harg19 : arg19.IsWhole
  harg20 : arg20.IsWhole

/-- The buffers hold the blocks and the state. -/
def holds (c : Dev nD) (b : Buffers) (x : Blocks F) (s : State F) : sProp 𝕄 :=
  iprop(owns c b.arg2 fullShare x.q ∗ owns c b.arg3 fullShare x.k0
    ∗ owns c b.arg4 fullShare x.k1 ∗ owns c b.arg5 fullShare x.k2
    ∗ owns c b.arg6 fullShare x.v0 ∗ owns c b.arg7 fullShare x.v1
    ∗ owns c b.arg8 fullShare x.v2 ∗ owns c b.arg9 fullShare x.qg
    ∗ owns c b.arg10 fullShare x.kg ∗ owns c b.arg11 fullShare x.bm
    ∗ owns c b.arg12 fullShare x.ct ∗ owns c b.arg13 fullShare s.dq
    ∗ owns c b.arg14 fullShare s.dk ∗ owns c b.arg15 fullShare s.dv
    ∗ owns c b.arg16 fullShare s.db ∗ owns c b.arg17 fullShare s.dqg
    ∗ owns c b.arg18 fullShare s.dkg ∗ owns c b.arg19 fullShare s.ak
    ∗ owns c b.arg20 fullShare s.av)

/-- The body on these buffers. -/
def body (b : Buffers) (i : grid0.Coords) :=
  cc0_att_core_bwd (F := F) i b.arg2 b.harg2 b.arg3 b.harg3 b.arg4 b.harg4 b.arg5 b.harg5 b.arg6 b.harg6 b.arg7 b.harg7 b.arg8 b.harg8 b.arg9 b.harg9
    b.arg10 b.harg10 b.arg11 b.harg11 b.arg12 b.harg12 b.arg13 b.harg13 b.arg14 b.harg14 b.arg15 b.harg15 b.arg16 b.harg16
    b.arg17 b.harg17 b.arg18 b.harg18 b.arg19 b.harg19 b.arg20 b.harg20

/-- A buffer's cells, holding `w`. -/
def cells (c : Dev nD) {S : Shape} {e : EltTy} {a : Memref sig .tc .vmem S e} (h : a.IsWhole) (w : Vec F S e) : sProp 𝕄 :=
  iprop(a.view.loc (c : Thread nD τ) ↦[a.view.set]{fullShare} h.unread w)

theorem cells_of (c : Dev nD) {S : Shape} {e : EltTy} {a : Memref sig .tc .vmem S e} (h : a.IsWhole) (w : Vec F S e) :
    (owns c a fullShare w : sProp 𝕄) ⊢ cells c h w := by
  unfold owns cells
  iintro ⟨%f, %hf, H⟩
  obtain rfl := h.eq_unread hf
  iexact H

/-- A buffer whose cells read `w` holds `w`. -/
theorem stored (c : Dev nD) {S : Shape} {e : EltTy} {a : Memref sig .tc .vmem S e} {f : a.view.ty.Contents (Elt F)} {w : Vec F S e}
    (h : a.view.read (Elt F) f = w) : iprop(a.view.loc (c : Thread nD τ) ↦[a.view.set]{fullShare} f) ⊢ (owns c a fullShare w : sProp 𝕄) := by
  unfold owns
  iintro H
  iexists _; isplitr; swap; · iexact H
  ipureintro
  exact h

theorem keep (c : Dev nD) {S : Shape} {e : EltTy} {a : Memref sig .tc .vmem S e} (h : a.IsWhole) (w : Vec F S e) :
    iprop(a.view.loc (c : Thread nD τ) ↦[a.view.set]{fullShare} h.unread w) ⊢ (owns c a fullShare w : sProp 𝕄) :=
  stored c (h.read_unread w)

theorem holds_cells (c : Dev nD) (b : Buffers) (x : Blocks F) (s : State F) :
    holds c b x s ⊢ iprop(cells c b.harg2 x.q ∗ cells c b.harg3 x.k0 ∗ cells c b.harg4 x.k1 ∗ cells c b.harg5 x.k2 ∗ cells c b.harg6 x.v0
      ∗ cells c b.harg7 x.v1 ∗ cells c b.harg8 x.v2 ∗ cells c b.harg9 x.qg ∗ cells c b.harg10 x.kg ∗ cells c b.harg11 x.bm
      ∗ cells c b.harg12 x.ct ∗ cells c b.harg13 s.dq ∗ cells c b.harg14 s.dk ∗ cells c b.harg15 s.dv ∗ cells c b.harg16 s.db
      ∗ cells c b.harg17 s.dqg ∗ cells c b.harg18 s.dkg ∗ cells c b.harg19 s.ak ∗ cells c b.harg20 s.av) := by
  unfold holds
  iintro ⟨H2, H3, H4, H5, H6, H7, H8, H9, H10, H11, H12, H13, H14, H15, H16, H17, H18, H19, H20⟩
  isplitl [H2]; · iapply (cells_of c b.harg2 _); iexact H2
  isplitl [H3]; · iapply (cells_of c b.harg3 _); iexact H3
  isplitl [H4]; · iapply (cells_of c b.harg4 _); iexact H4
  isplitl [H5]; · iapply (cells_of c b.harg5 _); iexact H5
  isplitl [H6]; · iapply (cells_of c b.harg6 _); iexact H6
  isplitl [H7]; · iapply (cells_of c b.harg7 _); iexact H7
  isplitl [H8]; · iapply (cells_of c b.harg8 _); iexact H8
  isplitl [H9]; · iapply (cells_of c b.harg9 _); iexact H9
  isplitl [H10]; · iapply (cells_of c b.harg10 _); iexact H10
  isplitl [H11]; · iapply (cells_of c b.harg11 _); iexact H11
  isplitl [H12]; · iapply (cells_of c b.harg12 _); iexact H12
  isplitl [H13]; · iapply (cells_of c b.harg13 _); iexact H13
  isplitl [H14]; · iapply (cells_of c b.harg14 _); iexact H14
  isplitl [H15]; · iapply (cells_of c b.harg15 _); iexact H15
  isplitl [H16]; · iapply (cells_of c b.harg16 _); iexact H16
  isplitl [H17]; · iapply (cells_of c b.harg17 _); iexact H17
  isplitl [H18]; · iapply (cells_of c b.harg18 _); iexact H18
  isplitl [H19]; · iapply (cells_of c b.harg19 _); iexact H19
  iapply (cells_of c b.harg20 _); iexact H20

/-- The blocks' cells and the state's buffers, back together. -/
theorem holds_of (c : Dev nD) (b : Buffers) (x : Blocks F) (s : State F) :
    iprop(cells c b.harg2 x.q ∗ cells c b.harg3 x.k0 ∗ cells c b.harg4 x.k1 ∗ cells c b.harg5 x.k2 ∗ cells c b.harg6 x.v0 ∗ cells c b.harg7 x.v1
      ∗ cells c b.harg8 x.v2 ∗ cells c b.harg9 x.qg ∗ cells c b.harg10 x.kg ∗ cells c b.harg11 x.bm ∗ cells c b.harg12 x.ct
      ∗ owns c b.arg13 fullShare s.dq ∗ owns c b.arg14 fullShare s.dk ∗ owns c b.arg15 fullShare s.dv ∗ owns c b.arg16 fullShare s.db
      ∗ owns c b.arg17 fullShare s.dqg ∗ owns c b.arg18 fullShare s.dkg ∗ owns c b.arg19 fullShare s.ak ∗ owns c b.arg20 fullShare s.av) ⊢ holds c b x s := by
  unfold holds cells
  iintro ⟨H2, H3, H4, H5, H6, H7, H8, H9, H10, H11, H12, H13, H14, H15, H16, H17, H18, H19, H20⟩
  isplitl [H2]; · iapply (keep c b.harg2 _); iexact H2
  isplitl [H3]; · iapply (keep c b.harg3 _); iexact H3
  isplitl [H4]; · iapply (keep c b.harg4 _); iexact H4
  isplitl [H5]; · iapply (keep c b.harg5 _); iexact H5
  isplitl [H6]; · iapply (keep c b.harg6 _); iexact H6
  isplitl [H7]; · iapply (keep c b.harg7 _); iexact H7
  isplitl [H8]; · iapply (keep c b.harg8 _); iexact H8
  isplitl [H9]; · iapply (keep c b.harg9 _); iexact H9
  isplitl [H10]; · iapply (keep c b.harg10 _); iexact H10
  isplitl [H11]; · iapply (keep c b.harg11 _); iexact H11
  isplitl [H12]; · iapply (keep c b.harg12 _); iexact H12
  iframe H13 H14 H15 H16 H17 H18 H19 H20

/-- The rows of a 512-row block above those of a 256-row block. -/
def stack (lo : Vec F S512x128 .f32) (hi : Vec F S256x128 .f32) : Vec F S768x128 .f32 := fun i =>
  if h : (i 0).val < 512 then lo (ix2 ⟨(i 0).val, h⟩ ⟨(i 1).val, (i 1).isLt⟩)
  else hi (ix2 ⟨(i 0).val - 512, by have h' : (i 0).val < 768 := (i 0).isLt; show _ < 256; omega⟩ ⟨(i 1).val, (i 1).isLt⟩)

/-- The top 256 rows of an accumulator. -/
def top (a : Vec F S768x128 .f32) : Vec F S256x128 .f32 :=
  View.ld a (Rect.unit (s := S768x128) ![0, 0] S256x128.size inb_S768x128_S256x128_0_0)

/-- The accumulator moved up by 256 rows, zeros below. -/
def shiftK (a : Vec F S768x128 .f32) : Vec F S768x128 .f32 :=
  stack (k0_pay30 (View.ld a (Rect.unit (s := S768x128) ![256, 0] S512x128.size inb_S768x128_S512x128_256_0))) k0_pay31

/-- The same for the second accumulator. -/
def shiftV (a : Vec F S768x128 .f32) : Vec F S768x128 .f32 :=
  stack (k0_pay32 (View.ld a (Rect.unit (s := S768x128) ![256, 0] S512x128.size inb_S768x128_S512x128_256_0))) (k0_pay1 k0_pay33)

/-- The scores' gradient at a point. -/
def ds (i : grid0.Coords) (x : Blocks F) : FVec F S256x768 .f32 :=
  k0_pay8 (BitVec.ofNat 32 (i 1).val) (k0_pay4 x.q x.k0 x.k1 x.k2 x.qg x.kg) x.bm x.v0 x.v1 x.v2 x.ct

/-- The query rows' gradient. -/
def dqOf (i : grid0.Coords) (x : Blocks F) : Vec F S256x128 .bf16 :=
  k0_pay28 (k0_pay13 x.q) (k0_pay14 x.q) (k0_pay16 (k0_pay3 x.k0 x.k1 x.k2 x.kg) (ds i x) x.qg)
    (k0_pay17 (k0_pay3 x.k0 x.k1 x.k2 x.kg) (ds i x) x.q x.qg)

/-- A point's share of the query gain's gradient, added. -/
def dqgAdd (i : grid0.Coords) (x : Blocks F) (g : Vec F S1x128 .f32) : Vec F S1x128 .f32 :=
  k0_pay29 (k0_pay15 (k0_pay3 x.k0 x.k1 x.k2 x.kg) (ds i x) x.q) g

/-- A point's share of the keys' gradient, added. -/
def akAdd (i : grid0.Coords) (x : Blocks F) (a : Vec F S768x128 .f32) : Vec F S768x128 .f32 :=
  k0_pay12 (k0_pay2 x.q x.qg) (ds i x) a

/-- A point's share of the values' gradient, added. -/
def avAdd (i : grid0.Coords) (x : Blocks F) (a : Vec F S768x128 .f32) : Vec F S768x128 .f32 :=
  k0_pay7 (BitVec.ofNat 32 (i 1).val) (k0_pay4 x.q x.k0 x.k1 x.k2 x.qg x.kg) x.bm x.ct a

/-- What a point leaves at the first query block of the first head. -/
def stepA (i : grid0.Coords) (x : Blocks F) (s : State F) : State F :=
  ⟨dqOf i x, s.dk, s.dv, k0_pay9 (ds i x) k0_pay25, dqgAdd i x k0_pay26, k0_pay27, shiftK (akAdd i x k0_pay23), shiftV (avAdd i x k0_pay24)⟩

/-- What a point leaves at the first query block of a later head. -/
def stepB (i : grid0.Coords) (x : Blocks F) (s : State F) : State F :=
  ⟨dqOf i x, s.dk, s.dv, k0_pay9 (ds i x) k0_pay25, dqgAdd i x s.dqg, s.dkg, shiftK (akAdd i x k0_pay23), shiftV (avAdd i x k0_pay24)⟩

/-- What a point leaves at the second query block. -/
def stepC (i : grid0.Coords) (x : Blocks F) (s : State F) : State F :=
  ⟨dqOf i x, s.dk, s.dv, k0_pay9 (ds i x) s.db, dqgAdd i x s.dqg, s.dkg, shiftK (akAdd i x s.ak), shiftV (avAdd i x s.av)⟩

/-- What a point leaves at a query block from the third to the last. -/
def stepE (i : grid0.Coords) (x : Blocks F) (s : State F) : State F :=
  ⟨dqOf i x, k0_pay20 (top (akAdd i x s.ak)) x.k0 x.kg, k0_pay22 (top (avAdd i x s.av)), k0_pay9 (ds i x) s.db, dqgAdd i x s.dqg, k0_pay21 (top (akAdd i x s.ak)) x.k0 s.dkg, shiftK (akAdd i x s.ak), shiftV (avAdd i x s.av)⟩

/-- What a point leaves at the two points past the last query block. -/
def stepD (i : grid0.Coords) (x : Blocks F) (s : State F) : State F :=
  ⟨s.dq, k0_pay20 (top s.ak) x.k0 x.kg, k0_pay22 (top s.av), s.db, s.dqg, k0_pay21 (top s.ak) x.k0 s.dkg, shiftK s.ak, shiftV s.av⟩

/-- A buffer read whole after a store of all of it holds what was stored. -/
theorem read_whole {κ : Kind} {sp : Space} {S : Shape} {e : EltTy} (v : View sig κ sp S e) (f : v.ty.Contents (Elt F))
    {off : Fin S.rank → ℕ} (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y rfl fun a => by have := inb a; omega

/-- A load after a store of the whole buffer reads what was stored. -/
theorem read_cov {κ : Kind} {sp : Space} {S : Shape} {e : EltTy} (v : View sig κ sp S e)
    {off : Fin S.rank → ℕ} (hz : off = fun _ => 0) (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon']
  exact congrArg (fun (z : S.Idx → Elt F e) => View.ld z r) (View.canon_cons_unit_zero hz inb w L)

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole buffer reads its contents. -/
theorem read_at {κ : Kind} {sp : Space} {S : Shape} {e : EltTy} {m : Memref sig κ sp S e} (h : m.IsWhole)
    {off : Fin S.rank → ℕ} (hz : off = fun _ => 0) {inb : ∀ a, off a + S.size a ≤ S.size a} (w : S.Idx → Elt F e) :
    m.view.readAt (Elt F) (Rect.unit off S.size inb).toLoadRect (h.unread w) = w := by
  rw [View.readAt_eq_ld, h.read_unread]; exact View.ld_unit_zero hz inb w

/-- Equal arguments give equal values. -/
theorem ap3 {α β γ δ : Type} (f : α → β → γ → δ) {a a' : α} {b b' : β} {c c' : γ} (ha : a = a') (hb : b = b') (hc : c = c') :
    f a b c = f a' b' c' := by rw [ha, hb, hc]

/-- The blocks, as the body's loads of its buffers. -/
theorem blocks_read (b : Buffers) (x : Blocks F) :
    x = ⟨b.arg2.view.readAt (Elt F) (Rect.unit (s := S256x128) ![0, 0] S256x128.size inb_S256x128_S256x128_0_0).toLoadRect (b.harg2.unread x.q),
      b.arg3.view.readAt (Elt F) (Rect.unit (s := S256x128) ![0, 0] S256x128.size inb_S256x128_S256x128_0_0).toLoadRect (b.harg3.unread x.k0),
      b.arg4.view.readAt (Elt F) (Rect.unit (s := S256x128) ![0, 0] S256x128.size inb_S256x128_S256x128_0_0).toLoadRect (b.harg4.unread x.k1),
      b.arg5.view.readAt (Elt F) (Rect.unit (s := S256x128) ![0, 0] S256x128.size inb_S256x128_S256x128_0_0).toLoadRect (b.harg5.unread x.k2),
      b.arg6.view.readAt (Elt F) (Rect.unit (s := S256x128) ![0, 0] S256x128.size inb_S256x128_S256x128_0_0).toLoadRect (b.harg6.unread x.v0),
      b.arg7.view.readAt (Elt F) (Rect.unit (s := S256x128) ![0, 0] S256x128.size inb_S256x128_S256x128_0_0).toLoadRect (b.harg7.unread x.v1),
      b.arg8.view.readAt (Elt F) (Rect.unit (s := S256x128) ![0, 0] S256x128.size inb_S256x128_S256x128_0_0).toLoadRect (b.harg8.unread x.v2),
      b.arg9.view.readAt (Elt F) (Rect.unit (s := S1x128) ![0, 0] S1x128.size inb_S1x128_S1x128_0_0).toLoadRect (b.harg9.unread x.qg),
      b.arg10.view.readAt (Elt F) (Rect.unit (s := S1x128) ![0, 0] S1x128.size inb_S1x128_S1x128_0_0).toLoadRect (b.harg10.unread x.kg),
      b.arg11.view.readAt (Elt F) (Rect.unit (s := S1x256x768) ![0, 0, 0] S1x256x768.size inb_S1x256x768_S1x256x768_0_0_0).toLoadRect (b.harg11.unread x.bm),
      b.arg12.view.readAt (Elt F) (Rect.unit (s := S256x128) ![0, 0] S256x128.size inb_S256x128_S256x128_0_0).toLoadRect (b.harg12.unread x.ct)⟩ := by
  rw [read_at b.harg2 hz2, read_at b.harg3 hz2, read_at b.harg4 hz2, read_at b.harg5 hz2, read_at b.harg6 hz2, read_at b.harg7 hz2, read_at b.harg8 hz2, read_at b.harg9 hz2, read_at b.harg10 hz2, read_at b.harg11 hz3, read_at b.harg12 hz2]

/-- An accumulator after its last 256 rows and its first 512 rows were stored. -/
theorem read_stack {κ : Kind} {sp : Space} (v : View sig κ sp S768x128 .f32) (f : v.ty.Contents (Elt F))
    (hi : Vec F S256x128 .f32) (lo : Vec F S512x128 .f32) (L : List (View.Piece (Elt F) S768x128 .f32)) :
    v.read (Elt F) (v.writes (Elt F) f ((⟨Rect.unit ![512, 0] S256x128.size inb_S768x128_S256x128_512_0, hi⟩ : View.Piece (Elt F) S768x128 .f32)
      :: (⟨Rect.unit ![0, 0] S512x128.size inb_S768x128_S512x128_0_0, lo⟩ : View.Piece (Elt F) S768x128 .f32) :: L)) = stack lo hi := by
  funext y
  unfold stack
  by_cases h : (y 0).val < 512
  · rw [dif_pos h, View.read_writes_cons_rows_of_not_mem (d := ![768, 128]) (o := 512) (W := 256) v f _ _ _ y rfl rfl (Or.inl h)]
    exact View.read_writes_cons_rows_of_mem (d := ![768, 128]) (o := 0) v f inb_S768x128_S512x128_0_0 lo _ y _ rfl
      (Nat.zero_add _).symm rfl
  · rw [dif_neg h]
    exact View.read_writes_cons_rows_of_mem (d := ![768, 128]) (o := 512) v f inb_S768x128_S256x128_512_0 hi _ y _ rfl
      (show (y 0).val = 512 + ((y 0).val - 512) by omega) rfl

end Cert.AttIdeal.Run

end
-- ==== Proof.AttIdeal.Cases.lean ====
/-
  The attention backward call's body runs, at each kind of point of the grid.
-/
module

public import proofs.«01_k».proof.Proof.AttIdeal.Step

@[expose] public section

set_option maxRecDepth 16384

noncomputable section

namespace Cert.AttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttIdeal Cert.AttIdeal.Gen

variable {F : FTy → Type} [FloatOps F] [Named F]

local notation "𝕄" => MT nD τ sig Unit (Elt F) ℕ (UR sig nD τ) ℕ

set_option maxHeartbeats 2000000 in
/-- At the first query block of the first head the body runs from the blocks and any state to the blocks and `stepA`. -/
theorem caseA (c : Dev nD) (i : grid0.Coords) (b : Buffers)
    (hc1 : k0_cond1 i = 1#1) (hc2 : k0_cond2 i = 1#1) (hc3 : k0_cond3 i = 1#1) (hc4 : ¬k0_cond4 i = 1#1) (x : Blocks F) (s : State F) (E : Set ℕ) (K : PUnit → sProp 𝕄) :
    iprop(holds c b x s ∗ (holds c b x (stepA i x s) -∗ K ⟨⟩))
      ⊢ wp frame (wpE (defs₀ (F := F)) Variants.none c none) E (body b i) K := by
  unfold body
  simp only [cc0_att_core_bwd_eq_skeleton]; unfold cc0_att_core_bwd_skel
  simp only [k0_part5_eq_skeleton, k0_part1_eq_skeleton, k0_part2_eq_skeleton, k0_part3_eq_skeleton]
  refine (sep_mono (holds_cells c b x s) .rfl).trans ?_
  unfold cells
  iintro ⟨⟨H0, H1, H2, H3, H4, H5, H6, H7, H8, H9, H10, H11, H12, H13, H14, H15, H16, H17, H18⟩, Hk⟩
  sl_exec (disch := first | sl_exact hc1 | sl_exact hc2 | sl_exact hc3 | sl_exact hc4)
  sl_step
  iapply Hk
  iapply (holds_of c b x _)
  unfold cells
  iframe H0 H1 H2 H3 H4 H5 H6 H7 H8 H9 H10
  isplitl [H11]
  · iapply (stored c ((read_whole _ _ _ _ _).trans ?_)); swap; · iexact H11
    show _ = dqOf i x
    conv_rhs => rw [blocks_read b x]
    rfl
  isplitl [H12]; · iapply (keep c b.harg14 _); iexact H12
  isplitl [H13]; · iapply (keep c b.harg15 _); iexact H13
  isplitl [H14]
  · iapply (stored c ((read_whole _ _ _ _ _).trans ?_)); swap; · iexact H14
    show _ = k0_pay9 (ds i x) k0_pay25
    conv_rhs => rw [← View.readCov_cons_toLoadRect (Val := Elt F) b.arg16.view (Rect.unit (s := S1x256x768) ![0, 0, 0] S1x256x768.size inb_S1x256x768_S1x256x768_0_0_0) (k0_pay25 (F := F)) []]
    conv_rhs => rw [blocks_read b x]
    rfl
  isplitl [H15]
  · iapply (stored c ((read_whole _ _ _ _ _).trans ?_)); swap; · iexact H15
    show _ = dqgAdd i x k0_pay26
    conv_rhs => rw [← View.readCov_cons_toLoadRect (Val := Elt F) b.arg17.view (Rect.unit (s := S1x128) ![0, 0] S1x128.size inb_S1x128_S1x128_0_0) (k0_pay26 (F := F)) []]
    conv_rhs => rw [blocks_read b x]
    rfl
  isplitl [H16]
  · iapply (stored c ((read_whole _ _ _ _ _).trans ?_)); swap; · iexact H16
    rfl
  isplitl [H17]
  · iapply (stored c ((read_stack _ _ _ _ _).trans ?_)); swap; · iexact H17
    refine congrArg (fun z => stack (k0_pay30 z) k0_pay31) ?_
    refine (read_cov _ hz2 _ _ _ _).trans (congrArg (fun z => View.ld z _) ?_)
    show _ = akAdd i x k0_pay23
    conv_rhs => rw [← View.readCov_cons_toLoadRect (Val := Elt F) b.arg19.view (Rect.unit (s := S768x128) ![0, 0] S768x128.size inb_S768x128_S768x128_0_0) (k0_pay23 (F := F)) []]
    conv_rhs => rw [blocks_read b x]
    rfl
  iapply (stored c ((read_stack _ _ _ _ _).trans ?_)); swap; · iexact H18
  refine congrArg (fun z => stack (k0_pay32 z) (k0_pay1 k0_pay33)) ?_
  refine (read_cov _ hz2 _ _ _ _).trans (congrArg (fun z => View.ld z _) ?_)
  show _ = avAdd i x k0_pay24
  conv_rhs => rw [← View.readCov_cons_toLoadRect (Val := Elt F) b.arg20.view (Rect.unit (s := S768x128) ![0, 0] S768x128.size inb_S768x128_S768x128_0_0) (k0_pay24 (F := F)) []]
  conv_rhs => rw [blocks_read b x]
  rfl

set_option maxHeartbeats 2000000 in
/-- At the first query block of a later head the body runs from the blocks and any state to the blocks and `stepB`. -/
theorem caseB (c : Dev nD) (i : grid0.Coords) (b : Buffers)
    (hc1 : k0_cond1 i = 1#1) (hc2 : ¬k0_cond2 i = 1#1) (hc3 : k0_cond3 i = 1#1) (hc4 : ¬k0_cond4 i = 1#1) (x : Blocks F) (s : State F) (E : Set ℕ) (K : PUnit → sProp 𝕄) :
    iprop(holds c b x s ∗ (holds c b x (stepB i x s) -∗ K ⟨⟩))
      ⊢ wp frame (wpE (defs₀ (F := F)) Variants.none c none) E (body b i) K := by
  unfold body
  simp only [cc0_att_core_bwd_eq_skeleton]; unfold cc0_att_core_bwd_skel
  simp only [k0_part5_eq_skeleton, k0_part1_eq_skeleton, k0_part2_eq_skeleton, k0_part3_eq_skeleton]
  refine (sep_mono (holds_cells c b x s) .rfl).trans ?_
  unfold cells
  iintro ⟨⟨H0, H1, H2, H3, H4, H5, H6, H7, H8, H9, H10, H11, H12, H13, H14, H15, H16, H17, H18⟩, Hk⟩
  sl_exec (disch := first | sl_exact hc1 | sl_exact hc2 | sl_exact hc3 | sl_exact hc4)
  sl_step
  iapply Hk
  iapply (holds_of c b x _)
  unfold cells
  iframe H0 H1 H2 H3 H4 H5 H6 H7 H8 H9 H10
  isplitl [H11]
  · iapply (stored c ((read_whole _ _ _ _ _).trans ?_)); swap; · iexact H11
    show _ = dqOf i x
    conv_rhs => rw [blocks_read b x]
    rfl
  isplitl [H12]; · iapply (keep c b.harg14 _); iexact H12
  isplitl [H13]; · iapply (keep c b.harg15 _); iexact H13
  isplitl [H14]
  · iapply (stored c ((read_whole _ _ _ _ _).trans ?_)); swap; · iexact H14
    show _ = k0_pay9 (ds i x) k0_pay25
    conv_rhs => rw [← View.readCov_cons_toLoadRect (Val := Elt F) b.arg16.view (Rect.unit (s := S1x256x768) ![0, 0, 0] S1x256x768.size inb_S1x256x768_S1x256x768_0_0_0) (k0_pay25 (F := F)) []]
    conv_rhs => rw [blocks_read b x]
    rfl
  isplitl [H15]
  · iapply (stored c ((read_whole _ _ _ _ _).trans ?_)); swap; · iexact H15
    show _ = dqgAdd i x s.dqg
    conv_rhs => rw [← read_at (inb := inb_S1x128_S1x128_0_0) b.harg17 hz2 s.dqg]
    conv_rhs => rw [blocks_read b x]
    rfl
  isplitl [H16]; · iapply (keep c b.harg18 _); iexact H16
  isplitl [H17]
  · iapply (stored c ((read_stack _ _ _ _ _).trans ?_)); swap; · iexact H17
    refine congrArg (fun z => stack (k0_pay30 z) k0_pay31) ?_
    refine (read_cov _ hz2 _ _ _ _).trans (congrArg (fun z => View.ld z _) ?_)
    show _ = akAdd i x k0_pay23
    conv_rhs => rw [← View.readCov_cons_toLoadRect (Val := Elt F) b.arg19.view (Rect.unit (s := S768x128) ![0, 0] S768x128.size inb_S768x128_S768x128_0_0) (k0_pay23 (F := F)) []]
    conv_rhs => rw [blocks_read b x]
    rfl
  iapply (stored c ((read_stack _ _ _ _ _).trans ?_)); swap; · iexact H18
  refine congrArg (fun z => stack (k0_pay32 z) (k0_pay1 k0_pay33)) ?_
  refine (read_cov _ hz2 _ _ _ _).trans (congrArg (fun z => View.ld z _) ?_)
  show _ = avAdd i x k0_pay24
  conv_rhs => rw [← View.readCov_cons_toLoadRect (Val := Elt F) b.arg20.view (Rect.unit (s := S768x128) ![0, 0] S768x128.size inb_S768x128_S768x128_0_0) (k0_pay24 (F := F)) []]
  conv_rhs => rw [blocks_read b x]
  rfl

set_option maxHeartbeats 2000000 in
/-- At the second query block the body runs from the blocks and any state to the blocks and `stepC`. -/
theorem caseC (c : Dev nD) (i : grid0.Coords) (b : Buffers)
    (hc1 : ¬k0_cond1 i = 1#1) (hc2 : ¬k0_cond2 i = 1#1) (hc3 : k0_cond3 i = 1#1) (hc4 : ¬k0_cond4 i = 1#1) (x : Blocks F) (s : State F) (E : Set ℕ) (K : PUnit → sProp 𝕄) :
    iprop(holds c b x s ∗ (holds c b x (stepC i x s) -∗ K ⟨⟩))
      ⊢ wp frame (wpE (defs₀ (F := F)) Variants.none c none) E (body b i) K := by
  unfold body
  simp only [cc0_att_core_bwd_eq_skeleton]; unfold cc0_att_core_bwd_skel
  simp only [k0_part5_eq_skeleton, k0_part1_eq_skeleton, k0_part2_eq_skeleton, k0_part3_eq_skeleton]
  refine (sep_mono (holds_cells c b x s) .rfl).trans ?_
  unfold cells
  iintro ⟨⟨H0, H1, H2, H3, H4, H5, H6, H7, H8, H9, H10, H11, H12, H13, H14, H15, H16, H17, H18⟩, Hk⟩
  sl_exec (disch := first | sl_exact hc1 | sl_exact hc2 | sl_exact hc3 | sl_exact hc4)
  sl_step
  iapply Hk
  iapply (holds_of c b x _)
  unfold cells
  iframe H0 H1 H2 H3 H4 H5 H6 H7 H8 H9 H10
  isplitl [H11]
  · iapply (stored c ((read_whole _ _ _ _ _).trans ?_)); swap; · iexact H11
    show _ = dqOf i x
    conv_rhs => rw [blocks_read b x]
    rfl
  isplitl [H12]; · iapply (keep c b.harg14 _); iexact H12
  isplitl [H13]; · iapply (keep c b.harg15 _); iexact H13
  isplitl [H14]
  · iapply (stored c ((read_whole _ _ _ _ _).trans ?_)); swap; · iexact H14
    show _ = k0_pay9 (ds i x) s.db
    conv_rhs => rw [← read_at (inb := inb_S1x256x768_S1x256x768_0_0_0) b.harg16 hz3 s.db]
    conv_rhs => rw [blocks_read b x]
    rfl
  isplitl [H15]
  · iapply (stored c ((read_whole _ _ _ _ _).trans ?_)); swap; · iexact H15
    show _ = dqgAdd i x s.dqg
    conv_rhs => rw [← read_at (inb := inb_S1x128_S1x128_0_0) b.harg17 hz2 s.dqg]
    conv_rhs => rw [blocks_read b x]
    rfl
  isplitl [H16]; · iapply (keep c b.harg18 _); iexact H16
  isplitl [H17]
  · iapply (stored c ((read_stack _ _ _ _ _).trans ?_)); swap; · iexact H17
    refine congrArg (fun z => stack (k0_pay30 z) k0_pay31) ?_
    refine (read_cov _ hz2 _ _ _ _).trans (congrArg (fun z => View.ld z _) ?_)
    show _ = akAdd i x s.ak
    conv_rhs => rw [← read_at (inb := inb_S768x128_S768x128_0_0) b.harg19 hz2 s.ak]
    conv_rhs => rw [blocks_read b x]
    rfl
  iapply (stored c ((read_stack _ _ _ _ _).trans ?_)); swap; · iexact H18
  refine congrArg (fun z => stack (k0_pay32 z) (k0_pay1 k0_pay33)) ?_
  refine (read_cov _ hz2 _ _ _ _).trans (congrArg (fun z => View.ld z _) ?_)
  show _ = avAdd i x s.av
  conv_rhs => rw [← read_at (inb := inb_S768x128_S768x128_0_0) b.harg20 hz2 s.av]
  conv_rhs => rw [blocks_read b x]
  rfl

set_option maxHeartbeats 2000000 in
/-- At the two points past the last query block the body runs from the blocks and any state to the blocks and `stepD`. -/
theorem caseD (c : Dev nD) (i : grid0.Coords) (b : Buffers)
    (hc1 : ¬k0_cond1 i = 1#1) (hc2 : ¬k0_cond2 i = 1#1) (hc3 : ¬k0_cond3 i = 1#1) (hc4 : k0_cond4 i = 1#1) (x : Blocks F) (s : State F) (E : Set ℕ) (K : PUnit → sProp 𝕄) :
    iprop(holds c b x s ∗ (holds c b x (stepD i x s) -∗ K ⟨⟩))
      ⊢ wp frame (wpE (defs₀ (F := F)) Variants.none c none) E (body b i) K := by
  unfold body
  simp only [cc0_att_core_bwd_eq_skeleton]; unfold cc0_att_core_bwd_skel
  simp only [k0_part5_eq_skeleton, k0_part4_eq_skeleton]
  refine (sep_mono (holds_cells c b x s) .rfl).trans ?_
  unfold cells
  iintro ⟨⟨H0, H1, H2, H3, H4, H5, H6, H7, H8, H9, H10, H11, H12, H13, H14, H15, H16, H17, H18⟩, Hk⟩
  sl_exec (disch := first | sl_exact hc1 | sl_exact hc2 | sl_exact hc3 | sl_exact hc4)
  sl_step
  iapply Hk
  iapply (holds_of c b x _)
  unfold cells
  iframe H0 H1 H2 H3 H4 H5 H6 H7 H8 H9 H10
  isplitl [H11]; · iapply (keep c b.harg13 _); iexact H11
  isplitl [H12]
  · iapply (stored c ((read_whole _ _ _ _ _).trans ?_)); swap; · iexact H12
    refine ap3 k0_pay20 ?_ (read_at b.harg3 hz2 x.k0) (read_at b.harg10 hz2 x.kg)
    exact congrArg (fun z => View.ld z _) (b.harg19.read_unread _)
  isplitl [H13]
  · iapply (stored c ((read_whole _ _ _ _ _).trans ?_)); swap; · iexact H13
    refine congrArg (fun z => k0_pay22 z) ?_
    exact congrArg (fun z => View.ld z _) (b.harg20.read_unread _)
  isplitl [H14]; · iapply (keep c b.harg16 _); iexact H14
  isplitl [H15]; · iapply (keep c b.harg17 _); iexact H15
  isplitl [H16]
  · iapply (stored c ((read_whole _ _ _ _ _).trans ?_)); swap; · iexact H16
    refine ap3 k0_pay21 ?_ (read_at b.harg3 hz2 x.k0) (read_at b.harg18 hz2 s.dkg)
    exact congrArg (fun z => View.ld z _) (b.harg19.read_unread _)
  isplitl [H17]
  · iapply (stored c ((read_stack _ _ _ _ _).trans ?_)); swap; · iexact H17
    refine congrArg (fun z => stack (k0_pay30 z) k0_pay31) ?_
    exact congrArg (fun z => View.ld z _) (b.harg19.read_unread _)
  iapply (stored c ((read_stack _ _ _ _ _).trans ?_)); swap; · iexact H18
  refine congrArg (fun z => stack (k0_pay32 z) (k0_pay1 k0_pay33)) ?_
  exact congrArg (fun z => View.ld z _) (b.harg20.read_unread _)

set_option maxHeartbeats 2000000 in
/-- At a query block from the third to the last the body runs from the blocks and any state to the blocks and `stepE`. -/
theorem caseE (c : Dev nD) (i : grid0.Coords) (b : Buffers)
    (hc1 : ¬k0_cond1 i = 1#1) (hc2 : ¬k0_cond2 i = 1#1) (hc3 : k0_cond3 i = 1#1) (hc4 : k0_cond4 i = 1#1) (x : Blocks F) (s : State F) (E : Set ℕ) (K : PUnit → sProp 𝕄) :
    iprop(holds c b x s ∗ (holds c b x (stepE i x s) -∗ K ⟨⟩))
      ⊢ wp frame (wpE (defs₀ (F := F)) Variants.none c none) E (body b i) K := by
  unfold body
  simp only [cc0_att_core_bwd_eq_skeleton]; unfold cc0_att_core_bwd_skel
  simp only [k0_part5_eq_skeleton, k0_part1_eq_skeleton, k0_part2_eq_skeleton, k0_part3_eq_skeleton, k0_part4_eq_skeleton]
  refine (sep_mono (holds_cells c b x s) .rfl).trans ?_
  unfold cells
  iintro ⟨⟨H0, H1, H2, H3, H4, H5, H6, H7, H8, H9, H10, H11, H12, H13, H14, H15, H16, H17, H18⟩, Hk⟩
  sl_exec (disch := first | sl_exact hc1 | sl_exact hc2 | sl_exact hc3 | sl_exact hc4)
  sl_step
  iapply Hk
  iapply (holds_of c b x _)
  unfold cells
  iframe H0 H1 H2 H3 H4 H5 H6 H7 H8 H9 H10
  isplitl [H11]
  · iapply (stored c ((read_whole _ _ _ _ _).trans ?_)); swap; · iexact H11
    show _ = dqOf i x
    conv_rhs => rw [blocks_read b x]
    rfl
  isplitl [H12]
  · iapply (stored c ((read_whole _ _ _ _ _).trans ?_)); swap; · iexact H12
    refine ap3 k0_pay20 ?_ (read_at b.harg3 hz2 x.k0) (read_at b.harg10 hz2 x.kg)
    refine (read_cov _ hz2 _ _ _ _).trans (congrArg (fun z => View.ld z _) ?_)
    show _ = akAdd i x s.ak
    conv_rhs => rw [← read_at (inb := inb_S768x128_S768x128_0_0) b.harg19 hz2 s.ak]
    conv_rhs => rw [blocks_read b x]
    rfl
  isplitl [H13]
  · iapply (stored c ((read_whole _ _ _ _ _).trans ?_)); swap; · iexact H13
    refine congrArg (fun z => k0_pay22 z) ?_
    refine (read_cov _ hz2 _ _ _ _).trans (congrArg (fun z => View.ld z _) ?_)
    show _ = avAdd i x s.av
    conv_rhs => rw [← read_at (inb := inb_S768x128_S768x128_0_0) b.harg20 hz2 s.av]
    conv_rhs => rw [blocks_read b x]
    rfl
  isplitl [H14]
  · iapply (stored c ((read_whole _ _ _ _ _).trans ?_)); swap; · iexact H14
    show _ = k0_pay9 (ds i x) s.db
    conv_rhs => rw [← read_at (inb := inb_S1x256x768_S1x256x768_0_0_0) b.harg16 hz3 s.db]
    conv_rhs => rw [blocks_read b x]
    rfl
  isplitl [H15]
  · iapply (stored c ((read_whole _ _ _ _ _).trans ?_)); swap; · iexact H15
    show _ = dqgAdd i x s.dqg
    conv_rhs => rw [← read_at (inb := inb_S1x128_S1x128_0_0) b.harg17 hz2 s.dqg]
    conv_rhs => rw [blocks_read b x]
    rfl
  isplitl [H16]
  · iapply (stored c ((read_whole _ _ _ _ _).trans ?_)); swap; · iexact H16
    refine ap3 k0_pay21 ?_ (read_at b.harg3 hz2 x.k0) (read_at b.harg18 hz2 s.dkg)
    refine (read_cov _ hz2 _ _ _ _).trans (congrArg (fun z => View.ld z _) ?_)
    show _ = akAdd i x s.ak
    conv_rhs => rw [← read_at (inb := inb_S768x128_S768x128_0_0) b.harg19 hz2 s.ak]
    conv_rhs => rw [blocks_read b x]
    rfl
  isplitl [H17]
  · iapply (stored c ((read_stack _ _ _ _ _).trans ?_)); swap; · iexact H17
    refine congrArg (fun z => stack (k0_pay30 z) k0_pay31) ?_
    refine (read_cov _ hz2 _ _ _ _).trans (congrArg (fun z => View.ld z _) ?_)
    show _ = akAdd i x s.ak
    conv_rhs => rw [← read_at (inb := inb_S768x128_S768x128_0_0) b.harg19 hz2 s.ak]
    conv_rhs => rw [blocks_read b x]
    rfl
  iapply (stored c ((read_stack _ _ _ _ _).trans ?_)); swap; · iexact H18
  refine congrArg (fun z => stack (k0_pay32 z) (k0_pay1 k0_pay33)) ?_
  refine (read_cov _ hz2 _ _ _ _).trans (congrArg (fun z => View.ld z _) ?_)
  show _ = avAdd i x s.av
  conv_rhs => rw [← read_at (inb := inb_S768x128_S768x128_0_0) b.harg20 hz2 s.av]
  conv_rhs => rw [blocks_read b x]
  rfl

end Cert.AttIdeal.Run

end
-- ==== Proof.AttIdeal.Frame.lean ====
module

public import proofs.«01_k».proof.Proof.AttIdeal.Cases
public import Idealize.ShloMosaic.Lib.Claim
public import proofs.«01_k».proof.Proof.Gen.AttIdeal.Frame
public import proofs.«01_k».proof.Proof.Gen.AttIdeal.Skeleton
public import Idealize.ShloMosaic.Lib.Pipeline.TableIdle
public import Idealize.ShloMosaic.Lib.WritesUnit
public import Idealize.ShloMosaic.Lib.Pipeline.Value
public import Idealize.ShloMosaic.Lib.Pointwise.Index

@[expose] public section

set_option maxRecDepth 16384

noncomputable section

namespace Cert.AttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttIdeal Cert.AttIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points of the grid -/

/-- The body's first condition holds at a head's first query block, -/
theorem cond1_iff (t : Fin cfg0.N) : k0_cond1 (grid0.coords t) = 1#1 ↔ t.val % 34 = 0 := by
  have ht : t.val < 544 := Nat.lt_of_lt_of_eq t.isLt N_0
  have e0 : (grid0.coords t 0).val = t.val / 34 % 16 := Pipeline.Grid.coords_val t 0 (by decide) rfl
  have e1 : (grid0.coords t 1).val = t.val / 1 % 34 := Pipeline.Grid.coords_val t 1 (by decide) rfl
  simp only [k0_cond1, e0, e1]
  word_cmp

/-- its second at the first point, -/
theorem cond2_iff (t : Fin cfg0.N) : k0_cond2 (grid0.coords t) = 1#1 ↔ t.val % 544 = 0 := by
  have ht : t.val < 544 := Nat.lt_of_lt_of_eq t.isLt N_0
  have e0 : (grid0.coords t 0).val = t.val / 34 % 16 := Pipeline.Grid.coords_val t 0 (by decide) rfl
  have e1 : (grid0.coords t 1).val = t.val / 1 % 34 := Pipeline.Grid.coords_val t 1 (by decide) rfl
  simp only [k0_cond2, e0, e1]
  word_cmp

/-- its third at a query block, -/
theorem cond3_iff : ∀ t : Fin cfg0.N, k0_cond3 (grid0.coords t) = 1#1 ↔ t.val % 34 ≤ 31 :=
  (by decide +kernel : ∀ t : Fin grid0.N, k0_cond3 (grid0.coords t) = 1#1 ↔ t.val % 34 ≤ 31)

/-- its fourth from the third point of a head on. -/
theorem cond4_iff : ∀ t : Fin cfg0.N, k0_cond4 (grid0.coords t) = 1#1 ↔ 2 ≤ t.val % 34 :=
  (by decide +kernel : ∀ t : Fin grid0.N, k0_cond4 (grid0.coords t) = 1#1 ↔ 2 ≤ t.val % 34)

/-- Where the body stores nothing in the outputs, -/
theorem idle_11 : ∀ t : Fin cfg0.N, cfg0.idle 11 (grid0.coords t) = decide (32 ≤ t.val % 34) :=
  (by decide +kernel : ∀ t : Fin grid0.N, cfg0.idle 11 (grid0.coords t) = decide (32 ≤ t.val % 34))
theorem idle_12 : ∀ t : Fin cfg0.N, cfg0.idle 12 (grid0.coords t) = decide (t.val % 34 < 2) :=
  (by decide +kernel : ∀ t : Fin grid0.N, cfg0.idle 12 (grid0.coords t) = decide (t.val % 34 < 2))
theorem idle_13 : ∀ t : Fin cfg0.N, cfg0.idle 13 (grid0.coords t) = decide (t.val % 34 < 2) :=
  (by decide +kernel : ∀ t : Fin grid0.N, cfg0.idle 13 (grid0.coords t) = decide (t.val % 34 < 2))
theorem idle_14 : ∀ t : Fin cfg0.N, cfg0.idle 14 (grid0.coords t) = decide (32 ≤ t.val % 34) :=
  (by decide +kernel : ∀ t : Fin grid0.N, cfg0.idle 14 (grid0.coords t) = decide (32 ≤ t.val % 34))
theorem idle_15 : ∀ t : Fin cfg0.N, cfg0.idle 15 (grid0.coords t) = decide (32 ≤ t.val % 34) :=
  (by decide +kernel : ∀ t : Fin grid0.N, cfg0.idle 15 (grid0.coords t) = decide (32 ≤ t.val % 34))
theorem idle_16 : ∀ t : Fin cfg0.N, cfg0.idle 16 (grid0.coords t) = decide (t.val ≠ 0 ∧ t.val % 34 < 2) :=
  (by decide +kernel : ∀ t : Fin grid0.N, cfg0.idle 16 (grid0.coords t) = decide (t.val ≠ 0 ∧ t.val % 34 < 2))

/-- where their blocks are written back, -/
theorem flush_11 : ∀ t : Fin cfg0.N, (cfg0.win 11).flush t = decide (t.val % 34 ≤ 30 ∨ t.val % 34 = 33) := fun t =>
  (Window.flush_eq_flushF _ t).trans
    ((by decide +kernel : ∀ t : Fin grid0.N, (cfg0.win 11).flushF t = decide (t.val % 34 ≤ 30 ∨ t.val % 34 = 33)) t)
theorem flush_12 : ∀ t : Fin cfg0.N, (cfg0.win 12).flush t = decide (2 ≤ t.val % 34) := fun t =>
  (Window.flush_eq_flushF _ t).trans
    ((by decide +kernel : ∀ t : Fin grid0.N, (cfg0.win 12).flushF t = decide (2 ≤ t.val % 34)) t)
theorem flush_13 : ∀ t : Fin cfg0.N, (cfg0.win 13).flush t = decide (2 ≤ t.val % 34) := fun t =>
  (Window.flush_eq_flushF _ t).trans
    ((by decide +kernel : ∀ t : Fin grid0.N, (cfg0.win 13).flushF t = decide (2 ≤ t.val % 34)) t)

theorem flush_14 (t : Fin cfg0.N) : (cfg0.win 14).flush t = decide (t.val % 34 = 33) := by
  rw [Bool.eq_iff_iff, decide_eq_true_eq]; exact flush0_14 t
theorem flush_15 (t : Fin cfg0.N) : (cfg0.win 15).flush t = decide (t.val % 544 = 543) := by
  rw [Bool.eq_iff_iff, decide_eq_true_eq]; exact flush0_15 t
theorem flush_16 (t : Fin cfg0.N) : (cfg0.win 16).flush t = decide (t.val % 544 = 543) := by
  rw [Bool.eq_iff_iff, decide_eq_true_eq]; exact flush0_16 t

/-- and where a buffer holds what the point before left in it. -/
theorem fresh_11 (t : Fin cfg0.N) (h : 32 ≤ t.val % 34) : cfg0.fresh 11 t.val = false := by
  rw [Pipeline.Cfg.fresh_tab cfg0 11 (fun n => decide (n % 34 ≤ 31)) rfl (fun t => by
    rw [flush_11, idle_11, Bool.eq_iff_iff]; simp only [decide_eq_true_eq, Bool.or_eq_true, Bool.and_eq_true]; omega) t.val t.isLt.le]
  exact decide_eq_false (by omega)
theorem fresh_14 (t : Fin cfg0.N) (h : t.val % 34 ≠ 0) : cfg0.fresh 14 t.val = false := by
  rw [Pipeline.Cfg.fresh_tab cfg0 14 (fun n => decide (n % 34 = 0)) rfl (fun t => by
    rw [flush_14, idle_14, Bool.eq_iff_iff]; simp only [decide_eq_true_eq, Bool.or_eq_true, Bool.and_eq_true]; omega) t.val t.isLt.le]
  exact decide_eq_false h
theorem fresh_15 (t : Fin cfg0.N) (h : t.val ≠ 0) : cfg0.fresh 15 t.val = false := by
  have ht : t.val < 544 := Nat.lt_of_lt_of_eq t.isLt N_0
  rw [Pipeline.Cfg.fresh_tab cfg0 15 (fun n => decide (n % 544 = 0)) rfl (fun t => by
    rw [flush_15, idle_15, Bool.eq_iff_iff]; simp only [decide_eq_true_eq, Bool.or_eq_true, Bool.and_eq_true]; omega) t.val t.isLt.le]
  exact decide_eq_false (by omega)
theorem fresh_16 (t : Fin cfg0.N) (h : t.val ≠ 0) : cfg0.fresh 16 t.val = false := by
  have ht : t.val < 544 := Nat.lt_of_lt_of_eq t.isLt N_0
  rw [Pipeline.Cfg.fresh_tab cfg0 16 (fun n => decide (n % 544 = 0)) rfl (fun t => by
    have ht : t.val < 544 := Nat.lt_of_lt_of_eq t.isLt N_0
    rw [flush_16, idle_16, Bool.eq_iff_iff]; simp only [decide_eq_true_eq, Bool.or_eq_true, Bool.and_eq_true]; omega) t.val t.isLt.le]
  exact decide_eq_false (by omega)

/-! ## What the points leave -/

/-- What point `n` leaves. -/
def stepAt (n : ℕ) (i : grid0.Coords) (x : Blocks F) (s : State F) : State F :=
  if n % 34 = 0 then (if n % 544 = 0 then stepA i x s else stepB i x s)
  else if n % 34 < 2 then stepC i x s else if n % 34 ≤ 31 then stepE i x s else stepD i x s

/-- The blocks of a point. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- A state before the first point. -/
def start : State F :=
  ⟨fun _ => FloatOps.ofBits .bf16 0#16, fun _ => FloatOps.ofBits .bf16 0#16, fun _ => FloatOps.ofBits .bf16 0#16, k0_pay25, k0_pay26, k0_pay27, k0_pay23, k0_pay24⟩

/-- The state after the first `n` points. -/
def stAt (c : Dev nD) : ℕ → State F
  | 0 => start
  | n + 1 => if h : n < cfg0.N then stepAt n (grid0.coords ⟨n, h⟩) (blocks m c ⟨n, h⟩) (stAt c n) else start

/-- What point `t` leaves. -/
def st (c : Dev nD) (t : Fin cfg0.N) : State F := stAt m c (t.val + 1)

theorem st_eq (c : Dev nD) (t : Fin cfg0.N) : st m c t = stepAt t.val (grid0.coords t) (blocks m c t) (stAt m c t.val) := by
  unfold st; rw [stAt, dif_pos t.isLt]

theorem stAt_pos (c : Dev nD) (t : Fin cfg0.N) (h : t.val ≠ 0) : stAt m c t.val = st m c ⟨t.val - 1, by omega⟩ := by
  unfold st; congr 1; show t.val = t.val - 1 + 1; omega

/-- A field the point stores nothing in keeps its contents. -/
theorem stepAt_dq (n : ℕ) (i : grid0.Coords) (x : Blocks F) (s : State F) (h : 32 ≤ n % 34) : (stepAt n i x s).dq = s.dq := by
  unfold stepAt; rw [if_neg (by omega), if_neg (by omega), if_neg (by omega)]; rfl
theorem stepAt_db (n : ℕ) (i : grid0.Coords) (x : Blocks F) (s : State F) (h : 32 ≤ n % 34) : (stepAt n i x s).db = s.db := by
  unfold stepAt; rw [if_neg (by omega), if_neg (by omega), if_neg (by omega)]; rfl
theorem stepAt_dqg (n : ℕ) (i : grid0.Coords) (x : Blocks F) (s : State F) (h : 32 ≤ n % 34) : (stepAt n i x s).dqg = s.dqg := by
  unfold stepAt; rw [if_neg (by omega), if_neg (by omega), if_neg (by omega)]; rfl
theorem stepAt_dk (n : ℕ) (i : grid0.Coords) (x : Blocks F) (s : State F) (h : n % 34 < 2) : (stepAt n i x s).dk = s.dk := by
  unfold stepAt; split_ifs <;> first | rfl | omega
theorem stepAt_dv (n : ℕ) (i : grid0.Coords) (x : Blocks F) (s : State F) (h : n % 34 < 2) : (stepAt n i x s).dv = s.dv := by
  unfold stepAt; split_ifs <;> first | rfl | omega
theorem stepAt_dkg (n : ℕ) (i : grid0.Coords) (x : Blocks F) (s : State F) (h : n % 34 < 2) (h0 : n % 544 ≠ 0) : (stepAt n i x s).dkg = s.dkg := by
  unfold stepAt; split_ifs <;> first | rfl | omega

/-- Two states that agree in what point `n` reads leave the same in what it stores. -/
theorem stepAt_agree (n : ℕ) (i : grid0.Coords) (x : Blocks F) (s r : State F)
    (hk : n ≠ 0 → s.ak = r.ak) (hv : n ≠ 0 → s.av = r.av) (hdq : 32 ≤ n % 34 → s.dq = r.dq)
    (hdb : n % 34 ≠ 0 → s.db = r.db) (hdqg : n ≠ 0 → s.dqg = r.dqg) (hdkg : n ≠ 0 → s.dkg = r.dkg) :
    (stepAt n i x s).dq = (stepAt n i x r).dq ∧ (stepAt n i x s).db = (stepAt n i x r).db
    ∧ (stepAt n i x s).dqg = (stepAt n i x r).dqg ∧ (stepAt n i x s).dkg = (stepAt n i x r).dkg
    ∧ (stepAt n i x s).ak = (stepAt n i x r).ak ∧ (stepAt n i x s).av = (stepAt n i x r).av
    ∧ (2 ≤ n % 34 → (stepAt n i x s).dk = (stepAt n i x r).dk) ∧ (2 ≤ n % 34 → (stepAt n i x s).dv = (stepAt n i x r).dv) := by
  unfold stepAt
  split_ifs with h1 h2 h3 h4
  · exact ⟨rfl, rfl, rfl, rfl, rfl, rfl, fun h => by omega, fun h => by omega⟩
  · have h0 : n ≠ 0 := by omega
    refine ⟨rfl, rfl, congrArg (dqgAdd i x) (hdqg h0), hdkg h0, rfl, rfl, fun h => by omega, fun h => by omega⟩
  · have h0 : n ≠ 0 := by omega
    refine ⟨rfl, congrArg (k0_pay9 (ds i x)) (hdb h1), congrArg (dqgAdd i x) (hdqg h0), hdkg h0, congrArg (fun a => shiftK (akAdd i x a)) (hk h0),
      congrArg (fun a => shiftV (avAdd i x a)) (hv h0), fun h => by omega, fun h => by omega⟩
  · have h0 : n ≠ 0 := by omega
    refine ⟨rfl, congrArg (k0_pay9 (ds i x)) (hdb h1), congrArg (dqgAdd i x) (hdqg h0), ?_, congrArg (fun a => shiftK (akAdd i x a)) (hk h0),
      congrArg (fun a => shiftV (avAdd i x a)) (hv h0), fun _ => ?_, fun _ => ?_⟩
    · unfold stepE; dsimp only; rw [hk h0, hdkg h0]
    · unfold stepE; dsimp only; rw [hk h0]
    · unfold stepE; dsimp only; rw [hv h0]
  · have h0 : n ≠ 0 := by omega
    refine ⟨hdq (by omega), hdb h1, hdqg h0, ?_, congrArg shiftK (hk h0), congrArg shiftV (hv h0), fun _ => ?_, fun _ => ?_⟩
    · unfold stepD; dsimp only; rw [hk h0, hdkg h0]
    · unfold stepD; dsimp only; rw [hk h0]
    · unfold stepD; dsimp only; rw [hv h0]

/-! ## The pipeline's proof data -/

/-- Between points the accumulators hold what the point before left. -/
def Phi (c : Dev nD) (n : ℕ) : sProp 𝕄 :=
  iprop(∃ (a b : Vec F S768x128 .f32), ⌜n ≠ 0 → a = (stAt m c n).ak ∧ b = (stAt m c n).av⌝
    ∗ owns c (Memref.whole cc0_scratch0) fullShare a ∗ owns c (Memref.whole cc0_scratch1) fullShare b
    ∗ (∃ r, prngReg c r))

/-- The inputs' buffers keep their blocks, the outputs' hold the state's fields. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (st m c t).dq
    | ⟨12, _⟩ => (st m c t).dk
    | ⟨13, _⟩ => (st m c t).dv
    | ⟨14, _⟩ => (st m c t).db
    | ⟨15, _⟩ => (st m c t).dqg
    | ⟨16, _⟩ => (st m c t).dkg
    | ⟨k + 17, h⟩ => absurd h (by show ¬ (k + 17 < 17); omega)
  Φ k := Phi m c k.val
  q w := Pipeline.shareOf spec0 w
  owed _ := 0

theorem A_eq (c : Dev nD) (w : Fin cfg0.W) : (dats m 0 c).A w = V m c (Pipeline.arrRef spec0 w) := by
  dsimp only [dats]

theorem after_11 (c : Dev nD) (t : Fin cfg0.N) : (dats m 0 c).after 11 t = (st m c t).dq := by dsimp only [dats]
theorem after_12 (c : Dev nD) (t : Fin cfg0.N) : (dats m 0 c).after 12 t = (st m c t).dk := by dsimp only [dats]
theorem after_13 (c : Dev nD) (t : Fin cfg0.N) : (dats m 0 c).after 13 t = (st m c t).dv := by dsimp only [dats]
theorem after_14 (c : Dev nD) (t : Fin cfg0.N) : (dats m 0 c).after 14 t = (st m c t).db := by dsimp only [dats]
theorem after_15 (c : Dev nD) (t : Fin cfg0.N) : (dats m 0 c).after 15 t = (st m c t).dqg := by dsimp only [dats]
theorem after_16 (c : Dev nD) (t : Fin cfg0.N) : (dats m 0 c).after 16 t = (st m c t).dkg := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d

/-- What a point finds in an output's buffer that the points before have stored in. -/
theorem before_11 (c : Dev nD) (t : Fin cfg0.N) (h : 32 ≤ t.val % 34) (d) : (dats m 0 c).before 11 t d = (stAt m c t.val).dq := by
  have h0 : t.val ≠ 0 := by omega
  rw [stAt_pos m c t h0, (dats m 0 c).before_out_traj 11 rfl (fun _ _ => rfl) (fun t h0 hi _ => by
    rw [idle_11, decide_eq_true_eq] at hi
    rw [after_11, after_11, st_eq, stepAt_dq _ _ _ _ hi, stAt_pos m c t h0]) t.val t rfl d, fresh_11 t h, if_neg Bool.false_ne_true, after_11]
theorem before_14 (c : Dev nD) (t : Fin cfg0.N) (h : t.val % 34 ≠ 0) (d) : (dats m 0 c).before 14 t d = (stAt m c t.val).db := by
  have h0 : t.val ≠ 0 := by omega
  rw [stAt_pos m c t h0, (dats m 0 c).before_out_traj 14 rfl (fun _ _ => rfl) (fun t h0 hi _ => by
    rw [idle_14, decide_eq_true_eq] at hi
    rw [after_14, after_14, st_eq, stepAt_db _ _ _ _ hi, stAt_pos m c t h0]) t.val t rfl d, fresh_14 t h, if_neg Bool.false_ne_true, after_14]
theorem before_15 (c : Dev nD) (t : Fin cfg0.N) (h : t.val ≠ 0) (d) : (dats m 0 c).before 15 t d = (stAt m c t.val).dqg := by
  have h0 : t.val ≠ 0 := by omega
  rw [stAt_pos m c t h0, (dats m 0 c).before_out_traj 15 rfl (fun _ _ => rfl) (fun t h0 hi _ => by
    rw [idle_15, decide_eq_true_eq] at hi
    rw [after_15, after_15, st_eq, stepAt_dqg _ _ _ _ hi, stAt_pos m c t h0]) t.val t rfl d, fresh_15 t h, if_neg Bool.false_ne_true, after_15]
theorem before_16 (c : Dev nD) (t : Fin cfg0.N) (h : t.val ≠ 0) (d) : (dats m 0 c).before 16 t d = (stAt m c t.val).dkg := by
  have h0 : t.val ≠ 0 := by omega
  rw [stAt_pos m c t h0, (dats m 0 c).before_out_traj 16 rfl (fun _ _ => rfl) (fun t h0 hi _ => by
    rw [idle_16, decide_eq_true_eq] at hi
    rw [after_16, after_16, st_eq, stepAt_dkg _ _ _ _ hi.2 (by have := Nat.lt_of_lt_of_eq t.isLt N_0; omega), stAt_pos m c t h0]) t.val t rfl d, fresh_16 t h, if_neg Bool.false_ne_true, after_16]

/-! ## The body at any point -/

/-- The body runs from any blocks and state to what the point leaves. -/
theorem body_run (c : Dev nD) (t : Fin cfg0.N) (b : Buffers) (x : Blocks F) (s : State F) (E : Set ℕ) (K : PUnit → sProp 𝕄) :
    iprop(holds c b x s ∗ (holds c b x (stepAt t.val (grid0.coords t) x s) -∗ K ⟨⟩))
      ⊢ wp frame (wpE (defs₀ (F := F)) Variants.none c none) E (body b (grid0.coords t)) K := by
  have ht : t.val < 544 := Nat.lt_of_lt_of_eq t.isLt N_0
  unfold stepAt
  split_ifs with h1 h2 h3 h4
  · exact caseA c _ b ((cond1_iff t).mpr h1) ((cond2_iff t).mpr h2) ((cond3_iff t).mpr (by omega)) (fun h => by have := (cond4_iff t).mp h; omega) x s E K
  · exact caseB c _ b ((cond1_iff t).mpr h1) (fun h => h2 ((cond2_iff t).mp h)) ((cond3_iff t).mpr (by omega)) (fun h => by have := (cond4_iff t).mp h; omega) x s E K
  · exact caseC c _ b (fun h => h1 ((cond1_iff t).mp h)) (fun h => by have := (cond2_iff t).mp h; omega) ((cond3_iff t).mpr (by omega)) (fun h => by have := (cond4_iff t).mp h; omega) x s E K
  · exact caseE c _ b (fun h => h1 ((cond1_iff t).mp h)) (fun h => by have := (cond2_iff t).mp h; omega) ((cond3_iff t).mpr h4) ((cond4_iff t).mpr (by omega)) x s E K
  · exact caseD c _ b (fun h => h1 ((cond1_iff t).mp h)) (fun h => by have := (cond2_iff t).mp h; omega) (fun h => h4 ((cond3_iff t).mp h)) ((cond4_iff t).mpr (by omega)) x s E K

/-- What an output's buffer is handed back with: what the point found where it stored nothing and nothing is written
    back, what the point leaves otherwise. -/
def handedBack (b f : Bool) (P Q : sProp 𝕄) : sProp 𝕄 :=
  match b with
  | true => match f with
    | false => P
    | true => Q
  | false => Q

theorem handed (c : Dev nD) (b f : Bool) {S : Shape} {e : EltTy} (M : Memref sig .tc .vmem S e) (g : Vec F S e → Vec F S e) (d x y : Vec F S e)
    (h1 : b = true → x = g d) (h2 : (b = true → f = true) → x = y) :
    (owns (c : Thread nD τ) M fullShare x : sProp 𝕄)
      ⊢ handedBack b f iprop(∃ d, owns (c : Thread nD τ) M fullShare (g d)) (owns (c : Thread nD τ) M fullShare y) := by
  have hy : ∀ z, x = z → (owns (c : Thread nD τ) M fullShare x : sProp 𝕄) ⊢ owns (c : Thread nD τ) M fullShare z := fun z h => h ▸ .rfl
  cases b
  · exact hy _ (h2 fun h => absurd h Bool.false_ne_true)
  · cases f
    · show _ ⊢ iprop(∃ d, owns (c : Thread nD τ) M fullShare (g d))
      iintro H
      iexists d
      iapply (hy _ (h1 rfl))
      iexact H
    · exact hy _ (h2 fun _ => rfl)

/-- The body table's row at point `t`'s slots. -/
theorem row (t : Fin cfg0.N) : defs₀ (F := F) .tc cfg0.body (cfg0.bodyArgs t (cfg0.slots t)) = bodyAt0 t := by
  unfold defs₀; rw [Defs.onTc_tc]

/-- A buffer as the point finds it. -/
abbrev found (c : Dev nD) {S : Shape} {e : EltTy} (M : Memref sig .tc .vmem S e) (g : Vec F S e → Vec F S e) : sProp 𝕄 :=
  iprop(∃ d, owns c M fullShare (g d))

/-- What the body is called with at point `t`, -/
def bodyPre (c : Dev nD) (t : Fin cfg0.N) : sProp 𝕄 :=
  iprop((dats m 0 c).Φ t.castSucc ∗ (dats m 0 c).owesAt () t.castSucc
    ∗ found c (st0_0 t) ((dats m 0 c).before 0 t)
    ∗ found c (st0_1 t) ((dats m 0 c).before 1 t)
    ∗ found c (st0_2 t) ((dats m 0 c).before 2 t)
    ∗ found c (st0_3 t) ((dats m 0 c).before 3 t)
    ∗ found c (st0_4 t) ((dats m 0 c).before 4 t)
    ∗ found c (st0_5 t) ((dats m 0 c).before 5 t)
    ∗ found c (st0_6 t) ((dats m 0 c).before 6 t)
    ∗ found c (st0_7 t) ((dats m 0 c).before 7 t)
    ∗ found c (st0_8 t) ((dats m 0 c).before 8 t)
    ∗ found c (st0_9 t) ((dats m 0 c).before 9 t)
    ∗ found c (st0_10 t) ((dats m 0 c).before 10 t)
    ∗ found c (st0_11 t) ((dats m 0 c).before 11 t)
    ∗ found c (st0_12 t) ((dats m 0 c).before 12 t)
    ∗ found c (st0_13 t) ((dats m 0 c).before 13 t)
    ∗ found c (st0_14 t) ((dats m 0 c).before 14 t)
    ∗ found c (st0_15 t) ((dats m 0 c).before 15 t)
    ∗ found c (st0_16 t) ((dats m 0 c).before 16 t))

/-- and what it returns. -/
def bodyPost (c : Dev nD) (t : Fin cfg0.N) : sProp 𝕄 :=
  iprop((dats m 0 c).Φ t.succ ∗ (dats m 0 c).owesAt () t.succ
    ∗ owns c (st0_0 t) fullShare (iblk m c 0 t)
    ∗ owns c (st0_1 t) fullShare (iblk m c 1 t)
    ∗ owns c (st0_2 t) fullShare (iblk m c 2 t)
    ∗ owns c (st0_3 t) fullShare (iblk m c 3 t)
    ∗ owns c (st0_4 t) fullShare (iblk m c 4 t)
    ∗ owns c (st0_5 t) fullShare (iblk m c 5 t)
    ∗ owns c (st0_6 t) fullShare (iblk m c 6 t)
    ∗ owns c (st0_7 t) fullShare (iblk m c 7 t)
    ∗ owns c (st0_8 t) fullShare (iblk m c 8 t)
    ∗ owns c (st0_9 t) fullShare (iblk m c 9 t)
    ∗ owns c (st0_10 t) fullShare (iblk m c 10 t)
    ∗ handedBack (cfg0.idle 11 (grid0.coords t)) ((cfg0.win 11).flush t)
        (found c (st0_11 t) ((dats m 0 c).before 11 t))
        (owns c (st0_11 t) fullShare (st m c t).dq)
    ∗ handedBack (cfg0.idle 12 (grid0.coords t)) ((cfg0.win 12).flush t)
        (found c (st0_12 t) ((dats m 0 c).before 12 t))
        (owns c (st0_12 t) fullShare (st m c t).dk)
    ∗ handedBack (cfg0.idle 13 (grid0.coords t)) ((cfg0.win 13).flush t)
        (found c (st0_13 t) ((dats m 0 c).before 13 t))
        (owns c (st0_13 t) fullShare (st m c t).dv)
    ∗ handedBack (cfg0.idle 14 (grid0.coords t)) ((cfg0.win 14).flush t)
        (found c (st0_14 t) ((dats m 0 c).before 14 t))
        (owns c (st0_14 t) fullShare (st m c t).db)
    ∗ handedBack (cfg0.idle 15 (grid0.coords t)) ((cfg0.win 15).flush t)
        (found c (st0_15 t) ((dats m 0 c).before 15 t))
        (owns c (st0_15 t) fullShare (st m c t).dqg)
    ∗ handedBack (cfg0.idle 16 (grid0.coords t)) ((cfg0.win 16).flush t)
        (found c (st0_16 t) ((dats m 0 c).before 16 t))
        (owns c (st0_16 t) fullShare (st m c t).dkg))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 544 := Nat.lt_of_lt_of_eq t.isLt N_0
  unfold bodyPre bodyPost bodyAt0 found
  simp only [before_0 m c t, before_1 m c t, before_2 m c t, before_3 m c t, before_4 m c t, before_5 m c t, before_6 m c t, before_7 m c t, before_8 m c t, before_9 m c t, before_10 m c t]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi
  iintro ⟨⟨%a, %b, %hab, Ha, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  let found : State F := ⟨(dats m 0 c).before 11 t d11, (dats m 0 c).before 12 t d12, (dats m 0 c).before 13 t d13, (dats m 0 c).before 14 t d14, (dats m 0 c).before 15 t d15, (dats m 0 c).before 16 t d16, a, b⟩
  have run := body_run c t ⟨_, _, _, _, _, _, _, _, _, _, _, _, _, _, _, _, _, _, _, hstage0_0 ((cfg0.slots t 0).cast nbuf0_0), hstage0_1 ((cfg0.slots t 1).cast nbuf0_1), hstage0_2 ((cfg0.slots t 2).cast nbuf0_2), hstage0_3 ((cfg0.slots t 3).cast nbuf0_3), hstage0_4 ((cfg0.slots t 4).cast nbuf0_4), hstage0_5 ((cfg0.slots t 5).cast nbuf0_5), hstage0_6 ((cfg0.slots t 6).cast nbuf0_6), hstage0_7 ((cfg0.slots t 7).cast nbuf0_7), hstage0_8 ((cfg0.slots t 8).cast nbuf0_8), hstage0_9 ((cfg0.slots t 9).cast nbuf0_9), hstage0_10 ((cfg0.slots t 10).cast nbuf0_10), hstage0_11 ((cfg0.slots t 11).cast nbuf0_11), hstage0_12 ((cfg0.slots t 12).cast nbuf0_12), hstage0_13 ((cfg0.slots t 13).cast nbuf0_13), hstage0_14 ((cfg0.slots t 14).cast nbuf0_14), hstage0_15 ((cfg0.slots t 15).cast nbuf0_15), hstage0_16 ((cfg0.slots t 16).cast nbuf0_16), Memref.isWhole_whole cc0_scratch0, Memref.isWhole_whole cc0_scratch1⟩ (blocks m c t) found Set.univ
  unfold body holds at run
  iapply (run _)
  isplitl [H0 H1 H2 H3 H4 H5 H6 H7 H8 H9 H10 H11 H12 H13 H14 H15 H16 Ha Hb]
  · iframe H0 H1 H2 H3 H4 H5 H6 H7 H8 H9 H10 H11 H12 H13 H14 H15 H16 Ha Hb
  obtain ⟨e11, e14, e15, e16, ea, eb, e12, e13⟩ := stepAt_agree t.val (grid0.coords t) (blocks m c t)
    found (stAt m c t.val)
    (fun h => (hab h).1) (fun h => (hab h).2) (fun h => before_11 m c t h d11) (fun h => before_14 m c t h d14)
    (fun h => before_15 m c t h d15) (fun h => before_16 m c t h d16)
  iintro ⟨H0, H1, H2, H3, H4, H5, H6, H7, H8, H9, H10, H11, H12, H13, H14, H15, H16, Ha, Hb⟩
  isplitl [Ha Hb Hr]
  · iexists _, _; isplitr
    · ipureintro; intro _; exact ⟨ea.trans (congrArg State.ak (st_eq m c t)).symm, eb.trans (congrArg State.av (st_eq m c t)).symm⟩
    isplitl [Ha]; · iexact Ha
    isplitl [Hb]; · iexact Hb
    iexact Hr
  iframe Ho H0 H1 H2 H3 H4 H5 H6 H7 H8 H9 H10
  isplitl [H11]
  · iapply (handed c (cfg0.idle 11 (grid0.coords t)) ((cfg0.win 11).flush t) (st0_11 t) ((dats m 0 c).before 11 t) d11 _ _
      (fun h => by rw [idle_11, decide_eq_true_eq] at h; exact stepAt_dq _ _ _ _ h) (fun h => (e11).trans (congrArg State.dq (st_eq m c t)).symm))
    iexact H11
  isplitl [H12]
  · iapply (handed c (cfg0.idle 12 (grid0.coords t)) ((cfg0.win 12).flush t) (st0_12 t) ((dats m 0 c).before 12 t) d12 _ _
      (fun h => by rw [idle_12, decide_eq_true_eq] at h; exact stepAt_dk _ _ _ _ h) (fun h => (e12 (by rw [idle_12, flush_12] at h; simp only [decide_eq_true_eq] at h; omega)).trans (congrArg State.dk (st_eq m c t)).symm))
    iexact H12
  isplitl [H13]
  · iapply (handed c (cfg0.idle 13 (grid0.coords t)) ((cfg0.win 13).flush t) (st0_13 t) ((dats m 0 c).before 13 t) d13 _ _
      (fun h => by rw [idle_13, decide_eq_true_eq] at h; exact stepAt_dv _ _ _ _ h) (fun h => (e13 (by rw [idle_13, flush_13] at h; simp only [decide_eq_true_eq] at h; omega)).trans (congrArg State.dv (st_eq m c t)).symm))
    iexact H13
  isplitl [H14]
  · iapply (handed c (cfg0.idle 14 (grid0.coords t)) ((cfg0.win 14).flush t) (st0_14 t) ((dats m 0 c).before 14 t) d14 _ _
      (fun h => by rw [idle_14, decide_eq_true_eq] at h; exact stepAt_db _ _ _ _ h) (fun h => (e14).trans (congrArg State.db (st_eq m c t)).symm))
    iexact H14
  isplitl [H15]
  · iapply (handed c (cfg0.idle 15 (grid0.coords t)) ((cfg0.win 15).flush t) (st0_15 t) ((dats m 0 c).before 15 t) d15 _ _
      (fun h => by rw [idle_15, decide_eq_true_eq] at h; exact stepAt_dqg _ _ _ _ h) (fun h => (e15).trans (congrArg State.dqg (st_eq m c t)).symm))
    iexact H15
  iapply (handed c (cfg0.idle 16 (grid0.coords t)) ((cfg0.win 16).flush t) (st0_16 t) ((dats m 0 c).before 16 t) d16 _ _
    (fun h => by rw [idle_16, decide_eq_true_eq] at h; exact stepAt_dkg _ _ _ _ h.2 (by omega)) (fun h => (e16).trans (congrArg State.dkg (st_eq m c t)).symm))
  iexact H16

set_option maxHeartbeats 1600000 in
/-- The body meets the pipeline's rule at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

/-- The scoped rest as the two accumulators. -/
theorem PhiA_eq (c : Dev nD) :
    (Pipeline.ΦA spec0 c : sProp 𝕄)
      = iprop(iprop((∃ d, owns c (Memref.whole cc0_scratch0) fullShare d) ∗ (∃ d, owns c (Memref.whole cc0_scratch1) fullShare d)) ∗ (∃ r, prngReg c r)) := by
  unfold Pipeline.ΦA; rw [scopedRest0_eq]; simp only [owns_whole]; try rfl

theorem Phi_in (c : Dev nD) : Pipeline.ΦA spec0 c ⊢ (dats m 0 c).Φ 0 := by
  rw [PhiA_eq, show (dats m 0 c).Φ 0 = Phi m c 0 from rfl]; unfold Phi
  iintro ⟨⟨⟨%a, Ha⟩, ⟨%b, Hb⟩⟩, Hr⟩
  iexists a, b; isplitr
  · ipureintro; exact fun h => absurd rfl h
  isplitl [Ha]; · iexact Ha
  isplitl [Hb]; · iexact Hb
  iexact Hr

theorem Phi_out (c : Dev nD) : (dats m 0 c).Φ (Fin.last cfg0.N) ⊢ Pipeline.ΦA spec0 c := by
  rw [PhiA_eq, show (dats m 0 c).Φ (Fin.last cfg0.N) = Phi m c cfg0.N from rfl]; unfold Phi
  iintro ⟨%a, %b, -, Ha, Hb, Hr⟩
  isplitl [Ha Hb]
  · isplitl [Ha]
    · iexists a; iexact Ha
    · iexists b; iexact Hb
  iexact Hr

set_option backward.isDefEq.respectTransparency.types false in
/-- Every run ends with the pipeline's arrays at what the proof data say, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := Phi_in m) (hout := Phi_out m)

/-- The frame: every run ends, the arguments unchanged and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttIdeal.Run

end
-- ==== Proof.AttSpec.lean ====
/-
  The attention's gradient over the reals. Rows, heads and channels are numbered by naturals; the keys a query row sees
  are those of its own 64-row chunk and of the eight chunks before it. Both programs' values are set beside these.
-/
module

public import Idealize.ShloMosaic.Lib.Pointwise.Index
public import Idealize.ShloMosaic.PureOps.Ideal.Laws

@[expose] public section

noncomputable section

namespace Cert.Proof.Att

open Idealize.ShloMosaic

/-- The arguments: the projected rows, the two gains, the bias of each head and distance, the cotangent. -/
structure Data where
  x : ℕ → ℕ → ℝ
  qg : ℕ → ℝ
  kg : ℕ → ℝ
  rb : ℕ → ℕ → ℝ
  ct : ℕ → ℕ → ℝ

/-- The constant added to a mean square. -/
def eps : ℝ := (Ideal.ofBits FTy.f32 897988541#32).toReal
/-- The scores' scale. -/
def sc : ℝ := (Ideal.ofBits FTy.f32 1035273459#32).toReal

theorem eps_eq : Ideal.ofBits FTy.f32 897988541#32 = (eps : EReal) := by
  unfold eps
  norm_num [Ideal.ofBits, Ideal.ieee, BitVec.extractLsb', BitVec.ofNat, Nat.shiftRight_eq_div_pow]
theorem sc_eq : Ideal.ofBits FTy.f32 1035273459#32 = (sc : EReal) := by
  unfold sc
  norm_num [Ideal.ofBits, Ideal.ieee, BitVec.extractLsb', BitVec.ofNat, Nat.shiftRight_eq_div_pow]
theorem eps_pos : 0 < eps := by
  unfold eps
  norm_num [Ideal.ofBits, Ideal.ieee, BitVec.extractLsb', BitVec.ofNat, Nat.shiftRight_eq_div_pow]
theorem width_eq : Ideal.ofBits FTy.f32 1124073472#32 = ((128 : ℝ) : EReal) := by
  norm_num [Ideal.ofBits, Ideal.ieee, BitVec.extractLsb', BitVec.ofNat, Nat.shiftRight_eq_div_pow]
theorem half_eq : Ideal.ofBits FTy.f32 3204448256#32 = ((-(1 / 2) : ℝ) : EReal) := by
  norm_num [Ideal.ofBits, Ideal.ieee, BitVec.extractLsb', BitVec.ofNat, Nat.shiftRight_eq_div_pow]
theorem one_eq : Ideal.ofBits FTy.f32 1065353216#32 = ((1 : ℝ) : EReal) := by
  norm_num [Ideal.ofBits, Ideal.ieee, BitVec.extractLsb', BitVec.ofNat, Nat.shiftRight_eq_div_pow]
theorem bot_eq : Ideal.ofBits FTy.f32 4286578688#32 = (⊥ : EReal) := by
  norm_num [Ideal.ofBits, Ideal.ieee, BitVec.extractLsb', BitVec.ofNat, Nat.shiftRight_eq_div_pow]

theorem coe_sum {ι : Type} (s : Finset ι) (f : ι → ℝ) : ∑ k ∈ s, (f k : EReal) = ((∑ k ∈ s, f k : ℝ) : EReal) := by
  classical
  refine Finset.induction_on s (by simp) fun a t ha ih => ?_
  rw [Finset.sum_insert ha, Finset.sum_insert ha, EReal.coe_add, ih]

theorem coe_ite (p : Prop) [Decidable p] (a b : ℝ) : (if p then (a : EReal) else (b : EReal)) = ((if p then a else b : ℝ) : EReal) := by
  split_ifs <;> rfl

theorem coe_ite_zero (p : Prop) [Decidable p] (a : ℝ) : (if p then (a : EReal) else 0) = ((if p then a else 0 : ℝ) : EReal) := by
  split_ifs <;> rfl

section Norm

/-- A row's mean square and the constant. -/
def ms (f : ℕ → ℝ) : ℝ := (∑ d : Fin 128, f d.val * f d.val) * (1 / 128) + eps
/-- Its reciprocal square root. -/
def inv (f : ℕ → ℝ) : ℝ := (Real.sqrt (ms f))⁻¹

theorem ms_pos (f : ℕ → ℝ) : 0 < ms f := by
  have : 0 ≤ ∑ d : Fin 128, f d.val * f d.val := Finset.sum_nonneg fun d _ => mul_self_nonneg _
  have := eps_pos
  unfold ms; positivity

/-- The normalization of a row, in the operations of both programs. -/
theorem rsqrt_row (x : Fin 128 → EReal) (f : ℕ → ℝ) (h : ∀ d, x d = f d.val) :
    Ideal.rsqrt (Ideal.div (∑ d, x d * x d) (Ideal.ofBits FTy.f32 1124073472#32) + Ideal.ofBits FTy.f32 897988541#32) = (inv f : EReal) := by
  rw [width_eq, eps_eq, Ideal.div_coe (by norm_num)]
  simp only [h, ← EReal.coe_mul, coe_sum, ← EReal.coe_add]
  rw [show (∑ d : Fin 128, f d.val * f d.val) * (1 / 128) + eps = ms f from rfl, Ideal.rsqrt_coe, if_neg (ms_pos f).le.not_gt, if_neg (ms_pos f).ne']
  rfl

theorem inv_cube (f : ℕ → ℝ) : inv f * (1 / ms f) = inv f * inv f * inv f := by
  have h := ms_pos f
  have e : inv f * inv f = 1 / ms f := by
    unfold inv; rw [← mul_inv, Real.mul_self_sqrt h.le, one_div]
  rw [← e]; ring

/-- The gradient of a normalized row with a gain. -/
def nb (x g dn : ℕ → ℝ) (d : ℕ) : ℝ :=
  inv x * (dn d * g d - x d * inv x * ((∑ e : Fin 128, dn e.val * g e.val * (x e.val * inv x)) * (1 / 128)))

/-- The same, as the derivative of the reciprocal square root gives it. -/
theorem nb_eq (x g dn : ℕ → ℝ) (d : ℕ) :
    dn d * g d * inv x + x d * ((∑ e : Fin 128, x e.val * (dn e.val * g e.val)) * (-(1 / 2) * (inv x * (1 / ms x))) * (1 / 128))
      + (∑ e : Fin 128, x e.val * (dn e.val * g e.val)) * (-(1 / 2) * (inv x * (1 / ms x))) * (1 / 128) * x d = nb x g dn d := by
  unfold nb
  have e : ∑ e : Fin 128, dn e.val * g e.val * (x e.val * inv x) = (∑ e : Fin 128, x e.val * (dn e.val * g e.val)) * inv x := by
    rw [Finset.sum_mul]; exact Finset.sum_congr rfl fun _ _ => by ring
  rw [e, inv_cube]; ring

end Norm

variable (D : Data)

def Q (h s d : ℕ) : ℝ := D.x s (128 * h + d)
def K (h s d : ℕ) : ℝ := D.x s (2048 + (128 * h + d))
def V (h s d : ℕ) : ℝ := D.x s (4096 + (128 * h + d))
def C (h s d : ℕ) : ℝ := D.ct s (128 * h + d)
def Qh (h s d : ℕ) : ℝ := Q D h s d * inv (Q D h s)
def Kh (h s d : ℕ) : ℝ := K D h s d * inv (K D h s)
def Qn (h s d : ℕ) : ℝ := Qh D h s d * D.qg d
def Kn (h s d : ℕ) : ℝ := Kh D h s d * D.kg d

/-- The keys a query row sees. -/
def allowed (s t : ℕ) : Prop := t / 64 ≤ s / 64 ∧ s / 64 ≤ t / 64 + 8

instance (s t : ℕ) : Decidable (allowed s t) := by unfold allowed; infer_instance

/-- The bias's place: the distance, at most 256, counted from −256. -/
def dist (s t : ℕ) : ℕ := min (s + 256 - t) 512

def score (h s t : ℕ) : ℝ := (∑ d : Fin 128, Qn D h s d.val * Kn D h t d.val) * sc + D.rb h (dist s t)
def Z (h s : ℕ) : ℝ := ∑ t ∈ Finset.range 8192, if allowed s t then Real.exp (score D h s t) else 0
/-- The weight a query row gives a key. -/
def P (h s t : ℕ) : ℝ := if allowed s t then Real.exp (score D h s t) / Z D h s else 0
/-- The weight's cotangent. -/
def DP (h s t : ℕ) : ℝ := ∑ d : Fin 128, C D h s d.val * V D h t d.val
/-- The score's cotangent. -/
def DS (h s t : ℕ) : ℝ := P D h s t * (DP D h s t - ∑ u ∈ Finset.range 8192, DP D h s u * P D h s u)
def DQn (h s d : ℕ) : ℝ := ∑ t ∈ Finset.range 8192, DS D h s t * sc * Kn D h t d
/-- What the first `n` rows add to a key's cotangent. -/
def DKn (n h t d : ℕ) : ℝ := ∑ s ∈ Finset.range n, DS D h s t * sc * Qn D h s d
/-- What the first `n` rows add to a value's cotangent. -/
def DV (n h t d : ℕ) : ℝ := ∑ s ∈ Finset.range n, P D h s t * C D h s d
def DQ (h s d : ℕ) : ℝ := nb (Q D h s) D.qg (DQn D h s) d
def DK (h t d : ℕ) : ℝ := nb (K D h t) D.kg (DKn D 8192 h t) d
def DQg (d : ℕ) : ℝ := ∑ h ∈ Finset.range 16, ∑ s ∈ Finset.range 8192, DQn D h s d * Qh D h s d
def DKg (d : ℕ) : ℝ := ∑ h ∈ Finset.range 16, ∑ t ∈ Finset.range 8192, DKn D 8192 h t d * Kh D h t d
def DR (h r : ℕ) : ℝ := ∑ s ∈ Finset.range 8192, ∑ t ∈ Finset.range 8192, if dist s t = r then DS D h s t else 0

theorem P_zero {h s t : ℕ} (n : ¬ allowed s t) : P D h s t = 0 := if_neg n
theorem DS_zero {h s t : ℕ} (n : ¬ allowed s t) : DS D h s t = 0 := by rw [DS, P_zero D n, zero_mul]

section Window

/-- A sum over a window of places is the sum over all rows, where the terms outside of the window vanish. -/
theorem window (f : ℕ → ℝ) (b n : ℕ) (hb : b + n ≤ 8704) (hf : ∀ t, ¬ (b ≤ t + 512 ∧ t + 512 < b + n) → f t = 0) :
    ∑ k : Fin n, (if 512 ≤ b + k.val then f (b + k.val - 512) else 0) = ∑ t ∈ Finset.range 8192, f t := by
  have hg : ∀ u, u < 512 → (if 512 ≤ u then f (u - 512) else 0) = 0 := fun u h => if_neg (by omega)
  rw [Fin.sum_univ_eq_sum_range (fun k => if 512 ≤ b + k then f (b + k - 512) else 0) n]
  have e1 := Finset.sum_range_add (fun u => if 512 ≤ u then f (u - 512) else 0) b n
  have e2 := Finset.sum_range_add (fun u => if 512 ≤ u then f (u - 512) else 0) (b + n) (8704 - (b + n))
  have e3 := Finset.sum_range_add (fun u => if 512 ≤ u then f (u - 512) else 0) 512 8192
  have z1 : ∑ u ∈ Finset.range b, (if 512 ≤ u then f (u - 512) else 0) = 0 := Finset.sum_eq_zero fun u hu => by
    have := Finset.mem_range.1 hu
    split_ifs with h
    · exact hf _ (by omega)
    · rfl
  have z2 : ∑ k ∈ Finset.range (8704 - (b + n)), (if 512 ≤ b + n + k then f (b + n + k - 512) else 0) = 0 := Finset.sum_eq_zero fun k hk => by
    have := Finset.mem_range.1 hk
    split_ifs with h
    · exact hf _ (by omega)
    · rfl
  have z3 : ∑ u ∈ Finset.range 512, (if 512 ≤ u then f (u - 512) else 0) = 0 := Finset.sum_eq_zero fun u hu => hg u (Finset.mem_range.1 hu)
  have e4 : ∑ k ∈ Finset.range 8192, (if 512 ≤ 512 + k then f (512 + k - 512) else 0) = ∑ t ∈ Finset.range 8192, f t :=
    Finset.sum_congr rfl fun k _ => by rw [if_pos (by omega), Nat.add_sub_cancel_left]
  rw [z1, zero_add] at e1
  rw [z2, add_zero, e1, show b + n + (8704 - (b + n)) = 512 + 8192 by omega, e3, z3, zero_add, e4] at e2
  exact e2.symm

theorem Z_pos (h s : ℕ) (hs : s < 8192) : 0 < Z D h s := by
  unfold Z
  refine Finset.sum_pos' (fun t _ => by split_ifs <;> [exact (Real.exp_pos _).le; exact le_rfl]) ⟨s, Finset.mem_range.2 hs, ?_⟩
  rw [if_pos ⟨le_rfl, by omega⟩]; exact Real.exp_pos _

end Window

section Softmax

/-- The largest of scores some of which are masked is real where one is not. -/
theorem fold_max {n : ℕ} (A : Fin n → Prop) [DecidablePred A] (x : Fin n → ℝ) (hA : ∃ i, A i) :
    ∃ M : ℝ, Finset.univ.fold max (⊥ : EReal) (fun i => if A i then (x i : EReal) else ⊥) = M := by
  have key (t : Finset (Fin n)) : t.fold max (⊥ : EReal) (fun i => if A i then (x i : EReal) else ⊥) ≠ ⊤ := by
    classical
    induction t using Finset.induction_on with
    | empty => simp
    | insert a t ha ih =>
      rw [Finset.fold_insert ha]
      rcases max_choice (if A a then (x a : EReal) else ⊥) (t.fold max (⊥ : EReal) (fun i => if A i then (x i : EReal) else ⊥)) with e | e <;> rw [e]
      · split_ifs
        · exact EReal.coe_ne_top _
        · exact bot_ne_top
      · exact ih
  obtain ⟨i, hi⟩ := hA
  have low : (x i : EReal) ≤ Finset.univ.fold max (⊥ : EReal) (fun i => if A i then (x i : EReal) else ⊥) :=
    (Finset.le_fold_max _).2 (Or.inr ⟨i, Finset.mem_univ _, by rw [if_pos hi]⟩)
  exact ⟨_, (EReal.coe_toReal (key _) (fun e => by rw [e] at low; exact absurd low (by simp))).symm⟩

/-- A masked score's exponential, the largest taken away. -/
theorem exp_masked (p : Prop) [Decidable p] (x M : ℝ) :
    Ideal.exp ((if p then (x : EReal) else ⊥) - (M : EReal)) = ((if p then Real.exp x * Real.exp (-M) else 0 : ℝ) : EReal) := by
  split_ifs
  · rw [← EReal.coe_sub, Ideal.exp_coe, sub_eq_add_neg, Real.exp_add]
  · rw [EReal.bot_sub, Ideal.exp_bot]; rfl

variable {D}

/-- The exponentials of a row's window of masked scores, the largest taken away, and their sum. -/
theorem row_sum (h s b n : ℕ) (hs : s < 8192) (hb : b + n ≤ 8704) (hw : ∀ t, allowed s t → b ≤ t + 512 ∧ t + 512 < b + n) (M : ℝ) :
    ∑ k : Fin n, (if 512 ≤ b + k.val ∧ allowed s (b + k.val - 512) then Real.exp (score D h s (b + k.val - 512)) * Real.exp (-M) else 0)
      = Z D h s * Real.exp (-M) := by
  unfold Z
  rw [Finset.sum_mul, ← window (fun t => (if allowed s t then Real.exp (score D h s t) else 0) * Real.exp (-M)) b n hb
    (fun t ht => by rw [if_neg fun a => ht (hw t a), zero_mul])]
  refine Finset.sum_congr rfl fun k _ => ?_
  by_cases h1 : 512 ≤ b + k.val <;> by_cases h2 : allowed s (b + k.val - 512) <;> simp [h1, h2]

theorem row_weight (h s t : ℕ) (M : ℝ) :
    (if allowed s t then Real.exp (score D h s t) * Real.exp (-M) else 0) * (1 / (Z D h s * Real.exp (-M))) = P D h s t := by
  unfold P
  split_ifs
  · have := Real.exp_ne_zero (-M)
    rw [one_div, mul_inv, div_eq_mul_inv]; field_simp
  · rw [zero_mul]

end Softmax

/-- The arguments are finite. -/
structure Args (D : Data) (x0 : (⟨2, ![8192, 6144]⟩ : Shape).Idx → EReal) (x1 x2 : (⟨2, ![1, 128]⟩ : Shape).Idx → EReal) (x3 : (⟨3, ![1, 16, 513]⟩ : Shape).Idx → EReal) (x4 : (⟨2, ![8192, 2048]⟩ : Shape).Idx → EReal) : Prop where
  x : ∀ (s : Fin 8192) (e : Fin 6144), x0 (ix2 s e) = (D.x s.val e.val : EReal)
  qg : ∀ d : Fin 128, x1 (ix2 0 d) = (D.qg d.val : EReal)
  kg : ∀ d : Fin 128, x2 (ix2 0 d) = (D.kg d.val : EReal)
  rb : ∀ (h : Fin 16) (r : Fin 513), x3 (ix3 0 h r) = (D.rb h.val r.val : EReal)
  ct : ∀ (s : Fin 8192) (e : Fin 2048), x4 (ix2 s e) = (D.ct s.val e.val : EReal)

end Cert.Proof.Att

end
-- ==== Proof.AttTile.lean ====
/-
  A point of the attention's backward grid, at its entries: what the body makes of its blocks, where those are finite.
-/
module

public import proofs.«01_k».proof.Proof.AttSpec
public import proofs.«01_k».proof.Proof.AttIdeal.Step
public import Idealize.ShloMosaic.Lib.Pointwise

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

/-- The row a place of the stacked key blocks holds. -/
def row (b k : ℕ) : ℕ := if k < 256 then 256 * (b - 2) + k else if k - 256 < 256 then 256 * (b - 1) + (k - 256) else 256 * b + (k - 256 - 256)

theorem row_eq {b k : ℕ} (h : 512 ≤ 256 * b + k) (hk : k < 768) : row b k = 256 * b + k - 512 := by
  unfold row; split_ifs <;> omega

/-- What the first key block and the key gain hold at a point of a head's query block `b`. -/
structure KeyReads (D : Data) (h b : ℕ) (x : Blocks Ideal) : Prop where
  k0 : ∀ (i : Fin 256) (d : Fin 128), x.k0 (ix2 i d) = (K D h (256 * (b - 2) + i.val) d.val : EReal)
  kg : ∀ d : Fin 128, x.kg (ix2 0 d) = (D.kg d.val : EReal)

/-- What the blocks of a point of a head's query block `b` hold. -/
structure Reads (D : Data) (h b : ℕ) (x : Blocks Ideal) : Prop extends KeyReads D h b x where
  q : ∀ (i : Fin 256) (d : Fin 128), x.q (ix2 i d) = (Q D h (256 * b + i.val) d.val : EReal)
  k1 : ∀ (i : Fin 256) (d : Fin 128), x.k1 (ix2 i d) = (K D h (256 * (b - 1) + i.val) d.val : EReal)
  k2 : ∀ (i : Fin 256) (d : Fin 128), x.k2 (ix2 i d) = (K D h (256 * b + i.val) d.val : EReal)
  v0 : ∀ (i : Fin 256) (d : Fin 128), x.v0 (ix2 i d) = (V D h (256 * (b - 2) + i.val) d.val : EReal)
  v1 : ∀ (i : Fin 256) (d : Fin 128), x.v1 (ix2 i d) = (V D h (256 * (b - 1) + i.val) d.val : EReal)
  v2 : ∀ (i : Fin 256) (d : Fin 128), x.v2 (ix2 i d) = (V D h (256 * b + i.val) d.val : EReal)
  qg : ∀ d : Fin 128, x.qg (ix2 0 d) = (D.qg d.val : EReal)
  bm : ∀ (i : Fin 256) (k : Fin 768), x.bm (ix3 0 i k) = if i.val / 64 ≤ k.val / 64 ∧ k.val / 64 ≤ i.val / 64 + 8 then (D.rb h (min (i.val + 768 - k.val) 512) : EReal) else ⊥
  ct : ∀ (i : Fin 256) (d : Fin 128), x.ct (ix2 i d) = (C D h (256 * b + i.val) d.val : EReal)

/-- A value at a place of the window, zero before the first row. -/
def at' (b k : ℕ) (f : ℕ → ℝ) : ℝ := if 512 ≤ 256 * b + k then f (256 * b + k - 512) else 0

theorem at_sum (b : ℕ) (hb : b < 32) (f : ℕ → ℝ) (s : ℕ) (hs : s / 256 = b) (hf : ∀ t, ¬ allowed s t → f t = 0) :
    ∑ k : Fin 768, at' b k.val f = ∑ t ∈ Finset.range 8192, f t :=
  window f (256 * b) 768 (by omega) fun t ht => hf t fun a => ht (by unfold allowed at a; omega)

theorem mask_eq : (Named.named (F := Ideal) κ "mask" (φ := .f32) 0xF149F2CA#32) = (⊥ : EReal) := rfl

theorem cmp_fact : ∀ (b : Fin 32) , ∀ k : Fin 768, IntOp.cmpi CmpIPredicate.sge (BitVec.ofNat 32 k.val) (Scalar.muli (Scalar.subi (2#32) (BitVec.ofNat 32 b.val)) 256#32)
    = if 512 ≤ 256 * b.val + k.val then 1#1 else 0#1 := by
  decide +kernel

variable {D : Data} {h b : ℕ} {x : Blocks Ideal}

theorem inv_q (R : Reads D h b x) (i : Fin 256) : k0_pay13 x.q (ix2 i 0) = (inv (Q D h (256 * b + i.val)) : EReal) := by
  refine Eq.trans ?_ (rsqrt_row (fun d => x.q (ix2 i d)) _ (R.q i))
  pointwise [k0_pay13]

theorem hat_q (R : Reads D h b x) (i : Fin 256) (d : Fin 128) : k0_pay14 x.q (ix2 i d) = (Qh D h (256 * b + i.val) d.val : EReal) := by
  have e : k0_pay14 x.q (ix2 i d) = x.q (ix2 i d) * k0_pay13 x.q (ix2 i 0) := by pointwise [k0_pay14]
  rw [e, inv_q R, R.q, ← EReal.coe_mul]; rfl

theorem gain_q (R : Reads D h b x) (i : Fin 256) (d : Fin 128) : k0_pay2 x.q x.qg (ix2 i d) = (Qn D h (256 * b + i.val) d.val : EReal) := by
  have e : k0_pay2 x.q x.qg (ix2 i d) = k0_pay14 x.q (ix2 i d) * x.qg (ix2 0 d) := by pointwise [k0_pay2, k0_pay14, k0_pay13]
  rw [e, hat_q R, R.qg, ← EReal.coe_mul]; rfl

theorem inv_k (R : KeyReads D h b x) (i : Fin 256) : k0_pay18 x.k0 (ix2 i 0) = (inv (K D h (256 * (b - 2) + i.val)) : EReal) := by
  refine Eq.trans ?_ (rsqrt_row (fun d => x.k0 (ix2 i d)) _ (R.k0 i))
  pointwise [k0_pay18]

theorem hat_k (R : KeyReads D h b x) (i : Fin 256) (d : Fin 128) : k0_pay19 x.k0 (ix2 i d) = (Kh D h (256 * (b - 2) + i.val) d.val : EReal) := by
  have e : k0_pay19 x.k0 (ix2 i d) = x.k0 (ix2 i d) * k0_pay18 x.k0 (ix2 i 0) := by pointwise [k0_pay19]
  rw [e, inv_k R, R.k0, ← EReal.coe_mul]; rfl

/-- Three blocks, stacked. -/
def cat (a b c : Vec Ideal S256x128 .f32) (k : Fin 768) (d : Fin 128) : EReal :=
  if h : k.val < 256 then a (ix2 ⟨k.val, h⟩ d) else if h : k.val - 256 < 256 then b (ix2 ⟨k.val - 256, h⟩ d) else c (ix2 ⟨k.val - 256 - 256, by omega⟩ d)

theorem cat_k (R : Reads D h b x) (k : Fin 768) (d : Fin 128) : cat x.k0 x.k1 x.k2 k d = (K D h (row b k.val) d.val : EReal) := by
  unfold cat row; split_ifs <;> simp only [R.k0, R.k1, R.k2]
theorem cat_v (R : Reads D h b x) (k : Fin 768) (d : Fin 128) : cat x.v0 x.v1 x.v2 k d = (V D h (row b k.val) d.val : EReal) := by
  unfold cat row; split_ifs <;> simp only [R.v0, R.v1, R.v2]

theorem gain_k (R : Reads D h b x) (k : Fin 768) (d : Fin 128) : k0_pay3 x.k0 x.k1 x.k2 x.kg (ix2 k d) = (Kn D h (row b k.val) d.val : EReal) := by
  have e : k0_pay3 x.k0 x.k1 x.k2 x.kg (ix2 k d) = cat x.k0 x.k1 x.k2 k d
      * Ideal.rsqrt (Ideal.div (∑ d, cat x.k0 x.k1 x.k2 k d * cat x.k0 x.k1 x.k2 k d) (Ideal.ofBits FTy.f32 1124073472#32) + Ideal.ofBits FTy.f32 897988541#32) * x.kg (ix2 0 d) := by
    pointwise [k0_pay3]
    rfl
  rw [e, rsqrt_row _ _ (cat_k R k), cat_k R, R.kg, ← EReal.coe_mul, ← EReal.coe_mul]; rfl

theorem dots (R : Reads D h b x) (i : Fin 256) (k : Fin 768) : k0_pay4 x.q x.k0 x.k1 x.k2 x.qg x.kg (ix2 i k)
    = (((∑ d : Fin 128, Qn D h (256 * b + i.val) d.val * Kn D h (row b k.val) d.val) * sc : ℝ) : EReal) := by
  have e : k0_pay4 x.q x.k0 x.k1 x.k2 x.qg x.kg (ix2 i k) = (∑ d, k0_pay2 x.q x.qg (ix2 i d) * k0_pay3 x.k0 x.k1 x.k2 x.kg (ix2 k d)) * Ideal.ofBits FTy.f32 1035273459#32 := by
    pointwise [k0_pay4]
  rw [e, sc_eq]
  simp only [gain_q R, gain_k R, ← EReal.coe_mul, coe_sum]

/-- The places of a row's window that count. -/
def seen (b i k : ℕ) : Prop := 512 ≤ 256 * b + k ∧ allowed (256 * b + i) (256 * b + k - 512)
instance (b i k : ℕ) : Decidable (seen b i k) := by unfold seen; infer_instance

theorem masked (R : Reads D h b x) (hb : b < 32) (i : Fin 256) (k : Fin 768) :
    Scalar.select (IntOp.cmpi CmpIPredicate.sge (BitVec.ofNat 32 k.val) (Scalar.muli (Scalar.subi (2#32) (BitVec.ofNat 32 b)) 256#32))
      (k0_pay4 x.q x.k0 x.k1 x.k2 x.qg x.kg (ix2 i k) + x.bm (ix3 0 i k)) (Named.named (F := Ideal) κ "mask" (φ := .f32) 0xF149F2CA#32)
      = if seen b i.val k.val then (score D h (256 * b + i.val) (256 * b + k.val - 512) : EReal) else ⊥ := by
  rw [cmp_fact ⟨b, hb⟩ k, mask_eq, dots R, R.bm]
  show (Scalar.select (if 512 ≤ 256 * b + k.val then 1#1 else 0#1) _ _ : EReal) = _
  have hi := i.isLt
  have hk := k.isLt
  by_cases h1 : 512 ≤ 256 * b + k.val
  · rw [if_pos h1]
    show (_ + _ : EReal) = _
    by_cases h2 : i.val / 64 ≤ k.val / 64 ∧ k.val / 64 ≤ i.val / 64 + 8
    · rw [if_pos h2, if_pos ⟨h1, by unfold allowed; omega⟩, row_eq h1 hk, ← EReal.coe_add, score, dist]
      rw [show 256 * b + i.val + 256 - (256 * b + k.val - 512) = i.val + 768 - k.val by omega]
    · rw [if_neg h2, if_neg, EReal.add_bot]
      rintro ⟨-, a⟩; unfold allowed at a; omega
  · rw [if_neg h1, if_neg (show ¬ seen b i.val k.val from fun s => h1 s.1)]; rfl

/-- A masked score, as the body reads it. -/
def place (w : BitVec 32) (s : Vec Ideal S256x768 .f32) (a : Vec Ideal S1x256x768 .f32) (i : Fin 256) (k : Fin 768) : EReal :=
  Scalar.select (IntOp.cmpi CmpIPredicate.sge (BitVec.ofNat 32 k.val) (Scalar.muli (Scalar.subi (2#32) w) 256#32))
    (s (ix2 i k) + a (ix3 0 i k)) (Named.named (F := Ideal) κ "mask" (φ := .f32) 0xF149F2CA#32)

theorem weight_form (w : BitVec 32) (s : Vec Ideal S256x768 .f32) (a : Vec Ideal S1x256x768 .f32) (i : Fin 256) (k : Fin 768) : k0_pay5 w s a (ix2 i k)
    = Ideal.div (Ideal.exp (place w s a i k - Finset.univ.fold max (Ideal.ofBits FTy.f32 4286578688#32) (place w s a i)))
      (∑ k, Ideal.exp (place w s a i k - Finset.univ.fold max (Ideal.ofBits FTy.f32 4286578688#32) (place w s a i))) := by
  pointwise [k0_pay5]
  rfl

theorem weight (R : Reads D h b x) (hb : b < 32) (i : Fin 256) (k : Fin 768) :
    k0_pay5 (BitVec.ofNat 32 b) (k0_pay4 x.q x.k0 x.k1 x.k2 x.qg x.kg) x.bm (ix2 i k) = (at' b k.val (P D h (256 * b + i.val)) : EReal) := by
  obtain ⟨M, hM⟩ := fold_max (fun k : Fin 768 => seen b i.val k.val) (fun k => score D h (256 * b + i.val) (256 * b + k.val - 512))
    ⟨⟨512 + i.val, by omega⟩, by show seen b i.val (512 + i.val); unfold seen allowed; omega⟩
  have e : k0_pay5 (BitVec.ofNat 32 b) (k0_pay4 x.q x.k0 x.k1 x.k2 x.qg x.kg) x.bm (ix2 i k) =
      Ideal.div (Ideal.exp ((if seen b i.val k.val then (score D h (256 * b + i.val) (256 * b + k.val - 512) : EReal) else ⊥) - (M : EReal)))
        (∑ k : Fin 768, Ideal.exp ((if seen b i.val k.val then (score D h (256 * b + i.val) (256 * b + k.val - 512) : EReal) else ⊥) - (M : EReal))) := by
    have hp : place (BitVec.ofNat 32 b) (k0_pay4 x.q x.k0 x.k1 x.k2 x.qg x.kg) x.bm i = fun k => if seen b i.val k.val then (score D h (256 * b + i.val) (256 * b + k.val - 512) : EReal) else ⊥ :=
      funext (masked R hb i)
    rw [weight_form, hp, bot_eq, hM]
  rw [e]
  simp only [exp_masked, coe_sum]
  have hs : ∀ k : Fin 768, (if seen b i.val k.val then Real.exp (score D h (256 * b + i.val) (256 * b + k.val - 512)) * Real.exp (-M) else 0)
      = if 512 ≤ 256 * b + k.val ∧ allowed (256 * b + i.val) (256 * b + k.val - 512) then Real.exp (score D h (256 * b + i.val) (256 * b + k.val - 512)) * Real.exp (-M) else 0 := fun k => rfl
  rw [Finset.sum_congr rfl fun k _ => hs k, row_sum h (256 * b + i.val) (256 * b) 768 (by omega) (by omega) (fun t a => by unfold allowed at a; omega) M,
    Ideal.div_coe (mul_pos (Z_pos D h _ (by omega)) (Real.exp_pos _)).ne', ← EReal.coe_mul]
  congr 1
  unfold at'
  by_cases h1 : 512 ≤ 256 * b + k.val
  · rw [if_pos h1, ← row_weight h _ _ M]
    congr 1
    unfold seen; simp [h1]
  · rw [if_neg h1, if_neg (show ¬ seen b i.val k.val from fun s => h1 s.1), zero_mul]

/-- The scores' gradient. -/
theorem ds_apply (R : Reads D h b x) (hb : b < 32) (c : grid0.Coords) (hc : (c 1).val = b) (i : Fin 256) (k : Fin 768) :
    ds c x (ix2 i k) = (at' b k.val (DS D h (256 * b + i.val)) : EReal) := by
  have dp (k : Fin 768) : ∑ d, x.ct (ix2 i d) * cat x.v0 x.v1 x.v2 k d = (DP D h (256 * b + i.val) (row b k.val) : EReal) := by
    simp only [R.ct, cat_v R, ← EReal.coe_mul, coe_sum]; rfl
  have e : ds c x (ix2 i k) = k0_pay5 (BitVec.ofNat 32 b) (k0_pay4 x.q x.k0 x.k1 x.k2 x.qg x.kg) x.bm (ix2 i k)
      * ((∑ d, x.ct (ix2 i d) * cat x.v0 x.v1 x.v2 k d) - ∑ k, (∑ d, x.ct (ix2 i d) * cat x.v0 x.v1 x.v2 k d)
        * k0_pay5 (BitVec.ofNat 32 b) (k0_pay4 x.q x.k0 x.k1 x.k2 x.qg x.kg) x.bm (ix2 i k)) := by
    unfold ds; rw [hc]
    pointwise [k0_pay8, k0_pay6]
    rfl
  rw [e]
  simp only [dp, weight R hb, ← EReal.coe_mul, coe_sum, ← EReal.coe_sub]
  congr 1
  have g (k : Fin 768) : DP D h (256 * b + i.val) (row b k.val) * at' b k.val (P D h (256 * b + i.val))
      = at' b k.val (fun t => DP D h (256 * b + i.val) t * P D h (256 * b + i.val) t) := by
    unfold at'; split_ifs with h1
    · rw [row_eq h1 k.isLt]
    · rw [mul_zero]
  simp only [g]
  rw [at_sum b hb _ (256 * b + i.val) (by omega) (fun t a => by rw [P_zero D a, mul_zero])]
  unfold at'; split_ifs with h1
  · rw [row_eq h1 k.isLt]; rfl
  · rw [zero_mul]

/-- The normalized queries' gradient. -/
theorem dqn_apply (R : Reads D h b x) (hb : b < 32) (c : grid0.Coords) (hc : (c 1).val = b) (i : Fin 256) (d : Fin 128) :
    k0_pay11 (k0_pay3 x.k0 x.k1 x.k2 x.kg) (ds c x) (ix2 i d) = (DQn D h (256 * b + i.val) d.val : EReal) := by
  have e : k0_pay11 (k0_pay3 x.k0 x.k1 x.k2 x.kg) (ds c x) (ix2 i d) = ∑ k, ds c x (ix2 i k) * Ideal.ofBits FTy.f32 1035273459#32 * k0_pay3 x.k0 x.k1 x.k2 x.kg (ix2 k d) := by
    pointwise [k0_pay11, k0_pay10]
  rw [e, sc_eq]
  simp only [ds_apply R hb c hc, gain_k R, ← EReal.coe_mul, coe_sum]
  congr 1
  have g (k : Fin 768) : at' b k.val (DS D h (256 * b + i.val)) * sc * Kn D h (row b k.val) d.val
      = at' b k.val (fun t => DS D h (256 * b + i.val) t * sc * Kn D h t d.val) := by
    unfold at'; split_ifs with h1
    · rw [row_eq h1 k.isLt]
    · rw [zero_mul, zero_mul]
  simp only [g]
  exact at_sum b hb _ (256 * b + i.val) (by omega) (fun t a => by rw [DS_zero D a, zero_mul, zero_mul])

/-- The queries' gradient. -/
theorem dq_apply (R : Reads D h b x) (hb : b < 32) (c : grid0.Coords) (hc : (c 1).val = b) (i : Fin 256) (d : Fin 128) :
    dqOf c x (ix2 i d) = (DQ D h (256 * b + i.val) d.val : EReal) := by
  have e : dqOf c x (ix2 i d) = k0_pay13 x.q (ix2 i 0) * (k0_pay11 (k0_pay3 x.k0 x.k1 x.k2 x.kg) (ds c x) (ix2 i d) * x.qg (ix2 0 d)
      - k0_pay14 x.q (ix2 i d) * Ideal.div (∑ d, k0_pay11 (k0_pay3 x.k0 x.k1 x.k2 x.kg) (ds c x) (ix2 i d) * x.qg (ix2 0 d) * k0_pay14 x.q (ix2 i d)) (Ideal.ofBits FTy.f32 1124073472#32)) := by
    unfold dqOf
    pointwise [k0_pay28, k0_pay16, k0_pay17]
  rw [e, width_eq, Ideal.div_coe (by norm_num)]
  simp only [inv_q R, hat_q R, dqn_apply R hb c hc, R.qg, ← EReal.coe_mul, coe_sum, ← EReal.coe_sub]
  rfl

/-- The query gain's gradient. -/
theorem dqg_apply (R : Reads D h b x) (hb : b < 32) (c : grid0.Coords) (hc : (c 1).val = b) (g : Vec Ideal S1x128 .f32) (y : ℝ) (d : Fin 128) (hg : g (ix2 0 d) = (y : EReal)) :
    dqgAdd c x g (ix2 0 d) = ((y + ∑ i : Fin 256, DQn D h (256 * b + i.val) d.val * Qh D h (256 * b + i.val) d.val : ℝ) : EReal) := by
  have e : dqgAdd c x g (ix2 0 d) = g (ix2 0 d) + ∑ i, k0_pay11 (k0_pay3 x.k0 x.k1 x.k2 x.kg) (ds c x) (ix2 i d) * k0_pay14 x.q (ix2 i d) := by
    unfold dqgAdd
    pointwise [k0_pay29, k0_pay15]
  rw [e, hg]
  simp only [hat_q R, dqn_apply R hb c hc, ← EReal.coe_mul, coe_sum, ← EReal.coe_add]

/-- The keys' accumulator. -/
theorem ak_apply (R : Reads D h b x) (hb : b < 32) (c : grid0.Coords) (hc : (c 1).val = b) (a : Vec Ideal S768x128 .f32) (y : ℝ) (k : Fin 768) (d : Fin 128) (ha : a (ix2 k d) = (y : EReal)) :
    akAdd c x a (ix2 k d) = ((y + ∑ i : Fin 256, at' b k.val (DS D h (256 * b + i.val)) * sc * Qn D h (256 * b + i.val) d.val : ℝ) : EReal) := by
  have e : akAdd c x a (ix2 k d) = a (ix2 k d) + ∑ i, ds c x (ix2 i k) * Ideal.ofBits FTy.f32 1035273459#32 * k0_pay2 x.q x.qg (ix2 i d) := by
    unfold akAdd
    pointwise [k0_pay12, k0_pay10]
  rw [e, ha, sc_eq]
  simp only [gain_q R, ds_apply R hb c hc, ← EReal.coe_mul, coe_sum, ← EReal.coe_add]

/-- The values' accumulator. -/
theorem av_apply (R : Reads D h b x) (hb : b < 32) (c : grid0.Coords) (hc : (c 1).val = b) (a : Vec Ideal S768x128 .f32) (y : ℝ) (k : Fin 768) (d : Fin 128) (ha : a (ix2 k d) = (y : EReal)) :
    avAdd c x a (ix2 k d) = ((y + ∑ i : Fin 256, at' b k.val (P D h (256 * b + i.val)) * C D h (256 * b + i.val) d.val : ℝ) : EReal) := by
  have e : avAdd c x a (ix2 k d) = a (ix2 k d) + ∑ i, k0_pay5 (BitVec.ofNat 32 b) (k0_pay4 x.q x.k0 x.k1 x.k2 x.qg x.kg) x.bm (ix2 i k) * x.ct (ix2 i d) := by
    unfold avAdd; rw [hc]
    pointwise [k0_pay7, k0_pay6]
  rw [e, ha]
  simp only [weight R hb, R.ct, ← EReal.coe_mul, coe_sum, ← EReal.coe_add]

/-- The bias's gradient, added. -/
theorem db_apply (R : Reads D h b x) (hb : b < 32) (c : grid0.Coords) (hc : (c 1).val = b) (a : Vec Ideal S1x256x768 .f32) (y : ℝ) (i : Fin 256) (k : Fin 768) (ha : a (ix3 0 i k) = (y : EReal)) :
    k0_pay9 (ds c x) a (ix3 0 i k) = ((y + at' b k.val (DS D h (256 * b + i.val)) : ℝ) : EReal) := by
  have e : k0_pay9 (ds c x) a (ix3 0 i k) = a (ix3 0 i k) + ds c x (ix2 i k) := by pointwise [k0_pay9]
  rw [e, ha, ds_apply R hb c hc, ← EReal.coe_add]

/-- The keys' gradient, written out from the accumulator. -/
theorem dk_apply (R : KeyReads D h b x) (a : Vec Ideal S256x128 .f32) (f : ℕ → ℝ) (i : Fin 256) (d : Fin 128) (ha : ∀ d : Fin 128, a (ix2 i d) = (f d.val : EReal)) :
    k0_pay20 a x.k0 x.kg (ix2 i d) = (nb (K D h (256 * (b - 2) + i.val)) D.kg f d.val : EReal) := by
  have e : k0_pay20 a x.k0 x.kg (ix2 i d) = k0_pay18 x.k0 (ix2 i 0) * (a (ix2 i d) * x.kg (ix2 0 d)
      - k0_pay19 x.k0 (ix2 i d) * Ideal.div (∑ d, a (ix2 i d) * x.kg (ix2 0 d) * k0_pay19 x.k0 (ix2 i d)) (Ideal.ofBits FTy.f32 1124073472#32)) := by
    pointwise [k0_pay20]
  rw [e, width_eq, Ideal.div_coe (by norm_num)]
  simp only [inv_k R, hat_k R, ha, R.kg, ← EReal.coe_mul, coe_sum, ← EReal.coe_sub]
  rfl

/-- The key gain's gradient, added. -/
theorem dkg_apply (R : KeyReads D h b x) (a : Vec Ideal S256x128 .f32) (f : ℕ → ℝ) (g : Vec Ideal S1x128 .f32) (y : ℝ) (d : Fin 128)
    (ha : ∀ i : Fin 256, a (ix2 i d) = (f i.val : EReal)) (hg : g (ix2 0 d) = (y : EReal)) :
    k0_pay21 a x.k0 g (ix2 0 d) = ((y + ∑ i : Fin 256, f i.val * Kh D h (256 * (b - 2) + i.val) d.val : ℝ) : EReal) := by
  have e : k0_pay21 a x.k0 g (ix2 0 d) = g (ix2 0 d) + ∑ i, a (ix2 i d) * k0_pay19 x.k0 (ix2 i d) := by pointwise [k0_pay21]
  rw [e, hg]
  simp only [hat_k R, ha, ← EReal.coe_mul, coe_sum, ← EReal.coe_add]

end Cert.Proof.Att

end
-- ==== Proof.AttState.lean ====
/-
  The attention's backward grid, point after point: what the outputs' blocks and the two accumulators hold after the
  first points of a head.
-/
module

public import proofs.«01_k».proof.Proof.AttTile
public import proofs.«01_k».proof.Proof.AttIdeal.Frame

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

/-! ## An accumulator -/

/-- An accumulator at query block `b` that holds the first `n` rows' shares. -/
def Acc (g u : ℕ → ℕ → ℝ) (b n : ℕ) (a : Vec Ideal S768x128 .f32) : Prop :=
  ∀ (k : Fin 768) (d : Fin 128), a (ix2 k d) = (at' b k.val (fun t => ∑ s ∈ Finset.range n, g s t * u s d.val) : EReal)

variable {g u : ℕ → ℕ → ℝ} {b n : ℕ} {a : Vec Ideal S768x128 .f32}

/-- A block's rows more. -/
theorem rows_step (f : ℕ → ℝ) (b : ℕ) :
    ∑ s ∈ Finset.range (256 * b), f s + ∑ i : Fin 256, f (256 * b + i.val) = ∑ s ∈ Finset.range (256 * (b + 1)), f s := by
  rw [show 256 * (b + 1) = 256 * b + 256 by ring, Finset.sum_range_add, ← Fin.sum_univ_eq_sum_range (fun i => f (256 * b + i))]

theorem at_step (k : ℕ) (i : ℕ) (d : ℕ) :
    at' b k (g i) * u i d = at' b k (fun t => g i t * u i d) := by
  unfold at'; split_ifs
  · rfl
  · rw [zero_mul]

theorem Acc.add (ha : Acc g u b (256 * b) a) {a' : Vec Ideal S768x128 .f32}
    (h : ∀ (k : Fin 768) (d : Fin 128) (y : ℝ), a (ix2 k d) = (y : EReal) →
      a' (ix2 k d) = ((y + ∑ i : Fin 256, at' b k.val (g (256 * b + i.val)) * u (256 * b + i.val) d.val : ℝ) : EReal)) :
    Acc g u b (256 * (b + 1)) a' := fun k d => by
  rw [h k d _ (ha k d)]
  simp only [at_step]
  refine congrArg _ ?_
  unfold at'
  split_ifs
  · exact rows_step (fun s => g s (256 * b + k.val - 512) * u s d.val) b
  · simp

theorem stack_lo (lo : Vec Ideal S512x128 .f32) (hi : Vec Ideal S256x128 .f32) (k : Fin 768) (d : Fin 128) (h : k.val < 512) :
    stack lo hi (ix2 k d) = lo (ix2 ⟨k.val, h⟩ d) := dif_pos h
theorem stack_hi (lo : Vec Ideal S512x128 .f32) (hi : Vec Ideal S256x128 .f32) (k : Fin 768) (d : Fin 128) (h : ¬ k.val < 512) :
    stack lo hi (ix2 k d) = hi (ix2 ⟨k.val - 512, by omega⟩ d) := dif_neg h

theorem ld_lower (a : Vec Ideal S768x128 .f32) (k : Fin 512) (d : Fin 128) :
    View.ld a (Rect.unit (s := S768x128) ![256, 0] S512x128.size inb_S768x128_S512x128_256_0) (ix2 k d) = a (ix2 ⟨k.val + 256, by omega⟩ d) := by
  show a _ = a _
  exact congrArg a (Shape.idx_ext₂ (show 256 + 1 * k.val = k.val + 256 by omega) (show 0 + 1 * d.val = d.val by omega))

theorem top_apply (a : Vec Ideal S768x128 .f32) (k : Fin 256) (d : Fin 128) : top a (ix2 k d) = a (ix2 ⟨k.val, by omega⟩ d) := by
  show a _ = a _
  exact congrArg a (Shape.idx_ext₂ (show 0 + 1 * k.val = k.val by omega) (show 0 + 1 * d.val = d.val by omega))

theorem shiftK_apply (a : Vec Ideal S768x128 .f32) (k : Fin 768) (d : Fin 128) :
    shiftK a (ix2 k d) = if h : k.val < 512 then a (ix2 ⟨k.val + 256, by omega⟩ d) else 0 := by
  unfold shiftK
  split_ifs with h
  · rw [stack_lo _ _ _ _ h, ← ld_lower a ⟨k.val, h⟩ d]
    pointwise [k0_pay30]
  · rw [stack_hi _ _ _ _ h]
    pointwise [k0_pay31]

theorem shiftV_apply (a : Vec Ideal S768x128 .f32) (k : Fin 768) (d : Fin 128) :
    shiftV a (ix2 k d) = if h : k.val < 512 then a (ix2 ⟨k.val + 256, by omega⟩ d) else 0 := by
  unfold shiftV
  split_ifs with h
  · rw [stack_lo _ _ _ _ h, ← ld_lower a ⟨k.val, h⟩ d]
    pointwise [k0_pay32]
  · rw [stack_hi _ _ _ _ h]
    pointwise [k0_pay1, k0_pay33]

theorem Acc.shift (hg : ∀ s t, ¬ allowed s t → g s t = 0) (hn : n ≤ 256 * (b + 1)) (ha : Acc g u b n a) {a' : Vec Ideal S768x128 .f32}
    (h : ∀ (k : Fin 768) (d : Fin 128), a' (ix2 k d) = if h : k.val < 512 then a (ix2 ⟨k.val + 256, by omega⟩ d) else 0) :
    Acc g u (b + 1) n a' := fun k d => by
  rw [h k d]
  split_ifs with hk
  · rw [ha]
    refine congrArg _ ?_
    show at' b (k.val + 256) _ = at' (b + 1) k.val _
    unfold at'
    by_cases h1 : 512 ≤ 256 * b + (k.val + 256)
    · rw [if_pos h1, if_pos (by omega), show 256 * b + (k.val + 256) - 512 = 256 * (b + 1) + k.val - 512 by omega]
    · rw [if_neg h1, if_neg (by omega)]
  · unfold at'
    rw [if_pos (by omega)]
    refine (congrArg (fun z : ℝ => (z : EReal)) (Finset.sum_eq_zero fun s hs => ?_)).symm
    · rw [hg, zero_mul]
      have := Finset.mem_range.mp hs
      unfold allowed
      omega

theorem Acc.top (hg : ∀ s t, ¬ allowed s t → g s t = 0) (hb : 2 ≤ b) (hn : n = 8192 ∨ n < 8192 ∧ 256 * (b + 1) ≤ n) (ha : Acc g u b n a)
    (i : Fin 256) (d : Fin 128) :
    top a (ix2 i d) = ((∑ s ∈ Finset.range 8192, g s (256 * (b - 2) + i.val) * u s d.val : ℝ) : EReal) := by
  rw [top_apply, ha]
  refine congrArg _ ?_
  unfold at'
  show (if 512 ≤ 256 * b + i.val then _ else _) = _
  rw [if_pos (by omega)]
  show ∑ s ∈ Finset.range n, g s (256 * b + i.val - 512) * u s d.val = _
  rw [show 256 * b + i.val - 512 = 256 * (b - 2) + i.val by omega]
  rcases hn with rfl | ⟨h1, h2⟩
  · rfl
  · refine Finset.sum_subset (fun s hs => Finset.mem_range.mpr (by have := Finset.mem_range.mp hs; omega)) fun s _ hs => ?_
    rw [hg, zero_mul]
    have : ¬ s < n := fun h => hs (Finset.mem_range.mpr h)
    unfold allowed
    omega

theorem Acc.zero (h : ∀ (k : Fin 768) (d : Fin 128), a (ix2 k d) = 0) : Acc g u b 0 a := fun k d => by
  rw [h k d]; unfold at'; split_ifs <;> simp

theorem zeroK (k : Fin 768) (d : Fin 128) : k0_pay23 (F := Ideal) (ix2 k d) = 0 := by pointwise [k0_pay23]
theorem zeroV (k : Fin 768) (d : Fin 128) : k0_pay24 (F := Ideal) (ix2 k d) = 0 := by pointwise [k0_pay24]
theorem zeroB (i : Fin 256) (k : Fin 768) : k0_pay25 (F := Ideal) (ix3 0 i k) = ((0 : ℝ) : EReal) := Eq.trans (b := 0) (by pointwise [k0_pay25]) rfl
theorem zeroQ (d : Fin 128) : k0_pay26 (F := Ideal) (ix2 0 d) = ((0 : ℝ) : EReal) := Eq.trans (b := 0) (by pointwise [k0_pay26]) rfl
theorem zeroG (d : Fin 128) : k0_pay27 (F := Ideal) (ix2 0 d) = ((0 : ℝ) : EReal) := Eq.trans (b := 0) (by pointwise [k0_pay27]) rfl

/-! ## A sum over the heads so far -/

/-- The sum over the rows of the heads before `h` and over the first `n` rows of `h`. -/
def upto (f : ℕ → ℕ → ℝ) (h n : ℕ) : ℝ := ∑ p ∈ Finset.range h, ∑ s ∈ Finset.range 8192, f p s + ∑ s ∈ Finset.range n, f h s

theorem upto_step (f : ℕ → ℕ → ℝ) (h b : ℕ) : upto f h (256 * b) + ∑ i : Fin 256, f h (256 * b + i.val) = upto f h (256 * (b + 1)) := by
  unfold upto; rw [add_assoc, rows_step]
theorem upto_next (f : ℕ → ℕ → ℝ) (h : ℕ) : upto f h 8192 = upto f (h + 1) 0 := by
  unfold upto; rw [Finset.sum_range_succ _ h, Finset.sum_range_zero, add_zero]

/-! ## The state -/

/-- What the outputs' blocks and the accumulators hold after the first `b` points of head `h`. -/
structure Inv (D : Data) (h b : ℕ) (s : State Ideal) : Prop where
  ak : b ≠ 0 → Acc (fun i t => DS D h i t * sc) (Qn D h) b (256 * min b 32) s.ak
  av : b ≠ 0 → Acc (P D h) (C D h) b (256 * min b 32) s.av
  db : b ≠ 0 → ∀ (i : Fin 256) (k : Fin 768), s.db (ix3 0 i k) = ((∑ c ∈ Finset.range (min b 32), at' c k.val (DS D h (256 * c + i.val)) : ℝ) : EReal)
  dqg : ¬ (h = 0 ∧ b = 0) → ∀ d : Fin 128, s.dqg (ix2 0 d) = (upto (fun p i => DQn D p i d.val * Qh D p i d.val) h (256 * min b 32) : EReal)
  dkg : ¬ (h = 0 ∧ b = 0) → ∀ d : Fin 128, s.dkg (ix2 0 d) = (upto (fun p t => DKn D 8192 p t d.val * Kh D p t d.val) h (256 * (b - 2)) : EReal)
  dq : b ≠ 0 → ∀ (i : Fin 256) (d : Fin 128), s.dq (ix2 i d) = (DQ D h (256 * (min b 32 - 1) + i.val) d.val : EReal)
  dk : 3 ≤ b → ∀ (i : Fin 256) (d : Fin 128), s.dk (ix2 i d) = (DK D h (256 * (b - 3) + i.val) d.val : EReal)
  dv : 3 ≤ b → ∀ (i : Fin 256) (d : Fin 128), s.dv (ix2 i d) = (DV D 8192 h (256 * (b - 3) + i.val) d.val : EReal)

variable {D : Data} {h : ℕ} {x : Blocks Ideal} {s : State Ideal}

theorem Inv.next (I : Inv D h 34 s) : Inv D (h + 1) 0 s where
  ak e := absurd rfl e
  av e := absurd rfl e
  db e := absurd rfl e
  dqg _ d := by rw [I.dqg (by omega) d]; exact congrArg _ (upto_next _ _)
  dkg _ d := by rw [I.dkg (by omega) d]; exact congrArg _ (upto_next _ _)
  dq e := absurd rfl e
  dk e := absurd e (by omega)
  dv e := absurd e (by omega)

theorem hgK (h i t : ℕ) (e : ¬ allowed i t) : DS D h i t * sc = 0 := by rw [DS_zero D e, zero_mul]
theorem hgV (h i t : ℕ) (e : ¬ allowed i t) : P D h i t = 0 := P_zero D e

section Point
variable (R : Reads D h b x) (hb : b < 32) (c : grid0.Coords) (hc : (c 1).val = b)
include R hb hc

theorem stepK (ha : Acc (fun i t => DS D h i t * sc) (Qn D h) b (256 * b) a) :
    Acc (fun i t => DS D h i t * sc) (Qn D h) b (256 * (b + 1)) (akAdd c x a) :=
  ha.add fun k d y e => by
    rw [ak_apply R hb c hc a y k d e]
    refine congrArg (fun z : ℝ => ((y + z : ℝ) : EReal)) (Finset.sum_congr rfl fun i _ => congrArg (· * _) ?_)
    unfold at'; split_ifs
    · rfl
    · exact zero_mul _

theorem stepV (ha : Acc (P D h) (C D h) b (256 * b) a) : Acc (P D h) (C D h) b (256 * (b + 1)) (avAdd c x a) :=
  ha.add fun k d y e => av_apply R hb c hc a y k d e

theorem stepB' (z : Vec Ideal S1x256x768 .f32) (hz : ∀ (i : Fin 256) (k : Fin 768), z (ix3 0 i k) = ((∑ c ∈ Finset.range b, at' c k.val (DS D h (256 * c + i.val)) : ℝ) : EReal))
    (i : Fin 256) (k : Fin 768) : k0_pay9 (ds c x) z (ix3 0 i k) = ((∑ c ∈ Finset.range (b + 1), at' c k.val (DS D h (256 * c + i.val)) : ℝ) : EReal) := by
  rw [db_apply R hb c hc z _ i k (hz i k), Finset.sum_range_succ]

theorem stepQ (z : Vec Ideal S1x128 .f32) (hz : ∀ d : Fin 128, z (ix2 0 d) = (upto (fun p i => DQn D p i d.val * Qh D p i d.val) h (256 * b) : EReal)) (d : Fin 128) :
    dqgAdd c x z (ix2 0 d) = (upto (fun p i => DQn D p i d.val * Qh D p i d.val) h (256 * (b + 1)) : EReal) := by
  rw [dqg_apply R hb c hc z _ d (hz d)]
  exact congrArg _ (upto_step (fun p i => DQn D p i d.val * Qh D p i d.val) h b)

end Point

/-- The keys' results at a point, from the complete rows at the accumulators' top. -/
theorem outK (R : KeyReads D h b x) (z : Vec Ideal S256x128 .f32) (hz : ∀ (i : Fin 256) (d : Fin 128), z (ix2 i d) = (DKn D 8192 h (256 * (b - 2) + i.val) d.val : EReal))
    (i : Fin 256) (d : Fin 128) : k0_pay20 z x.k0 x.kg (ix2 i d) = (DK D h (256 * (b - 2) + i.val) d.val : EReal) :=
  dk_apply R z (DKn D 8192 h (256 * (b - 2) + i.val)) i d (hz i)

theorem outV (z : Vec Ideal S256x128 .f32) (y : ℝ) (i : Fin 256) (d : Fin 128) (hz : z (ix2 i d) = (y : EReal)) : k0_pay22 z (ix2 i d) = (y : EReal) := by
  rw [← hz]; pointwise [k0_pay22]

theorem outG (hb : 2 ≤ b) (R : KeyReads D h b x) (z : Vec Ideal S256x128 .f32) (hz : ∀ (i : Fin 256) (d : Fin 128), z (ix2 i d) = (DKn D 8192 h (256 * (b - 2) + i.val) d.val : EReal))
    (r : Vec Ideal S1x128 .f32) (hr : ∀ d : Fin 128, r (ix2 0 d) = (upto (fun p t => DKn D 8192 p t d.val * Kh D p t d.val) h (256 * (b - 2)) : EReal)) (d : Fin 128) :
    k0_pay21 z x.k0 r (ix2 0 d) = (upto (fun p t => DKn D 8192 p t d.val * Kh D p t d.val) h (256 * (b + 1 - 2)) : EReal) := by
  rw [dkg_apply R z (fun i => DKn D 8192 h (256 * (b - 2) + i) d.val) r _ d (fun i => hz i d) (hr d), show b + 1 - 2 = b - 2 + 1 by omega]
  exact congrArg _ (upto_step (fun p t => DKn D 8192 p t d.val * Kh D p t d.val) h (b - 2))

/-- One point more. -/
theorem Inv.step (hh : h < 16) (c : grid0.Coords) (hc : (c 1).val = b) (hb : b < 34) (R : b < 32 → Reads D h b x) (K : KeyReads D h b x) (I : Inv D h b s) :
    Inv D h (b + 1) (stepAt (34 * h + b) c x s) := by
  have hm : (34 * h + b) % 34 = b := by omega
  unfold stepAt
  rw [hm]
  by_cases h0 : b = 0
  · subst h0
    have R := R (by omega)
    have k0 : Acc (fun i t => DS D h i t * sc) (Qn D h) 0 (256 * 0) (k0_pay23 (F := Ideal)) := Acc.zero zeroK
    have v0 : Acc (P D h) (C D h) 0 (256 * 0) (k0_pay24 (F := Ideal)) := Acc.zero zeroV
    have b0 : ∀ (i : Fin 256) (k : Fin 768), k0_pay25 (F := Ideal) (ix3 0 i k) = ((∑ c ∈ Finset.range 0, at' c k.val (DS D h (256 * c + i.val)) : ℝ) : EReal) :=
      fun i k => by rw [zeroB, Finset.sum_range_zero]
    rw [if_pos rfl]
    split_ifs with hA
    · have hh : h = 0 := by omega
      subst hh
      exact {
        ak := fun _ => (stepK R (by omega) c hc k0).shift (hgK 0) (le_refl _) (shiftK_apply _)
        av := fun _ => (stepV R (by omega) c hc v0).shift (hgV 0) (le_refl _) (shiftV_apply _)
        db := fun _ => stepB' R (by omega) c hc _ b0
        dqg := fun _ => stepQ R (by omega) c hc _ fun d => by rw [zeroQ]; simp [upto]
        dkg := fun _ d => (zeroG d).trans (by simp [upto])
        dq := fun _ i d => dq_apply R (by omega) c hc i d
        dk := fun e => absurd e (by omega)
        dv := fun e => absurd e (by omega) }
    · exact {
        ak := fun _ => (stepK R (by omega) c hc k0).shift (hgK h) (le_refl _) (shiftK_apply _)
        av := fun _ => (stepV R (by omega) c hc v0).shift (hgV h) (le_refl _) (shiftV_apply _)
        db := fun _ => stepB' R (by omega) c hc _ b0
        dqg := fun _ => stepQ R (by omega) c hc _ (I.dqg (by omega))
        dkg := fun _ => I.dkg (by omega)
        dq := fun _ i d => dq_apply R (by omega) c hc i d
        dk := fun e => absurd e (by omega)
        dv := fun e => absurd e (by omega) }
  · rw [if_neg h0]
    by_cases h2 : b < 2
    · have R := R (by omega)
      have hb1 : b = 1 := by omega
      subst hb1
      rw [if_pos h2]
      exact {
        ak := fun _ => (stepK R (by omega) c hc (I.ak h0)).shift (hgK h) (le_refl _) (shiftK_apply _)
        av := fun _ => (stepV R (by omega) c hc (I.av h0)).shift (hgV h) (le_refl _) (shiftV_apply _)
        db := fun _ => stepB' R (by omega) c hc _ (I.db h0)
        dqg := fun _ => stepQ R (by omega) c hc _ (I.dqg (by omega))
        dkg := fun _ => I.dkg (by omega)
        dq := fun _ i d => dq_apply R (by omega) c hc i d
        dk := fun e => absurd e (by omega)
        dv := fun e => absurd e (by omega) }
    · rw [if_neg h2]
      by_cases h3 : b ≤ 31
      · have R := R (by omega)
        have m1 : min (b + 1) 32 = b + 1 := by omega
        have m0 : min b 32 = b := by omega
        rw [if_pos h3]
        have Ik := stepK R (by omega) c hc (m0 ▸ I.ak h0)
        have Iv := stepV R (by omega) c hc (m0 ▸ I.av h0)
        have hn : 256 * (b + 1) = 8192 ∨ 256 * (b + 1) < 8192 ∧ 256 * (b + 1) ≤ 256 * (b + 1) := by omega
        have tk := Ik.top (hgK h) (by omega) hn
        have tv := Iv.top (hgV h) (by omega) hn
        exact {
          ak := fun _ => by rw [m1]; exact Ik.shift (hgK h) (le_refl _) (shiftK_apply _)
          av := fun _ => by rw [m1]; exact Iv.shift (hgV h) (le_refl _) (shiftV_apply _)
          db := fun _ => by rw [m1]; exact stepB' R (by omega) c hc _ (m0 ▸ I.db h0)
          dqg := fun _ => by rw [m1]; exact stepQ R (by omega) c hc _ (m0 ▸ I.dqg (by omega))
          dkg := fun _ => outG (by omega) K _ tk _ (I.dkg (by omega))
          dq := fun _ i d => by rw [m1]; exact dq_apply R (by omega) c hc i d
          dk := fun _ => outK K _ tk
          dv := fun _ i d => outV _ _ i d (tv i d) }
      · have m1 : min (b + 1) 32 = 32 := by omega
        have m0 : min b 32 = 32 := by omega
        rw [if_neg h3]
        have Ik := m0 ▸ I.ak h0
        have Iv := m0 ▸ I.av h0
        have tk := Ik.top (hgK h) (by omega) (Or.inl rfl)
        have tv := Iv.top (hgV h) (by omega) (Or.inl rfl)
        exact {
          ak := fun _ => by rw [m1]; exact Ik.shift (hgK h) (by omega) (shiftK_apply _)
          av := fun _ => by rw [m1]; exact Iv.shift (hgV h) (by omega) (shiftV_apply _)
          db := fun _ => by rw [m1]; exact m0 ▸ I.db h0
          dqg := fun _ => by rw [m1]; exact m0 ▸ I.dqg (by omega)
          dkg := fun _ => outG (by omega) K _ tk _ (I.dkg (by omega))
          dq := fun _ => by rw [m1]; exact m0 ▸ I.dq h0
          dk := fun _ => outK K _ tk
          dv := fun _ i d => outV _ _ i d (tv i d) }

end Cert.Proof.Att

end
-- ==== Proof.AttHost.lean ====
/-
  The arrays the host prepares for the attention's backward call: the biases of a window's places with the mask, and the
  cotangent.
-/
module

public import proofs.«01_k».proof.Proof.AttState

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

variable (m : (ℓ : Loc nD τ sig) → Buf (Elt Ideal) ℓ)

theorem V_ct (c : Dev nD) (r : Fin 8192) (l : Fin 2048) : Gen.V m c main_v30 (ix2 r l) = m ((c : Thread nD τ).loc main_arg4) (ix2 r l) := by
  show StableHlo.after (List.flatten [hostOps0, hostOps0_1, hostOps0_2]) (fun b => m (c, b)) (Proc.devRef .tc main_v30) (ix2 r l) = _
  unfold hostOps0 hostOps0_1 hostOps0_2
  simp only [List.flatten_cons, List.flatten_nil, List.append_nil, List.cons_append, List.nil_append]
  after_results_simp
  pointwise

/-- A head's biases in the order of the distances, a zero last. -/
def table (x : Vec Ideal S1x16x513 .f32) : Vec Ideal S16x1024 .f32 :=
  concatenate S16x1024 1 [⟨S16x1023, concatenate S16x1023 1
      [⟨S16x512, broadcastInDim S16x512 ![0, 1] bcast_S16x1_S16x512_0_1 (extractStridedSlice S16x1 ![0, 512] (shapeCast S16x513 x shapeCasts_S1x16x513_S16x513) slices_S16x513_S16x1_0_512)⟩,
       ⟨S16x511, Host.reverse [1] (extractStridedSlice S16x511 ![0, 1] (shapeCast S16x513 x shapeCasts_S1x16x513_S16x513) slices_S16x513_S16x511_0_1)⟩] concatenates_S16x512_S16x511_S16x1023_d1⟩,
    ⟨S16x1, broadcastInDim S16x1 ![] bcast_S_S16x1 (constant (F := Ideal) S_ .f32 0x00000000#32)⟩] concatenates_S16x1023_S16x1_S16x1024_d1

/-- The biases of a window's places. -/
def bias (x : Vec Ideal S1x16x513 .f32) : Vec Ideal S16x256x768 .f32 :=
  extractStridedSlice S16x256x768 ![0, 0, 255] (shapeCast S16x256x1023 (extractStridedSlice S16x261888 ![0, 0] (shapeCast S16x262144
    (broadcastInDim S16x256x1024 ![0, 1, 2] bcast_S16x1x1024_S16x256x1024_0_1_2 (broadcastInDim S16x1x1024 ![0, 2] bcast_S16x1024_S16x1x1024_0_2 (table x)))
    shapeCasts_S16x256x1024_S16x262144) slices_S16x262144_S16x261888_0_0) shapeCasts_S16x261888_S16x256x1023) slices_S16x256x1023_S16x256x768_0_0_255

/-- A window's block of rows, or of keys. -/
def blk (a : Fin 2) : IVec S256x768 32 := Host.divsi (iotaInDim S256x768 32 a) (broadcastInDim S256x768 ![] bcast_S_S256x768 (constantI S_ 32 64#32))

/-- The mask of a window's places. -/
def band : Vec Ideal S256x768 .f32 :=
  select (andi (cmpi .sge (blk 1) (blk 0)) (cmpi .sle (blk 1) (addi (blk 0) (broadcastInDim S256x768 ![] bcast_S_S256x768 (constantI S_ 32 8#32)))))
    (broadcastInDim S256x768 ![] bcast_S_S256x768 (constant (F := Ideal) S_ .f32 0x00000000#32)) (broadcastInDim S256x768 ![] bcast_S_S256x768 (constant (F := Ideal) S_ .f32 0xFF800000#32))

theorem V_bias (c : Dev nD) : Gen.V m c main_v29 = addf (F := Ideal) (φ := .f32) (bias (m ((c : Thread nD τ).loc main_arg3)))
    (broadcastInDim S16x256x768 ![0, 1, 2] bcast_S1x256x768_S16x256x768_0_1_2 (broadcastInDim S1x256x768 ![1, 2] bcast_S256x768_S1x256x768_1_2 band)) := by
  show StableHlo.after (List.flatten [hostOps0, hostOps0_1, hostOps0_2]) (fun b => m (c, b)) (Proc.devRef .tc main_v29) = _
  unfold hostOps0 hostOps0_1 hostOps0_2
  simp only [List.flatten_cons, List.flatten_nil, List.append_nil, List.cons_append, List.nil_append]
  after_results_simp
  rfl

theorem table_apply (x : Vec Ideal S1x16x513 .f32) (h : Fin 16) (u : Fin 1024) (hu : u.val < 1023) : table x (ix2 h u) = x (ix3 0 h ⟨min (1023 - u.val) 512, by omega⟩) := by
  have e : table x (ix2 h u) = if h1 : u.val < 1023 then (if h2 : u.val < 512 then x (ix3 0 h 512) else x (ix3 0 h ⟨1023 - u.val, by omega⟩)) else 0 := by
    pointwise [table]
    rw [dif_pos hu, dif_pos hu]
    by_cases h2 : u.val < 512
    · rw [dif_pos h2, dif_pos h2]
    · rw [dif_neg h2, dif_neg h2]
      refine congrArg (fun r : Fin 513 => x (ix3 0 h r)) (Fin.ext ?_)
      show 1 + (511 - (u.val - 512 + 1)) = 1023 - u.val
      omega
  rw [e, dif_pos hu]
  split_ifs with h2
  · exact congrArg (fun r : Fin 513 => x (ix3 0 h r)) (Fin.ext (show 512 = min (1023 - u.val) 512 by omega))
  · exact congrArg (fun r : Fin 513 => x (ix3 0 h r)) (Fin.ext (show 1023 - u.val = min (1023 - u.val) 512 by omega))

theorem bias_apply (x : Vec Ideal S1x16x513 .f32) (h : Fin 16) (i : Fin 256) (k : Fin 768) : bias x (ix3 h i k) = x (ix3 0 h ⟨min (i.val + 768 - k.val) 512, by omega⟩) := by
  have e : bias x (ix3 h i k) = table x (ix2 h ⟨(i.val * 1023 + (255 + k.val)) % 1024, by omega⟩) := by
    pointwise [bias]
  have hm : (i.val * 1023 + (255 + k.val)) % 1024 = 255 + k.val - i.val := by
    rw [show i.val * 1023 + (255 + k.val) = 1024 * i.val + (255 + k.val - i.val) by omega, Nat.mul_add_mod, Nat.mod_eq_of_lt (by omega)]
  rw [e, table_apply _ _ _ (by show (i.val * 1023 + (255 + k.val)) % 1024 < 1023; omega)]
  refine congrArg (fun r : Fin 513 => x (ix3 0 h r)) (Fin.ext ?_)
  show min (1023 - (i.val * 1023 + (255 + k.val)) % 1024) 512 = min (i.val + 768 - k.val) 512
  omega

theorem band_apply (i : Fin 256) (k : Fin 768) : band (ix2 i k) = if i.val / 64 ≤ k.val / 64 ∧ k.val / 64 ≤ i.val / 64 + 8 then 0 else ⊥ := by
  have hb : ∀ n : Fin 768, IntOp.divsi ArithUnit.host (BitVec.ofNat 32 n.val) 64#32 = BitVec.ofNat 32 (n.val / 64) := by decide +kernel
  have hc : ∀ a : Fin 4, ∀ b : Fin 12, IntOp.andi (IntOp.cmpi CmpIPredicate.sge (BitVec.ofNat 32 b.val) (BitVec.ofNat 32 a.val))
      (IntOp.cmpi CmpIPredicate.sle (BitVec.ofNat 32 b.val) (IntOp.addi (BitVec.ofNat 32 a.val) 8#32)) = if a.val ≤ b.val ∧ b.val ≤ a.val + 8 then 1#1 else 0#1 := by decide +kernel
  have e : band (ix2 i k) = Scalar.select (IntOp.andi
        (IntOp.cmpi CmpIPredicate.sge (IntOp.divsi ArithUnit.host (BitVec.ofNat 32 k.val) 64#32) (IntOp.divsi ArithUnit.host (BitVec.ofNat 32 i.val) 64#32))
        (IntOp.cmpi CmpIPredicate.sle (IntOp.divsi ArithUnit.host (BitVec.ofNat 32 k.val) 64#32) (IntOp.addi (IntOp.divsi ArithUnit.host (BitVec.ofNat 32 i.val) 64#32) 8#32)))
      0 (Ideal.ofBits FTy.f32 4286578688#32) := by
    pointwise [band, blk]
  rw [e, bot_eq, hb k, hb ⟨i.val, by omega⟩, hc ⟨i.val / 64, by omega⟩ ⟨k.val / 64, by omega⟩]
  show Scalar.select (if i.val / 64 ≤ k.val / 64 ∧ k.val / 64 ≤ i.val / 64 + 8 then 1#1 else 0#1) _ _ = _
  split_ifs <;> rfl

end Cert.Proof.Att

end
-- ==== Proof.AttBlocks.lean ====
/-
  What the blocks of the attention's backward grid hold at a point.
-/
module

public import proofs.«01_k».proof.Proof.AttHost

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

variable (m : (ℓ : Loc nD τ sig) → Buf (Elt Ideal) ℓ)

/-! ## The windows -/

/-- Where the windows of the inputs stand: the grid runs over the heads, and within each over the 32 query blocks and two
    points more. -/
theorem index_in : ∀ t : Fin grid0.N, win0_0.index t = ![min (t.val % 34) 31, t.val / 34] ∧ win0_1.index t = ![t.val % 34 - 2, 16 + t.val / 34]
    ∧ win0_2.index t = ![min (t.val % 34 - 1) 31, 16 + t.val / 34] ∧ win0_3.index t = ![min (t.val % 34) 31, 16 + t.val / 34]
    ∧ win0_4.index t = ![t.val % 34 - 2, 32 + t.val / 34] ∧ win0_5.index t = ![min (t.val % 34 - 1) 31, 32 + t.val / 34]
    ∧ win0_6.index t = ![min (t.val % 34) 31, 32 + t.val / 34] ∧ win0_10.index t = ![min (t.val % 34) 31, t.val / 34] := by
  decide +kernel

theorem index_aux : ∀ t : Fin grid0.N, win0_7.index t = ![0, 0] ∧ win0_8.index t = ![0, 0] ∧ win0_9.index t = ![t.val / 34, 0, 0] ∧ (grid0.coords t 1).val = t.val % 34 := by
  decide +kernel

theorem at_block {a : Fin 2 → ℕ} {n k : ℕ} (h : a = ![n, k]) (N L r l : ℕ) : a 0 * N + 1 * r = N * n + r ∧ a 1 * L + 1 * l = L * k + l := by
  subst h
  constructor
  · show n * N + 1 * r = _; rw [one_mul, mul_comm]
  · show k * L + 1 * l = _; rw [one_mul, mul_comm]

section Blocks
variable (c : Dev nD) {D : Data} (A : Args D (m ((c : Thread nD τ).loc main_arg0)) (m ((c : Thread nD τ).loc main_arg1)) (m ((c : Thread nD τ).loc main_arg2))
  (m ((c : Thread nD τ).loc main_arg3)) (m ((c : Thread nD τ).loc main_arg4))) (t : Fin cfg0.N)
include A

/-- An entry of the projected rows, read at a block's place. -/
theorem x_at {s e : ℕ} (y : S8192x6144.Idx) (h0 : (y 0).val = s) (h1 : (y 1).val = e) : Gen.V m c main_arg0 y = (D.x s e : EReal) := by
  subst h0; subst h1
  rw [V_main_arg0]
  exact (congrArg _ (eq_ix2 y)).trans (A.x (y 0) (y 1))

theorem ct_at {s e : ℕ} (y : S8192x2048.Idx) (h0 : (y 0).val = s) (h1 : (y 1).val = e) : Gen.V m c main_v30 y = (D.ct s e : EReal) := by
  subst h0; subst h1
  exact (congrArg _ (eq_ix2 y)).trans ((V_ct m c (y 0) (y 1)).trans (A.ct (y 0) (y 1)))

theorem block_q (hb : t.val % 34 < 32) (i : Fin 256) (d : Fin 128) : (blocks m c t).q (ix2 i d) = (Q D (t.val / 34) (256 * (t.val % 34) + i.val) d.val : EReal) := by
  unfold blocks
  dsimp only
  unfold iblk
  rw [View.read_apply]
  show Gen.V m c main_arg0 _ = _
  have e := at_block (index_in t).1 256 128 i.val d.val
  exact x_at m c A _ (e.1.trans (by omega)) (e.2.trans (by omega))

theorem block_k0 (i : Fin 256) (d : Fin 128) : (blocks m c t).k0 (ix2 i d) = (K D (t.val / 34) (256 * (t.val % 34 - 2) + i.val) d.val : EReal) := by
  unfold blocks
  dsimp only
  unfold iblk
  rw [View.read_apply]
  show Gen.V m c main_arg0 _ = _
  have e := at_block (index_in t).2.1 256 128 i.val d.val
  exact x_at m c A _ (e.1.trans (by omega)) (e.2.trans (by omega))

theorem block_k1 (hb : t.val % 34 < 32) (i : Fin 256) (d : Fin 128) : (blocks m c t).k1 (ix2 i d) = (K D (t.val / 34) (256 * (t.val % 34 - 1) + i.val) d.val : EReal) := by
  unfold blocks
  dsimp only
  unfold iblk
  rw [View.read_apply]
  show Gen.V m c main_arg0 _ = _
  have e := at_block (index_in t).2.2.1 256 128 i.val d.val
  exact x_at m c A _ (e.1.trans (by omega)) (e.2.trans (by omega))

theorem block_k2 (hb : t.val % 34 < 32) (i : Fin 256) (d : Fin 128) : (blocks m c t).k2 (ix2 i d) = (K D (t.val / 34) (256 * (t.val % 34) + i.val) d.val : EReal) := by
  unfold blocks
  dsimp only
  unfold iblk
  rw [View.read_apply]
  show Gen.V m c main_arg0 _ = _
  have e := at_block (index_in t).2.2.2.1 256 128 i.val d.val
  exact x_at m c A _ (e.1.trans (by omega)) (e.2.trans (by omega))

theorem block_v0 (i : Fin 256) (d : Fin 128) : (blocks m c t).v0 (ix2 i d) = (V D (t.val / 34) (256 * (t.val % 34 - 2) + i.val) d.val : EReal) := by
  unfold blocks
  dsimp only
  unfold iblk
  rw [View.read_apply]
  show Gen.V m c main_arg0 _ = _
  have e := at_block (index_in t).2.2.2.2.1 256 128 i.val d.val
  exact x_at m c A _ (e.1.trans (by omega)) (e.2.trans (by omega))

theorem block_v1 (hb : t.val % 34 < 32) (i : Fin 256) (d : Fin 128) : (blocks m c t).v1 (ix2 i d) = (V D (t.val / 34) (256 * (t.val % 34 - 1) + i.val) d.val : EReal) := by
  unfold blocks
  dsimp only
  unfold iblk
  rw [View.read_apply]
  show Gen.V m c main_arg0 _ = _
  have e := at_block (index_in t).2.2.2.2.2.1 256 128 i.val d.val
  exact x_at m c A _ (e.1.trans (by omega)) (e.2.trans (by omega))

theorem block_v2 (hb : t.val % 34 < 32) (i : Fin 256) (d : Fin 128) : (blocks m c t).v2 (ix2 i d) = (V D (t.val / 34) (256 * (t.val % 34) + i.val) d.val : EReal) := by
  unfold blocks
  dsimp only
  unfold iblk
  rw [View.read_apply]
  show Gen.V m c main_arg0 _ = _
  have e := at_block (index_in t).2.2.2.2.2.2.1 256 128 i.val d.val
  exact x_at m c A _ (e.1.trans (by omega)) (e.2.trans (by omega))

theorem block_ct (hb : t.val % 34 < 32) (i : Fin 256) (d : Fin 128) : (blocks m c t).ct (ix2 i d) = (C D (t.val / 34) (256 * (t.val % 34) + i.val) d.val : EReal) := by
  unfold blocks
  dsimp only
  unfold iblk
  rw [View.read_apply]
  show Gen.V m c main_v30 _ = _
  have e := at_block (index_in t).2.2.2.2.2.2.2 256 128 i.val d.val
  exact ct_at m c A _ (e.1.trans (by omega)) (e.2.trans (by omega))

theorem block_qg (d : Fin 128) : (blocks m c t).qg (ix2 0 d) = (D.qg d.val : EReal) := by
  unfold blocks
  dsimp only
  unfold iblk
  rw [View.read_apply]
  show Gen.V m c main_arg1 _ = _
  have e := at_block (index_aux t).1 1 128 0 d.val
  rw [V_main_arg1]
  exact (congrArg (m ((c : Thread nD τ).loc main_arg1)) (Shape.idx_ext₂ (y := ix2 0 d) e.1 (e.2.trans (by show _ = d.val; omega)))).trans (A.qg d)

theorem block_kg (d : Fin 128) : (blocks m c t).kg (ix2 0 d) = (D.kg d.val : EReal) := by
  unfold blocks
  dsimp only
  unfold iblk
  rw [View.read_apply]
  show Gen.V m c main_arg2 _ = _
  have e := at_block (index_aux t).2.1 1 128 0 d.val
  rw [V_main_arg2]
  exact (congrArg (m ((c : Thread nD τ).loc main_arg2)) (Shape.idx_ext₂ (y := ix2 0 d) e.1 (e.2.trans (by show _ = d.val; omega)))).trans (A.kg d)

theorem block_bm (i : Fin 256) (k : Fin 768) : (blocks m c t).bm (ix3 0 i k)
    = if i.val / 64 ≤ k.val / 64 ∧ k.val / 64 ≤ i.val / 64 + 8 then (D.rb (t.val / 34) (min (i.val + 768 - k.val) 512) : EReal) else ⊥ := by
  have ht : t.val < 544 := Nat.lt_of_lt_of_eq t.isLt N_0
  unfold blocks
  dsimp only
  unfold iblk
  rw [View.read_apply]
  show Gen.V m c main_v29 _ = _
  have e := (index_aux t).2.2.1
  refine (congrArg (Gen.V m c main_v29) (?_ : _ = ix3 ⟨t.val / 34, by omega⟩ i k)).trans ?_
  · funext a
    refine Fin.ext ?_
    match a with
    | ⟨0, _⟩ => show win0_9.index t 0 * 1 + 1 * 0 = t.val / 34; rw [e]; show t.val / 34 * 1 + 1 * 0 = _; omega
    | ⟨1, _⟩ => show win0_9.index t 1 * 256 + 1 * i.val = i.val; rw [e]; show 0 * 256 + 1 * i.val = _; omega
    | ⟨2, _⟩ => show win0_9.index t 2 * 768 + 1 * k.val = k.val; rw [e]; show 0 * 768 + 1 * k.val = _; omega
  · rw [V_bias]
    have e' : addf (F := Ideal) (φ := .f32) (bias (m ((c : Thread nD τ).loc main_arg3)))
        (broadcastInDim S16x256x768 ![0, 1, 2] bcast_S1x256x768_S16x256x768_0_1_2 (broadcastInDim S1x256x768 ![1, 2] bcast_S256x768_S1x256x768_1_2 band)) (ix3 ⟨t.val / 34, by omega⟩ i k)
        = bias (m ((c : Thread nD τ).loc main_arg3)) (ix3 ⟨t.val / 34, by omega⟩ i k) + band (ix2 i k) := by pointwise
    rw [e', bias_apply, band_apply, A.rb]
    split_ifs
    · exact add_zero ((D.rb (t.val / 34) (min (i.val + 768 - k.val) 512) : ℝ) : EReal)
    · rfl

theorem key_reads : KeyReads D (t.val / 34) (t.val % 34) (blocks m c t) :=
  { k0 := block_k0 m c A t, kg := block_kg m c A t }

theorem reads (hb : t.val % 34 < 32) : Reads D (t.val / 34) (t.val % 34) (blocks m c t) :=
  { toKeyReads := key_reads m c A t
    q := block_q m c A t hb
    k1 := block_k1 m c A t hb
    k2 := block_k2 m c A t hb
    v0 := block_v0 m c A t
    v1 := block_v1 m c A t hb
    v2 := block_v2 m c A t hb
    qg := block_qg m c A t
    bm := block_bm m c A t
    ct := block_ct m c A t hb }

end Blocks

end Cert.Proof.Att

end
-- ==== Proof.AttFinal.lean ====
/-
  What the arrays of the attention's backward kernel hold when its grid is through.
-/
module

public import proofs.«01_k».proof.Proof.AttState
public import proofs.«01_k».proof.Proof.AttBlocks

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

variable (m : (ℓ : Loc nD τ sig) → Buf (Elt Ideal) ℓ)

/-- Where the windows of the results stand. -/
theorem index_out : ∀ t : Fin grid0.N, win0_11.index t = ![min (t.val % 34) 31, t.val / 34] ∧ win0_12.index t = ![min (t.val % 34 - 2) 31, t.val / 34]
    ∧ win0_13.index t = ![min (t.val % 34 - 2) 31, t.val / 34] ∧ win0_14.index t = ![t.val / 34, 0, 0] ∧ win0_15.index t = ![0, 0] ∧ win0_16.index t = ![0, 0] := by
  decide +kernel

/-- The point of a head's block. -/
theorem point_at (h b : ℕ) (hh : h < 16) (hb : b < 34) : ∃ t : Fin cfg0.N, t.val / 34 = h ∧ t.val % 34 = b := by
  have hN : cfg0.N = 544 := N_0
  exact ⟨⟨34 * h + b, by omega⟩, (by omega : (34 * h + b) / 34 = h), (by omega : (34 * h + b) % 34 = b)⟩

section Final
variable (c : Dev nD) {D : Data} (A : Args D (m ((c : Thread nD τ).loc main_arg0)) (m ((c : Thread nD τ).loc main_arg1)) (m ((c : Thread nD τ).loc main_arg2))
  (m ((c : Thread nD τ).loc main_arg3)) (m ((c : Thread nD τ).loc main_arg4)))
include A

/-- A point moves the invariant on. -/
theorem inv_point (t : Fin cfg0.N) (I : Inv D (t.val / 34) (t.val % 34) (stAt m c t.val)) : Inv D (t.val / 34) (t.val % 34 + 1) (st m c t) := by
  have ht : t.val < 544 := Nat.lt_of_lt_of_eq t.isLt N_0
  rw [st_eq]
  have e := Inv.step (h := t.val / 34) (b := t.val % 34) (by omega) (grid0.coords t) (index_aux t).2.2.2 (by omega) (reads m c A t) (key_reads m c A t) I
  rwa [Nat.div_add_mod] at e

theorem inv_at : ∀ n, n ≤ 544 → Inv D (n / 34) (n % 34) (stAt m c n)
  | 0, _ => { ak := fun e => absurd rfl e, av := fun e => absurd rfl e, db := fun e => absurd rfl e, dqg := fun e => absurd ⟨rfl, rfl⟩ e
              dkg := fun e => absurd ⟨rfl, rfl⟩ e, dq := fun e => absurd rfl e, dk := fun e => absurd e (by decide), dv := fun e => absurd e (by decide) }
  | n + 1, hn => by
    have I := inv_point m c A ⟨n, Nat.lt_of_lt_of_eq hn N_0.symm⟩ (inv_at n (by omega))
    have I : Inv D (n / 34) (n % 34 + 1) (stAt m c (n + 1)) := I
    by_cases h : n % 34 = 33
    · rw [h] at I
      rw [show (n + 1) / 34 = n / 34 + 1 by omega, show (n + 1) % 34 = 0 by omega]
      exact I.next
    · rwa [show (n + 1) / 34 = n / 34 by omega, show (n + 1) % 34 = n % 34 + 1 by omega]

/-- What a point leaves. -/
theorem left (t : Fin cfg0.N) : Inv D (t.val / 34) (t.val % 34 + 1) (st m c t) :=
  inv_point m c A t (inv_at m c A t.val (Nat.lt_of_lt_of_eq t.isLt N_0).le)

/-- The arrays with a row for every token and a column for every head's component. -/
def rowsOf (f : ℕ → ℕ → ℕ → ℝ) : S8192x2048.Idx → EReal := fun i => (f ((i 1).val / 128) (i 0).val ((i 1).val % 128) : EReal)
omit A in
theorem rowsOf_at (f : ℕ → ℕ → ℕ → ℝ) (y : S8192x2048.Idx) {h s d : ℕ} (hd : d < 128) (h0 : (y 0).val = s) (h1 : (y 1).val = 128 * h + d) : rowsOf f y = (f h s d : EReal) := by
  unfold rowsOf
  rw [h0, h1, show (128 * h + d) / 128 = h by omega, show (128 * h + d) % 128 = d by omega]

theorem final_dq : (dats m 0 c).arrAt 11 cfg0.N = (rowsOf (DQ D) : S8192x2048.Idx → Elt Ideal .bf16) :=
  (dats m 0 c).arrAt_eq_of_cover 11 (rowsOf (DQ D) : S8192x2048.Idx → Elt Ideal .bf16) (fun t hf => by
    show (cfg0.win 11).cut (grid0.coords t) ((dats m 0 c).after 11 t) = _
    rw [after_11]
    funext j
    rw [View.read_apply]
    obtain ⟨r, l, rfl⟩ : ∃ (r : Fin 256) (l : Fin 128), j = ix2 r l := ⟨j 0, j 1, eq_ix2 j⟩
    rw [flush_11, decide_eq_true_eq] at hf
    have e := at_block (index_out t).1 256 128 r.val l.val
    refine ((left m c A t).dq (by omega) r l).trans (rowsOf_at _ _ l.isLt (e.1.trans (by omega)) e.2).symm) fun i => by
    have h0 : (i 0).val < 8192 := (i 0).isLt
    have h1 : (i 1).val < 2048 := (i 1).isLt
    obtain ⟨t, ht, hq⟩ := point_at ((i 1).val / 128) (if (i 0).val / 256 = 31 then 33 else (i 0).val / 256) (by omega) (by split_ifs <;> omega)
    refine ⟨t, by rw [flush_11, decide_eq_true_eq, hq]; split_ifs <;> omega, ?_⟩
    show i ∈ ((View.whole main_v31_0).slice (win0_11.rect t)).set
    rw [View.set_slice_whole, Rect.mem_set_unit]
    have e := (index_out t).1
    intro a
    show win0_11.index t a * ![256, 128] a ≤ (i a).val ∧ (i a).val < win0_11.index t a * ![256, 128] a + ![256, 128] a
    rw [e, ht, hq]
    match a with
    | ⟨0, _⟩ =>
      show min (if (i 0).val / 256 = 31 then 33 else (i 0).val / 256) 31 * 256 ≤ (i 0).val ∧ (i 0).val < min (if (i 0).val / 256 = 31 then 33 else (i 0).val / 256) 31 * 256 + 256
      split_ifs <;> omega
    | ⟨1, _⟩ => show (i 1).val / 128 * 128 ≤ (i 1).val ∧ (i 1).val < (i 1).val / 128 * 128 + 128; omega

theorem final_dk : (dats m 0 c).arrAt 12 cfg0.N = (rowsOf (DK D) : S8192x2048.Idx → Elt Ideal .bf16) :=
  (dats m 0 c).arrAt_eq_of_cover 12 (rowsOf (DK D) : S8192x2048.Idx → Elt Ideal .bf16) (fun t hf => by
    show (cfg0.win 12).cut (grid0.coords t) ((dats m 0 c).after 12 t) = _
    rw [after_12]
    funext j
    rw [View.read_apply]
    obtain ⟨r, l, rfl⟩ : ∃ (r : Fin 256) (l : Fin 128), j = ix2 r l := ⟨j 0, j 1, eq_ix2 j⟩
    rw [flush_12, decide_eq_true_eq] at hf
    have e := at_block (index_out t).2.1 256 128 r.val l.val
    refine ((left m c A t).dk (by omega) r l).trans (rowsOf_at _ _ l.isLt (e.1.trans (by omega)) e.2).symm) fun i => by
    have h0 : (i 0).val < 8192 := (i 0).isLt
    have h1 : (i 1).val < 2048 := (i 1).isLt
    obtain ⟨t, ht, hq⟩ := point_at ((i 1).val / 128) ((i 0).val / 256 + 2) (by omega) (by omega)
    refine ⟨t, by rw [flush_12, decide_eq_true_eq, hq]; omega, ?_⟩
    show i ∈ ((View.whole main_v31_1).slice (win0_12.rect t)).set
    rw [View.set_slice_whole, Rect.mem_set_unit]
    have e := (index_out t).2.1
    intro a
    show win0_12.index t a * ![256, 128] a ≤ (i a).val ∧ (i a).val < win0_12.index t a * ![256, 128] a + ![256, 128] a
    rw [e, ht, hq]
    match a with
    | ⟨0, _⟩ => show min ((i 0).val / 256 + 2 - 2) 31 * 256 ≤ (i 0).val ∧ (i 0).val < min ((i 0).val / 256 + 2 - 2) 31 * 256 + 256; omega
    | ⟨1, _⟩ => show (i 1).val / 128 * 128 ≤ (i 1).val ∧ (i 1).val < (i 1).val / 128 * 128 + 128; omega

theorem final_dv : (dats m 0 c).arrAt 13 cfg0.N = (rowsOf (DV D 8192) : S8192x2048.Idx → Elt Ideal .bf16) :=
  (dats m 0 c).arrAt_eq_of_cover 13 (rowsOf (DV D 8192) : S8192x2048.Idx → Elt Ideal .bf16) (fun t hf => by
    show (cfg0.win 13).cut (grid0.coords t) ((dats m 0 c).after 13 t) = _
    rw [after_13]
    funext j
    rw [View.read_apply]
    obtain ⟨r, l, rfl⟩ : ∃ (r : Fin 256) (l : Fin 128), j = ix2 r l := ⟨j 0, j 1, eq_ix2 j⟩
    rw [flush_13, decide_eq_true_eq] at hf
    have e := at_block (index_out t).2.2.1 256 128 r.val l.val
    refine ((left m c A t).dv (by omega) r l).trans (rowsOf_at _ _ l.isLt (e.1.trans (by omega)) e.2).symm) fun i => by
    have h0 : (i 0).val < 8192 := (i 0).isLt
    have h1 : (i 1).val < 2048 := (i 1).isLt
    obtain ⟨t, ht, hq⟩ := point_at ((i 1).val / 128) ((i 0).val / 256 + 2) (by omega) (by omega)
    refine ⟨t, by rw [flush_13, decide_eq_true_eq, hq]; omega, ?_⟩
    show i ∈ ((View.whole main_v31_2).slice (win0_13.rect t)).set
    rw [View.set_slice_whole, Rect.mem_set_unit]
    have e := (index_out t).2.2.1
    intro a
    show win0_13.index t a * ![256, 128] a ≤ (i a).val ∧ (i a).val < win0_13.index t a * ![256, 128] a + ![256, 128] a
    rw [e, ht, hq]
    match a with
    | ⟨0, _⟩ => show min ((i 0).val / 256 + 2 - 2) 31 * 256 ≤ (i 0).val ∧ (i 0).val < min ((i 0).val / 256 + 2 - 2) 31 * 256 + 256; omega
    | ⟨1, _⟩ => show (i 1).val / 128 * 128 ≤ (i 1).val ∧ (i 1).val < (i 1).val / 128 * 128 + 128; omega

/-- The scores' gradients summed over the query blocks, head by head. -/
def bandSum (D : Data) (h i k : ℕ) : ℝ := ∑ b ∈ Finset.range 32, at' b k (DS D h (256 * b + i))
def bandArr (D : Data) : S16x256x768.Idx → EReal := fun i => (bandSum D (i 0).val (i 1).val (i 2).val : EReal)

omit A in
theorem bandArr_at (D : Data) (y : S16x256x768.Idx) {h i k : ℕ} (h0 : (y 0).val = h) (h1 : (y 1).val = i) (h2 : (y 2).val = k) : bandArr D y = (bandSum D h i k : EReal) := by
  subst h0; subst h1; subst h2; rfl
omit A in
theorem at_band {a : Fin 3 → ℕ} {n : ℕ} (h : a = ![n, 0, 0]) (r l : ℕ) : a 0 * 1 + 1 * 0 = n ∧ a 1 * 256 + 1 * r = r ∧ a 2 * 768 + 1 * l = l := by
  subst h
  exact ⟨by show n * 1 + 1 * 0 = n; omega, by show 0 * 256 + 1 * r = r; omega, by show 0 * 768 + 1 * l = l; omega⟩

theorem final_db : (dats m 0 c).arrAt 14 cfg0.N = (bandArr D : S16x256x768.Idx → Elt Ideal .f32) :=
  (dats m 0 c).arrAt_eq_of_cover 14 (bandArr D : S16x256x768.Idx → Elt Ideal .f32) (fun t hf => by
    show (cfg0.win 14).cut (grid0.coords t) ((dats m 0 c).after 14 t) = _
    rw [after_14]
    funext j
    rw [View.read_apply]
    obtain ⟨o, r, l, rfl⟩ : ∃ (o : Fin 1) (r : Fin 256) (l : Fin 768), j = ix3 o r l := ⟨j 0, j 1, j 2, eq_ix3 j⟩
    obtain rfl : o = 0 := Subsingleton.elim _ _
    rw [flush_14, decide_eq_true_eq] at hf
    have e := at_band (index_out t).2.2.2.1 r.val l.val
    have I := (left m c A t).db (by omega) r l
    rw [hf] at I
    exact I.trans (bandArr_at D _ e.1 e.2.1 e.2.2).symm) fun i => by
    have h0 : (i 0).val < 16 := (i 0).isLt
    have h1 : (i 1).val < 256 := (i 1).isLt
    have h2 : (i 2).val < 768 := (i 2).isLt
    obtain ⟨t, ht, hq⟩ := point_at (i 0).val 33 h0 (by omega)
    refine ⟨t, by rw [flush_14, decide_eq_true_eq, hq], ?_⟩
    show i ∈ ((View.whole main_v31_3).slice (win0_14.rect t)).set
    rw [View.set_slice_whole, Rect.mem_set_unit]
    have e := (index_out t).2.2.2.1
    intro a
    show win0_14.index t a * ![1, 256, 768] a ≤ (i a).val ∧ (i a).val < win0_14.index t a * ![1, 256, 768] a + ![1, 256, 768] a
    rw [e, ht]
    match a with
    | ⟨0, _⟩ => show (i 0).val * 1 ≤ (i 0).val ∧ (i 0).val < (i 0).val * 1 + 1; omega
    | ⟨1, _⟩ => show 0 * 256 ≤ (i 1).val ∧ (i 1).val < 0 * 256 + 256; omega
    | ⟨2, _⟩ => show 0 * 768 ≤ (i 2).val ∧ (i 2).val < 0 * 768 + 768; omega

/-- The weights' gradients: one row. -/
def rowOf (f : ℕ → ℝ) : S1x128.Idx → EReal := fun i => (f (i 1).val : EReal)

omit A in
theorem rowOf_at (f : ℕ → ℝ) (y : S1x128.Idx) {d : ℕ} (h1 : (y 1).val = d) : rowOf f y = (f d : EReal) := by
  subst h1; rfl
omit A in
theorem upto_all (f : ℕ → ℕ → ℝ) : upto f 15 8192 = ∑ h ∈ Finset.range 16, ∑ s ∈ Finset.range 8192, f h s := by
  unfold upto; rw [Finset.sum_range_succ _ 15]

theorem final_dqg : (dats m 0 c).arrAt 15 cfg0.N = (rowOf (DQg D) : S1x128.Idx → Elt Ideal .f32) :=
  (dats m 0 c).arrAt_eq_of_cover 15 (rowOf (DQg D) : S1x128.Idx → Elt Ideal .f32) (fun t hf => by
    show (cfg0.win 15).cut (grid0.coords t) ((dats m 0 c).after 15 t) = _
    rw [after_15]
    funext j
    rw [View.read_apply]
    obtain ⟨o, l, rfl⟩ : ∃ (o : Fin 1) (l : Fin 128), j = ix2 o l := ⟨j 0, j 1, eq_ix2 j⟩
    obtain rfl : o = 0 := Subsingleton.elim _ _
    have ht : t.val < 544 := Nat.lt_of_lt_of_eq t.isLt N_0
    rw [flush_15, decide_eq_true_eq] at hf
    have e := at_block (index_out t).2.2.2.2.1 1 128 0 l.val
    refine ((left m c A t).dqg (by omega) l).trans ?_
    rw [show t.val / 34 = 15 by omega, show 256 * min (t.val % 34 + 1) 32 = 8192 by omega, upto_all]
    show (DQg D l.val : EReal) = rowOf (DQg D) (((cfg0.win 15).blk t).view.emb (ix2 0 l))
    refine (rowOf_at _ _ ?_).symm
    exact e.2.trans (by omega)) fun i => by
    have h0 : (i 0).val < 1 := (i 0).isLt
    have h1 : (i 1).val < 128 := (i 1).isLt
    obtain ⟨t, ht, hq⟩ := point_at 15 33 (by omega) (by omega)
    refine ⟨t, by rw [flush_15, decide_eq_true_eq]; omega, ?_⟩
    show i ∈ ((View.whole main_v31_4).slice (win0_15.rect t)).set
    rw [View.set_slice_whole, Rect.mem_set_unit]
    have e := (index_out t).2.2.2.2.1
    intro a
    show win0_15.index t a * ![1, 128] a ≤ (i a).val ∧ (i a).val < win0_15.index t a * ![1, 128] a + ![1, 128] a
    rw [e]
    match a with
    | ⟨0, _⟩ => show 0 * 1 ≤ (i 0).val ∧ (i 0).val < 0 * 1 + 1; omega
    | ⟨1, _⟩ => show 0 * 128 ≤ (i 1).val ∧ (i 1).val < 0 * 128 + 128; omega

theorem final_dkg : (dats m 0 c).arrAt 16 cfg0.N = (rowOf (DKg D) : S1x128.Idx → Elt Ideal .f32) :=
  (dats m 0 c).arrAt_eq_of_cover 16 (rowOf (DKg D) : S1x128.Idx → Elt Ideal .f32) (fun t hf => by
    show (cfg0.win 16).cut (grid0.coords t) ((dats m 0 c).after 16 t) = _
    rw [after_16]
    funext j
    rw [View.read_apply]
    obtain ⟨o, l, rfl⟩ : ∃ (o : Fin 1) (l : Fin 128), j = ix2 o l := ⟨j 0, j 1, eq_ix2 j⟩
    obtain rfl : o = 0 := Subsingleton.elim _ _
    have ht : t.val < 544 := Nat.lt_of_lt_of_eq t.isLt N_0
    rw [flush_16, decide_eq_true_eq] at hf
    have e := at_block (index_out t).2.2.2.2.2 1 128 0 l.val
    refine ((left m c A t).dkg (by omega) l).trans ?_
    rw [show t.val / 34 = 15 by omega, show 256 * (t.val % 34 + 1 - 2) = 8192 by omega, upto_all]
    show (DKg D l.val : EReal) = rowOf (DKg D) (((cfg0.win 16).blk t).view.emb (ix2 0 l))
    refine (rowOf_at _ _ ?_).symm
    exact e.2.trans (by omega)) fun i => by
    have h0 : (i 0).val < 1 := (i 0).isLt
    have h1 : (i 1).val < 128 := (i 1).isLt
    obtain ⟨t, ht, hq⟩ := point_at 15 33 (by omega) (by omega)
    refine ⟨t, by rw [flush_16, decide_eq_true_eq]; omega, ?_⟩
    show i ∈ ((View.whole main_v31_5).slice (win0_16.rect t)).set
    rw [View.set_slice_whole, Rect.mem_set_unit]
    have e := (index_out t).2.2.2.2.2
    intro a
    show win0_16.index t a * ![1, 128] a ≤ (i a).val ∧ (i a).val < win0_16.index t a * ![1, 128] a + ![1, 128] a
    rw [e]
    match a with
    | ⟨0, _⟩ => show 0 * 1 ≤ (i 0).val ∧ (i 0).val < 0 * 1 + 1; omega
    | ⟨1, _⟩ => show 0 * 128 ≤ (i 1).val ∧ (i 1).val < 0 * 128 + 128; omega

end Final

end Cert.Proof.Att

end
-- ==== Proof.AttDrel.lean ====
/-
  The attention's host lines after its grid: from the gradients of the window's places to the gradients of the biases.
-/
module

public import proofs.«01_k».proof.Proof.AttHost

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

/-- Each row of places moved so that a column holds the places of one distance. -/
def unband (x : Vec Ideal S16x256x768 .f32) : Vec Ideal S16x256x1024 .f32 :=
  shapeCast S16x256x1024 (pad S16x262144 ![0, 0] ![0, 256] ![0, 0] (shapeCast S16x261888
    (pad S16x256x1023 ![0, 0, 255] ![0, 0, 0] ![0, 0, 0] x (constant (F := Ideal) S_ .f32 0x00000000#32) pads_S16x256x768_S16x256x1023_000_000_25500 h_S_)
    shapeCasts_S16x256x1023_S16x261888) (constant (F := Ideal) S_ .f32 0x00000000#32) pads_S16x261888_S16x262144_000_02560 h_S_) shapeCasts_S16x262144_S16x256x1024

/-- The columns summed. -/
def perDist (x : Vec Ideal S16x256x768 .f32) : Vec Ideal S16x1024 .f32 :=
  Host.reduceAdd (broadcastInDim S16x1x1024 ![0, 2] bcast_S16x1024_S16x1x1024_0_2
    (Host.reduceAdd (unband x) (constant (F := Ideal) S_ .f32 0x00000000#32) reducesTo_S16x256x1024_S16x1024_d1 h_S_))
    (constant (F := Ideal) S_ .f32 0x00000000#32) reducesTo_S16x1x1024_S16x1024_d1 h_S_

/-- The biases' gradients, from the columns' sums. -/
def collect (y : Vec Ideal S16x1024 .f32) : Vec Ideal S1x16x513 .f32 :=
  broadcastInDim S1x16x513 ![1, 2] bcast_S16x513_S1x16x513_1_2 (addf (F := Ideal) (φ := .f32)
    (pad S16x513 ![0, 1] ![0, 1] ![0, 0] (Host.reverse [1] (extractStridedSlice S16x511 ![0, 512] (extractStridedSlice S16x1023 ![0, 0] y slices_S16x1024_S16x1023_0_0)
      slices_S16x1023_S16x511_0_512)) (constant (F := Ideal) S_ .f32 0x00000000#32) pads_S16x511_S16x513_000_110 h_S_)
    (pad S16x513 ![0, 512] ![0, 0] ![0, 0] (broadcastInDim S16x1 ![0] bcast_S16_S16x1_0 (Host.reduceAdd
      (extractStridedSlice S16x512 ![0, 0] (extractStridedSlice S16x1023 ![0, 0] y slices_S16x1024_S16x1023_0_0) slices_S16x1023_S16x512_0_0)
      (constant (F := Ideal) S_ .f32 0x00000000#32) reducesTo_S16x512_S16_d1 h_S_)) (constant (F := Ideal) S_ .f32 0x00000000#32) pads_S16x1_S16x513_000_51200 h_S_))

/-- The host lines after the grid leave the gradients `collect`ed from the array the grid left. -/
theorem after_host (W : Valuation τ sig (Elt Ideal)) :
    StableHlo.after (List.flatten [hostOps1]) W (Proc.devRef .tc main_v64) = collect (perDist (W (Proc.devRef .tc main_v31_3))) := by
  unfold hostOps1
  simp only [List.flatten_cons, List.flatten_nil, List.append_nil, List.cons_append, List.nil_append]
  after_results_simp
  rfl

theorem unband_apply (x : Vec Ideal S16x256x768 .f32) (h : Fin 16) (i : Fin 256) (u : Fin 1024) :
    unband x (ix3 h i u) = if q : 255 ≤ i.val + u.val ∧ i.val + u.val < 1023 then x (ix3 h i ⟨i.val + u.val - 255, by omega⟩) else 0 := by
  have e : unband x (ix3 h i u) = if h1 : i.val * 1024 + u.val < 261888 then
      if h2 : (i.val * 1024 + u.val) / 1023 < 256 ∧ 255 ≤ (i.val * 1024 + u.val) % 1023 ∧ (i.val * 1024 + u.val) % 1023 - 255 < 768 then
        x (ix3 h ⟨(i.val * 1024 + u.val) / 1023, h2.1⟩ ⟨(i.val * 1024 + u.val) % 1023 - 255, h2.2.2⟩) else 0 else 0 := by
    pointwise [unband]
  rw [e]
  by_cases q : i.val + u.val < 1023
  · have a : (i.val * 1024 + u.val) / 1023 = i.val := by omega
    have b : (i.val * 1024 + u.val) % 1023 = i.val + u.val := by omega
    by_cases q' : 255 ≤ i.val + u.val
    · rw [dif_pos (by omega), dif_pos (by omega), dif_pos ⟨q', q⟩]
      exact congrArg₂ (fun a b => x (ix3 h a b)) (Fin.ext a) (Fin.ext (congrArg (· - 255) b))
    · rw [dif_neg (show ¬ (255 ≤ i.val + u.val ∧ i.val + u.val < 1023) from fun z => q' z.1)]
      split_ifs <;> first | rfl | omega
  · have b : (i.val * 1024 + u.val) % 1023 = i.val + u.val - 1023 := by omega
    rw [dif_neg (show ¬ (255 ≤ i.val + u.val ∧ i.val + u.val < 1023) from fun z => q z.2)]
    split_ifs <;> first | rfl | omega

/-- A column's sum over the rows, from the places. -/
def colSum (g : ℕ → ℕ → ℝ) (u : ℕ) : ℝ := ∑ i : Fin 256, if 255 ≤ i.val + u ∧ i.val + u < 1023 then g i.val (i.val + u - 255) else 0

theorem perDist_apply (x : Vec Ideal S16x256x768 .f32) (h : Fin 16) (g : ℕ → ℕ → ℝ) (hx : ∀ (i : Fin 256) (k : Fin 768), x (ix3 h i k) = (g i.val k.val : EReal)) (u : Fin 1024) :
    perDist x (ix2 h u) = (colSum g u.val : EReal) := by
  have e : perDist x (ix2 h u) = ∑ _o : Fin 1, ∑ i : Fin 256, unband x (ix3 h i u) := by pointwise [perDist]
  have t (i : Fin 256) : unband x (ix3 h i u) = ((if 255 ≤ i.val + u.val ∧ i.val + u.val < 1023 then g i.val (i.val + u.val - 255) else 0 : ℝ) : EReal) := by
    rw [unband_apply]
    split_ifs
    · exact hx _ _
    · rfl
  rw [e, Fin.sum_univ_one]
  simp only [t, coe_sum]
  rfl

theorem collect_apply (x : Vec Ideal S16x1024 .f32) (h : Fin 16) (f : ℕ → ℝ) (hx : ∀ u : Fin 1024, x (ix2 h u) = (f u.val : EReal)) (r : Fin 513) :
    collect x (ix3 0 h r) = (((if 1 ≤ r.val ∧ r.val ≤ 511 then f (1023 - r.val) else 0) + (if r.val = 512 then ∑ u ∈ Finset.range 512, f u else 0) : ℝ) : EReal) := by
  have e : collect x (ix3 0 h r) = (if h1 : 1 ≤ r.val ∧ r.val - 1 < 511 then x (ix2 h ⟨512 + (⟨r.val - 1, h1.2⟩ : Fin 511).rev.val, by omega⟩) else 0)
      + if 512 ≤ r.val ∧ r.val - 512 < 1 then ∑ u : Fin 512, x (ix2 h ⟨u.val, by omega⟩) else 0 := by
    pointwise [collect]
    rfl
  rw [e, EReal.coe_add]
  refine congrArg₂ (· + ·) ?_ ?_
  · by_cases q : 1 ≤ r.val ∧ r.val ≤ 511
    · rw [dif_pos (by omega), if_pos q, hx]
      refine congrArg (fun n : ℕ => (f n : EReal)) ?_
      show 512 + (511 - (r.val - 1 + 1)) = _
      omega
    · rw [dif_neg (by omega), if_neg q]; rfl
  · by_cases q : r.val = 512
    · rw [if_pos (by omega), if_pos q, ← Fin.sum_univ_eq_sum_range, ← coe_sum]
      exact Finset.sum_congr rfl fun u _ => hx _
    · rw [if_neg (by omega), if_neg q]; rfl

/-! ## The sums -/

/-- A row's places, counted from the row's own. -/
theorem shift (f : ℕ → ℝ) (i : ℕ) (hi : i < 256) :
    ∑ k : Fin 768, f k.val = ∑ u ∈ Finset.range 1024, if 255 ≤ i + u ∧ i + u < 1023 then f (i + u - 255) else 0 := by
  have e1 := Finset.sum_range_add (fun v => if 255 ≤ v ∧ v < 1023 then f (v - 255) else 0) i 1024
  have e2 := Finset.sum_range_add (fun v => if 255 ≤ v ∧ v < 1023 then f (v - 255) else 0) 255 (i + 769)
  have e3 := Finset.sum_range_add (fun v => if 255 ≤ 255 + v ∧ 255 + v < 1023 then f (255 + v - 255) else 0) 768 (i + 1)
  have z (n : ℕ) (hn : n ≤ 255) : ∑ v ∈ Finset.range n, (if 255 ≤ v ∧ v < 1023 then f (v - 255) else 0) = 0 := Finset.sum_eq_zero fun v hv => by
    have := Finset.mem_range.1 hv
    exact if_neg (by omega)
  have z' : ∑ v ∈ Finset.range (i + 1), (if 255 ≤ 255 + (768 + v) ∧ 255 + (768 + v) < 1023 then f (255 + (768 + v) - 255) else 0) = 0 :=
    Finset.sum_eq_zero fun v _ => if_neg (by omega)
  have k : ∑ v ∈ Finset.range 768, (if 255 ≤ 255 + v ∧ 255 + v < 1023 then f (255 + v - 255) else 0) = ∑ v ∈ Finset.range 768, f v :=
    Finset.sum_congr rfl fun v hv => by
      have := Finset.mem_range.1 hv
      rw [if_pos (by omega), Nat.add_sub_cancel_left]
  rw [z i (by omega), zero_add] at e1
  rw [z 255 (by omega), zero_add, show i + 769 = 768 + (i + 1) by omega, e3, z', add_zero, k, show 255 + (768 + (i + 1)) = i + 1024 by omega, e1] at e2
  rw [Fin.sum_univ_eq_sum_range]
  exact e2.symm

/-- The places of one distance. -/
theorem by_dist (g : ℕ → ℕ → ℝ) (r : ℕ) :
    ∑ i : Fin 256, ∑ k : Fin 768, (if min (i.val + 768 - k.val) 512 = r then g i.val k.val else 0)
      = ∑ u ∈ Finset.range 1024, if min (1023 - u) 512 = r then colSum g u else 0 := by
  have e (i : Fin 256) := shift (fun k => if min (i.val + 768 - k) 512 = r then g i.val k else 0) i.val i.isLt
  simp only [e]
  rw [Finset.sum_comm]
  refine Finset.sum_congr rfl fun u hu => ?_
  have hu := Finset.mem_range.1 hu
  split_ifs with q
  · refine Finset.sum_congr rfl fun i _ => ?_
    by_cases p : 255 ≤ i.val + u ∧ i.val + u < 1023
    · rw [if_pos p, if_pos p, if_pos (by omega)]
    · rw [if_neg p, if_neg p]
  · refine Finset.sum_eq_zero fun i _ => ?_
    by_cases p : 255 ≤ i.val + u ∧ i.val + u < 1023
    · rw [if_pos p, if_neg (by omega)]
    · rw [if_neg p]

theorem by_dist_split (g : ℕ → ℕ → ℝ) (r : ℕ) (hr : r < 513) :
    (if 1 ≤ r ∧ r ≤ 511 then colSum g (1023 - r) else 0) + (if r = 512 then ∑ u ∈ Finset.range 512, colSum g u else 0)
      = ∑ i : Fin 256, ∑ k : Fin 768, if min (i.val + 768 - k.val) 512 = r then g i.val k.val else 0 := by
  rw [by_dist]
  by_cases h : r = 512
  · rw [if_neg (by omega), if_pos h, zero_add]
    have e := Finset.sum_range_add (fun u => if min (1023 - u) 512 = r then colSum g u else 0) 512 512
    have z : ∑ u ∈ Finset.range 512, (if min (1023 - (512 + u)) 512 = r then colSum g (512 + u) else 0) = 0 := Finset.sum_eq_zero fun u _ => if_neg (by omega)
    rw [z, add_zero] at e
    refine Eq.trans (Finset.sum_congr rfl fun u hu => ?_) e.symm
    have := Finset.mem_range.1 hu
    rw [if_pos (by omega)]
  · rw [if_neg h, add_zero]
    by_cases h0 : r = 0
    · rw [if_neg (by omega)]
      refine (Finset.sum_eq_zero fun u hu => ?_).symm
      have := Finset.mem_range.1 hu
      split_ifs with q
      · exact Finset.sum_eq_zero fun i _ => if_neg (by omega)
      · rfl
    · rw [if_pos (by omega), Finset.sum_eq_single (1023 - r) (fun u hu n => if_neg (by have := Finset.mem_range.1 hu; omega))
        (fun n => absurd (Finset.mem_range.2 (by omega)) n), if_pos (by omega)]

end Cert.Proof.Att

end
-- ==== Proof.AttFinite.lean ====
/-
  What the precondition of the attention's backward call says: every entry of its arguments is a real number.
-/
module

public import proofs.«01_k».proof.Proof.AttSpec
public import proofs.«01_k».proof.Pre_att_finite
public import Idealize.ShloMosaic.Lib.Pointwise

@[expose] public section

set_option maxRecDepth 16384

noncomputable section

namespace Cert.Proof.Att

open Idealize.ShloMosaic

theorem and_one {a b : BitVec 1} (h : IntOp.andi a b = 1#1) : a = 1#1 ∧ b = 1#1 := by
  revert a b; decide

theorem fold_and {α : Type} (g : α → BitVec 1) : ∀ (l : List α) (a : BitVec 1), l.foldl (fun r n => IntOp.andi r (g n)) a = 1#1 → a = 1#1 ∧ ∀ n ∈ l, g n = 1#1
  | [], a, h => ⟨h, fun _ hn => absurd hn List.not_mem_nil⟩
  | n :: l, a, h => by
    obtain ⟨h1, h2⟩ := fold_and g l _ h
    obtain ⟨h3, h4⟩ := and_one h1
    refine ⟨h3, fun k hk => ?_⟩
    rcases List.mem_cons.1 hk with rfl | hk
    · exact h4
    · exact h2 k hk

/-- Where the conjunction of all entries holds, every entry does. -/
theorem all_of_reduce {s t u : Shape} {axes : List (Fin s.rank)} (x : s.Idx → BitVec 1) (init : u.Idx → BitVec 1) (h : s.ReducesTo axes t) (hu : 0 < u.numel)
    (ht : ∀ a b : t.Idx, a = b) (j : t.Idx) (e : Host.reduce IntOp.andi x init h hu j = 1#1) (i : s.Idx) : x i = 1#1 := by
  have k := (fold_and (fun n => x (s.rowMajor.symm n)) _ _ e).2 (s.rowMajor i) (List.mem_filter.2 ⟨List.mem_finRange _, decide_eq_true (ht _ _)⟩)
  simpa only [Equiv.symm_apply_apply] using k

theorem real_of_lt {x : EReal} (h : BitVec.ofBool (decide (max x (-x) < Ideal.ofBits FTy.f32 2139095040#32)) = 1#1) : x = ((x.toReal : ℝ) : EReal) := by
  have h1 : max x (-x) < Ideal.ofBits FTy.f32 2139095040#32 := by
    by_contra hn
    rw [decide_eq_false hn] at h
    exact absurd h (by decide)
  obtain ⟨ha, hb⟩ := max_lt_iff.mp (lt_of_lt_of_le h1 le_top)
  refine (EReal.coe_toReal ha.ne fun hbot => ?_).symm
  rw [hbot, EReal.neg_bot] at hb
  exact absurd hb (lt_irrefl _)

/-- The conjunction over one argument. -/
theorem real_of_all {s : Shape} {axes : List (Fin s.rank)} (x : s.Idx → EReal) (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf (F := Ideal) (φ := .f32) .olt (Host.absf (F := Ideal) (φ := .f32) x) (broadcastInDim s ![] hb (constant (F := Ideal) ⟨0, ![]⟩ .f32 0x7F800000#32)))
      (constantI ⟨0, ![]⟩ 1 1#1) h hu j = 1#1) (i : s.Idx) : x i = (((x i).toReal : ℝ) : EReal) :=
  real_of_lt (all_of_reduce _ _ h hu (fun _ _ => funext fun a => a.elim0) j e i)

/-- The arguments as real numbers. -/
def dataOf (x0 : (⟨2, ![8192, 6144]⟩ : Shape).Idx → EReal) (x1 x2 : (⟨2, ![1, 128]⟩ : Shape).Idx → EReal) (x3 : (⟨3, ![1, 16, 513]⟩ : Shape).Idx → EReal) (x4 : (⟨2, ![8192, 2048]⟩ : Shape).Idx → EReal) : Data where
  x s e := if h : s < 8192 ∧ e < 6144 then (x0 (ix2 ⟨s, h.1⟩ ⟨e, h.2⟩)).toReal else 0
  qg d := if h : d < 128 then (x1 (ix2 0 ⟨d, h⟩)).toReal else 0
  kg d := if h : d < 128 then (x2 (ix2 0 ⟨d, h⟩)).toReal else 0
  rb a r := if h : a < 16 ∧ r < 513 then (x3 (ix3 0 ⟨a, h.1⟩ ⟨r, h.2⟩)).toReal else 0
  ct s e := if h : s < 8192 ∧ e < 2048 then (x4 (ix2 ⟨s, h.1⟩ ⟨e, h.2⟩)).toReal else 0

theorem args_of_pre [Cert.Pre_att_finite.Facts] (x0 : (⟨2, ![8192, 6144]⟩ : Shape).Idx → EReal) (x1 x2 : (⟨2, ![1, 128]⟩ : Shape).Idx → EReal) (x3 : (⟨3, ![1, 16, 513]⟩ : Shape).Idx → EReal)
    (x4 : (⟨2, ![8192, 2048]⟩ : Shape).Idx → EReal) (hp : Cert.Pre_att_finite.fn (F := Ideal) x0 x1 x2 x3 x4 = fun _ => 1#1) : Args (dataOf x0 x1 x2 x3 x4) x0 x1 x2 x3 x4 := by
  have e := congrFun hp (fun a => a.elim0)
  unfold Cert.Pre_att_finite.fn Cert.Pre_att_finite.fn_part1 at e
  dsimp only at e
  obtain ⟨e, e4⟩ := and_one e
  obtain ⟨e, e3⟩ := and_one e
  obtain ⟨e, e2⟩ := and_one e
  obtain ⟨e0, e1⟩ := and_one e
  have r0 := real_of_all x0 _ _ _ _ e0
  have r1 := real_of_all x1 _ _ _ _ e1
  have r2 := real_of_all x2 _ _ _ _ e2
  have r3 := real_of_all x3 _ _ _ _ e3
  have r4 := real_of_all x4 _ _ _ _ e4
  constructor
  · intro s d
    unfold dataOf; dsimp only; rw [dif_pos (⟨s.isLt, d.isLt⟩ : s.val < 8192 ∧ d.val < 6144)]; exact r0 _
  · intro d
    unfold dataOf; dsimp only; rw [dif_pos d.isLt]; exact r1 _
  · intro d
    unfold dataOf; dsimp only; rw [dif_pos d.isLt]; exact r2 _
  · intro a r
    unfold dataOf; dsimp only; rw [dif_pos (⟨a.isLt, r.isLt⟩ : a.val < 16 ∧ r.val < 513)]; exact r3 _
  · intro s d
    unfold dataOf; dsimp only; rw [dif_pos (⟨s.isLt, d.isLt⟩ : s.val < 8192 ∧ d.val < 2048)]; exact r4 _

end Cert.Proof.Att

end
-- ==== Proof.AttIndex.lean ====
/-
  Where the attention's reference reads and adds: the rows its gathers take, the rows its scatters add to, the sums over
  two axes, and the words that number them.
-/
module

public import proofs.«01_k».proof.Proof.AttSpec
public import proofs.«01_k».proof.Proof.Gen.AttRefIdeal.Read
public import Idealize.ShloMosaic.Lib.Pointwise.Index
public import Idealize.ShloMosaic.Lib.Pointwise

@[expose] public section

set_option maxRecDepth 16384

noncomputable section

namespace Cert.Proof.Att

open Idealize.ShloMosaic Idealize.ShloMosaic.TcCoe Idealize.SL.Sem
open Cert.AttRefIdeal Cert.AttRefIdeal.Gen Cert.AttRefIdeal.Read

theorem toNat_small (n : ℕ) (h : n < 2 ^ 31) : (BitVec.ofNat 32 n).toInt = n := by
  rw [BitVec.toInt_eq_toNat_cond, BitVec.toNat_ofNat]
  rw [Nat.mod_eq_of_lt (by omega), if_pos (by omega)]

theorem word_add (a b : ℕ) : IntOp.addi (BitVec.ofNat 32 a) (BitVec.ofNat 32 b) = BitVec.ofNat 32 (a + b) := (BitVec.ofNat_add a b).symm
theorem word_mul (a b : ℕ) : IntOp.muli (BitVec.ofNat 32 a) (BitVec.ofNat 32 b) = BitVec.ofNat 32 (a * b) := (BitVec.ofNat_mul a b).symm

theorem word_nonneg (n : ℕ) (h : n < 2 ^ 31) : IntOp.cmpi CmpIPredicate.slt (BitVec.ofNat 32 n) 0#32 = 0#1 := by
  show BitVec.ofBool ((BitVec.ofNat 32 n).slt 0#32) = 0#1
  rw [BitVec.slt_eq_decide, toNat_small n h, decide_eq_false (by show ¬ (n : Int) < 0; omega)]
  rfl

/-- The row a chunk's window place reads. -/
theorem key_row (c : Fin 128) (j : Fin 576) : val_main_v81 (F := Ideal) (ix3 c j 0) = BitVec.ofNat 32 (64 * c.val + j.val) := by
  pointwise [val_main_v81, val_main_v80, val_main_v79, val_main_v78, val_main_c_17, val_main_v77, val_main_v76, val_main_c_16, val_main_v75, val_main_v74, val_main_v73, val_main_v72, val_main_v71, val_main_v70, val_main_v69, val_main_v68, val_main_c_15, val_main_v67]
  rw [word_mul, word_add, word_nonneg _ (by omega), mul_comm]
  rfl
theorem val_row (c : Fin 128) (j : Fin 576) : val_main_v94 (F := Ideal) (ix3 c j 0) = BitVec.ofNat 32 (64 * c.val + j.val) := by
  pointwise [val_main_v94, val_main_v93, val_main_v92, val_main_v91, val_main_c_19, val_main_v90, val_main_v89, val_main_c_18, val_main_v88, val_main_v87, val_main_v86, val_main_v85, val_main_v84, val_main_v83, val_main_v69, val_main_v68, val_main_c_15, val_main_v67]
  rw [word_mul, word_add, word_nonneg _ (by omega), mul_comm]
  rfl

theorem bias_word : ∀ i : Fin 64, ∀ j : Fin 576, val_main_v64 (F := Ideal) (ix3 i j 0) = BitVec.ofNat 32 (min (i.val + 768 - j.val) 512) := by
  have h : ∀ i : Fin 64, ∀ j : Fin 576, IntOp.addi (IntOp.minsi 256#32 (IntOp.maxsi 4294967040#32 (IntOp.subi (IntOp.addi (BitVec.ofNat 32 i.val) 512#32) (BitVec.ofNat 32 j.val)))) 256#32
      = BitVec.ofNat 32 (min (i.val + 768 - j.val) 512) := by decide +kernel
  intro i j
  pointwise [val_main_v64, val_main_v63, val_main_v62, val_main_v61, val_main_c_14, val_main_v60, val_main_v59, val_main_c_13, val_main_v57, val_main_v56, val_main_c_12, val_main_v55, val_main_call0_v4, val_main_call0_v3, val_main_call0_v2, val_main_call0_v1, val_main_call0_v0, val_main_c_10, val_main_c_11, val_main_v54, val_main_v53, val_main_v52, val_main_v51, val_main_v50, val_main_v49, val_main_v48, val_main_c, val_main_v47, val_main_v46]
  rw [show id (constantI S_ 32 256#32) ix0 = 256#32 from rfl, show id (constantI S_ 32 4294967040#32) ix0 = 4294967040#32 from rfl, h, word_nonneg _ (by omega)]
  rfl

/-- The row gather, at an entry. -/
theorem gather_rows (x : S8704x16x128.Idx → EReal) (idx : IVec S128x576x1 32) (c : Fin 128) (j : Fin 576) (h : Fin 16) (d : Fin 128)
    (u : ℕ) (hu : u < 8704) (e : idx (ix3 c j 0) = BitVec.ofNat 32 u) :
    Host.gather gather_S8704x16x128_S128x576x1_S128x576x16x128_23_0_n_n_0_2_116128 x idx (ix4 c j h d) = x (ix3 ⟨u, hu⟩ h d) := by
  have hs : GatherDims.siIdx gather_S8704x16x128_S128x576x1_S128x576x16x128_23_0_n_n_0_2_116128 (ix4 c j h d) ⟨0, by decide⟩ = ix3 c j 0 := by
    funext b; fin_cases b <;> rfl
  show x _ = x _
  refine congrArg x (funext fun a => Fin.ext ?_)
  fin_cases a
  · show min (idx (GatherDims.siIdx _ (ix4 c j h d) _)).toInt.toNat (8704 - 1) + 0 + 0 = u
    refine Eq.trans (congrArg (fun z => min (idx z).toInt.toNat (8704 - 1) + 0 + 0) hs) ?_
    rw [e, toNat_small u (by omega)]; omega
  · show 0 + 0 + h.val = h.val; omega
  · show 0 + 0 + d.val = d.val; omega

/-- The bias gather, at an entry. -/
theorem gather_bias (x : S16x513.Idx → EReal) (idx : IVec S64x576x1 32) (i : Fin 64) (j : Fin 576) (h : Fin 16)
    (u : ℕ) (hu : u < 513) (e : idx (ix3 i j 0) = BitVec.ofNat 32 u) :
    Host.gather gather_S16x513_S64x576x1_S16x64x576_0_1_n_n_1_2_161 x idx (ix3 h i j) = x (ix2 h ⟨u, hu⟩) := by
  have hs : GatherDims.siIdx gather_S16x513_S64x576x1_S16x64x576_0_1_n_n_1_2_161 (ix3 h i j) ⟨0, by decide⟩ = ix3 i j 0 := by
    funext b; fin_cases b <;> rfl
  show x _ = x _
  refine congrArg x (funext fun a => Fin.ext ?_)
  fin_cases a
  · show 0 + 0 + h.val = h.val; omega
  · show min (idx (GatherDims.siIdx _ (ix3 h i j) _)).toInt.toNat (513 - 1) + 0 + 0 = u
    refine Eq.trans (congrArg (fun z => min (idx z).toInt.toNat (513 - 1) + 0 + 0) hs) ?_
    rw [e, toNat_small u (by omega)]; omega

/-- The place an update goes to. -/
theorem lands {s si u : Shape} (d : ScatterDims s si u) (j : u.Idx) (idx : IVec si 32) (i : s.Idx) :
    d.resultIdx? j idx = some i ↔ ∀ a, d.start j idx a + d.window j a = (i a).val := by
  unfold ScatterDims.resultIdx?
  split_ifs with h
  · rw [Option.some.injEq]
    constructor
    · rintro rfl a
      have := h a
      show _ = ((Int.toNat _ : ℕ) : Int)
      omega
    · intro e
      funext a
      refine Fin.ext ?_
      show Int.toNat _ = _
      rw [e a]; rfl
  · refine ⟨fun e => (by cases e), fun e => absurd (fun a => ?_) h⟩
    have := (i a).isLt
    rw [e a]; omega

/-- The row scatter, at an entry. -/
theorem scatter_rows (x : S8704x16x128.Idx → EReal) (idx : IVec S128x576x1 32) (upd : S128x576x16x128.Idx → EReal)
    (e : ∀ (c : Fin 128) (j : Fin 576), idx (ix3 c j 0) = BitVec.ofNat 32 (64 * c.val + j.val)) (u : ℕ) (hu : u < 8704) (h : Fin 16) (d : Fin 128) :
    Ideal.hostScatterAdd scatter_S8704x16x128_S128x576x1_S128x576x16x128_23_0_0_2 x idx upd (ix3 ⟨u, hu⟩ h d)
      = x (ix3 ⟨u, hu⟩ h d) + ∑ c : Fin 128, if hc : u - 64 * c.val < 576 ∧ 64 * c.val ≤ u then upd (ix4 c ⟨u - 64 * c.val, hc.1⟩ h d) else 0 := by
  have hl (c : Fin 128) (j : Fin 576) (h' : Fin 16) (d' : Fin 128) :
      ScatterDims.resultIdx? scatter_S8704x16x128_S128x576x1_S128x576x16x128_23_0_0_2 (ix4 c j h' d') idx = some (ix3 ⟨u, hu⟩ h d) ↔ 64 * c.val + j.val = u ∧ h' = h ∧ d' = d := by
    have hs : ScatterDims.siIdx scatter_S8704x16x128_S128x576x1_S128x576x16x128_23_0_0_2 (ix4 c j h' d') ⟨0, by decide⟩ = ix3 c j 0 := by
      funext b; fin_cases b <;> rfl
    have s0 : ScatterDims.start scatter_S8704x16x128_S128x576x1_S128x576x16x128_23_0_0_2 (ix4 c j h' d') idx 0 = (64 * c.val + j.val : ℕ) := by
      refine Eq.trans (congrArg (fun z => (idx z).toInt) hs) ?_
      rw [e, toNat_small _ (by omega)]
    rw [lands]
    constructor
    · intro k
      have k0 := k 0; have k1 := k 1; have k2 := k 2
      rw [s0] at k0
      have k0' : ((64 * c.val + j.val : ℕ) : Int) + (0 : ℕ) = (u : ℕ) := k0
      have k1' : (0 : Int) + (h'.val : ℕ) = (h.val : ℕ) := k1
      have k2' : (0 : Int) + (d'.val : ℕ) = (d.val : ℕ) := k2
      exact ⟨by omega, Fin.ext (by omega), Fin.ext (by omega)⟩
    · rintro ⟨k0, rfl, rfl⟩ a
      fin_cases a
      · show ScatterDims.start _ _ idx 0 + (0 : ℕ) = (u : ℕ)
        rw [s0]; omega
      · show (0 : Int) + (h'.val : ℕ) = (h'.val : ℕ); omega
      · show (0 : Int) + (d'.val : ℕ) = (d'.val : ℕ); omega
  unfold Ideal.hostScatterAdd
  congr 1
  rw [Finset.sum_filter, sum_idx4]
  refine Finset.sum_congr rfl fun c _ => ?_
  simp only [hl]
  split_ifs with hc
  · rw [Finset.sum_eq_single (⟨u - 64 * c.val, hc.1⟩ : Fin 576), Finset.sum_eq_single h, Finset.sum_eq_single d]
    · rw [if_pos ⟨by show 64 * c.val + (u - 64 * c.val) = u; omega, rfl, rfl⟩]
    · intro d' _ n; exact if_neg fun k => n k.2.2
    · intro n; exact absurd (Finset.mem_univ _) n
    · intro h' _ n; exact Finset.sum_eq_zero fun d' _ => if_neg fun k => n k.2.1
    · intro n; exact absurd (Finset.mem_univ _) n
    · intro j _ n; exact Finset.sum_eq_zero fun h' _ => Finset.sum_eq_zero fun d' _ => if_neg fun k => n (Fin.ext (by show j.val = u - 64 * c.val; omega))
    · intro n; exact absurd (Finset.mem_univ _) n
  · exact Finset.sum_eq_zero fun j _ => Finset.sum_eq_zero fun h' _ => Finset.sum_eq_zero fun d' _ => if_neg fun k => hc (by have := j.isLt; omega)

/-- The bias scatter, at an entry. -/
theorem scatter_bias (x : S16x513.Idx → EReal) (idx : IVec S64x576x1 32) (upd : S16x64x576.Idx → EReal) (r : Fin 64 → Fin 576 → ℕ)
    (e : ∀ (i : Fin 64) (j : Fin 576), idx (ix3 i j 0) = BitVec.ofNat 32 (r i j)) (hr : ∀ i j, r i j < 513) (h : Fin 16) (v : Fin 513) :
    Ideal.hostScatterAdd scatter_S16x513_S64x576x1_S16x64x576_0_1_1_2 x idx upd (ix2 h v)
      = x (ix2 h v) + ∑ i : Fin 64, ∑ j : Fin 576, if r i j = v.val then upd (ix3 h i j) else 0 := by
  have hl (h' : Fin 16) (i : Fin 64) (j : Fin 576) :
      ScatterDims.resultIdx? scatter_S16x513_S64x576x1_S16x64x576_0_1_1_2 (ix3 h' i j) idx = some (ix2 h v) ↔ h' = h ∧ r i j = v.val := by
    have hs : ScatterDims.siIdx scatter_S16x513_S64x576x1_S16x64x576_0_1_1_2 (ix3 h' i j) ⟨0, by decide⟩ = ix3 i j 0 := by
      funext b; fin_cases b <;> rfl
    have s1 : ScatterDims.start scatter_S16x513_S64x576x1_S16x64x576_0_1_1_2 (ix3 h' i j) idx 1 = (r i j : ℕ) := by
      refine Eq.trans (congrArg (fun z => (idx z).toInt) hs) ?_
      rw [e, toNat_small _ (by have := hr i j; omega)]
    rw [lands]
    constructor
    · intro k
      have k0 := k 0; have k1 := k 1
      rw [s1] at k1
      have k0' : (0 : Int) + (h'.val : ℕ) = (h.val : ℕ) := k0
      have k1' : ((r i j : ℕ) : Int) + (0 : ℕ) = (v.val : ℕ) := k1
      exact ⟨Fin.ext (by omega), by omega⟩
    · rintro ⟨rfl, k⟩ a
      fin_cases a
      · show (0 : Int) + (h'.val : ℕ) = (h'.val : ℕ); omega
      · show ScatterDims.start _ _ idx 1 + (0 : ℕ) = (v.val : ℕ)
        rw [s1]; omega
  unfold Ideal.hostScatterAdd
  congr 1
  rw [Finset.sum_filter, sum_idx3]
  simp only [hl]
  rw [Finset.sum_eq_single h]
  · refine Finset.sum_congr rfl fun i _ => Finset.sum_congr rfl fun j _ => ?_
    simp only [true_and]
  · intro h' _ n
    exact Finset.sum_eq_zero fun i _ => Finset.sum_eq_zero fun j _ => if_neg fun k => n k.1
  · intro n; exact absurd (Finset.mem_univ _) n

/-- A sum over rows and heads. -/
theorem reduce_rows (r : S8192x16x128.ReducesTo [0, 1] S128) (x : S8192x16x128.Idx → EReal) (z : EReal) (d : Fin 128) :
    Ideal.hostReduceAdd r x z (ix1 d) = z + ∑ s : Fin 8192, ∑ h : Fin 16, x (ix3 s h d) := by
  have hd (s : Fin 8192) (h : Fin 16) (e : Fin 128) : r.drop (ix3 s h e) = ix1 d ↔ e = d := by
    have : r.drop (ix3 s h e) = ix1 e := by funext a; fin_cases a; rfl
    rw [this]
    exact ⟨fun k => congrFun k 0, fun k => by rw [k]⟩
  unfold Ideal.hostReduceAdd
  refine congrArg (fun y => z + y) ?_
  rw [Finset.sum_filter, sum_idx3]
  refine Finset.sum_congr rfl fun s _ => Finset.sum_congr rfl fun h _ => ?_
  rw [Finset.sum_eq_single d]
  · exact if_pos ((hd s h d).2 rfl)
  · intro e _ n; exact if_neg fun k => n ((hd s h e).1 k)
  · intro n; exact absurd (Finset.mem_univ _) n

/-- A sum over two axes of one place each. -/
theorem reduce_unit (r : S1x1x128.ReducesTo [0, 1] S128) (x : S1x1x128.Idx → EReal) (z : EReal) (d : Fin 128) :
    Ideal.hostReduceAdd r x z (ix1 d) = z + x (ix3 0 0 d) := by
  have hd (s h : Fin 1) (e : Fin 128) : r.drop (ix3 s h e) = ix1 d ↔ e = d := by
    have : r.drop (ix3 s h e) = ix1 e := by funext a; fin_cases a; rfl
    rw [this]
    exact ⟨fun k => congrFun k 0, fun k => by rw [k]⟩
  unfold Ideal.hostReduceAdd
  refine congrArg (fun y => z + y) ?_
  rw [Finset.sum_filter, sum_idx3]
  rw [Finset.univ_unique, Finset.sum_singleton, Finset.sum_singleton, Finset.sum_eq_single d]
  · exact if_pos ((hd _ _ d).2 rfl)
  · intro e _ n; exact if_neg fun k => n ((hd _ _ e).1 k)
  · intro n; exact absurd (Finset.mem_univ _) n

end Cert.Proof.Att

end
-- ==== Proof.AttRef.lean ====
/-
  The attention's reference, at its entries, where its arguments are finite.
-/
module

public import proofs.«01_k».proof.Proof.AttIndex

@[expose] public section

set_option maxRecDepth 16384

noncomputable section

namespace Cert.Proof.Att

open Idealize.ShloMosaic Idealize.ShloMosaic.TcCoe Idealize.SL.Sem

/-- The sum over chunks and places is the sum over rows. -/
theorem sum_chunks (f : ℕ → ℝ) (m n : ℕ) : ∑ c : Fin n, ∑ i : Fin m, f (m * c.val + i.val) = ∑ s ∈ Finset.range (m * n), f s := by
  rw [Fin.sum_univ_eq_sum_range (fun c => ∑ i : Fin m, f (m * c + i.val)) n]
  induction n with
  | zero => simp
  | succ n ih => rw [Finset.sum_range_succ, ih, Nat.mul_succ, Finset.sum_range_add, Fin.sum_univ_eq_sum_range (fun i => f (m * n + i)) m]

/-- A value at a padded row, zero before the first row. -/
def pad (u : ℕ) (f : ℕ → ℝ) : ℝ := if 512 ≤ u then f (u - 512) else 0

theorem pad_mul (u : ℕ) (f g : ℕ → ℝ) : pad u f * pad u g = pad u fun t => f t * g t := by
  unfold pad; split_ifs <;> simp
theorem mul_pad (u : ℕ) (y : ℝ) (f : ℕ → ℝ) : y * pad u f = pad u fun t => y * f t := by
  unfold pad; split_ifs <;> simp
theorem pad_smul (u : ℕ) (y : ℝ) (f : ℕ → ℝ) : pad u f * y = pad u fun t => f t * y := by
  unfold pad; split_ifs <;> simp
theorem pad_triple (u : ℕ) (y : ℝ) (f g : ℕ → ℝ) : pad u f * y * pad u g = pad u fun t => f t * y * g t := by
  unfold pad; split_ifs <;> simp
theorem pad_sum {n : ℕ} (u : ℕ) (f : Fin n → ℕ → ℝ) : ∑ k, pad u (f k) = pad u fun t => ∑ k, f k t := by
  unfold pad; split_ifs <;> simp

/-- The sum over a chunk's window. -/
theorem sum_pad (c : Fin 128) (f : ℕ → ℝ) (s : ℕ) (hs : s / 64 = c.val) (hf : ∀ t, ¬ allowed s t → f t = 0) :
    ∑ j : Fin 576, pad (64 * c.val + j.val) f = ∑ t ∈ Finset.range 8192, f t :=
  window f (64 * c.val) 576 (by omega) fun t ht => hf t fun a => ht (by unfold allowed at a; omega)

/-- The sum over the chunks whose windows hold a row is the sum over all rows. -/
theorem sum_back (t : ℕ) (ht : t < 8192) (f : ℕ → ℕ → ℝ) (hf : ∀ s t, ¬ allowed s t → f s t = 0) :
    ∑ c : Fin 128, (if 512 + t - 64 * c.val < 576 ∧ 64 * c.val ≤ 512 + t then ∑ i : Fin 64, pad (64 * c.val + (512 + t - 64 * c.val)) (f (64 * c.val + i.val)) else 0)
      = ∑ s ∈ Finset.range 8192, f s t := by
  rw [← sum_chunks (fun s => f s t) 64 128]
  refine Finset.sum_congr rfl fun c _ => ?_
  split_ifs with hc
  · refine Finset.sum_congr rfl fun i _ => ?_
    rw [show 64 * c.val + (512 + t - 64 * c.val) = 512 + t by omega, pad, if_pos (by omega), Nat.add_sub_cancel_left]
  · exact (Finset.sum_eq_zero fun i _ => hf _ _ fun a => hc (by unfold allowed at a; omega)).symm

open Cert.AttRefIdeal Cert.AttRefIdeal.Gen Cert.AttRefIdeal.Read

theorem seen_word : ∀ u : Fin 8768, IntOp.cmpi CmpIPredicate.sge (IntOp.subi (BitVec.ofNat 32 u.val) 512#32) 0#32 = if 512 ≤ u.val then 1#1 else 0#1 := by
  decide +kernel

theorem place_word (c : Fin 128) (j : Fin 576) :
    IntOp.cmpi CmpIPredicate.sge (IntOp.addi (IntOp.subi (IntOp.muli (BitVec.ofNat 32 c.val) 64#32) 512#32) (BitVec.ofNat 32 j.val)) 0#32
      = if 512 ≤ 64 * c.val + j.val then 1#1 else 0#1 := by
  have e : IntOp.addi (IntOp.subi (IntOp.muli (BitVec.ofNat 32 c.val) 64#32) 512#32) (BitVec.ofNat 32 j.val) = IntOp.subi (BitVec.ofNat 32 (64 * c.val + j.val)) 512#32 := by
    rw [word_mul, mul_comm]
    show BitVec.ofNat 32 (64 * c.val) - 512#32 + BitVec.ofNat 32 j.val = BitVec.ofNat 32 (64 * c.val + j.val) - 512#32
    rw [BitVec.ofNat_add, BitVec.sub_eq_add_neg, BitVec.sub_eq_add_neg, BitVec.add_assoc, BitVec.add_assoc, BitVec.add_comm (-512#32)]
  rw [e]
  exact seen_word ⟨64 * c.val + j.val, by omega⟩

variable {D : Data} {x0 : S8192x6144.Idx → EReal} {x1 x2 : S1x128.Idx → EReal} {x3 : S1x16x513.Idx → EReal} {x4 : S8192x2048.Idx → EReal}

section Forward

theorem ref_q (A : Args D x0 x1 x2 x3 x4) (s : Fin 8192) (h : Fin 16) (d : Fin 128) : val_main_v2 (F := Ideal) x0 (ix3 s h d) = (Q D h.val s.val d.val : EReal) := by
  have e : val_main_v2 (F := Ideal) x0 (ix3 s h d) = x0 (ix2 s ⟨h.val * 128 + d.val, by omega⟩) := by pointwise [val_main_v2, val_main_v1, val_main_v0]
  rw [e, A.x, Q]
  refine congrArg (fun n => (D.x s.val n : EReal)) ?_
  dsimp only; omega

theorem ref_k (A : Args D x0 x1 x2 x3 x4) (s : Fin 8192) (h : Fin 16) (d : Fin 128) : val_main_v21 (F := Ideal) x0 (ix3 s h d) = (K D h.val s.val d.val : EReal) := by
  have e : val_main_v21 (F := Ideal) x0 (ix3 s h d) = x0 (ix2 s ⟨2048 + h.val * 128 + d.val, by omega⟩) := by pointwise [val_main_v21, val_main_v20, val_main_v0]
  rw [e, A.x, K]
  refine congrArg (fun n => (D.x s.val n : EReal)) ?_
  dsimp only; omega

theorem ref_v (A : Args D x0 x1 x2 x3 x4) (s : Fin 8192) (h : Fin 16) (d : Fin 128) : val_main_v40 (F := Ideal) x0 (ix3 s h d) = (V D h.val s.val d.val : EReal) := by
  have e : val_main_v40 (F := Ideal) x0 (ix3 s h d) = x0 (ix2 s ⟨4096 + h.val * 128 + d.val, by omega⟩) := by pointwise [val_main_v40, val_main_v39, val_main_v0]
  rw [e, A.x, V]
  refine congrArg (fun n => (D.x s.val n : EReal)) ?_
  dsimp only; omega

theorem ref_ms_q (A : Args D x0 x1 x2 x3 x4) (s : Fin 8192) (h : Fin 16) : val_main_v10 (F := Ideal) x0 (ix3 s h 0) = (ms (Q D h.val s.val) : EReal) := by
  have e : val_main_v10 (F := Ideal) x0 (ix3 s h 0) = Ideal.div (∑ d, val_main_v2 (F := Ideal) x0 (ix3 s h d) * val_main_v2 (F := Ideal) x0 (ix3 s h d)) (Ideal.ofBits FTy.f32 1124073472#32) + Ideal.ofBits FTy.f32 897988541#32 := by
    pointwise [val_main_v10, val_main_v8, val_main_v9, val_main_v6, val_main_v7, val_main_cst_1, val_main_v5, val_main_cst_0, val_main_v4, val_main_cst]
  rw [e, width_eq, eps_eq, Ideal.div_coe (by norm_num)]
  simp only [ref_q A, ← EReal.coe_mul, coe_sum, ← EReal.coe_add]
  rfl

theorem ref_inv_q (A : Args D x0 x1 x2 x3 x4) (s : Fin 8192) (h : Fin 16) : val_main_v11 (F := Ideal) x0 (ix3 s h 0) = (inv (Q D h.val s.val) : EReal) := by
  have e : val_main_v11 (F := Ideal) x0 (ix3 s h 0) = Ideal.rsqrt (val_main_v10 (F := Ideal) x0 (ix3 s h 0)) := by pointwise [val_main_v11]
  rw [e, ref_ms_q A, Ideal.rsqrt_coe, if_neg (ms_pos _).le.not_gt, if_neg (ms_pos _).ne']
  rfl

theorem ref_slope_q (A : Args D x0 x1 x2 x3 x4) (s : Fin 8192) (h : Fin 16) : val_main_v14 (F := Ideal) x0 (ix3 s h 0) = ((-(1 / 2) * (inv (Q D h.val s.val) * (1 / ms (Q D h.val s.val))) : ℝ) : EReal) := by
  have e : val_main_v14 (F := Ideal) x0 (ix3 s h 0) = Ideal.ofBits FTy.f32 3204448256#32 * Ideal.div (val_main_v11 (F := Ideal) x0 (ix3 s h 0)) (val_main_v10 (F := Ideal) x0 (ix3 s h 0)) := by pointwise [val_main_v14, val_main_v13, val_main_v12, val_main_cst_2]
  rw [e, half_eq, ref_inv_q A, ref_ms_q A, Ideal.div_coe (ms_pos _).ne', ← EReal.coe_mul, ← EReal.coe_mul]

theorem ref_hat_q (A : Args D x0 x1 x2 x3 x4) (s : Fin 8192) (h : Fin 16) (d : Fin 128) : val_main_v16 (F := Ideal) x0 (ix3 s h d) = (Qh D h.val s.val d.val : EReal) := by
  have e : val_main_v16 (F := Ideal) x0 (ix3 s h d) = val_main_v2 (F := Ideal) x0 (ix3 s h d) * val_main_v11 (F := Ideal) x0 (ix3 s h 0) := by pointwise [val_main_v16, val_main_v15]
  rw [e, ref_inv_q A, ref_q A, ← EReal.coe_mul]; rfl

theorem ref_gain_q (A : Args D x0 x1 x2 x3 x4) (s : Fin 8192) (h : Fin 16) (d : Fin 128) : val_main_v19 (F := Ideal) x0 x1 (ix3 s h d) = (Qn D h.val s.val d.val : EReal) := by
  have e : val_main_v19 (F := Ideal) x0 x1 (ix3 s h d) = val_main_v16 (F := Ideal) x0 (ix3 s h d) * x1 (ix2 0 d) := by pointwise [val_main_v19, val_main_v18, val_main_v17, val_main_v3]
  rw [e, ref_hat_q A, A.qg, ← EReal.coe_mul]; rfl

theorem ref_ms_k (A : Args D x0 x1 x2 x3 x4) (s : Fin 8192) (h : Fin 16) : val_main_v29 (F := Ideal) x0 (ix3 s h 0) = (ms (K D h.val s.val) : EReal) := by
  have e : val_main_v29 (F := Ideal) x0 (ix3 s h 0) = Ideal.div (∑ d, val_main_v21 (F := Ideal) x0 (ix3 s h d) * val_main_v21 (F := Ideal) x0 (ix3 s h d)) (Ideal.ofBits FTy.f32 1124073472#32) + Ideal.ofBits FTy.f32 897988541#32 := by
    pointwise [val_main_v29, val_main_v27, val_main_v28, val_main_v25, val_main_v26, val_main_cst_5, val_main_v24, val_main_cst_4, val_main_v23, val_main_cst_3]
  rw [e, width_eq, eps_eq, Ideal.div_coe (by norm_num)]
  simp only [ref_k A, ← EReal.coe_mul, coe_sum, ← EReal.coe_add]
  rfl

theorem ref_inv_k (A : Args D x0 x1 x2 x3 x4) (s : Fin 8192) (h : Fin 16) : val_main_v30 (F := Ideal) x0 (ix3 s h 0) = (inv (K D h.val s.val) : EReal) := by
  have e : val_main_v30 (F := Ideal) x0 (ix3 s h 0) = Ideal.rsqrt (val_main_v29 (F := Ideal) x0 (ix3 s h 0)) := by pointwise [val_main_v30]
  rw [e, ref_ms_k A, Ideal.rsqrt_coe, if_neg (ms_pos _).le.not_gt, if_neg (ms_pos _).ne']
  rfl

theorem ref_slope_k (A : Args D x0 x1 x2 x3 x4) (s : Fin 8192) (h : Fin 16) : val_main_v33 (F := Ideal) x0 (ix3 s h 0) = ((-(1 / 2) * (inv (K D h.val s.val) * (1 / ms (K D h.val s.val))) : ℝ) : EReal) := by
  have e : val_main_v33 (F := Ideal) x0 (ix3 s h 0) = Ideal.ofBits FTy.f32 3204448256#32 * Ideal.div (val_main_v30 (F := Ideal) x0 (ix3 s h 0)) (val_main_v29 (F := Ideal) x0 (ix3 s h 0)) := by pointwise [val_main_v33, val_main_v32, val_main_v31, val_main_cst_6]
  rw [e, half_eq, ref_inv_k A, ref_ms_k A, Ideal.div_coe (ms_pos _).ne', ← EReal.coe_mul, ← EReal.coe_mul]

theorem ref_hat_k (A : Args D x0 x1 x2 x3 x4) (s : Fin 8192) (h : Fin 16) (d : Fin 128) : val_main_v35 (F := Ideal) x0 (ix3 s h d) = (Kh D h.val s.val d.val : EReal) := by
  have e : val_main_v35 (F := Ideal) x0 (ix3 s h d) = val_main_v21 (F := Ideal) x0 (ix3 s h d) * val_main_v30 (F := Ideal) x0 (ix3 s h 0) := by pointwise [val_main_v35, val_main_v34]
  rw [e, ref_inv_k A, ref_k A, ← EReal.coe_mul]; rfl

theorem ref_gain_k (A : Args D x0 x1 x2 x3 x4) (s : Fin 8192) (h : Fin 16) (d : Fin 128) : val_main_v38 (F := Ideal) x0 x2 (ix3 s h d) = (Kn D h.val s.val d.val : EReal) := by
  have e : val_main_v38 (F := Ideal) x0 x2 (ix3 s h d) = val_main_v35 (F := Ideal) x0 (ix3 s h d) * x2 (ix2 0 d) := by pointwise [val_main_v38, val_main_v37, val_main_v36, val_main_v22]
  rw [e, ref_hat_k A, A.kg, ← EReal.coe_mul]; rfl

theorem ref_pad_k (A : Args D x0 x1 x2 x3 x4) (u : ℕ) (hu : u < 8704) (h : Fin 16) (d : Fin 128) : val_main_v42 (F := Ideal) x0 x2 (ix3 ⟨u, hu⟩ h d) = (pad u (fun t => Kn D h.val t d.val) : EReal) := by
  have e : val_main_v42 (F := Ideal) x0 x2 (ix3 ⟨u, hu⟩ h d) = if k : u < 512 then 0 else val_main_v38 (F := Ideal) x0 x2 (ix3 ⟨u - 512, by omega⟩ h d) := by pointwise [val_main_v42, val_main_v41, val_main_cst_7]
  rw [e, pad]
  split_ifs with k k' k'
  · omega
  · rfl
  · rw [ref_gain_k A]
  · omega

theorem ref_pad_v (A : Args D x0 x1 x2 x3 x4) (u : ℕ) (hu : u < 8704) (h : Fin 16) (d : Fin 128) : val_main_v44 (F := Ideal) x0 (ix3 ⟨u, hu⟩ h d) = (pad u (fun t => V D h.val t d.val) : EReal) := by
  have e : val_main_v44 (F := Ideal) x0 (ix3 ⟨u, hu⟩ h d) = if k : u < 512 then 0 else val_main_v40 (F := Ideal) x0 (ix3 ⟨u - 512, by omega⟩ h d) := by pointwise [val_main_v44, val_main_v41, val_main_cst_7]
  rw [e, pad]
  split_ifs with k k' k'
  · omega
  · rfl
  · rw [ref_v A]
  · omega

theorem ref_band_k (A : Args D x0 x1 x2 x3 x4) (c : Fin 128) (j : Fin 576) (h : Fin 16) (d : Fin 128) : val_main_v82 (F := Ideal) x0 x2 (ix4 c j h d) = (pad (64 * c.val + j.val) (fun t => Kn D h.val t d.val) : EReal) := by
  unfold val_main_v82
  rw [gather_rows _ _ c j h d (64 * c.val + j.val) (by omega) (key_row c j), ref_pad_k A]

theorem ref_band_v (A : Args D x0 x1 x2 x3 x4) (c : Fin 128) (j : Fin 576) (h : Fin 16) (d : Fin 128) : val_main_v95 (F := Ideal) x0 (ix4 c j h d) = (pad (64 * c.val + j.val) (fun t => V D h.val t d.val) : EReal) := by
  unfold val_main_v95
  rw [gather_rows _ _ c j h d (64 * c.val + j.val) (by omega) (val_row c j), ref_pad_v A]

theorem ref_bias (A : Args D x0 x1 x2 x3 x4) (h : Fin 16) (i : Fin 64) (j : Fin 576) : val_main_v65 (F := Ideal) x3 (ix3 h i j) = (D.rb h.val (min (i.val + 768 - j.val) 512) : EReal) := by
  unfold val_main_v65
  rw [gather_bias _ _ i j h (min (i.val + 768 - j.val) 512) (by omega) (bias_word i j)]
  have e (r : Fin 513) : val_main_v58 (F := Ideal) x3 (ix2 h r) = x3 (ix3 0 h r) := by pointwise [val_main_v58]
  rw [e, A.rb]

theorem ref_row_q (A : Args D x0 x1 x2 x3 x4) (c : Fin 128) (i : Fin 64) (h : Fin 16) (d : Fin 128) : val_main_v66 (F := Ideal) x0 x1 (ix4 c i h d) = (Qn D h.val (64 * c.val + i.val) d.val : EReal) := by
  have e : val_main_v66 (F := Ideal) x0 x1 (ix4 c i h d) = val_main_v19 (F := Ideal) x0 x1 (ix3 ⟨c.val * 64 + i.val, by omega⟩ h d) := by pointwise [val_main_v66]
  rw [e, ref_gain_q A]
  show ((Qn D h.val (c.val * 64 + i.val) d.val : ℝ) : EReal) = _
  rw [mul_comm c.val]

theorem ref_masked (A : Args D x0 x1 x2 x3 x4) (c : Fin 128) (h : Fin 16) (i : Fin 64) (j : Fin 576) : val_main_v115 (F := Ideal) x0 x1 x2 x3 (ix4 c h i j) = if 512 ≤ 64 * c.val + j.val then (score D h.val (64 * c.val + i.val) (64 * c.val + j.val - 512) : EReal) else ⊥ := by
  have e : val_main_v101 (F := Ideal) x0 x1 x2 x3 (ix4 c h i j) = (∑ d, val_main_v66 (F := Ideal) x0 x1 (ix4 c i h d) * val_main_v82 (F := Ideal) x0 x2 (ix4 c j h d)) * Ideal.ofBits FTy.f32 1035273459#32 + val_main_v65 (F := Ideal) x3 (ix3 h i j) := by
    pointwise [val_main_v101, val_main_v98, val_main_v100, val_main_v96, val_main_v97, val_main_v99, val_main_cst_20]
  have e' : val_main_v115 (F := Ideal) x0 x1 x2 x3 (ix4 c h i j) = Scalar.select (IntOp.cmpi CmpIPredicate.sge (IntOp.addi (IntOp.subi (IntOp.muli (BitVec.ofNat 32 c.val) 64#32) 512#32) (BitVec.ofNat 32 j.val)) 0#32)
      (val_main_v101 (F := Ideal) x0 x1 x2 x3 (ix4 c h i j)) (Ideal.ofBits FTy.f32 4286578688#32) := by
    pointwise [val_main_v115, val_main_v112, val_main_v114, val_main_v111, val_main_v113, val_main_v109, val_main_v110, val_main_cst_23, val_main_v107, val_main_v108, val_main_c_22, val_main_v106, val_main_v105, val_main_v103, val_main_v104, val_main_v69, val_main_v102, val_main_v67, val_main_v68, val_main_c_21, val_main_c_15]
  rw [e', place_word, bot_eq, e, sc_eq]
  split_ifs with k
  · show (_ : EReal) = _
    simp only [ref_row_q A, ref_band_k A, ref_bias A, ← EReal.coe_mul, coe_sum, ← EReal.coe_add, pad, if_pos k]
    refine congrArg (fun y : ℝ => (y : EReal)) ?_
    rw [score, dist, show 64 * c.val + i.val + 256 - (64 * c.val + j.val - 512) = i.val + 768 - j.val by omega]
  · rfl

theorem ref_exp (A : Args D x0 x1 x2 x3 x4) (c : Fin 128) (h : Fin 16) (i : Fin 64) : ∃ M : ℝ, (∀ j : Fin 576, val_main_v137 (F := Ideal) x0 x1 x2 x3 (ix4 c h i j) = (pad (64 * c.val + j.val) (fun t => Real.exp (score D h.val (64 * c.val + i.val) t) * Real.exp (-M)) : EReal))
    ∧ val_main_v138 (F := Ideal) x0 x1 x2 x3 (ix3 c h i) = ((Z D h.val (64 * c.val + i.val) * Real.exp (-M) : ℝ) : EReal) := by
  obtain ⟨M, hM⟩ := fold_max (fun j : Fin 576 => 512 ≤ 64 * c.val + j.val) (fun j => score D h.val (64 * c.val + i.val) (64 * c.val + j.val - 512)) ⟨⟨512, by omega⟩, by show 512 ≤ 64 * c.val + 512; omega⟩
  have e1 : val_main_v117 (F := Ideal) x0 x1 x2 x3 (ix3 c h i) = (M : EReal) := by
    rw [← hM, ← bot_eq]
    have e : val_main_v117 (F := Ideal) x0 x1 x2 x3 (ix3 c h i) = Finset.univ.fold max (Ideal.ofBits FTy.f32 4286578688#32) (fun j => val_main_v115 (F := Ideal) x0 x1 x2 x3 (ix4 c h i j)) := by pointwise [val_main_v117, val_main_cst_25]
    rw [e]
    simp only [ref_masked A, bot_eq]
  have e2 : val_main_v124 (F := Ideal) x0 x1 x2 x3 (ix3 c h i) = (M : EReal) := by
    have e : val_main_v123 (F := Ideal) (ix3 c h i) = Ideal.ofBits FTy.f32 4286578688#32 := by pointwise [val_main_v123, val_main_cst_27]
    rw [val_main_v124_apply, e1, e, bot_eq]
    exact max_eq_right bot_le
  have e3 (j : Fin 576) : val_main_v137 (F := Ideal) x0 x1 x2 x3 (ix4 c h i j) = (pad (64 * c.val + j.val) (fun t => Real.exp (score D h.val (64 * c.val + i.val) t) * Real.exp (-M)) : EReal) := by
    have e : val_main_v137 (F := Ideal) x0 x1 x2 x3 (ix4 c h i j) = Ideal.exp (val_main_v115 (F := Ideal) x0 x1 x2 x3 (ix4 c h i j) - val_main_v124 (F := Ideal) x0 x1 x2 x3 (ix3 c h i)) := by pointwise [val_main_v137, val_main_v136, val_main_v135, val_main_v134]
    rw [e, e2, ref_masked A, exp_masked]; rfl
  refine ⟨M, e3, ?_⟩
  have e : val_main_v138 (F := Ideal) x0 x1 x2 x3 (ix3 c h i) = ∑ j, val_main_v137 (F := Ideal) x0 x1 x2 x3 (ix4 c h i j) := by pointwise [val_main_v138, val_main_cst_33]
  rw [e]
  simp only [e3, coe_sum]
  refine congrArg (fun y : ℝ => (y : EReal)) ?_
  rw [← row_sum h.val (64 * c.val + i.val) (64 * c.val) 576 (by omega) (by omega) (fun t a => by unfold allowed at a; omega) M]
  refine Finset.sum_congr rfl fun j _ => ?_
  unfold pad
  refine if_congr ⟨fun k => ⟨k, by unfold allowed; omega⟩, fun k => k.1⟩ rfl rfl

theorem ref_weight (A : Args D x0 x1 x2 x3 x4) (c : Fin 128) (h : Fin 16) (i : Fin 64) (j : Fin 576) : val_main_v141 (F := Ideal) x0 x1 x2 x3 (ix4 c h i j) = (pad (64 * c.val + j.val) (P D h.val (64 * c.val + i.val)) : EReal) := by
  obtain ⟨M, hM, hZ⟩ := ref_exp A c h i
  have e : val_main_v141 (F := Ideal) x0 x1 x2 x3 (ix4 c h i j) = Ideal.div (val_main_v137 (F := Ideal) x0 x1 x2 x3 (ix4 c h i j)) (val_main_v138 (F := Ideal) x0 x1 x2 x3 (ix3 c h i)) := by pointwise [val_main_v141, val_main_v140, val_main_v139]
  rw [e, hM, hZ, Ideal.div_coe (mul_pos (Z_pos D h.val _ (by omega)) (Real.exp_pos _)).ne', ← EReal.coe_mul, pad_smul]
  refine congrArg (fun y : ℝ => (y : EReal)) ?_
  unfold pad
  split_ifs with k
  · rw [← row_weight h.val _ _ M, if_pos (by unfold allowed; omega)]
  · rfl

end Forward

section Backward

theorem ref_ct (A : Args D x0 x1 x2 x3 x4) (c : Fin 128) (h : Fin 16) (i : Fin 64) (j : Fin 576) : val_main_v150 (F := Ideal) x0 x4 (ix4 c h i j) = (pad (64 * c.val + j.val) (DP D h.val (64 * c.val + i.val)) : EReal) := by
  have e : val_main_v150 (F := Ideal) x0 x4 (ix4 c h i j) = ∑ d : Fin 128, x4 (ix2 ⟨c.val * 64 + i.val, by omega⟩ ⟨h.val * 128 + d.val, by omega⟩) * val_main_v95 (F := Ideal) x0 (ix4 c j h d) := by pointwise [val_main_v150, val_main_v149, val_main_v148]
  rw [e]
  simp only [A.ct, ref_band_v A, ← EReal.coe_mul, coe_sum, mul_pad, pad_sum]
  refine congrArg (fun y : ℝ => (y : EReal)) (congrArg (pad _) (funext fun t => Finset.sum_congr rfl fun d _ => ?_))
  rw [C, mul_comm c.val, mul_comm h.val]

theorem ref_ds (A : Args D x0 x1 x2 x3 x4) (c : Fin 128) (h : Fin 16) (i : Fin 64) (j : Fin 576) : val_main_v166 (F := Ideal) x0 x1 x2 x3 x4 (ix4 c h i j) = (pad (64 * c.val + j.val) (DS D h.val (64 * c.val + i.val)) : EReal) := by
  obtain ⟨M, hM, hZ⟩ := ref_exp A c h i
  have z := mul_pos (Z_pos D h.val (64 * c.val + i.val) (by omega)) (Real.exp_pos (-M))
  have e : val_main_v166 (F := Ideal) x0 x1 x2 x3 x4 (ix4 c h i j) = Scalar.select (IntOp.cmpi CmpIPredicate.sge (IntOp.addi (IntOp.subi (IntOp.muli (BitVec.ofNat 32 c.val) 64#32) 512#32) (BitVec.ofNat 32 j.val)) 0#32)
      ((Ideal.div (val_main_v150 (F := Ideal) x0 x4 (ix4 c h i j)) (val_main_v138 (F := Ideal) x0 x1 x2 x3 (ix3 c h i))
        + ∑ _x : Fin 1, -∑ k, val_main_v150 (F := Ideal) x0 x4 (ix4 c h i k) * Ideal.div 1 (val_main_v138 (F := Ideal) x0 x1 x2 x3 (ix3 c h i) * val_main_v138 (F := Ideal) x0 x1 x2 x3 (ix3 c h i)) * val_main_v137 (F := Ideal) x0 x1 x2 x3 (ix4 c h i k))
        * val_main_v137 (F := Ideal) x0 x1 x2 x3 (ix4 c h i j)) 0 := by
    pointwise [val_main_v166, val_main_v112, val_main_v164, val_main_v165, val_main_v111, val_main_v163, val_main_cst_37, val_main_v109, val_main_v110, val_main_v160, val_main_v162, val_main_v107, val_main_v108, val_main_c_22, val_main_v159, val_main_v161, val_main_v106, val_main_v105, val_main_v139, val_main_v158, val_main_cst_36, val_main_v103, val_main_v104, val_main_v157, val_main_v69, val_main_v102, val_main_v156, val_main_v67, val_main_v68, val_main_c_21, val_main_v155, val_main_cst_35, val_main_c_15, val_main_v154, val_main_v153, val_main_v144, val_main_v143, val_main_v142, val_main_cst_34]
  rw [e, place_word, Finset.univ_unique, Finset.sum_singleton, hZ, ← EReal.coe_mul, Ideal.div_coe z.ne', Ideal.div_coe (mul_pos z z).ne', one_mul]
  simp only [hM, ref_ct A, ← EReal.coe_mul, coe_sum, ← EReal.coe_neg, ← EReal.coe_add]
  unfold pad
  by_cases k : 512 ≤ 64 * c.val + j.val
  · simp only [if_pos k]
    refine congrArg (fun y : ℝ => (y : EReal)) ?_
    have hw (t : ℕ) (ht : allowed (64 * c.val + i.val) t) : Real.exp (score D h.val (64 * c.val + i.val) t) * Real.exp (-M) * (1 / (Z D h.val (64 * c.val + i.val) * Real.exp (-M))) = P D h.val (64 * c.val + i.val) t := by
      rw [← row_weight h.val _ _ M, if_pos ht]
    have hs : ∑ k : Fin 576, (if 512 ≤ 64 * c.val + k.val then DP D h.val (64 * c.val + i.val) (64 * c.val + k.val - 512) else 0)
        * (1 / (Z D h.val (64 * c.val + i.val) * Real.exp (-M) * (Z D h.val (64 * c.val + i.val) * Real.exp (-M))))
        * (if 512 ≤ 64 * c.val + k.val then Real.exp (score D h.val (64 * c.val + i.val) (64 * c.val + k.val - 512)) * Real.exp (-M) else 0)
        = (∑ u ∈ Finset.range 8192, DP D h.val (64 * c.val + i.val) u * P D h.val (64 * c.val + i.val) u) * (1 / (Z D h.val (64 * c.val + i.val) * Real.exp (-M))) := by
      rw [← sum_pad c _ (64 * c.val + i.val) (by omega) (fun t a => by rw [P_zero D a, mul_zero]), Finset.sum_mul]
      refine Finset.sum_congr rfl fun k _ => ?_
      unfold pad
      split_ifs with q
      · dsimp only
        rw [← hw (64 * c.val + k.val - 512) (by unfold allowed; omega)]; ring
      · simp
    rw [hs, DS, ← hw (64 * c.val + j.val - 512) (by unfold allowed; omega)]
    ring
  · simp only [if_neg k]; rfl

theorem ref_dqn (A : Args D x0 x1 x2 x3 x4) (s : Fin 8192) (h : Fin 16) (d : Fin 128) : val_main_v180 (F := Ideal) x0 x1 x2 x3 x4 (ix3 s h d) = (DQn D h.val s.val d.val : EReal) := by
  have e : val_main_v180 (F := Ideal) x0 x1 x2 x3 x4 (ix3 s h d) = ∑ j : Fin 576, val_main_v166 (F := Ideal) x0 x1 x2 x3 x4 (ix4 ⟨s.val / 64, by omega⟩ h ⟨s.val % 64, by omega⟩ j) * Ideal.ofBits FTy.f32 1035273459#32 * val_main_v82 (F := Ideal) x0 x2 (ix4 ⟨s.val / 64, by omega⟩ j h d) := by
    pointwise [val_main_v180, val_main_v175, val_main_v174, val_main_v171, val_main_v170, val_main_cst_40]
  rw [e, sc_eq]
  simp only [ref_ds A, ref_band_k A, ← EReal.coe_mul, coe_sum, pad_triple]
  refine congrArg (fun y : ℝ => (y : EReal)) ?_
  rw [sum_pad ⟨s.val / 64, by omega⟩ (fun t => DS D h.val (64 * (s.val / 64) + s.val % 64) t * sc * Kn D h.val t d.val) s.val rfl (fun t a => by rw [show 64 * (s.val / 64) + s.val % 64 = s.val by omega, DS_zero D a, zero_mul, zero_mul])]
  rw [show 64 * (s.val / 64) + s.val % 64 = s.val by omega]; rfl

theorem ref_band_dv (A : Args D x0 x1 x2 x3 x4) (c : Fin 128) (j : Fin 576) (h : Fin 16) (d : Fin 128) : val_main_v152 (F := Ideal) x0 x1 x2 x3 x4 (ix4 c j h d) = ((∑ i : Fin 64, pad (64 * c.val + j.val) (fun t => P D h.val (64 * c.val + i.val) t * C D h.val (64 * c.val + i.val) d.val) : ℝ) : EReal) := by
  have e : val_main_v152 (F := Ideal) x0 x1 x2 x3 x4 (ix4 c j h d) = ∑ i : Fin 64, x4 (ix2 ⟨c.val * 64 + i.val, by omega⟩ ⟨h.val * 128 + d.val, by omega⟩) * val_main_v141 (F := Ideal) x0 x1 x2 x3 (ix4 c h i j) := by pointwise [val_main_v152, val_main_v151, val_main_v149, val_main_v148]
  rw [e]
  simp only [A.ct, ref_weight A, ← EReal.coe_mul, coe_sum]
  refine congrArg (fun y : ℝ => (y : EReal)) (Finset.sum_congr rfl fun i _ => ?_)
  rw [← pad_smul, C, mul_comm c.val, mul_comm h.val, mul_comm (D.ct _ _)]

theorem ref_dv (A : Args D x0 x1 x2 x3 x4) (t : Fin 8192) (h : Fin 16) (d : Fin 128) : val_main_v185 (F := Ideal) x0 x1 x2 x3 x4 (ix3 t h d) = (DV D 8192 h.val t.val d.val : EReal) := by
  have e : val_main_v185 (F := Ideal) x0 x1 x2 x3 x4 (ix3 t h d) = val_main_v177 (F := Ideal) x0 x1 x2 x3 x4 (ix3 ⟨512 + t.val, by omega⟩ h d) := by pointwise [val_main_v185]
  have z : val_main_v176 (F := Ideal) (ix3 ⟨512 + t.val, by omega⟩ h d) = 0 := by pointwise [val_main_v176, val_main_cst_41]
  rw [e]
  unfold val_main_v177
  refine (scatter_rows _ _ _ val_row (512 + t.val) (by omega) h d).trans ?_
  rw [z, zero_add]
  simp only [ref_band_dv A, dite_eq_ite]
  simp only [coe_ite_zero, coe_sum]
  exact congrArg (fun y : ℝ => (y : EReal)) (sum_back t.val t.isLt (fun s t => P D h.val s t * C D h.val s d.val) (fun s t a => by rw [P_zero D a]; simp only [zero_mul]))

theorem ref_band_dkn (A : Args D x0 x1 x2 x3 x4) (c : Fin 128) (j : Fin 576) (h : Fin 16) (d : Fin 128) : val_main_v173 (F := Ideal) x0 x1 x2 x3 x4 (ix4 c j h d) = ((∑ i : Fin 64, pad (64 * c.val + j.val) (fun t => DS D h.val (64 * c.val + i.val) t * sc * Qn D h.val (64 * c.val + i.val) d.val) : ℝ) : EReal) := by
  have e : val_main_v173 (F := Ideal) x0 x1 x2 x3 x4 (ix4 c j h d) = ∑ i : Fin 64, val_main_v166 (F := Ideal) x0 x1 x2 x3 x4 (ix4 c h i j) * Ideal.ofBits FTy.f32 1035273459#32 * val_main_v66 (F := Ideal) x0 x1 (ix4 c i h d) := by pointwise [val_main_v173, val_main_v172, val_main_v171, val_main_v170, val_main_cst_40]
  rw [e, sc_eq]
  simp only [ref_ds A, ref_row_q A, ← EReal.coe_mul, coe_sum, pad_smul]

theorem ref_dkn (A : Args D x0 x1 x2 x3 x4) (t : Fin 8192) (h : Fin 16) (d : Fin 128) : val_main_v187 (F := Ideal) x0 x1 x2 x3 x4 (ix3 t h d) = (DKn D 8192 h.val t.val d.val : EReal) := by
  have e : val_main_v187 (F := Ideal) x0 x1 x2 x3 x4 (ix3 t h d) = val_main_v179 (F := Ideal) x0 x1 x2 x3 x4 (ix3 ⟨512 + t.val, by omega⟩ h d) := by pointwise [val_main_v187]
  have z : val_main_v178 (F := Ideal) (ix3 ⟨512 + t.val, by omega⟩ h d) = 0 := by pointwise [val_main_v178, val_main_cst_42]
  rw [e]
  unfold val_main_v179
  refine (scatter_rows _ _ _ key_row (512 + t.val) (by omega) h d).trans ?_
  rw [z, zero_add]
  simp only [ref_band_dkn A, dite_eq_ite]
  simp only [coe_ite_zero, coe_sum]
  exact congrArg (fun y : ℝ => (y : EReal)) (sum_back t.val t.isLt (fun s t => DS D h.val s t * sc * Qn D h.val s d.val) (fun s t a => by rw [DS_zero D a]; simp only [zero_mul]))

theorem ref_bias_sum (A : Args D x0 x1 x2 x3 x4) (h : Fin 16) (i : Fin 64) (j : Fin 576) : val_main_v169 (F := Ideal) x0 x1 x2 x3 x4 (ix3 h i j) = ((∑ c : Fin 128, pad (64 * c.val + j.val) (DS D h.val (64 * c.val + i.val)) : ℝ) : EReal) := by
  have e : val_main_v169 (F := Ideal) x0 x1 x2 x3 x4 (ix3 h i j) = ∑ _x : Fin 1, ∑ c : Fin 128, val_main_v166 (F := Ideal) x0 x1 x2 x3 x4 (ix4 c h i j) := by pointwise [val_main_v169, val_main_v168, val_main_cst_39, val_main_v167, val_main_cst_38]
  rw [e, Finset.univ_unique, Finset.sum_singleton]
  simp only [ref_ds A, coe_sum]

theorem ref_dr (A : Args D x0 x1 x2 x3 x4) (h : Fin 16) (r : Fin 513) : val_main_v183 (F := Ideal) x0 x1 x2 x3 x4 (ix3 0 h r) = (DR D h.val r.val : EReal) := by
  have e : val_main_v183 (F := Ideal) x0 x1 x2 x3 x4 (ix3 0 h r) = val_main_v182 (F := Ideal) x0 x1 x2 x3 x4 (ix2 h r) := by pointwise [val_main_v183]
  have z : val_main_v181 (F := Ideal) (ix2 h r) = 0 := by pointwise [val_main_v181, val_main_cst_43]
  rw [e]
  unfold val_main_v182
  refine (scatter_bias _ _ _ (fun i j => min (i.val + 768 - j.val) 512) bias_word (fun i j => by omega) h r).trans ?_
  rw [z, zero_add]
  simp only [ref_bias_sum A, coe_ite_zero, coe_sum]
  refine congrArg (fun y : ℝ => (y : EReal)) ?_
  rw [DR, ← sum_chunks (fun s => ∑ t ∈ Finset.range 8192, if dist s t = r.val then DS D h.val s t else 0) 64 128]
  refine Eq.trans ?_ Finset.sum_comm
  refine Finset.sum_congr rfl fun i _ => ?_
  have k (c : Fin 128) : ∑ t ∈ Finset.range 8192, (if dist (64 * c.val + i.val) t = r.val then DS D h.val (64 * c.val + i.val) t else 0)
      = ∑ j : Fin 576, if min (i.val + 768 - j.val) 512 = r.val then pad (64 * c.val + j.val) (DS D h.val (64 * c.val + i.val)) else 0 := by
    rw [← sum_pad c _ (64 * c.val + i.val) (by omega) (fun t a => by rw [DS_zero D a, ite_self])]
    refine Finset.sum_congr rfl fun j _ => ?_
    unfold pad dist
    by_cases q : 512 ≤ 64 * c.val + j.val
    · rw [if_pos q, if_pos q]
      dsimp only
      rw [show 64 * c.val + i.val + 256 - (64 * c.val + j.val - 512) = i.val + 768 - j.val by omega]
    · rw [if_neg q, if_neg q, ite_self]
  simp only [k]
  rw [Finset.sum_comm]
  refine Finset.sum_congr rfl fun j _ => ?_
  split_ifs
  · rfl
  · exact Finset.sum_const_zero.symm

theorem ref_dk (A : Args D x0 x1 x2 x3 x4) (s : Fin 8192) (h : Fin 16) (d : Fin 128) : val_main_v209 (F := Ideal) x0 x1 x2 x3 x4 (ix3 s h d) = (DK D h.val s.val d.val : EReal) := by
  have e : val_main_v209 (F := Ideal) x0 x1 x2 x3 x4 (ix3 s h d) = val_main_v187 (F := Ideal) x0 x1 x2 x3 x4 (ix3 s h d) * x2 (ix2 0 d) * val_main_v30 (F := Ideal) x0 (ix3 s h 0)
      + val_main_v21 (F := Ideal) x0 (ix3 s h d) * (∑ y : Fin 1, Ideal.div ((∑ e, val_main_v21 (F := Ideal) x0 (ix3 s h e) * (val_main_v187 (F := Ideal) x0 x1 x2 x3 x4 (ix3 s h e) * x2 (ix2 0 e))) * val_main_v33 (F := Ideal) x0 (ix3 s h y)) (Ideal.ofBits FTy.f32 1124073472#32))
      + (∑ y : Fin 1, Ideal.div ((∑ e, val_main_v21 (F := Ideal) x0 (ix3 s h e) * (val_main_v187 (F := Ideal) x0 x1 x2 x3 x4 (ix3 s h e) * x2 (ix2 0 e))) * val_main_v33 (F := Ideal) x0 (ix3 s h y)) (Ideal.ofBits FTy.f32 1124073472#32)) * val_main_v21 (F := Ideal) x0 (ix3 s h d) := by
    pointwise [val_main_v209, val_main_v207, val_main_v208, val_main_v200, val_main_v206, val_main_v205, val_main_v194, val_main_v199, val_main_v204, val_main_v193, val_main_v203, val_main_cst_49, val_main_v36, val_main_v201, val_main_v202, val_main_v22, val_main_v198, val_main_cst_48, val_main_v197, val_main_v196, val_main_cst_47]
  rw [e, Finset.univ_unique, Finset.sum_singleton, width_eq, Ideal.div_coe (by norm_num)]
  rw [show (default : Fin 1) = 0 from rfl, ref_slope_k A, ref_inv_k A]
  simp only [ref_dkn A, ref_k A, A.kg, ← EReal.coe_mul, coe_sum, ← EReal.coe_add]
  exact congrArg (fun y : ℝ => (y : EReal)) (nb_eq (K D h.val s.val) D.kg (DKn D 8192 h.val s.val) d.val)

theorem ref_dq (A : Args D x0 x1 x2 x3 x4) (s : Fin 8192) (h : Fin 16) (d : Fin 128) : val_main_v233 (F := Ideal) x0 x1 x2 x3 x4 (ix3 s h d) = (DQ D h.val s.val d.val : EReal) := by
  have e : val_main_v233 (F := Ideal) x0 x1 x2 x3 x4 (ix3 s h d) = val_main_v180 (F := Ideal) x0 x1 x2 x3 x4 (ix3 s h d) * x1 (ix2 0 d) * val_main_v11 (F := Ideal) x0 (ix3 s h 0)
      + val_main_v2 (F := Ideal) x0 (ix3 s h d) * (∑ y : Fin 1, Ideal.div ((∑ e, val_main_v2 (F := Ideal) x0 (ix3 s h e) * (val_main_v180 (F := Ideal) x0 x1 x2 x3 x4 (ix3 s h e) * x1 (ix2 0 e))) * val_main_v14 (F := Ideal) x0 (ix3 s h y)) (Ideal.ofBits FTy.f32 1124073472#32))
      + (∑ y : Fin 1, Ideal.div ((∑ e, val_main_v2 (F := Ideal) x0 (ix3 s h e) * (val_main_v180 (F := Ideal) x0 x1 x2 x3 x4 (ix3 s h e) * x1 (ix2 0 e))) * val_main_v14 (F := Ideal) x0 (ix3 s h y)) (Ideal.ofBits FTy.f32 1124073472#32)) * val_main_v2 (F := Ideal) x0 (ix3 s h d) := by
    pointwise [val_main_v233, val_main_v231, val_main_v232, val_main_v224, val_main_v230, val_main_v229, val_main_v218, val_main_v223, val_main_v228, val_main_v217, val_main_v227, val_main_cst_55, val_main_v17, val_main_v225, val_main_v226, val_main_v3, val_main_v222, val_main_cst_54, val_main_v221, val_main_v220, val_main_cst_53]
  rw [e, Finset.univ_unique, Finset.sum_singleton, width_eq, Ideal.div_coe (by norm_num)]
  rw [show (default : Fin 1) = 0 from rfl, ref_slope_q A, ref_inv_q A]
  simp only [ref_dqn A, ref_q A, A.qg, ← EReal.coe_mul, coe_sum, ← EReal.coe_add]
  exact congrArg (fun y : ℝ => (y : EReal)) (nb_eq (Q D h.val s.val) D.qg (DQn D h.val s.val) d.val)

theorem ref_dkg (A : Args D x0 x1 x2 x3 x4) (d : Fin 128) : val_main_v210 (F := Ideal) x0 x1 x2 x3 x4 (ix2 0 d) = (DKg D d.val : EReal) := by
  have e : val_main_v210 (F := Ideal) x0 x1 x2 x3 x4 (ix2 0 d) = Ideal.hostReduceAdd reducesTo_S1x1x128_S128_d0_1 (shapeCast S1x1x128 (Host.reduceAdd (F := Ideal) (φ := .f32) (mulf (F := Ideal) (φ := .f32) (val_main_v35 (F := Ideal) x0) (val_main_v187 (F := Ideal) x0 x1 x2 x3 x4)) (constant S_ FTy.f32 0#32) reducesTo_S8192x16x128_S128_d0_1 h_S_) shapeCasts_S128_S1x1x128) 0 (ix1 d) := by
    pointwise [val_main_v210, val_main_v195, val_main_v192, val_main_cst_46, val_main_v191, val_main_v190, val_main_cst_45]
  rw [e, reduce_unit, zero_add]
  have e' : shapeCast S1x1x128 (Host.reduceAdd (F := Ideal) (φ := .f32) (mulf (F := Ideal) (φ := .f32) (val_main_v35 (F := Ideal) x0) (val_main_v187 (F := Ideal) x0 x1 x2 x3 x4)) (constant S_ FTy.f32 0#32) reducesTo_S8192x16x128_S128_d0_1 h_S_) shapeCasts_S128_S1x1x128 (ix3 0 0 d)
      = Ideal.hostReduceAdd reducesTo_S8192x16x128_S128_d0_1 (fun i => val_main_v35 (F := Ideal) x0 i * val_main_v187 (F := Ideal) x0 x1 x2 x3 x4 i) 0 (ix1 d) := by
    pointwise
    rfl
  rw [e', reduce_rows, zero_add]
  simp only [ref_hat_k A, ref_dkn A, ← EReal.coe_mul, coe_sum]
  refine congrArg (fun y : ℝ => (y : EReal)) ?_
  rw [Finset.sum_comm, DKg, ← Fin.sum_univ_eq_sum_range (fun h => ∑ s ∈ Finset.range 8192, DKn D 8192 h s d.val * Kh D h s d.val) 16]
  refine Finset.sum_congr rfl fun h _ => ?_
  rw [← Fin.sum_univ_eq_sum_range (fun s => DKn D 8192 h.val s d.val * Kh D h.val s d.val) 8192]
  exact Finset.sum_congr rfl fun s _ => mul_comm _ _

theorem ref_dqg (A : Args D x0 x1 x2 x3 x4) (d : Fin 128) : val_main_v234 (F := Ideal) x0 x1 x2 x3 x4 (ix2 0 d) = (DQg D d.val : EReal) := by
  have e : val_main_v234 (F := Ideal) x0 x1 x2 x3 x4 (ix2 0 d) = Ideal.hostReduceAdd reducesTo_S1x1x128_S128_d0_1 (shapeCast S1x1x128 (Host.reduceAdd (F := Ideal) (φ := .f32) (mulf (F := Ideal) (φ := .f32) (val_main_v16 (F := Ideal) x0) (val_main_v180 (F := Ideal) x0 x1 x2 x3 x4)) (constant S_ FTy.f32 0#32) reducesTo_S8192x16x128_S128_d0_1 h_S_) shapeCasts_S128_S1x1x128) 0 (ix1 d) := by
    pointwise [val_main_v234, val_main_v219, val_main_v216, val_main_cst_52, val_main_v215, val_main_v214, val_main_cst_51]
  rw [e, reduce_unit, zero_add]
  have e' : shapeCast S1x1x128 (Host.reduceAdd (F := Ideal) (φ := .f32) (mulf (F := Ideal) (φ := .f32) (val_main_v16 (F := Ideal) x0) (val_main_v180 (F := Ideal) x0 x1 x2 x3 x4)) (constant S_ FTy.f32 0#32) reducesTo_S8192x16x128_S128_d0_1 h_S_) shapeCasts_S128_S1x1x128 (ix3 0 0 d)
      = Ideal.hostReduceAdd reducesTo_S8192x16x128_S128_d0_1 (fun i => val_main_v16 (F := Ideal) x0 i * val_main_v180 (F := Ideal) x0 x1 x2 x3 x4 i) 0 (ix1 d) := by
    pointwise
    rfl
  rw [e', reduce_rows, zero_add]
  simp only [ref_hat_q A, ref_dqn A, ← EReal.coe_mul, coe_sum]
  refine congrArg (fun y : ℝ => (y : EReal)) ?_
  rw [Finset.sum_comm, DQg, ← Fin.sum_univ_eq_sum_range (fun h => ∑ s ∈ Finset.range 8192, DQn D h s d.val * Qh D h s d.val) 16]
  refine Finset.sum_congr rfl fun h _ => ?_
  rw [← Fin.sum_univ_eq_sum_range (fun s => DQn D h.val s d.val * Qh D h.val s d.val) 8192]
  exact Finset.sum_congr rfl fun s _ => mul_comm _ _

theorem ref_out_q (A : Args D x0 x1 x2 x3 x4) (s : Fin 8192) (e : Fin 2048) : val_main_v242 (F := Ideal) x0 x1 x2 x3 x4 (ix2 s e) = (DQ D (e.val / 128) s.val (e.val % 128) : EReal) := by
  have e' : val_main_v242 (F := Ideal) x0 x1 x2 x3 x4 (ix2 s e) = ((if h : (2 ≤ e.val / 2048 ∧ e.val / 2048 - 2 < 1) ∧ e.val / 128 % 16 < 16 ∧ e.val % 128 < 128 then val_main_v185 (F := Ideal) x0 x1 x2 x3 x4 (ix3 s ⟨e.val / 128 % 16, h.2.1⟩ ⟨e.val % 128, h.2.2⟩) else 0) + (if h : (1 ≤ e.val / 2048 ∧ e.val / 2048 - 1 < 1) ∧ e.val / 128 % 16 < 16 ∧ e.val % 128 < 128 then val_main_v209 (F := Ideal) x0 x1 x2 x3 x4 (ix3 s ⟨e.val / 128 % 16, h.2.1⟩ ⟨e.val % 128, h.2.2⟩) else 0)) + (if h : e.val / 2048 < 1 ∧ e.val / 128 % 16 < 16 ∧ e.val % 128 < 128 then val_main_v233 (F := Ideal) x0 x1 x2 x3 x4 (ix3 s ⟨e.val / 128 % 16, h.2.1⟩ ⟨e.val % 128, h.2.2⟩) else 0) := by
    pointwise [val_main_v242, val_main_v239, val_main_v238, val_main_v237, val_main_v213, val_main_v236, val_main_v189, val_main_v212, val_main_v235, val_main_cst_56, val_main_v188, val_main_cst_44, val_main_v211, val_main_cst_50]
  rw [e', dif_neg (by omega), dif_neg (by omega), dif_pos (by omega), zero_add, zero_add, ref_dq A]
  refine congrArg (fun y : ℝ => (y : EReal)) ?_
  dsimp only
  rw [show e.val / 128 % 16 = e.val / 128 by omega]

theorem ref_out_k (A : Args D x0 x1 x2 x3 x4) (s : Fin 8192) (e : Fin 2048) : val_main_v243 (F := Ideal) x0 x1 x2 x3 x4 (ix2 s e) = (DK D (e.val / 128) s.val (e.val % 128) : EReal) := by
  have e' : val_main_v243 (F := Ideal) x0 x1 x2 x3 x4 (ix2 s e) = ((if h : (2 ≤ (2048 + e.val) / 2048 ∧ (2048 + e.val) / 2048 - 2 < 1) ∧ (2048 + e.val) / 128 % 16 < 16 ∧ (2048 + e.val) % 128 < 128 then val_main_v185 (F := Ideal) x0 x1 x2 x3 x4 (ix3 s ⟨(2048 + e.val) / 128 % 16, h.2.1⟩ ⟨(2048 + e.val) % 128, h.2.2⟩) else 0) + (if h : (1 ≤ (2048 + e.val) / 2048 ∧ (2048 + e.val) / 2048 - 1 < 1) ∧ (2048 + e.val) / 128 % 16 < 16 ∧ (2048 + e.val) % 128 < 128 then val_main_v209 (F := Ideal) x0 x1 x2 x3 x4 (ix3 s ⟨(2048 + e.val) / 128 % 16, h.2.1⟩ ⟨(2048 + e.val) % 128, h.2.2⟩) else 0)) + (if h : (2048 + e.val) / 2048 < 1 ∧ (2048 + e.val) / 128 % 16 < 16 ∧ (2048 + e.val) % 128 < 128 then val_main_v233 (F := Ideal) x0 x1 x2 x3 x4 (ix3 s ⟨(2048 + e.val) / 128 % 16, h.2.1⟩ ⟨(2048 + e.val) % 128, h.2.2⟩) else 0) := by
    pointwise [val_main_v243, val_main_v240, val_main_v238, val_main_v237, val_main_v213, val_main_v236, val_main_v189, val_main_v212, val_main_v235, val_main_cst_56, val_main_v188, val_main_cst_44, val_main_v211, val_main_cst_50]
  rw [e', dif_neg (by omega), dif_pos (by omega), dif_neg (by omega), zero_add, add_zero, ref_dk A]
  refine congrArg (fun y : ℝ => (y : EReal)) ?_
  dsimp only
  rw [show (2048 + e.val) / 128 % 16 = e.val / 128 by omega, show (2048 + e.val) % 128 = e.val % 128 by omega]

theorem ref_out_v (A : Args D x0 x1 x2 x3 x4) (s : Fin 8192) (e : Fin 2048) : val_main_v244 (F := Ideal) x0 x1 x2 x3 x4 (ix2 s e) = (DV D 8192 (e.val / 128) s.val (e.val % 128) : EReal) := by
  have e' : val_main_v244 (F := Ideal) x0 x1 x2 x3 x4 (ix2 s e) = ((if h : (2 ≤ (4096 + e.val) / 2048 ∧ (4096 + e.val) / 2048 - 2 < 1) ∧ (4096 + e.val) / 128 % 16 < 16 ∧ (4096 + e.val) % 128 < 128 then val_main_v185 (F := Ideal) x0 x1 x2 x3 x4 (ix3 s ⟨(4096 + e.val) / 128 % 16, h.2.1⟩ ⟨(4096 + e.val) % 128, h.2.2⟩) else 0) + (if h : (1 ≤ (4096 + e.val) / 2048 ∧ (4096 + e.val) / 2048 - 1 < 1) ∧ (4096 + e.val) / 128 % 16 < 16 ∧ (4096 + e.val) % 128 < 128 then val_main_v209 (F := Ideal) x0 x1 x2 x3 x4 (ix3 s ⟨(4096 + e.val) / 128 % 16, h.2.1⟩ ⟨(4096 + e.val) % 128, h.2.2⟩) else 0)) + (if h : (4096 + e.val) / 2048 < 1 ∧ (4096 + e.val) / 128 % 16 < 16 ∧ (4096 + e.val) % 128 < 128 then val_main_v233 (F := Ideal) x0 x1 x2 x3 x4 (ix3 s ⟨(4096 + e.val) / 128 % 16, h.2.1⟩ ⟨(4096 + e.val) % 128, h.2.2⟩) else 0) := by
    pointwise [val_main_v244, val_main_v241, val_main_v238, val_main_v237, val_main_v213, val_main_v236, val_main_v189, val_main_v212, val_main_v235, val_main_cst_56, val_main_v188, val_main_cst_44, val_main_v211, val_main_cst_50]
  rw [e', dif_pos (by omega), dif_neg (by omega), dif_neg (by omega), add_zero, add_zero, ref_dv A]
  refine congrArg (fun y : ℝ => (y : EReal)) ?_
  dsimp only
  rw [show (4096 + e.val) / 128 % 16 = e.val / 128 by omega, show (4096 + e.val) % 128 = e.val % 128 by omega]

end Backward

end Cert.Proof.Att

end
-- ==== Proof.Att.lean ====
/-
  The attention's backward call: its value.
-/
module

public import proofs.«01_k».proof.Defs
public import proofs.«01_k».proof.Proof.AttFinal
public import proofs.«01_k».proof.Proof.AttDrel
public import proofs.«01_k».proof.Proof.AttFinite
public import proofs.«01_k».proof.Proof.AttRef
public import Idealize.ShloMosaic.Lib.Claim

@[expose] public section

set_option maxRecDepth 16384

noncomputable section

namespace Cert.Proof.Att

open Idealize.ShloMosaic Idealize.ShloMosaic.TcCoe Idealize.SL.Sem
open Cert.AttIdeal Cert.AttIdeal.Gen Cert.AttIdeal.Run

/-! ## The biases' gradients -/

/-- The gradients of the biases as an array. -/
def relOf (D : Data) : S1x16x513.Idx → EReal := fun i => (DR D (i 1).val (i 2).val : EReal)

/-- One row of scores, by the places of its window. -/
theorem dr_row (D : Data) (h r b i : ℕ) (hb : b < 32) (hi : i < 256) :
    ∑ t ∈ Finset.range 8192, (if dist (256 * b + i) t = r then DS D h (256 * b + i) t else 0)
      = ∑ k : Fin 768, if min (i + 768 - k.val) 512 = r then at' b k.val (DS D h (256 * b + i)) else 0 := by
  rw [← at_sum b hb _ (256 * b + i) (by omega) (fun t a => by rw [DS_zero D a]; exact ite_self 0)]
  refine Finset.sum_congr rfl fun k _ => ?_
  unfold at' dist
  by_cases q : 512 ≤ 256 * b + k.val
  · rw [if_pos q, if_pos q]
    dsimp only
    rw [show 256 * b + i + 256 - (256 * b + k.val - 512) = i + 768 - k.val by omega]
  · rw [if_neg q, if_neg q, ite_self]

theorem rows_all (f : ℕ → ℝ) : ∀ n, ∑ b ∈ Finset.range n, ∑ i : Fin 256, f (256 * b + i.val) = ∑ s ∈ Finset.range (256 * n), f s
  | 0 => rfl
  | n + 1 => by rw [Finset.sum_range_succ, rows_all f n, rows_step]

theorem dr_eq (D : Data) (h r : ℕ) :
    DR D h r = ∑ i : Fin 256, ∑ k : Fin 768, if min (i.val + 768 - k.val) 512 = r then bandSum D h i.val k.val else 0 := by
  unfold DR
  rw [show (8192 : ℕ) = 256 * 32 from rfl, ← rows_all, show (256 * 32 : ℕ) = 8192 from rfl]
  have e : ∀ b ∈ Finset.range 32, ∑ i : Fin 256, ∑ t ∈ Finset.range 8192, (if dist (256 * b + i.val) t = r then DS D h (256 * b + i.val) t else 0)
      = ∑ i : Fin 256, ∑ k : Fin 768, if min (i.val + 768 - k.val) 512 = r then at' b k.val (DS D h (256 * b + i.val)) else 0 :=
    fun b hb => Finset.sum_congr rfl fun i _ => dr_row D h r b i.val (Finset.mem_range.1 hb) i.isLt
  rw [Finset.sum_congr rfl e, Finset.sum_comm]
  refine Finset.sum_congr rfl fun i _ => ?_
  rw [Finset.sum_comm]
  refine Finset.sum_congr rfl fun k _ => ?_
  split_ifs
  · rfl
  · exact Finset.sum_const_zero

theorem collect_rel (D : Data) : collect (perDist (bandArr D)) = relOf D := by
  funext i
  obtain ⟨o, h, r, rfl⟩ : ∃ (o : Fin 1) (h : Fin 16) (r : Fin 513), i = ix3 o h r := ⟨i 0, i 1, i 2, eq_ix3 i⟩
  obtain rfl : o = 0 := Subsingleton.elim _ _
  refine (collect_apply _ h (colSum (bandSum D h.val)) (fun u => perDist_apply _ h (bandSum D h.val) (fun _ _ => rfl) u) r).trans ?_
  rw [by_dist_split _ _ r.isLt, ← dr_eq]
  rfl

/-! ## The run -/

variable (m : (ℓ : Loc nD τ sig) → Buf (Elt Ideal) ℓ)

theorem suffix_rel (c : Dev nD) {D : Data} (h : (dats m 0 c).arrAt 14 cfg0.N = (bandArr D : S16x256x768.Idx → Elt Ideal .f32)) :
    Pipeline.afterTail₀ cfgs (dats m) 0 (V0 m) [hostOps1] c main_v64 = (relOf D : S1x16x513.Idx → Elt Ideal .f32) := by
  unfold Pipeline.afterTail₀
  rw [after_host]
  have e : Pipeline.withArrays (cfgs 0).spec c (V0 m c) (fun w => (dats m 0 c).arrAt w (cfgs 0).N) (Proc.devRef .tc main_v31_3) = (dats m 0 c).arrAt 14 cfg0.N :=
    Pipeline.withArrays_arr_shared spec0 c (V0 m c) (fun w => (dats m 0 c).arrAt w cfg0.N)
      ((dats m 0 c).arrAt_sharedIn (by decide) (V0 m c) (A_eq m c) cfg0.N) 14
  rw [e, h]
  exact collect_rel D

/-- The kernel's run: the results, of arguments that are real numbers. -/
theorem run (ρ : Dev nD → PrngReg) (D : Dev nD → Data) (A : ∀ c : Dev nD, Args (D c) (m ((c : Thread nD τ).loc main_arg0)) (m ((c : Thread nD τ).loc main_arg1)) (m ((c : Thread nD τ).loc main_arg2))
    (m ((c : Thread nD τ).loc main_arg3)) (m ((c : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v31_0) = (rowsOf (DQ (D c)) : S8192x2048.Idx → Elt Ideal .bf16)
      ∧ r.2.mem ((c.tc : Thread nD τ).loc main_v31_1) = (rowsOf (DK (D c)) : S8192x2048.Idx → Elt Ideal .bf16)
      ∧ r.2.mem ((c.tc : Thread nD τ).loc main_v31_2) = (rowsOf (DV (D c) 8192) : S8192x2048.Idx → Elt Ideal .bf16)
      ∧ r.2.mem ((c.tc : Thread nD τ).loc main_v64) = (relOf (D c) : S1x16x513.Idx → Elt Ideal .f32)
      ∧ r.2.mem ((c.tc : Thread nD τ).loc main_v31_4) = (rowOf (DQg (D c)) : S1x128.Idx → Elt Ideal .f32)
      ∧ r.2.mem ((c.tc : Thread nD τ).loc main_v31_5) = (rowOf (DKg (D c)) : S1x128.Idx → Elt Ideal .f32)) :=
  (θ_run _ _ _).mono (fun _ h c => ⟨((h.1 c).1 11).trans (final_dq m c (A c)), ((h.1 c).1 12).trans (final_dk m c (A c)),
    ((h.1 c).1 13).trans (final_dv m c (A c)), ((h.1 c).2 main_v64 (Pipeline.mem_restRefs_of main_v64 (by decide) (by decide))).trans (suffix_rel m c (final_db m c (A c))),
    ((h.1 c).1 15).trans (final_dqg m c (A c)), ((h.1 c).1 16).trans (final_dkg m c (A c))⟩) (run_main m ρ)

/-! ## The reference's results -/

section Reference
variable (W : Valuation Cert.AttRefIdeal.τ Cert.AttRefIdeal.sig (Elt Ideal)) {D : Data}
  (A : Args D (W (Proc.devRef .tc Cert.AttRefIdeal.main_arg0)) (W (Proc.devRef .tc Cert.AttRefIdeal.main_arg1)) (W (Proc.devRef .tc Cert.AttRefIdeal.main_arg2))
    (W (Proc.devRef .tc Cert.AttRefIdeal.main_arg3)) (W (Proc.devRef .tc Cert.AttRefIdeal.main_arg4)))
include A

theorem res_q : Cert.AttRefIdeal.Read.val_main_v242 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = rowsOf (DQ D) := by
  funext i
  obtain ⟨s, e, rfl⟩ : ∃ (s : Fin 8192) (e : Fin 2048), i = ix2 s e := ⟨i 0, i 1, eq_ix2 i⟩
  exact ref_out_q A s e
theorem res_k : Cert.AttRefIdeal.Read.val_main_v243 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = rowsOf (DK D) := by
  funext i
  obtain ⟨s, e, rfl⟩ : ∃ (s : Fin 8192) (e : Fin 2048), i = ix2 s e := ⟨i 0, i 1, eq_ix2 i⟩
  exact ref_out_k A s e
theorem res_v : Cert.AttRefIdeal.Read.val_main_v244 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = rowsOf (DV D 8192) := by
  funext i
  obtain ⟨s, e, rfl⟩ : ∃ (s : Fin 8192) (e : Fin 2048), i = ix2 s e := ⟨i 0, i 1, eq_ix2 i⟩
  exact ref_out_v A s e
theorem res_rel : Cert.AttRefIdeal.Read.val_main_v183 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = relOf D := by
  funext i
  obtain ⟨o, s, e, rfl⟩ : ∃ (o : Fin 1) (s : Fin 16) (e : Fin 513), i = ix3 o s e := ⟨i 0, i 1, i 2, eq_ix3 i⟩
  obtain rfl : o = 0 := Subsingleton.elim _ _
  exact ref_dr A s e
theorem res_qg : Cert.AttRefIdeal.Read.val_main_v234 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = rowOf (DQg D) := by
  funext i
  obtain ⟨o, e, rfl⟩ : ∃ (o : Fin 1) (e : Fin 128), i = ix2 o e := ⟨i 0, i 1, eq_ix2 i⟩
  obtain rfl : o = 0 := Subsingleton.elim _ _
  exact ref_dqg A e
theorem res_kg : Cert.AttRefIdeal.Read.val_main_v210 (F := Ideal) (W (Proc.devRef .tc Cert.AttRefIdeal.main_arg0)) (W (Proc.devRef .tc Cert.AttRefIdeal.main_arg1))
    (W (Proc.devRef .tc Cert.AttRefIdeal.main_arg2)) (W (Proc.devRef .tc Cert.AttRefIdeal.main_arg3)) (W (Proc.devRef .tc Cert.AttRefIdeal.main_arg4)) = rowOf (DKg D) := by
  funext i
  obtain ⟨o, e, rfl⟩ : ∃ (o : Fin 1) (e : Fin 128), i = ix2 o e := ⟨i 0, i 1, eq_ix2 i⟩
  obtain rfl : o = 0 := Subsingleton.elim _ _
  exact ref_dkg A e
end Reference

theorem algebraic [Cert.Pre_att_finite.Facts] : Cert.algebraic_AttIdeal_AttRefIdeal_pre_att_finite := by
  intro m ρ m' ρ' hpre hag
  obtain ⟨D, A⟩ : ∃ D : Dev nD → Data, ∀ c : Dev nD, Args (D c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := ⟨_, fun c => args_of_pre _ _ _ _ _ (hpre c)⟩
  have A' (c : Dev nD) : Args (D c) (m' ((c.tc : Thread Cert.AttRefIdeal.nD Cert.AttRefIdeal.τ).loc Cert.AttRefIdeal.main_arg0)) (m' ((c.tc : Thread Cert.AttRefIdeal.nD Cert.AttRefIdeal.τ).loc Cert.AttRefIdeal.main_arg1))
      (m' ((c.tc : Thread Cert.AttRefIdeal.nD Cert.AttRefIdeal.τ).loc Cert.AttRefIdeal.main_arg2)) (m' ((c.tc : Thread Cert.AttRefIdeal.nD Cert.AttRefIdeal.τ).loc Cert.AttRefIdeal.main_arg3))
      (m' ((c.tc : Thread Cert.AttRefIdeal.nD Cert.AttRefIdeal.τ).loc Cert.AttRefIdeal.main_arg4)) := by
    rw [(hag c).1, (hag c).2.1, (hag c).2.2.1, (hag c).2.2.2.1, (hag c).2.2.2.2]; exact A c
  exact ⟨fun c => rowsOf (DQ (D c)), fun c => rowsOf (DK (D c)), fun c => rowsOf (DV (D c) 8192), fun c => relOf (D c), fun c => rowOf (DQg (D c)), fun c => rowOf (DKg (D c)),
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (run m ρ D A) (frame m ρ)),
    (θ_run _ _ _).mono (fun _ h c => ⟨(h c).1.trans ((Cert.AttRefIdeal.Read.val_main_v242_eq _).trans (res_q _ (A' c))),
      (h c).2.1.trans ((Cert.AttRefIdeal.Read.val_main_v243_eq _).trans (res_k _ (A' c))),
      (h c).2.2.1.trans ((Cert.AttRefIdeal.Read.val_main_v244_eq _).trans (res_v _ (A' c))),
      (h c).2.2.2.1.trans ((Cert.AttRefIdeal.Read.val_main_v183_eq _).trans (res_rel _ (A' c))),
      (h c).2.2.2.2.1.trans ((Cert.AttRefIdeal.Read.val_main_v234_eq _).trans (res_qg _ (A' c))),
      (h c).2.2.2.2.2.1.trans ((Cert.AttRefIdeal.Read.val_main_v210_eq _).trans (res_kg _ (A' c))), (h c).2.2.2.2.2.2⟩) (Cert.AttRefIdeal.Value.run m' ρ')⟩

end Cert.Proof.Att

end
-- ==== Proof.AttFwdRef.lean ====
/-
  The attention's forward reference, at its entries, where its arguments are finite: its weights and its values are those
  of the reference of the backward call.
-/
module

public import proofs.«01_k».proof.Proof.AttRef
public import proofs.«01_k».proof.Proof.Gen.AttFwdRefIdeal.Read

@[expose] public section

set_option maxRecDepth 16384

noncomputable section

namespace Cert.Proof.Att

open Idealize.ShloMosaic Idealize.ShloMosaic.TcCoe Idealize.SL.Sem

/-- The attention's output: the values, weighed. -/
def O (D : Data) (h s d : ℕ) : ℝ := ∑ t ∈ Finset.range 8192, P D h s t * V D h t d

namespace Fwd

open Cert.AttFwdRefIdeal.Read

variable {D : Data} {x0 : Cert.AttRefIdeal.S8192x6144.Idx → EReal} {x1 x2 : Cert.AttRefIdeal.S1x128.Idx → EReal} {x3 : Cert.AttRefIdeal.S1x16x513.Idx → EReal} {x4 : Cert.AttRefIdeal.S8192x2048.Idx → EReal}

theorem same_band_v : val_main_v87 (F := Ideal) x0 = Cert.AttRefIdeal.Read.val_main_v95 (F := Ideal) x0 := rfl
theorem same_weight : val_main_v118 (F := Ideal) x0 x1 x2 x3 = Cert.AttRefIdeal.Read.val_main_v141 (F := Ideal) x0 x1 x2 x3 := rfl

theorem ref_out (A : Args D x0 x1 x2 x3 x4) (s : Fin 8192) (e : Fin 2048) :
    val_main_v122 (F := Ideal) x0 x1 x2 x3 (ix2 s e) = (O D (e.val / 128) s.val (e.val % 128) : EReal) := by
  have e1 : val_main_v122 (F := Ideal) x0 x1 x2 x3 (ix2 s e)
      = val_main_v119 (F := Ideal) x0 x1 x2 x3 (ix4 ⟨s.val / 64, by omega⟩ ⟨e.val / 128, by omega⟩ ⟨e.val % 128, by omega⟩ ⟨s.val % 64, by omega⟩) := by
    pointwise [val_main_v122, val_main_v121, val_main_v120]
  have e2 (c : Fin 128) (h : Fin 16) (d : Fin 128) (i : Fin 64) : val_main_v119 (F := Ideal) x0 x1 x2 x3 (ix4 c h d i)
      = ∑ j : Fin 576, val_main_v87 (F := Ideal) x0 (ix4 c j h d) * val_main_v118 (F := Ideal) x0 x1 x2 x3 (ix4 c h i j) := by
    pointwise [val_main_v119]
  rw [e1, e2, same_band_v, same_weight]
  simp only [ref_band_v A, ref_weight A, ← EReal.coe_mul, coe_sum, pad_mul]
  refine congrArg (fun y : ℝ => (y : EReal)) ?_
  have hs : 64 * (s.val / 64) + s.val % 64 = s.val := by omega
  rw [hs, sum_pad ⟨s.val / 64, by omega⟩ _ s.val rfl fun t ht => by rw [P_zero D ht, mul_zero]]
  exact Finset.sum_congr rfl fun t _ => mul_comm _ _

end Fwd

end Cert.Proof.Att

end
-- ==== Proof.AttFwdTile.lean ====
/-
  A point of the attention's forward grid, at its entries: a block of weights times the values of its window.
-/
module

public import proofs.«01_k».proof.Proof.AttTile
public import proofs.«01_k».proof.Proof.AttFwdRef
public import proofs.«01_k».proof.Proof.Gen.AttFwdIdeal.Frame

@[expose] public section

set_option maxRecDepth 16384

noncomputable section

namespace Cert.Proof.Att.Fwd

open Idealize.ShloMosaic Idealize.ShloMosaic.TcCoe Idealize.SL.Sem
open Cert.AttFwdIdeal Cert.AttFwdIdeal.Gen

/-- The weighed values of a block of queries. -/
def mix (p : Vec Ideal S256x768 .f32) (a b c : Vec Ideal S256x128 .f32) : Vec Ideal S256x128 .bf16 :=
  truncf .bf16 (matmul dot_S256x768_S768x128_S256x128_1_0_0_1_n_n none (truncf .bf16 p bitsLt_bf16_f32)
    (truncf .bf16 (concatenate S768x128 0 [⟨S256x128, a⟩, ⟨S256x128, b⟩, ⟨S256x128, c⟩] concatenates_S256x128_S256x128_S256x128_S768x128_d0) bitsLt_bf16_f32)
    (constant (F := Ideal) S256x128 .f32 0x00000000#32)) bitsLt_bf16_f32

theorem mix_apply (p : Vec Ideal S256x768 .f32) (a b c : Vec Ideal S256x128 .f32) (i : Fin 256) (d : Fin 128) :
    mix p a b c (ix2 i d) = ∑ k : Fin 768, p (ix2 i k) * cat a b c k d := by
  pointwise [mix]
  rfl

theorem pay_eq (w : BitVec 32) (s : Vec Ideal S256x768 .f32) (bm : Vec Ideal S1x256x768 .f32) (a b c : Vec Ideal S256x128 .f32) :
    k0_pay1 (F := Ideal) w s bm a b c = mix (Cert.AttIdeal.Gen.k0_pay5 w s bm) a b c := rfl
theorem scores_eq (q a b c : Vec Ideal S256x128 .f32) (qg kg : Vec Ideal S1x128 .f32) :
    k0_pay2 (F := Ideal) q a b c qg kg = Cert.AttIdeal.Gen.k0_pay4 q a b c qg kg := rfl

theorem hz : (![0, 0] : Fin 2 → ℕ) = fun _ => 0 := by funext a; fin_cases a <;> rfl
theorem hz3 : (![0, 0, 0] : Fin 3 → ℕ) = fun _ => 0 := by funext a; fin_cases a <;> rfl

/-- What a point leaves of its blocks. -/
theorem out_eq (t : grid0.Coords) (x : Cert.AttIdeal.Run.Blocks Ideal) :
    out0_10 (F := Ideal) t x.q x.k0 x.k1 x.k2 x.v0 x.v1 x.v2 x.qg x.kg x.bm
      = mix (Cert.AttIdeal.Gen.k0_pay5 (BitVec.ofNat 32 (t 1).val) (Cert.AttIdeal.Gen.k0_pay4 x.q x.k0 x.k1 x.k2 x.qg x.kg) x.bm) x.v0 x.v1 x.v2 := by
  unfold out0_10
  rw [View.canon_unit_zero hz]
  simp only [View.ld_unit_zero (S := S256x128) hz, View.ld_unit_zero (S := S1x128) hz, View.ld_unit_zero (S := S1x256x768) hz3]
  rw [pay_eq, scores_eq]

variable {D : Data} {h b : ℕ} {x : Cert.AttIdeal.Run.Blocks Ideal}

theorem mix_row (R : Reads D h b x) (hb : b < 32) (i : Fin 256) (d : Fin 128) :
    mix (Cert.AttIdeal.Gen.k0_pay5 (BitVec.ofNat 32 b) (Cert.AttIdeal.Gen.k0_pay4 x.q x.k0 x.k1 x.k2 x.qg x.kg) x.bm) x.v0 x.v1 x.v2 (ix2 i d)
      = (O D h (256 * b + i.val) d.val : EReal) := by
  rw [mix_apply]
  simp only [weight R hb i, cat_v R, ← EReal.coe_mul, coe_sum]
  refine congrArg (fun y : ℝ => (y : EReal)) ?_
  refine (Finset.sum_congr rfl fun k _ => ?_).trans (at_sum b hb (fun t => P D h (256 * b + i.val) t * V D h t d.val) (256 * b + i.val) (by omega) fun t ht => by rw [P_zero D ht, zero_mul])
  unfold at'
  split_ifs with hk
  · rw [row_eq hk k.isLt]
  · rw [zero_mul]

end Cert.Proof.Att.Fwd

end
-- ==== Proof.AttFwd.lean ====
/-
  The attention's forward call: the weighed values of every row and head, in the kernel and in the reference, where the
  arguments are finite.
-/
module

public import proofs.«01_k».proof.Defs
public import proofs.«01_k».proof.Proof.AttFwdTile
public import proofs.«01_k».proof.Proof.AttFinal
public import proofs.«01_k».proof.Proof.AttFinite
public import proofs.«01_k».proof.Pre_att_fwd_finite
public import proofs.«01_k».proof.Proof.Gen.AttFwdRefIdeal.Run
public import Idealize.ShloMosaic.Lib.Claim

@[expose] public section

set_option maxRecDepth 16384

noncomputable section

namespace Cert.Proof.Att.Fwd

open Idealize.ShloMosaic Idealize.ShloMosaic.TcCoe Idealize.SL.Sem
open Cert.AttFwdIdeal Cert.AttFwdIdeal.Gen

variable (m : (ℓ : Loc nD τ sig) → Buf (Elt Ideal) ℓ)

/-! ## The windows -/

/-- Where the windows stand: the grid runs over the heads, and within each over the query blocks. -/
theorem index_rows : ∀ t : Fin grid0.N, win0_0.index t = ![t.val % 32, t.val / 32] ∧ win0_1.index t = ![t.val % 32 - 2, 16 + t.val / 32]
    ∧ win0_2.index t = ![t.val % 32 - 1, 16 + t.val / 32] ∧ win0_3.index t = ![t.val % 32, 16 + t.val / 32]
    ∧ win0_4.index t = ![t.val % 32 - 2, 32 + t.val / 32] ∧ win0_5.index t = ![t.val % 32 - 1, 32 + t.val / 32]
    ∧ win0_6.index t = ![t.val % 32, 32 + t.val / 32] ∧ win0_10.index t = ![t.val % 32, t.val / 32] := by
  decide +kernel

theorem index_rest : ∀ t : Fin grid0.N, win0_7.index t = ![0, 0] ∧ win0_8.index t = ![0, 0] ∧ win0_9.index t = ![t.val / 32, 0, 0] ∧ (grid0.coords t 1).val = t.val % 32 := by
  decide +kernel

theorem flush_out : ∀ t : Fin cfg0.N, (cfg0.win 10).flush t = true :=
  (by decide +kernel : ∀ t : Fin grid0.N, win0_10.flush t = true)

theorem V_bias_fwd (c : Dev nD) : Gen.V m c main_v29 = addf (F := Ideal) (φ := .f32) (bias (m ((c : Thread nD τ).loc main_arg3)))
    (broadcastInDim S16x256x768 ![0, 1, 2] bcast_S1x256x768_S16x256x768_0_1_2 (broadcastInDim S1x256x768 ![1, 2] bcast_S256x768_S1x256x768_1_2 band)) := by
  show StableHlo.after (List.flatten [hostOps0, hostOps0_1, hostOps0_2]) (fun b => m (c, b)) (Proc.devRef .tc main_v29) = _
  unfold hostOps0 hostOps0_1 hostOps0_2
  simp only [List.flatten_cons, List.flatten_nil, List.append_nil, List.cons_append, List.nil_append]
  after_results_simp
  rfl

section Blocks
variable (c : Dev nD) {D : Data} {x4 : Cert.AttRefIdeal.S8192x2048.Idx → EReal} (A : Args D (m ((c : Thread nD τ).loc main_arg0)) (m ((c : Thread nD τ).loc main_arg1)) (m ((c : Thread nD τ).loc main_arg2))
  (m ((c : Thread nD τ).loc main_arg3)) x4) (t : Fin cfg0.N)
include A

theorem x_in {s e : ℕ} (y : S8192x6144.Idx) (h0 : (y 0).val = s) (h1 : (y 1).val = e) : Gen.V m c main_arg0 y = (D.x s e : EReal) := by
  subst h0; subst h1
  rw [V_main_arg0]
  exact (congrArg _ (eq_ix2 y)).trans (A.x (y 0) (y 1))

/-- The blocks of a point; the cotangent, which this call has none of, is filled in. -/
def parts (_ : Args D (m ((c : Thread nD τ).loc main_arg0)) (m ((c : Thread nD τ).loc main_arg1)) (m ((c : Thread nD τ).loc main_arg2))
  (m ((c : Thread nD τ).loc main_arg3)) x4) : Cert.AttIdeal.Run.Blocks Ideal where
  q := iblk m c 0 t
  k0 := iblk m c 1 t
  k1 := iblk m c 2 t
  k2 := iblk m c 3 t
  v0 := iblk m c 4 t
  v1 := iblk m c 5 t
  v2 := iblk m c 6 t
  qg := iblk m c 7 t
  kg := iblk m c 8 t
  bm := iblk m c 9 t
  ct := fun i => (C D (t.val / 32) (256 * (t.val % 32) + (i 0).val) (i 1).val : EReal)

theorem part_bm (i : Fin 256) (k : Fin 768) : (parts m c t A).bm (ix3 0 i k)
    = if i.val / 64 ≤ k.val / 64 ∧ k.val / 64 ≤ i.val / 64 + 8 then (D.rb (t.val / 32) (min (i.val + 768 - k.val) 512) : EReal) else ⊥ := by
  have ht : t.val < 512 := Nat.lt_of_lt_of_eq t.isLt N_0
  unfold parts
  dsimp only
  unfold iblk
  rw [View.read_apply]
  show Gen.V m c main_v29 _ = _
  have e := (index_rest t).2.2.1
  refine (congrArg (Gen.V m c main_v29) (?_ : _ = ix3 ⟨t.val / 32, by omega⟩ i k)).trans ?_
  · funext a
    refine Fin.ext ?_
    match a with
    | ⟨0, _⟩ => show win0_9.index t 0 * 1 + 1 * 0 = t.val / 32; rw [e]; show t.val / 32 * 1 + 1 * 0 = _; omega
    | ⟨1, _⟩ => show win0_9.index t 1 * 256 + 1 * i.val = i.val; rw [e]; show 0 * 256 + 1 * i.val = _; omega
    | ⟨2, _⟩ => show win0_9.index t 2 * 768 + 1 * k.val = k.val; rw [e]; show 0 * 768 + 1 * k.val = _; omega
  · rw [V_bias_fwd]
    have e' : addf (F := Ideal) (φ := .f32) (bias (m ((c : Thread nD τ).loc main_arg3)))
        (broadcastInDim S16x256x768 ![0, 1, 2] bcast_S1x256x768_S16x256x768_0_1_2 (broadcastInDim S1x256x768 ![1, 2] bcast_S256x768_S1x256x768_1_2 band)) (ix3 ⟨t.val / 32, by omega⟩ i k)
        = bias (m ((c : Thread nD τ).loc main_arg3)) (ix3 ⟨t.val / 32, by omega⟩ i k) + band (ix2 i k) := by pointwise
    rw [e', bias_apply, band_apply, A.rb]
    split_ifs
    · exact add_zero ((D.rb (t.val / 32) (min (i.val + 768 - k.val) 512) : ℝ) : EReal)
    · rfl

/-- An entry of the projected rows, read at a place of a block. -/
theorem row_in {w : ℕ → ℕ → ℝ} {n k : ℕ} {a : Fin 2 → ℕ} (e : a = ![n, k]) (hw : ∀ r l, w r l = D.x r (128 * k + l)) (i : Fin 256) (l : Fin 128) (y : S8192x6144.Idx)
    (h0 : (y 0).val = a 0 * 256 + 1 * i.val) (h1 : (y 1).val = a 1 * 128 + 1 * l.val) : Gen.V m c main_arg0 y = (w (256 * n + i.val) l.val : EReal) := by
  have e' := at_block e 256 128 i.val l.val
  rw [hw]
  exact x_in m c A y (h0.trans e'.1) (h1.trans e'.2)

theorem part_q (i : Fin 256) (d : Fin 128) : (parts m c t A).q (ix2 i d) = (Q D (t.val / 32) (256 * (t.val % 32) + i.val) d.val : EReal) := by
  unfold parts
  dsimp only
  unfold iblk
  rw [View.read_apply]
  show Gen.V m c main_arg0 _ = _
  exact row_in m c A (w := Q D (t.val / 32)) (index_rows t).1 (fun r l => congrArg (D.x r) (by omega)) i d _ rfl rfl
theorem part_k0 (i : Fin 256) (d : Fin 128) : (parts m c t A).k0 (ix2 i d) = (K D (t.val / 32) (256 * (t.val % 32 - 2) + i.val) d.val : EReal) := by
  unfold parts
  dsimp only
  unfold iblk
  rw [View.read_apply]
  show Gen.V m c main_arg0 _ = _
  exact row_in m c A (w := K D (t.val / 32)) (index_rows t).2.1 (fun r l => congrArg (D.x r) (by omega)) i d _ rfl rfl
theorem part_k1 (i : Fin 256) (d : Fin 128) : (parts m c t A).k1 (ix2 i d) = (K D (t.val / 32) (256 * (t.val % 32 - 1) + i.val) d.val : EReal) := by
  unfold parts
  dsimp only
  unfold iblk
  rw [View.read_apply]
  show Gen.V m c main_arg0 _ = _
  exact row_in m c A (w := K D (t.val / 32)) (index_rows t).2.2.1 (fun r l => congrArg (D.x r) (by omega)) i d _ rfl rfl
theorem part_k2 (i : Fin 256) (d : Fin 128) : (parts m c t A).k2 (ix2 i d) = (K D (t.val / 32) (256 * (t.val % 32) + i.val) d.val : EReal) := by
  unfold parts
  dsimp only
  unfold iblk
  rw [View.read_apply]
  show Gen.V m c main_arg0 _ = _
  exact row_in m c A (w := K D (t.val / 32)) (index_rows t).2.2.2.1 (fun r l => congrArg (D.x r) (by omega)) i d _ rfl rfl
theorem part_v0 (i : Fin 256) (d : Fin 128) : (parts m c t A).v0 (ix2 i d) = (V D (t.val / 32) (256 * (t.val % 32 - 2) + i.val) d.val : EReal) := by
  unfold parts
  dsimp only
  unfold iblk
  rw [View.read_apply]
  show Gen.V m c main_arg0 _ = _
  exact row_in m c A (w := V D (t.val / 32)) (index_rows t).2.2.2.2.1 (fun r l => congrArg (D.x r) (by omega)) i d _ rfl rfl
theorem part_v1 (i : Fin 256) (d : Fin 128) : (parts m c t A).v1 (ix2 i d) = (V D (t.val / 32) (256 * (t.val % 32 - 1) + i.val) d.val : EReal) := by
  unfold parts
  dsimp only
  unfold iblk
  rw [View.read_apply]
  show Gen.V m c main_arg0 _ = _
  exact row_in m c A (w := V D (t.val / 32)) (index_rows t).2.2.2.2.2.1 (fun r l => congrArg (D.x r) (by omega)) i d _ rfl rfl
theorem part_v2 (i : Fin 256) (d : Fin 128) : (parts m c t A).v2 (ix2 i d) = (V D (t.val / 32) (256 * (t.val % 32) + i.val) d.val : EReal) := by
  unfold parts
  dsimp only
  unfold iblk
  rw [View.read_apply]
  show Gen.V m c main_arg0 _ = _
  exact row_in m c A (w := V D (t.val / 32)) (index_rows t).2.2.2.2.2.2.1 (fun r l => congrArg (D.x r) (by omega)) i d _ rfl rfl
theorem part_qg (d : Fin 128) : (parts m c t A).qg (ix2 0 d) = (D.qg d.val : EReal) := by
  unfold parts
  dsimp only
  unfold iblk
  rw [View.read_apply]
  show Gen.V m c main_arg1 _ = _
  have e := at_block (index_rest t).1 1 128 0 d.val
  rw [V_main_arg1]
  exact (congrArg (m ((c : Thread nD τ).loc main_arg1)) (Shape.idx_ext₂ (y := ix2 0 d) e.1 (e.2.trans (by show _ = d.val; omega)))).trans (A.qg d)
theorem part_kg (d : Fin 128) : (parts m c t A).kg (ix2 0 d) = (D.kg d.val : EReal) := by
  unfold parts
  dsimp only
  unfold iblk
  rw [View.read_apply]
  show Gen.V m c main_arg2 _ = _
  have e := at_block (index_rest t).2.1 1 128 0 d.val
  rw [V_main_arg2]
  exact (congrArg (m ((c : Thread nD τ).loc main_arg2)) (Shape.idx_ext₂ (y := ix2 0 d) e.1 (e.2.trans (by show _ = d.val; omega)))).trans (A.kg d)

theorem parts_reads : Reads D (t.val / 32) (t.val % 32) (parts m c t A) :=
  { k0 := part_k0 m c A t
    kg := part_kg m c A t
    q := part_q m c A t
    k1 := part_k1 m c A t
    k2 := part_k2 m c A t
    v0 := part_v0 m c A t
    v1 := part_v1 m c A t
    v2 := part_v2 m c A t
    qg := part_qg m c A t
    bm := part_bm m c A t
    ct := fun _ _ => rfl }

theorem point_out (r : Fin 256) (l : Fin 128) : out0_10 (F := Ideal) (grid0.coords t) (iblk m c 0 t) (iblk m c 1 t) (iblk m c 2 t) (iblk m c 3 t) (iblk m c 4 t) (iblk m c 5 t) (iblk m c 6 t) (iblk m c 7 t)
    (iblk m c 8 t) (iblk m c 9 t) (ix2 r l) = (O D (t.val / 32) (256 * (t.val % 32) + r.val) l.val : EReal) := by
  have o := congrFun (out_eq (grid0.coords t) (parts m c t A)) (ix2 r l)
  rw [(index_rest t).2.2.2, mix_row (parts_reads m c A t) (Nat.mod_lt _ (by decide))] at o
  unfold parts at o
  dsimp only at o
  exact o

end Blocks

/-! ## The output -/

theorem point_of (h b : ℕ) (hh : h < 16) (hb : b < 32) : ∃ t : Fin cfg0.N, t.val / 32 = h ∧ t.val % 32 = b := by
  have hN : cfg0.N = 512 := N_0
  exact ⟨⟨32 * h + b, by omega⟩, (by omega : (32 * h + b) / 32 = h), (by omega : (32 * h + b) % 32 = b)⟩

theorem final_out (c : Dev nD) {D : Data} {x4 : Cert.AttRefIdeal.S8192x2048.Idx → EReal} (A : Args D (m ((c : Thread nD τ).loc main_arg0)) (m ((c : Thread nD τ).loc main_arg1))
    (m ((c : Thread nD τ).loc main_arg2)) (m ((c : Thread nD τ).loc main_arg3)) x4) :
    (dats m 0 c).arrAt 10 cfg0.N = (rowsOf (O D) : S8192x2048.Idx → Elt Ideal .bf16) :=
  (dats m 0 c).arrAt_eq_of_cover 10 (rowsOf (O D) : S8192x2048.Idx → Elt Ideal .bf16) (fun t _ => by
    show (cfg0.win 10).cut (grid0.coords t) ((dats m 0 c).after 10 t) = _
    rw [after0_10]
    funext j
    rw [View.read_apply]
    obtain ⟨r, l, rfl⟩ : ∃ (r : Fin 256) (l : Fin 128), j = ix2 r l := ⟨j 0, j 1, eq_ix2 j⟩
    have e := at_block (index_rows t).2.2.2.2.2.2.2 256 128 r.val l.val
    exact (point_out m c A t r l).trans (rowsOf_at _ _ l.isLt e.1 e.2).symm) fun i => by
    have h0 : (i 0).val < 8192 := (i 0).isLt
    have h1 : (i 1).val < 2048 := (i 1).isLt
    obtain ⟨t, ht, hq⟩ := point_of ((i 1).val / 128) ((i 0).val / 256) (by omega) (by omega)
    refine ⟨t, flush_out t, ?_⟩
    show i ∈ ((View.whole main_v30).slice (win0_10.rect t)).set
    rw [View.set_slice_whole, Rect.mem_set_unit]
    have e := (index_rows t).2.2.2.2.2.2.2
    intro a
    show win0_10.index t a * ![256, 128] a ≤ (i a).val ∧ (i a).val < win0_10.index t a * ![256, 128] a + ![256, 128] a
    rw [e, ht, hq]
    match a with
    | ⟨0, _⟩ => show (i 0).val / 256 * 256 ≤ (i 0).val ∧ (i 0).val < (i 0).val / 256 * 256 + 256; omega
    | ⟨1, _⟩ => show (i 1).val / 128 * 128 ≤ (i 1).val ∧ (i 1).val < (i 1).val / 128 * 128 + 128; omega

/-! ## The claim -/

theorem args_of_pre_fwd [Cert.Pre_att_fwd_finite.Facts] (x0 : (⟨2, ![8192, 6144]⟩ : Shape).Idx → EReal) (x1 x2 : (⟨2, ![1, 128]⟩ : Shape).Idx → EReal) (x3 : (⟨3, ![1, 16, 513]⟩ : Shape).Idx → EReal)
    (hp : Cert.Pre_att_fwd_finite.fn (F := Ideal) x0 x1 x2 x3 = fun _ => 1#1) : Args (dataOf x0 x1 x2 x3 fun _ => 0) x0 x1 x2 x3 fun _ => 0 := by
  have e := congrFun hp (fun a => a.elim0)
  unfold Cert.Pre_att_fwd_finite.fn Cert.Pre_att_fwd_finite.fn_part1 at e
  dsimp only at e
  obtain ⟨e, e3⟩ := and_one e
  obtain ⟨e, e2⟩ := and_one e
  obtain ⟨e0, e1⟩ := and_one e
  have r0 := real_of_all x0 _ _ _ _ e0
  have r1 := real_of_all x1 _ _ _ _ e1
  have r2 := real_of_all x2 _ _ _ _ e2
  have r3 := real_of_all x3 _ _ _ _ e3
  constructor
  · intro s d
    unfold dataOf; dsimp only; rw [dif_pos (⟨s.isLt, d.isLt⟩ : s.val < 8192 ∧ d.val < 6144)]; exact r0 _
  · intro d
    unfold dataOf; dsimp only; rw [dif_pos d.isLt]; exact r1 _
  · intro d
    unfold dataOf; dsimp only; rw [dif_pos d.isLt]; exact r2 _
  · intro a r
    unfold dataOf; dsimp only; rw [dif_pos (⟨a.isLt, r.isLt⟩ : a.val < 16 ∧ r.val < 513)]; exact r3 _
  · intro s d
    unfold dataOf; dsimp only; rw [dif_pos (⟨s.isLt, d.isLt⟩ : s.val < 8192 ∧ d.val < 2048), EReal.toReal_zero, EReal.coe_zero]

theorem res_out {D : Data} {x0 : Cert.AttRefIdeal.S8192x6144.Idx → EReal} {x1 x2 : Cert.AttRefIdeal.S1x128.Idx → EReal} {x3 : Cert.AttRefIdeal.S1x16x513.Idx → EReal}
    {x4 : Cert.AttRefIdeal.S8192x2048.Idx → EReal} (A : Args D x0 x1 x2 x3 x4) : Cert.AttFwdRefIdeal.Read.val_main_v122 (F := Ideal) x0 x1 x2 x3 = rowsOf (O D) := by
  funext i
  obtain ⟨s, e, rfl⟩ : ∃ (s : Fin 8192) (e : Fin 2048), i = ix2 s e := ⟨i 0, i 1, eq_ix2 i⟩
  exact ref_out A s e

theorem algebraic [Cert.Pre_att_fwd_finite.Facts] : Cert.algebraic_AttFwdIdeal_AttFwdRefIdeal_pre_att_fwd_finite := by
  intro m ρ m' ρ' hpre hag
  obtain ⟨D, A⟩ : ∃ D : Dev nD → Data, ∀ c : Dev nD, Args (D c) (m ((c.tc : Thread nD τ).loc main_arg0)) (m ((c.tc : Thread nD τ).loc main_arg1)) (m ((c.tc : Thread nD τ).loc main_arg2))
      (m ((c.tc : Thread nD τ).loc main_arg3)) (fun _ => 0) := ⟨_, fun c => args_of_pre_fwd _ _ _ _ (hpre c)⟩
  have A' (c : Dev nD) : Args (D c) (m' ((c.tc : Thread Cert.AttFwdRefIdeal.nD Cert.AttFwdRefIdeal.τ).loc Cert.AttFwdRefIdeal.main_arg0))
      (m' ((c.tc : Thread Cert.AttFwdRefIdeal.nD Cert.AttFwdRefIdeal.τ).loc Cert.AttFwdRefIdeal.main_arg1)) (m' ((c.tc : Thread Cert.AttFwdRefIdeal.nD Cert.AttFwdRefIdeal.τ).loc Cert.AttFwdRefIdeal.main_arg2))
      (m' ((c.tc : Thread Cert.AttFwdRefIdeal.nD Cert.AttFwdRefIdeal.τ).loc Cert.AttFwdRefIdeal.main_arg3)) (fun _ => 0) := by
    rw [(hag c).1, (hag c).2.1, (hag c).2.2.1, (hag c).2.2.2]; exact A c
  exact ⟨fun c => rowsOf (O (D c)),
    (θ_run _ _ _).mono (fun _ h c => ⟨((h.1 c).1 10).trans (final_out m c (A c)), h.2.1 c⟩) (θ_run_and (run_main m ρ) (frame m ρ)),
    (θ_run _ _ _).mono (fun _ h c => ⟨(h c).1.trans ((Cert.AttFwdRefIdeal.Read.val_main_v122_eq m' c).trans (res_out (A' c))), (h c).2⟩) (Cert.AttFwdRefIdeal.Value.run m' ρ')⟩

end Cert.Proof.Att.Fwd

end
-- ==== Proof.GluFwd.lean ====
/-
  The gated linear unit: the residual plus `value * sigmoid(gate)`. The kernel uses the core's own sigmoid, the reference
  writes `1 / (1 + exp (-gate))`; at the ideal instance they are one function.
-/
module

public import proofs.«01_k».proof.Defs
public import proofs.«01_k».proof.Proof.Gen.GluFwdIdeal.Value
public import proofs.«01_k».proof.Proof.Gen.GluFwdRefIdeal.Read
public import Idealize.ShloMosaic.Lib.IdealHost
public import Idealize.ShloMosaic.Lib.Pointwise

@[expose] public section

noncomputable section

namespace Cert.Proof.GluFwd

open Idealize.ShloMosaic Idealize.ShloMosaic.TcCoe Idealize.SL.Sem
open Cert.GluFwdRefIdeal Cert.GluFwdRefIdeal.Gen Cert.GluFwdRefIdeal.Read

/-- The reference's sigmoid of the gate columns is the ideal sigmoid. -/
theorem sigmoid_eq (z : S8192x4096.Idx → Elt Ideal .f32) (i : S8192x2048.Idx) :
    val_main_v7 (F := Ideal) z i = Ideal.logistic (z (idx_main_v1 i)) := by
  rw [val_main_v7_apply, val_main_v6_apply, val_main_v5_apply, val_main_v4_apply, val_main_v3_apply, val_main_v2_apply,
    val_main_v1_apply, val_main_cst_apply, val_main_cst_0_apply]
  simp only [Ideal.hostDivf_def, Ideal.addf_def, Ideal.hostUnary_exp_def, Ideal.hostNegf_def, Ideal.negf_def,
    Ideal.ofBits_def, Ideal.ofBits_one_f32, Ideal.logistic]

theorem sum_eq (z : S8192x4096.Idx → Elt Ideal .f32) (res : S8192x2048.Idx → Elt Ideal .f32) :
    val_main_v9 (F := Ideal) z res = Cert.GluFwdIdeal.Value.G3 res z z := by
  funext i
  rw [val_main_v9_apply, val_main_v8_apply, val_main_v0_apply, sigmoid_eq]
  have h1 : idx_main_v1 i = Cert.GluFwdIdeal.Value.inIdx3_2 i := by
    funext a
    match a with
    | ⟨0, _⟩ => rfl
    | ⟨1, _⟩ => exact Fin.ext (Nat.add_comm _ _)
  have h0 : idx_main_v0 i = Cert.GluFwdIdeal.Value.inIdx3_1 i := by
    funext a
    match a with
    | ⟨0, _⟩ => rfl
    | ⟨1, _⟩ => rfl
  rw [h0, h1]
  simp only [Cert.GluFwdIdeal.Value.G3, Ideal.mulf_def, Ideal.addf_def, Ideal.logistic_def]

/-- Both programs end with the same array. -/
theorem algebraic : Cert.algebraic_GluFwdIdeal_GluFwdRefIdeal := by
  intro m ρ m' ρ' _ hag
  refine ⟨fun c => Cert.GluFwdIdeal.Value.G3 _ _ _, Cert.GluFwdIdeal.Value.run m ρ,
    (θ_run _ _ _).mono (fun _ h c => ⟨(h c).1.trans ?_, (h c).2⟩) (Cert.GluFwdRefIdeal.Value.run m' ρ')⟩
  rw [val_main_v9_eq, (hag c).1, (hag c).2]
  exact sum_eq _ _

end Cert.Proof.GluFwd

end
-- ==== Proof.RmsFwd.lean ====
/-
  The root-mean-square norm: the kernel visits the 8192 rows in 16 blocks of 512 and writes each block's
  `x * rsqrt(mean x² + eps) * gain` twice, narrowed and as it is.
-/
module

public import proofs.«01_k».proof.Defs
public import proofs.«01_k».proof.Proof.Gen.RmsFwdIdeal.Value
public import proofs.«01_k».proof.Proof.Gen.RmsFwdRefIdeal.Read
public import proofs.«01_k».proof.Proof.Rows

@[expose] public section

set_option maxRecDepth 16384

noncomputable section

namespace Cert.Proof.RmsFwd

open Idealize.ShloMosaic Idealize.ShloMosaic.TcCoe Idealize.SL.Sem
open Cert.Proof.Rows

/-- An entry of the normalised rows. -/
def normAt (x : (⟨2, ![8192, 2048]⟩ : Shape).Idx → EReal) (gain : (⟨2, ![1, 2048]⟩ : Shape).Idx → EReal) (k : Fin 8192) (l : Fin 2048) : EReal :=
  x (ix2 k l) * Ideal.rsqrt (Ideal.div (∑ j : Fin 2048, x (ix2 k j) * x (ix2 k j)) ((2048 : ℝ) : EReal) + Ideal.ofBits .f32 0x358637BD#32)
    * gain (ix2 0 l)

section Reference

open Cert.RmsFwdRefIdeal Cert.RmsFwdRefIdeal.Gen Cert.RmsFwdRefIdeal.Read

theorem ref_eq (x : S8192x2048.Idx → EReal) (gain : S1x2048.Idx → EReal) (k : Fin 8192) (l : Fin 2048) :
    val_main_v13 (F := Ideal) x gain (ix2 k l) = normAt x gain k l := by
  unfold normAt
  rw [← ofBits_2048]
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

end Reference

open Cert.RmsFwdIdeal Cert.RmsFwdIdeal.Gen

variable (m : (ℓ : Loc nD τ sig) → Buf (Elt Ideal) ℓ) (ρ : Dev nD → PrngReg)

abbrev x (c : Dev nD) : S8192x2048.Idx → EReal := m ((c : Thread nD τ).loc main_arg0)
abbrev gain (c : Dev nD) : S1x2048.Idx → EReal := m ((c : Thread nD τ).loc main_arg1)

/-- Where the windows stand at a point: the row blocks at the point's own, the gain at the one row there is. -/
theorem index_facts : ∀ t : Fin grid0.N, win0_0.index t = ![t.val, 0] ∧ win0_1.index t = ![0, 0]
    ∧ win0_2.index t = ![t.val, 0] ∧ win0_3.index t = ![t.val, 0] := by
  decide +kernel

/-- Row `r` of block `t`. -/
abbrev row (t : Fin cfg0.N) (r : Fin 512) : Fin 8192 :=
  ⟨512 * t.val + r.val, by have := t.isLt; have h : cfg0.N = 16 := N_0; omega⟩

theorem x_block (c : Dev nD) (t : Fin cfg0.N) (r : Fin 512) (l : Fin 2048) :
    (iblk m c 0 t : Vec Ideal S512x2048 .f32) (ix2 r l) = x m c (ix2 (row t r) l) := by
  unfold iblk
  rw [View.read_apply]
  show x m c _ = _
  exact congrArg _ (Shape.idx_ext₂ (at_block (index_facts t).1 r l).1 (at_block (index_facts t).1 r l).2)

theorem gain_block (c : Dev nD) (t : Fin cfg0.N) (l : Fin 2048) :
    (iblk m c 1 t : Vec Ideal S1x2048 .f32) (ix2 0 l) = gain m c (ix2 0 l) := by
  unfold iblk
  rw [View.read_apply]
  show gain m c _ = _
  exact congrArg _ (Shape.idx_ext₂ (at_row (index_facts t).2.1 l).1 (at_row (index_facts t).2.1 l).2)

/-- A block's rows, normalised. -/
theorem block_apply (c : Dev nD) (t : Fin cfg0.N) (r : Fin 512) (l : Fin 2048) :
    k0_pay1 (iblk m c 0 t) (iblk m c 1 t) (ix2 r l) = normAt (x m c) (gain m c) (row t r) l := by
  pointwise [k0_pay1]
  simp only [x_block, gain_block, ofBits_2048]
  rfl

/-- The array both outputs hold. -/
def G (c : Dev nD) : S8192x2048.Idx → EReal := fun i => normAt (x m c) (gain m c) (i 0) (i 1)

/-- The point of an index's row. -/
abbrev point (i : S8192x2048.Idx) : Fin cfg0.N :=
  ⟨(i 0).val / 512, by have h : (i 0).val < 8192 := (i 0).isLt; rw [show cfg0.N = 16 from N_0]; omega⟩

theorem final_narrow (c : Dev nD) : (dats m 0 c).arrAt 2 cfg0.N = G m c :=
  (dats m 0 c).arrAt_eq_of_cover 2 (G m c) (fun t _ => by
    rw [Value.flushed2]
    unfold out0_2
    rw [View.canon_unit_zero hz]
    simp only [View.ld_unit_zero (S := S512x2048) hz, View.ld_unit_zero (S := S1x2048) hz]
    funext j
    rw [View.read_apply]
    obtain ⟨r, l, rfl⟩ : ∃ (r : Fin 512) (l : Fin 2048), j = ix2 r l := ⟨j 0, j 1, eq_ix2 j⟩
    have e := at_block (index_facts t).2.2.1 r l
    exact (block_apply m c t r l).trans (congrArg (G m c) (Shape.idx_ext₂ e.1 e.2 : _ = ix2 (row t r) l)).symm) fun i => by
    refine ⟨point i, flush0_2 _, ?_⟩
    show i ∈ ((View.whole main_v0_0).slice (win0_2.rect (point i))).set
    rw [View.set_slice_whole, Rect.mem_set_unit]
    exact in_block i (index_facts (point i)).2.2.1

theorem final (c : Dev nD) : (dats m 0 c).arrAt 3 cfg0.N = G m c :=
  (dats m 0 c).arrAt_eq_of_cover 3 (G m c) (fun t _ => by
    rw [Value.flushed3]
    unfold out0_3
    rw [View.canon_unit_zero hz]
    simp only [View.ld_unit_zero (S := S512x2048) hz, View.ld_unit_zero (S := S1x2048) hz]
    funext j
    rw [View.read_apply]
    obtain ⟨r, l, rfl⟩ : ∃ (r : Fin 512) (l : Fin 2048), j = ix2 r l := ⟨j 0, j 1, eq_ix2 j⟩
    have e := at_block (index_facts t).2.2.2 r l
    exact (block_apply m c t r l).trans (congrArg (G m c) (Shape.idx_ext₂ e.1 e.2 : _ = ix2 (row t r) l)).symm) fun i => by
    refine ⟨point i, flush0_3 _, ?_⟩
    show i ∈ ((View.whole main_v0_1).slice (win0_3.rect (point i))).set
    rw [View.set_slice_whole, Rect.mem_set_unit]
    exact in_block i (index_facts (point i)).2.2.2

theorem algebraic : Cert.algebraic_RmsFwdIdeal_RmsFwdRefIdeal := by
  intro m ρ m' ρ' _ hag
  have hG (c : Dev nD) : Cert.RmsFwdRefIdeal.Read.val_main_v13 (F := Ideal) (x m c) (gain m c) = G m c :=
    funext fun i => by rw [eq_ix2 i]; exact ref_eq _ _ _ _
  refine ⟨fun c => G m c, fun c => G m c,
    (θ_run _ _ _).mono (fun _ h c => ⟨(h c).1.trans (final_narrow m c), (h c).2.1.trans (final m c), (h c).2.2⟩) (Value.run_blocks m ρ),
    (θ_run _ _ _).mono (fun _ h c => ⟨(h c).1.trans ?_, (h c).2.1.trans ?_, (h c).2.2⟩) (Cert.RmsFwdRefIdeal.Value.run m' ρ')⟩
  · rw [Cert.RmsFwdRefIdeal.Read.val_main_v14_eq, (hag c).1, (hag c).2]; exact hG c
  · rw [Cert.RmsFwdRefIdeal.Read.val_main_v13_eq, (hag c).1, (hag c).2]; exact hG c

end Cert.Proof.RmsFwd

end
-- ==== Proof.Tiles.lean ====
/-
  Facts the tiled kernels share: where an entry of a tile stands in its array, and which tile an entry of an array lies in.
-/
module

public import proofs.«01_k».proof.Proof.Rows

@[expose] public section

noncomputable section

namespace Cert.Proof.Tiles

open Idealize.ShloMosaic

/-- The zero offsets of a whole block of three axes. -/
theorem hz3 : (![0, 0, 0] : Fin 3 → Nat) = fun _ => 0 := funext fun a => by fin_cases a <;> rfl

/-- An entry's place: tile `(n, k)` of `N` rows and `K` columns. -/
theorem at_tile {a : Fin 2 → ℕ} {n k N K : ℕ} (h : a = ![n, k]) (r : Fin N) (l : Fin K) :
    a 0 * N + 1 * r.val = N * n + r.val ∧ a 1 * K + 1 * l.val = K * k + l.val := by
  subst h
  constructor
  · show n * N + 1 * r.val = _; rw [one_mul, mul_comm]
  · show k * K + 1 * l.val = _; rw [one_mul, mul_comm]

/-- The same in an array of planes, for a tile that is one plane high. -/
theorem at_plane {a : Fin 3 → ℕ} {p n k N K : ℕ} (h : a = ![p, n, k]) (r : Fin N) (l : Fin K) :
    a 0 * 1 + 1 * 0 = p ∧ a 1 * N + 1 * r.val = N * n + r.val ∧ a 2 * K + 1 * l.val = K * k + l.val := by
  subst h
  refine ⟨?_, ?_, ?_⟩
  · show p * 1 + 1 * 0 = p; omega
  · show n * N + 1 * r.val = _; rw [one_mul, mul_comm]
  · show k * K + 1 * l.val = _; rw [one_mul, mul_comm]

/-- Every entry lies in the tile its coordinates give. -/
theorem in_tile {R C N K : ℕ} (hN : 0 < N) (hK : 0 < K) (i : (⟨2, ![R, C]⟩ : Shape).Idx) {a : Fin 2 → ℕ}
    (h : a = ![(i 0).val / N, (i 1).val / K]) (b : Fin 2) :
    a b * ![N, K] b ≤ (i b).val ∧ (i b).val < a b * ![N, K] b + ![N, K] b := by
  subst h
  match b with
  | ⟨0, _⟩ => exact ⟨Nat.div_mul_le_self _ _, Nat.lt_div_mul_add hN⟩
  | ⟨1, _⟩ => exact ⟨Nat.div_mul_le_self _ _, Nat.lt_div_mul_add hK⟩

/-- The tile of a point, where the grid visits `n` blocks of columns for each block of rows. -/
theorem split_point {q r n : ℕ} (hr : r < n) : (q * n + r) / n = q ∧ (q * n + r) % n = r := by
  constructor
  · rw [mul_comm, Nat.mul_add_div (by omega), Nat.div_eq_of_lt hr, add_zero]
  · rw [mul_comm, Nat.mul_add_mod, Nat.mod_eq_of_lt hr]

end Cert.Proof.Tiles

end
-- ==== Proof.ConvFwd.lean ====
/-
  The gated causal convolution of three taps, `b * (w2 u + w1 (u one row down) + w0 (u two rows down))` with `u = c * v`.
  The kernel visits 16 blocks of 512 rows, each in 4 blocks of 512 columns, and reads with each block the 8 rows before it.
-/
module

public import proofs.«01_k».proof.Defs
public import proofs.«01_k».proof.Proof.Gen.ConvFwdIdeal.Value
public import proofs.«01_k».proof.Proof.Gen.ConvFwdRefIdeal.Read
public import proofs.«01_k».proof.Proof.Conv
public import proofs.«01_k».proof.Proof.Tiles

@[expose] public section

set_option maxRecDepth 16384

noncomputable section

namespace Cert.Proof.ConvFwd

open Idealize.ShloMosaic Idealize.ShloMosaic.TcCoe Idealize.SL.Sem
open Cert.Proof.Rows Cert.Proof.Tiles
open Cert.Proof.Conv (U Ud U_of_lt shifted sgt_fact)

/-- An entry of the gated convolution. -/
def convAt (p : (⟨2, ![8192, 6144]⟩ : Shape).Idx → EReal) (w : (⟨3, ![1, 3, 2048]⟩ : Shape).Idx → EReal) (r : Fin 8192) (l : Fin 2048) : EReal :=
  p (ix2 r ⟨l.val, by omega⟩) * (w (ix3 0 2 l) * U p l r.val + w (ix3 0 1 l) * Ud p 1 l r.val + w (ix3 0 0 l) * Ud p 2 l r.val)

section Reference

open Cert.ConvFwdRefIdeal Cert.ConvFwdRefIdeal.Gen Cert.ConvFwdRefIdeal.Read

variable (p : S8192x6144.Idx → EReal) (w : S1x3x2048.Idx → EReal)

theorem ref_u (r : Fin 8192) (l : Fin 2048) : val_main_v23 (F := Ideal) p (ix2 r l) = U p l r.val := by
  pointwise [val_main_v23, val_main_v5, val_main_v4, val_main_v3, val_main_v2, val_main_v1, val_main_cst]
  exact (U_of_lt p l r.isLt).symm

theorem ref_u1 (r : Fin 8192) (l : Fin 2048) : val_main_v16 (F := Ideal) p (ix2 r l) = Ud p 1 l r.val := by
  pointwise [val_main_v16, val_main_v5, val_main_v4, val_main_v3, val_main_v2, val_main_v1, val_main_cst]
  unfold Ud
  by_cases h : 1 ≤ r.val
  · rw [dif_neg (by omega), if_pos h, U_of_lt p l (by omega)]
    congr 3 <;> exact Fin.ext (by show 1 + r.val - 2 = r.val - 1; omega)
  · rw [dif_pos (by omega), if_neg h]

theorem ref_u2 (r : Fin 8192) (l : Fin 2048) : val_main_v8 (F := Ideal) p (ix2 r l) = Ud p 2 l r.val := by
  pointwise [val_main_v8, val_main_v5, val_main_v4, val_main_v3, val_main_v2, val_main_v1, val_main_cst]
  unfold Ud
  by_cases h : 2 ≤ r.val
  · rw [dif_neg (by omega), if_pos h, U_of_lt p l (by omega)]
  · rw [dif_pos (by omega), if_neg h]

/-- The reference at an entry. -/
theorem ref_conv (r : Fin 8192) (l : Fin 2048) : val_main_v29 (F := Ideal) p w (ix2 r l) = convAt p w r l := by
  pointwise [val_main_v29, val_main_v28, val_main_v27, val_main_v26, val_main_v25, val_main_v24, val_main_v22, val_main_v21,
    val_main_v20, val_main_v19, val_main_v18, val_main_v17, val_main_v15, val_main_v14, val_main_v13, val_main_v12,
    val_main_v11, val_main_v10, val_main_v9, val_main_v7, val_main_v6, val_main_v0, val_main_cst_0]
  rw [ref_u, ref_u1, ref_u2]
  unfold convAt
  congr 1
  exact (add_comm _ _).trans ((congrArg _ (add_comm _ _)).trans (add_assoc _ _ _).symm)

end Reference

open Cert.ConvFwdIdeal Cert.ConvFwdIdeal.Gen

variable (m : (ℓ : Loc nD τ sig) → Buf (Elt Ideal) ℓ) (ρ : Dev nD → PrngReg)

/-- The two arguments on core `c`. -/
abbrev pj (c : Dev nD) : S8192x6144.Idx → EReal := m ((c : Thread nD τ).loc main_arg0)
abbrev cw (c : Dev nD) : S1x3x2048.Idx → EReal := m ((c : Thread nD τ).loc main_arg1)

/-- Where the windows stand at a point: the row block is the point's quotient by 4, the column block its remainder; the rows
    before a block are block `64 r - 1` of 8 (the first block reads its own). -/
theorem index_facts : ∀ t : Fin grid0.N, (grid0.coords t 0).val = t.val / 4
    ∧ win0_0.index t = ![t.val / 4, t.val % 4] ∧ win0_1.index t = ![t.val / 4, 4 + t.val % 4]
    ∧ win0_2.index t = ![t.val / 4, 8 + t.val % 4] ∧ win0_3.index t = ![64 * (t.val / 4) - 1, 4 + t.val % 4]
    ∧ win0_4.index t = ![64 * (t.val / 4) - 1, 8 + t.val % 4] ∧ win0_5.index t = ![0, t.val % 4]
    ∧ win0_6.index t = ![t.val / 4, t.val % 4] := by
  decide +kernel

/-- Row `r` and column `l` of the point's block. -/
abbrev row (t : Fin cfg0.N) (r : Fin 512) : Fin 8192 :=
  ⟨512 * (t.val / 4) + r.val, by have := t.isLt; have h : cfg0.N = 64 := N_0; omega⟩
abbrev col (t : Fin cfg0.N) (l : Fin 512) : Fin 2048 := ⟨512 * (t.val % 4) + l.val, by omega⟩

theorem b_block (c : Dev nD) (t : Fin cfg0.N) (r l : Fin 512) :
    (iblk m c 0 t : Vec Ideal S512x512 .f32) (ix2 r l) = pj m c (ix2 (row t r) ⟨(col t l).val, by omega⟩) := by
  unfold iblk
  rw [View.read_apply]
  show pj m c _ = _
  have e := at_tile (index_facts t).2.1 r l
  exact congrArg _ (Shape.idx_ext₂ e.1 e.2)

theorem c_block (c : Dev nD) (t : Fin cfg0.N) (r l : Fin 512) :
    (iblk m c 1 t : Vec Ideal S512x512 .f32) (ix2 r l) = pj m c (ix2 (row t r) ⟨2048 + (col t l).val, by omega⟩) := by
  unfold iblk
  rw [View.read_apply]
  show pj m c _ = _
  have e := at_tile (index_facts t).2.2.1 r l
  exact congrArg _ (Shape.idx_ext₂ e.1 (e.2.trans (by show _ = 2048 + (512 * (t.val % 4) + l.val); omega)))

theorem v_block (c : Dev nD) (t : Fin cfg0.N) (r l : Fin 512) :
    (iblk m c 2 t : Vec Ideal S512x512 .f32) (ix2 r l) = pj m c (ix2 (row t r) ⟨4096 + (col t l).val, by omega⟩) := by
  unfold iblk
  rw [View.read_apply]
  show pj m c _ = _
  have e := at_tile (index_facts t).2.2.2.1 r l
  exact congrArg _ (Shape.idx_ext₂ e.1 (e.2.trans (by show _ = 4096 + (512 * (t.val % 4) + l.val); omega)))

/-- The 8 rows before a block that is not the first. -/
theorem before (c : Dev nD) (t : Fin cfg0.N) (q : Fin 8) (l : Fin 512) (h : 0 < t.val / 4) :
    @HMul.hMul EReal EReal EReal _ ((iblk m c 3 t : Vec Ideal S8x512 .f32) (ix2 q l)) ((iblk m c 4 t : Vec Ideal S8x512 .f32) (ix2 q l))
      = U (pj m c) (col t l) (512 * (t.val / 4) + q.val - 8) := by
  have ht : t.val < 64 := lt_of_lt_of_eq t.isLt N_0
  rw [U_of_lt _ _ (by omega)]
  unfold iblk
  rw [View.read_apply, View.read_apply]
  show pj m c _ * pj m c _ = _
  have e := at_tile (index_facts t).2.2.2.2.1 q l
  have e' := at_tile (index_facts t).2.2.2.2.2.1 q l
  exact congrArg₂ _
    (congrArg _ (Shape.idx_ext₂ (e.1.trans (by show _ = 512 * (t.val / 4) + q.val - 8; omega)) (e.2.trans (by show _ = 2048 + (512 * (t.val % 4) + l.val); omega))))
    (congrArg _ (Shape.idx_ext₂ (e'.1.trans (by show _ = 512 * (t.val / 4) + q.val - 8; omega)) (e'.2.trans (by show _ = 4096 + (512 * (t.val % 4) + l.val); omega))))

/-- The three taps, which the host put in the first three of eight rows. -/
theorem taps (c : Dev nD) (t : Fin cfg0.N) (k : Fin 8) (l : Fin 512) (k' : Fin 3) (h : k.val = k'.val) :
    (iblk m c 5 t : Vec Ideal S8x512 .f32) (ix2 k l) = cw m c (ix3 0 k' (col t l)) := by
  unfold iblk
  rw [View.read_apply]
  have e := at_tile (index_facts t).2.2.2.2.2.2.1 k l
  refine (congrArg (V m c main_v2) (Shape.idx_ext₂ (y := ix2 k (col t l)) (e.1.trans (by simp)) e.2)).trans ?_
  show StableHlo.after hostOps0 (fun b => m (c, b)) (Proc.devRef .tc main_v2) (ix2 k (col t l)) = _
  unfold hostOps0
  after_results_simp
  pointwise
  rw [dif_pos (by omega)]
  exact congrArg (fun q : Fin 3 => cw m c (ix3 0 q (col t l))) (Fin.ext h)

/-- One of the eight rows, as the kernel loads it. -/
theorem ld_tap {d : ℕ} (x : Vec Ideal S8x512 .f32) (k : Fin 8) (hk : k.val = d) (h : ∀ a, (![d, 0] : Fin 2 → ℕ) a + (![1, 512] : Fin 2 → ℕ) a ≤ S8x512.size a)
    (l : Fin 512) : View.ld x (Rect.unit (s := S8x512) ![d, 0] ![1, 512] h) (ix2 0 l) = x (ix2 k l) :=
  congrArg x (Shape.idx_ext₂ (by show d + 1 * 0 = k.val; omega) (by show 0 + 1 * l.val = l.val; omega))

/-- One block of the result over the blocks it reads. -/
theorem tile_apply (i : grid0.Coords) (x1 x2 : Vec Ideal S512x512 .f32) (x3 x4 : Vec Ideal S8x512 .f32) (y0 y1 y2 : Vec Ideal S1x512 .f32)
    (x0 : Vec Ideal S512x512 .f32) (p : S8192x6144.Idx → EReal) (w : S1x3x2048.Idx → EReal) (a : Fin 16) (b : Fin 4) (ha : (i 0).val = a.val)
    (hb : ∀ r l : Fin 512, x0 (ix2 r l) = p (ix2 ⟨512 * a.val + r.val, by omega⟩ ⟨512 * b.val + l.val, by omega⟩))
    (hu : ∀ r l : Fin 512, @HMul.hMul EReal EReal EReal _ (x1 (ix2 r l)) (x2 (ix2 r l)) = U p ⟨512 * b.val + l.val, by omega⟩ (512 * a.val + r.val))
    (hh : ∀ (q : Fin 8) (l : Fin 512), 0 < a.val → @HMul.hMul EReal EReal EReal _ (x3 (ix2 q l)) (x4 (ix2 q l)) = U p ⟨512 * b.val + l.val, by omega⟩ (512 * a.val + q.val - 8))
    (h0 : ∀ l : Fin 512, y0 (ix2 0 l) = w (ix3 0 0 ⟨512 * b.val + l.val, by omega⟩))
    (h1 : ∀ l : Fin 512, y1 (ix2 0 l) = w (ix3 0 1 ⟨512 * b.val + l.val, by omega⟩))
    (h2 : ∀ l : Fin 512, y2 (ix2 0 l) = w (ix3 0 2 ⟨512 * b.val + l.val, by omega⟩)) (r l : Fin 512) :
    k0_pay1 i x1 x2 x3 x4 y0 y1 y2 x0 (ix2 r l) = convAt p w ⟨512 * a.val + r.val, by omega⟩ ⟨512 * b.val + l.val, by omega⟩ := by
  have halo (q : Fin 8) : Scalar.select (Scalar.cmpi CmpIPredicate.sgt (BitVec.ofNat 32 a.val) 0#32)
      (@HMul.hMul EReal EReal EReal _ (x3 (ix2 q l)) (x4 (ix2 q l))) (0 : EReal)
      = if 0 < a.val then U p ⟨512 * b.val + l.val, by omega⟩ (512 * a.val + q.val - 8) else 0 := by
    rw [sgt_fact a]
    unfold Scalar.select
    by_cases h : 0 < a.val
    · rw [if_pos h, if_pos h, if_pos (by decide)]
      exact hh q l h
    · rw [if_neg h, if_neg h, if_neg (by decide)]
  pointwise [k0_pay1]
  simp only [ha, hu, halo, hb, h0, h1, h2]
  rw [shifted p _ (a := a.val) (r := r.val) (s := 1) (by omega) (by omega) (by omega) (by omega),
    shifted p _ (a := a.val) (r := r.val) (s := 2) (by omega) (by omega) (by omega) (by omega)]
  rfl

/-- The array the kernel writes. -/
def G (c : Dev nD) : S8192x2048.Idx → Elt Ideal .bf16 := fun i => convAt (pj m c) (cw m c) (i 0) (i 1)

/-- The point of an entry's block. -/
abbrev point (i : S8192x2048.Idx) : Fin cfg0.N :=
  ⟨(i 0).val / 512 * 4 + (i 1).val / 512, by
    have h : (i 0).val < 8192 := (i 0).isLt
    have h' : (i 1).val < 2048 := (i 1).isLt
    rw [show cfg0.N = 64 from N_0]; omega⟩

theorem point_tile (i : S8192x2048.Idx) :
    (![(point i).val / 4, (point i).val % 4] : Fin 2 → ℕ) = ![(i 0).val / 512, (i 1).val / 512] := by
  have h : (i 1).val < 2048 := (i 1).isLt
  have s := split_point (q := (i 0).val / 512) (r := (i 1).val / 512) (n := 4) (by omega)
  exact congrArg₂ (fun a b => ![a, b]) s.1 s.2

theorem final (c : Dev nD) : (dats m 0 c).arrAt 6 cfg0.N = G m c :=
  (dats m 0 c).arrAt_eq_of_cover 6 (G m c) (fun t _ => by
    rw [Value.flushed6]
    unfold out0_6
    rw [View.canon_unit_zero hz]
    simp only [View.ld_unit_zero (S := S512x512) hz, View.ld_unit_zero (S := S8x512) hz]
    funext j
    rw [View.read_apply]
    obtain ⟨r, l, rfl⟩ : ∃ r l : Fin 512, j = ix2 r l := ⟨j 0, j 1, eq_ix2 j⟩
    have ht : t.val < 64 := lt_of_lt_of_eq t.isLt N_0
    refine (tile_apply (grid0.coords t) _ _ _ _ _ _ _ _ (pj m c) (cw m c) ⟨t.val / 4, by omega⟩ ⟨t.val % 4, by omega⟩ (index_facts t).1
      (b_block m c t) (fun r l => by rw [c_block, v_block]; exact (U_of_lt _ _ (row t r).isLt).symm) (fun q l h => before m c t q l h)
      (fun l => (ld_tap _ 0 rfl _ l).trans (taps m c t 0 l 0 rfl)) (fun l => (ld_tap _ 1 rfl _ l).trans (taps m c t 1 l 1 rfl))
      (fun l => (ld_tap _ 2 rfl _ l).trans (taps m c t 2 l 2 rfl)) r l).trans ?_
    have e := at_tile (index_facts t).2.2.2.2.2.2.2 r l
    exact (congrArg (G m c) (Shape.idx_ext₂ (y := ix2 (row t r) (col t l)) e.1 e.2)).symm) fun i => by
    refine ⟨point i, flush0_6 _, ?_⟩
    show i ∈ ((View.whole main_v3).slice (win0_6.rect (point i))).set
    rw [View.set_slice_whole, Rect.mem_set_unit]
    exact in_tile (N := 512) (K := 512) (by omega) (by omega) i ((index_facts (point i)).2.2.2.2.2.2.2.trans (point_tile i))

theorem algebraic : Cert.algebraic_ConvFwdIdeal_ConvFwdRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.ConvFwdRefIdeal.Value.run m' ρ')⟩
  refine (Cert.ConvFwdRefIdeal.Read.val_main_v29_eq _ _).trans ?_
  rw [(hag c).1, (hag c).2]
  funext i
  rw [eq_ix2 i]
  exact ref_conv _ _ _ _

end Cert.Proof.ConvFwd

end
-- ==== Proof.MlpUp.lean ====
/-
  The first product of a layer's perceptron with the rectifier after it: the kernel keeps the rectified product and its
  square, tile by tile, the weights standing in 8 shards of 1024 columns.
-/
module

public import proofs.«01_k».proof.Defs
public import proofs.«01_k».proof.Proof.Gen.MlpUpIdeal.Value
public import proofs.«01_k».proof.Proof.Gen.MlpUpRefIdeal.Read
public import proofs.«01_k».proof.Proof.Tiles

@[expose] public section

set_option maxRecDepth 16384

noncomputable section

namespace Cert.Proof.MlpUp

open Idealize.ShloMosaic Idealize.ShloMosaic.TcCoe Idealize.SL.Sem
open Cert.Proof.Rows Cert.Proof.Tiles

/-- An entry of the rectified product. -/
def reluAt (h : (⟨2, ![8192, 2048]⟩ : Shape).Idx → EReal) (w : (⟨2, ![2048, 8192]⟩ : Shape).Idx → EReal) (r l : Fin 8192) : EReal :=
  max (∑ k : Fin 2048, h (ix2 r k) * w (ix2 k l)) 0

section Reference

open Cert.MlpUpRefIdeal Cert.MlpUpRefIdeal.Gen Cert.MlpUpRefIdeal.Read

theorem ref_relu (h : S8192x2048.Idx → EReal) (w : S2048x8192.Idx → EReal) (r l : Fin 8192) :
    val_main_v2 (F := Ideal) h w (ix2 r l) = reluAt h w r l := by
  unfold reluAt
  pointwise [val_main_v2, val_main_v1, val_main_v0, val_main_call0_v0, val_main_call0_cst]

theorem ref_square (h : S8192x2048.Idx → EReal) (w : S2048x8192.Idx → EReal) (r l : Fin 8192) :
    val_main_v4 (F := Ideal) h w (ix2 r l) = reluAt h w r l * reluAt h w r l := by
  unfold reluAt
  pointwise [val_main_v4, val_main_v3, val_main_v1, val_main_v0, val_main_call0_v0, val_main_call0_cst]

end Reference

open Cert.MlpUpIdeal Cert.MlpUpIdeal.Gen

variable (m : (ℓ : Loc nD τ sig) → Buf (Elt Ideal) ℓ) (ρ : Dev nD → PrngReg)

abbrev h (c : Dev nD) : S8192x2048.Idx → EReal := m ((c : Thread nD τ).loc main_arg0)
abbrev w (c : Dev nD) : S2048x8192.Idx → EReal := m ((c : Thread nD τ).loc main_arg1)

/-- Column `l` of shard `s`. -/
abbrev shardCol (s : Fin 8) (l : Fin 1024) : Fin 8192 := ⟨1024 * s.val + l.val, by omega⟩

/-- The operands as the host prepares them: cast, and the weights cut into shards. -/
theorem V_h (c : Dev nD) (r : Fin 8192) (l : Fin 2048) : V m c main_v3 (ix2 r l) = h m c (ix2 r l) := by
  show StableHlo.after hostOps0 (fun b => m (c, b)) (Proc.devRef .tc main_v3) (ix2 r l) = _
  after_results_simp
  pointwise

theorem V_w (c : Dev nD) (s : Fin 8) (k : Fin 2048) (l : Fin 1024) : V m c main_v2 (ix3 s k l) = w m c (ix2 k (shardCol s l)) := by
  show StableHlo.after hostOps0 (fun b => m (c, b)) (Proc.devRef .tc main_v2) (ix3 s k l) = _
  after_results_simp
  pointwise
  exact congrArg (fun x => w m c (ix2 k x)) (Fin.ext (by show s.val * 1024 + l.val = 1024 * s.val + l.val; omega))

/-- Where the windows stand at a point: the grid runs over the 8 blocks of rows, and within each over the 8 shards. -/
theorem index_facts : ∀ t : Fin grid0.N, win0_0.index t = ![t.val / 8, 0] ∧ win0_1.index t = ![t.val % 8, 0, 0]
    ∧ win0_2.index t = ![t.val / 8, t.val % 8] ∧ win0_3.index t = ![t.val / 8, t.val % 8] := by
  decide +kernel

theorem tile_apply (x0 : Vec Ideal S1024x2048 .bf16) (x1 : Vec Ideal S1x2048x1024 .bf16) (r l : Fin 1024) :
    k0_pay1 x0 x1 (ix2 r l) = max (∑ k : Fin 2048, x0 (ix2 r k) * x1 (ix3 0 k l)) 0 := by
  pointwise [k0_pay1]

/-- The row and the shard of a point. -/
abbrev row (t : Fin cfg0.N) (r : Fin 1024) : Fin 8192 :=
  ⟨1024 * (t.val / 8) + r.val, by have := t.isLt; have h : cfg0.N = 64 := N_0; omega⟩
abbrev shard (t : Fin cfg0.N) : Fin 8 := ⟨t.val % 8, by omega⟩

theorem h_block (c : Dev nD) (t : Fin cfg0.N) (r : Fin 1024) (l : Fin 2048) :
    (iblk m c 0 t : Vec Ideal S1024x2048 .bf16) (ix2 r l) = h m c (ix2 (row t r) l) := by
  unfold iblk
  rw [View.read_apply, ← V_h]
  show V m c main_v3 _ = _
  have e := at_tile (index_facts t).1 r l
  exact congrArg _ (Shape.idx_ext₂ e.1 (e.2.trans (by simp)))

theorem w_block (c : Dev nD) (t : Fin cfg0.N) (k : Fin 2048) (l : Fin 1024) :
    (iblk m c 1 t : Vec Ideal S1x2048x1024 .bf16) (ix3 0 k l) = w m c (ix2 k (shardCol (shard t) l)) := by
  unfold iblk
  rw [View.read_apply, ← V_w]
  show V m c main_v2 _ = _
  have e := at_plane (index_facts t).2.1 k l
  refine congrArg _ (funext fun a => Fin.ext ?_)
  match a with
  | ⟨0, _⟩ => exact e.1
  | ⟨1, _⟩ => exact e.2.1.trans (by simp)
  | ⟨2, _⟩ => exact e.2.2.trans (by simp)

/-- One tile of the rectified product. -/
theorem relu_tile (c : Dev nD) (t : Fin cfg0.N) (r l : Fin 1024) :
    k0_pay1 (iblk m c 0 t) (iblk m c 1 t) (ix2 r l) = reluAt (h m c) (w m c) (row t r) (shardCol (shard t) l) := by
  rw [tile_apply]
  simp only [h_block, w_block]
  rfl

/-- The two arrays the kernel writes. -/
def A (c : Dev nD) : S8192x8192.Idx → Elt Ideal .bf16 := fun i => reluAt (h m c) (w m c) (i 0) (i 1)
def A2 (c : Dev nD) : S8192x8192.Idx → Elt Ideal .bf16 := fun i => reluAt (h m c) (w m c) (i 0) (i 1) * reluAt (h m c) (w m c) (i 0) (i 1)

/-- The point of an entry's tile. -/
abbrev point (i : S8192x8192.Idx) : Fin cfg0.N :=
  ⟨(i 0).val / 1024 * 8 + (i 1).val / 1024, by
    have h : (i 0).val < 8192 := (i 0).isLt
    have h' : (i 1).val < 8192 := (i 1).isLt
    rw [show cfg0.N = 64 from N_0]; omega⟩

theorem point_tile (i : S8192x8192.Idx) :
    (![(point i).val / 8, (point i).val % 8] : Fin 2 → ℕ) = ![(i 0).val / 1024, (i 1).val / 1024] := by
  have h : (i 1).val < 8192 := (i 1).isLt
  have s := split_point (q := (i 0).val / 1024) (r := (i 1).val / 1024) (n := 8) (by omega)
  exact congrArg₂ (fun a b => ![a, b]) s.1 s.2

theorem final_relu (c : Dev nD) : (dats m 0 c).arrAt 2 cfg0.N = A m c :=
  (dats m 0 c).arrAt_eq_of_cover 2 (A m c) (fun t _ => by
    rw [Value.flushed2]
    unfold out0_2
    rw [View.canon_unit_zero hz]
    simp only [View.ld_unit_zero (S := S1024x2048) hz, View.ld_unit_zero (S := S1x2048x1024) hz3]
    funext j
    rw [View.read_apply]
    obtain ⟨r, l, rfl⟩ : ∃ r l : Fin 1024, j = ix2 r l := ⟨j 0, j 1, eq_ix2 j⟩
    have e := at_tile (index_facts t).2.2.1 r l
    exact (relu_tile m c t r l).trans (congrArg (A m c) (Shape.idx_ext₂ (y := ix2 (row t r) (shardCol (shard t) l)) e.1 e.2)).symm) fun i => by
    refine ⟨point i, flush0_2 _, ?_⟩
    show i ∈ ((View.whole main_v4_0).slice (win0_2.rect (point i))).set
    rw [View.set_slice_whole, Rect.mem_set_unit]
    exact in_tile (N := 1024) (K := 1024) (by omega) (by omega) i ((index_facts (point i)).2.2.1.trans (point_tile i))

theorem final_square (c : Dev nD) : (dats m 0 c).arrAt 3 cfg0.N = A2 m c :=
  (dats m 0 c).arrAt_eq_of_cover 3 (A2 m c) (fun t _ => by
    rw [Value.flushed3]
    unfold out0_3
    rw [View.canon_unit_zero hz]
    simp only [View.ld_unit_zero (S := S1024x2048) hz, View.ld_unit_zero (S := S1x2048x1024) hz3]
    funext j
    rw [View.read_apply]
    obtain ⟨r, l, rfl⟩ : ∃ r l : Fin 1024, j = ix2 r l := ⟨j 0, j 1, eq_ix2 j⟩
    have e := at_tile (index_facts t).2.2.2 r l
    exact (congrArg₂ (fun a b : EReal => a * b) (relu_tile m c t r l) (relu_tile m c t r l)).trans
      (congrArg (A2 m c) (Shape.idx_ext₂ (y := ix2 (row t r) (shardCol (shard t) l)) e.1 e.2)).symm) fun i => by
    refine ⟨point i, flush0_3 _, ?_⟩
    show i ∈ ((View.whole main_v4_1).slice (win0_3.rect (point i))).set
    rw [View.set_slice_whole, Rect.mem_set_unit]
    exact in_tile (N := 1024) (K := 1024) (by omega) (by omega) i ((index_facts (point i)).2.2.2.trans (point_tile i))

theorem algebraic : Cert.algebraic_MlpUpIdeal_MlpUpRefIdeal := by
  intro m ρ m' ρ' _ hag
  refine ⟨fun c => A m c, fun c => A2 m c,
    (θ_run _ _ _).mono (fun _ h c => ⟨(h c).1.trans (final_relu m c), (h c).2.1.trans (final_square m c), (h c).2.2⟩) (Value.run_blocks m ρ),
    (θ_run _ _ _).mono (fun _ h c => ⟨(h c).1.trans ?_, (h c).2.1.trans ?_, (h c).2.2⟩) (Cert.MlpUpRefIdeal.Value.run m' ρ')⟩
  · rw [Cert.MlpUpRefIdeal.Read.val_main_v2_eq, (hag c).1, (hag c).2]
    funext i
    rw [eq_ix2 i]
    exact ref_relu _ _ _ _
  · rw [Cert.MlpUpRefIdeal.Read.val_main_v4_eq, (hag c).1, (hag c).2]
    funext i
    rw [eq_ix2 i]
    exact ref_square _ _ _ _

end Cert.Proof.MlpUp

end
-- ==== Proof.PoolMix.lean ====
/-
  The pooling layer's product: each of the four groups of 512 channels times the group's own weights, then the scale, then
  the residual. The kernel works on 1024 rows of one group at a time and keeps both the sum and the product itself.
-/
module

public import proofs.«01_k».proof.Defs
public import proofs.«01_k».proof.Proof.Gen.PoolMixIdeal.Value
public import proofs.«01_k».proof.Proof.Gen.PoolMixRefIdeal.Read
public import proofs.«01_k».proof.Proof.Tiles

@[expose] public section

set_option maxRecDepth 16384

noncomputable section

namespace Cert.Proof.PoolMix

open Idealize.ShloMosaic Idealize.ShloMosaic.TcCoe Idealize.SL.Sem
open Cert.Proof.Rows Cert.Proof.Tiles

/-- Channel `l` of group `g`. -/
abbrev chan (g : Fin 4) (l : Fin 512) : Fin 2048 := ⟨g.val * 512 + l.val, by omega⟩
/-- A channel's group, and its place in the group. -/
abbrev grp (l : Fin 2048) : Fin 4 := ⟨l.val / 512, by omega⟩
abbrev off (l : Fin 2048) : Fin 512 := ⟨l.val % 512, by omega⟩

/-- An entry of the product. -/
def prodAt (p : (⟨2, ![8192, 2048]⟩ : Shape).Idx → EReal) (w : (⟨3, ![4, 512, 512]⟩ : Shape).Idx → EReal) (r : Fin 8192) (l : Fin 2048) : EReal :=
  ∑ k : Fin 512, w (ix3 (grp l) k (off l)) * p (ix2 r (chan (grp l) k))

theorem prodAt_chan (p : (⟨2, ![8192, 2048]⟩ : Shape).Idx → EReal) (w : (⟨3, ![4, 512, 512]⟩ : Shape).Idx → EReal) (r : Fin 8192)
    (g : Fin 4) (l : Fin 512) : prodAt p w r (chan g l) = ∑ k : Fin 512, p (ix2 r (chan g k)) * w (ix3 g k l) := by
  have hg : grp (chan g l) = g := Fin.ext (by show (g.val * 512 + l.val) / 512 = g.val; omega)
  have hl : off (chan g l) = l := Fin.ext (by show (g.val * 512 + l.val) % 512 = l.val; omega)
  unfold prodAt
  rw [hg, hl]
  exact Finset.sum_congr rfl fun k _ => mul_comm _ _

/-- An entry of the scaled product with the residual. -/
def sumAt (p : (⟨2, ![8192, 2048]⟩ : Shape).Idx → EReal) (w : (⟨3, ![4, 512, 512]⟩ : Shape).Idx → EReal)
    (s : (⟨2, ![1, 2048]⟩ : Shape).Idx → EReal) (x : (⟨2, ![8192, 2048]⟩ : Shape).Idx → EReal) (r : Fin 8192) (l : Fin 2048) : EReal :=
  x (ix2 r l) + prodAt p w r l * s (ix2 0 l)

section Reference

open Cert.PoolMixRefIdeal Cert.PoolMixRefIdeal.Gen Cert.PoolMixRefIdeal.Read

theorem ref_prod (p : S8192x2048.Idx → EReal) (w : S4x512x512.Idx → EReal) (r : Fin 8192) (l : Fin 2048) :
    val_main_v3 (F := Ideal) p w (ix2 r l) = prodAt p w r l := by
  unfold prodAt
  pointwise [val_main_v3, val_main_v2, val_main_v1, val_main_v0]

theorem ref_sum (p : S8192x2048.Idx → EReal) (w : S4x512x512.Idx → EReal) (s : S1x2048.Idx → EReal) (x : S8192x2048.Idx → EReal)
    (r : Fin 8192) (l : Fin 2048) : val_main_v8 (F := Ideal) p w s x (ix2 r l) = sumAt p w s x r l := by
  unfold sumAt
  rw [← ref_prod]
  pointwise [val_main_v8, val_main_v7, val_main_v6, val_main_v5, val_main_v4]

end Reference

open Cert.PoolMixIdeal Cert.PoolMixIdeal.Gen

variable (m : (ℓ : Loc nD τ sig) → Buf (Elt Ideal) ℓ) (ρ : Dev nD → PrngReg)

abbrev p (c : Dev nD) : S8192x2048.Idx → EReal := m ((c : Thread nD τ).loc main_arg0)
abbrev w (c : Dev nD) : S4x512x512.Idx → EReal := m ((c : Thread nD τ).loc main_arg1)
abbrev s (c : Dev nD) : S1x2048.Idx → EReal := m ((c : Thread nD τ).loc main_arg2)
abbrev x (c : Dev nD) : S8192x2048.Idx → EReal := m ((c : Thread nD τ).loc main_arg3)

/-- The operands as the host prepares them: only casts. -/
theorem V_p (c : Dev nD) : V m c main_v0 = p m c := by
  show StableHlo.after hostOps0 (fun b => m (c, b)) (Proc.devRef .tc main_v0) = _
  after_results_simp
  rfl
theorem V_w (c : Dev nD) : V m c main_v1 = w m c := by
  show StableHlo.after hostOps0 (fun b => m (c, b)) (Proc.devRef .tc main_v1) = _
  after_results_simp
  rfl
theorem V_s (c : Dev nD) : V m c main_arg2 = s m c := by
  show StableHlo.after hostOps0 (fun b => m (c, b)) (Proc.devRef .tc main_arg2) = _
  after_results_simp
theorem V_x (c : Dev nD) : V m c main_arg3 = x m c := by
  show StableHlo.after hostOps0 (fun b => m (c, b)) (Proc.devRef .tc main_arg3) = _
  after_results_simp

/-- Where the windows stand at a point: the grid runs over the 8 blocks of rows, and within each over the 4 groups. -/
theorem index_facts : ∀ t : Fin grid0.N, win0_0.index t = ![t.val / 4, t.val % 4] ∧ win0_1.index t = ![t.val % 4, 0, 0]
    ∧ win0_2.index t = ![0, t.val % 4] ∧ win0_3.index t = ![t.val / 4, t.val % 4] ∧ win0_4.index t = ![t.val / 4, t.val % 4]
    ∧ win0_5.index t = ![t.val / 4, t.val % 4] := by
  decide +kernel

theorem prod_apply (x0 : Vec Ideal S1024x512 .bf16) (x1 : Vec Ideal S1x512x512 .bf16) (r : Fin 1024) (l : Fin 512) :
    k0_pay1 x0 x1 (ix2 r l) = ∑ k : Fin 512, x0 (ix2 r k) * x1 (ix3 0 k l) := by
  pointwise [k0_pay1]

theorem sum_apply (x0 : Vec Ideal S1024x512 .bf16) (x1 : Vec Ideal S1x512x512 .bf16) (x2 : Vec Ideal S1x512 .f32)
    (x3 : Vec Ideal S1024x512 .f32) (r : Fin 1024) (l : Fin 512) :
    k0_pay2 x0 x1 x2 x3 (ix2 r l) = x3 (ix2 r l) + k0_pay1 x0 x1 (ix2 r l) * x2 (ix2 0 l) := by
  pointwise [k0_pay2]
  exact add_comm _ _

/-- The row and the group of a point. -/
abbrev row (t : Fin cfg0.N) (r : Fin 1024) : Fin 8192 :=
  ⟨1024 * (t.val / 4) + r.val, by have := t.isLt; have h : cfg0.N = 32 := N_0; omega⟩
abbrev group (t : Fin cfg0.N) : Fin 4 := ⟨t.val % 4, by omega⟩

theorem chan_of (t : Fin cfg0.N) (l : Fin 512) {a : ℕ} (h : a = 512 * (t.val % 4) + l.val) : a = (chan (group t) l).val :=
  h.trans (by show _ = t.val % 4 * 512 + l.val; omega)

theorem p_block (c : Dev nD) (t : Fin cfg0.N) (r : Fin 1024) (l : Fin 512) :
    (iblk m c 0 t : Vec Ideal S1024x512 .bf16) (ix2 r l) = p m c (ix2 (row t r) (chan (group t) l)) := by
  unfold iblk
  rw [View.read_apply, ← V_p]
  show V m c main_v0 _ = _
  have e := at_tile (index_facts t).1 r l
  exact congrArg _ (Shape.idx_ext₂ e.1 (chan_of t l e.2))

theorem w_block (c : Dev nD) (t : Fin cfg0.N) (k l : Fin 512) :
    (iblk m c 1 t : Vec Ideal S1x512x512 .bf16) (ix3 0 k l) = w m c (ix3 (group t) k l) := by
  unfold iblk
  rw [View.read_apply, ← V_w]
  show V m c main_v1 _ = _
  have e := at_plane (index_facts t).2.1 k l
  refine congrArg _ (funext fun a => Fin.ext ?_)
  match a with
  | ⟨0, _⟩ => exact e.1
  | ⟨1, _⟩ => exact e.2.1.trans (by simp)
  | ⟨2, _⟩ => exact e.2.2.trans (by simp)

theorem s_block (c : Dev nD) (t : Fin cfg0.N) (l : Fin 512) :
    (iblk m c 2 t : Vec Ideal S1x512 .f32) (ix2 0 l) = s m c (ix2 0 (chan (group t) l)) := by
  unfold iblk
  rw [View.read_apply, ← V_s]
  show V m c main_arg2 _ = _
  have e := at_tile (index_facts t).2.2.1 (0 : Fin 1) l
  exact congrArg _ (Shape.idx_ext₂ (e.1.trans (by simp)) (chan_of t l e.2))

theorem x_block (c : Dev nD) (t : Fin cfg0.N) (r : Fin 1024) (l : Fin 512) :
    (iblk m c 3 t : Vec Ideal S1024x512 .f32) (ix2 r l) = x m c (ix2 (row t r) (chan (group t) l)) := by
  unfold iblk
  rw [View.read_apply, ← V_x]
  show V m c main_arg3 _ = _
  have e := at_tile (index_facts t).2.2.2.1 r l
  exact congrArg _ (Shape.idx_ext₂ e.1 (chan_of t l e.2))

/-- One tile of the product. -/
theorem prod_tile (c : Dev nD) (t : Fin cfg0.N) (r : Fin 1024) (l : Fin 512) :
    k0_pay1 (iblk m c 0 t) (iblk m c 1 t) (ix2 r l) = prodAt (p m c) (w m c) (row t r) (chan (group t) l) := by
  rw [prod_apply, prodAt_chan]
  simp only [p_block, w_block]

/-- One tile of the sum. -/
theorem sum_tile (c : Dev nD) (t : Fin cfg0.N) (r : Fin 1024) (l : Fin 512) :
    k0_pay2 (iblk m c 0 t) (iblk m c 1 t) (iblk m c 2 t) (iblk m c 3 t) (ix2 r l)
      = sumAt (p m c) (w m c) (s m c) (x m c) (row t r) (chan (group t) l) := by
  rw [sum_apply, prod_tile, s_block, x_block]
  rfl

/-- The two arrays the kernel writes. -/
def Y (c : Dev nD) : S8192x2048.Idx → Elt Ideal .f32 := fun i => sumAt (p m c) (w m c) (s m c) (x m c) (i 0) (i 1)
def P (c : Dev nD) : S8192x2048.Idx → Elt Ideal .f32 := fun i => prodAt (p m c) (w m c) (i 0) (i 1)

/-- The point of an entry's tile. -/
abbrev point (i : S8192x2048.Idx) : Fin cfg0.N :=
  ⟨(i 0).val / 1024 * 4 + (i 1).val / 512, by
    have h : (i 0).val < 8192 := (i 0).isLt
    have h' : (i 1).val < 2048 := (i 1).isLt
    rw [show cfg0.N = 32 from N_0]; omega⟩

theorem point_tile (i : S8192x2048.Idx) :
    (![(point i).val / 4, (point i).val % 4] : Fin 2 → ℕ) = ![(i 0).val / 1024, (i 1).val / 512] := by
  have h : (i 1).val < 2048 := (i 1).isLt
  have s := split_point (q := (i 0).val / 1024) (r := (i 1).val / 512) (n := 4) (by omega)
  exact congrArg₂ (fun a b => ![a, b]) s.1 s.2

theorem final_sum (c : Dev nD) : (dats m 0 c).arrAt 4 cfg0.N = Y m c :=
  (dats m 0 c).arrAt_eq_of_cover 4 (Y m c) (fun t _ => by
    rw [Value.flushed4]
    unfold out0_4
    rw [View.canon_unit_zero hz]
    simp only [View.ld_unit_zero (S := S1024x512) hz, View.ld_unit_zero (S := S1x512) hz, View.ld_unit_zero (S := S1x512x512) hz3]
    funext j
    rw [View.read_apply]
    obtain ⟨r, l, rfl⟩ : ∃ (r : Fin 1024) (l : Fin 512), j = ix2 r l := ⟨j 0, j 1, eq_ix2 j⟩
    have e := at_tile (index_facts t).2.2.2.2.1 r l
    exact (sum_tile m c t r l).trans
      (congrArg (Y m c) (Shape.idx_ext₂ (y := ix2 (row t r) (chan (group t) l)) e.1 (chan_of t l e.2))).symm) fun i => by
    refine ⟨point i, flush0_4 _, ?_⟩
    show i ∈ ((View.whole main_v2_0).slice (win0_4.rect (point i))).set
    rw [View.set_slice_whole, Rect.mem_set_unit]
    exact in_tile (N := 1024) (K := 512) (by omega) (by omega) i ((index_facts (point i)).2.2.2.2.1.trans (point_tile i))

theorem final_prod (c : Dev nD) : (dats m 0 c).arrAt 5 cfg0.N = P m c :=
  (dats m 0 c).arrAt_eq_of_cover 5 (P m c) (fun t _ => by
    rw [Value.flushed5]
    unfold out0_5
    rw [View.canon_unit_zero hz]
    simp only [View.ld_unit_zero (S := S1024x512) hz, View.ld_unit_zero (S := S1x512x512) hz3]
    funext j
    rw [View.read_apply]
    obtain ⟨r, l, rfl⟩ : ∃ (r : Fin 1024) (l : Fin 512), j = ix2 r l := ⟨j 0, j 1, eq_ix2 j⟩
    have e := at_tile (index_facts t).2.2.2.2.2 r l
    exact (prod_tile m c t r l).trans
      (congrArg (P m c) (Shape.idx_ext₂ (y := ix2 (row t r) (chan (group t) l)) e.1 (chan_of t l e.2))).symm) fun i => by
    refine ⟨point i, flush0_5 _, ?_⟩
    show i ∈ ((View.whole main_v2_1).slice (win0_5.rect (point i))).set
    rw [View.set_slice_whole, Rect.mem_set_unit]
    exact in_tile (N := 1024) (K := 512) (by omega) (by omega) i ((index_facts (point i)).2.2.2.2.2.trans (point_tile i))

theorem algebraic : Cert.algebraic_PoolMixIdeal_PoolMixRefIdeal := by
  intro m ρ m' ρ' _ hag
  refine ⟨fun c => Y m c, fun c => P m c,
    (θ_run _ _ _).mono (fun _ h c => ⟨(h c).1.trans (final_sum m c), (h c).2.1.trans (final_prod m c), (h c).2.2⟩) (Value.run_blocks m ρ),
    (θ_run _ _ _).mono (fun _ h c => ⟨(h c).1.trans ?_, (h c).2.1.trans ?_, (h c).2.2⟩) (Cert.PoolMixRefIdeal.Value.run m' ρ')⟩
  · refine (Cert.PoolMixRefIdeal.Read.val_main_v8_eq _ _ _ _).trans ?_
    rw [(hag c).1, (hag c).2.1, (hag c).2.2.1, (hag c).2.2.2]
    funext i
    rw [eq_ix2 i]
    exact ref_sum _ _ _ _ _ _
  · refine (Cert.PoolMixRefIdeal.Read.val_main_v3_eq _ _).trans ?_
    rw [(hag c).1, (hag c).2.1]
    funext i
    rw [eq_ix2 i]
    exact ref_prod _ _ _ _

end Cert.Proof.PoolMix

end
-- ==== Proof.AttOut.lean ====
/-
  The attention's last product: the mixed values times the output weights, added to the residual. The kernel multiplies 1024
  rows by 1024 columns at a time and adds the residual's tile; the two sums differ in order only.
-/
module

public import proofs.«01_k».proof.Defs
public import proofs.«01_k».proof.Proof.Gen.AttOutIdeal.Value
public import proofs.«01_k».proof.Proof.Gen.AttOutRefIdeal.Read
public import proofs.«01_k».proof.Proof.Tiles

@[expose] public section

set_option maxRecDepth 16384

noncomputable section

namespace Cert.Proof.AttOut

open Idealize.ShloMosaic Idealize.ShloMosaic.TcCoe Idealize.SL.Sem
open Cert.Proof.Rows Cert.Proof.Tiles

/-- An entry of the sum. -/
def sumAt (o : (⟨2, ![8192, 2048]⟩ : Shape).Idx → EReal) (w : (⟨2, ![2048, 2048]⟩ : Shape).Idx → EReal)
    (x : (⟨2, ![8192, 2048]⟩ : Shape).Idx → EReal) (r : Fin 8192) (l : Fin 2048) : EReal :=
  x (ix2 r l) + ∑ k : Fin 2048, o (ix2 r k) * w (ix2 k l)

section Reference

open Cert.AttOutRefIdeal Cert.AttOutRefIdeal.Gen Cert.AttOutRefIdeal.Read

theorem ref_eq (o : S8192x2048.Idx → EReal) (w : S2048x2048.Idx → EReal) (x : S8192x2048.Idx → EReal) (r : Fin 8192) (l : Fin 2048) :
    val_main_v1 (F := Ideal) o w x (ix2 r l) = sumAt o w x r l := by
  unfold sumAt
  pointwise [val_main_v1, val_main_v0]

end Reference

open Cert.AttOutIdeal Cert.AttOutIdeal.Gen

variable (m : (ℓ : Loc nD τ sig) → Buf (Elt Ideal) ℓ) (ρ : Dev nD → PrngReg)

abbrev o (c : Dev nD) : S8192x2048.Idx → EReal := m ((c : Thread nD τ).loc main_arg0)
abbrev w (c : Dev nD) : S2048x2048.Idx → EReal := m ((c : Thread nD τ).loc main_arg1)
abbrev x (c : Dev nD) : S8192x2048.Idx → EReal := m ((c : Thread nD τ).loc main_arg2)

/-- The operands as the host prepares them: cast. -/
theorem V_o (c : Dev nD) (r : Fin 8192) (l : Fin 2048) : V m c main_v0 (ix2 r l) = o m c (ix2 r l) := by
  show StableHlo.after hostOps0 (fun b => m (c, b)) (Proc.devRef .tc main_v0) (ix2 r l) = _
  after_results_simp
  pointwise

theorem V_w (c : Dev nD) (k l : Fin 2048) : V m c main_v2 (ix3 0 k l) = w m c (ix2 k l) := by
  show StableHlo.after hostOps0 (fun b => m (c, b)) (Proc.devRef .tc main_v2) (ix3 0 k l) = _
  after_results_simp
  pointwise

/-- Where the windows stand at a point: the grid runs over the 8 blocks of rows, and within each over the 2 of columns. -/
theorem index_facts : ∀ t : Fin grid0.N, win0_0.index t = ![t.val / 2, 0] ∧ win0_1.index t = ![0, 0, t.val % 2]
    ∧ win0_2.index t = ![t.val / 2, t.val % 2] ∧ win0_3.index t = ![t.val / 2, t.val % 2] := by
  decide +kernel

theorem tile_apply (x0 : Vec Ideal S1024x2048 .bf16) (x1 : Vec Ideal S1x2048x1024 .bf16) (x2 : Vec Ideal S1024x1024 .f32) (r l : Fin 1024) :
    k0_pay1 x0 x1 x2 (ix2 r l) = x2 (ix2 r l) + ∑ k : Fin 2048, x0 (ix2 r k) * x1 (ix3 0 k l) := by
  rw [add_comm]
  pointwise [k0_pay1]

/-- The row and column an entry of a tile stands at. -/
abbrev row (t : Fin cfg0.N) (r : Fin 1024) : Fin 8192 :=
  ⟨1024 * (t.val / 2) + r.val, by have := t.isLt; have h : cfg0.N = 16 := N_0; omega⟩
abbrev col (t : Fin cfg0.N) (l : Fin 1024) : Fin 2048 := ⟨1024 * (t.val % 2) + l.val, by omega⟩

theorem o_block (c : Dev nD) (t : Fin cfg0.N) (r : Fin 1024) (l : Fin 2048) :
    (iblk m c 0 t : Vec Ideal S1024x2048 .bf16) (ix2 r l) = o m c (ix2 (row t r) l) := by
  unfold iblk
  rw [View.read_apply, ← V_o]
  show V m c main_v0 _ = _
  have e := at_tile (index_facts t).1 r l
  exact congrArg _ (Shape.idx_ext₂ e.1 (e.2.trans (by simp)))

theorem w_block (c : Dev nD) (t : Fin cfg0.N) (k : Fin 2048) (l : Fin 1024) :
    (iblk m c 1 t : Vec Ideal S1x2048x1024 .bf16) (ix3 0 k l) = w m c (ix2 k (col t l)) := by
  unfold iblk
  rw [View.read_apply, ← V_w]
  show V m c main_v2 _ = _
  have e := at_plane (index_facts t).2.1 k l
  refine congrArg _ (funext fun a => Fin.ext ?_)
  match a with
  | ⟨0, _⟩ => exact e.1
  | ⟨1, _⟩ => exact e.2.1.trans (by simp)
  | ⟨2, _⟩ => exact e.2.2

theorem x_block (c : Dev nD) (t : Fin cfg0.N) (r l : Fin 1024) :
    (iblk m c 2 t : Vec Ideal S1024x1024 .f32) (ix2 r l) = x m c (ix2 (row t r) (col t l)) := by
  unfold iblk
  rw [View.read_apply]
  show x m c _ = _
  have e := at_tile (index_facts t).2.2.1 r l
  exact congrArg _ (Shape.idx_ext₂ e.1 e.2)

/-- The array the kernel writes. -/
def G (c : Dev nD) : S8192x2048.Idx → Elt Ideal .f32 := fun i => sumAt (o m c) (w m c) (x m c) (i 0) (i 1)

/-- The point of an entry's tile. -/
abbrev point (i : S8192x2048.Idx) : Fin cfg0.N :=
  ⟨(i 0).val / 1024 * 2 + (i 1).val / 1024, by
    have h : (i 0).val < 8192 := (i 0).isLt
    have h' : (i 1).val < 2048 := (i 1).isLt
    rw [show cfg0.N = 16 from N_0]; omega⟩

theorem final (c : Dev nD) : (dats m 0 c).arrAt 3 cfg0.N = G m c :=
  (dats m 0 c).arrAt_eq_of_cover 3 (G m c) (fun t _ => by
    rw [Value.flushed3]
    unfold out0_3
    rw [View.canon_unit_zero hz]
    simp only [View.ld_unit_zero (S := S1024x2048) hz, View.ld_unit_zero (S := S1x2048x1024) hz3, View.ld_unit_zero (S := S1024x1024) hz]
    funext j
    rw [View.read_apply]
    obtain ⟨r, l, rfl⟩ : ∃ r l : Fin 1024, j = ix2 r l := ⟨j 0, j 1, eq_ix2 j⟩
    show k0_pay1 (iblk m c 0 t) (iblk m c 1 t) (iblk m c 2 t) (ix2 r l) = G m c _
    rw [tile_apply, x_block]
    simp only [o_block, w_block]
    have e := at_tile (index_facts t).2.2.2 r l
    exact (congrArg (G m c) (Shape.idx_ext₂ (y := ix2 (row t r) (col t l)) e.1 e.2)).symm) fun i => by
    refine ⟨point i, flush0_3 _, ?_⟩
    show i ∈ ((View.whole main_v3).slice (win0_3.rect (point i))).set
    rw [View.set_slice_whole, Rect.mem_set_unit]
    have h : (i 1).val < 2048 := (i 1).isLt
    have s := split_point (q := (i 0).val / 1024) (r := (i 1).val / 1024) (n := 2) (by omega)
    exact in_tile (N := 1024) (K := 1024) (by omega) (by omega) i ((index_facts (point i)).2.2.2.trans (congrArg₂ (fun a b => ![a, b]) s.1 s.2))

theorem algebraic : Cert.algebraic_AttOutIdeal_AttOutRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.AttOutRefIdeal.Value.run m' ρ')⟩
  rw [Cert.AttOutRefIdeal.Read.val_main_v1_eq, (hag c).1, (hag c).2.1, (hag c).2.2]
  funext i
  obtain ⟨r, l, rfl⟩ : ∃ (r : Fin 8192) (l : Fin 2048), i = ix2 r l := ⟨i 0, i 1, eq_ix2 i⟩
  exact ref_eq _ _ _ r l

end Cert.Proof.AttOut

end
-- ==== Proof.MlpDown.lean ====
/-
  The squared rectifier's second product: the squares times the second weight, added to the residual. The kernel multiplies
  1024 rows by 1024 columns at a time, 2048 terms of the sum at a point: it carries the sum over four points and adds the
  residual's tile at the last.
-/
module

public import proofs.«01_k».proof.Defs
public import proofs.«01_k».proof.Proof.Gen.MlpDownIdeal.Value
public import proofs.«01_k».proof.Proof.Gen.MlpDownRefIdeal.Read
public import proofs.«01_k».proof.Proof.Tiles

@[expose] public section

set_option maxRecDepth 16384

noncomputable section

namespace Cert.Proof.MlpDown

open Idealize.ShloMosaic Idealize.ShloMosaic.TcCoe Idealize.SL.Sem
open Cert.Proof.Rows Cert.Proof.Tiles

/-- The terms of an entry of the product. -/
def term (a : (⟨2, ![8192, 8192]⟩ : Shape).Idx → EReal) (w : (⟨2, ![8192, 2048]⟩ : Shape).Idx → EReal)
    (r : Fin 8192) (l : Fin 2048) (k : Fin 8192) : EReal := a (ix2 r k) * w (ix2 k l)

/-- An entry of the sum. -/
def sumAt (a : (⟨2, ![8192, 8192]⟩ : Shape).Idx → EReal) (w : (⟨2, ![8192, 2048]⟩ : Shape).Idx → EReal)
    (x : (⟨2, ![8192, 2048]⟩ : Shape).Idx → EReal) (r : Fin 8192) (l : Fin 2048) : EReal :=
  x (ix2 r l) + ∑ k : Fin 8192, term a w r l k

section Reference

open Cert.MlpDownRefIdeal Cert.MlpDownRefIdeal.Gen Cert.MlpDownRefIdeal.Read

theorem ref_eq (a : S8192x8192.Idx → EReal) (w : S8192x2048.Idx → EReal) (x : S8192x2048.Idx → EReal) (r : Fin 8192) (l : Fin 2048) :
    val_main_v1 (F := Ideal) a w x (ix2 r l) = sumAt a w x r l := by
  unfold sumAt term
  pointwise [val_main_v1, val_main_v0]

end Reference

open Cert.MlpDownIdeal Cert.MlpDownIdeal.Gen

section Cases

variable (c : Dev nD) (i : grid0.Coords) (a4 : Memref sig .tc .vmem S1024x2048 .bf16) (h4 : a4.IsWhole)
  (a5 : Memref sig .tc .vmem S1x2048x1024 .bf16) (h5 : a5.IsWhole) (a6 : Memref sig .tc .vmem S1024x1024 .f32) (h6 : a6.IsWhole)
  (a7 : Memref sig .tc .vmem S1024x1024 .f32) (h7 : a7.IsWhole) (a8 : Memref sig .tc .vmem S1024x1024 .f32) (h8 : a8.IsWhole)
  (x0 : Vec Ideal S1024x2048 .bf16) (x1 : Vec Ideal S1x2048x1024 .bf16) (x2 xs : Vec Ideal S1024x1024 .f32)

/-- The first point of four leaves its own product, -/
theorem carried_A (hc0 : cond0_0 i) (hc1 : ¬cond0_1 i) (hc2 : ¬cond0_2 i) :
    sout0_A_0 c i a4 h4 a5 h5 a6 h6 a7 h7 a8 h8 hc0 hc1 hc2 x0 x1 x2 = k0_pay2 x0 x1 := by
  unfold sout0_A_0
  rw [View.read_writes_eq_canon _ _ _ (scover0_A_0 c i a4 h4 a5 h5 a6 h6 a7 h7 a8 h8 hc0 hc1 hc2 x0 x1 x2)]
  unfold kernelRun0_A
  dsimp only
  sl_unfold_words
  rw [View.canon_unit_zero hz]
  simp only [View.readAt_eq_ld, h4.read_unread, h5.read_unread, View.ld_unit_zero (S := S1024x2048) hz, View.ld_unit_zero (S := S1x2048x1024) hz3]

/-- the next two add theirs to what is carried, -/
theorem carried_B (hc0 : ¬cond0_0 i) (hc1 : cond0_1 i) (hc2 : ¬cond0_2 i) :
    sout0_B_0 c i a4 h4 a5 h5 a6 h6 a7 h7 a8 h8 hc0 hc1 hc2 x0 x1 x2 xs = k0_pay3 x0 x1 xs := by
  unfold sout0_B_0
  rw [View.read_writes_eq_canon _ _ _ (scover0_B_0 c i a4 h4 a5 h5 a6 h6 a7 h7 a8 h8 hc0 hc1 hc2 x0 x1 x2 xs)]
  unfold kernelRun0_B
  dsimp only
  sl_unfold_words
  rw [View.canon_unit_zero hz]
  simp only [View.readAt_eq_ld, h4.read_unread, h5.read_unread, h8.read_unread, View.ld_unit_zero (S := S1024x2048) hz, View.ld_unit_zero (S := S1x2048x1024) hz3,
    View.ld_unit_zero (S := S1024x1024) hz]

/-- and the last writes the sum with its own and the residual. -/
theorem written_C (hc0 : ¬cond0_0 i) (hc1 : ¬cond0_1 i) (hc2 : cond0_2 i) :
    out0_C_3 c i a4 h4 a5 h5 a6 h6 a7 h7 a8 h8 hc0 hc1 hc2 x0 x1 x2 xs = k0_pay4 x0 x1 xs x2 := by
  unfold out0_C_3
  rw [View.read_writes_eq_canon _ _ _ (cover0_C_3 c i a4 h4 a5 h5 a6 h6 a7 h7 a8 h8 hc0 hc1 hc2 x0 x1 x2 xs)]
  unfold kernelRun0_C
  dsimp only
  sl_unfold_words
  rw [View.canon_unit_zero hz]
  simp only [View.readAt_eq_ld, h4.read_unread, h5.read_unread, h6.read_unread, h8.read_unread, View.ld_unit_zero (S := S1024x2048) hz, View.ld_unit_zero (S := S1x2048x1024) hz3,
    View.ld_unit_zero (S := S1024x1024) hz]

theorem prod_apply (r l : Fin 1024) : k0_pay2 x0 x1 (ix2 r l) = ∑ k : Fin 2048, x0 (ix2 r k) * x1 (ix3 0 k l) := by
  pointwise [k0_pay2, k0_pay1]

theorem add_apply (r l : Fin 1024) :
    k0_pay3 x0 x1 xs (ix2 r l) = xs (ix2 r l) + ∑ k : Fin 2048, x0 (ix2 r k) * x1 (ix3 0 k l) := by
  pointwise [k0_pay3, k0_pay1]

theorem last_apply (r l : Fin 1024) :
    k0_pay4 x0 x1 xs x2 (ix2 r l) = xs (ix2 r l) + (∑ k : Fin 2048, x0 (ix2 r k) * x1 (ix3 0 k l)) + x2 (ix2 r l) := by
  pointwise [k0_pay4, k0_pay1]

end Cases

variable (m : (ℓ : Loc nD τ sig) → Buf (Elt Ideal) ℓ) (ρ : Dev nD → PrngReg)

abbrev a (c : Dev nD) : S8192x8192.Idx → EReal := m ((c : Thread nD τ).loc main_arg0)
abbrev w (c : Dev nD) : S8192x2048.Idx → EReal := m ((c : Thread nD τ).loc main_arg1)
abbrev x (c : Dev nD) : S8192x2048.Idx → EReal := m ((c : Thread nD τ).loc main_arg2)

/-- The operands as the host prepares them: cast. -/
theorem V_a (c : Dev nD) (r k : Fin 8192) : V m c main_v0 (ix2 r k) = a m c (ix2 r k) := by
  show StableHlo.after hostOps0 (fun b => m (c, b)) (Proc.devRef .tc main_v0) (ix2 r k) = _
  after_results_simp
  pointwise

theorem V_w (c : Dev nD) (k : Fin 8192) (l : Fin 2048) : V m c main_v2 (ix3 0 k l) = w m c (ix2 k l) := by
  show StableHlo.after hostOps0 (fun b => m (c, b)) (Proc.devRef .tc main_v2) (ix3 0 k l) = _
  after_results_simp
  pointwise

/-- Where the windows stand at a point: the grid runs over the 8 blocks of rows, within each over the 2 of columns, and
    within each of these over the 4 blocks of terms. -/
theorem index_facts : ∀ t : Fin grid0.N, win0_0.index t = ![t.val / 8, t.val % 4] ∧ win0_1.index t = ![0, t.val % 4, t.val / 4 % 2]
    ∧ win0_2.index t = ![t.val / 8, t.val / 4 % 2] ∧ win0_3.index t = ![t.val / 8, t.val / 4 % 2] := by
  decide +kernel

/-- The row and column an entry of a tile stands at, and the place of a term. -/
abbrev row (n : ℕ) (h : n < cfg0.N) (r : Fin 1024) : Fin 8192 :=
  ⟨1024 * (n / 8) + r.val, by have hN : cfg0.N = 64 := N_0; omega⟩
abbrev col (n : ℕ) (l : Fin 1024) : Fin 2048 := ⟨1024 * (n / 4 % 2) + l.val, by omega⟩
abbrev place (n : ℕ) (k : Fin 2048) : Fin 8192 := ⟨2048 * (n % 4) + k.val, by omega⟩

theorem a_block (c : Dev nD) (t : Fin cfg0.N) (r : Fin 1024) (k : Fin 2048) :
    (iblk m c 0 t : Vec Ideal S1024x2048 .bf16) (ix2 r k) = a m c (ix2 (row t.val t.isLt r) (place t.val k)) := by
  unfold iblk
  rw [View.read_apply, ← V_a]
  show V m c main_v0 _ = _
  have e := at_tile (index_facts t).1 r k
  exact congrArg _ (Shape.idx_ext₂ e.1 e.2)

theorem w_block (c : Dev nD) (t : Fin cfg0.N) (k : Fin 2048) (l : Fin 1024) :
    (iblk m c 1 t : Vec Ideal S1x2048x1024 .bf16) (ix3 0 k l) = w m c (ix2 (place t.val k) (col t.val l)) := by
  unfold iblk
  rw [View.read_apply, ← V_w]
  show V m c main_v2 _ = _
  have e := at_plane (index_facts t).2.1 k l
  refine congrArg _ (funext fun a => Fin.ext ?_)
  match a with
  | ⟨0, _⟩ => exact e.1
  | ⟨1, _⟩ => exact e.2.1
  | ⟨2, _⟩ => exact e.2.2

theorem x_block (c : Dev nD) (t : Fin cfg0.N) (r l : Fin 1024) :
    (iblk m c 2 t : Vec Ideal S1024x1024 .f32) (ix2 r l) = x m c (ix2 (row t.val t.isLt r) (col t.val l)) := by
  unfold iblk
  rw [View.read_apply]
  show x m c _ = _
  have e := at_tile (index_facts t).2.2.1 r l
  exact congrArg _ (Shape.idx_ext₂ e.1 e.2)

/-- What is carried after a point that is not the last of its four: the terms up to its own block. -/
theorem carried_eq (c : Dev nD) (r l : Fin 1024) : ∀ (n : ℕ) (h : n < cfg0.N), n % 4 ≤ 2 → (outsAt0 m c n h).2 (ix2 r l)
    = ∑ k ∈ Finset.range (2048 * (n % 4 + 1)), ext (term (a m c) (w m c) (row n h r) (col n l)) k := by
  intro n
  induction n with
  | zero =>
    intro h _
    rw [outsAt0_A m c ⟨0, h⟩ rfl (by dsimp only; omega) (by dsimp only; omega)]
    dsimp only
    rw [carried_A, prod_apply, sum_block _ (0 % 4) _ fun k => ⟨(place 0 k).isLt, rfl⟩]
    simp only [a_block, w_block]
    exact (zero_add _).symm
  | succ n ih =>
    intro h h2
    have hN : cfg0.N = 64 := N_0
    rw [sum_block _ ((n + 1) % 4) _ fun k => ⟨(place (n + 1) k).isLt, rfl⟩]
    by_cases h0 : (n + 1) % 4 = 0
    · rw [outsAt0_A m c ⟨n + 1, h⟩ h0 (by dsimp only; omega) (by dsimp only; omega)]
      dsimp only
      rw [carried_A, prod_apply]
      simp only [a_block, w_block]
      rw [show Finset.range (2048 * ((n + 1) % 4)) = ∅ by rw [h0]; rfl, Finset.sum_empty, zero_add]
      rfl
    · rw [outsAt0_B m c ⟨n + 1, h⟩ h0 ⟨by dsimp only; omega, h2⟩ (by dsimp only; omega)]
      dsimp only
      rw [carried_B, add_apply]
      simp only [a_block, w_block]
      have e : (n + 1) % 4 = n % 4 + 1 := by omega
      have er : row (n + 1) h r = row n (Nat.lt_of_succ_lt h) r := Fin.ext (by show 1024 * ((n + 1) / 8) + _ = 1024 * (n / 8) + _; omega)
      have el : col (n + 1) l = col n l := Fin.ext (by show 1024 * ((n + 1) / 4 % 2) + _ = 1024 * (n / 4 % 2) + _; omega)
      refine congrArg (· + _) ((ih (Nat.lt_of_succ_lt h) (by omega)).trans ?_)
      rw [e, er, el]

/-- The array the kernel writes. -/
def G (c : Dev nD) : S8192x2048.Idx → Elt Ideal .f32 := fun i => sumAt (a m c) (w m c) (x m c) (i 0) (i 1)

/-- What the last of four points writes. -/
theorem written_eq (c : Dev nD) (r l : Fin 1024) : ∀ (n : ℕ) (h : n < cfg0.N), n % 4 = 3 → (outsAt0 m c n h).1 (ix2 r l)
    = sumAt (a m c) (w m c) (x m c) (row n h r) (col n l)
  | 0, _, h3 => absurd h3 (by omega)
  | n + 1, h, h3 => by
    rw [outsAt0_C m c ⟨n + 1, h⟩ (by dsimp only; omega) (by dsimp only; omega) h3]
    dsimp only
    rw [written_C, last_apply, x_block, add_comm]
    simp only [a_block, w_block]
    refine congrArg (_ + ·) ?_
    have er : row (n + 1) h r = row n (Nat.lt_of_succ_lt h) r := Fin.ext (by show 1024 * ((n + 1) / 8) + _ = 1024 * (n / 8) + _; omega)
    have el : col (n + 1) l = col n l := Fin.ext (by show 1024 * ((n + 1) / 4 % 2) + _ = 1024 * (n / 4 % 2) + _; omega)
    have e := sum_block (term (a m c) (w m c) (row (n + 1) h r) (col (n + 1) l)) ((n + 1) % 4) _ fun k => ⟨(place (n + 1) k).isLt, rfl⟩
    refine Eq.trans ?_ (e.symm.trans ((congrArg (fun q => ∑ k ∈ Finset.range (2048 * (q + 1)), ext _ k) h3).trans (sum_ext _)))
    refine congrArg (· + _) ((carried_eq m c r l n (Nat.lt_of_succ_lt h) (by omega)).trans ?_)
    rw [h3, show n % 4 + 1 = 3 by omega, er, el]

/-- The point that writes an entry's tile. -/
abbrev point (i : S8192x2048.Idx) : Fin cfg0.N :=
  ⟨((i 0).val / 1024 * 2 + (i 1).val / 1024) * 4 + 3, by
    have h : (i 0).val < 8192 := (i 0).isLt
    have h' : (i 1).val < 2048 := (i 1).isLt
    rw [show cfg0.N = 64 from N_0]; omega⟩

theorem final (c : Dev nD) : (dats m 0 c).arrAt 3 cfg0.N = G m c :=
  (dats m 0 c).arrAt_eq_of_cover 3 (G m c) (fun t hf => by
    have h := (flush0_3 t).mp hf
    rw [Value.flushed3]
    funext j
    rw [View.read_apply]
    obtain ⟨r, l, rfl⟩ : ∃ r l : Fin 1024, j = ix2 r l := ⟨j 0, j 1, eq_ix2 j⟩
    refine (written_eq m c r l t.val t.isLt h).trans ?_
    have e := at_tile (index_facts t).2.2.2 r l
    exact (congrArg (G m c) (Shape.idx_ext₂ (y := ix2 (row t.val t.isLt r) (col t.val l)) e.1 e.2)).symm) fun i => by
    have h : (i 0).val < 8192 := (i 0).isLt
    have h' : (i 1).val < 2048 := (i 1).isLt
    refine ⟨point i, (flush0_3 _).mpr (by show (_ * 4 + 3) % 4 = 3; omega), ?_⟩
    show i ∈ ((View.whole main_v3).slice (win0_3.rect (point i))).set
    rw [View.set_slice_whole, Rect.mem_set_unit]
    exact in_tile (N := 1024) (K := 1024) (by omega) (by omega) i ((index_facts (point i)).2.2.2.trans
      (congrArg₂ (fun a b => ![a, b]) (by show (((i 0).val / 1024 * 2 + (i 1).val / 1024) * 4 + 3) / 8 = _; omega)
        (by show (((i 0).val / 1024 * 2 + (i 1).val / 1024) * 4 + 3) / 4 % 2 = _; omega)))

theorem algebraic : Cert.algebraic_MlpDownIdeal_MlpDownRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.MlpDownRefIdeal.Value.run m' ρ')⟩
  rw [Cert.MlpDownRefIdeal.Read.val_main_v1_eq, (hag c).1, (hag c).2.1, (hag c).2.2]
  funext i
  obtain ⟨r, l, rfl⟩ : ∃ (r : Fin 8192) (l : Fin 2048), i = ix2 r l := ⟨i 0, i 1, eq_ix2 i⟩
  exact ref_eq _ _ _ r l

end Cert.Proof.MlpDown

end
-- ==== Proof.PoolFwd.lean ====
/-
  The pooling layer: each of the four groups of channels averages the last 2, 4, 8 or 16 rows and takes the row itself
  away. The kernel builds the sums of 2, 4, 8 and 16 rows one from the other, shifted, in a block of 512 rows with the 16
  before it. The reference takes differences of prefix sums, which are the same sums where the argument is finite.
-/
module

public import proofs.«01_k».proof.Defs
public import proofs.«01_k».proof.Proof.Gen.PoolFwdIdeal.Value
public import proofs.«01_k».proof.Proof.Gen.PoolFwdRefIdeal.Read
public import proofs.«01_k».proof.Proof.Pool
public import proofs.«01_k».proof.Proof.Conv
public import proofs.«01_k».proof.Proof.Tiles

@[expose] public section

set_option maxRecDepth 16384

noncomputable section

namespace Cert.Proof.PoolFwd

open Idealize.ShloMosaic Idealize.ShloMosaic.TcCoe Idealize.SL.Sem
open Cert.Proof.Rows Cert.Proof.Tiles
open Cert.Proof.Pool (SP wn gcol gcol0 gcol1 gcol2 gcol3 coe_sum f2 f4 f8 f16 float_lt windowed_sum windowEquiv group_fact window_pick
  select_one select_zero)
open Cert.Proof.Conv (sgt_fact)

/-- The row `k` rows before row `r`, zero before the first. -/
def back (p : SP.Idx → EReal) (l : Fin 2048) (r : Fin 8192) (k : ℕ) : EReal :=
  if k ≤ r.val then p (ix2 ⟨r.val - k, by omega⟩ l) else 0

/-- An entry of the pooled rows. -/
def poolAt (p : SP.Idx → EReal) (r : Fin 8192) (g : Fin 4) (l : Fin 512) : EReal :=
  Ideal.div (∑ k ∈ Finset.range (wn g), back p (gcol g l) r k) (min (((r.val : ℝ) : EReal) + 1) ((wn g : ℝ) : EReal)) - p (ix2 r (gcol g l))

/-- The last `w` terms up to `r` are a difference of prefix sums. -/
theorem lag (q : ℕ → ℝ) (r w : ℕ) : ∑ k ∈ Finset.range w, (if k ≤ r then q (r - k) else 0)
    = ∑ s ∈ Finset.range (r + 1), q s - ∑ s ∈ Finset.range (r + 1 - w), q s := by
  induction w with
  | zero => simp
  | succ w ih =>
    rw [Finset.sum_range_succ, ih]
    by_cases h : w ≤ r
    · have e := Finset.sum_range_succ q (r - w)
      rw [if_pos h, show r + 1 - w = (r - w) + 1 by omega, show r + 1 - (w + 1) = r - w by omega, e]
      ring
    · rw [if_neg h, show r + 1 - w = 0 by omega, show r + 1 - (w + 1) = 0 by omega, add_zero]

/-- A finite column, as a sequence of reals. -/
theorem column (p : SP.Idx → EReal) (hp : ∀ i, ∃ x : ℝ, p i = x) (l : Fin 2048) :
    ∃ q : ℕ → ℝ, ∀ s : Fin 8192, p (ix2 s l) = q s.val :=
  ⟨fun s => if h : s < 8192 then (hp (ix2 ⟨s, h⟩ l)).choose else 0, fun s => by
    dsimp only
    rw [dif_pos s.isLt]
    exact (hp (ix2 s l)).choose_spec⟩

theorem back_real (p : SP.Idx → EReal) (l : Fin 2048) (q : ℕ → ℝ) (hq : ∀ s : Fin 8192, p (ix2 s l) = q s.val) (r : Fin 8192) (k : ℕ) :
    back p l r k = ((if k ≤ r.val then q (r.val - k) else 0 : ℝ) : EReal) := by
  unfold back
  split_ifs
  · exact hq _
  · rfl

theorem back_sum (p : SP.Idx → EReal) (l : Fin 2048) (q : ℕ → ℝ) (hq : ∀ s : Fin 8192, p (ix2 s l) = q s.val) (r : Fin 8192) (w : ℕ) :
    ∑ k ∈ Finset.range w, back p l r k = ((∑ s ∈ Finset.range (r.val + 1), q s - ∑ s ∈ Finset.range (r.val + 1 - w), q s : ℝ) : EReal) := by
  rw [← lag, coe_sum]
  exact Finset.sum_congr rfl fun k _ => back_real p l q hq r k

section Reference

open Cert.PoolFwdRefIdeal Cert.PoolFwdRefIdeal.Gen Cert.PoolFwdRefIdeal.Read

/-- The reference's windowed sum reads as the sum over the rows up to this one. -/
theorem prefix_sum (x : S8192x4x512.Idx → EReal) (z : S_.Idx → EReal) (hz : z (Shape.Idx.first h_S_) = 0) (r : Fin 8192) (g : Fin 4) (l : Fin 512) :
    Host.reduceWindowAdd (F := Ideal) (φ := .f32) ![8192, 1, 1] ![1, 1, 1] ![8191, 0, 0] ![0, 0, 0] x z
      reduceWindows_S8192x4x512_S8192x4x512_w8192s1p8191_0_w1s1p0_0_w1s1p0_0 h_S_ (ix3 r g l)
      = ∑ k ∈ Finset.range 8192, if h : k ≤ r.val then x (ix3 ⟨r.val - k, by omega⟩ g l) else 0 := by
  unfold Host.reduceWindowAdd
  rw [Ideal.hostReduceWindowAdd_def, hz, windowed_sum, Finset.sum_range]
  refine (Equiv.sum_comp windowEquiv _).symm.trans ((Equiv.sum_comp Fin.revPerm _).symm.trans (Finset.sum_congr rfl fun k _ => ?_))
  have hk : (Fin.revPerm k : Fin 8192).val = 8191 - k.val := by show 8192 - (k.val + 1) = _; omega
  by_cases h : k.val ≤ r.val
  · rw [dif_pos h]
    refine (dif_pos ?_).trans (congrArg x (funext fun a => Fin.ext ?_))
    · intro a
      match a with
      | ⟨0, _⟩ =>
        show 8191 ≤ r.val * 1 + (Fin.revPerm k : Fin 8192).val ∧ r.val * 1 + (Fin.revPerm k : Fin 8192).val - 8191 < 8192
        omega
      | ⟨1, _⟩ => exact ⟨Nat.zero_le _, by show g.val * 1 + 0 - 0 < 4; omega⟩
      | ⟨2, _⟩ => exact ⟨Nat.zero_le _, by show l.val * 1 + 0 - 0 < 512; omega⟩
    · match a with
      | ⟨0, _⟩ => show r.val * 1 + (Fin.revPerm k : Fin 8192).val - 8191 = r.val - k.val; omega
      | ⟨1, _⟩ => show g.val * 1 + 0 - 0 = g.val; omega
      | ⟨2, _⟩ => show l.val * 1 + 0 - 0 = l.val; omega
  · rw [dif_neg h]
    refine dif_neg fun hh => h ?_
    have := (hh ⟨0, by decide⟩).1
    have : 8191 ≤ r.val * 1 + (Fin.revPerm k : Fin 8192).val := this
    omega

theorem zero_start : val_main_call0_call0_v0 (F := Ideal) (Shape.Idx.first h_S_) = 0 := by
  pointwise [val_main_call0_call0_v0, val_main_call0_call0_cst]

theorem ref_chan (p : SP.Idx → EReal) (r : Fin 8192) (g : Fin 4) (l : Fin 512) : val_main_v0 (F := Ideal) p (ix3 r g l) = p (ix2 r (gcol g l)) := by
  pointwise [val_main_v0]
  exact congrArg (fun x => p (ix2 r x)) (Fin.ext (by show g.val * 512 + l.val = 512 * g.val + l.val; omega))

/-- The reference's prefix sums, of a finite argument. -/
theorem ref_prefix (p : SP.Idx → EReal) (g : Fin 4) (l : Fin 512) (q : ℕ → ℝ) (hq : ∀ s : Fin 8192, p (ix2 s (gcol g l)) = q s.val) (r : Fin 8192) :
    val_main_v1 (F := Ideal) p (ix3 r g l) = ((∑ s ∈ Finset.range (r.val + 1), q s : ℝ) : EReal) := by
  unfold val_main_v1
  rw [prefix_sum _ _ zero_start]
  have e := back_sum p (gcol g l) q hq r 8192
  rw [show r.val + 1 - 8192 = 0 by omega, Finset.sum_range_zero, sub_zero] at e
  rw [← e]
  refine Finset.sum_congr rfl fun k _ => ?_
  unfold back
  split_ifs
  · exact ref_chan p _ g l
  · rfl

/-- The average of the last rows and the row itself, as the reference computes them from its prefix sums. -/
theorem ref_at (p : SP.Idx → EReal) (hp : ∀ i, ∃ x : ℝ, p i = x) (r : Fin 8192) (g : Fin 4) (l : Fin 512) (w : ℕ) (hw : wn g = w) {W : EReal}
    (hW : W = ((w : ℝ) : EReal)) :
    Ideal.div (val_main_v1 (F := Ideal) p (ix3 r g l) - if _ : r.val < w then 0 else val_main_v1 (F := Ideal) p (ix3 ⟨r.val - w, by omega⟩ g l))
        (min (1 + FloatOps.sitofp (F := Ideal) FTy.f32 (BitVec.ofNat 32 r.val)) W) - val_main_v0 (F := Ideal) p (ix3 r g l) = poolAt p r g l := by
  obtain ⟨q, hq⟩ := column p hp (gcol g l)
  unfold poolAt
  rw [hw, hW, back_sum p (gcol g l) q hq r w, ref_chan, float_lt r.isLt, add_comm (1 : EReal), ref_prefix p g l q hq]
  congr 2
  by_cases h : r.val < w
  · rw [dif_pos h, show r.val + 1 - w = 0 by omega, Finset.sum_range_zero, sub_zero, sub_zero]
  · rw [dif_neg h, ref_prefix p g l q hq, ← EReal.coe_sub, show r.val + 1 - w = r.val - w + 1 by omega]

theorem ref0 (p : SP.Idx → EReal) (hp : ∀ i, ∃ x : ℝ, p i = x) (r : Fin 8192) (l : Fin 512) :
    val_main_v65 (F := Ideal) p (ix3 r 0 l) = poolAt p r 0 l := by
  refine Eq.trans ?_ (ref_at p hp r 0 l 2 rfl f2)
  pointwise [val_main_v65, val_main_v61, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_cst, val_main_cst_0, val_main_cst_1]

theorem ref1 (p : SP.Idx → EReal) (hp : ∀ i, ∃ x : ℝ, p i = x) (r : Fin 8192) (l : Fin 512) :
    val_main_v65 (F := Ideal) p (ix3 r 1 l) = poolAt p r 1 l := by
  refine Eq.trans ?_ (ref_at p hp r 1 l 4 rfl f4)
  pointwise [val_main_v65, val_main_v62, val_main_v32, val_main_v31, val_main_v30, val_main_v29, val_main_v28, val_main_v27,
    val_main_v26, val_main_v25, val_main_v24, val_main_v23, val_main_v22, val_main_v21, val_main_v20, val_main_v19, val_main_v4,
    val_main_v3, val_main_v2, val_main_cst, val_main_cst_2, val_main_cst_3]

theorem ref2 (p : SP.Idx → EReal) (hp : ∀ i, ∃ x : ℝ, p i = x) (r : Fin 8192) (l : Fin 512) :
    val_main_v65 (F := Ideal) p (ix3 r 2 l) = poolAt p r 2 l := by
  refine Eq.trans ?_ (ref_at p hp r 2 l 8 rfl f8)
  pointwise [val_main_v65, val_main_v63, val_main_v46, val_main_v45, val_main_v44, val_main_v43, val_main_v42, val_main_v41,
    val_main_v40, val_main_v39, val_main_v38, val_main_v37, val_main_v36, val_main_v35, val_main_v34, val_main_v33, val_main_v4,
    val_main_v3, val_main_v2, val_main_cst, val_main_cst_4, val_main_cst_5]

theorem ref3 (p : SP.Idx → EReal) (hp : ∀ i, ∃ x : ℝ, p i = x) (r : Fin 8192) (l : Fin 512) :
    val_main_v65 (F := Ideal) p (ix3 r 3 l) = poolAt p r 3 l := by
  refine Eq.trans ?_ (ref_at p hp r 3 l 16 rfl f16)
  pointwise [val_main_v65, val_main_v64, val_main_v60, val_main_v59, val_main_v58, val_main_v57, val_main_v56, val_main_v55,
    val_main_v54, val_main_v53, val_main_v52, val_main_v51, val_main_v50, val_main_v49, val_main_v48, val_main_v47, val_main_v4,
    val_main_v3, val_main_v2, val_main_cst, val_main_cst_6, val_main_cst_7]

/-- The reference at an entry, where the argument is finite. -/
theorem ref_pool (p : SP.Idx → EReal) (hp : ∀ i, ∃ x : ℝ, p i = x) (r : Fin 8192) (l : Fin 2048) :
    val_main_v67 (F := Ideal) p (ix2 r l) = poolAt p r ⟨l.val / 512, by omega⟩ ⟨l.val % 512, by omega⟩ := by
  have e : val_main_v67 (F := Ideal) p (ix2 r l) = val_main_v65 (F := Ideal) p (ix3 r ⟨l.val / 512, by omega⟩ ⟨l.val % 512, by omega⟩) := by
    pointwise [val_main_v67, val_main_v66]
  rw [e]
  generalize (⟨l.val / 512, by omega⟩ : Fin 4) = g
  generalize (⟨l.val % 512, by omega⟩ : Fin 512) = l
  fin_cases g
  · exact ref0 p hp r l
  · exact ref1 p hp r l
  · exact ref2 p hp r l
  · exact ref3 p hp r l

end Reference

open Cert.PoolFwdIdeal Cert.PoolFwdIdeal.Gen

/-- The block with the 16 rows before it, and the sums of 2, 4, 8 and 16 of its rows. -/
def cat (i : grid0.Coords) (x0 : Vec Ideal S512x512 .f32) (x1 : Vec Ideal S16x512 .f32) : FVec Ideal S528x512 .f32 :=
  concatenate S528x512 0 [⟨S16x512, Scalar.select (Scalar.cmpi .sgt (BitVec.ofNat 32 (i 0).val) 0#32) x1
    (broadcast S16x512 (Scalar.ofBits (F := Ideal) .f32 0x00000000#32))⟩, ⟨S512x512, x0⟩] concatenates_S16x512_S512x512_S528x512_d0
def sum2 (i : grid0.Coords) (x0 : Vec Ideal S512x512 .f32) (x1 : Vec Ideal S16x512 .f32) : FVec Ideal S528x512 .f32 :=
  addf (cat i x0 x1) (dynamicRotate 0 1#32 none (cat i x0 x1) rotates_S528x512_d0)
def sum4 (i : grid0.Coords) (x0 : Vec Ideal S512x512 .f32) (x1 : Vec Ideal S16x512 .f32) : FVec Ideal S528x512 .f32 :=
  addf (sum2 i x0 x1) (dynamicRotate 0 2#32 none (sum2 i x0 x1) rotates_S528x512_d0)
def sum8 (i : grid0.Coords) (x0 : Vec Ideal S512x512 .f32) (x1 : Vec Ideal S16x512 .f32) : FVec Ideal S528x512 .f32 :=
  addf (sum4 i x0 x1) (dynamicRotate 0 4#32 none (sum4 i x0 x1) rotates_S528x512_d0)
def sum16 (i : grid0.Coords) (x0 : Vec Ideal S512x512 .f32) (x1 : Vec Ideal S16x512 .f32) : FVec Ideal S528x512 .f32 :=
  addf (sum8 i x0 x1) (dynamicRotate 0 8#32 none (sum8 i x0 x1) rotates_S528x512_d0)

theorem pick_eq (i : grid0.Coords) (x0 : Vec Ideal S512x512 .f32) (x1 : Vec Ideal S16x512 .f32) :
    k0_pay2 i x0 x1 = extractStridedSlice S512x512 ![16, 0]
      (Scalar.select (Scalar.cmpi .eq (BitVec.ofNat 32 (i 1).val) 0#32) (sum2 i x0 x1)
        (Scalar.select (Scalar.cmpi .eq (BitVec.ofNat 32 (i 1).val) 1#32) (sum4 i x0 x1)
          (Scalar.select (Scalar.cmpi .eq (BitVec.ofNat 32 (i 1).val) 2#32) (sum8 i x0 x1) (sum16 i x0 x1))))
      slices_S528x512_o16_0_S512x512 := rfl

theorem own_rows (S : FVec Ideal S528x512 .f32) (r l : Fin 512) :
    extractStridedSlice S512x512 ![16, 0] S slices_S528x512_o16_0_S512x512 (ix2 r l) = S (ix2 ⟨16 + r.val, by omega⟩ l) := by
  pointwise

theorem shift1 (S : FVec Ideal S528x512 .f32) (r : Fin 528) (l : Fin 512) :
    addf S (dynamicRotate 0 1#32 none S rotates_S528x512_d0) (ix2 r l) = S (ix2 r l) + S (ix2 ⟨(r.val + 528 - 1) % 528, by omega⟩ l) := by
  pointwise
theorem shift2 (S : FVec Ideal S528x512 .f32) (r : Fin 528) (l : Fin 512) :
    addf S (dynamicRotate 0 2#32 none S rotates_S528x512_d0) (ix2 r l) = S (ix2 r l) + S (ix2 ⟨(r.val + 528 - 2) % 528, by omega⟩ l) := by
  pointwise
theorem shift4 (S : FVec Ideal S528x512 .f32) (r : Fin 528) (l : Fin 512) :
    addf S (dynamicRotate 0 4#32 none S rotates_S528x512_d0) (ix2 r l) = S (ix2 r l) + S (ix2 ⟨(r.val + 528 - 4) % 528, by omega⟩ l) := by
  pointwise
theorem shift8 (S : FVec Ideal S528x512 .f32) (r : Fin 528) (l : Fin 512) :
    addf S (dynamicRotate 0 8#32 none S rotates_S528x512_d0) (ix2 r l) = S (ix2 r l) + S (ix2 ⟨(r.val + 528 - 8) % 528, by omega⟩ l) := by
  pointwise

/-- A sum of the last `w` rows and the one `w` rows before are the sum of the last `2 w` rows. -/
theorem double (S T : FVec Ideal S528x512 .f32) (w b : ℕ) (l : Fin 512) (q : ℕ → EReal)
    (hT : ∀ r : Fin 528, ∀ h : w ≤ r.val, T (ix2 r l) = S (ix2 r l) + S (ix2 ⟨r.val - w, by omega⟩ l)) (hw : 0 < w)
    (hS : ∀ r : Fin 528, w ≤ r.val + 1 → S (ix2 r l) = ∑ k ∈ Finset.range w, q (b + r.val - k)) (r : Fin 528) (h : w + w ≤ r.val + 1) :
    T (ix2 r l) = ∑ k ∈ Finset.range (w + w), q (b + r.val - k) := by
  rw [hT r (by omega), hS r (by omega), hS ⟨r.val - w, by omega⟩ (by show w ≤ r.val - w + 1; omega), Finset.sum_range_add]
  exact congrArg _ (Finset.sum_congr rfl fun k _ => congrArg q (by show b + (r.val - w) - k = b + r.val - (w + k); omega))

/-- A column with 16 zeros before it. -/
def padded (p : SP.Idx → EReal) (l : Fin 2048) (s : ℕ) : EReal := if h : 16 ≤ s ∧ s - 16 < 8192 then p (ix2 ⟨s - 16, h.2⟩ l) else 0

/-- The block with its halo is the padded column. -/
theorem cat_apply (i : grid0.Coords) (x0 : Vec Ideal S512x512 .f32) (x1 : Vec Ideal S16x512 .f32) (n : Fin 528) (l : Fin 512) :
    cat i x0 x1 (ix2 n l) = if h : n.val < 16 then Scalar.select (Scalar.cmpi .sgt (BitVec.ofNat 32 (i 0).val) 0#32) (x1 (ix2 ⟨n.val, h⟩ l)) 0
      else x0 (ix2 ⟨n.val - 16, by omega⟩ l) := by
  pointwise [cat]

theorem div_apply (x0 y : Vec Ideal S512x512 .f32) (n : Vec Ideal S512x1 .f32) (r l : Fin 512) :
    k0_pay1 x0 y n (ix2 r l) = Ideal.div (y (ix2 r l)) (n (ix2 r 0)) - x0 (ix2 r l) := by
  pointwise [k0_pay1]

theorem row_count (i : grid0.Coords) (a : Fin 16) (g : Fin 4) (ha : (i 0).val = a.val) (hg : (i 1).val = g.val) (r : Fin 512) :
    k0_pay3 (F := Ideal) i (ix2 r 0) = min ((((512 * a.val + r.val : ℕ) : ℝ) : EReal) + 1) ((wn g : ℝ) : EReal) := by
  have hf : FloatOps.sitofp (F := Ideal) FTy.f32 (IntOp.addi (Scalar.muli (BitVec.ofNat 32 a.val) 512#32) (BitVec.ofNat 32 r.val)) = ((((512 * a.val + r.val : ℕ)) : ℝ) : EReal) := by
    show ((((BitVec.ofNat 32 a.val * 512#32 + BitVec.ofNat 32 r.val).toInt : ℤ) : ℝ) : EReal) = _
    have e : (BitVec.ofNat 32 a.val * 512#32 + BitVec.ofNat 32 r.val).toNat = 512 * a.val + r.val := by
      rw [BitVec.toNat_add, BitVec.toNat_mul, BitVec.toNat_ofNat, BitVec.toNat_ofNat, BitVec.toNat_ofNat]; omega
    rw [BitVec.toInt_eq_toNat_of_lt (by rw [e]; omega), e]; norm_num
  pointwise [k0_pay3]
  rw [ha, hg, hf, window_pick]

/-- The sum of the last rows, as many as the group's window has. -/
theorem window_sum (i : grid0.Coords) (x0 : Vec Ideal S512x512 .f32) (x1 : Vec Ideal S16x512 .f32) (q : ℕ → EReal) (a : ℕ) (g : Fin 4)
    (hg : (i 1).val = g.val) (l : Fin 512) (ec : ∀ n : Fin 528, cat i x0 x1 (ix2 n l) = q (512 * a + n.val)) (r : Fin 512) :
    k0_pay2 i x0 x1 (ix2 r l) = ∑ k ∈ Finset.range (wn g), q (512 * a + (16 + r.val) - k) := by
  have e2 := double (cat i x0 x1) (sum2 i x0 x1) 1 (512 * a) l q
    (fun n h => by unfold sum2; rw [shift1]; simp only [show (n.val + 528 - 1) % 528 = n.val - 1 by omega]) (by decide)
    (fun n _ => by rw [ec, Finset.sum_range_one]; rfl)
  have e4 := double (sum2 i x0 x1) (sum4 i x0 x1) 2 (512 * a) l q
    (fun n h => by unfold sum4; rw [shift2]; simp only [show (n.val + 528 - 2) % 528 = n.val - 2 by omega]) (by decide) e2
  have e8 := double (sum4 i x0 x1) (sum8 i x0 x1) 4 (512 * a) l q
    (fun n h => by unfold sum8; rw [shift4]; simp only [show (n.val + 528 - 4) % 528 = n.val - 4 by omega]) (by decide) e4
  have e16 := double (sum8 i x0 x1) (sum16 i x0 x1) 8 (512 * a) l q
    (fun n h => by unfold sum16; rw [shift8]; simp only [show (n.val + 528 - 8) % 528 = n.val - 8 by omega]) (by decide) e8
  rw [pick_eq, own_rows, hg, (group_fact g).1, (group_fact g).2.1, (group_fact g).2.2]
  have e2' := e2 ⟨16 + r.val, by omega⟩ (by show 1 + 1 ≤ 16 + r.val + 1; omega)
  have e4' := e4 ⟨16 + r.val, by omega⟩ (by show 2 + 2 ≤ 16 + r.val + 1; omega)
  have e8' := e8 ⟨16 + r.val, by omega⟩ (by show 4 + 4 ≤ 16 + r.val + 1; omega)
  have e16' := e16 ⟨16 + r.val, by omega⟩ (by show 8 + 8 ≤ 16 + r.val + 1; omega)
  fin_cases g
  · exact e2'
  · exact e4'
  · exact e8'
  · exact e16'

theorem window_le (g : Fin 4) : wn g ≤ 16 := by fin_cases g <;> decide

/-- One block of the result. -/
theorem tile_apply (i : grid0.Coords) (x0 : Vec Ideal S512x512 .f32) (x1 : Vec Ideal S16x512 .f32) (p : SP.Idx → EReal) (a : Fin 16) (g : Fin 4)
    (ha : (i 0).val = a.val) (hg : (i 1).val = g.val)
    (h0 : ∀ (r l : Fin 512), x0 (ix2 r l) = p (ix2 ⟨512 * a.val + r.val, by omega⟩ (gcol g l)))
    (h1 : ∀ (r : Fin 16) (l : Fin 512), 0 < a.val → x1 (ix2 r l) = p (ix2 ⟨512 * a.val + r.val - 16, by omega⟩ (gcol g l)))
    (r l : Fin 512) : k0_pay1 x0 (k0_pay2 i x0 x1) (k0_pay3 i) (ix2 r l) = poolAt p ⟨512 * a.val + r.val, by omega⟩ g l := by
  have ec (n : Fin 528) : cat i x0 x1 (ix2 n l) = padded p (gcol g l) (512 * a.val + n.val) := by
    unfold padded
    rw [cat_apply, ha, sgt_fact a]
    unfold Scalar.select
    by_cases h : n.val < 16
    · rw [dif_pos h]
      by_cases hh : 0 < a.val
      · rw [if_pos hh, if_pos (by decide), h1 _ _ hh, dif_pos (by omega)]
      · rw [if_neg hh, if_neg (by decide), dif_neg (by omega)]
    · rw [dif_neg h, h0, dif_pos (by omega)]
      exact congrArg (fun x => p (ix2 x (gcol g l))) (Fin.ext (by show 512 * a.val + (n.val - 16) = 512 * a.val + n.val - 16; omega))
  have hw := window_le g
  have eb : k0_pay2 i x0 x1 (ix2 r l) = ∑ k ∈ Finset.range (wn g), back p (gcol g l) ⟨512 * a.val + r.val, by omega⟩ k := by
    rw [window_sum i x0 x1 _ a.val g hg l ec r]
    refine Finset.sum_congr rfl fun k hk => ?_
    have hk' : k < wn g := Finset.mem_range.mp hk
    unfold padded back
    by_cases h : k ≤ 512 * a.val + r.val
    · rw [dif_pos (by omega), if_pos h]
      exact congrArg (fun x => p (ix2 x (gcol g l))) (Fin.ext (by show 512 * a.val + (16 + r.val) - k - 16 = 512 * a.val + r.val - k; omega))
    · rw [dif_neg (by omega), if_neg h]
  rw [div_apply, eb, row_count i a g ha hg, h0]
  rfl

variable (m : (ℓ : Loc nD τ sig) → Buf (Elt Ideal) ℓ) (ρ : Dev nD → PrngReg)

abbrev u (c : Dev nD) : S8192x2048.Idx → EReal := m ((c : Thread nD τ).loc main_arg0)

/-- Where the windows stand at a point: the grid runs over the 16 blocks of rows, and within each over the 4 groups. -/
theorem index_facts : ∀ t : Fin grid0.N, win0_0.index t = ![t.val / 4, t.val % 4] ∧ win0_1.index t = ![32 * (t.val / 4) - 1, t.val % 4]
    ∧ win0_2.index t = ![t.val / 4, t.val % 4] ∧ (grid0.coords t 0).val = t.val / 4 ∧ (grid0.coords t 1).val = t.val % 4 := by
  decide +kernel

abbrev band (t : Fin cfg0.N) : Fin 16 := ⟨t.val / 4, by have := t.isLt; have h : cfg0.N = 64 := N_0; omega⟩
abbrev grp (t : Fin cfg0.N) : Fin 4 := ⟨t.val % 4, by omega⟩

theorem own_block (c : Dev nD) (t : Fin cfg0.N) (r l : Fin 512) :
    (iblk m c 0 t : Vec Ideal S512x512 .f32) (ix2 r l) = u m c (ix2 ⟨512 * (band t).val + r.val, by omega⟩ (gcol (grp t) l)) := by
  unfold iblk
  rw [View.read_apply]
  show u m c _ = _
  have e := at_tile (index_facts t).1 r l
  exact congrArg _ (Shape.idx_ext₂ e.1 e.2)

theorem halo_block (c : Dev nD) (t : Fin cfg0.N) (r : Fin 16) (l : Fin 512) (h : 0 < (band t).val) :
    (iblk m c 1 t : Vec Ideal S16x512 .f32) (ix2 r l) = u m c (ix2 ⟨512 * (band t).val + r.val - 16, by omega⟩ (gcol (grp t) l)) := by
  unfold iblk
  rw [View.read_apply]
  show u m c _ = _
  have e := at_tile (index_facts t).2.1 r l
  have h' : 0 < t.val / 4 := h
  exact congrArg _ (Shape.idx_ext₂ (e.1.trans (by show _ = 512 * (t.val / 4) + r.val - 16; omega)) e.2)

/-- The array the kernel writes. -/
def G (c : Dev nD) : S8192x2048.Idx → Elt Ideal .bf16 := fun i =>
  poolAt (u m c) (i 0) ⟨(i 1).val / 512, by have h : (i 1).val < 2048 := (i 1).isLt; omega⟩ ⟨(i 1).val % 512, by omega⟩

theorem G_at (c : Dev nD) (r : Fin 8192) (g : Fin 4) (l : Fin 512) : G m c (ix2 r (gcol g l)) = poolAt (u m c) r g l := by
  unfold G
  have e1 : (512 * g.val + l.val) / 512 = g.val := by omega
  have e2 : (512 * g.val + l.val) % 512 = l.val := by omega
  exact congrArg₂ (poolAt (u m c) r) (Fin.ext e1) (Fin.ext e2)

/-- The point of an entry's block. -/
abbrev point (i : S8192x2048.Idx) : Fin cfg0.N :=
  ⟨(i 0).val / 512 * 4 + (i 1).val / 512, by
    have h : (i 0).val < 8192 := (i 0).isLt
    have h' : (i 1).val < 2048 := (i 1).isLt
    rw [show cfg0.N = 64 from N_0]; omega⟩

theorem point_tile (i : S8192x2048.Idx) :
    (![(point i).val / 4, (point i).val % 4] : Fin 2 → ℕ) = ![(i 0).val / 512, (i 1).val / 512] := by
  have h : (i 1).val < 2048 := (i 1).isLt
  have s := split_point (q := (i 0).val / 512) (r := (i 1).val / 512) (n := 4) (by omega)
  exact congrArg₂ (fun a b => ![a, b]) s.1 s.2

theorem final (c : Dev nD) : (dats m 0 c).arrAt 2 cfg0.N = G m c :=
  (dats m 0 c).arrAt_eq_of_cover 2 (G m c) (fun t _ => by
    rw [Value.flushed2]
    unfold out0_2
    rw [View.canon_unit_zero hz]
    simp only [View.ld_unit_zero (S := S512x512) hz, View.ld_unit_zero (S := S16x512) hz]
    funext j
    rw [View.read_apply]
    obtain ⟨r, l, rfl⟩ : ∃ r l : Fin 512, j = ix2 r l := ⟨j 0, j 1, eq_ix2 j⟩
    refine (tile_apply (grid0.coords t) _ _ (u m c) (band t) (grp t) (index_facts t).2.2.2.1 (index_facts t).2.2.2.2
      (own_block m c t) (halo_block m c t) r l).trans ?_
    rw [← G_at]
    have e := at_tile (index_facts t).2.2.1 r l
    exact (congrArg (G m c) (Shape.idx_ext₂ (y := ix2 ⟨512 * (band t).val + r.val, by omega⟩ (gcol (grp t) l)) e.1 e.2)).symm) fun i => by
    refine ⟨point i, flush0_2 _, ?_⟩
    show i ∈ ((View.whole main_v0).slice (win0_2.rect (point i))).set
    rw [View.set_slice_whole, Rect.mem_set_unit]
    exact in_tile (N := 512) (K := 512) (by omega) (by omega) i ((index_facts (point i)).2.2.1.trans (point_tile i))

/-- What the precondition says of an entry. -/
theorem finite_of_pre [h : Cert.Pre_u_finite.Facts] (x : S8192x2048.Idx → EReal) (hx : Cert.Pre_u_finite.fn (F := Ideal) x = fun _ => 1#1) (i : S8192x2048.Idx) : ∃ y : ℝ, x i = y := by
  have e := congrFun hx i
  obtain ⟨r, l, rfl⟩ : ∃ r l, i = ix2 r l := ⟨i 0, i 1, eq_ix2 i⟩
  have e' : BitVec.ofBool (decide (max (x (ix2 r l)) (-x (ix2 r l)) < Ideal.ofBits FTy.f32 2139095040#32)) = 1#1 := by
    rw [← e]
    pointwise [Cert.Pre_u_finite.fn]
    rfl
  have h1 : max (x (ix2 r l)) (-x (ix2 r l)) < Ideal.ofBits FTy.f32 2139095040#32 := by
    by_contra hn
    rw [decide_eq_false hn] at e'
    exact absurd e' (by decide)
  obtain ⟨ha, hb⟩ := max_lt_iff.mp (lt_of_lt_of_le h1 le_top)
  refine ⟨(x (ix2 r l)).toReal, (EReal.coe_toReal ha.ne fun hbot => ?_).symm⟩
  rw [hbot, EReal.neg_bot] at hb
  exact absurd hb (lt_irrefl _)

theorem algebraic [Cert.Pre_u_finite.Facts] : Cert.algebraic_PoolFwdIdeal_PoolFwdRefIdeal_pre_u_finite := by
  intro m ρ m' ρ' hpre hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.PoolFwdRefIdeal.Value.run m' ρ')⟩
  rw [Cert.PoolFwdRefIdeal.Read.val_main_v67_eq, hag c]
  funext i
  obtain ⟨r, l, rfl⟩ : ∃ (r : Fin 8192) (l : Fin 2048), i = ix2 r l := ⟨i 0, i 1, eq_ix2 i⟩
  exact ref_pool _ (finite_of_pre _ (hpre c)) r l

end Cert.Proof.PoolFwd

end
-- ==== Proof.MlpBack.lean ====
/-
  The squared rectifier's first product taken back: the gradient times the transposed first weight. The kernel multiplies 1024
  rows by 1024 columns at a time, 2048 terms of the sum at a point, of which the weight's shards hold 1024 each: it carries the
  sum over four points and writes it at the last.
-/
module

public import proofs.«01_k».proof.Defs
public import proofs.«01_k».proof.Proof.Gen.MlpBackIdeal.Value
public import proofs.«01_k».proof.Proof.Gen.MlpBackRefIdeal.Read
public import proofs.«01_k».proof.Proof.Tiles

@[expose] public section

set_option maxRecDepth 16384

noncomputable section

namespace Cert.Proof.MlpBack

open Idealize.ShloMosaic Idealize.ShloMosaic.TcCoe Idealize.SL.Sem
open Cert.Proof.Rows Cert.Proof.Tiles

/-- The terms of an entry of the product. -/
def term (z : (⟨2, ![8192, 8192]⟩ : Shape).Idx → EReal) (w : (⟨2, ![2048, 8192]⟩ : Shape).Idx → EReal)
    (r : Fin 8192) (l : Fin 2048) (k : Fin 8192) : EReal := z (ix2 r k) * w (ix2 l k)

/-- An entry of the product. -/
def sumAt (z : (⟨2, ![8192, 8192]⟩ : Shape).Idx → EReal) (w : (⟨2, ![2048, 8192]⟩ : Shape).Idx → EReal)
    (r : Fin 8192) (l : Fin 2048) : EReal := ∑ k : Fin 8192, term z w r l k

section Reference

open Cert.MlpBackRefIdeal Cert.MlpBackRefIdeal.Gen Cert.MlpBackRefIdeal.Read

theorem ref_eq (z : S8192x8192.Idx → EReal) (w : S2048x8192.Idx → EReal) (r : Fin 8192) (l : Fin 2048) :
    val_main_v1 (F := Ideal) z w (ix2 r l) = sumAt z w r l := by
  unfold sumAt term
  pointwise [val_main_v1, val_main_v0]

end Reference

open Cert.MlpBackIdeal Cert.MlpBackIdeal.Gen

section Cases

variable (c : Dev nD) (i : grid0.Coords) (a4 : Memref sig .tc .vmem S1024x2048 .bf16) (h4 : a4.IsWhole)
  (a5 : Memref sig .tc .vmem S1x1024x1024 .bf16) (h5 : a5.IsWhole) (a6 : Memref sig .tc .vmem S1x1024x1024 .bf16) (h6 : a6.IsWhole)
  (a7 : Memref sig .tc .vmem S1024x1024 .f32) (h7 : a7.IsWhole) (a8 : Memref sig .tc .vmem S1024x1024 .f32) (h8 : a8.IsWhole)
  (x0 : Vec Ideal S1024x2048 .bf16) (x1 x2 : Vec Ideal S1x1024x1024 .bf16) (xs : Vec Ideal S1024x1024 .f32)

/-- The two halves of a block of the gradient, as the body loads them. -/
def lo : Vec Ideal S1024x1024 .bf16 := View.ld x0 (Rect.unit (s := S1024x2048) ![0, 0] S1024x1024.size inb_S1024x2048_S1024x1024_0_0)
def hi : Vec Ideal S1024x1024 .bf16 := View.ld x0 (Rect.unit (s := S1024x2048) ![0, 1024] S1024x1024.size inb_S1024x2048_S1024x1024_0_1024)

theorem lo_apply (r k : Fin 1024) : lo x0 (ix2 r k) = x0 (ix2 r ⟨k.val, by omega⟩) := by
  show x0 _ = x0 _
  exact congrArg x0 (Shape.idx_ext₂ (show 0 + 1 * r.val = r.val by omega) (show 0 + 1 * k.val = k.val by omega))

theorem hi_apply (r k : Fin 1024) : hi x0 (ix2 r k) = x0 (ix2 r ⟨1024 + k.val, by omega⟩) := by
  show x0 _ = x0 _
  exact congrArg x0 (Shape.idx_ext₂ (show 0 + 1 * r.val = r.val by omega) (show 1024 + 1 * k.val = 1024 + k.val by omega))

/-- The first point of four leaves its own product, -/
theorem carried_A (hc0 : cond0_0 i) (hc1 : ¬cond0_1 i) (hc2 : ¬cond0_2 i) :
    sout0_A_0 c i a4 h4 a5 h5 a6 h6 a7 h7 a8 h8 hc0 hc1 hc2 x0 x1 x2 = k0_pay2 (lo x0) x1 (hi x0) x2 := by
  unfold sout0_A_0
  rw [View.read_writes_eq_canon _ _ _ (scover0_A_0 c i a4 h4 a5 h5 a6 h6 a7 h7 a8 h8 hc0 hc1 hc2 x0 x1 x2)]
  unfold kernelRun0_A
  dsimp only
  sl_unfold_words
  rw [View.canon_unit_zero hz]
  simp only [View.readAt_eq_ld, h4.read_unread, h5.read_unread, h6.read_unread, View.ld_unit_zero (S := S1x1024x1024) hz3]
  rfl

/-- the next two add theirs to what is carried, -/
theorem carried_B (hc0 : ¬cond0_0 i) (hc1 : cond0_1 i) (hc2 : ¬cond0_2 i) :
    sout0_B_0 c i a4 h4 a5 h5 a6 h6 a7 h7 a8 h8 hc0 hc1 hc2 x0 x1 x2 xs = k0_pay3 (lo x0) x1 (hi x0) x2 xs := by
  unfold sout0_B_0
  rw [View.read_writes_eq_canon _ _ _ (scover0_B_0 c i a4 h4 a5 h5 a6 h6 a7 h7 a8 h8 hc0 hc1 hc2 x0 x1 x2 xs)]
  unfold kernelRun0_B
  dsimp only
  sl_unfold_words
  rw [View.canon_unit_zero hz]
  simp only [View.readAt_eq_ld, h4.read_unread, h5.read_unread, h6.read_unread, h8.read_unread, View.ld_unit_zero (S := S1x1024x1024) hz3, View.ld_unit_zero (S := S1024x1024) hz]
  rfl

/-- and the last writes the sum with its own. -/
theorem written_C (hc0 : ¬cond0_0 i) (hc1 : ¬cond0_1 i) (hc2 : cond0_2 i) :
    out0_C_3 c i a4 h4 a5 h5 a6 h6 a7 h7 a8 h8 hc0 hc1 hc2 x0 x1 x2 xs = k0_pay4 (lo x0) x1 (hi x0) x2 xs := by
  unfold out0_C_3
  rw [View.read_writes_eq_canon _ _ _ (cover0_C_3 c i a4 h4 a5 h5 a6 h6 a7 h7 a8 h8 hc0 hc1 hc2 x0 x1 x2 xs)]
  unfold kernelRun0_C
  dsimp only
  sl_unfold_words
  rw [View.canon_unit_zero hz]
  simp only [View.readAt_eq_ld, h4.read_unread, h5.read_unread, h6.read_unread, h8.read_unread, View.ld_unit_zero (S := S1x1024x1024) hz3, View.ld_unit_zero (S := S1024x1024) hz]
  rfl

/-- A point's product: the terms of its two shards. -/
def two (r l : Fin 1024) : EReal :=
  (∑ k : Fin 1024, x0 (ix2 r ⟨k.val, by omega⟩) * x1 (ix3 0 l k)) + ∑ k : Fin 1024, x0 (ix2 r ⟨1024 + k.val, by omega⟩) * x2 (ix3 0 l k)

theorem pay1_apply (r l : Fin 1024) : k0_pay1 (lo x0) x1 (hi x0) x2 (ix2 r l) = two x0 x1 x2 r l := by
  unfold two
  simp only [← lo_apply, ← hi_apply]
  generalize lo x0 = y0
  generalize hi x0 = y1
  pointwise [k0_pay1]

theorem prod_apply (r l : Fin 1024) : k0_pay2 (lo x0) x1 (hi x0) x2 (ix2 r l) = two x0 x1 x2 r l := by
  rw [← pay1_apply]
  unfold k0_pay2
  generalize k0_pay1 (lo x0) x1 (hi x0) x2 = y
  pointwise

theorem add_apply (r l : Fin 1024) : k0_pay3 (lo x0) x1 (hi x0) x2 xs (ix2 r l) = xs (ix2 r l) + two x0 x1 x2 r l := by
  rw [← pay1_apply]
  unfold k0_pay3
  generalize k0_pay1 (lo x0) x1 (hi x0) x2 = y
  pointwise

theorem last_apply (r l : Fin 1024) : k0_pay4 (lo x0) x1 (hi x0) x2 xs (ix2 r l) = xs (ix2 r l) + two x0 x1 x2 r l := by
  rw [← pay1_apply]
  rfl

end Cases

variable (m : (ℓ : Loc nD τ sig) → Buf (Elt Ideal) ℓ) (ρ : Dev nD → PrngReg)

abbrev z (c : Dev nD) : S8192x8192.Idx → EReal := m ((c : Thread nD τ).loc main_arg0)
abbrev w (c : Dev nD) : S2048x8192.Idx → EReal := m ((c : Thread nD τ).loc main_arg1)

/-- The operands as the host prepares them: cast, and the weights cut into shards. -/
theorem V_z (c : Dev nD) (r k : Fin 8192) : V m c main_v3 (ix2 r k) = z m c (ix2 r k) := by
  show StableHlo.after hostOps0 (fun b => m (c, b)) (Proc.devRef .tc main_v3) (ix2 r k) = _
  after_results_simp
  pointwise

theorem V_w (c : Dev nD) (s : Fin 8) (l : Fin 2048) (k : Fin 1024) :
    V m c main_v2 (ix3 s l k) = w m c (ix2 l ⟨1024 * s.val + k.val, by omega⟩) := by
  show StableHlo.after hostOps0 (fun b => m (c, b)) (Proc.devRef .tc main_v2) (ix3 s l k) = _
  after_results_simp
  pointwise
  exact congrArg (fun x => w m c (ix2 l x)) (Fin.ext (by show s.val * 1024 + k.val = 1024 * s.val + k.val; omega))

/-- Where the windows stand at a point: the grid runs over the 8 blocks of rows, within each over the 2 of columns, and
    within each of these over the 4 pairs of shards. -/
theorem index_facts : ∀ t : Fin grid0.N, win0_0.index t = ![t.val / 8, t.val % 4] ∧ win0_1.index t = ![2 * (t.val % 4), t.val / 4 % 2, 0]
    ∧ win0_2.index t = ![2 * (t.val % 4) + 1, t.val / 4 % 2, 0] ∧ win0_3.index t = ![t.val / 8, t.val / 4 % 2] := by
  decide +kernel

/-- The row and column an entry of a tile stands at, and the place of a term. -/
abbrev row (n : ℕ) (h : n < cfg0.N) (r : Fin 1024) : Fin 8192 :=
  ⟨1024 * (n / 8) + r.val, by have hN : cfg0.N = 64 := N_0; omega⟩
abbrev col (n : ℕ) (l : Fin 1024) : Fin 2048 := ⟨1024 * (n / 4 % 2) + l.val, by omega⟩
abbrev place (n : ℕ) (k : Fin 2048) : Fin 8192 := ⟨2048 * (n % 4) + k.val, by omega⟩

theorem z_block (c : Dev nD) (t : Fin cfg0.N) (r : Fin 1024) (k : Fin 2048) :
    (iblk m c 0 t : Vec Ideal S1024x2048 .bf16) (ix2 r k) = z m c (ix2 (row t.val t.isLt r) (place t.val k)) := by
  unfold iblk
  rw [View.read_apply, ← V_z]
  show V m c main_v3 _ = _
  have e := at_tile (index_facts t).1 r k
  exact congrArg _ (Shape.idx_ext₂ e.1 e.2)

theorem w_even (c : Dev nD) (t : Fin cfg0.N) (l k : Fin 1024) :
    (iblk m c 1 t : Vec Ideal S1x1024x1024 .bf16) (ix3 0 l k) = w m c (ix2 (col t.val l) (place t.val ⟨k.val, by omega⟩)) := by
  unfold iblk
  rw [View.read_apply]
  show V m c main_v2 _ = _
  have e := at_plane (index_facts t).2.1 l k
  refine (congrArg _ (funext fun a => Fin.ext ?_ : _ = ix3 ⟨2 * (t.val % 4), by omega⟩ (col t.val l) k)).trans
    ((V_w m c _ _ _).trans (congrArg (fun q => w m c (ix2 _ q)) (Fin.ext (by show 1024 * (2 * (t.val % 4)) + k.val = 2048 * (t.val % 4) + k.val; omega))))
  match a with
  | ⟨0, _⟩ => exact e.1
  | ⟨1, _⟩ => exact e.2.1
  | ⟨2, _⟩ => exact e.2.2.trans (by simp)

theorem w_odd (c : Dev nD) (t : Fin cfg0.N) (l k : Fin 1024) :
    (iblk m c 2 t : Vec Ideal S1x1024x1024 .bf16) (ix3 0 l k) = w m c (ix2 (col t.val l) (place t.val ⟨1024 + k.val, by omega⟩)) := by
  unfold iblk
  rw [View.read_apply]
  show V m c main_v2 _ = _
  have e := at_plane (index_facts t).2.2.1 l k
  refine (congrArg _ (funext fun a => Fin.ext ?_ : _ = ix3 ⟨2 * (t.val % 4) + 1, by omega⟩ (col t.val l) k)).trans
    ((V_w m c _ _ _).trans (congrArg (fun q => w m c (ix2 _ q)) (Fin.ext (by show 1024 * (2 * (t.val % 4) + 1) + k.val = 2048 * (t.val % 4) + (1024 + k.val); omega))))
  match a with
  | ⟨0, _⟩ => exact e.1
  | ⟨1, _⟩ => exact e.2.1
  | ⟨2, _⟩ => exact e.2.2.trans (by simp)

/-- A point's product is the terms of its block. -/
theorem two_block (c : Dev nD) (t : Fin cfg0.N) (r l : Fin 1024) :
    two (iblk m c 0 t) (iblk m c 1 t) (iblk m c 2 t) r l
      = ∑ k : Fin 2048, term (z m c) (w m c) (row t.val t.isLt r) (col t.val l) (place t.val k) := by
  unfold two
  simp only [z_block, w_even, w_odd]
  exact (Fin.sum_univ_add (M := EReal) (a := 1024) (b := 1024) fun k => term (z m c) (w m c) (row t.val t.isLt r) (col t.val l) (place t.val k)).symm

/-- What is carried after a point that is not the last of its four: the terms up to its own block. -/
theorem carried_eq (c : Dev nD) (r l : Fin 1024) : ∀ (n : ℕ) (h : n < cfg0.N), n % 4 ≤ 2 → (outsAt0 m c n h).2 (ix2 r l)
    = ∑ k ∈ Finset.range (2048 * (n % 4 + 1)), ext (term (z m c) (w m c) (row n h r) (col n l)) k := by
  intro n
  induction n with
  | zero =>
    intro h _
    rw [outsAt0_A m c ⟨0, h⟩ rfl (by dsimp only; omega) (by dsimp only; omega)]
    dsimp only
    rw [carried_A, prod_apply, two_block, sum_block _ (0 % 4) _ fun k => ⟨(place 0 k).isLt, rfl⟩]
    exact (zero_add _).symm
  | succ n ih =>
    intro h h2
    have hN : cfg0.N = 64 := N_0
    rw [sum_block _ ((n + 1) % 4) _ fun k => ⟨(place (n + 1) k).isLt, rfl⟩]
    by_cases h0 : (n + 1) % 4 = 0
    · rw [outsAt0_A m c ⟨n + 1, h⟩ h0 (by dsimp only; omega) (by dsimp only; omega)]
      dsimp only
      rw [carried_A, prod_apply, two_block, show Finset.range (2048 * ((n + 1) % 4)) = ∅ by rw [h0]; rfl, Finset.sum_empty, zero_add]
    · rw [outsAt0_B m c ⟨n + 1, h⟩ h0 ⟨by dsimp only; omega, h2⟩ (by dsimp only; omega)]
      dsimp only
      rw [carried_B, add_apply, two_block]
      have e : (n + 1) % 4 = n % 4 + 1 := by omega
      have er : row (n + 1) h r = row n (Nat.lt_of_succ_lt h) r := Fin.ext (by show 1024 * ((n + 1) / 8) + _ = 1024 * (n / 8) + _; omega)
      have el : col (n + 1) l = col n l := Fin.ext (by show 1024 * ((n + 1) / 4 % 2) + _ = 1024 * (n / 4 % 2) + _; omega)
      refine congrArg (· + _) ((ih (Nat.lt_of_succ_lt h) (by omega)).trans ?_)
      rw [e, er, el]

/-- The array the kernel writes. -/
def G (c : Dev nD) : S8192x2048.Idx → Elt Ideal .f32 := fun i => sumAt (z m c) (w m c) (i 0) (i 1)

/-- What the last of four points writes. -/
theorem written_eq (c : Dev nD) (r l : Fin 1024) : ∀ (n : ℕ) (h : n < cfg0.N), n % 4 = 3 → (outsAt0 m c n h).1 (ix2 r l)
    = sumAt (z m c) (w m c) (row n h r) (col n l)
  | 0, _, h3 => absurd h3 (by omega)
  | n + 1, h, h3 => by
    rw [outsAt0_C m c ⟨n + 1, h⟩ (by dsimp only; omega) (by dsimp only; omega) h3]
    dsimp only
    rw [written_C, last_apply, two_block]
    have er : row (n + 1) h r = row n (Nat.lt_of_succ_lt h) r := Fin.ext (by show 1024 * ((n + 1) / 8) + _ = 1024 * (n / 8) + _; omega)
    have el : col (n + 1) l = col n l := Fin.ext (by show 1024 * ((n + 1) / 4 % 2) + _ = 1024 * (n / 4 % 2) + _; omega)
    have e := sum_block (term (z m c) (w m c) (row (n + 1) h r) (col (n + 1) l)) ((n + 1) % 4) _ fun k => ⟨(place (n + 1) k).isLt, rfl⟩
    refine Eq.trans ?_ (e.symm.trans ((congrArg (fun q => ∑ k ∈ Finset.range (2048 * (q + 1)), ext _ k) h3).trans (sum_ext _)))
    refine congrArg (· + _) ((carried_eq m c r l n (Nat.lt_of_succ_lt h) (by omega)).trans ?_)
    rw [h3, show n % 4 + 1 = 3 by omega, er, el]

/-- The point that writes an entry's tile. -/
abbrev point (i : S8192x2048.Idx) : Fin cfg0.N :=
  ⟨((i 0).val / 1024 * 2 + (i 1).val / 1024) * 4 + 3, by
    have h : (i 0).val < 8192 := (i 0).isLt
    have h' : (i 1).val < 2048 := (i 1).isLt
    rw [show cfg0.N = 64 from N_0]; omega⟩

theorem final (c : Dev nD) : (dats m 0 c).arrAt 3 cfg0.N = G m c :=
  (dats m 0 c).arrAt_eq_of_cover 3 (G m c) (fun t hf => by
    have h := (flush0_3 t).mp hf
    rw [Value.flushed3]
    funext j
    rw [View.read_apply]
    obtain ⟨r, l, rfl⟩ : ∃ r l : Fin 1024, j = ix2 r l := ⟨j 0, j 1, eq_ix2 j⟩
    refine (written_eq m c r l t.val t.isLt h).trans ?_
    have e := at_tile (index_facts t).2.2.2 r l
    exact (congrArg (G m c) (Shape.idx_ext₂ (y := ix2 (row t.val t.isLt r) (col t.val l)) e.1 e.2)).symm) fun i => by
    have h : (i 0).val < 8192 := (i 0).isLt
    have h' : (i 1).val < 2048 := (i 1).isLt
    refine ⟨point i, (flush0_3 _).mpr (by show (_ * 4 + 3) % 4 = 3; omega), ?_⟩
    show i ∈ ((View.whole main_v4).slice (win0_3.rect (point i))).set
    rw [View.set_slice_whole, Rect.mem_set_unit]
    exact in_tile (N := 1024) (K := 1024) (by omega) (by omega) i ((index_facts (point i)).2.2.2.trans
      (congrArg₂ (fun a b => ![a, b]) (by show (((i 0).val / 1024 * 2 + (i 1).val / 1024) * 4 + 3) / 8 = _; omega)
        (by show (((i 0).val / 1024 * 2 + (i 1).val / 1024) * 4 + 3) / 4 % 2 = _; omega)))

theorem algebraic : Cert.algebraic_MlpBackIdeal_MlpBackRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.MlpBackRefIdeal.Value.run m' ρ')⟩
  rw [Cert.MlpBackRefIdeal.Read.val_main_v1_eq, (hag c).1, (hag c).2]
  funext i
  obtain ⟨r, l, rfl⟩ : ∃ (r : Fin 8192) (l : Fin 2048), i = ix2 r l := ⟨i 0, i 1, eq_ix2 i⟩
  exact ref_eq _ _ r l

end Cert.Proof.MlpBack

end
-- ==== Proof.MlpDw.lean ====
/-
  The gradient of the squared rectifier's second weight: the squares, transposed, times the cotangent, cut into eight parts
  of 1024 rows. The kernel multiplies 1024 columns of the one by 1024 of the other at a time, 4096 positions at a point: it
  carries the first point's product and writes the two together, in the place where the part is sent from.
-/
module

public import proofs.«01_k».proof.Defs
public import proofs.«01_k».proof.Proof.Gen.MlpDwIdeal.Value
public import proofs.«01_k».proof.Proof.Gen.MlpDwRefIdeal.Read
public import proofs.«01_k».proof.Proof.Tiles

@[expose] public section

set_option maxRecDepth 16384

noncomputable section

namespace Cert.Proof.MlpDw

open Idealize.ShloMosaic Idealize.ShloMosaic.TcCoe Idealize.SL.Sem
open Cert.Proof.Rows Cert.Proof.Tiles

/-- The terms of an entry of the product. -/
def term (a : (⟨2, ![8192, 8192]⟩ : Shape).Idx → EReal) (d : (⟨2, ![8192, 2048]⟩ : Shape).Idx → EReal)
    (p : Fin 8192) (l : Fin 2048) (k : Fin 8192) : EReal := a (ix2 k p) * d (ix2 k l)

/-- The row of the product that is row `r` of place `s`: the first four places hold the even parts, the others the odd. -/
abbrev partRow (s : Fin 8) (r : Fin 1024) : Fin 8192 := ⟨1024 * (2 * (s.val % 4) + s.val / 4) + r.val, by omega⟩

/-- The part at a place, and the place of a part. -/
theorem part_slot (q : ℕ) (h : q < 8) : 2 * ((4 * (q % 2) + q / 2) % 4) + (4 * (q % 2) + q / 2) / 4 = q :=
  (by decide : ∀ q : Fin 8, 2 * ((4 * (q.val % 2) + q.val / 2) % 4) + (4 * (q.val % 2) + q.val / 2) / 4 = q.val) ⟨q, h⟩

theorem slot_part (s : ℕ) (h : s < 8) : 4 * ((2 * (s % 4) + s / 4) % 2) + (2 * (s % 4) + s / 4) / 2 = s :=
  (by decide : ∀ s : Fin 8, 4 * ((2 * (s.val % 4) + s.val / 4) % 2) + (2 * (s.val % 4) + s.val / 4) / 2 = s.val) ⟨s, h⟩

/-- An entry of the parts. -/
def sumAt (a : (⟨2, ![8192, 8192]⟩ : Shape).Idx → EReal) (d : (⟨2, ![8192, 2048]⟩ : Shape).Idx → EReal)
    (s : Fin 8) (r : Fin 1024) (l : Fin 2048) : EReal := ∑ k : Fin 8192, term a d (partRow s r) l k

section Reference

open Cert.MlpDwRefIdeal Cert.MlpDwRefIdeal.Gen Cert.MlpDwRefIdeal.Read

theorem ref_eq (a : S8192x8192.Idx → EReal) (d : S8192x2048.Idx → EReal) (s : Fin 8) (r : Fin 1024) (l : Fin 2048) :
    val_main_v5 (F := Ideal) a d (ix3 s r l) = sumAt a d s r l := by
  unfold sumAt term
  rw [val_main_v5_apply, val_main_v4_apply, val_main_v3_apply]
  rw [show idx_main_v3 (idx_main_v4 (idx_main_v5 (ix3 s r l))) = ix2 (partRow s r) l from
    Shape.idx_ext₂ (by show ((((((s.val * 1024 + r.val) * 2048 + l.val) / 2097152 % 4) * 2 + ((s.val * 1024 + r.val) * 2048 + l.val) / 8388608) * 1024
        + ((s.val * 1024 + r.val) * 2048 + l.val) / 2048 % 1024) * 2048 + ((s.val * 1024 + r.val) * 2048 + l.val) % 2048) / 2048 = 1024 * (2 * (s.val % 4) + s.val / 4) + r.val; omega)
      (by show ((((((s.val * 1024 + r.val) * 2048 + l.val) / 2097152 % 4) * 2 + ((s.val * 1024 + r.val) * 2048 + l.val) / 8388608) * 1024
        + ((s.val * 1024 + r.val) * 2048 + l.val) / 2048 % 1024) * 2048 + ((s.val * 1024 + r.val) * 2048 + l.val) % 2048) % 2048 = l.val; omega)]
  pointwise [val_main_v2, val_main_v1, val_main_v0]

end Reference

open Cert.MlpDwIdeal Cert.MlpDwIdeal.Gen

section Cases

variable (c : Dev nD) (i : grid0.Coords) (a4 : Memref sig .tc .vmem S4096x1024 .bf16) (h4 : a4.IsWhole)
  (a5 : Memref sig .tc .vmem S4096x1024 .bf16) (h5 : a5.IsWhole) (a6 : Memref sig .tc .vmem S1x1024x1024 .bf16) (h6 : a6.IsWhole)
  (a7 : Memref sig .tc .vmem S1024x1024 .f32) (h7 : a7.IsWhole)
  (x0 x1 : Vec Ideal S4096x1024 .bf16) (xs : Vec Ideal S1024x1024 .f32)

/-- The first point of two leaves its own product, -/
theorem carried_A (hc0 : cond0_0 i) (hc1 : ¬cond0_1 i) (hc2 : ¬cond0_2 i) :
    sout0_A_0 c i a4 h4 a5 h5 a6 h6 a7 h7 hc0 hc1 hc2 x0 x1 = k0_pay2 x0 x1 := by
  unfold sout0_A_0
  rw [View.read_writes_eq_canon _ _ _ (scover0_A_0 c i a4 h4 a5 h5 a6 h6 a7 h7 hc0 hc1 hc2 x0 x1)]
  unfold kernelRun0_A
  dsimp only
  sl_unfold_words
  rw [View.canon_unit_zero hz]
  simp only [View.readAt_eq_ld, h4.read_unread, h5.read_unread, View.ld_unit_zero (S := S4096x1024) hz]

/-- and the second writes the sum with its own. -/
theorem written_B (hc0 : ¬cond0_0 i) (hc1 : ¬cond0_1 i) (hc2 : cond0_2 i) :
    out0_B_2 c i a4 h4 a5 h5 a6 h6 a7 h7 hc0 hc1 hc2 x0 x1 xs = k0_pay4 x0 x1 xs := by
  unfold out0_B_2
  rw [View.read_writes_eq_canon _ _ _ (cover0_B_2 c i a4 h4 a5 h5 a6 h6 a7 h7 hc0 hc1 hc2 x0 x1 xs)]
  unfold kernelRun0_B
  dsimp only
  sl_unfold_words
  rw [View.canon_unit_zero hz3]
  simp only [View.readAt_eq_ld, h4.read_unread, h5.read_unread, h7.read_unread, View.ld_unit_zero (S := S4096x1024) hz, View.ld_unit_zero (S := S1024x1024) hz]

theorem prod_apply (r l : Fin 1024) : k0_pay2 x0 x1 (ix2 r l) = ∑ k : Fin 4096, x0 (ix2 k r) * x1 (ix2 k l) := by
  pointwise [k0_pay2, k0_pay1]

theorem last_apply (r l : Fin 1024) :
    k0_pay4 x0 x1 xs (ix3 0 r l) = xs (ix2 r l) + ∑ k : Fin 4096, x0 (ix2 k r) * x1 (ix2 k l) := by
  pointwise [k0_pay4, k0_pay1]

end Cases

variable (m : (ℓ : Loc nD τ sig) → Buf (Elt Ideal) ℓ) (ρ : Dev nD → PrngReg)

abbrev a (c : Dev nD) : S8192x8192.Idx → EReal := m ((c : Thread nD τ).loc main_arg0)
abbrev d (c : Dev nD) : S8192x2048.Idx → EReal := m ((c : Thread nD τ).loc main_arg1)

/-- The operands as the host prepares them: cast. -/
theorem V_a (c : Dev nD) (k p : Fin 8192) : V m c main_v0 (ix2 k p) = a m c (ix2 k p) := by
  show StableHlo.after hostOps0 (fun b => m (c, b)) (Proc.devRef .tc main_v0) (ix2 k p) = _
  after_results_simp
  pointwise

theorem V_d (c : Dev nD) (k : Fin 8192) (l : Fin 2048) : V m c main_v1 (ix2 k l) = d m c (ix2 k l) := by
  show StableHlo.after hostOps0 (fun b => m (c, b)) (Proc.devRef .tc main_v1) (ix2 k l) = _
  after_results_simp
  pointwise

/-- Where the windows stand at a point: the grid runs over the 8 parts, within each over the 2 blocks of columns, and within
    each of these over the 2 blocks of positions. -/
theorem index_facts : ∀ t : Fin grid0.N, win0_0.index t = ![t.val % 2, t.val / 4] ∧ win0_1.index t = ![t.val % 2, t.val / 2 % 2]
    ∧ win0_2.index t = ![4 * (t.val / 4 % 2) + t.val / 8, 0, t.val / 2 % 2] := by
  decide +kernel

/-- The place a point's tile is written to, the row and column an entry of the tile stands at in the product, and the place of
    a term. -/
abbrev slot (n : ℕ) (h : n < cfg0.N) : Fin 8 := ⟨4 * (n / 4 % 2) + n / 8, by have hN : cfg0.N = 32 := N_0; omega⟩
abbrev row (n : ℕ) (h : n < cfg0.N) (r : Fin 1024) : Fin 8192 :=
  ⟨1024 * (n / 4) + r.val, by have hN : cfg0.N = 32 := N_0; omega⟩
abbrev col (n : ℕ) (l : Fin 1024) : Fin 2048 := ⟨1024 * (n / 2 % 2) + l.val, by omega⟩
abbrev place (n : ℕ) (k : Fin 4096) : Fin 8192 := ⟨4096 * (n % 2) + k.val, by omega⟩

theorem a_block (c : Dev nD) (t : Fin cfg0.N) (k : Fin 4096) (r : Fin 1024) :
    (iblk m c 0 t : Vec Ideal S4096x1024 .bf16) (ix2 k r) = a m c (ix2 (place t.val k) (row t.val t.isLt r)) := by
  unfold iblk
  rw [View.read_apply, ← V_a]
  show V m c main_v0 _ = _
  have e := at_tile (index_facts t).1 k r
  exact congrArg _ (Shape.idx_ext₂ e.1 e.2)

theorem d_block (c : Dev nD) (t : Fin cfg0.N) (k : Fin 4096) (l : Fin 1024) :
    (iblk m c 1 t : Vec Ideal S4096x1024 .bf16) (ix2 k l) = d m c (ix2 (place t.val k) (col t.val l)) := by
  unfold iblk
  rw [View.read_apply, ← V_d]
  show V m c main_v1 _ = _
  have e := at_tile (index_facts t).2.1 k l
  exact congrArg _ (Shape.idx_ext₂ e.1 e.2)

/-- What is carried after the first of two points: the first half of the terms. -/
theorem carried_eq (c : Dev nD) (r l : Fin 1024) (n : ℕ) (h : n < cfg0.N) (h0 : n % 2 = 0) : (outsAt0 m c n h).2 (ix2 r l)
    = ∑ k ∈ Finset.range (4096 * 1), ext (term (a m c) (d m c) (row n h r) (col n l)) k := by
  rw [outsAt0_A m c ⟨n, h⟩ h0 (by dsimp only; omega)]
  dsimp only
  rw [carried_A, prod_apply, sum_block _ 0 (fun k : Fin 4096 => term (a m c) (d m c) (row n h r) (col n l) (place n k))
    fun k => ⟨by omega, congrArg _ (Fin.ext (by show 4096 * (n % 2) + _ = _; rw [h0]))⟩]
  simp only [a_block, d_block]
  exact (zero_add _).symm

/-- The array the kernel writes. -/
def G (c : Dev nD) : S8x1024x2048.Idx → Elt Ideal .bf16 := fun i => sumAt (a m c) (d m c) (i 0) (i 1) (i 2)

/-- What the second of two points writes. -/
theorem written_eq (c : Dev nD) (r l : Fin 1024) : ∀ (n : ℕ) (h : n < cfg0.N), n % 2 = 1 → (outsAt0 m c n h).1 (ix3 0 r l)
    = sumAt (a m c) (d m c) (slot n h) r (col n l)
  | 0, _, h1 => absurd h1 (by omega)
  | n + 1, h, h1 => by
    have hN : cfg0.N = 32 := N_0
    rw [outsAt0_B m c ⟨n + 1, h⟩ (by dsimp only; omega) h1]
    dsimp only
    rw [written_B, last_apply]
    simp only [a_block, d_block]
    have er : row (n + 1) h r = row n (Nat.lt_of_succ_lt h) r := Fin.ext (by show 1024 * ((n + 1) / 4) + _ = 1024 * (n / 4) + _; omega)
    have es : partRow (slot (n + 1) h) r = row (n + 1) h r := Fin.ext (by
      show 1024 * (2 * ((4 * ((n + 1) / 4 % 2) + (n + 1) / 8) % 4) + (4 * ((n + 1) / 4 % 2) + (n + 1) / 8) / 4) + _ = 1024 * ((n + 1) / 4) + _
      rw [show (n + 1) / 8 = (n + 1) / 4 / 2 from (Nat.div_div_eq_div_mul _ 4 2).symm, part_slot _ (by omega)])
    have el : col (n + 1) l = col n l := Fin.ext (by show 1024 * ((n + 1) / 2 % 2) + _ = 1024 * (n / 2 % 2) + _; omega)
    have e := sum_block (term (a m c) (d m c) (row (n + 1) h r) (col (n + 1) l)) 1
      (fun k : Fin 4096 => term (a m c) (d m c) (row (n + 1) h r) (col (n + 1) l) (place (n + 1) k))
      fun k => ⟨by omega, congrArg _ (Fin.ext (by show 4096 * ((n + 1) % 2) + _ = _; rw [h1]))⟩
    unfold sumAt
    rw [es]
    refine Eq.trans ?_ (e.symm.trans (sum_ext _))
    refine congrArg (· + _) ((carried_eq m c r l n (Nat.lt_of_succ_lt h) (by omega)).trans ?_)
    rw [er, el]

/-- The point that writes an entry's tile. -/
abbrev point (i : S8x1024x2048.Idx) : Fin cfg0.N :=
  ⟨((2 * ((i 0).val % 4) + (i 0).val / 4) * 2 + (i 2).val / 1024) * 2 + 1, by
    have h : (i 0).val < 8 := (i 0).isLt
    have h' : (i 2).val < 2048 := (i 2).isLt
    rw [show cfg0.N = 32 from N_0]; omega⟩

theorem final (c : Dev nD) : (dats m 0 c).arrAt 2 cfg0.N = G m c :=
  (dats m 0 c).arrAt_eq_of_cover 2 (G m c) (fun t hf => by
    have h := (flush0_2 t).mp hf
    rw [Value.flushed2]
    funext j
    rw [View.read_apply]
    obtain ⟨r, l, rfl⟩ : ∃ r l : Fin 1024, j = ix3 0 r l := ⟨j 1, j 2, (eq_ix3 j).trans (congrArg (fun q => ix3 q (j 1) (j 2)) (Fin.ext (by have h : (j 0).val < 1 := (j 0).isLt; show (j 0).val = 0; omega)))⟩
    refine (written_eq m c r l t.val t.isLt h).trans ?_
    have e := at_plane (index_facts t).2.2 r l
    refine (congrArg (G m c) (funext fun b => Fin.ext ?_ : _ = ix3 (slot t.val t.isLt) r (col t.val l))).symm
    match b with
    | ⟨0, _⟩ => exact e.1
    | ⟨1, _⟩ => exact e.2.1.trans (by simp)
    | ⟨2, _⟩ => exact e.2.2) fun i => by
    have h : (i 0).val < 8 := (i 0).isLt
    have h' : (i 2).val < 2048 := (i 2).isLt
    have h1 : (i 1).val < 1024 := (i 1).isLt
    refine ⟨point i, (flush0_2 _).mpr (by show (_ * 2 + 1) % 2 = 1; omega), ?_⟩
    show i ∈ ((View.whole main_v2).slice (win0_2.rect (point i))).set
    rw [View.set_slice_whole, Rect.mem_set_unit]
    have e : win0_2.index (point i) = ![(i 0).val, 0, (i 2).val / 1024] := (index_facts (point i)).2.2.trans (by
      have e0 : 4 * ((point i).val / 4 % 2) + (point i).val / 8 = (i 0).val := by
        have e4 : (point i).val / 4 = 2 * ((i 0).val % 4) + (i 0).val / 4 := by
          show (((2 * ((i 0).val % 4) + (i 0).val / 4) * 2 + (i 2).val / 1024) * 2 + 1) / 4 = _
          omega
        rw [show (point i).val / 8 = (point i).val / 4 / 2 from (Nat.div_div_eq_div_mul _ 4 2).symm, e4, slot_part _ h]
      have e2 : (point i).val / 2 % 2 = (i 2).val / 1024 := by
        show (((2 * ((i 0).val % 4) + (i 0).val / 4) * 2 + (i 2).val / 1024) * 2 + 1) / 2 % 2 = _
        omega
      rw [e0, e2])
    intro b
    show win0_2.index (point i) b * ![1, 1024, 1024] b ≤ (i b).val ∧ (i b).val < win0_2.index (point i) b * ![1, 1024, 1024] b + ![1, 1024, 1024] b
    rw [e]
    match b with
    | ⟨0, _⟩ => show (i 0).val * 1 ≤ (i 0).val ∧ (i 0).val < (i 0).val * 1 + 1; omega
    | ⟨1, _⟩ => show 0 * 1024 ≤ (i 1).val ∧ (i 1).val < 0 * 1024 + 1024; omega
    | ⟨2, _⟩ => show (i 2).val / 1024 * 1024 ≤ (i 2).val ∧ (i 2).val < (i 2).val / 1024 * 1024 + 1024; omega

theorem algebraic : Cert.algebraic_MlpDwIdeal_MlpDwRefIdeal := by
  intro m ρ m' ρ' _ hag
  refine ⟨fun c => G m c,
    (θ_run _ _ _).mono (fun _ h c => ⟨(h c).1.trans (final m c), (h c).2⟩) (Value.run_blocks m ρ),
    (θ_run _ _ _).mono (fun _ h c => ⟨(h c).1.trans ?_, (h c).2⟩) (Cert.MlpDwRefIdeal.Value.run m' ρ')⟩
  rw [Cert.MlpDwRefIdeal.Read.val_main_v5_eq, (hag c).1, (hag c).2]
  funext i
  rw [eq_ix3 i]
  exact ref_eq _ _ _ _ _

end Cert.Proof.MlpDw

end
-- ==== Proof.Adam.lean ====
/-
  The optimiser's call at one of the largest weights: the gradient is the sum of four parts, each layer's parts come in an
  array of their own, and each point takes the sum of the array of its own layer; then the gradient, the step and the two
  running means are written tile by tile.
-/
module

public import proofs.«01_k».proof.Defs
public import proofs.«01_k».proof.Proof.Gen.AdamIdeal.Value
public import proofs.«01_k».proof.Proof.Gen.AdamRefIdeal.Read
public import proofs.«01_k».proof.Proof.Tiles

@[expose] public section

set_option maxRecDepth 16384

noncomputable section

namespace Cert.Proof.Adam

open Idealize.ShloMosaic Idealize.ShloMosaic.TcCoe Idealize.SL.Sem
open Cert.Proof.Rows Cert.Proof.Tiles

/-- The running mean, the running mean of squares, and the step they give. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def step (g m v w : EReal) : EReal :=
  Ideal.ofBits .f32 3129152111#32 *
    (Ideal.div (Ideal.div (newM g m) (Ideal.ofBits .f32 1059503362#32))
        (Ideal.sqrt (Ideal.div (newV g v) (Ideal.ofBits .f32 1008933580#32)) + Ideal.ofBits .f32 841731191#32)
      + Ideal.ofBits .f32 1008981770#32 * w)

/-- The gradient: the four parts' sum, where row `r` of the weight is row `r % 2048` of layer `r / 2048`. -/
def gradAt (p : (⟨4, ![4, 4, 2048, 1024]⟩ : Shape).Idx → EReal) (r : Fin 8192) (l : Fin 1024) : EReal :=
  ∑ k : Fin 4, p (ix4 ⟨r.val / 2048, by omega⟩ k ⟨r.val % 2048, by omega⟩ l)

section Reference

open Cert.AdamRefIdeal Cert.AdamRefIdeal.Gen Cert.AdamRefIdeal.Read

variable (p : S4x4x2048x1024.Idx → EReal) (w m v : S8192x1024.Idx → EReal)

theorem ref_g (r : Fin 8192) (l : Fin 1024) : val_main_v2 (F := Ideal) p (ix2 r l) = gradAt p r l := by
  unfold gradAt
  pointwise [val_main_v2, val_main_v1, val_main_v0, val_main_cst]

theorem ref_m (r : Fin 8192) (l : Fin 1024) :
    val_main_v7 (F := Ideal) p m (ix2 r l) = newM (gradAt p r l) (m (ix2 r l)) := by
  rw [← ref_g]; rfl

theorem ref_v (r : Fin 8192) (l : Fin 1024) :
    val_main_v13 (F := Ideal) p v (ix2 r l) = newV (gradAt p r l) (v (ix2 r l)) := by
  rw [← ref_g]; rfl

theorem ref_step (r : Fin 8192) (l : Fin 1024) :
    val_main_v26 (F := Ideal) p w m v (ix2 r l) = step (gradAt p r l) (m (ix2 r l)) (v (ix2 r l)) (w (ix2 r l)) := by
  unfold step
  rw [← ref_m, ← ref_v]
  pointwise [val_main_v26, val_main_v25, val_main_v24, val_main_v23, val_main_v22, val_main_v21, val_main_v20, val_main_v19,
    val_main_v18, val_main_v17, val_main_v16, val_main_v15, val_main_v14]
  rfl

end Reference

open Cert.AdamIdeal Cert.AdamIdeal.Gen

section Tile

variable (g m v w : Vec Ideal S256x1024 .f32) (r : Fin 256) (l : Fin 1024)

theorem tile_m : k0_pay3 g m (ix2 r l) = newM (g (ix2 r l)) (m (ix2 r l)) := rfl
theorem tile_v : k0_pay4 g v (ix2 r l) = newV (g (ix2 r l)) (v (ix2 r l)) := rfl
theorem tile_step : k0_pay5 g m v w (ix2 r l) = step (g (ix2 r l)) (m (ix2 r l)) (v (ix2 r l)) (w (ix2 r l)) := by
  unfold step
  rw [← tile_m, ← tile_v]
  pointwise [k0_pay5]

end Tile

section Layer

variable (i : grid0.Coords) (x0 x1 x2 x3 : Vec Ideal S4x256x1024 .bf16) (x4 x5 x6 : Vec Ideal S256x1024 .f32)
  (r : Fin 256) (l : Fin 1024)

/-- The gradient's tile is the sum of the four planes of the block of the point's own layer. -/
theorem layer0 (h : (i 0).val = 0) : k0_pay6 i x0 x1 x2 x3 x4 x5 x6 (ix2 r l) = ∑ k : Fin 4, x0 (ix3 k r l) := by
  rw [Fin.sum_univ_four]
  unfold k0_pay6 k0_pay2 k0_pay1
  rw [h]
  pointwise
  rfl

theorem layer1 (h : (i 0).val = 1) : k0_pay6 i x0 x1 x2 x3 x4 x5 x6 (ix2 r l) = ∑ k : Fin 4, x1 (ix3 k r l) := by
  rw [Fin.sum_univ_four]
  unfold k0_pay6 k0_pay2 k0_pay1
  rw [h]
  pointwise
  rfl

theorem layer2 (h : (i 0).val = 2) : k0_pay6 i x0 x1 x2 x3 x4 x5 x6 (ix2 r l) = ∑ k : Fin 4, x2 (ix3 k r l) := by
  rw [Fin.sum_univ_four]
  unfold k0_pay6 k0_pay2 k0_pay1
  rw [h]
  pointwise
  rfl

theorem layer3 (h : (i 0).val = 3) : k0_pay6 i x0 x1 x2 x3 x4 x5 x6 (ix2 r l) = ∑ k : Fin 4, x3 (ix3 k r l) := by
  rw [Fin.sum_univ_four]
  unfold k0_pay6 k0_pay2 k0_pay1
  rw [h]
  pointwise

end Layer

variable (m : (ℓ : Loc nD τ sig) → Buf (Elt Ideal) ℓ) (ρ : Dev nD → PrngReg)

abbrev parts (c : Dev nD) : S4x4x2048x1024.Idx → EReal := m ((c : Thread nD τ).loc main_arg0)
abbrev w0 (c : Dev nD) : S8192x1024.Idx → EReal := m ((c : Thread nD τ).loc main_arg1)
abbrev m0 (c : Dev nD) : S8192x1024.Idx → EReal := m ((c : Thread nD τ).loc main_arg2)
abbrev v0 (c : Dev nD) : S8192x1024.Idx → EReal := m ((c : Thread nD τ).loc main_arg3)

/-- The parts as the host cuts them: one array for each layer. -/
theorem V_part0 (c : Dev nD) (k : Fin 4) (r : Fin 2048) (l : Fin 1024) : V m c main_v1 (ix3 k r l) = parts m c (ix4 0 k r l) := by
  show StableHlo.after hostOps0 (fun b => m (c, b)) (Proc.devRef .tc main_v1) (ix3 k r l) = _
  after_results_simp
  pointwise

theorem V_part1 (c : Dev nD) (k : Fin 4) (r : Fin 2048) (l : Fin 1024) : V m c main_v3 (ix3 k r l) = parts m c (ix4 1 k r l) := by
  show StableHlo.after hostOps0 (fun b => m (c, b)) (Proc.devRef .tc main_v3) (ix3 k r l) = _
  after_results_simp
  pointwise

theorem V_part2 (c : Dev nD) (k : Fin 4) (r : Fin 2048) (l : Fin 1024) : V m c main_v5 (ix3 k r l) = parts m c (ix4 2 k r l) := by
  show StableHlo.after hostOps0 (fun b => m (c, b)) (Proc.devRef .tc main_v5) (ix3 k r l) = _
  after_results_simp
  pointwise

theorem V_part3 (c : Dev nD) (k : Fin 4) (r : Fin 2048) (l : Fin 1024) : V m c main_v7 (ix3 k r l) = parts m c (ix4 3 k r l) := by
  show StableHlo.after hostOps0 (fun b => m (c, b)) (Proc.devRef .tc main_v7) (ix3 k r l) = _
  after_results_simp
  pointwise

/-- The layer of a point. -/
theorem coord_layer : ∀ t : Fin grid0.N, (grid0.coords t 0).val = t.val / 8 := by
  decide +kernel

/-- Where the windows stand at a point: a layer's parts at the point's rows while the point is in that layer, and every other
array at the point's own tile. -/
theorem index_parts : ∀ t : Fin grid0.N, (t.val / 8 = 0 → win0_0.index t = ![0, t.val % 8, 0]) ∧ (t.val / 8 = 1 → win0_1.index t = ![0, t.val % 8, 0])
    ∧ (t.val / 8 = 2 → win0_2.index t = ![0, t.val % 8, 0]) ∧ (t.val / 8 = 3 → win0_3.index t = ![0, t.val % 8, 0]) := by
  decide +kernel

theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])
theorem index10 : ∀ t : Fin cfg0.N, win0_10.index t = ![t.val, 0] :=
  (by decide +kernel : ∀ t : Fin grid0.N, win0_10.index t = ![t.val, 0])

/-- The row of a point's entry in the weight, and in its layer. -/
abbrev row (t : Fin cfg0.N) (r : Fin 256) : Fin 8192 :=
  ⟨256 * t.val + r.val, by have := t.isLt; have h : cfg0.N = 32 := N_0; omega⟩
abbrev layerRow (t : Fin cfg0.N) (r : Fin 256) : Fin 2048 := ⟨256 * (t.val % 8) + r.val, by omega⟩

theorem at_parts {a : Fin 3 → ℕ} {n : ℕ} (h : a = ![0, n, 0]) (k : Fin 4) (r : Fin 256) (l : Fin 1024) :
    a 0 * 4 + 1 * k.val = k.val ∧ a 1 * 256 + 1 * r.val = 256 * n + r.val ∧ a 2 * 1024 + 1 * l.val = l.val := by
  subst h
  refine ⟨?_, ?_, ?_⟩
  · show 0 * 4 + 1 * k.val = _; omega
  · show n * 256 + 1 * r.val = _; omega
  · show 0 * 1024 + 1 * l.val = _; omega

theorem block0 (c : Dev nD) (t : Fin cfg0.N) (h : t.val / 8 = 0) (k : Fin 4) (r : Fin 256) (l : Fin 1024) :
    (iblk m c 0 t : Vec Ideal S4x256x1024 .bf16) (ix3 k r l) = parts m c (ix4 0 k (layerRow t r) l) := by
  unfold iblk
  rw [View.read_apply, ← V_part0]
  show V m c main_v1 _ = _
  have e := at_parts ((index_parts t).1 h) k r l
  refine congrArg _ (funext fun a => Fin.ext ?_)
  match a with
  | ⟨0, _⟩ => exact e.1
  | ⟨1, _⟩ => exact e.2.1
  | ⟨2, _⟩ => exact e.2.2

theorem block1 (c : Dev nD) (t : Fin cfg0.N) (h : t.val / 8 = 1) (k : Fin 4) (r : Fin 256) (l : Fin 1024) :
    (iblk m c 1 t : Vec Ideal S4x256x1024 .bf16) (ix3 k r l) = parts m c (ix4 1 k (layerRow t r) l) := by
  unfold iblk
  rw [View.read_apply, ← V_part1]
  show V m c main_v3 _ = _
  have e := at_parts ((index_parts t).2.1 h) k r l
  refine congrArg _ (funext fun a => Fin.ext ?_)
  match a with
  | ⟨0, _⟩ => exact e.1
  | ⟨1, _⟩ => exact e.2.1
  | ⟨2, _⟩ => exact e.2.2

theorem block2 (c : Dev nD) (t : Fin cfg0.N) (h : t.val / 8 = 2) (k : Fin 4) (r : Fin 256) (l : Fin 1024) :
    (iblk m c 2 t : Vec Ideal S4x256x1024 .bf16) (ix3 k r l) = parts m c (ix4 2 k (layerRow t r) l) := by
  unfold iblk
  rw [View.read_apply, ← V_part2]
  show V m c main_v5 _ = _
  have e := at_parts ((index_parts t).2.2.1 h) k r l
  refine congrArg _ (funext fun a => Fin.ext ?_)
  match a with
  | ⟨0, _⟩ => exact e.1
  | ⟨1, _⟩ => exact e.2.1
  | ⟨2, _⟩ => exact e.2.2

theorem block3 (c : Dev nD) (t : Fin cfg0.N) (h : t.val / 8 = 3) (k : Fin 4) (r : Fin 256) (l : Fin 1024) :
    (iblk m c 3 t : Vec Ideal S4x256x1024 .bf16) (ix3 k r l) = parts m c (ix4 3 k (layerRow t r) l) := by
  unfold iblk
  rw [View.read_apply, ← V_part3]
  show V m c main_v7 _ = _
  have e := at_parts ((index_parts t).2.2.2 h) k r l
  refine congrArg _ (funext fun a => Fin.ext ?_)
  match a with
  | ⟨0, _⟩ => exact e.1
  | ⟨1, _⟩ => exact e.2.1
  | ⟨2, _⟩ => exact e.2.2

theorem w_block (c : Dev nD) (t : Fin cfg0.N) (r : Fin 256) (l : Fin 1024) :
    (iblk m c 4 t : Vec Ideal S256x1024 .f32) (ix2 r l) = w0 m c (ix2 (row t r) l) := by
  unfold iblk
  rw [View.read_apply]
  show V m c main_arg1 _ = _
  rw [V_main_arg1]
  have e := at_tile (index4 t) r l
  exact congrArg _ (Shape.idx_ext₂ e.1 (e.2.trans (by simp)))

theorem m_block (c : Dev nD) (t : Fin cfg0.N) (r : Fin 256) (l : Fin 1024) :
    (iblk m c 5 t : Vec Ideal S256x1024 .f32) (ix2 r l) = m0 m c (ix2 (row t r) l) := by
  unfold iblk
  rw [View.read_apply]
  show V m c main_arg2 _ = _
  rw [V_main_arg2]
  have e := at_tile (index5 t) r l
  exact congrArg _ (Shape.idx_ext₂ e.1 (e.2.trans (by simp)))

theorem v_block (c : Dev nD) (t : Fin cfg0.N) (r : Fin 256) (l : Fin 1024) :
    (iblk m c 6 t : Vec Ideal S256x1024 .f32) (ix2 r l) = v0 m c (ix2 (row t r) l) := by
  unfold iblk
  rw [View.read_apply]
  show V m c main_arg3 _ = _
  rw [V_main_arg3]
  have e := at_tile (index6 t) r l
  exact congrArg _ (Shape.idx_ext₂ e.1 (e.2.trans (by simp)))

/-- The gradient's tile at a point. -/
abbrev gradTile (c : Dev nD) (t : Fin cfg0.N) : Vec Ideal S256x1024 .f32 :=
  k0_pay6 (grid0.coords t) (iblk m c 0 t) (iblk m c 1 t) (iblk m c 2 t) (iblk m c 3 t) (iblk m c 4 t) (iblk m c 5 t) (iblk m c 6 t)

theorem grad_tile (c : Dev nD) (t : Fin cfg0.N) (r : Fin 256) (l : Fin 1024) :
    gradTile m c t (ix2 r l) = gradAt (parts m c) (row t r) l := by
  have ht : t.val < 32 := lt_of_lt_of_eq t.isLt N_0
  have e1 : (row t r).val / 2048 = t.val / 8 := by show (256 * t.val + r.val) / 2048 = _; omega
  have e2 : (⟨(row t r).val % 2048, by omega⟩ : Fin 2048) = layerRow t r := Fin.ext (by
    show (256 * t.val + r.val) % 2048 = 256 * (t.val % 8) + r.val; omega)
  unfold gradAt
  rw [e2]
  obtain h | h | h | h : t.val / 8 = 0 ∨ t.val / 8 = 1 ∨ t.val / 8 = 2 ∨ t.val / 8 = 3 := by omega
  · rw [show (⟨(row t r).val / 2048, by omega⟩ : Fin 4) = 0 from Fin.ext (e1.trans h)]
    exact (layer0 _ _ _ _ _ _ _ _ r l ((coord_layer t).trans h)).trans (Finset.sum_congr rfl fun k _ => block0 m c t h k r l)
  · rw [show (⟨(row t r).val / 2048, by omega⟩ : Fin 4) = 1 from Fin.ext (e1.trans h)]
    exact (layer1 _ _ _ _ _ _ _ _ r l ((coord_layer t).trans h)).trans (Finset.sum_congr rfl fun k _ => block1 m c t h k r l)
  · rw [show (⟨(row t r).val / 2048, by omega⟩ : Fin 4) = 2 from Fin.ext (e1.trans h)]
    exact (layer2 _ _ _ _ _ _ _ _ r l ((coord_layer t).trans h)).trans (Finset.sum_congr rfl fun k _ => block2 m c t h k r l)
  · rw [show (⟨(row t r).val / 2048, by omega⟩ : Fin 4) = 3 from Fin.ext (e1.trans h)]
    exact (layer3 _ _ _ _ _ _ _ _ r l ((coord_layer t).trans h)).trans (Finset.sum_congr rfl fun k _ => block3 m c t h k r l)

/-- The four arrays the kernel writes. -/
def G (c : Dev nD) : S8192x1024.Idx → Elt Ideal .f32 := fun i => gradAt (parts m c) (i 0) (i 1)
def D (c : Dev nD) : S8192x1024.Idx → Elt Ideal .f32 := fun i => step (gradAt (parts m c) (i 0) (i 1)) (m0 m c i) (v0 m c i) (w0 m c i)
def M (c : Dev nD) : S8192x1024.Idx → Elt Ideal .f32 := fun i => newM (gradAt (parts m c) (i 0) (i 1)) (m0 m c i)
def U (c : Dev nD) : S8192x1024.Idx → Elt Ideal .f32 := fun i => newV (gradAt (parts m c) (i 0) (i 1)) (v0 m c i)

/-- The point of an entry's tile. -/
abbrev point (i : S8192x1024.Idx) : Fin cfg0.N :=
  ⟨(i 0).val / 256, by
    have h : (i 0).val < 8192 := (i 0).isLt
    rw [show cfg0.N = 32 from N_0]; omega⟩

theorem point_tile (i : S8192x1024.Idx) : (![(point i).val, 0] : Fin 2 → ℕ) = ![(i 0).val / 256, (i 1).val / 1024] := by
  have h : (i 1).val < 1024 := (i 1).isLt
  rw [Nat.div_eq_of_lt h]

theorem final_grad (c : Dev nD) : (dats m 0 c).arrAt 7 cfg0.N = G m c :=
  (dats m 0 c).arrAt_eq_of_cover 7 (G m c) (fun t _ => by
    rw [Value.flushed7]
    unfold out0_7
    rw [View.canon_unit_zero hz]
    simp only [View.ld_unit_zero (S := S256x1024) hz]
    funext j
    rw [View.read_apply]
    obtain ⟨r, l, rfl⟩ : ∃ (r : Fin 256) (l : Fin 1024), j = ix2 r l := ⟨j 0, j 1, eq_ix2 j⟩
    have e := at_tile (index7 t) r l
    refine Eq.trans ?_ (congrArg (G m c) (Shape.idx_ext₂ (y := ix2 (row t r) l) e.1 (e.2.trans (by simp : 1024 * 0 + l.val = l.val)))).symm
    exact (grad_tile m c t r l)) fun i => by
    refine ⟨point i, flush0_7 _, ?_⟩
    show i ∈ ((View.whole main_v8_0).slice (win0_7.rect (point i))).set
    rw [View.set_slice_whole, Rect.mem_set_unit]
    exact in_tile (N := 256) (K := 1024) (by omega) (by omega) i ((index7 (point i)).trans (point_tile i))

theorem final_step (c : Dev nD) : (dats m 0 c).arrAt 8 cfg0.N = D m c :=
  (dats m 0 c).arrAt_eq_of_cover 8 (D m c) (fun t _ => by
    rw [Value.flushed8]
    unfold out0_8
    rw [View.canon_unit_zero hz]
    simp only [View.ld_unit_zero (S := S256x1024) hz]
    funext j
    rw [View.read_apply]
    obtain ⟨r, l, rfl⟩ : ∃ (r : Fin 256) (l : Fin 1024), j = ix2 r l := ⟨j 0, j 1, eq_ix2 j⟩
    have e := at_tile (index8 t) r l
    refine Eq.trans ?_ (congrArg (D m c) (Shape.idx_ext₂ (y := ix2 (row t r) l) e.1 (e.2.trans (by simp : 1024 * 0 + l.val = l.val)))).symm
    refine (tile_step (gradTile m c t) (iblk m c 5 t) (iblk m c 6 t) (iblk m c 4 t) r l).trans ?_
    rw [grad_tile, m_block, v_block, w_block]
    rfl) fun i => by
    refine ⟨point i, flush0_8 _, ?_⟩
    show i ∈ ((View.whole main_v8_1).slice (win0_8.rect (point i))).set
    rw [View.set_slice_whole, Rect.mem_set_unit]
    exact in_tile (N := 256) (K := 1024) (by omega) (by omega) i ((index8 (point i)).trans (point_tile i))

theorem final_mean (c : Dev nD) : (dats m 0 c).arrAt 9 cfg0.N = M m c :=
  (dats m 0 c).arrAt_eq_of_cover 9 (M m c) (fun t _ => by
    rw [Value.flushed9]
    unfold out0_9
    rw [View.canon_unit_zero hz]
    simp only [View.ld_unit_zero (S := S256x1024) hz]
    funext j
    rw [View.read_apply]
    obtain ⟨r, l, rfl⟩ : ∃ (r : Fin 256) (l : Fin 1024), j = ix2 r l := ⟨j 0, j 1, eq_ix2 j⟩
    have e := at_tile (index9 t) r l
    refine Eq.trans ?_ (congrArg (M m c) (Shape.idx_ext₂ (y := ix2 (row t r) l) e.1 (e.2.trans (by simp : 1024 * 0 + l.val = l.val)))).symm
    refine (tile_m (gradTile m c t) (iblk m c 5 t) r l).trans ?_
    rw [grad_tile, m_block]
    rfl) fun i => by
    refine ⟨point i, flush0_9 _, ?_⟩
    show i ∈ ((View.whole main_v8_2).slice (win0_9.rect (point i))).set
    rw [View.set_slice_whole, Rect.mem_set_unit]
    exact in_tile (N := 256) (K := 1024) (by omega) (by omega) i ((index9 (point i)).trans (point_tile i))

theorem final_square (c : Dev nD) : (dats m 0 c).arrAt 10 cfg0.N = U m c :=
  (dats m 0 c).arrAt_eq_of_cover 10 (U m c) (fun t _ => by
    rw [Value.flushed10]
    unfold out0_10
    rw [View.canon_unit_zero hz]
    simp only [View.ld_unit_zero (S := S256x1024) hz]
    funext j
    rw [View.read_apply]
    obtain ⟨r, l, rfl⟩ : ∃ (r : Fin 256) (l : Fin 1024), j = ix2 r l := ⟨j 0, j 1, eq_ix2 j⟩
    have e := at_tile (index10 t) r l
    refine Eq.trans ?_ (congrArg (U m c) (Shape.idx_ext₂ (y := ix2 (row t r) l) e.1 (e.2.trans (by simp : 1024 * 0 + l.val = l.val)))).symm
    refine (tile_v (gradTile m c t) (iblk m c 6 t) r l).trans ?_
    rw [grad_tile, v_block]
    rfl) fun i => by
    refine ⟨point i, flush0_10 _, ?_⟩
    show i ∈ ((View.whole main_v8_3).slice (win0_10.rect (point i))).set
    rw [View.set_slice_whole, Rect.mem_set_unit]
    exact in_tile (N := 256) (K := 1024) (by omega) (by omega) i ((index10 (point i)).trans (point_tile i))

theorem algebraic : Cert.algebraic_AdamIdeal_AdamRefIdeal := by
  intro m ρ m' ρ' _ hag
  refine ⟨fun c => G m c, fun c => D m c, fun c => M m c, fun c => U m c,
    (θ_run _ _ _).mono (fun _ h c => ⟨(h c).1.trans (final_grad m c), (h c).2.1.trans (final_step m c),
      (h c).2.2.1.trans (final_mean m c), (h c).2.2.2.1.trans (final_square m c), (h c).2.2.2.2⟩) (Value.run_blocks m ρ),
    (θ_run _ _ _).mono (fun _ h c => ⟨(h c).1.trans ?_, (h c).2.1.trans ?_, (h c).2.2.1.trans ?_, (h c).2.2.2.1.trans ?_,
      (h c).2.2.2.2⟩) (Cert.AdamRefIdeal.Value.run m' ρ')⟩
  · rw [Cert.AdamRefIdeal.Read.val_main_v2_eq, (hag c).1]
    funext i
    obtain ⟨r, l, rfl⟩ : ∃ (r : Fin 8192) (l : Fin 1024), i = ix2 r l := ⟨i 0, i 1, eq_ix2 i⟩
    exact ref_g _ _ _
  · rw [Cert.AdamRefIdeal.Read.val_main_v26_eq, (hag c).1, (hag c).2.1, (hag c).2.2.1, (hag c).2.2.2]
    funext i
    obtain ⟨r, l, rfl⟩ : ∃ (r : Fin 8192) (l : Fin 1024), i = ix2 r l := ⟨i 0, i 1, eq_ix2 i⟩
    exact ref_step _ _ _ _ _ _
  · rw [Cert.AdamRefIdeal.Read.val_main_v7_eq, (hag c).1, (hag c).2.2.1]
    funext i
    obtain ⟨r, l, rfl⟩ : ∃ (r : Fin 8192) (l : Fin 1024), i = ix2 r l := ⟨i 0, i 1, eq_ix2 i⟩
    exact ref_m _ _ _ _
  · rw [Cert.AdamRefIdeal.Read.val_main_v13_eq, (hag c).1, (hag c).2.2.2]
    funext i
    obtain ⟨r, l, rfl⟩ : ∃ (r : Fin 8192) (l : Fin 1024), i = ix2 r l := ⟨i 0, i 1, eq_ix2 i⟩
    exact ref_v _ _ _ _

end Cert.Proof.Adam

end
-- ==== Proof.lean ====
/-
  The claims put together: for each call the frames of its three programs, and its value (Proof/<Call>.lean).
-/
module

public import proofs.«01_k».proof.Defs
public import proofs.«01_k».proof.Pre_dpool_finite
public import proofs.«01_k».proof.Pre_att_finite
public import proofs.«01_k».proof.Pre_att_fwd_finite
public import proofs.«01_k».proof.Pre_u_finite
public import proofs.«01_k».proof.Proof.Gen.Scale.Frame
public import proofs.«01_k».proof.Proof.Gen.ScaleRefIdeal.Run
public import proofs.«01_k».proof.Proof.Scale
public import proofs.«01_k».proof.Proof.Gen.Glu.Frame
public import proofs.«01_k».proof.Proof.Gen.GluRefIdeal.Run
public import proofs.«01_k».proof.Proof.Glu
public import proofs.«01_k».proof.Proof.Gen.Loss.Frame
public import proofs.«01_k».proof.Proof.Gen.LossRefIdeal.Run
public import proofs.«01_k».proof.Proof.Loss
public import proofs.«01_k».proof.Proof.Gen.Rms.Frame
public import proofs.«01_k».proof.Proof.Gen.RmsRefIdeal.Run
public import proofs.«01_k».proof.Proof.Rms
public import proofs.«01_k».proof.Proof.Gen.Pool.Frame
public import proofs.«01_k».proof.Proof.Gen.PoolRefIdeal.Run
public import proofs.«01_k».proof.Proof.Pool
public import proofs.«01_k».proof.Proof.Gen.Conv.Frame
public import proofs.«01_k».proof.Proof.Gen.ConvRefIdeal.Run
public import proofs.«01_k».proof.Proof.Conv
public import proofs.«01_k».proof.Proof.Gen.Mlp.Frame
public import proofs.«01_k».proof.Proof.Gen.MlpRefIdeal.Run
public import proofs.«01_k».proof.Proof.Mlp
public import proofs.«01_k».proof.Proof.Att.Frame
public import proofs.«01_k».proof.Proof.AttIdeal.Frame
public import proofs.«01_k».proof.Proof.Gen.AttRefIdeal.Run
public import proofs.«01_k».proof.Proof.Att
public import proofs.«01_k».proof.Proof.Gen.AttFwd.Frame
public import proofs.«01_k».proof.Proof.Gen.AttFwdRefIdeal.Run
public import proofs.«01_k».proof.Proof.AttFwd
public import proofs.«01_k».proof.Proof.Gen.GluFwd.Frame
public import proofs.«01_k».proof.Proof.Gen.GluFwdRefIdeal.Run
public import proofs.«01_k».proof.Proof.GluFwd
public import proofs.«01_k».proof.Proof.Gen.RmsFwd.Frame
public import proofs.«01_k».proof.Proof.Gen.RmsFwdRefIdeal.Run
public import proofs.«01_k».proof.Proof.RmsFwd
public import proofs.«01_k».proof.Proof.Gen.ConvFwd.Frame
public import proofs.«01_k».proof.Proof.Gen.ConvFwdRefIdeal.Run
public import proofs.«01_k».proof.Proof.ConvFwd
public import proofs.«01_k».proof.Proof.Gen.MlpUp.Frame
public import proofs.«01_k».proof.Proof.Gen.MlpUpRefIdeal.Run
public import proofs.«01_k».proof.Proof.MlpUp
public import proofs.«01_k».proof.Proof.Gen.PoolMix.Frame
public import proofs.«01_k».proof.Proof.Gen.PoolMixRefIdeal.Run
public import proofs.«01_k».proof.Proof.PoolMix
public import proofs.«01_k».proof.Proof.Gen.AttOut.Frame
public import proofs.«01_k».proof.Proof.Gen.AttOutRefIdeal.Run
public import proofs.«01_k».proof.Proof.AttOut
public import proofs.«01_k».proof.Proof.Gen.MlpDown.Frame
public import proofs.«01_k».proof.Proof.Gen.MlpDownRefIdeal.Run
public import proofs.«01_k».proof.Proof.MlpDown
public import proofs.«01_k».proof.Proof.Gen.PoolFwd.Frame
public import proofs.«01_k».proof.Proof.Gen.PoolFwdRefIdeal.Run
public import proofs.«01_k».proof.Proof.PoolFwd
public import proofs.«01_k».proof.Proof.Gen.MlpBack.Frame
public import proofs.«01_k».proof.Proof.Gen.MlpBackRefIdeal.Run
public import proofs.«01_k».proof.Proof.MlpBack
public import proofs.«01_k».proof.Proof.Gen.MlpDw.Frame
public import proofs.«01_k».proof.Proof.Gen.MlpDwRefIdeal.Run
public import proofs.«01_k».proof.Proof.MlpDw
public import proofs.«01_k».proof.Proof.Gen.Adam.Frame
public import proofs.«01_k».proof.Proof.Gen.AdamRefIdeal.Run
public import proofs.«01_k».proof.Proof.Adam

@[expose] public section

noncomputable section

namespace Cert.Proof

open Idealize.ShloMosaic Idealize.SL.Sem

/-- The side conditions of the precondition's operations. -/
theorem pre_dpool_finite : Cert.Pre_dpool_finite.Facts := by constructor <;> decide

/-- The side conditions of the precondition's operations. -/
theorem pre_att_finite : Cert.Pre_att_finite.Facts := by constructor <;> decide

/-- The side conditions of the precondition's operations. -/
theorem pre_att_fwd_finite : Cert.Pre_att_fwd_finite.Facts := by constructor <;> decide

/-- The side conditions of the precondition's operations. -/
theorem pre_u_finite : Cert.Pre_u_finite.Facts := by constructor <;> decide

/-- Every program runs to its end without fault, keeps its arguments and leaves its semaphores at zero; each ideal kernel
    is the kernel over the extended reals; each ideal kernel computes what its reference computes. -/
theorem claim : Cert.Claim := ⟨Cert.Scale.Gen.facts, Cert.ScaleIdeal.Gen.facts, Cert.ScaleRefIdeal.Gen.facts, Cert.Glu.Gen.facts, Cert.GluIdeal.Gen.facts, Cert.GluRefIdeal.Gen.facts, Cert.Loss.Gen.facts, Cert.LossIdeal.Gen.facts, Cert.LossRefIdeal.Gen.facts, Cert.Rms.Gen.facts, Cert.RmsIdeal.Gen.facts, Cert.RmsRefIdeal.Gen.facts, Cert.Pool.Gen.facts, Cert.PoolIdeal.Gen.facts, Cert.PoolRefIdeal.Gen.facts, Cert.Conv.Gen.facts, Cert.ConvIdeal.Gen.facts, Cert.ConvRefIdeal.Gen.facts, Cert.Mlp.Gen.facts, Cert.MlpIdeal.Gen.facts, Cert.MlpRefIdeal.Gen.facts, Cert.Att.Gen.facts, Cert.AttIdeal.Gen.facts, Cert.AttRefIdeal.Gen.facts, Cert.AttFwd.Gen.facts, Cert.AttFwdIdeal.Gen.facts, Cert.AttFwdRefIdeal.Gen.facts, Cert.GluFwd.Gen.facts, Cert.GluFwdIdeal.Gen.facts, Cert.GluFwdRefIdeal.Gen.facts, Cert.RmsFwd.Gen.facts, Cert.RmsFwdIdeal.Gen.facts, Cert.RmsFwdRefIdeal.Gen.facts, Cert.ConvFwd.Gen.facts, Cert.ConvFwdIdeal.Gen.facts, Cert.ConvFwdRefIdeal.Gen.facts, Cert.MlpUp.Gen.facts, Cert.MlpUpIdeal.Gen.facts, Cert.MlpUpRefIdeal.Gen.facts, Cert.PoolMix.Gen.facts, Cert.PoolMixIdeal.Gen.facts, Cert.PoolMixRefIdeal.Gen.facts, Cert.AttOut.Gen.facts, Cert.AttOutIdeal.Gen.facts, Cert.AttOutRefIdeal.Gen.facts, Cert.MlpDown.Gen.facts, Cert.MlpDownIdeal.Gen.facts, Cert.MlpDownRefIdeal.Gen.facts, Cert.PoolFwd.Gen.facts, Cert.PoolFwdIdeal.Gen.facts, Cert.PoolFwdRefIdeal.Gen.facts, Cert.MlpBack.Gen.facts, Cert.MlpBackIdeal.Gen.facts, Cert.MlpBackRefIdeal.Gen.facts, Cert.MlpDw.Gen.facts, Cert.MlpDwIdeal.Gen.facts, Cert.MlpDwRefIdeal.Gen.facts, Cert.Adam.Gen.facts, Cert.AdamIdeal.Gen.facts, Cert.AdamRefIdeal.Gen.facts, pre_dpool_finite, pre_att_finite, pre_att_fwd_finite, pre_u_finite,
  fun m ρ _ => Cert.Scale.Gen.frame m ρ, fun m ρ _ => Cert.ScaleIdeal.Gen.frame m ρ, fun m ρ _ =>
    (θ_run _ _ _).mono (fun r h => ⟨fun c => (h c).2.2, sem_eq_zero_of_no_sems (by decide) r.2⟩) (Cert.ScaleRefIdeal.Value.run m ρ),
  fun m ρ _ => Cert.Glu.Gen.frame m ρ, fun m ρ _ => Cert.GluIdeal.Gen.frame m ρ, fun m ρ _ =>
    (θ_run _ _ _).mono (fun r h => ⟨fun c => (h c).2.2, sem_eq_zero_of_no_sems (by decide) r.2⟩) (Cert.GluRefIdeal.Value.run m ρ),
  fun m ρ _ => Cert.Loss.Gen.frame m ρ, fun m ρ _ => Cert.LossIdeal.Gen.frame m ρ, fun m ρ _ =>
    (θ_run _ _ _).mono (fun r h => ⟨fun c => (h c).2.2.2, sem_eq_zero_of_no_sems (by decide) r.2⟩) (Cert.LossRefIdeal.Value.run m ρ),
  fun m ρ _ => Cert.Rms.Gen.frame m ρ, fun m ρ _ => Cert.RmsIdeal.Gen.frame m ρ, fun m ρ _ =>
    (θ_run _ _ _).mono (fun r h => ⟨fun c => (h c).2.2.2, sem_eq_zero_of_no_sems (by decide) r.2⟩) (Cert.RmsRefIdeal.Value.run m ρ),
  fun m ρ _ => Cert.Pool.Gen.frame m ρ, fun m ρ _ => Cert.PoolIdeal.Gen.frame m ρ, fun m ρ _ => Cert.PoolIdeal.Gen.frame m ρ, fun m ρ _ =>
    (θ_run _ _ _).mono (fun r h => ⟨fun c => (h c).2, sem_eq_zero_of_no_sems (by decide) r.2⟩) (Cert.PoolRefIdeal.Value.run m ρ), fun m ρ _ =>
    (θ_run _ _ _).mono (fun r h => ⟨fun c => (h c).2, sem_eq_zero_of_no_sems (by decide) r.2⟩) (Cert.PoolRefIdeal.Value.run m ρ),
  fun m ρ _ => Cert.Conv.Gen.frame m ρ, fun m ρ _ => Cert.ConvIdeal.Gen.frame m ρ, fun m ρ _ =>
    (θ_run _ _ _).mono (fun r h => ⟨fun c => (h c).2.2.2.2, sem_eq_zero_of_no_sems (by decide) r.2⟩) (Cert.ConvRefIdeal.Value.run m ρ),
  fun m ρ _ => Cert.Mlp.Gen.frame m ρ, fun m ρ _ => Cert.MlpIdeal.Gen.frame m ρ, fun m ρ _ =>
    (θ_run _ _ _).mono (fun r h => ⟨fun c => (h c).2, sem_eq_zero_of_no_sems (by decide) r.2⟩) (Cert.MlpRefIdeal.Value.run m ρ),
  fun m ρ _ => Cert.Att.Run.frame m ρ, fun m ρ _ => Cert.AttIdeal.Run.frame m ρ, fun m ρ _ => Cert.AttIdeal.Run.frame m ρ, fun m ρ _ =>
    (θ_run _ _ _).mono (fun r h => ⟨fun c => (h c).2.2.2.2.2.2, sem_eq_zero_of_no_sems (by decide) r.2⟩) (Cert.AttRefIdeal.Value.run m ρ), fun m ρ _ =>
    (θ_run _ _ _).mono (fun r h => ⟨fun c => (h c).2.2.2.2.2.2, sem_eq_zero_of_no_sems (by decide) r.2⟩) (Cert.AttRefIdeal.Value.run m ρ),
  fun m ρ _ => Cert.AttFwd.Gen.frame m ρ, fun m ρ _ => Cert.AttFwdIdeal.Gen.frame m ρ, fun m ρ _ => Cert.AttFwdIdeal.Gen.frame m ρ, fun m ρ _ =>
    (θ_run _ _ _).mono (fun r h => ⟨fun c => (h c).2, sem_eq_zero_of_no_sems (by decide) r.2⟩) (Cert.AttFwdRefIdeal.Value.run m ρ), fun m ρ _ =>
    (θ_run _ _ _).mono (fun r h => ⟨fun c => (h c).2, sem_eq_zero_of_no_sems (by decide) r.2⟩) (Cert.AttFwdRefIdeal.Value.run m ρ),
  fun m ρ _ => Cert.GluFwd.Gen.frame m ρ, fun m ρ _ => Cert.GluFwdIdeal.Gen.frame m ρ, fun m ρ _ =>
    (θ_run _ _ _).mono (fun r h => ⟨fun c => (h c).2, sem_eq_zero_of_no_sems (by decide) r.2⟩) (Cert.GluFwdRefIdeal.Value.run m ρ),
  fun m ρ _ => Cert.RmsFwd.Gen.frame m ρ, fun m ρ _ => Cert.RmsFwdIdeal.Gen.frame m ρ, fun m ρ _ =>
    (θ_run _ _ _).mono (fun r h => ⟨fun c => (h c).2.2, sem_eq_zero_of_no_sems (by decide) r.2⟩) (Cert.RmsFwdRefIdeal.Value.run m ρ),
  fun m ρ _ => Cert.ConvFwd.Gen.frame m ρ, fun m ρ _ => Cert.ConvFwdIdeal.Gen.frame m ρ, fun m ρ _ =>
    (θ_run _ _ _).mono (fun r h => ⟨fun c => (h c).2, sem_eq_zero_of_no_sems (by decide) r.2⟩) (Cert.ConvFwdRefIdeal.Value.run m ρ),
  fun m ρ _ => Cert.MlpUp.Gen.frame m ρ, fun m ρ _ => Cert.MlpUpIdeal.Gen.frame m ρ, fun m ρ _ =>
    (θ_run _ _ _).mono (fun r h => ⟨fun c => (h c).2.2, sem_eq_zero_of_no_sems (by decide) r.2⟩) (Cert.MlpUpRefIdeal.Value.run m ρ),
  fun m ρ _ => Cert.PoolMix.Gen.frame m ρ, fun m ρ _ => Cert.PoolMixIdeal.Gen.frame m ρ, fun m ρ _ =>
    (θ_run _ _ _).mono (fun r h => ⟨fun c => (h c).2.2, sem_eq_zero_of_no_sems (by decide) r.2⟩) (Cert.PoolMixRefIdeal.Value.run m ρ),
  fun m ρ _ => Cert.AttOut.Gen.frame m ρ, fun m ρ _ => Cert.AttOutIdeal.Gen.frame m ρ, fun m ρ _ =>
    (θ_run _ _ _).mono (fun r h => ⟨fun c => (h c).2, sem_eq_zero_of_no_sems (by decide) r.2⟩) (Cert.AttOutRefIdeal.Value.run m ρ),
  fun m ρ _ => Cert.MlpDown.Gen.frame m ρ, fun m ρ _ => Cert.MlpDownIdeal.Gen.frame m ρ, fun m ρ _ =>
    (θ_run _ _ _).mono (fun r h => ⟨fun c => (h c).2, sem_eq_zero_of_no_sems (by decide) r.2⟩) (Cert.MlpDownRefIdeal.Value.run m ρ),
  fun m ρ _ => Cert.PoolFwd.Gen.frame m ρ, fun m ρ _ => Cert.PoolFwdIdeal.Gen.frame m ρ, fun m ρ _ => Cert.PoolFwdIdeal.Gen.frame m ρ, fun m ρ _ =>
    (θ_run _ _ _).mono (fun r h => ⟨fun c => (h c).2, sem_eq_zero_of_no_sems (by decide) r.2⟩) (Cert.PoolFwdRefIdeal.Value.run m ρ), fun m ρ _ =>
    (θ_run _ _ _).mono (fun r h => ⟨fun c => (h c).2, sem_eq_zero_of_no_sems (by decide) r.2⟩) (Cert.PoolFwdRefIdeal.Value.run m ρ),
  fun m ρ _ => Cert.MlpBack.Gen.frame m ρ, fun m ρ _ => Cert.MlpBackIdeal.Gen.frame m ρ, fun m ρ _ =>
    (θ_run _ _ _).mono (fun r h => ⟨fun c => (h c).2, sem_eq_zero_of_no_sems (by decide) r.2⟩) (Cert.MlpBackRefIdeal.Value.run m ρ),
  fun m ρ _ => Cert.MlpDw.Gen.frame m ρ, fun m ρ _ => Cert.MlpDwIdeal.Gen.frame m ρ, fun m ρ _ =>
    (θ_run _ _ _).mono (fun r h => ⟨fun c => (h c).2, sem_eq_zero_of_no_sems (by decide) r.2⟩) (Cert.MlpDwRefIdeal.Value.run m ρ),
  fun m ρ _ => Cert.Adam.Gen.frame m ρ, fun m ρ _ => Cert.AdamIdeal.Gen.frame m ρ, fun m ρ _ =>
    (θ_run _ _ _).mono (fun r h => ⟨fun c => (h c).2.2.2.2, sem_eq_zero_of_no_sems (by decide) r.2⟩) (Cert.AdamRefIdeal.Value.run m ρ),
  trivial, Cert.Proof.Scale.algebraic,
  trivial, Cert.Proof.Glu.algebraic,
  trivial, Cert.Proof.Loss.algebraic,
  trivial, Cert.Proof.Rms.algebraic,
  trivial, haveI := pre_dpool_finite; Cert.Proof.Pool.algebraic,
  trivial, Cert.Proof.Conv.algebraic,
  trivial, Cert.Proof.Mlp.algebraic,
  IdealRules.named_const.statement Cert.AttIdeal.κ "mask" .f32 0xF149F2CA#32 ⊥ rfl, haveI := pre_att_finite; Cert.Proof.Att.algebraic,
  IdealRules.named_const.statement Cert.AttFwdIdeal.κ "mask" .f32 0xF149F2CA#32 ⊥ rfl, haveI := pre_att_fwd_finite; Cert.Proof.Att.Fwd.algebraic,
  trivial, Cert.Proof.GluFwd.algebraic,
  trivial, Cert.Proof.RmsFwd.algebraic,
  trivial, Cert.Proof.ConvFwd.algebraic,
  trivial, Cert.Proof.MlpUp.algebraic,
  trivial, Cert.Proof.PoolMix.algebraic,
  trivial, Cert.Proof.AttOut.algebraic,
  trivial, Cert.Proof.MlpDown.algebraic,
  trivial, haveI := pre_u_finite; Cert.Proof.PoolFwd.algebraic,
  trivial, Cert.Proof.MlpBack.algebraic,
  trivial, Cert.Proof.MlpDw.algebraic,
  trivial, Cert.Proof.Adam.algebraic⟩

end Cert.Proof

end
